-- ==== Defs.lean ====
def Pre_Reduce (m : (ℓ : Loc Cert.Reduce.nD Cert.Reduce.τ Cert.Reduce.sig) → Buf (Elt Bits) ℓ) : Prop :=
  True

def Pre_ReduceIdeal (m : (ℓ : Loc Cert.ReduceIdeal.nD Cert.ReduceIdeal.τ Cert.ReduceIdeal.sig) → Buf (Elt Ideal) ℓ) : Prop :=
  True

def Pre_ReduceRefIdeal (m : (ℓ : Loc Cert.ReduceRefIdeal.nD Cert.ReduceRefIdeal.τ Cert.ReduceRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_FwdProj (m : (ℓ : Loc Cert.FwdProj.nD Cert.FwdProj.τ Cert.FwdProj.sig) → Buf (Elt Bits) ℓ) : Prop :=
  True

def Pre_FwdProjIdeal (m : (ℓ : Loc Cert.FwdProjIdeal.nD Cert.FwdProjIdeal.τ Cert.FwdProjIdeal.sig) → Buf (Elt Ideal) ℓ) : Prop :=
  True

def Pre_FwdProjRefIdeal (m : (ℓ : Loc Cert.FwdProjRefIdeal.nD Cert.FwdProjRefIdeal.τ Cert.FwdProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwKv (m : (ℓ : Loc Cert.AdamwKv.nD Cert.AdamwKv.τ Cert.AdamwKv.sig) → Buf (Elt Bits) ℓ) : Prop :=
  True

def Pre_AdamwKvIdeal (m : (ℓ : Loc Cert.AdamwKvIdeal.nD Cert.AdamwKvIdeal.τ Cert.AdamwKvIdeal.sig) → Buf (Elt Ideal) ℓ) : Prop :=
  True

def Pre_AdamwKvRefIdeal (m : (ℓ : Loc Cert.AdamwKvRefIdeal.nD Cert.AdamwKvRefIdeal.τ Cert.AdamwKvRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def quiescent_Reduce [hReduce : Cert.Reduce.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0)
      ∧ r.2.mem ((c.tc : Thread Cert.Reduce.nD Cert.Reduce.τ).loc Cert.Reduce.main_arg1) = m ((c.tc : Thread Cert.Reduce.nD Cert.Reduce.τ).loc Cert.Reduce.main_arg1)
      ∧ r.2.mem ((c.tc : Thread Cert.Reduce.nD Cert.Reduce.τ).loc Cert.Reduce.main_arg2) = m ((c.tc : Thread Cert.Reduce.nD Cert.Reduce.τ).loc Cert.Reduce.main_arg2)
      ∧ r.2.mem ((c.tc : Thread Cert.Reduce.nD Cert.Reduce.τ).loc Cert.Reduce.main_arg3) = m ((c.tc : Thread Cert.Reduce.nD Cert.Reduce.τ).loc Cert.Reduce.main_arg3))
      ∧ r.2.sem = fun _ => 0)

def quiescent_ReduceIdeal [hReduceIdeal : Cert.ReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
      ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
      ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3))
      ∧ r.2.sem = fun _ => 0)

def quiescent_ReduceRefIdeal [hReduceRefIdeal : Cert.ReduceRefIdeal.Facts] : Prop :=
  ∀ (m : (ℓ : Loc Cert.ReduceRefIdeal.nD Cert.ReduceRefIdeal.τ Cert.ReduceRefIdeal.sig) → Buf (Elt Ideal) ℓ) (g : Dev Cert.ReduceRefIdeal.nD → PrngReg), Pre_ReduceRefIdeal m →
    θ_run (Cert.ReduceRefIdeal.defs (F := Ideal)) (onTc (τ := Cert.ReduceRefIdeal.τ) (Cert.ReduceRefIdeal.main (F := Ideal))) ⟨m, fun _ => 0, g⟩ (fun r => (∀ c : Dev Cert.ReduceRefIdeal.nD,
      r.2.mem ((c.tc : Thread Cert.ReduceRefIdeal.nD Cert.ReduceRefIdeal.τ).loc Cert.ReduceRefIdeal.main_arg0) = m ((c.tc : Thread Cert.ReduceRefIdeal.nD Cert.ReduceRefIdeal.τ).loc Cert.ReduceRefIdeal.main_arg0)
      ∧ r.2.mem ((c.tc : Thread Cert.ReduceRefIdeal.nD Cert.ReduceRefIdeal.τ).loc Cert.ReduceRefIdeal.main_arg1) = m ((c.tc : Thread Cert.ReduceRefIdeal.nD Cert.ReduceRefIdeal.τ).loc Cert.ReduceRefIdeal.main_arg1)
      ∧ r.2.mem ((c.tc : Thread Cert.ReduceRefIdeal.nD Cert.ReduceRefIdeal.τ).loc Cert.ReduceRefIdeal.main_arg2) = m ((c.tc : Thread Cert.ReduceRefIdeal.nD Cert.ReduceRefIdeal.τ).loc Cert.ReduceRefIdeal.main_arg2)
      ∧ r.2.mem ((c.tc : Thread Cert.ReduceRefIdeal.nD Cert.ReduceRefIdeal.τ).loc Cert.ReduceRefIdeal.main_arg3) = m ((c.tc : Thread Cert.ReduceRefIdeal.nD Cert.ReduceRefIdeal.τ).loc Cert.ReduceRefIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2))
      ∧ r.2.sem = fun _ => 0)

def quiescent_FwdProj [hFwdProj : Cert.FwdProj.Facts] : Prop :=
  ∀ (m : (ℓ : Loc Cert.FwdProj.nD Cert.FwdProj.τ Cert.FwdProj.sig) → Buf (Elt Bits) ℓ) (g : Dev Cert.FwdProj.nD → PrngReg), Pre_FwdProj m →
    θ_run (Cert.FwdProj.defs (F := Bits)) (onTc (τ := Cert.FwdProj.τ) (Cert.FwdProj.main (F := Bits))) ⟨m, fun _ => 0, g⟩ (fun r => (∀ c : Dev Cert.FwdProj.nD,
      r.2.mem ((c.tc : Thread Cert.FwdProj.nD Cert.FwdProj.τ).loc Cert.FwdProj.main_arg0) = m ((c.tc : Thread Cert.FwdProj.nD Cert.FwdProj.τ).loc Cert.FwdProj.main_arg0)
      ∧ r.2.mem ((c.tc : Thread Cert.FwdProj.nD Cert.FwdProj.τ).loc Cert.FwdProj.main_arg1) = m ((c.tc : Thread Cert.FwdProj.nD Cert.FwdProj.τ).loc Cert.FwdProj.main_arg1)
      ∧ r.2.mem ((c.tc : Thread Cert.FwdProj.nD Cert.FwdProj.τ).loc Cert.FwdProj.main_arg2) = m ((c.tc : Thread Cert.FwdProj.nD Cert.FwdProj.τ).loc Cert.FwdProj.main_arg2))
      ∧ r.2.sem = fun _ => 0)

def quiescent_FwdProjIdeal [hFwdProjIdeal : Cert.FwdProjIdeal.Facts] : Prop :=
  ∀ (m : (ℓ : Loc Cert.FwdProjIdeal.nD Cert.FwdProjIdeal.τ Cert.FwdProjIdeal.sig) → Buf (Elt Ideal) ℓ) (g : Dev Cert.FwdProjIdeal.nD → PrngReg), Pre_FwdProjIdeal m →
    θ_run (Cert.FwdProjIdeal.defs (F := Ideal)) (onTc (τ := Cert.FwdProjIdeal.τ) (Cert.FwdProjIdeal.main (F := Ideal))) ⟨m, fun _ => 0, g⟩ (fun r => (∀ c : Dev Cert.FwdProjIdeal.nD,
      r.2.mem ((c.tc : Thread Cert.FwdProjIdeal.nD Cert.FwdProjIdeal.τ).loc Cert.FwdProjIdeal.main_arg0) = m ((c.tc : Thread Cert.FwdProjIdeal.nD Cert.FwdProjIdeal.τ).loc Cert.FwdProjIdeal.main_arg0)
      ∧ r.2.mem ((c.tc : Thread Cert.FwdProjIdeal.nD Cert.FwdProjIdeal.τ).loc Cert.FwdProjIdeal.main_arg1) = m ((c.tc : Thread Cert.FwdProjIdeal.nD Cert.FwdProjIdeal.τ).loc Cert.FwdProjIdeal.main_arg1)
      ∧ r.2.mem ((c.tc : Thread Cert.FwdProjIdeal.nD Cert.FwdProjIdeal.τ).loc Cert.FwdProjIdeal.main_arg2) = m ((c.tc : Thread Cert.FwdProjIdeal.nD Cert.FwdProjIdeal.τ).loc Cert.FwdProjIdeal.main_arg2))
      ∧ r.2.sem = fun _ => 0)

def quiescent_FwdProjRefIdeal [hFwdProjRefIdeal : Cert.FwdProjRefIdeal.Facts] : Prop :=
  ∀ (m : (ℓ : Loc Cert.FwdProjRefIdeal.nD Cert.FwdProjRefIdeal.τ Cert.FwdProjRefIdeal.sig) → Buf (Elt Ideal) ℓ) (g : Dev Cert.FwdProjRefIdeal.nD → PrngReg), Pre_FwdProjRefIdeal m →
    θ_run (Cert.FwdProjRefIdeal.defs (F := Ideal)) (onTc (τ := Cert.FwdProjRefIdeal.τ) (Cert.FwdProjRefIdeal.main (F := Ideal))) ⟨m, fun _ => 0, g⟩ (fun r => (∀ c : Dev Cert.FwdProjRefIdeal.nD,
      r.2.mem ((c.tc : Thread Cert.FwdProjRefIdeal.nD Cert.FwdProjRefIdeal.τ).loc Cert.FwdProjRefIdeal.main_arg0) = m ((c.tc : Thread Cert.FwdProjRefIdeal.nD Cert.FwdProjRefIdeal.τ).loc Cert.FwdProjRefIdeal.main_arg0)
      ∧ r.2.mem ((c.tc : Thread Cert.FwdProjRefIdeal.nD Cert.FwdProjRefIdeal.τ).loc Cert.FwdProjRefIdeal.main_arg1) = m ((c.tc : Thread Cert.FwdProjRefIdeal.nD Cert.FwdProjRefIdeal.τ).loc Cert.FwdProjRefIdeal.main_arg1)
      ∧ r.2.mem ((c.tc : Thread Cert.FwdProjRefIdeal.nD Cert.FwdProjRefIdeal.τ).loc Cert.FwdProjRefIdeal.main_arg2) = m ((c.tc : Thread Cert.FwdProjRefIdeal.nD Cert.FwdProjRefIdeal.τ).loc Cert.FwdProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9)
      ∧ r.2.mem ((c.tc : Thread Cert.ProjBwd.nD Cert.ProjBwd.τ).loc Cert.ProjBwd.main_arg10) = m ((c.tc : Thread Cert.ProjBwd.nD Cert.ProjBwd.τ).loc Cert.ProjBwd.main_arg10))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6)
      ∧ r.2.mem ((c.tc : Thread Cert.ProjBwdRefIdeal.nD Cert.ProjBwdRefIdeal.τ).loc Cert.ProjBwdRefIdeal.main_arg7) = m ((c.tc : Thread Cert.ProjBwdRefIdeal.nD Cert.ProjBwdRefIdeal.τ).loc Cert.ProjBwdRefIdeal.main_arg7)
      ∧ r.2.mem ((c.tc : Thread Cert.ProjBwdRefIdeal.nD Cert.ProjBwdRefIdeal.τ).loc Cert.ProjBwdRefIdeal.main_arg8) = m ((c.tc : Thread Cert.ProjBwdRefIdeal.nD Cert.ProjBwdRefIdeal.τ).loc Cert.ProjBwdRefIdeal.main_arg8)
      ∧ r.2.mem ((c.tc : Thread Cert.ProjBwdRefIdeal.nD Cert.ProjBwdRefIdeal.τ).loc Cert.ProjBwdRefIdeal.main_arg9) = m ((c.tc : Thread Cert.ProjBwdRefIdeal.nD Cert.ProjBwdRefIdeal.τ).loc Cert.ProjBwdRefIdeal.main_arg9)
      ∧ r.2.mem ((c.tc : Thread Cert.ProjBwdRefIdeal.nD Cert.ProjBwdRefIdeal.τ).loc Cert.ProjBwdRefIdeal.main_arg10) = m ((c.tc : Thread Cert.ProjBwdRefIdeal.nD Cert.ProjBwdRefIdeal.τ).loc Cert.ProjBwdRefIdeal.main_arg10))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwKv [hAdamwKv : Cert.AdamwKv.Facts] : Prop :=
  ∀ (m : (ℓ : Loc Cert.AdamwKv.nD Cert.AdamwKv.τ Cert.AdamwKv.sig) → Buf (Elt Bits) ℓ) (g : Dev Cert.AdamwKv.nD → PrngReg), Pre_AdamwKv m →
    θ_run (Cert.AdamwKv.defs (F := Bits)) (onTc (τ := Cert.AdamwKv.τ) (Cert.AdamwKv.main (F := Bits))) ⟨m, fun _ => 0, g⟩ (fun r => (∀ c : Dev Cert.AdamwKv.nD,
      r.2.mem ((c.tc : Thread Cert.AdamwKv.nD Cert.AdamwKv.τ).loc Cert.AdamwKv.main_arg0) = m ((c.tc : Thread Cert.AdamwKv.nD Cert.AdamwKv.τ).loc Cert.AdamwKv.main_arg0)
      ∧ r.2.mem ((c.tc : Thread Cert.AdamwKv.nD Cert.AdamwKv.τ).loc Cert.AdamwKv.main_arg1) = m ((c.tc : Thread Cert.AdamwKv.nD Cert.AdamwKv.τ).loc Cert.AdamwKv.main_arg1)
      ∧ r.2.mem ((c.tc : Thread Cert.AdamwKv.nD Cert.AdamwKv.τ).loc Cert.AdamwKv.main_arg2) = m ((c.tc : Thread Cert.AdamwKv.nD Cert.AdamwKv.τ).loc Cert.AdamwKv.main_arg2)
      ∧ r.2.mem ((c.tc : Thread Cert.AdamwKv.nD Cert.AdamwKv.τ).loc Cert.AdamwKv.main_arg3) = m ((c.tc : Thread Cert.AdamwKv.nD Cert.AdamwKv.τ).loc Cert.AdamwKv.main_arg3))
      ∧ r.2.sem = fun _ => 0)

def quiescent_AdamwKvIdeal [hAdamwKvIdeal : Cert.AdamwKvIdeal.Facts] : Prop :=
  ∀ (m : (ℓ : Loc Cert.AdamwKvIdeal.nD Cert.AdamwKvIdeal.τ Cert.AdamwKvIdeal.sig) → Buf (Elt Ideal) ℓ) (g : Dev Cert.AdamwKvIdeal.nD → PrngReg), Pre_AdamwKvIdeal m →
    θ_run (Cert.AdamwKvIdeal.defs (F := Ideal)) (onTc (τ := Cert.AdamwKvIdeal.τ) (Cert.AdamwKvIdeal.main (F := Ideal))) ⟨m, fun _ => 0, g⟩ (fun r => (∀ c : Dev Cert.AdamwKvIdeal.nD,
      r.2.mem ((c.tc : Thread Cert.AdamwKvIdeal.nD Cert.AdamwKvIdeal.τ).loc Cert.AdamwKvIdeal.main_arg0) = m ((c.tc : Thread Cert.AdamwKvIdeal.nD Cert.AdamwKvIdeal.τ).loc Cert.AdamwKvIdeal.main_arg0)
      ∧ r.2.mem ((c.tc : Thread Cert.AdamwKvIdeal.nD Cert.AdamwKvIdeal.τ).loc Cert.AdamwKvIdeal.main_arg1) = m ((c.tc : Thread Cert.AdamwKvIdeal.nD Cert.AdamwKvIdeal.τ).loc Cert.AdamwKvIdeal.main_arg1)
      ∧ r.2.mem ((c.tc : Thread Cert.AdamwKvIdeal.nD Cert.AdamwKvIdeal.τ).loc Cert.AdamwKvIdeal.main_arg2) = m ((c.tc : Thread Cert.AdamwKvIdeal.nD Cert.AdamwKvIdeal.τ).loc Cert.AdamwKvIdeal.main_arg2)
      ∧ r.2.mem ((c.tc : Thread Cert.AdamwKvIdeal.nD Cert.AdamwKvIdeal.τ).loc Cert.AdamwKvIdeal.main_arg3) = m ((c.tc : Thread Cert.AdamwKvIdeal.nD Cert.AdamwKvIdeal.τ).loc Cert.AdamwKvIdeal.main_arg3))
      ∧ r.2.sem = fun _ => 0)

def quiescent_AdamwKvRefIdeal [hAdamwKvRefIdeal : Cert.AdamwKvRefIdeal.Facts] : Prop :=
  ∀ (m : (ℓ : Loc Cert.AdamwKvRefIdeal.nD Cert.AdamwKvRefIdeal.τ Cert.AdamwKvRefIdeal.sig) → Buf (Elt Ideal) ℓ) (g : Dev Cert.AdamwKvRefIdeal.nD → PrngReg), Pre_AdamwKvRefIdeal m →
    θ_run (Cert.AdamwKvRefIdeal.defs (F := Ideal)) (onTc (τ := Cert.AdamwKvRefIdeal.τ) (Cert.AdamwKvRefIdeal.main (F := Ideal))) ⟨m, fun _ => 0, g⟩ (fun r => (∀ c : Dev Cert.AdamwKvRefIdeal.nD,
      r.2.mem ((c.tc : Thread Cert.AdamwKvRefIdeal.nD Cert.AdamwKvRefIdeal.τ).loc Cert.AdamwKvRefIdeal.main_arg0) = m ((c.tc : Thread Cert.AdamwKvRefIdeal.nD Cert.AdamwKvRefIdeal.τ).loc Cert.AdamwKvRefIdeal.main_arg0)
      ∧ r.2.mem ((c.tc : Thread Cert.AdamwKvRefIdeal.nD Cert.AdamwKvRefIdeal.τ).loc Cert.AdamwKvRefIdeal.main_arg1) = m ((c.tc : Thread Cert.AdamwKvRefIdeal.nD Cert.AdamwKvRefIdeal.τ).loc Cert.AdamwKvRefIdeal.main_arg1)
      ∧ r.2.mem ((c.tc : Thread Cert.AdamwKvRefIdeal.nD Cert.AdamwKvRefIdeal.τ).loc Cert.AdamwKvRefIdeal.main_arg2) = m ((c.tc : Thread Cert.AdamwKvRefIdeal.nD Cert.AdamwKvRefIdeal.τ).loc Cert.AdamwKvRefIdeal.main_arg2)
      ∧ r.2.mem ((c.tc : Thread Cert.AdamwKvRefIdeal.nD Cert.AdamwKvRefIdeal.τ).loc Cert.AdamwKvRefIdeal.main_arg3) = m ((c.tc : Thread Cert.AdamwKvRefIdeal.nD Cert.AdamwKvRefIdeal.τ).loc Cert.AdamwKvRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def preserves_Reduce_ReduceIdeal : Prop :=
  True

def algebraic_ReduceIdeal_ReduceRefIdeal [hReduceIdeal : Cert.ReduceIdeal.Facts] [hReduceRefIdeal : Cert.ReduceRefIdeal.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.ReduceRefIdeal.nD Cert.ReduceRefIdeal.τ Cert.ReduceRefIdeal.sig) → Buf (Elt Ideal) ℓ) (g' : Dev Cert.ReduceRefIdeal.nD → PrngReg), Pre_ReduceIdeal m →
    (∀ c : Dev Cert.ReduceIdeal.nD,
      m ((c.tc : Thread Cert.ReduceIdeal.nD Cert.ReduceIdeal.τ).loc Cert.ReduceIdeal.main_arg0) = Layout.block ⟨5, ![2, 2, 2, 416, 1024]⟩ ⟨5, ![16, 2, 2, 416, 1024]⟩ 0 8 c (m' (((0 : Dev Cert.ReduceRefIdeal.nD).tc : Thread Cert.ReduceRefIdeal.nD Cert.ReduceRefIdeal.τ).loc Cert.ReduceRefIdeal.main_arg0))
      ∧ m ((c.tc : Thread Cert.ReduceIdeal.nD Cert.ReduceIdeal.τ).loc Cert.ReduceIdeal.main_arg1) = Layout.block ⟨5, ![2, 2, 2, 128, 512]⟩ ⟨5, ![16, 2, 2, 128, 512]⟩ 0 8 c (m' (((0 : Dev Cert.ReduceRefIdeal.nD).tc : Thread Cert.ReduceRefIdeal.nD Cert.ReduceRefIdeal.τ).loc Cert.ReduceRefIdeal.main_arg1))
      ∧ m ((c.tc : Thread Cert.ReduceIdeal.nD Cert.ReduceIdeal.τ).loc Cert.ReduceIdeal.main_arg2) = Layout.block ⟨5, ![2, 2, 2, 128, 1024]⟩ ⟨5, ![16, 2, 2, 128, 1024]⟩ 0 8 c (m' (((0 : Dev Cert.ReduceRefIdeal.nD).tc : Thread Cert.ReduceRefIdeal.nD Cert.ReduceRefIdeal.τ).loc Cert.ReduceRefIdeal.main_arg2))
      ∧ m ((c.tc : Thread Cert.ReduceIdeal.nD Cert.ReduceIdeal.τ).loc Cert.ReduceIdeal.main_arg3) = Layout.block ⟨2, ![640, 128]⟩ ⟨2, ![5120, 128]⟩ 0 8 c (m' (((0 : Dev Cert.ReduceRefIdeal.nD).tc : Thread Cert.ReduceRefIdeal.nD Cert.ReduceRefIdeal.τ).loc Cert.ReduceRefIdeal.main_arg3))) →
    ∃ (v0 : Buf (Elt Ideal) (((0 : Dev Cert.ReduceRefIdeal.nD).tc : Thread Cert.ReduceRefIdeal.nD Cert.ReduceRefIdeal.τ).loc Cert.ReduceRefIdeal.main_v1)) (v1 : Buf (Elt Ideal) (((0 : Dev Cert.ReduceRefIdeal.nD).tc : Thread Cert.ReduceRefIdeal.nD Cert.ReduceRefIdeal.τ).loc Cert.ReduceRefIdeal.main_v3)) (v2 : Buf (Elt Ideal) (((0 : Dev Cert.ReduceRefIdeal.nD).tc : Thread Cert.ReduceRefIdeal.nD Cert.ReduceRefIdeal.τ).loc Cert.ReduceRefIdeal.main_v5)) (v3 : Buf (Elt Ideal) (((0 : Dev Cert.ReduceRefIdeal.nD).tc : Thread Cert.ReduceRefIdeal.nD Cert.ReduceRefIdeal.τ).loc Cert.ReduceRefIdeal.main_v7)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v1_0) = Layout.blockN ⟨2, ![832, 1024]⟩ ⟨2, ![3328, 1024]⟩ (Layout.meshBlock [2, 2, 2] ![[0, 1], []] c) v0
          ∧ r.2.mem ((c.tc : Thread Cert.ReduceIdeal.nD Cert.ReduceIdeal.τ).loc Cert.ReduceIdeal.main_v1_1) = Layout.blockN ⟨2, ![256, 512]⟩ ⟨2, ![1024, 512]⟩ (Layout.meshBlock [2, 2, 2] ![[0, 1], []] c) v1
          ∧ r.2.mem ((c.tc : Thread Cert.ReduceIdeal.nD Cert.ReduceIdeal.τ).loc Cert.ReduceIdeal.main_v1_2) = Layout.blockN ⟨2, ![256, 1024]⟩ ⟨2, ![1024, 1024]⟩ (Layout.meshBlock [2, 2, 2] ![[0, 1], []] c) v2
          ∧ r.2.mem ((c.tc : Thread Cert.ReduceIdeal.nD Cert.ReduceIdeal.τ).loc Cert.ReduceIdeal.main_v1_3) = v3
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
          ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
          ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
          ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3))
      ∧ θ_run (Cert.ReduceRefIdeal.defs (F := Ideal)) (onTc (τ := Cert.ReduceRefIdeal.τ) (Cert.ReduceRefIdeal.main (F := Ideal))) ⟨m', fun _ => 0, g'⟩ (fun r =>
          r.2.mem (((0 : Dev Cert.ReduceRefIdeal.nD).tc : Thread Cert.ReduceRefIdeal.nD Cert.ReduceRefIdeal.τ).loc Cert.ReduceRefIdeal.main_v1) = v0
          ∧ r.2.mem (((0 : Dev Cert.ReduceRefIdeal.nD).tc : Thread Cert.ReduceRefIdeal.nD Cert.ReduceRefIdeal.τ).loc Cert.ReduceRefIdeal.main_v3) = v1
          ∧ r.2.mem (((0 : Dev Cert.ReduceRefIdeal.nD).tc : Thread Cert.ReduceRefIdeal.nD Cert.ReduceRefIdeal.τ).loc Cert.ReduceRefIdeal.main_v5) = v2
          ∧ r.2.mem (((0 : Dev Cert.ReduceRefIdeal.nD).tc : Thread Cert.ReduceRefIdeal.nD Cert.ReduceRefIdeal.τ).loc Cert.ReduceRefIdeal.main_v7) = v3
          ∧ r.2.mem (((0 : Dev Cert.ReduceRefIdeal.nD).tc : Thread Cert.ReduceRefIdeal.nD Cert.ReduceRefIdeal.τ).loc Cert.ReduceRefIdeal.main_arg0) = m' (((0 : Dev Cert.ReduceRefIdeal.nD).tc : Thread Cert.ReduceRefIdeal.nD Cert.ReduceRefIdeal.τ).loc Cert.ReduceRefIdeal.main_arg0)
          ∧ r.2.mem (((0 : Dev Cert.ReduceRefIdeal.nD).tc : Thread Cert.ReduceRefIdeal.nD Cert.ReduceRefIdeal.τ).loc Cert.ReduceRefIdeal.main_arg1) = m' (((0 : Dev Cert.ReduceRefIdeal.nD).tc : Thread Cert.ReduceRefIdeal.nD Cert.ReduceRefIdeal.τ).loc Cert.ReduceRefIdeal.main_arg1)
          ∧ r.2.mem (((0 : Dev Cert.ReduceRefIdeal.nD).tc : Thread Cert.ReduceRefIdeal.nD Cert.ReduceRefIdeal.τ).loc Cert.ReduceRefIdeal.main_arg2) = m' (((0 : Dev Cert.ReduceRefIdeal.nD).tc : Thread Cert.ReduceRefIdeal.nD Cert.ReduceRefIdeal.τ).loc Cert.ReduceRefIdeal.main_arg2)
          ∧ r.2.mem (((0 : Dev Cert.ReduceRefIdeal.nD).tc : Thread Cert.ReduceRefIdeal.nD Cert.ReduceRefIdeal.τ).loc Cert.ReduceRefIdeal.main_arg3) = m' (((0 : Dev Cert.ReduceRefIdeal.nD).tc : Thread Cert.ReduceRefIdeal.nD Cert.ReduceRefIdeal.τ).loc Cert.ReduceRefIdeal.main_arg3))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![832, 1024]⟩ ⟨2, ![3328, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![256, 512]⟩ ⟨2, ![1024, 512]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![256, 1024]⟩ ⟨2, ![1024, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg2))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![832, 1024]⟩ ⟨2, ![3328, 1024]⟩ (Layout.meshBlock [2, 2, 2] ![[0, 1], []] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![256, 512]⟩ ⟨2, ![1024, 512]⟩ (Layout.meshBlock [2, 2, 2] ![[0, 1], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![256, 1024]⟩ ⟨2, ![1024, 1024]⟩ (Layout.meshBlock [2, 2, 2] ![[0, 1], []] c) (m' (((0 : Dev Cert.GatherRef.nD).tc : Thread Cert.GatherRef.nD Cert.GatherRef.τ).loc Cert.GatherRef.main_arg2))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2))

def preserves_FwdProj_FwdProjIdeal : Prop :=
  True

def algebraic_FwdProjIdeal_FwdProjRefIdeal [hFwdProjIdeal : Cert.FwdProjIdeal.Facts] [hFwdProjRefIdeal : Cert.FwdProjRefIdeal.Facts] : Prop :=
  ∀ (m : (ℓ : Loc Cert.FwdProjIdeal.nD Cert.FwdProjIdeal.τ Cert.FwdProjIdeal.sig) → Buf (Elt Ideal) ℓ) (g : Dev Cert.FwdProjIdeal.nD → PrngReg)
    (m' : (ℓ : Loc Cert.FwdProjRefIdeal.nD Cert.FwdProjRefIdeal.τ Cert.FwdProjRefIdeal.sig) → Buf (Elt Ideal) ℓ) (g' : Dev Cert.FwdProjRefIdeal.nD → PrngReg), Pre_FwdProjIdeal m →
    (∀ c : Dev Cert.FwdProjIdeal.nD,
      m' ((c.tc : Thread Cert.FwdProjRefIdeal.nD Cert.FwdProjRefIdeal.τ).loc Cert.FwdProjRefIdeal.main_arg0) = m ((c.tc : Thread Cert.FwdProjIdeal.nD Cert.FwdProjIdeal.τ).loc Cert.FwdProjIdeal.main_arg0)
      ∧ m' ((c.tc : Thread Cert.FwdProjRefIdeal.nD Cert.FwdProjRefIdeal.τ).loc Cert.FwdProjRefIdeal.main_arg1) = m ((c.tc : Thread Cert.FwdProjIdeal.nD Cert.FwdProjIdeal.τ).loc Cert.FwdProjIdeal.main_arg1)
      ∧ m' ((c.tc : Thread Cert.FwdProjRefIdeal.nD Cert.FwdProjRefIdeal.τ).loc Cert.FwdProjRefIdeal.main_arg2) = m ((c.tc : Thread Cert.FwdProjIdeal.nD Cert.FwdProjIdeal.τ).loc Cert.FwdProjIdeal.main_arg2)) →
    ∃ (v0 : (c : Dev Cert.FwdProjIdeal.nD) → Buf (Elt Ideal) ((c.tc : Thread Cert.FwdProjIdeal.nD Cert.FwdProjIdeal.τ).loc Cert.FwdProjIdeal.main_v0)),
      θ_run (Cert.FwdProjIdeal.defs (F := Ideal)) (onTc (τ := Cert.FwdProjIdeal.τ) (Cert.FwdProjIdeal.main (F := Ideal))) ⟨m, fun _ => 0, g⟩ (fun r => ∀ c : Dev Cert.FwdProjIdeal.nD,
          r.2.mem ((c.tc : Thread Cert.FwdProjIdeal.nD Cert.FwdProjIdeal.τ).loc Cert.FwdProjIdeal.main_v0) = v0 c
          ∧ r.2.mem ((c.tc : Thread Cert.FwdProjIdeal.nD Cert.FwdProjIdeal.τ).loc Cert.FwdProjIdeal.main_arg0) = m ((c.tc : Thread Cert.FwdProjIdeal.nD Cert.FwdProjIdeal.τ).loc Cert.FwdProjIdeal.main_arg0)
          ∧ r.2.mem ((c.tc : Thread Cert.FwdProjIdeal.nD Cert.FwdProjIdeal.τ).loc Cert.FwdProjIdeal.main_arg1) = m ((c.tc : Thread Cert.FwdProjIdeal.nD Cert.FwdProjIdeal.τ).loc Cert.FwdProjIdeal.main_arg1)
          ∧ r.2.mem ((c.tc : Thread Cert.FwdProjIdeal.nD Cert.FwdProjIdeal.τ).loc Cert.FwdProjIdeal.main_arg2) = m ((c.tc : Thread Cert.FwdProjIdeal.nD Cert.FwdProjIdeal.τ).loc Cert.FwdProjIdeal.main_arg2))
      ∧ θ_run (Cert.FwdProjRefIdeal.defs (F := Ideal)) (onTc (τ := Cert.FwdProjRefIdeal.τ) (Cert.FwdProjRefIdeal.main (F := Ideal))) ⟨m', fun _ => 0, g'⟩ (fun r => ∀ c : Dev Cert.FwdProjRefIdeal.nD,
          r.2.mem ((c.tc : Thread Cert.FwdProjRefIdeal.nD Cert.FwdProjRefIdeal.τ).loc Cert.FwdProjRefIdeal.main_v14) = v0 c
          ∧ r.2.mem ((c.tc : Thread Cert.FwdProjRefIdeal.nD Cert.FwdProjRefIdeal.τ).loc Cert.FwdProjRefIdeal.main_arg0) = m' ((c.tc : Thread Cert.FwdProjRefIdeal.nD Cert.FwdProjRefIdeal.τ).loc Cert.FwdProjRefIdeal.main_arg0)
          ∧ r.2.mem ((c.tc : Thread Cert.FwdProjRefIdeal.nD Cert.FwdProjRefIdeal.τ).loc Cert.FwdProjRefIdeal.main_arg1) = m' ((c.tc : Thread Cert.FwdProjRefIdeal.nD Cert.FwdProjRefIdeal.τ).loc Cert.FwdProjRefIdeal.main_arg1)
          ∧ r.2.mem ((c.tc : Thread Cert.FwdProjRefIdeal.nD Cert.FwdProjRefIdeal.τ).loc Cert.FwdProjRefIdeal.main_arg2) = m' ((c.tc : Thread Cert.FwdProjRefIdeal.nD Cert.FwdProjRefIdeal.τ).loc Cert.FwdProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0_0)) (v1 : (c : Dev Cert.MemKvIdeal.nD) → Buf (Elt Ideal) ((c.tc : Thread Cert.MemKvIdeal.nD Cert.MemKvIdeal.τ).loc Cert.MemKvIdeal.main_v0_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_0) = v0 c
          ∧ r.2.mem ((c.tc : Thread Cert.MemKvIdeal.nD Cert.MemKvIdeal.τ).loc Cert.MemKvIdeal.main_v0_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v13) = v0 c
          ∧ r.2.mem ((c.tc : Thread Cert.MemKvRefIdeal.nD Cert.MemKvRefIdeal.τ).loc Cert.MemKvRefIdeal.main_v14) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)
      ∧ m' ((c.tc : Thread Cert.ProjBwdRefIdeal.nD Cert.ProjBwdRefIdeal.τ).loc Cert.ProjBwdRefIdeal.main_arg6) = m ((c.tc : Thread Cert.ProjBwdIdeal.nD Cert.ProjBwdIdeal.τ).loc Cert.ProjBwdIdeal.main_arg6)
      ∧ m' ((c.tc : Thread Cert.ProjBwdRefIdeal.nD Cert.ProjBwdRefIdeal.τ).loc Cert.ProjBwdRefIdeal.main_arg7) = m ((c.tc : Thread Cert.ProjBwdIdeal.nD Cert.ProjBwdIdeal.τ).loc Cert.ProjBwdIdeal.main_arg7)
      ∧ m' ((c.tc : Thread Cert.ProjBwdRefIdeal.nD Cert.ProjBwdRefIdeal.τ).loc Cert.ProjBwdRefIdeal.main_arg8) = m ((c.tc : Thread Cert.ProjBwdIdeal.nD Cert.ProjBwdIdeal.τ).loc Cert.ProjBwdIdeal.main_arg8)
      ∧ m' ((c.tc : Thread Cert.ProjBwdRefIdeal.nD Cert.ProjBwdRefIdeal.τ).loc Cert.ProjBwdRefIdeal.main_arg9) = m ((c.tc : Thread Cert.ProjBwdIdeal.nD Cert.ProjBwdIdeal.τ).loc Cert.ProjBwdIdeal.main_arg9)
      ∧ m' ((c.tc : Thread Cert.ProjBwdRefIdeal.nD Cert.ProjBwdRefIdeal.τ).loc Cert.ProjBwdRefIdeal.main_arg10) = m ((c.tc : Thread Cert.ProjBwdIdeal.nD Cert.ProjBwdIdeal.τ).loc Cert.ProjBwdIdeal.main_arg10)) →
    ∃ (v0 : (c : Dev Cert.ProjBwdIdeal.nD) → Buf (Elt Ideal) ((c.tc : Thread Cert.ProjBwdIdeal.nD Cert.ProjBwdIdeal.τ).loc Cert.ProjBwdIdeal.main_v0_0)) (v1 : (c : Dev Cert.ProjBwdIdeal.nD) → Buf (Elt Ideal) ((c.tc : Thread Cert.ProjBwdIdeal.nD Cert.ProjBwdIdeal.τ).loc Cert.ProjBwdIdeal.main_v0_1)) (v2 : (c : Dev Cert.ProjBwdIdeal.nD) → Buf (Elt Ideal) ((c.tc : Thread Cert.ProjBwdIdeal.nD Cert.ProjBwdIdeal.τ).loc Cert.ProjBwdIdeal.main_v0_2)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v0_0) = v0 c
          ∧ r.2.mem ((c.tc : Thread Cert.ProjBwdIdeal.nD Cert.ProjBwdIdeal.τ).loc Cert.ProjBwdIdeal.main_v0_1) = v1 c
          ∧ r.2.mem ((c.tc : Thread Cert.ProjBwdIdeal.nD Cert.ProjBwdIdeal.τ).loc Cert.ProjBwdIdeal.main_v0_2) = v2 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
          ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v26) = v0 c
          ∧ r.2.mem ((c.tc : Thread Cert.ProjBwdRefIdeal.nD Cert.ProjBwdRefIdeal.τ).loc Cert.ProjBwdRefIdeal.main_v40) = v1 c
          ∧ r.2.mem ((c.tc : Thread Cert.ProjBwdRefIdeal.nD Cert.ProjBwdRefIdeal.τ).loc Cert.ProjBwdRefIdeal.main_v43) = v2 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5)
          ∧ r.2.mem ((c.tc : Thread Cert.ProjBwdRefIdeal.nD Cert.ProjBwdRefIdeal.τ).loc Cert.ProjBwdRefIdeal.main_arg6) = m' ((c.tc : Thread Cert.ProjBwdRefIdeal.nD Cert.ProjBwdRefIdeal.τ).loc Cert.ProjBwdRefIdeal.main_arg6)
          ∧ r.2.mem ((c.tc : Thread Cert.ProjBwdRefIdeal.nD Cert.ProjBwdRefIdeal.τ).loc Cert.ProjBwdRefIdeal.main_arg7) = m' ((c.tc : Thread Cert.ProjBwdRefIdeal.nD Cert.ProjBwdRefIdeal.τ).loc Cert.ProjBwdRefIdeal.main_arg7)
          ∧ r.2.mem ((c.tc : Thread Cert.ProjBwdRefIdeal.nD Cert.ProjBwdRefIdeal.τ).loc Cert.ProjBwdRefIdeal.main_arg8) = m' ((c.tc : Thread Cert.ProjBwdRefIdeal.nD Cert.ProjBwdRefIdeal.τ).loc Cert.ProjBwdRefIdeal.main_arg8)
          ∧ r.2.mem ((c.tc : Thread Cert.ProjBwdRefIdeal.nD Cert.ProjBwdRefIdeal.τ).loc Cert.ProjBwdRefIdeal.main_arg9) = m' ((c.tc : Thread Cert.ProjBwdRefIdeal.nD Cert.ProjBwdRefIdeal.τ).loc Cert.ProjBwdRefIdeal.main_arg9)
          ∧ r.2.mem ((c.tc : Thread Cert.ProjBwdRefIdeal.nD Cert.ProjBwdRefIdeal.τ).loc Cert.ProjBwdRefIdeal.main_arg10) = m' ((c.tc : Thread Cert.ProjBwdRefIdeal.nD Cert.ProjBwdRefIdeal.τ).loc Cert.ProjBwdRefIdeal.main_arg10))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v23) = v0 c
          ∧ r.2.mem ((c.tc : Thread Cert.AdamwInRefIdeal.nD Cert.AdamwInRefIdeal.τ).loc Cert.AdamwInRefIdeal.main_v4) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwKv_AdamwKvIdeal : Prop :=
  True

def algebraic_AdamwKvIdeal_AdamwKvRefIdeal [hAdamwKvIdeal : Cert.AdamwKvIdeal.Facts] [hAdamwKvRefIdeal : Cert.AdamwKvRefIdeal.Facts] : Prop :=
  ∀ (m : (ℓ : Loc Cert.AdamwKvIdeal.nD Cert.AdamwKvIdeal.τ Cert.AdamwKvIdeal.sig) → Buf (Elt Ideal) ℓ) (g : Dev Cert.AdamwKvIdeal.nD → PrngReg)
    (m' : (ℓ : Loc Cert.AdamwKvRefIdeal.nD Cert.AdamwKvRefIdeal.τ Cert.AdamwKvRefIdeal.sig) → Buf (Elt Ideal) ℓ) (g' : Dev Cert.AdamwKvRefIdeal.nD → PrngReg), Pre_AdamwKvIdeal m →
    (∀ c : Dev Cert.AdamwKvIdeal.nD,
      m' ((c.tc : Thread Cert.AdamwKvRefIdeal.nD Cert.AdamwKvRefIdeal.τ).loc Cert.AdamwKvRefIdeal.main_arg0) = m ((c.tc : Thread Cert.AdamwKvIdeal.nD Cert.AdamwKvIdeal.τ).loc Cert.AdamwKvIdeal.main_arg0)
      ∧ m' ((c.tc : Thread Cert.AdamwKvRefIdeal.nD Cert.AdamwKvRefIdeal.τ).loc Cert.AdamwKvRefIdeal.main_arg1) = m ((c.tc : Thread Cert.AdamwKvIdeal.nD Cert.AdamwKvIdeal.τ).loc Cert.AdamwKvIdeal.main_arg1)
      ∧ m' ((c.tc : Thread Cert.AdamwKvRefIdeal.nD Cert.AdamwKvRefIdeal.τ).loc Cert.AdamwKvRefIdeal.main_arg2) = m ((c.tc : Thread Cert.AdamwKvIdeal.nD Cert.AdamwKvIdeal.τ).loc Cert.AdamwKvIdeal.main_arg2)
      ∧ m' ((c.tc : Thread Cert.AdamwKvRefIdeal.nD Cert.AdamwKvRefIdeal.τ).loc Cert.AdamwKvRefIdeal.main_arg3) = m ((c.tc : Thread Cert.AdamwKvIdeal.nD Cert.AdamwKvIdeal.τ).loc Cert.AdamwKvIdeal.main_arg3)) →
    ∃ (v0 : (c : Dev Cert.AdamwKvIdeal.nD) → Buf (Elt Ideal) ((c.tc : Thread Cert.AdamwKvIdeal.nD Cert.AdamwKvIdeal.τ).loc Cert.AdamwKvIdeal.main_v0_0)) (v1 : (c : Dev Cert.AdamwKvIdeal.nD) → Buf (Elt Ideal) ((c.tc : Thread Cert.AdamwKvIdeal.nD Cert.AdamwKvIdeal.τ).loc Cert.AdamwKvIdeal.main_v0_1)) (v2 : (c : Dev Cert.AdamwKvIdeal.nD) → Buf (Elt Ideal) ((c.tc : Thread Cert.AdamwKvIdeal.nD Cert.AdamwKvIdeal.τ).loc Cert.AdamwKvIdeal.main_v0_2)),
      θ_run (Cert.AdamwKvIdeal.defs (F := Ideal)) (onTc (τ := Cert.AdamwKvIdeal.τ) (Cert.AdamwKvIdeal.main (F := Ideal))) ⟨m, fun _ => 0, g⟩ (fun r => ∀ c : Dev Cert.AdamwKvIdeal.nD,
          r.2.mem ((c.tc : Thread Cert.AdamwKvIdeal.nD Cert.AdamwKvIdeal.τ).loc Cert.AdamwKvIdeal.main_v0_0) = v0 c
          ∧ r.2.mem ((c.tc : Thread Cert.AdamwKvIdeal.nD Cert.AdamwKvIdeal.τ).loc Cert.AdamwKvIdeal.main_v0_1) = v1 c
          ∧ r.2.mem ((c.tc : Thread Cert.AdamwKvIdeal.nD Cert.AdamwKvIdeal.τ).loc Cert.AdamwKvIdeal.main_v0_2) = v2 c
          ∧ r.2.mem ((c.tc : Thread Cert.AdamwKvIdeal.nD Cert.AdamwKvIdeal.τ).loc Cert.AdamwKvIdeal.main_arg0) = m ((c.tc : Thread Cert.AdamwKvIdeal.nD Cert.AdamwKvIdeal.τ).loc Cert.AdamwKvIdeal.main_arg0)
          ∧ r.2.mem ((c.tc : Thread Cert.AdamwKvIdeal.nD Cert.AdamwKvIdeal.τ).loc Cert.AdamwKvIdeal.main_arg1) = m ((c.tc : Thread Cert.AdamwKvIdeal.nD Cert.AdamwKvIdeal.τ).loc Cert.AdamwKvIdeal.main_arg1)
          ∧ r.2.mem ((c.tc : Thread Cert.AdamwKvIdeal.nD Cert.AdamwKvIdeal.τ).loc Cert.AdamwKvIdeal.main_arg2) = m ((c.tc : Thread Cert.AdamwKvIdeal.nD Cert.AdamwKvIdeal.τ).loc Cert.AdamwKvIdeal.main_arg2)
          ∧ r.2.mem ((c.tc : Thread Cert.AdamwKvIdeal.nD Cert.AdamwKvIdeal.τ).loc Cert.AdamwKvIdeal.main_arg3) = m ((c.tc : Thread Cert.AdamwKvIdeal.nD Cert.AdamwKvIdeal.τ).loc Cert.AdamwKvIdeal.main_arg3))
      ∧ θ_run (Cert.AdamwKvRefIdeal.defs (F := Ideal)) (onTc (τ := Cert.AdamwKvRefIdeal.τ) (Cert.AdamwKvRefIdeal.main (F := Ideal))) ⟨m', fun _ => 0, g'⟩ (fun r => ∀ c : Dev Cert.AdamwKvRefIdeal.nD,
          r.2.mem ((c.tc : Thread Cert.AdamwKvRefIdeal.nD Cert.AdamwKvRefIdeal.τ).loc Cert.AdamwKvRefIdeal.main_v23) = v0 c
          ∧ r.2.mem ((c.tc : Thread Cert.AdamwKvRefIdeal.nD Cert.AdamwKvRefIdeal.τ).loc Cert.AdamwKvRefIdeal.main_v4) = v1 c
          ∧ r.2.mem ((c.tc : Thread Cert.AdamwKvRefIdeal.nD Cert.AdamwKvRefIdeal.τ).loc Cert.AdamwKvRefIdeal.main_v10) = v2 c
          ∧ r.2.mem ((c.tc : Thread Cert.AdamwKvRefIdeal.nD Cert.AdamwKvRefIdeal.τ).loc Cert.AdamwKvRefIdeal.main_arg0) = m' ((c.tc : Thread Cert.AdamwKvRefIdeal.nD Cert.AdamwKvRefIdeal.τ).loc Cert.AdamwKvRefIdeal.main_arg0)
          ∧ r.2.mem ((c.tc : Thread Cert.AdamwKvRefIdeal.nD Cert.AdamwKvRefIdeal.τ).loc Cert.AdamwKvRefIdeal.main_arg1) = m' ((c.tc : Thread Cert.AdamwKvRefIdeal.nD Cert.AdamwKvRefIdeal.τ).loc Cert.AdamwKvRefIdeal.main_arg1)
          ∧ r.2.mem ((c.tc : Thread Cert.AdamwKvRefIdeal.nD Cert.AdamwKvRefIdeal.τ).loc Cert.AdamwKvRefIdeal.main_arg2) = m' ((c.tc : Thread Cert.AdamwKvRefIdeal.nD Cert.AdamwKvRefIdeal.τ).loc Cert.AdamwKvRefIdeal.main_arg2)
          ∧ r.2.mem ((c.tc : Thread Cert.AdamwKvRefIdeal.nD Cert.AdamwKvRefIdeal.τ).loc Cert.AdamwKvRefIdeal.main_arg3) = m' ((c.tc : Thread Cert.AdamwKvRefIdeal.nD Cert.AdamwKvRefIdeal.τ).loc Cert.AdamwKvRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def Claim : Prop :=
  ∃ (hReduce : Cert.Reduce.Facts) (hReduceIdeal : Cert.ReduceIdeal.Facts) (hReduceRefIdeal : Cert.ReduceRefIdeal.Facts) (hGather : Cert.Gather.Facts) (hGatherIdeal : Cert.GatherIdeal.Facts) (hGatherRefIdeal : Cert.GatherRefIdeal.Facts) (hGatherRef : Cert.GatherRef.Facts) (hFwdProj : Cert.FwdProj.Facts) (hFwdProjIdeal : Cert.FwdProjIdeal.Facts) (hFwdProjRefIdeal : Cert.FwdProjRefIdeal.Facts) (hMemKv : Cert.MemKv.Facts) (hMemKvIdeal : Cert.MemKvIdeal.Facts) (hMemKvRefIdeal : Cert.MemKvRefIdeal.Facts) (hProjBwd : Cert.ProjBwd.Facts) (hProjBwdIdeal : Cert.ProjBwdIdeal.Facts) (hProjBwdRefIdeal : Cert.ProjBwdRefIdeal.Facts) (hAdamwIn : Cert.AdamwIn.Facts) (hAdamwInIdeal : Cert.AdamwInIdeal.Facts) (hAdamwInRefIdeal : Cert.AdamwInRefIdeal.Facts) (hAdamwKv : Cert.AdamwKv.Facts) (hAdamwKvIdeal : Cert.AdamwKvIdeal.Facts) (hAdamwKvRefIdeal : Cert.AdamwKvRefIdeal.Facts) (hAdamwOut : Cert.AdamwOut.Facts) (hAdamwOutIdeal : Cert.AdamwOutIdeal.Facts) (hAdamwOutRefIdeal : Cert.AdamwOutRefIdeal.Facts) (hAdamwSmall : Cert.AdamwSmall.Facts) (hAdamwSmallIdeal : Cert.AdamwSmallIdeal.Facts) (hAdamwSmallRefIdeal : Cert.AdamwSmallRefIdeal.Facts),
    quiescent_Reduce (hReduce := hReduce)
    ∧ quiescent_ReduceIdeal (hReduceIdeal := hReduceIdeal)
    ∧ quiescent_ReduceRefIdeal (hReduceRefIdeal := hReduceRefIdeal)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_FwdProj (hFwdProj := hFwdProj)
    ∧ quiescent_FwdProjIdeal (hFwdProjIdeal := hFwdProjIdeal)
    ∧ quiescent_FwdProjRefIdeal (hFwdProjRefIdeal := hFwdProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwKv (hAdamwKv := hAdamwKv)
    ∧ quiescent_AdamwKvIdeal (hAdamwKvIdeal := hAdamwKvIdeal)
    ∧ quiescent_AdamwKvRefIdeal (hAdamwKvRefIdeal := hAdamwKvRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ preserves_Reduce_ReduceIdeal
    ∧ algebraic_ReduceIdeal_ReduceRefIdeal (hReduceIdeal := hReduceIdeal) (hReduceRefIdeal := hReduceRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_FwdProj_FwdProjIdeal
    ∧ algebraic_FwdProjIdeal_FwdProjRefIdeal (hFwdProjIdeal := hFwdProjIdeal) (hFwdProjRefIdeal := hFwdProjRefIdeal)
    ∧ preserves_MemKv_MemKvIdeal
    ∧ algebraic_MemKvIdeal_MemKvRefIdeal (hMemKvIdeal := hMemKvIdeal) (hMemKvRefIdeal := hMemKvRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwKv_AdamwKvIdeal
    ∧ algebraic_AdamwKvIdeal_AdamwKvRefIdeal (hAdamwKvIdeal := hAdamwKvIdeal) (hAdamwKvRefIdeal := hAdamwKvRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
-- ==== Reduce.lean ====
abbrev S2x2x2x416x1024 : Shape := ⟨5, ![2, 2, 2, 416, 1024]⟩
abbrev S2x2x2x128x512 : Shape := ⟨5, ![2, 2, 2, 128, 512]⟩
abbrev S2x2x2x128x1024 : Shape := ⟨5, ![2, 2, 2, 128, 1024]⟩
abbrev S640x128 : Shape := ⟨2, ![640, 128]⟩
abbrev S832x1024 : Shape := ⟨2, ![832, 1024]⟩
abbrev S256x512 : Shape := ⟨2, ![256, 512]⟩
abbrev S256x1024 : Shape := ⟨2, ![256, 1024]⟩
abbrev S2x2x416x1024 : Shape := ⟨4, ![2, 2, 416, 1024]⟩
abbrev S2x2x128x512 : Shape := ⟨4, ![2, 2, 128, 512]⟩
abbrev S2x2x128x1024 : Shape := ⟨4, ![2, 2, 128, 1024]⟩
abbrev S2x2x416x512 : Shape := ⟨4, ![2, 2, 416, 512]⟩
abbrev S2x2x128x256 : Shape := ⟨4, ![2, 2, 128, 256]⟩
abbrev S2x416x512 : Shape := ⟨3, ![2, 416, 512]⟩
abbrev S2x128x256 : Shape := ⟨3, ![2, 128, 256]⟩
abbrev S2x128x512 : Shape := ⟨3, ![2, 128, 512]⟩
abbrev S21 : Shape := ⟨1, ![21]⟩
abbrev S3 : Shape := ⟨1, ![3]⟩
abbrev S_ : Shape := ⟨0, ![]⟩
abbrev S1 : Shape := ⟨1, ![1]⟩
abbrev S2x2x1x416x1024 : Shape := ⟨5, ![2, 2, 1, 416, 1024]⟩
abbrev S2x2x1x128x512 : Shape := ⟨5, ![2, 2, 1, 128, 512]⟩
abbrev S2x2x1x128x1024 : Shape := ⟨5, ![2, 2, 1, 128, 1024]⟩
abbrev S1x2x416x512 : Shape := ⟨4, ![1, 2, 416, 512]⟩
abbrev S2x1x416x512 : Shape := ⟨4, ![2, 1, 416, 512]⟩
abbrev S1x2x128x256 : Shape := ⟨4, ![1, 2, 128, 256]⟩
abbrev S2x1x128x256 : Shape := ⟨4, ![2, 1, 128, 256]⟩
abbrev S1x2x128x512 : Shape := ⟨4, ![1, 2, 128, 512]⟩
abbrev S2x1x128x512 : Shape := ⟨4, ![2, 1, 128, 512]⟩
abbrev S1x1x416x512 : Shape := ⟨4, ![1, 1, 416, 512]⟩
abbrev S416x512 : Shape := ⟨2, ![416, 512]⟩
abbrev S1x416x512 : Shape := ⟨3, ![1, 416, 512]⟩
abbrev S1x1x128x256 : Shape := ⟨4, ![1, 1, 128, 256]⟩
abbrev S128x256 : Shape := ⟨2, ![128, 256]⟩
abbrev S1x128x256 : Shape := ⟨3, ![1, 128, 256]⟩
abbrev S1x1x128x512 : Shape := ⟨4, ![1, 1, 128, 512]⟩
abbrev S128x512 : Shape := ⟨2, ![128, 512]⟩
abbrev S1x128x512 : Shape := ⟨3, ![1, 128, 512]⟩
abbrev S416x1024 : Shape := ⟨2, ![416, 1024]⟩
abbrev S128x1024 : Shape := ⟨2, ![128, 1024]⟩

abbrev nBuf : Space → Nat
  | .hbm => 8
  | .vmem => 30
  | .smem => 0
  | _ => 0

abbrev bufTy : (tb : Table) → Fin (tcTables nBuf tb) → BufTy
  | .hbm, ⟨0, _⟩ => ⟨S2x2x2x416x1024, .f32⟩
  | .hbm, ⟨1, _⟩ => ⟨S2x2x2x128x512, .f32⟩
  | .hbm, ⟨2, _⟩ => ⟨S2x2x2x128x1024, .f32⟩
  | .hbm, ⟨3, _⟩ => ⟨S640x128, .f32⟩
  | .hbm, ⟨4, _⟩ => ⟨S832x1024, .f32⟩
  | .hbm, ⟨5, _⟩ => ⟨S256x512, .f32⟩
  | .hbm, ⟨6, _⟩ => ⟨S256x1024, .f32⟩
  | .hbm, ⟨7, _⟩ => ⟨S640x128, .f32⟩
  | .local _ .vmem, ⟨0, _⟩ => ⟨S640x128, .f32⟩
  | .local _ .vmem, ⟨1, _⟩ => ⟨S832x1024, .f32⟩
  | .local _ .vmem, ⟨2, _⟩ => ⟨S256x512, .f32⟩
  | .local _ .vmem, ⟨3, _⟩ => ⟨S256x1024, .f32⟩
  | .local _ .vmem, ⟨4, _⟩ => ⟨S640x128, .f32⟩
  | .local _ .vmem, ⟨5, _⟩ => ⟨S2x2x416x1024, .f32⟩
  | .local _ .vmem, ⟨6, _⟩ => ⟨S2x2x128x512, .f32⟩
  | .local _ .vmem, ⟨7, _⟩ => ⟨S2x2x128x1024, .f32⟩
  | .local _ .vmem, ⟨8, _⟩ => ⟨S2x2x416x1024, .f32⟩
  | .local _ .vmem, ⟨9, _⟩ => ⟨S2x2x128x512, .f32⟩
  | .local _ .vmem, ⟨10, _⟩ => ⟨S2x2x128x1024, .f32⟩
  | .local _ .vmem, ⟨11, _⟩ => ⟨S2x2x416x512, .bf16⟩
  | .local _ .vmem, ⟨12, _⟩ => ⟨S2x2x128x256, .bf16⟩
  | .local _ .vmem, ⟨13, _⟩ => ⟨S2x2x128x512, .bf16⟩
  | .local _ .vmem, ⟨14, _⟩ => ⟨S2x2x416x512, .bf16⟩
  | .local _ .vmem, ⟨15, _⟩ => ⟨S2x2x128x256, .bf16⟩
  | .local _ .vmem, ⟨16, _⟩ => ⟨S2x2x128x512, .bf16⟩
  | .local _ .vmem, ⟨17, _⟩ => ⟨S2x2x416x512, .f32⟩
  | .local _ .vmem, ⟨18, _⟩ => ⟨S2x2x128x256, .f32⟩
  | .local _ .vmem, ⟨19, _⟩ => ⟨S2x2x128x512, .f32⟩
  | .local _ .vmem, ⟨20, _⟩ => ⟨S2x416x512, .bf16⟩
  | .local _ .vmem, ⟨21, _⟩ => ⟨S2x128x256, .bf16⟩
  | .local _ .vmem, ⟨22, _⟩ => ⟨S2x128x512, .bf16⟩
  | .local _ .vmem, ⟨23, _⟩ => ⟨S2x416x512, .bf16⟩
  | .local _ .vmem, ⟨24, _⟩ => ⟨S2x128x256, .bf16⟩
  | .local _ .vmem, ⟨25, _⟩ => ⟨S2x128x512, .bf16⟩
  | .local _ .vmem, ⟨26, _⟩ => ⟨S640x128, .f32⟩
  | .local _ .vmem, ⟨27, _⟩ => ⟨S640x128, .f32⟩
  | .local _ .vmem, ⟨28, _⟩ => ⟨S640x128, .f32⟩
  | .local _ .vmem, ⟨29, _⟩ => ⟨S640x128, .f32⟩
  | _, _ => ⟨S2x2x2x416x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_scratch14 : Ref sig .tc := ⟨.vmem, 19, rfl⟩
abbrev cc0_scratch15 : Ref sig .tc := ⟨.vmem, 20, rfl⟩
abbrev cc0_scratch16 : Ref sig .tc := ⟨.vmem, 21, rfl⟩
abbrev cc0_scratch17 : Ref sig .tc := ⟨.vmem, 22, rfl⟩
abbrev cc0_scratch18 : Ref sig .tc := ⟨.vmem, 23, rfl⟩
abbrev cc0_scratch19 : Ref sig .tc := ⟨.vmem, 24, rfl⟩
abbrev cc0_scratch20 : Ref sig .tc := ⟨.vmem, 25, rfl⟩
abbrev cc0_scratch21 : Ref sig .tc := ⟨.vmem, 26, rfl⟩
abbrev cc0_scratch22 : Ref sig .tc := ⟨.vmem, 27, rfl⟩
abbrev cc0_scratch23 : Ref sig .tc := ⟨.vmem, 28, rfl⟩
abbrev cc0_scratch24 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v17 : BitVec 32 := Scalar.muli v9 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_18 : BitVec 32 := 2#32
  let v27 : BitVec 32 := Scalar.muli v11 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off1 (d0 : Dev nD) : Fin 5 → Nat :=
  let c0_i32_27 : BitVec 32 := 0#32
  let c0_i32_28 : BitVec 32 := 0#32
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_20 v8
  let c0_i32_29 : BitVec 32 := 0#32
  let c0_i32_30 : BitVec 32 := 0#32
  ![0, 0, v31.toNat, 0, 0]
def k0_dev4 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v32 : BitVec 32 := Scalar.muli v2 c4_i32_23
  let v33 : BitVec 32 := Scalar.addi c0_i32_24 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v34 : BitVec 32 := Scalar.muli v5 c2_i32_25
  let v35 : BitVec 32 := Scalar.addi v33 v34
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_26 : BitVec 32 := 1#32
  let v36 : BitVec 32 := Scalar.muli v9 c1_i32_26
  let v37 : BitVec 32 := Scalar.addi v35 v36
  v37.toNat
def k0_off2 (d0 : Dev nD) : Fin 5 → Nat :=
  let c0_i32_32 : BitVec 32 := 0#32
  let c0_i32_33 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_34 : BitVec 32 := 0#32
  let c0_i32_35 : BitVec 32 := 0#32
  ![0, 0, v8.toNat, 0, 0]
def k0_off3 (d0 : Dev nD) : Fin 5 → Nat :=
  let c0_i32_43 : BitVec 32 := 0#32
  let c0_i32_44 : BitVec 32 := 0#32
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_36 v8
  let c0_i32_45 : BitVec 32 := 0#32
  let c0_i32_46 : BitVec 32 := 0#32
  ![0, 0, v48.toNat, 0, 0]
def k0_dev5 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v49 : BitVec 32 := Scalar.muli v2 c4_i32_39
  let v50 : BitVec 32 := Scalar.addi c0_i32_40 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v51 : BitVec 32 := Scalar.muli v5 c2_i32_41
  let v52 : BitVec 32 := Scalar.addi v50 v51
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_42 : BitVec 32 := 1#32
  let v53 : BitVec 32 := Scalar.muli v9 c1_i32_42
  let v54 : BitVec 32 := Scalar.addi v52 v53
  v54.toNat
def k0_off4 (d0 : Dev nD) : Fin 5 → Nat :=
  let c0_i32_48 : BitVec 32 := 0#32
  let c0_i32_49 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_50 : BitVec 32 := 0#32
  let c0_i32_51 : BitVec 32 := 0#32
  ![0, 0, v8.toNat, 0, 0]
def k0_off5 (d0 : Dev nD) : Fin 5 → Nat :=
  let c0_i32_59 : BitVec 32 := 0#32
  let c0_i32_60 : BitVec 32 := 0#32
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_52 v8
  let c0_i32_61 : BitVec 32 := 0#32
  let c0_i32_62 : BitVec 32 := 0#32
  ![0, 0, v65.toNat, 0, 0]
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v66 : BitVec 32 := Scalar.muli v2 c4_i32_55
  let v67 : BitVec 32 := Scalar.addi c0_i32_56 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v68 : BitVec 32 := Scalar.muli v5 c2_i32_57
  let v69 : BitVec 32 := Scalar.addi v67 v68
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_58 : BitVec 32 := 1#32
  let v70 : BitVec 32 := Scalar.muli v9 c1_i32_58
  let v71 : BitVec 32 := Scalar.addi v69 v70
  v71.toNat
def k0_off6 (d0 : Dev nD) : Fin 5 → Nat :=
  let c0_i32_64 : BitVec 32 := 0#32
  let c0_i32_65 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_66 : BitVec 32 := 0#32
  let c0_i32_67 : BitVec 32 := 0#32
  ![0, 0, v8.toNat, 0, 0]
def k0_dev7 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v82 : BitVec 32 := Scalar.muli v2 c4_i32_70
  let v83 : BitVec 32 := Scalar.addi c0_i32_71 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v84 : BitVec 32 := Scalar.muli v5 c2_i32_72
  let v85 : BitVec 32 := Scalar.addi v83 v84
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_73 : BitVec 32 := 1#32
  let v86 : BitVec 32 := Scalar.muli v9 c1_i32_73
  let v87 : BitVec 32 := Scalar.addi v85 v86
  v87.toNat
def k0_off7 (d0 : Dev nD) : Fin 4 → Nat :=
  let c1_i32_101 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v113 : BitVec 32 := Scalar.subi c1_i32_101 v2
  let v114 : Index := Scalar.indexCast v113
  let c0_102 : Index := 0#32
  let c0_103 : Index := 0#32
  let c0_104 : Index := 0#32
  ![v114.toNat, 0, 0, 0]
def k0_off8 (d0 : Dev nD) : Fin 4 → Nat :=
  let c0_110 : Index := 0#32
  let c1_i32_109 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_109 v5
  let v122 : Index := Scalar.indexCast v121
  let c0_111 : Index := 0#32
  let c512 : Index := 512#32
  ![0, v122.toNat, 0, 512]
def k0_dev8 (d0 : Dev nD) : Nat :=
  let c0_i32_120 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_119 : BitVec 32 := 4#32
  let v129 : BitVec 32 := Scalar.muli v10 c4_i32_119
  let v130 : BitVec 32 := Scalar.addi c0_i32_120 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v131 : BitVec 32 := Scalar.muli v5 c2_i32_121
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v133 : BitVec 32 := Scalar.muli v8 c1_i32_122
  let v134 : BitVec 32 := Scalar.addi v132 v133
  v134.toNat
def k0_dev9 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v143 : BitVec 32 := Scalar.muli v2 c4_i32_132
  let v144 : BitVec 32 := Scalar.addi c0_i32_133 v143
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_134 : BitVec 32 := 2#32
  let v145 : BitVec 32 := Scalar.muli v11 c2_i32_134
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v147 : BitVec 32 := Scalar.muli v8 c1_i32_135
  let v148 : BitVec 32 := Scalar.addi v146 v147
  v148.toNat
def k0_off9 (d0 : Dev nD) : Fin 4 → Nat :=
  let c1_i32_170 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v178 : BitVec 32 := Scalar.subi c1_i32_170 v2
  let v179 : Index := Scalar.indexCast v178
  let c0_171 : Index := 0#32
  let c0_172 : Index := 0#32
  let c0_173 : Index := 0#32
  ![v179.toNat, 0, 0, 0]
def k0_off10 (d0 : Dev nD) : Fin 4 → Nat :=
  let c0_179 : Index := 0#32
  let c1_i32_178 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v186 : BitVec 32 := Scalar.subi c1_i32_178 v5
  let v187 : Index := Scalar.indexCast v186
  let c0_180 : Index := 0#32
  let c256 : Index := 256#32
  ![0, v187.toNat, 0, 256]
def k0_dev10 (d0 : Dev nD) : Nat :=
  let c0_i32_189 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_188 : BitVec 32 := 4#32
  let v194 : BitVec 32 := Scalar.muli v10 c4_i32_188
  let v195 : BitVec 32 := Scalar.addi c0_i32_189 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v196 : BitVec 32 := Scalar.muli v5 c2_i32_190
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v198 : BitVec 32 := Scalar.muli v8 c1_i32_191
  let v199 : BitVec 32 := Scalar.addi v197 v198
  v199.toNat
def k0_dev11 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v208 : BitVec 32 := Scalar.muli v2 c4_i32_201
  let v209 : BitVec 32 := Scalar.addi c0_i32_202 v208
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_203 : BitVec 32 := 2#32
  let v210 : BitVec 32 := Scalar.muli v11 c2_i32_203
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v212 : BitVec 32 := Scalar.muli v8 c1_i32_204
  let v213 : BitVec 32 := Scalar.addi v211 v212
  v213.toNat
def k0_off11 (d0 : Dev nD) : Fin 4 → Nat :=
  let c1_i32_239 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v243 : BitVec 32 := Scalar.subi c1_i32_239 v2
  let v244 : Index := Scalar.indexCast v243
  let c0_240 : Index := 0#32
  let c0_241 : Index := 0#32
  let c0_242 : Index := 0#32
  ![v244.toNat, 0, 0, 0]
def k0_off12 (d0 : Dev nD) : Fin 4 → Nat :=
  let c0_248 : Index := 0#32
  let c1_i32_247 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v251 : BitVec 32 := Scalar.subi c1_i32_247 v5
  let v252 : Index := Scalar.indexCast v251
  let c0_249 : Index := 0#32
  let c512_250 : Index := 512#32
  ![0, v252.toNat, 0, 512]
def k0_dev12 (d0 : Dev nD) : Nat :=
  let c0_i32_259 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_258 : BitVec 32 := 4#32
  let v259 : BitVec 32 := Scalar.muli v10 c4_i32_258
  let v260 : BitVec 32 := Scalar.addi c0_i32_259 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_260 : BitVec 32 := 2#32
  let v261 : BitVec 32 := Scalar.muli v5 c2_i32_260
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_261 : BitVec 32 := 1#32
  let v263 : BitVec 32 := Scalar.muli v8 c1_i32_261
  let v264 : BitVec 32 := Scalar.addi v262 v263
  v264.toNat
def k0_dev13 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v273 : BitVec 32 := Scalar.muli v2 c4_i32_271
  let v274 : BitVec 32 := Scalar.addi c0_i32_272 v273
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_273 : BitVec 32 := 2#32
  let v275 : BitVec 32 := Scalar.muli v11 c2_i32_273
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v277 : BitVec 32 := Scalar.muli v8 c1_i32_274
  let v278 : BitVec 32 := Scalar.addi v276 v277
  v278.toNat
def k0_dev14 (d0 : Dev nD) : Nat :=
  let c0_i32_295 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_294 : BitVec 32 := 4#32
  let v302 : BitVec 32 := Scalar.muli v10 c4_i32_294
  let v303 : BitVec 32 := Scalar.addi c0_i32_295 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_296 : BitVec 32 := 2#32
  let v304 : BitVec 32 := Scalar.muli v5 c2_i32_296
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v306 : BitVec 32 := Scalar.muli v8 c1_i32_297
  let v307 : BitVec 32 := Scalar.addi v305 v306
  v307.toNat
def k0_off13 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v336 : Index := Scalar.indexCast v2
  let c0_326 : Index := 0#32
  let c0_327 : Index := 0#32
  let c0_328 : Index := 0#32
  ![v336.toNat, 0, 0, 0]
def k0_off14 (d0 : Dev nD) : Fin 4 → Nat :=
  let c0_337 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v346 : Index := Scalar.indexCast v5
  let c0_338 : Index := 0#32
  let c512_339 : Index := 512#32
  ![0, v346.toNat, 0, 512]
def k0_off15 (d0 : Dev nD) : Fin 4 → Nat :=
  let c0_349 : Index := 0#32
  let c1_i32_348 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_348 v5
  let v357 : Index := Scalar.indexCast v356
  let c0_350 : Index := 0#32
  let c0_351 : Index := 0#32
  ![0, v357.toNat, 0, 0]
def k0_off16 (d0 : Dev nD) : Fin 4 → Nat :=
  let c1_356 : Index := 1#32
  let c1_i32_355 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v364 : BitVec 32 := Scalar.subi c1_i32_355 v2
  let v365 : Index := Scalar.indexCast v364
  let c0_357 : Index := 0#32
  let c0_358 : Index := 0#32
  ![1, v365.toNat, 0, 0]
def k0_dev15 (d0 : Dev nD) : Nat :=
  let c0_i32_366 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_365 : BitVec 32 := 4#32
  let v372 : BitVec 32 := Scalar.muli v2 c4_i32_365
  let v373 : BitVec 32 := Scalar.addi c0_i32_366 v372
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_367 : BitVec 32 := 2#32
  let v374 : BitVec 32 := Scalar.muli v11 c2_i32_367
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_368 : BitVec 32 := 1#32
  let v376 : BitVec 32 := Scalar.muli v8 c1_i32_368
  let v377 : BitVec 32 := Scalar.addi v375 v376
  v377.toNat
def k0_dev16 (d0 : Dev nD) : Nat :=
  let c0_i32_377 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_376 : BitVec 32 := 4#32
  let v386 : BitVec 32 := Scalar.muli v10 c4_i32_376
  let v387 : BitVec 32 := Scalar.addi c0_i32_377 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v388 : BitVec 32 := Scalar.muli v5 c2_i32_378
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_379 : BitVec 32 := 1#32
  let v390 : BitVec 32 := Scalar.muli v8 c1_i32_379
  let v391 : BitVec 32 := Scalar.addi v389 v390
  v391.toNat
def k0_off17 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : Index := Scalar.indexCast v2
  let c0_412 : Index := 0#32
  let c0_413 : Index := 0#32
  let c0_414 : Index := 0#32
  ![v424.toNat, 0, 0, 0]
def k0_off18 (d0 : Dev nD) : Fin 4 → Nat :=
  let c0_423 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v434 : Index := Scalar.indexCast v5
  let c0_424 : Index := 0#32
  let c256_425 : Index := 256#32
  ![0, v434.toNat, 0, 256]
def k0_off19 (d0 : Dev nD) : Fin 4 → Nat :=
  let c0_435 : Index := 0#32
  let c1_i32_434 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v444 : BitVec 32 := Scalar.subi c1_i32_434 v5
  let v445 : Index := Scalar.indexCast v444
  let c0_436 : Index := 0#32
  let c0_437 : Index := 0#32
  ![0, v445.toNat, 0, 0]
def k0_off20 (d0 : Dev nD) : Fin 4 → Nat :=
  let c1_442 : Index := 1#32
  let c1_i32_441 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v452 : BitVec 32 := Scalar.subi c1_i32_441 v2
  let v453 : Index := Scalar.indexCast v452
  let c0_443 : Index := 0#32
  let c0_444 : Index := 0#32
  ![1, v453.toNat, 0, 0]
def k0_dev17 (d0 : Dev nD) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v460 : BitVec 32 := Scalar.muli v2 c4_i32_451
  let v461 : BitVec 32 := Scalar.addi c0_i32_452 v460
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_453 : BitVec 32 := 2#32
  let v462 : BitVec 32 := Scalar.muli v11 c2_i32_453
  let v463 : BitVec 32 := Scalar.addi v461 v462
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v464 : BitVec 32 := Scalar.muli v8 c1_i32_454
  let v465 : BitVec 32 := Scalar.addi v463 v464
  v465.toNat
def k0_dev18 (d0 : Dev nD) : Nat :=
  let c0_i32_463 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_462 : BitVec 32 := 4#32
  let v474 : BitVec 32 := Scalar.muli v10 c4_i32_462
  let v475 : BitVec 32 := Scalar.addi c0_i32_463 v474
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_464 : BitVec 32 := 2#32
  let v476 : BitVec 32 := Scalar.muli v5 c2_i32_464
  let v477 : BitVec 32 := Scalar.addi v475 v476
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_465 : BitVec 32 := 1#32
  let v478 : BitVec 32 := Scalar.muli v8 c1_i32_465
  let v479 : BitVec 32 := Scalar.addi v477 v478
  v479.toNat
def k0_off21 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v512 : Index := Scalar.indexCast v2
  let c0_498 : Index := 0#32
  let c0_499 : Index := 0#32
  let c0_500 : Index := 0#32
  ![v512.toNat, 0, 0, 0]
def k0_off22 (d0 : Dev nD) : Fin 4 → Nat :=
  let c0_509 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v522 : Index := Scalar.indexCast v5
  let c0_510 : Index := 0#32
  let c512_511 : Index := 512#32
  ![0, v522.toNat, 0, 512]
def k0_off23 (d0 : Dev nD) : Fin 4 → Nat :=
  let c0_521 : Index := 0#32
  let c1_i32_520 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v532 : BitVec 32 := Scalar.subi c1_i32_520 v5
  let v533 : Index := Scalar.indexCast v532
  let c0_522 : Index := 0#32
  let c0_523 : Index := 0#32
  ![0, v533.toNat, 0, 0]
def k0_off24 (d0 : Dev nD) : Fin 4 → Nat :=
  let c1_528 : Index := 1#32
  let c1_i32_527 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v540 : BitVec 32 := Scalar.subi c1_i32_527 v2
  let v541 : Index := Scalar.indexCast v540
  let c0_529 : Index := 0#32
  let c0_530 : Index := 0#32
  ![1, v541.toNat, 0, 0]
def k0_dev19 (d0 : Dev nD) : Nat :=
  let c0_i32_538 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_537 : BitVec 32 := 4#32
  let v548 : BitVec 32 := Scalar.muli v2 c4_i32_537
  let v549 : BitVec 32 := Scalar.addi c0_i32_538 v548
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_539 : BitVec 32 := 2#32
  let v550 : BitVec 32 := Scalar.muli v11 c2_i32_539
  let v551 : BitVec 32 := Scalar.addi v549 v550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_540 : BitVec 32 := 1#32
  let v552 : BitVec 32 := Scalar.muli v8 c1_i32_540
  let v553 : BitVec 32 := Scalar.addi v551 v552
  v553.toNat
def k0_dev20 (d0 : Dev nD) : Nat :=
  let c0_i32_549 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_548 : BitVec 32 := 4#32
  let v562 : BitVec 32 := Scalar.muli v10 c4_i32_548
  let v563 : BitVec 32 := Scalar.addi c0_i32_549 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_550 : BitVec 32 := 2#32
  let v564 : BitVec 32 := Scalar.muli v5 c2_i32_550
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_551 : BitVec 32 := 1#32
  let v566 : BitVec 32 := Scalar.muli v8 c1_i32_551
  let v567 : BitVec 32 := Scalar.addi v565 v566
  v567.toNat
def k0_dev21 (d0 : Dev nD) : Nat :=
  let c0_i32_570 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_569 : BitVec 32 := 4#32
  let v590 : BitVec 32 := Scalar.muli v2 c4_i32_569
  let v591 : BitVec 32 := Scalar.addi c0_i32_570 v590
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_571 : BitVec 32 := 2#32
  let v592 : BitVec 32 := Scalar.muli v11 c2_i32_571
  let v593 : BitVec 32 := Scalar.addi v591 v592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v594 : BitVec 32 := Scalar.muli v8 c1_i32_572
  let v595 : BitVec 32 := Scalar.addi v593 v594
  v595.toNat
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32 : BitVec 32 := 416#32
  let v624 : BitVec 32 := Scalar.muli v8 c416_i32
  v624
def k0_off25 (d0 : Dev nD) : Fin 4 → Nat :=
  let c0_597 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v626 : Index := Scalar.indexCast v5
  let c0_598 : Index := 0#32
  let c0_599 : Index := 0#32
  ![0, v626.toNat, 0, 0]
def k0_off26 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32 : BitVec 32 := 416#32
  let v624 : BitVec 32 := Scalar.muli v8 c416_i32
  let v625 : BitVec 32 := v624
  let v633 : Index := Scalar.indexCast v625
  let c0_603 : Index := 0#32
  ![v633.toNat, 0]
def k0_off27 (d0 : Dev nD) : Fin 4 → Nat :=
  let c1_604 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v635 : Index := Scalar.indexCast v2
  let c0_605 : Index := 0#32
  let c0_606 : Index := 0#32
  ![1, v635.toNat, 0, 0]
def k0_off28 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32 : BitVec 32 := 416#32
  let v624 : BitVec 32 := Scalar.muli v8 c416_i32
  let v625 : BitVec 32 := v624
  let v642 : Index := Scalar.indexCast v625
  let c512_610 : Index := 512#32
  ![v642.toNat, 512]
def k0_off29 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32 : BitVec 32 := 416#32
  let v624 : BitVec 32 := Scalar.muli v8 c416_i32
  let v625 : BitVec 32 := v624
  let c0_i32_616 : BitVec 32 := 0#32
  ![v625.toNat, 0]
def k0_dev22 (d0 : Dev nD) : Nat :=
  let c0_i32_613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_612 : BitVec 32 := 4#32
  let v644 : BitVec 32 := Scalar.muli v2 c4_i32_612
  let v645 : BitVec 32 := Scalar.addi c0_i32_613 v644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_614 : BitVec 32 := 2#32
  let v646 : BitVec 32 := Scalar.muli v5 c2_i32_614
  let v647 : BitVec 32 := Scalar.addi v645 v646
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_615 : BitVec 32 := 1#32
  let v648 : BitVec 32 := Scalar.muli v9 c1_i32_615
  let v649 : BitVec 32 := Scalar.addi v647 v648
  v649.toNat
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v680 : BitVec 32 := Scalar.muli v8 c128_i32
  v680
def k0_off30 (d0 : Dev nD) : Fin 4 → Nat :=
  let c0_642 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v682 : Index := Scalar.indexCast v5
  let c0_643 : Index := 0#32
  let c0_644 : Index := 0#32
  ![0, v682.toNat, 0, 0]
def k0_off31 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v680 : BitVec 32 := Scalar.muli v8 c128_i32
  let v681 : BitVec 32 := v680
  let v689 : Index := Scalar.indexCast v681
  let c0_648 : Index := 0#32
  ![v689.toNat, 0]
def k0_off32 (d0 : Dev nD) : Fin 4 → Nat :=
  let c1_649 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v691 : Index := Scalar.indexCast v2
  let c0_650 : Index := 0#32
  let c0_651 : Index := 0#32
  ![1, v691.toNat, 0, 0]
def k0_off33 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v680 : BitVec 32 := Scalar.muli v8 c128_i32
  let v681 : BitVec 32 := v680
  let v698 : Index := Scalar.indexCast v681
  let c256_655 : Index := 256#32
  ![v698.toNat, 256]
def k0_off34 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v680 : BitVec 32 := Scalar.muli v8 c128_i32
  let v681 : BitVec 32 := v680
  let c0_i32_661 : BitVec 32 := 0#32
  ![v681.toNat, 0]
def k0_dev23 (d0 : Dev nD) : Nat :=
  let c0_i32_658 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_657 : BitVec 32 := 4#32
  let v700 : BitVec 32 := Scalar.muli v2 c4_i32_657
  let v701 : BitVec 32 := Scalar.addi c0_i32_658 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_659 : BitVec 32 := 2#32
  let v702 : BitVec 32 := Scalar.muli v5 c2_i32_659
  let v703 : BitVec 32 := Scalar.addi v701 v702
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_660 : BitVec 32 := 1#32
  let v704 : BitVec 32 := Scalar.muli v9 c1_i32_660
  let v705 : BitVec 32 := Scalar.addi v703 v704
  v705.toNat
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_687 : BitVec 32 := 128#32
  let v736 : BitVec 32 := Scalar.muli v8 c128_i32_687
  v736
def k0_off35 (d0 : Dev nD) : Fin 4 → Nat :=
  let c0_688 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v738 : Index := Scalar.indexCast v5
  let c0_689 : Index := 0#32
  let c0_690 : Index := 0#32
  ![0, v738.toNat, 0, 0]
def k0_off36 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_687 : BitVec 32 := 128#32
  let v736 : BitVec 32 := Scalar.muli v8 c128_i32_687
  let v737 : BitVec 32 := v736
  let v745 : Index := Scalar.indexCast v737
  let c0_694 : Index := 0#32
  ![v745.toNat, 0]
def k0_off37 (d0 : Dev nD) : Fin 4 → Nat :=
  let c1_695 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v747 : Index := Scalar.indexCast v2
  let c0_696 : Index := 0#32
  let c0_697 : Index := 0#32
  ![1, v747.toNat, 0, 0]
def k0_off38 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_687 : BitVec 32 := 128#32
  let v736 : BitVec 32 := Scalar.muli v8 c128_i32_687
  let v737 : BitVec 32 := v736
  let v754 : Index := Scalar.indexCast v737
  let c512_701 : Index := 512#32
  ![v754.toNat, 512]
def k0_off39 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_687 : BitVec 32 := 128#32
  let v736 : BitVec 32 := Scalar.muli v8 c128_i32_687
  let v737 : BitVec 32 := v736
  let c0_i32_707 : BitVec 32 := 0#32
  ![v737.toNat, 0]
def k0_dev24 (d0 : Dev nD) : Nat :=
  let c0_i32_704 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_703 : BitVec 32 := 4#32
  let v756 : BitVec 32 := Scalar.muli v2 c4_i32_703
  let v757 : BitVec 32 := Scalar.addi c0_i32_704 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_705 : BitVec 32 := 2#32
  let v758 : BitVec 32 := Scalar.muli v5 c2_i32_705
  let v759 : BitVec 32 := Scalar.addi v757 v758
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_706 : BitVec 32 := 1#32
  let v760 : BitVec 32 := Scalar.muli v9 c1_i32_706
  let v761 : BitVec 32 := Scalar.addi v759 v760
  v761.toNat
def k0_mult4 (d0 : Dev nD) : BitVec 32 :=
  let c1_i32_721 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v780 : BitVec 32 := Scalar.subi c1_i32_721 v8
  let c416_i32_722 : BitVec 32 := 416#32
  let v781 : BitVec 32 := Scalar.muli v780 c416_i32_722
  v781
def k0_off40 (d0 : Dev nD) : Fin 2 → Nat :=
  let c1_i32_721 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v780 : BitVec 32 := Scalar.subi c1_i32_721 v8
  let c416_i32_722 : BitVec 32 := 416#32
  let v781 : BitVec 32 := Scalar.muli v780 c416_i32_722
  let v782 : BitVec 32 := v781
  let c0_i32_729 : BitVec 32 := 0#32
  ![v782.toNat, 0]
def k0_mult5 (d0 : Dev nD) : BitVec 32 :=
  let c1_i32_731 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v793 : BitVec 32 := Scalar.subi c1_i32_731 v8
  let c128_i32_732 : BitVec 32 := 128#32
  let v794 : BitVec 32 := Scalar.muli v793 c128_i32_732
  v794
def k0_off41 (d0 : Dev nD) : Fin 2 → Nat :=
  let c1_i32_731 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v793 : BitVec 32 := Scalar.subi c1_i32_731 v8
  let c128_i32_732 : BitVec 32 := 128#32
  let v794 : BitVec 32 := Scalar.muli v793 c128_i32_732
  let v795 : BitVec 32 := v794
  let c0_i32_739 : BitVec 32 := 0#32
  ![v795.toNat, 0]
def k0_mult6 (d0 : Dev nD) : BitVec 32 :=
  let c1_i32_741 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v806 : BitVec 32 := Scalar.subi c1_i32_741 v8
  let c128_i32_742 : BitVec 32 := 128#32
  let v807 : BitVec 32 := Scalar.muli v806 c128_i32_742
  v807
def k0_off42 (d0 : Dev nD) : Fin 2 → Nat :=
  let c1_i32_741 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v806 : BitVec 32 := Scalar.subi c1_i32_741 v8
  let c128_i32_742 : BitVec 32 := 128#32
  let v807 : BitVec 32 := Scalar.muli v806 c128_i32_742
  let v808 : BitVec 32 := v807
  let c0_i32_749 : BitVec 32 := 0#32
  ![v808.toNat, 0]
abbrev stage0_0 : Fin 1 → Memref sig .tc .vmem S640x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S832x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReduceRefIdeal.lean ====
abbrev S16x2x2x416x1024 : Shape := ⟨5, ![16, 2, 2, 416, 1024]⟩
abbrev S16x2x2x128x512 : Shape := ⟨5, ![16, 2, 2, 128, 512]⟩
abbrev S16x2x2x128x1024 : Shape := ⟨5, ![16, 2, 2, 128, 1024]⟩
abbrev S5120x128 : Shape := ⟨2, ![5120, 128]⟩
abbrev S8x3328x1024 : Shape := ⟨3, ![8, 3328, 1024]⟩
abbrev S_ : Shape := ⟨0, ![]⟩
abbrev S3328x1024 : Shape := ⟨2, ![3328, 1024]⟩
abbrev S8x1024x512 : Shape := ⟨3, ![8, 1024, 512]⟩
abbrev S1024x512 : Shape := ⟨2, ![1024, 512]⟩
abbrev S8x1024x1024 : Shape := ⟨3, ![8, 1024, 1024]⟩
abbrev S1024x1024 : Shape := ⟨2, ![1024, 1024]⟩
abbrev S8x640x128 : Shape := ⟨3, ![8, 640, 128]⟩
abbrev S640x128 : Shape := ⟨2, ![640, 128]⟩

abbrev nBuf : Space → Nat
  | .hbm => 16
  | .vmem => 0
  | .smem => 0
  | _ => 0

abbrev bufTy : (tb : Table) → Fin (tcTables nBuf tb) → BufTy
  | .hbm, ⟨0, _⟩ => ⟨S16x2x2x416x1024, .f32⟩
  | .hbm, ⟨1, _⟩ => ⟨S16x2x2x128x512, .f32⟩
  | .hbm, ⟨2, _⟩ => ⟨S16x2x2x128x1024, .f32⟩
  | .hbm, ⟨3, _⟩ => ⟨S5120x128, .f32⟩
  | .hbm, ⟨4, _⟩ => ⟨S8x3328x1024, .f32⟩
  | .hbm, ⟨5, _⟩ => ⟨S_, .f32⟩
  | .hbm, ⟨6, _⟩ => ⟨S3328x1024, .f32⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x1024, .f32⟩
  | .hbm, ⟨11, _⟩ => ⟨S_, .f32⟩
  | .hbm, ⟨12, _⟩ => ⟨S1024x1024, .f32⟩
  | .hbm, ⟨13, _⟩ => ⟨S8x640x128, .f32⟩
  | .hbm, ⟨14, _⟩ => ⟨S_, .f32⟩
  | .hbm, ⟨15, _⟩ => ⟨S640x128, .f32⟩
  | _, _ => ⟨S16x2x2x416x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Gather.lean ====
abbrev S832x1024 : Shape := ⟨2, ![832, 1024]⟩
abbrev S256x512 : Shape := ⟨2, ![256, 512]⟩
abbrev S256x1024 : Shape := ⟨2, ![256, 1024]⟩
abbrev S3328x1024 : Shape := ⟨2, ![3328, 1024]⟩
abbrev S1024x512 : Shape := ⟨2, ![1024, 512]⟩
abbrev S1024x1024 : Shape := ⟨2, ![1024, 1024]⟩
abbrev S18 : Shape := ⟨1, ![18]⟩
abbrev S_ : Shape := ⟨0, ![]⟩
abbrev S1 : Shape := ⟨1, ![1]⟩
abbrev S416x1024 : Shape := ⟨2, ![416, 1024]⟩
abbrev S128x512 : Shape := ⟨2, ![128, 512]⟩
abbrev S128x1024 : Shape := ⟨2, ![128, 1024]⟩

abbrev nBuf : Space → Nat
  | .hbm => 6
  | .vmem => 6
  | .smem => 0
  | _ => 0

abbrev bufTy : (tb : Table) → Fin (tcTables nBuf tb) → BufTy
  | .hbm, ⟨0, _⟩ => ⟨S832x1024, .f32⟩
  | .hbm, ⟨1, _⟩ => ⟨S256x512, .f32⟩
  | .hbm, ⟨2, _⟩ => ⟨S256x1024, .f32⟩
  | .hbm, ⟨3, _⟩ => ⟨S3328x1024, .bf16⟩
  | .hbm, ⟨4, _⟩ => ⟨S1024x512, .bf16⟩
  | .hbm, ⟨5, _⟩ => ⟨S1024x1024, .bf16⟩
  | .local _ .vmem, ⟨0, _⟩ => ⟨S832x1024, .f32⟩
  | .local _ .vmem, ⟨1, _⟩ => ⟨S256x512, .f32⟩
  | .local _ .vmem, ⟨2, _⟩ => ⟨S256x1024, .f32⟩
  | .local _ .vmem, ⟨3, _⟩ => ⟨S3328x1024, .bf16⟩
  | .local _ .vmem, ⟨4, _⟩ => ⟨S1024x512, .bf16⟩
  | .local _ .vmem, ⟨5, _⟩ => ⟨S1024x1024, .bf16⟩
  | _, _ => ⟨S832x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v21 : BitVec 32 := Scalar.muli v2 c4_i32_14
  let v22 : BitVec 32 := Scalar.addi c0_i32 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v23 : BitVec 32 := Scalar.muli v5 c2_i32_15
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_16 : BitVec 32 := 1#32
  let v25 : BitVec 32 := Scalar.muli v11 c1_i32_16
  let v26 : BitVec 32 := Scalar.addi v24 v25
  v26.toNat
def k0_dev2 (d0 : Dev nD) : Nat :=
  let c0_i32_19 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_18 : BitVec 32 := 4#32
  let v27 : BitVec 32 := Scalar.muli v17 c4_i32_18
  let v28 : BitVec 32 := Scalar.addi c0_i32_19 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v29 : BitVec 32 := Scalar.muli v5 c2_i32_20
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v31 : BitVec 32 := Scalar.muli v8 c1_i32_21
  let v32 : BitVec 32 := Scalar.addi v30 v31
  v32.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let c2_i32_25 : BitVec 32 := 2#32
  let v35 : BitVec 32 := Scalar.muli v18 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_dev4 (d0 : Dev nD) : Nat :=
  let c0_i32_29 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_11 v2
  let c4_i32_28 : BitVec 32 := 4#32
  let v39 : BitVec 32 := Scalar.muli v19 c4_i32_28
  let v40 : BitVec 32 := Scalar.addi c0_i32_29 v39
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_12 v5
  let c2_i32_30 : BitVec 32 := 2#32
  let v41 : BitVec 32 := Scalar.muli v20 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_mult1 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c832_i32 : BitVec 32 := 832#32
  let v48 : BitVec 32 := Scalar.muli v10 c832_i32
  v48
def k0_off1 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c832_i32 : BitVec 32 := 832#32
  let v48 : BitVec 32 := Scalar.muli v10 c832_i32
  let v49 : BitVec 32 := v48
  let v50 : Index := Scalar.indexCast v49
  let c0_34 : Index := 0#32
  ![v50.toNat, 0]
def k0_mult2 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v55 : BitVec 32 := Scalar.muli v10 c256_i32
  v55
def k0_off2 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v55 : BitVec 32 := Scalar.muli v10 c256_i32
  let v56 : BitVec 32 := v55
  let v57 : Index := Scalar.indexCast v56
  let c0_37 : Index := 0#32
  ![v57.toNat, 0]
def k0_mult3 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_40 : BitVec 32 := 256#32
  let v62 : BitVec 32 := Scalar.muli v10 c256_i32_40
  v62
def k0_off3 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_40 : BitVec 32 := 256#32
  let v62 : BitVec 32 := Scalar.muli v10 c256_i32_40
  let v63 : BitVec 32 := v62
  let v64 : Index := Scalar.indexCast v63
  let c0_41 : Index := 0#32
  ![v64.toNat, 0]
def k0_mult4 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c832_i32_42 : BitVec 32 := 832#32
  let v66 : BitVec 32 := Scalar.muli v10 c832_i32_42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32 : BitVec 32 := 416#32
  let v67 : BitVec 32 := Scalar.muli v8 c416_i32
  let v68 : BitVec 32 := Scalar.addi v66 v67
  v68
def k0_off4 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c832_i32_42 : BitVec 32 := 832#32
  let v66 : BitVec 32 := Scalar.muli v10 c832_i32_42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32 : BitVec 32 := 416#32
  let v67 : BitVec 32 := Scalar.muli v8 c416_i32
  let v68 : BitVec 32 := Scalar.addi v66 v67
  let v69 : BitVec 32 := v68
  let c0_i32_49 : BitVec 32 := 0#32
  ![v69.toNat, 0]
def k0_dev5 (d0 : Dev nD) : Nat :=
  let c0_i32_46 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_45 : BitVec 32 := 4#32
  let v70 : BitVec 32 := Scalar.muli v12 c4_i32_45
  let v71 : BitVec 32 := Scalar.addi c0_i32_46 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v72 : BitVec 32 := Scalar.muli v5 c2_i32_47
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v74 : BitVec 32 := Scalar.muli v8 c1_i32_48
  let v75 : BitVec 32 := Scalar.addi v73 v74
  v75.toNat
def k0_mult5 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c832_i32_51 : BitVec 32 := 832#32
  let v82 : BitVec 32 := Scalar.muli v10 c832_i32_51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_52 : BitVec 32 := 416#32
  let v83 : BitVec 32 := Scalar.muli v8 c416_i32_52
  let v84 : BitVec 32 := Scalar.addi v82 v83
  v84
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v86 : BitVec 32 := Scalar.muli v2 c4_i32_55
  let v87 : BitVec 32 := Scalar.addi c0_i32_56 v86
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_57 : BitVec 32 := 2#32
  let v88 : BitVec 32 := Scalar.muli v13 c2_i32_57
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v90 : BitVec 32 := Scalar.muli v8 c1_i32_58
  let v91 : BitVec 32 := Scalar.addi v89 v90
  v91.toNat
def k0_mult6 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c832_i32_61 : BitVec 32 := 832#32
  let v98 : BitVec 32 := Scalar.muli v10 c832_i32_61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_62 : BitVec 32 := 416#32
  let v99 : BitVec 32 := Scalar.muli v8 c416_i32_62
  let v100 : BitVec 32 := Scalar.addi v98 v99
  v100
def k0_dev7 (d0 : Dev nD) : Nat :=
  let c0_i32_66 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_65 : BitVec 32 := 4#32
  let v102 : BitVec 32 := Scalar.muli v14 c4_i32_65
  let v103 : BitVec 32 := Scalar.addi c0_i32_66 v102
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_67 : BitVec 32 := 2#32
  let v104 : BitVec 32 := Scalar.muli v15 c2_i32_67
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v106 : BitVec 32 := Scalar.muli v8 c1_i32_68
  let v107 : BitVec 32 := Scalar.addi v105 v106
  v107.toNat
def k0_mult7 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_71 : BitVec 32 := 256#32
  let v114 : BitVec 32 := Scalar.muli v10 c256_i32_71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v115 : BitVec 32 := Scalar.muli v8 c128_i32
  let v116 : BitVec 32 := Scalar.addi v114 v115
  v116
def k0_off5 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_71 : BitVec 32 := 256#32
  let v114 : BitVec 32 := Scalar.muli v10 c256_i32_71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v115 : BitVec 32 := Scalar.muli v8 c128_i32
  let v116 : BitVec 32 := Scalar.addi v114 v115
  let v117 : BitVec 32 := v116
  let c0_i32_77 : BitVec 32 := 0#32
  ![v117.toNat, 0]
def k0_dev8 (d0 : Dev nD) : Nat :=
  let c0_i32_74 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_73 : BitVec 32 := 4#32
  let v118 : BitVec 32 := Scalar.muli v12 c4_i32_73
  let v119 : BitVec 32 := Scalar.addi c0_i32_74 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v120 : BitVec 32 := Scalar.muli v5 c2_i32_75
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v122 : BitVec 32 := Scalar.muli v8 c1_i32_76
  let v123 : BitVec 32 := Scalar.addi v121 v122
  v123.toNat
def k0_mult8 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_79 : BitVec 32 := 256#32
  let v130 : BitVec 32 := Scalar.muli v10 c256_i32_79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_80 : BitVec 32 := 128#32
  let v131 : BitVec 32 := Scalar.muli v8 c128_i32_80
  let v132 : BitVec 32 := Scalar.addi v130 v131
  v132
def k0_dev9 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v134 : BitVec 32 := Scalar.muli v2 c4_i32_82
  let v135 : BitVec 32 := Scalar.addi c0_i32_83 v134
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_84 : BitVec 32 := 2#32
  let v136 : BitVec 32 := Scalar.muli v13 c2_i32_84
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v138 : BitVec 32 := Scalar.muli v8 c1_i32_85
  let v139 : BitVec 32 := Scalar.addi v137 v138
  v139.toNat
def k0_mult9 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_88 : BitVec 32 := 256#32
  let v146 : BitVec 32 := Scalar.muli v10 c256_i32_88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_89 : BitVec 32 := 128#32
  let v147 : BitVec 32 := Scalar.muli v8 c128_i32_89
  let v148 : BitVec 32 := Scalar.addi v146 v147
  v148
def k0_dev10 (d0 : Dev nD) : Nat :=
  let c0_i32_92 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_91 : BitVec 32 := 4#32
  let v150 : BitVec 32 := Scalar.muli v14 c4_i32_91
  let v151 : BitVec 32 := Scalar.addi c0_i32_92 v150
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_93 : BitVec 32 := 2#32
  let v152 : BitVec 32 := Scalar.muli v15 c2_i32_93
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v154 : BitVec 32 := Scalar.muli v8 c1_i32_94
  let v155 : BitVec 32 := Scalar.addi v153 v154
  v155.toNat
def k0_mult10 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_97 : BitVec 32 := 256#32
  let v162 : BitVec 32 := Scalar.muli v10 c256_i32_97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_98 : BitVec 32 := 128#32
  let v163 : BitVec 32 := Scalar.muli v8 c128_i32_98
  let v164 : BitVec 32 := Scalar.addi v162 v163
  v164
def k0_off6 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_97 : BitVec 32 := 256#32
  let v162 : BitVec 32 := Scalar.muli v10 c256_i32_97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_98 : BitVec 32 := 128#32
  let v163 : BitVec 32 := Scalar.muli v8 c128_i32_98
  let v164 : BitVec 32 := Scalar.addi v162 v163
  let v165 : BitVec 32 := v164
  let c0_i32_104 : BitVec 32 := 0#32
  ![v165.toNat, 0]
def k0_dev11 (d0 : Dev nD) : Nat :=
  let c0_i32_101 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_100 : BitVec 32 := 4#32
  let v166 : BitVec 32 := Scalar.muli v12 c4_i32_100
  let v167 : BitVec 32 := Scalar.addi c0_i32_101 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v168 : BitVec 32 := Scalar.muli v5 c2_i32_102
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v170 : BitVec 32 := Scalar.muli v8 c1_i32_103
  let v171 : BitVec 32 := Scalar.addi v169 v170
  v171.toNat
def k0_mult11 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_106 : BitVec 32 := 256#32
  let v178 : BitVec 32 := Scalar.muli v10 c256_i32_106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_107 : BitVec 32 := 128#32
  let v179 : BitVec 32 := Scalar.muli v8 c128_i32_107
  let v180 : BitVec 32 := Scalar.addi v178 v179
  v180
def k0_dev12 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v182 : BitVec 32 := Scalar.muli v2 c4_i32_109
  let v183 : BitVec 32 := Scalar.addi c0_i32_110 v182
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_111 : BitVec 32 := 2#32
  let v184 : BitVec 32 := Scalar.muli v13 c2_i32_111
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v186 : BitVec 32 := Scalar.muli v8 c1_i32_112
  let v187 : BitVec 32 := Scalar.addi v185 v186
  v187.toNat
def k0_mult12 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_115 : BitVec 32 := 256#32
  let v194 : BitVec 32 := Scalar.muli v10 c256_i32_115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_116 : BitVec 32 := 128#32
  let v195 : BitVec 32 := Scalar.muli v8 c128_i32_116
  let v196 : BitVec 32 := Scalar.addi v194 v195
  v196
def k0_dev13 (d0 : Dev nD) : Nat :=
  let c0_i32_119 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_118 : BitVec 32 := 4#32
  let v198 : BitVec 32 := Scalar.muli v14 c4_i32_118
  let v199 : BitVec 32 := Scalar.addi c0_i32_119 v198
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_120 : BitVec 32 := 2#32
  let v200 : BitVec 32 := Scalar.muli v15 c2_i32_120
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v202 : BitVec 32 := Scalar.muli v8 c1_i32_121
  let v203 : BitVec 32 := Scalar.addi v201 v202
  v203.toNat
def k0_mult13 (d0 : Dev nD) : BitVec 32 :=
  let c2_i32_124 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v210 : BitVec 32 := Scalar.muli c2_i32_124 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v211 : BitVec 32 := Scalar.addi v210 v5
  let c832_i32_125 : BitVec 32 := 832#32
  let v212 : BitVec 32 := Scalar.muli v211 c832_i32_125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_126 : BitVec 32 := 416#32
  let v213 : BitVec 32 := Scalar.muli v8 c416_i32_126
  let v214 : BitVec 32 := Scalar.addi v212 v213
  v214
def k0_off7 (d0 : Dev nD) : Fin 2 → Nat :=
  let c2_i32_124 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v210 : BitVec 32 := Scalar.muli c2_i32_124 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v211 : BitVec 32 := Scalar.addi v210 v5
  let c832_i32_125 : BitVec 32 := 832#32
  let v212 : BitVec 32 := Scalar.muli v211 c832_i32_125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_126 : BitVec 32 := 416#32
  let v213 : BitVec 32 := Scalar.muli v8 c416_i32_126
  let v214 : BitVec 32 := Scalar.addi v212 v213
  let v215 : BitVec 32 := v214
  let c0_i32_133 : BitVec 32 := 0#32
  ![v215.toNat, 0]
def k0_dev14 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_137 : BitVec 32 := 4#32
  let v226 : BitVec 32 := Scalar.muli v2 c4_i32_137
  let v227 : BitVec 32 := Scalar.addi c0_i32_138 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v228 : BitVec 32 := Scalar.muli v5 c2_i32_139
  let v229 : BitVec 32 := Scalar.addi v227 v228
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_140 : BitVec 32 := 1#32
  let v230 : BitVec 32 := Scalar.muli v11 c1_i32_140
  let v231 : BitVec 32 := Scalar.addi v229 v230
  v231.toNat
def k0_mult14 (d0 : Dev nD) : BitVec 32 :=
  let c2_i32_143 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v238 : BitVec 32 := Scalar.muli c2_i32_143 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v239 : BitVec 32 := Scalar.addi v238 v13
  let c832_i32_144 : BitVec 32 := 832#32
  let v240 : BitVec 32 := Scalar.muli v239 c832_i32_144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_145 : BitVec 32 := 416#32
  let v241 : BitVec 32 := Scalar.muli v8 c416_i32_145
  let v242 : BitVec 32 := Scalar.addi v240 v241
  v242
def k0_off8 (d0 : Dev nD) : Fin 2 → Nat :=
  let c2_i32_143 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v238 : BitVec 32 := Scalar.muli c2_i32_143 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v239 : BitVec 32 := Scalar.addi v238 v13
  let c832_i32_144 : BitVec 32 := 832#32
  let v240 : BitVec 32 := Scalar.muli v239 c832_i32_144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_145 : BitVec 32 := 416#32
  let v241 : BitVec 32 := Scalar.muli v8 c416_i32_145
  let v242 : BitVec 32 := Scalar.addi v240 v241
  let v243 : BitVec 32 := v242
  let c0_i32_152 : BitVec 32 := 0#32
  ![v243.toNat, 0]
def k0_dev15 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v254 : BitVec 32 := Scalar.muli v2 c4_i32_155
  let v255 : BitVec 32 := Scalar.addi c0_i32_156 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v256 : BitVec 32 := Scalar.muli v5 c2_i32_157
  let v257 : BitVec 32 := Scalar.addi v255 v256
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_158 : BitVec 32 := 1#32
  let v258 : BitVec 32 := Scalar.muli v11 c1_i32_158
  let v259 : BitVec 32 := Scalar.addi v257 v258
  v259.toNat
def k0_mult15 (d0 : Dev nD) : BitVec 32 :=
  let c2_i32_161 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v266 : BitVec 32 := Scalar.muli c2_i32_161 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v267 : BitVec 32 := Scalar.addi v266 v15
  let c832_i32_162 : BitVec 32 := 832#32
  let v268 : BitVec 32 := Scalar.muli v267 c832_i32_162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_163 : BitVec 32 := 416#32
  let v269 : BitVec 32 := Scalar.muli v8 c416_i32_163
  let v270 : BitVec 32 := Scalar.addi v268 v269
  v270
def k0_off9 (d0 : Dev nD) : Fin 2 → Nat :=
  let c2_i32_161 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v266 : BitVec 32 := Scalar.muli c2_i32_161 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v267 : BitVec 32 := Scalar.addi v266 v15
  let c832_i32_162 : BitVec 32 := 832#32
  let v268 : BitVec 32 := Scalar.muli v267 c832_i32_162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c416_i32_163 : BitVec 32 := 416#32
  let v269 : BitVec 32 := Scalar.muli v8 c416_i32_163
  let v270 : BitVec 32 := Scalar.addi v268 v269
  let v271 : BitVec 32 := v270
  let c0_i32_170 : BitVec 32 := 0#32
  ![v271.toNat, 0]
def k0_dev16 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_173 : BitVec 32 := 4#32
  let v282 : BitVec 32 := Scalar.muli v2 c4_i32_173
  let v283 : BitVec 32 := Scalar.addi c0_i32_174 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v284 : BitVec 32 := Scalar.muli v5 c2_i32_175
  let v285 : BitVec 32 := Scalar.addi v283 v284
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_176 : BitVec 32 := 1#32
  let v286 : BitVec 32 := Scalar.muli v11 c1_i32_176
  let v287 : BitVec 32 := Scalar.addi v285 v286
  v287.toNat
def k0_mult16 (d0 : Dev nD) : BitVec 32 :=
  let c2_i32_179 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v294 : BitVec 32 := Scalar.muli c2_i32_179 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v295 : BitVec 32 := Scalar.addi v294 v5
  let c256_i32_180 : BitVec 32 := 256#32
  let v296 : BitVec 32 := Scalar.muli v295 c256_i32_180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_181 : BitVec 32 := 128#32
  let v297 : BitVec 32 := Scalar.muli v8 c128_i32_181
  let v298 : BitVec 32 := Scalar.addi v296 v297
  v298
def k0_off10 (d0 : Dev nD) : Fin 2 → Nat :=
  let c2_i32_179 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v294 : BitVec 32 := Scalar.muli c2_i32_179 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v295 : BitVec 32 := Scalar.addi v294 v5
  let c256_i32_180 : BitVec 32 := 256#32
  let v296 : BitVec 32 := Scalar.muli v295 c256_i32_180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_181 : BitVec 32 := 128#32
  let v297 : BitVec 32 := Scalar.muli v8 c128_i32_181
  let v298 : BitVec 32 := Scalar.addi v296 v297
  let v299 : BitVec 32 := v298
  let c0_i32_188 : BitVec 32 := 0#32
  ![v299.toNat, 0]
def k0_dev17 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v310 : BitVec 32 := Scalar.muli v2 c4_i32_191
  let v311 : BitVec 32 := Scalar.addi c0_i32_192 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v312 : BitVec 32 := Scalar.muli v5 c2_i32_193
  let v313 : BitVec 32 := Scalar.addi v311 v312
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_194 : BitVec 32 := 1#32
  let v314 : BitVec 32 := Scalar.muli v11 c1_i32_194
  let v315 : BitVec 32 := Scalar.addi v313 v314
  v315.toNat
def k0_mult17 (d0 : Dev nD) : BitVec 32 :=
  let c2_i32_197 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v322 : BitVec 32 := Scalar.muli c2_i32_197 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v323 : BitVec 32 := Scalar.addi v322 v13
  let c256_i32_198 : BitVec 32 := 256#32
  let v324 : BitVec 32 := Scalar.muli v323 c256_i32_198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_199 : BitVec 32 := 128#32
  let v325 : BitVec 32 := Scalar.muli v8 c128_i32_199
  let v326 : BitVec 32 := Scalar.addi v324 v325
  v326
def k0_off11 (d0 : Dev nD) : Fin 2 → Nat :=
  let c2_i32_197 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v322 : BitVec 32 := Scalar.muli c2_i32_197 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v323 : BitVec 32 := Scalar.addi v322 v13
  let c256_i32_198 : BitVec 32 := 256#32
  let v324 : BitVec 32 := Scalar.muli v323 c256_i32_198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_199 : BitVec 32 := 128#32
  let v325 : BitVec 32 := Scalar.muli v8 c128_i32_199
  let v326 : BitVec 32 := Scalar.addi v324 v325
  let v327 : BitVec 32 := v326
  let c0_i32_206 : BitVec 32 := 0#32
  ![v327.toNat, 0]
def k0_dev18 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v338 : BitVec 32 := Scalar.muli v2 c4_i32_209
  let v339 : BitVec 32 := Scalar.addi c0_i32_210 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v340 : BitVec 32 := Scalar.muli v5 c2_i32_211
  let v341 : BitVec 32 := Scalar.addi v339 v340
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_212 : BitVec 32 := 1#32
  let v342 : BitVec 32 := Scalar.muli v11 c1_i32_212
  let v343 : BitVec 32 := Scalar.addi v341 v342
  v343.toNat
def k0_mult18 (d0 : Dev nD) : BitVec 32 :=
  let c2_i32_215 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v350 : BitVec 32 := Scalar.muli c2_i32_215 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v351 : BitVec 32 := Scalar.addi v350 v15
  let c256_i32_216 : BitVec 32 := 256#32
  let v352 : BitVec 32 := Scalar.muli v351 c256_i32_216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_217 : BitVec 32 := 128#32
  let v353 : BitVec 32 := Scalar.muli v8 c128_i32_217
  let v354 : BitVec 32 := Scalar.addi v352 v353
  v354
def k0_off12 (d0 : Dev nD) : Fin 2 → Nat :=
  let c2_i32_215 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v350 : BitVec 32 := Scalar.muli c2_i32_215 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v351 : BitVec 32 := Scalar.addi v350 v15
  let c256_i32_216 : BitVec 32 := 256#32
  let v352 : BitVec 32 := Scalar.muli v351 c256_i32_216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_217 : BitVec 32 := 128#32
  let v353 : BitVec 32 := Scalar.muli v8 c128_i32_217
  let v354 : BitVec 32 := Scalar.addi v352 v353
  let v355 : BitVec 32 := v354
  let c0_i32_224 : BitVec 32 := 0#32
  ![v355.toNat, 0]
def k0_dev19 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v366 : BitVec 32 := Scalar.muli v2 c4_i32_227
  let v367 : BitVec 32 := Scalar.addi c0_i32_228 v366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v368 : BitVec 32 := Scalar.muli v5 c2_i32_229
  let v369 : BitVec 32 := Scalar.addi v367 v368
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_230 : BitVec 32 := 1#32
  let v370 : BitVec 32 := Scalar.muli v11 c1_i32_230
  let v371 : BitVec 32 := Scalar.addi v369 v370
  v371.toNat
def k0_mult19 (d0 : Dev nD) : BitVec 32 :=
  let c2_i32_233 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v378 : BitVec 32 := Scalar.muli c2_i32_233 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v379 : BitVec 32 := Scalar.addi v378 v5
  let c256_i32_234 : BitVec 32 := 256#32
  let v380 : BitVec 32 := Scalar.muli v379 c256_i32_234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_235 : BitVec 32 := 128#32
  let v381 : BitVec 32 := Scalar.muli v8 c128_i32_235
  let v382 : BitVec 32 := Scalar.addi v380 v381
  v382
def k0_off13 (d0 : Dev nD) : Fin 2 → Nat :=
  let c2_i32_233 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v378 : BitVec 32 := Scalar.muli c2_i32_233 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v379 : BitVec 32 := Scalar.addi v378 v5
  let c256_i32_234 : BitVec 32 := 256#32
  let v380 : BitVec 32 := Scalar.muli v379 c256_i32_234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_235 : BitVec 32 := 128#32
  let v381 : BitVec 32 := Scalar.muli v8 c128_i32_235
  let v382 : BitVec 32 := Scalar.addi v380 v381
  let v383 : BitVec 32 := v382
  let c0_i32_242 : BitVec 32 := 0#32
  ![v383.toNat, 0]
def k0_dev20 (d0 : Dev nD) : Nat :=
  let c0_i32_246 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_245 : BitVec 32 := 4#32
  let v394 : BitVec 32 := Scalar.muli v2 c4_i32_245
  let v395 : BitVec 32 := Scalar.addi c0_i32_246 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v396 : BitVec 32 := Scalar.muli v5 c2_i32_247
  let v397 : BitVec 32 := Scalar.addi v395 v396
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_248 : BitVec 32 := 1#32
  let v398 : BitVec 32 := Scalar.muli v11 c1_i32_248
  let v399 : BitVec 32 := Scalar.addi v397 v398
  v399.toNat
def k0_mult20 (d0 : Dev nD) : BitVec 32 :=
  let c2_i32_251 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.muli c2_i32_251 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v407 : BitVec 32 := Scalar.addi v406 v13
  let c256_i32_252 : BitVec 32 := 256#32
  let v408 : BitVec 32 := Scalar.muli v407 c256_i32_252
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_253 : BitVec 32 := 128#32
  let v409 : BitVec 32 := Scalar.muli v8 c128_i32_253
  let v410 : BitVec 32 := Scalar.addi v408 v409
  v410
def k0_off14 (d0 : Dev nD) : Fin 2 → Nat :=
  let c2_i32_251 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.muli c2_i32_251 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v407 : BitVec 32 := Scalar.addi v406 v13
  let c256_i32_252 : BitVec 32 := 256#32
  let v408 : BitVec 32 := Scalar.muli v407 c256_i32_252
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_253 : BitVec 32 := 128#32
  let v409 : BitVec 32 := Scalar.muli v8 c128_i32_253
  let v410 : BitVec 32 := Scalar.addi v408 v409
  let v411 : BitVec 32 := v410
  let c0_i32_260 : BitVec 32 := 0#32
  ![v411.toNat, 0]
def k0_dev21 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v422 : BitVec 32 := Scalar.muli v2 c4_i32_263
  let v423 : BitVec 32 := Scalar.addi c0_i32_264 v422
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v424 : BitVec 32 := Scalar.muli v5 c2_i32_265
  let v425 : BitVec 32 := Scalar.addi v423 v424
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_266 : BitVec 32 := 1#32
  let v426 : BitVec 32 := Scalar.muli v11 c1_i32_266
  let v427 : BitVec 32 := Scalar.addi v425 v426
  v427.toNat
def k0_mult21 (d0 : Dev nD) : BitVec 32 :=
  let c2_i32_269 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v434 : BitVec 32 := Scalar.muli c2_i32_269 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v435 : BitVec 32 := Scalar.addi v434 v15
  let c256_i32_270 : BitVec 32 := 256#32
  let v436 : BitVec 32 := Scalar.muli v435 c256_i32_270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_271 : BitVec 32 := 128#32
  let v437 : BitVec 32 := Scalar.muli v8 c128_i32_271
  let v438 : BitVec 32 := Scalar.addi v436 v437
  v438
def k0_off15 (d0 : Dev nD) : Fin 2 → Nat :=
  let c2_i32_269 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v434 : BitVec 32 := Scalar.muli c2_i32_269 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v435 : BitVec 32 := Scalar.addi v434 v15
  let c256_i32_270 : BitVec 32 := 256#32
  let v436 : BitVec 32 := Scalar.muli v435 c256_i32_270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_271 : BitVec 32 := 128#32
  let v437 : BitVec 32 := Scalar.muli v8 c128_i32_271
  let v438 : BitVec 32 := Scalar.addi v436 v437
  let v439 : BitVec 32 := v438
  let c0_i32_278 : BitVec 32 := 0#32
  ![v439.toNat, 0]
def k0_dev22 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v450 : BitVec 32 := Scalar.muli v2 c4_i32_281
  let v451 : BitVec 32 := Scalar.addi c0_i32_282 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v452 : BitVec 32 := Scalar.muli v5 c2_i32_283
  let v453 : BitVec 32 := Scalar.addi v451 v452
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_284 : BitVec 32 := 1#32
  let v454 : BitVec 32 := Scalar.muli v11 c1_i32_284
  let v455 : BitVec 32 := Scalar.addi v453 v454
  v455.toNat
def k0_mult22 (d0 : Dev nD) : BitVec 32 :=
  let c2_i32_287 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v462 : BitVec 32 := Scalar.muli c2_i32_287 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.addi v462 v5
  let c832_i32_289 : BitVec 32 := 832#32
  let v465 : BitVec 32 := Scalar.muli v463 c832_i32_289
  let c1_i32_288 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_288 v8
  let c416_i32_290 : BitVec 32 := 416#32
  let v466 : BitVec 32 := Scalar.muli v464 c416_i32_290
  let v467 : BitVec 32 := Scalar.addi v465 v466
  v467
def k0_off16 (d0 : Dev nD) : Fin 2 → Nat :=
  let c2_i32_287 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v462 : BitVec 32 := Scalar.muli c2_i32_287 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.addi v462 v5
  let c832_i32_289 : BitVec 32 := 832#32
  let v465 : BitVec 32 := Scalar.muli v463 c832_i32_289
  let c1_i32_288 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_288 v8
  let c416_i32_290 : BitVec 32 := 416#32
  let v466 : BitVec 32 := Scalar.muli v464 c416_i32_290
  let v467 : BitVec 32 := Scalar.addi v465 v466
  let v468 : BitVec 32 := v467
  let c0_i32_297 : BitVec 32 := 0#32
  ![v468.toNat, 0]
def k0_mult23 (d0 : Dev nD) : BitVec 32 :=
  let c2_i32_299 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v479 : BitVec 32 := Scalar.muli c2_i32_299 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v480 : BitVec 32 := Scalar.addi v479 v13
  let c832_i32_301 : BitVec 32 := 832#32
  let v482 : BitVec 32 := Scalar.muli v480 c832_i32_301
  let c1_i32_300 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_300 v8
  let c416_i32_302 : BitVec 32 := 416#32
  let v483 : BitVec 32 := Scalar.muli v481 c416_i32_302
  let v484 : BitVec 32 := Scalar.addi v482 v483
  v484
def k0_off17 (d0 : Dev nD) : Fin 2 → Nat :=
  let c2_i32_299 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v479 : BitVec 32 := Scalar.muli c2_i32_299 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v480 : BitVec 32 := Scalar.addi v479 v13
  let c832_i32_301 : BitVec 32 := 832#32
  let v482 : BitVec 32 := Scalar.muli v480 c832_i32_301
  let c1_i32_300 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_300 v8
  let c416_i32_302 : BitVec 32 := 416#32
  let v483 : BitVec 32 := Scalar.muli v481 c416_i32_302
  let v484 : BitVec 32 := Scalar.addi v482 v483
  let v485 : BitVec 32 := v484
  let c0_i32_309 : BitVec 32 := 0#32
  ![v485.toNat, 0]
def k0_mult24 (d0 : Dev nD) : BitVec 32 :=
  let c2_i32_311 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v496 : BitVec 32 := Scalar.muli c2_i32_311 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v497 : BitVec 32 := Scalar.addi v496 v15
  let c832_i32_313 : BitVec 32 := 832#32
  let v499 : BitVec 32 := Scalar.muli v497 c832_i32_313
  let c1_i32_312 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v498 : BitVec 32 := Scalar.subi c1_i32_312 v8
  let c416_i32_314 : BitVec 32 := 416#32
  let v500 : BitVec 32 := Scalar.muli v498 c416_i32_314
  let v501 : BitVec 32 := Scalar.addi v499 v500
  v501
def k0_off18 (d0 : Dev nD) : Fin 2 → Nat :=
  let c2_i32_311 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v496 : BitVec 32 := Scalar.muli c2_i32_311 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v497 : BitVec 32 := Scalar.addi v496 v15
  let c832_i32_313 : BitVec 32 := 832#32
  let v499 : BitVec 32 := Scalar.muli v497 c832_i32_313
  let c1_i32_312 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v498 : BitVec 32 := Scalar.subi c1_i32_312 v8
  let c416_i32_314 : BitVec 32 := 416#32
  let v500 : BitVec 32 := Scalar.muli v498 c416_i32_314
  let v501 : BitVec 32 := Scalar.addi v499 v500
  let v502 : BitVec 32 := v501
  let c0_i32_321 : BitVec 32 := 0#32
  ![v502.toNat, 0]
def k0_mult25 (d0 : Dev nD) : BitVec 32 :=
  let c2_i32_323 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v513 : BitVec 32 := Scalar.muli c2_i32_323 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v514 : BitVec 32 := Scalar.addi v513 v5
  let c256_i32_325 : BitVec 32 := 256#32
  let v516 : BitVec 32 := Scalar.muli v514 c256_i32_325
  let c1_i32_324 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v515 : BitVec 32 := Scalar.subi c1_i32_324 v8
  let c128_i32_326 : BitVec 32 := 128#32
  let v517 : BitVec 32 := Scalar.muli v515 c128_i32_326
  let v518 : BitVec 32 := Scalar.addi v516 v517
  v518
def k0_off19 (d0 : Dev nD) : Fin 2 → Nat :=
  let c2_i32_323 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v513 : BitVec 32 := Scalar.muli c2_i32_323 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v514 : BitVec 32 := Scalar.addi v513 v5
  let c256_i32_325 : BitVec 32 := 256#32
  let v516 : BitVec 32 := Scalar.muli v514 c256_i32_325
  let c1_i32_324 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v515 : BitVec 32 := Scalar.subi c1_i32_324 v8
  let c128_i32_326 : BitVec 32 := 128#32
  let v517 : BitVec 32 := Scalar.muli v515 c128_i32_326
  let v518 : BitVec 32 := Scalar.addi v516 v517
  let v519 : BitVec 32 := v518
  let c0_i32_333 : BitVec 32 := 0#32
  ![v519.toNat, 0]
def k0_mult26 (d0 : Dev nD) : BitVec 32 :=
  let c2_i32_335 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v530 : BitVec 32 := Scalar.muli c2_i32_335 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v531 : BitVec 32 := Scalar.addi v530 v13
  let c256_i32_337 : BitVec 32 := 256#32
  let v533 : BitVec 32 := Scalar.muli v531 c256_i32_337
  let c1_i32_336 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v532 : BitVec 32 := Scalar.subi c1_i32_336 v8
  let c128_i32_338 : BitVec 32 := 128#32
  let v534 : BitVec 32 := Scalar.muli v532 c128_i32_338
  let v535 : BitVec 32 := Scalar.addi v533 v534
  v535
def k0_off20 (d0 : Dev nD) : Fin 2 → Nat :=
  let c2_i32_335 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v530 : BitVec 32 := Scalar.muli c2_i32_335 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v531 : BitVec 32 := Scalar.addi v530 v13
  let c256_i32_337 : BitVec 32 := 256#32
  let v533 : BitVec 32 := Scalar.muli v531 c256_i32_337
  let c1_i32_336 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v532 : BitVec 32 := Scalar.subi c1_i32_336 v8
  let c128_i32_338 : BitVec 32 := 128#32
  let v534 : BitVec 32 := Scalar.muli v532 c128_i32_338
  let v535 : BitVec 32 := Scalar.addi v533 v534
  let v536 : BitVec 32 := v535
  let c0_i32_345 : BitVec 32 := 0#32
  ![v536.toNat, 0]
def k0_mult27 (d0 : Dev nD) : BitVec 32 :=
  let c2_i32_347 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v547 : BitVec 32 := Scalar.muli c2_i32_347 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v548 : BitVec 32 := Scalar.addi v547 v15
  let c256_i32_349 : BitVec 32 := 256#32
  let v550 : BitVec 32 := Scalar.muli v548 c256_i32_349
  let c1_i32_348 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v549 : BitVec 32 := Scalar.subi c1_i32_348 v8
  let c128_i32_350 : BitVec 32 := 128#32
  let v551 : BitVec 32 := Scalar.muli v549 c128_i32_350
  let v552 : BitVec 32 := Scalar.addi v550 v551
  v552
def k0_off21 (d0 : Dev nD) : Fin 2 → Nat :=
  let c2_i32_347 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v547 : BitVec 32 := Scalar.muli c2_i32_347 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v548 : BitVec 32 := Scalar.addi v547 v15
  let c256_i32_349 : BitVec 32 := 256#32
  let v550 : BitVec 32 := Scalar.muli v548 c256_i32_349
  let c1_i32_348 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v549 : BitVec 32 := Scalar.subi c1_i32_348 v8
  let c128_i32_350 : BitVec 32 := 128#32
  let v551 : BitVec 32 := Scalar.muli v549 c128_i32_350
  let v552 : BitVec 32 := Scalar.addi v550 v551
  let v553 : BitVec 32 := v552
  let c0_i32_357 : BitVec 32 := 0#32
  ![v553.toNat, 0]
def k0_mult28 (d0 : Dev nD) : BitVec 32 :=
  let c2_i32_359 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v564 : BitVec 32 := Scalar.muli c2_i32_359 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v565 : BitVec 32 := Scalar.addi v564 v5
  let c256_i32_361 : BitVec 32 := 256#32
  let v567 : BitVec 32 := Scalar.muli v565 c256_i32_361
  let c1_i32_360 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v566 : BitVec 32 := Scalar.subi c1_i32_360 v8
  let c128_i32_362 : BitVec 32 := 128#32
  let v568 : BitVec 32 := Scalar.muli v566 c128_i32_362
  let v569 : BitVec 32 := Scalar.addi v567 v568
  v569
def k0_off22 (d0 : Dev nD) : Fin 2 → Nat :=
  let c2_i32_359 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v564 : BitVec 32 := Scalar.muli c2_i32_359 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v565 : BitVec 32 := Scalar.addi v564 v5
  let c256_i32_361 : BitVec 32 := 256#32
  let v567 : BitVec 32 := Scalar.muli v565 c256_i32_361
  let c1_i32_360 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v566 : BitVec 32 := Scalar.subi c1_i32_360 v8
  let c128_i32_362 : BitVec 32 := 128#32
  let v568 : BitVec 32 := Scalar.muli v566 c128_i32_362
  let v569 : BitVec 32 := Scalar.addi v567 v568
  let v570 : BitVec 32 := v569
  let c0_i32_369 : BitVec 32 := 0#32
  ![v570.toNat, 0]
def k0_mult29 (d0 : Dev nD) : BitVec 32 :=
  let c2_i32_371 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v581 : BitVec 32 := Scalar.muli c2_i32_371 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v582 : BitVec 32 := Scalar.addi v581 v13
  let c256_i32_373 : BitVec 32 := 256#32
  let v584 : BitVec 32 := Scalar.muli v582 c256_i32_373
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v583 : BitVec 32 := Scalar.subi c1_i32_372 v8
  let c128_i32_374 : BitVec 32 := 128#32
  let v585 : BitVec 32 := Scalar.muli v583 c128_i32_374
  let v586 : BitVec 32 := Scalar.addi v584 v585
  v586
def k0_off23 (d0 : Dev nD) : Fin 2 → Nat :=
  let c2_i32_371 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v581 : BitVec 32 := Scalar.muli c2_i32_371 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v582 : BitVec 32 := Scalar.addi v581 v13
  let c256_i32_373 : BitVec 32 := 256#32
  let v584 : BitVec 32 := Scalar.muli v582 c256_i32_373
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v583 : BitVec 32 := Scalar.subi c1_i32_372 v8
  let c128_i32_374 : BitVec 32 := 128#32
  let v585 : BitVec 32 := Scalar.muli v583 c128_i32_374
  let v586 : BitVec 32 := Scalar.addi v584 v585
  let v587 : BitVec 32 := v586
  let c0_i32_381 : BitVec 32 := 0#32
  ![v587.toNat, 0]
def k0_mult30 (d0 : Dev nD) : BitVec 32 :=
  let c2_i32_383 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v598 : BitVec 32 := Scalar.muli c2_i32_383 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v599 : BitVec 32 := Scalar.addi v598 v15
  let c256_i32_385 : BitVec 32 := 256#32
  let v601 : BitVec 32 := Scalar.muli v599 c256_i32_385
  let c1_i32_384 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v600 : BitVec 32 := Scalar.subi c1_i32_384 v8
  let c128_i32_386 : BitVec 32 := 128#32
  let v602 : BitVec 32 := Scalar.muli v600 c128_i32_386
  let v603 : BitVec 32 := Scalar.addi v601 v602
  v603
def k0_off24 (d0 : Dev nD) : Fin 2 → Nat :=
  let c2_i32_383 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v598 : BitVec 32 := Scalar.muli c2_i32_383 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v599 : BitVec 32 := Scalar.addi v598 v15
  let c256_i32_385 : BitVec 32 := 256#32
  let v601 : BitVec 32 := Scalar.muli v599 c256_i32_385
  let c1_i32_384 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v600 : BitVec 32 := Scalar.subi c1_i32_384 v8
  let c128_i32_386 : BitVec 32 := 128#32
  let v602 : BitVec 32 := Scalar.muli v600 c128_i32_386
  let v603 : BitVec 32 := Scalar.addi v601 v602
  let v604 : BitVec 32 := v603
  let c0_i32_393 : BitVec 32 := 0#32
  ![v604.toNat, 0]
abbrev stage0_0 : Fin 1 → Memref sig .tc .vmem S832x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3328x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GatherRef.lean ====
abbrev S3328x1024 : Shape := ⟨2, ![3328, 1024]⟩
abbrev S1024x512 : Shape := ⟨2, ![1024, 512]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S3328x1024, .f32⟩
  | .hbm, ⟨1, _⟩ => ⟨S1024x512, .f32⟩
  | .hbm, ⟨2, _⟩ => ⟨S1024x1024, .f32⟩
  | .hbm, ⟨3, _⟩ => ⟨S3328x1024, .bf16⟩
  | .hbm, ⟨4, _⟩ => ⟨S1024x512, .bf16⟩
  | .hbm, ⟨5, _⟩ => ⟨S1024x1024, .bf16⟩
  | _, _ => ⟨S3328x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FwdProj.lean ====
abbrev S4096x1024 : Shape := ⟨2, ![4096, 1024]⟩
abbrev S1x1024 : Shape := ⟨2, ![1, 1024]⟩
abbrev S3328x1024 : Shape := ⟨2, ![3328, 1024]⟩
abbrev S4096x3328 : Shape := ⟨2, ![4096, 3328]⟩
abbrev S256x1024 : Shape := ⟨2, ![256, 1024]⟩
abbrev S256x3328 : Shape := ⟨2, ![256, 3328]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3328x1024, .bf16⟩
  | .hbm, ⟨3, _⟩ => ⟨S4096x3328, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3328x1024, .bf16⟩
  | .local _ .vmem, ⟨4, _⟩ => ⟨S256x3328, .f32⟩
  | .local _ .vmem, ⟨5, _⟩ => ⟨S256x3328, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FwdProjRefIdeal.lean ====
abbrev S4096x1024 : Shape := ⟨2, ![4096, 1024]⟩
abbrev S1x1024 : Shape := ⟨2, ![1, 1024]⟩
abbrev S3328x1024 : Shape := ⟨2, ![3328, 1024]⟩
abbrev S_ : Shape := ⟨0, ![]⟩
abbrev S4096 : Shape := ⟨1, ![4096]⟩
abbrev S4096x1 : Shape := ⟨2, ![4096, 1]⟩
abbrev S1024x3328 : Shape := ⟨2, ![1024, 3328]⟩
abbrev S4096x3328 : Shape := ⟨2, ![4096, 3328]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3328x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S3328x1024, .f32⟩
  | .hbm, ⟨19, _⟩ => ⟨S1024x3328, .f32⟩
  | .hbm, ⟨20, _⟩ => ⟨S4096x3328, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemKv.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S256x512, .f32⟩
  | .hbm, ⟨4, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x512, .f32⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemKvRefIdeal.lean ====
abbrev S256x1024 : Shape := ⟨2, ![256, 1024]⟩
abbrev S1x1024 : Shape := ⟨2, ![1, 1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S256x512 : Shape := ⟨2, ![256, 512]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S1024x512, .f32⟩
  | .hbm, ⟨19, _⟩ => ⟨S256x512, .f32⟩
  | .hbm, ⟨20, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjBwd.lean ====
abbrev S4096x1024 : Shape := ⟨2, ![4096, 1024]⟩
abbrev S1x1024 : Shape := ⟨2, ![1, 1024]⟩
abbrev S3328x1024 : Shape := ⟨2, ![3328, 1024]⟩
abbrev S4096x768 : Shape := ⟨2, ![4096, 768]⟩
abbrev S4096x512 : Shape := ⟨2, ![4096, 512]⟩
abbrev S4096x256 : Shape := ⟨2, ![4096, 256]⟩
abbrev S256x1024 : Shape := ⟨2, ![256, 1024]⟩
abbrev S256x768 : Shape := ⟨2, ![256, 768]⟩
abbrev S256x512 : Shape := ⟨2, ![256, 512]⟩
abbrev S256x256 : Shape := ⟨2, ![256, 256]⟩
abbrev S_ : Shape := ⟨0, ![]⟩
abbrev S256 : Shape := ⟨1, ![256]⟩
abbrev S256x1 : Shape := ⟨2, ![256, 1]⟩
abbrev S768x1024 : Shape := ⟨2, ![768, 1024]⟩
abbrev S512x1024 : Shape := ⟨2, ![512, 1024]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S3328x1024, .bf16⟩
  | .hbm, ⟨4, _⟩ => ⟨S4096x768, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x256, .bf16⟩
  | .hbm, ⟨10, _⟩ => ⟨S4096x256, .bf16⟩
  | .hbm, ⟨11, _⟩ => ⟨S4096x1024, .f32⟩
  | .hbm, ⟨12, _⟩ => ⟨S3328x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x768, .bf16⟩
  | .local _ .vmem, ⟨6, _⟩ => ⟨S256x768, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S3328x1024, .bf16⟩
  | .local _ .vmem, ⟨23, _⟩ => ⟨S3328x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ProjBwdRefIdeal.lean ====
abbrev S4096x1024 : Shape := ⟨2, ![4096, 1024]⟩
abbrev S1x1024 : Shape := ⟨2, ![1, 1024]⟩
abbrev S3328x1024 : Shape := ⟨2, ![3328, 1024]⟩
abbrev S4096x768 : Shape := ⟨2, ![4096, 768]⟩
abbrev S4096x512 : Shape := ⟨2, ![4096, 512]⟩
abbrev S4096x256 : Shape := ⟨2, ![4096, 256]⟩
abbrev S4096x3328 : Shape := ⟨2, ![4096, 3328]⟩
abbrev S_ : Shape := ⟨0, ![]⟩
abbrev S4096 : Shape := ⟨1, ![4096]⟩
abbrev S4096x1 : Shape := ⟨2, ![4096, 1]⟩
abbrev S3328x4096 : Shape := ⟨2, ![3328, 4096]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S3328x1024, .bf16⟩
  | .hbm, ⟨4, _⟩ => ⟨S4096x768, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x256, .bf16⟩
  | .hbm, ⟨10, _⟩ => ⟨S4096x256, .bf16⟩
  | .hbm, ⟨11, _⟩ => ⟨S4096x3328, .bf16⟩
  | .hbm, ⟨12, _⟩ => ⟨S4096x3328, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S3328x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S3328x4096, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S3328x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== AdamwIn.lean ====
abbrev S832x1024 : Shape := ⟨2, ![832, 1024]⟩
abbrev S208x1024 : Shape := ⟨2, ![208, 1024]⟩

abbrev nBuf : Space → Nat
  | .hbm => 7
  | .vmem => 14
  | .smem => 0
  | _ => 0

abbrev bufTy : (tb : Table) → Fin (tcTables nBuf tb) → BufTy
  | .hbm, ⟨0, _⟩ => ⟨S832x1024, .f32⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | _, _ => ⟨S832x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInIdeal.lean ====
abbrev S832x1024 : Shape := ⟨2, ![832, 1024]⟩
abbrev S208x1024 : Shape := ⟨2, ![208, 1024]⟩

abbrev nBuf : Space → Nat
  | .hbm => 7
  | .vmem => 14
  | .smem => 0
  | _ => 0

abbrev bufTy : (tb : Table) → Fin (tcTables nBuf tb) → BufTy
  | .hbm, ⟨0, _⟩ => ⟨S832x1024, .f32⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | _, _ => ⟨S832x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInRefIdeal.lean ====
abbrev S832x1024 : Shape := ⟨2, ![832, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S832x1024, .f32⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S_, .f32⟩
  | .hbm, ⟨5, _⟩ => ⟨S832x1024, .f32⟩
  | .hbm, ⟨6, _⟩ => ⟨S832x1024, .f32⟩
  | .hbm, ⟨7, _⟩ => ⟨S_, .f32⟩
  | .hbm, ⟨8, _⟩ => ⟨S832x1024, .f32⟩
  | .hbm, ⟨9, _⟩ => ⟨S832x1024, .f32⟩
  | .hbm, ⟨10, _⟩ => ⟨S832x1024, .f32⟩
  | .hbm, ⟨11, _⟩ => ⟨S_, .f32⟩
  | .hbm, ⟨12, _⟩ => ⟨S832x1024, .f32⟩
  | .hbm, ⟨13, _⟩ => ⟨S832x1024, .f32⟩
  | .hbm, ⟨14, _⟩ => ⟨S832x1024, .f32⟩
  | .hbm, ⟨15, _⟩ => ⟨S_, .f32⟩
  | .hbm, ⟨16, _⟩ => ⟨S832x1024, .f32⟩
  | .hbm, ⟨17, _⟩ => ⟨S832x1024, .f32⟩
  | .hbm, ⟨18, _⟩ => ⟨S832x1024, .f32⟩
  | .hbm, ⟨19, _⟩ => ⟨S_, .f32⟩
  | .hbm, ⟨20, _⟩ => ⟨S832x1024, .f32⟩
  | .hbm, ⟨21, _⟩ => ⟨S832x1024, .f32⟩
  | .hbm, ⟨22, _⟩ => ⟨S_, .f32⟩
  | .hbm, ⟨23, _⟩ => ⟨S832x1024, .f32⟩
  | .hbm, ⟨24, _⟩ => ⟨S832x1024, .f32⟩
  | .hbm, ⟨25, _⟩ => ⟨S832x1024, .f32⟩
  | .hbm, ⟨26, _⟩ => ⟨S_, .f32⟩
  | .hbm, ⟨27, _⟩ => ⟨S832x1024, .f32⟩
  | .hbm, ⟨28, _⟩ => ⟨S832x1024, .f32⟩
  | .hbm, ⟨29, _⟩ => ⟨S832x1024, .f32⟩
  | .hbm, ⟨30, _⟩ => ⟨S_, .f32⟩
  | .hbm, ⟨31, _⟩ => ⟨S832x1024, .f32⟩
  | .hbm, ⟨32, _⟩ => ⟨S832x1024, .f32⟩
  | .hbm, ⟨33, _⟩ => ⟨S832x1024, .f32⟩
  | .hbm, ⟨34, _⟩ => ⟨S_, .f32⟩
  | .hbm, ⟨35, _⟩ => ⟨S832x1024, .f32⟩
  | .hbm, ⟨36, _⟩ => ⟨S832x1024, .f32⟩
  | _, _ => ⟨S832x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwKv.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwKvIdeal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwKvRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S640x128 : Shape := ⟨2, ![640, 128]⟩
abbrev S160x128 : Shape := ⟨2, ![160, 128]⟩

abbrev nBuf : Space → Nat
  | .hbm => 7
  | .vmem => 14
  | .smem => 0
  | _ => 0

abbrev bufTy : (tb : Table) → Fin (tcTables nBuf tb) → BufTy
  | .hbm, ⟨0, _⟩ => ⟨S640x128, .f32⟩
  | .hbm, ⟨1, _⟩ => ⟨S640x128, .f32⟩
  | .hbm, ⟨2, _⟩ => ⟨S640x128, .f32⟩
  | .hbm, ⟨3, _⟩ => ⟨S640x128, .f32⟩
  | .hbm, ⟨4, _⟩ => ⟨S640x128, .f32⟩
  | .hbm, ⟨5, _⟩ => ⟨S640x128, .f32⟩
  | .hbm, ⟨6, _⟩ => ⟨S640x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | .local _ .vmem, ⟨9, _⟩ => ⟨S160x128, .f32⟩
  | .local _ .vmem, ⟨10, _⟩ => ⟨S160x128, .f32⟩
  | .local _ .vmem, ⟨11, _⟩ => ⟨S160x128, .f32⟩
  | .local _ .vmem, ⟨12, _⟩ => ⟨S160x128, .f32⟩
  | .local _ .vmem, ⟨13, _⟩ => ⟨S160x128, .f32⟩
  | _, _ => ⟨S640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRefIdeal.lean ====
abbrev S640x128 : Shape := ⟨2, ![640, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S640x128, .f32⟩
  | .hbm, ⟨1, _⟩ => ⟨S640x128, .f32⟩
  | .hbm, ⟨2, _⟩ => ⟨S640x128, .f32⟩
  | .hbm, ⟨3, _⟩ => ⟨S640x128, .f32⟩
  | .hbm, ⟨4, _⟩ => ⟨S_, .f32⟩
  | .hbm, ⟨5, _⟩ => ⟨S640x128, .f32⟩
  | .hbm, ⟨6, _⟩ => ⟨S640x128, .f32⟩
  | .hbm, ⟨7, _⟩ => ⟨S_, .f32⟩
  | .hbm, ⟨8, _⟩ => ⟨S640x128, .f32⟩
  | .hbm, ⟨9, _⟩ => ⟨S640x128, .f32⟩
  | .hbm, ⟨10, _⟩ => ⟨S640x128, .f32⟩
  | .hbm, ⟨11, _⟩ => ⟨S_, .f32⟩
  | .hbm, ⟨12, _⟩ => ⟨S640x128, .f32⟩
  | .hbm, ⟨13, _⟩ => ⟨S640x128, .f32⟩
  | .hbm, ⟨14, _⟩ => ⟨S640x128, .f32⟩
  | .hbm, ⟨15, _⟩ => ⟨S_, .f32⟩
  | .hbm, ⟨16, _⟩ => ⟨S640x128, .f32⟩
  | .hbm, ⟨17, _⟩ => ⟨S640x128, .f32⟩
  | .hbm, ⟨18, _⟩ => ⟨S640x128, .f32⟩
  | .hbm, ⟨19, _⟩ => ⟨S_, .f32⟩
  | .hbm, ⟨20, _⟩ => ⟨S640x128, .f32⟩
  | .hbm, ⟨21, _⟩ => ⟨S640x128, .f32⟩
  | .hbm, ⟨22, _⟩ => ⟨S_, .f32⟩
  | .hbm, ⟨23, _⟩ => ⟨S640x128, .f32⟩
  | .hbm, ⟨24, _⟩ => ⟨S640x128, .f32⟩
  | .hbm, ⟨25, _⟩ => ⟨S640x128, .f32⟩
  | .hbm, ⟨26, _⟩ => ⟨S_, .f32⟩
  | .hbm, ⟨27, _⟩ => ⟨S640x128, .f32⟩
  | .hbm, ⟨28, _⟩ => ⟨S640x128, .f32⟩
  | .hbm, ⟨29, _⟩ => ⟨S640x128, .f32⟩
  | .hbm, ⟨30, _⟩ => ⟨S_, .f32⟩
  | .hbm, ⟨31, _⟩ => ⟨S640x128, .f32⟩
  | .hbm, ⟨32, _⟩ => ⟨S640x128, .f32⟩
  | .hbm, ⟨33, _⟩ => ⟨S640x128, .f32⟩
  | .hbm, ⟨34, _⟩ => ⟨S_, .f32⟩
  | .hbm, ⟨35, _⟩ => ⟨S640x128, .f32⟩
  | .hbm, ⟨36, _⟩ => ⟨S640x128, .f32⟩
  | _, _ => ⟨S640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Rms.lean ====
/-
  One row normalised: `x / sqrt(mean(x²) + ε)` times the gain, and its product with a row of weights. Both the
  input projection and the projection of the memory tokens are built from it, row by row.
-/
module

public import Idealize.ShloMosaic.Lib.Pointwise

@[expose] public section

noncomputable section

namespace Cert.Rms

open Idealize.ShloMosaic

/-- Entry `k` of the RMS-normalised row `x` under the gain `g` (rows of 1024 entries, `ε = 1e-6`). -/
def row (x g : Fin 1024 → EReal) (k : Fin 1024) : EReal :=
  x k * Ideal.rsqrt (Ideal.div (∑ l, x l * x l) (Ideal.ofBits FTy.f32 1149239296#32) + Ideal.ofBits FTy.f32 897988541#32) * g k

/-- The normalised row's inner product with a column of weights. -/
def dot (x g w : Fin 1024 → EReal) : EReal := ∑ k, row x g k * w k

end Cert.Rms
end
-- ==== Proof.FwdProj.lean ====
/-
  The input projection: RMSNorm of the tokens against the gain, then the product with the transposed weight.
  The kernel does this 256 tokens at a time. Every row of the result depends on its own token alone, so the row that
  the kernel writes at a grid point is the same row of the reference's whole product.
-/
module

public import proofs.«01_k».proof.Defs
public import proofs.«01_k».proof.Proof.Rms
public import proofs.«01_k».proof.Proof.Gen.FwdProjIdeal.Value
public import proofs.«01_k».proof.Proof.Gen.FwdProjRefIdeal.Run
public import Idealize.ShloMosaic.Lib.Quiescent

@[expose] public section

noncomputable section

open Idealize.ShloMosaic Idealize.ShloMosaic.TcCoe Idealize.SL.Sem

/-- The projection as mathematics: result (r, c) is the normalised token `r` against row `c` of the weight. -/
def Cert.Rms.proj (x : FVec Ideal ⟨2, ![4096, 1024]⟩ .f32) (g : FVec Ideal ⟨2, ![1, 1024]⟩ .f32)
    (w : FVec Ideal ⟨2, ![3328, 1024]⟩ .bf16) : FVec Ideal ⟨2, ![4096, 3328]⟩ .f32 :=
  fun i => Cert.Rms.dot (fun k => x (ix2 (i 0) k)) (fun k => g (ix2 0 k)) (fun k => w (ix2 (i 1) k))

namespace Cert.FwdProjRefIdeal.Value

open Cert.FwdProjRefIdeal Cert.FwdProjRefIdeal.Gen

variable (m : (ℓ : Loc nD τ sig) → Buf (Elt Ideal) ℓ) (ρ : Dev nD → PrngReg)

set_option maxRecDepth 16384 in
/-- The reference's run leaves the projection. -/
theorem run_proj : θ_run defs (onTc (τ := τ) (main (F := Ideal))) ⟨m, fun _ => 0, ρ⟩ fun r => ∀ c : Dev nD,
      r.2.mem ((c.tc : Thread nD τ).loc main_v14) = Cert.Rms.proj (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run m ρ)
  generalize m ((c.tc : Thread nD τ).loc main_arg0) = x
  generalize m ((c.tc : Thread nD τ).loc main_arg1) = g
  generalize m ((c.tc : Thread nD τ).loc main_arg2) = w
  funext i
  obtain ⟨a, b, rfl⟩ : ∃ (a : Fin 4096) (b : Fin 3328), i = ix2 a b := ⟨i 0, i 1, eq_ix2 i⟩
  unfold Cert.Rms.proj Cert.Rms.dot Cert.Rms.row
  pointwise

end Cert.FwdProjRefIdeal.Value

namespace Cert.FwdProjIdeal.Value

open Cert.FwdProjIdeal Cert.FwdProjIdeal.Gen
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

set_option maxRecDepth 16384 in
/-- What the body computes of a block of tokens, index by index. -/
theorem pay (x : Vec Ideal S256x1024 .f32) (g : Vec Ideal S1x1024 .f32) (w : Vec Ideal S3328x1024 .bf16)
    (r : Fin 256) (c : Fin 3328) : k0_pay1 x g w (ix2 r c)
      = Cert.Rms.dot (fun k => x (ix2 r k)) (fun k => g (ix2 0 k)) (fun k => w (ix2 c k)) := by
  unfold Cert.Rms.dot Cert.Rms.row
  pointwise [k0_pay1]

/-- Where the windows' blocks lie: tokens and results move with the point, gain and weight stay. -/
theorem idx_facts : ∀ t : Fin cfg0.N,
    win0_0.index t (0 : Fin 2) = t.val ∧ win0_0.index t (1 : Fin 2) = 0 ∧ win0_1.index t (0 : Fin 2) = 0
    ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt16 (t : Fin cfg0.N) : t.val < 16 := t.isLt

/-- Row `r` of point `t`'s block is row `256 t + r` of the array. -/
def at_ (t : Fin cfg0.N) (r : Fin 256) : Fin 4096 := ⟨256 * t.val + r.val, by have := lt16 t; omega⟩

theorem iblk0_apply (c : Dev nD) (t : Fin cfg0.N) (r : Fin 256) (k : Fin 1024) :
    iblk m c 0 t (ix2 r k) = m ((c : Thread nD τ).loc main_arg0) (ix2 (at_ t r) k) := by
  obtain ⟨e0, e1, -⟩ := idx_facts t
  show m ((c : Thread nD τ).loc main_arg0) (((cfg0.win 0).blk t).view.emb (ix2 r k)) = _
  congr 1; funext a; apply Fin.ext
  match a with
  | ⟨0, _⟩ => show win0_0.index t (0 : Fin 2) * 256 + 1 * r.val = 256 * t.val + r.val; omega
  | ⟨1, _⟩ => show win0_0.index t (1 : Fin 2) * 1024 + 1 * k.val = k.val; omega

theorem iblk1_apply (c : Dev nD) (t : Fin cfg0.N) (k : Fin 1024) :
    iblk m c 1 t (ix2 0 k) = m ((c : Thread nD τ).loc main_arg1) (ix2 0 k) := by
  obtain ⟨-, -, e0, e1, -⟩ := idx_facts t
  show m ((c : Thread nD τ).loc main_arg1) (((cfg0.win 1).blk t).view.emb (ix2 0 k)) = _
  congr 1; funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk2_apply (c : Dev nD) (t : Fin cfg0.N) (r : Fin 3328) (k : Fin 1024) :
    iblk m c 2 t (ix2 r k) = m ((c : Thread nD τ).loc main_arg2) (ix2 r k) := by
  obtain ⟨-, -, -, -, e0, e1, -⟩ := idx_facts t
  show m ((c : Thread nD τ).loc main_arg2) (((cfg0.win 2).blk t).view.emb (ix2 r k)) = _
  congr 1; funext a; apply Fin.ext
  match a with
  | ⟨0, _⟩ => show win0_2.index t (0 : Fin 2) * 3328 + 1 * r.val = r.val; omega
  | ⟨1, _⟩ => show win0_2.index t (1 : Fin 2) * 1024 + 1 * k.val = k.val; omega

/-- The result array the kernel is to leave. -/
abbrev G (c : Dev nD) : FVec Ideal S4096x3328 .f32 :=
  Cert.Rms.proj (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (G m c) := by
  obtain ⟨-, -, -, -, -, -, e0, e1⟩ := idx_facts t
  rw [flushed3]
  funext y
  obtain ⟨r, k, rfl⟩ : ∃ (r : Fin 256) (k : Fin 3328), y = ix2 r k := ⟨y 0, y 1, eq_ix2 y⟩
  show out0_3 (iblk m c 0 t) (iblk m c 1 t) (iblk m c 2 t) (ix2 r k) = G m c (((cfg0.win 3).blk t).view.emb (ix2 r k))
  rw [show ((cfg0.win 3).blk t).view.emb (ix2 r k) = ix2 (at_ t r) k from by
    funext a; apply Fin.ext
    match a with
    | ⟨0, _⟩ => show win0_3.index t (0 : Fin 2) * 256 + 1 * r.val = 256 * t.val + r.val; omega
    | ⟨1, _⟩ => show win0_3.index t (1 : Fin 2) * 3328 + 1 * k.val = k.val; omega]
  unfold out0_3
  rw [View.canon_unit_zero hz]
  rw [View.ld_unit_zero (S := S256x1024) hz, View.ld_unit_zero (S := S1x1024) hz, View.ld_unit_zero (S := S3328x1024) hz]
  refine (pay _ _ _ r k).trans ?_
  unfold G Cert.Rms.proj
  simp only [iblk0_apply, iblk1_apply, iblk2_apply]
  rfl

/-- The result array after the run. -/
theorem final (c : Dev nD) : (dats m 0 c).arrAt 3 cfg0.N = G m c := by
  refine (dats m 0 c).arrAt_eq_of_cover 3 (G m c) (fun t _ => flushed_eq m c t) fun i => ?_
  have h0 : (i 0 : Nat) < 4096 := (i 0).isLt
  have h1 : (i 1 : Nat) < 3328 := (i 1).isLt
  have ht : (i 0 : Nat) / 256 < cfg0.N := show (i 0 : Nat) / 256 < 16 by omega
  refine ⟨⟨(i 0 : Nat) / 256, ht⟩, flush0_3 _, ?_⟩
  obtain ⟨-, -, -, -, -, -, e0, e1⟩ := idx_facts ⟨(i 0 : Nat) / 256, ht⟩
  show i ∈ ((View.whole main_v0).slice (win0_3.rect ⟨(i 0 : Nat) / 256, ht⟩)).set
  rw [View.set_slice_whole, Rect.mem_set_unit]
  intro a
  match a with
  | ⟨0, _⟩ => show win0_3.index _ (0 : Fin 2) * 256 ≤ (i 0 : Nat) ∧ (i 0 : Nat) < win0_3.index _ (0 : Fin 2) * 256 + 256
              rw [e0]; dsimp only; omega
  | ⟨1, _⟩ => show win0_3.index _ (1 : Fin 2) * 3328 ≤ (i 1 : Nat) ∧ (i 1 : Nat) < win0_3.index _ (1 : Fin 2) * 3328 + 3328
              rw [e1]; omega

end Cert.FwdProjIdeal.Value

namespace Cert.Proof

/-- The kernel's projection is the reference's. -/
theorem algebraic_fwdProj : Cert.algebraic_FwdProjIdeal_FwdProjRefIdeal := by
  intro m g m' g' _ hm
  refine ⟨fun c => Cert.FwdProjIdeal.Value.G m c, ?_, ?_⟩
  · exact (θ_run _ _ _).mono (fun _ h c => ⟨(h c).1.trans (Cert.FwdProjIdeal.Value.final m c), (h c).2⟩)
      (Cert.FwdProjIdeal.Value.run_blocks m g)
  · refine (θ_run _ _ _).mono (fun _ h c => ⟨(h c).1.trans ?_, (h c).2⟩) (Cert.FwdProjRefIdeal.Value.run_proj m' g')
    rw [(hm c).1, (hm c).2.1, (hm c).2.2]

end Cert.Proof
end
-- ==== Proof.MemKv.lean ====
/-
  The keys and values of the memory tokens: RMSNorm of the memory against its gain, then the product with the
  weight. The kernel is one step over whole arrays; it also hands out the normalised tokens.
-/
module

public import proofs.«01_k».proof.Defs
public import proofs.«01_k».proof.Proof.Rms
public import proofs.«01_k».proof.Proof.Gen.MemKvIdeal.Value
public import proofs.«01_k».proof.Proof.Gen.MemKvRefIdeal.Run
public import Idealize.ShloMosaic.Lib.Quiescent

@[expose] public section

noncomputable section

open Idealize.ShloMosaic Idealize.ShloMosaic.TcCoe Idealize.SL.Sem

/-- The normalised memory tokens. -/
def Cert.Rms.memory (x : FVec Ideal ⟨2, ![256, 1024]⟩ .f32) (g : FVec Ideal ⟨2, ![1, 1024]⟩ .f32) :
    FVec Ideal ⟨2, ![256, 1024]⟩ .bf16 :=
  fun i => Cert.Rms.row (fun k => x (ix2 (i 0) k)) (fun k => g (ix2 0 k)) (i 1)

/-- Their keys and values: token `r` against column `c` of the weight. -/
def Cert.Rms.memoryKv (x : FVec Ideal ⟨2, ![256, 1024]⟩ .f32) (g : FVec Ideal ⟨2, ![1, 1024]⟩ .f32)
    (w : FVec Ideal ⟨2, ![1024, 512]⟩ .bf16) : FVec Ideal ⟨2, ![256, 512]⟩ .f32 :=
  fun i => Cert.Rms.dot (fun k => x (ix2 (i 0) k)) (fun k => g (ix2 0 k)) (fun k => w (ix2 k (i 1)))

namespace Cert.MemKvRefIdeal.Value

open Cert.MemKvRefIdeal Cert.MemKvRefIdeal.Gen

variable (m : (ℓ : Loc nD τ sig) → Buf (Elt Ideal) ℓ) (ρ : Dev nD → PrngReg)

set_option maxRecDepth 16384 in
/-- The reference's run leaves the keys and values, and the normalised tokens. -/
theorem run_kv : θ_run defs (onTc (τ := τ) (main (F := Ideal))) ⟨m, fun _ => 0, ρ⟩ fun r => ∀ c : Dev nD,
      r.2.mem ((c.tc : Thread nD τ).loc main_v13) = Cert.Rms.memoryKv (m ((c.tc : Thread nD τ).loc main_arg0))
        (m ((c.tc : Thread nD τ).loc main_arg1)) (m ((c.tc : Thread nD τ).loc main_arg2))
      ∧ r.2.mem ((c.tc : Thread nD τ).loc main_v14) = Cert.Rms.memory (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (run m ρ)
  · generalize m ((c.tc : Thread nD τ).loc main_arg0) = x
    generalize m ((c.tc : Thread nD τ).loc main_arg1) = g
    generalize m ((c.tc : Thread nD τ).loc main_arg2) = w
    funext i
    obtain ⟨a, b, rfl⟩ : ∃ (a : Fin 256) (b : Fin 512), i = ix2 a b := ⟨i 0, i 1, eq_ix2 i⟩
    unfold Cert.Rms.memoryKv Cert.Rms.dot Cert.Rms.row
    pointwise
  · generalize m ((c.tc : Thread nD τ).loc main_arg0) = x
    generalize m ((c.tc : Thread nD τ).loc main_arg1) = g
    funext i
    obtain ⟨a, b, rfl⟩ : ∃ (a : Fin 256) (b : Fin 1024), i = ix2 a b := ⟨i 0, i 1, eq_ix2 i⟩
    unfold Cert.Rms.memory Cert.Rms.row
    pointwise

end Cert.MemKvRefIdeal.Value

namespace Cert.MemKvIdeal.Value

open Cert.MemKvIdeal Cert.MemKvIdeal.Gen

set_option maxRecDepth 16384 in
theorem G3_eq (x : Vec Ideal S256x1024 .f32) (g : Vec Ideal S1x1024 .f32) (w : Vec Ideal S1024x512 .bf16) :
    G3 x g w = Cert.Rms.memoryKv x g w := by
  funext i
  obtain ⟨a, b, rfl⟩ : ∃ (a : Fin 256) (b : Fin 512), i = ix2 a b := ⟨i 0, i 1, eq_ix2 i⟩
  unfold Cert.Rms.memoryKv Cert.Rms.dot Cert.Rms.row
  pointwise [G3, k0_pay2, k0_pay1]

set_option maxRecDepth 16384 in
theorem G4_eq (x : Vec Ideal S256x1024 .f32) (g : Vec Ideal S1x1024 .f32) (w : Vec Ideal S1024x512 .bf16) :
    G4 x g w = Cert.Rms.memory x g := by
  funext i
  obtain ⟨a, b, rfl⟩ : ∃ (a : Fin 256) (b : Fin 1024), i = ix2 a b := ⟨i 0, i 1, eq_ix2 i⟩
  unfold Cert.Rms.memory Cert.Rms.row
  pointwise [G4, k0_pay1]

end Cert.MemKvIdeal.Value

namespace Cert.Proof

/-- The kernel's keys, values and normalised tokens are the reference's. -/
theorem algebraic_memKv : Cert.algebraic_MemKvIdeal_MemKvRefIdeal := by
  intro m g m' g' _ hm
  refine ⟨fun c => Cert.Rms.memoryKv (m ((c : Thread Cert.MemKvIdeal.nD Cert.MemKvIdeal.τ).loc Cert.MemKvIdeal.main_arg0))
      (m ((c : Thread Cert.MemKvIdeal.nD Cert.MemKvIdeal.τ).loc Cert.MemKvIdeal.main_arg1))
      (m ((c : Thread Cert.MemKvIdeal.nD Cert.MemKvIdeal.τ).loc Cert.MemKvIdeal.main_arg2)),
    fun c => Cert.Rms.memory (m ((c : Thread Cert.MemKvIdeal.nD Cert.MemKvIdeal.τ).loc Cert.MemKvIdeal.main_arg0))
      (m ((c : Thread Cert.MemKvIdeal.nD Cert.MemKvIdeal.τ).loc Cert.MemKvIdeal.main_arg1)), ?_, ?_⟩
  · exact (θ_run _ _ _).mono (fun _ h c => ⟨(h c).1.trans (Cert.MemKvIdeal.Value.G3_eq _ _ _),
      (h c).2.1.trans (Cert.MemKvIdeal.Value.G4_eq _ _ (m (c.tc.loc Cert.MemKvIdeal.main_arg2))), (h c).2.2⟩) (Cert.MemKvIdeal.Value.run m g)
  · refine (θ_run _ _ _).mono (fun _ h c => ⟨(h c).1.trans ?_, (h c).2.1.trans ?_, (h c).2.2⟩) (Cert.MemKvRefIdeal.Value.run_kv m' g')
    · rw [(hm c).1, (hm c).2.1, (hm c).2.2]
    · rw [(hm c).1, (hm c).2.1]

end Cert.Proof
end
-- ==== Proof.ProjBwd.Ref.lean ====
/-
  The backward pass of the input projection as mathematics, and the reference's run: from the gradients of the
  projection's seven parts to the gradients of the tokens, of the weight and of the gain.
-/
module

public import proofs.«01_k».proof.Defs
public import proofs.«01_k».proof.Proof.Gen.ProjBwdRefIdeal.Run
public import Idealize.ShloMosaic.Lib.Pointwise

@[expose] public section

noncomputable section

open Idealize.ShloMosaic Idealize.ShloMosaic.TcCoe Idealize.SL.Sem

namespace Cert.ProjBwd

/-- The arguments: the tokens, the gradient that reaches them past the layer, the norm's gain, the transposed weight,
    and the gradients of the projection's seven parts. -/
structure Args where
  x : FVec Ideal ⟨2, ![4096, 1024]⟩ .f32
  dy : FVec Ideal ⟨2, ![4096, 1024]⟩ .f32
  g : FVec Ideal ⟨2, ![1, 1024]⟩ .f32
  w : FVec Ideal ⟨2, ![3328, 1024]⟩ .bf16
  d0 : FVec Ideal ⟨2, ![4096, 768]⟩ .bf16
  d1 : FVec Ideal ⟨2, ![4096, 512]⟩ .bf16
  d2 : FVec Ideal ⟨2, ![4096, 512]⟩ .bf16
  d3 : FVec Ideal ⟨2, ![4096, 512]⟩ .bf16
  d4 : FVec Ideal ⟨2, ![4096, 512]⟩ .bf16
  d5 : FVec Ideal ⟨2, ![4096, 256]⟩ .bf16
  d6 : FVec Ideal ⟨2, ![4096, 256]⟩ .bf16

namespace Args
variable (A : Args)

/-- One over the root mean square of token `r`. -/
def inv (r : Fin 4096) : EReal :=
  Ideal.rsqrt (Ideal.div (∑ l : Fin 1024, A.x (ix2 r l) * A.x (ix2 r l)) (Ideal.ofBits FTy.f32 1149239296#32) + Ideal.ofBits FTy.f32 897988541#32)

/-- The normalised token. -/
def z (r : Fin 4096) (k : Fin 1024) : EReal := A.x (ix2 r k) * A.inv r

/-- The gradient of the projection's output `j` at token `r`: the seven parts side by side. -/
def d (r : Fin 4096) (j : Fin 3328) : EReal :=
  if h0 : j.val < 768 then A.d0 (ix2 r ⟨j.val, h0⟩) else
  if h1 : j.val - 768 < 512 then A.d1 (ix2 r ⟨j.val - 768, h1⟩) else
  if h2 : j.val - 768 - 512 < 512 then A.d2 (ix2 r ⟨j.val - 768 - 512, h2⟩) else
  if h3 : j.val - 768 - 512 - 512 < 512 then A.d3 (ix2 r ⟨j.val - 768 - 512 - 512, h3⟩) else
  if h4 : j.val - 768 - 512 - 512 - 512 < 512 then A.d4 (ix2 r ⟨j.val - 768 - 512 - 512 - 512, h4⟩) else
  if h5 : j.val - 768 - 512 - 512 - 512 - 512 < 256 then A.d5 (ix2 r ⟨j.val - 768 - 512 - 512 - 512 - 512, h5⟩) else
  A.d6 (ix2 r ⟨j.val - 768 - 512 - 512 - 512 - 512 - 256, by have := j.isLt; omega⟩)

theorem d_part0 (r : Fin 4096) (j : Fin 768) (h : j.val < 3328) : A.d r ⟨j.val, h⟩ = A.d0 (ix2 r j) := by
  unfold d; dsimp only; rw [dif_pos (by omega)]
theorem d_part1 (r : Fin 4096) (j : Fin 512) (h : 768 + j.val < 3328) : A.d r ⟨768 + j.val, h⟩ = A.d1 (ix2 r j) := by
  unfold d; dsimp only; rw [dif_neg (by omega), dif_pos (by omega)]
  exact congrArg (fun a => A.d1 (ix2 r a)) (Fin.ext (by dsimp only; omega))
theorem d_part2 (r : Fin 4096) (j : Fin 512) (h : 1280 + j.val < 3328) : A.d r ⟨1280 + j.val, h⟩ = A.d2 (ix2 r j) := by
  unfold d; dsimp only; rw [dif_neg (by omega), dif_neg (by omega), dif_pos (by omega)]
  exact congrArg (fun a => A.d2 (ix2 r a)) (Fin.ext (by dsimp only; omega))
theorem d_part3 (r : Fin 4096) (j : Fin 512) (h : 1792 + j.val < 3328) : A.d r ⟨1792 + j.val, h⟩ = A.d3 (ix2 r j) := by
  unfold d; dsimp only; rw [dif_neg (by omega), dif_neg (by omega), dif_neg (by omega), dif_pos (by omega)]
  exact congrArg (fun a => A.d3 (ix2 r a)) (Fin.ext (by dsimp only; omega))
theorem d_part4 (r : Fin 4096) (j : Fin 512) (h : 2304 + j.val < 3328) : A.d r ⟨2304 + j.val, h⟩ = A.d4 (ix2 r j) := by
  unfold d; dsimp only; rw [dif_neg (by omega), dif_neg (by omega), dif_neg (by omega), dif_neg (by omega), dif_pos (by omega)]
  exact congrArg (fun a => A.d4 (ix2 r a)) (Fin.ext (by dsimp only; omega))
theorem d_part5 (r : Fin 4096) (j : Fin 256) (h : 2816 + j.val < 3328) : A.d r ⟨2816 + j.val, h⟩ = A.d5 (ix2 r j) := by
  unfold d; dsimp only; rw [dif_neg (by omega), dif_neg (by omega), dif_neg (by omega), dif_neg (by omega), dif_neg (by omega), dif_pos (by omega)]
  exact congrArg (fun a => A.d5 (ix2 r a)) (Fin.ext (by dsimp only; omega))
theorem d_part6 (r : Fin 4096) (j : Fin 256) (h : 3072 + j.val < 3328) : A.d r ⟨3072 + j.val, h⟩ = A.d6 (ix2 r j) := by
  unfold d; dsimp only; rw [dif_neg (by omega), dif_neg (by omega), dif_neg (by omega), dif_neg (by omega), dif_neg (by omega), dif_neg (by omega)]
  exact congrArg (fun a => A.d6 (ix2 r a)) (Fin.ext (by dsimp only; omega))

/-- The gradient of the projection's input. -/
def dh (r : Fin 4096) (k : Fin 1024) : EReal := ∑ j : Fin 3328, A.d r j * A.w (ix2 j k)

/-- The tokens' gradient: through the norm, plus what reaches the tokens past the layer. -/
def gx : FVec Ideal ⟨2, ![4096, 1024]⟩ .f32 := fun i =>
  A.dy (ix2 (i 0) (i 1)) + A.inv (i 0) * (A.dh (i 0) (i 1) * A.g (ix2 0 (i 1))
    - A.z (i 0) (i 1) * Ideal.div (∑ l : Fin 1024, A.dh (i 0) l * A.g (ix2 0 l) * A.z (i 0) l) (Ideal.ofBits FTy.f32 1149239296#32))

/-- The transposed weight's gradient. -/
def gw : FVec Ideal ⟨2, ![3328, 1024]⟩ .f32 := fun i =>
  ∑ r : Fin 4096, A.d r (i 0) * (A.z r (i 1) * A.g (ix2 0 (i 1)))

/-- The gain's gradient. -/
def gg : FVec Ideal ⟨2, ![1, 1024]⟩ .f32 := fun i => ∑ r : Fin 4096, A.dh r (i 1) * A.z r (i 1)

end Args
end Cert.ProjBwd

namespace Cert.ProjBwdRefIdeal.Value

open Cert.ProjBwdRefIdeal Cert.ProjBwdRefIdeal.Gen
open Cert.ProjBwd (Args)

variable (m : (ℓ : Loc nD τ sig) → Buf (Elt Ideal) ℓ) (ρ : Dev nD → PrngReg)

/-- The reference's arguments. -/
abbrev args (c : Dev nD) : Args where
  x := m ((c.tc : Thread nD τ).loc main_arg0)
  dy := m ((c.tc : Thread nD τ).loc main_arg1)
  g := m ((c.tc : Thread nD τ).loc main_arg2)
  w := m ((c.tc : Thread nD τ).loc main_arg3)
  d0 := m ((c.tc : Thread nD τ).loc main_arg4)
  d1 := m ((c.tc : Thread nD τ).loc main_arg5)
  d2 := m ((c.tc : Thread nD τ).loc main_arg6)
  d3 := m ((c.tc : Thread nD τ).loc main_arg7)
  d4 := m ((c.tc : Thread nD τ).loc main_arg8)
  d5 := m ((c.tc : Thread nD τ).loc main_arg9)
  d6 := m ((c.tc : Thread nD τ).loc main_arg10)

set_option maxRecDepth 16384

/-! The reference's intermediate arrays, and what they are index by index. -/

def catT (A : Args) : FVec Ideal S4096x3328 .bf16 :=
  concatenate S4096x3328 1 [⟨S4096x768, A.d0⟩, ⟨S4096x512, A.d1⟩, ⟨S4096x512, A.d2⟩, ⟨S4096x512, A.d3⟩, ⟨S4096x512, A.d4⟩, ⟨S4096x256, A.d5⟩, ⟨S4096x256, A.d6⟩]
    concatenates_S4096x768_S4096x512_S4096x512_S4096x512_S4096x512_S4096x256_S4096x256_S4096x3328_d1

theorem catT_at (A : Args) (r : Fin 4096) (j : Fin 3328) : catT A (ix2 r j) = A.d r j := by
  unfold catT Args.d
  pointwise

def dhT (A : Args) : FVec Ideal S4096x1024 .f32 :=
  Host.dotGeneral dot_S4096x3328_S3328x1024_S4096x1024_1_0_0_1_n_n none (extf .f32 (catT A) bitsLt_bf16_f32) (extf .f32 A.w bitsLt_bf16_f32)

theorem dhT_at (A : Args) (r : Fin 4096) (k : Fin 1024) : dhT A (ix2 r k) = A.dh r k := by
  unfold dhT Args.dh
  simp only [← catT_at]
  pointwise

def invT (A : Args) : FVec Ideal S4096x1 .f32 :=
  Host.rsqrt (addf (Host.divf (broadcastInDim S4096x1 ![0] bcast_S4096_S4096x1_0 (Host.reduceAdd (mulf A.x A.x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

theorem invT_at (A : Args) (r : Fin 4096) : invT A (ix2 r 0) = A.inv r := by
  unfold invT Args.inv
  pointwise

def zT (A : Args) : FVec Ideal S4096x1024 .f32 := mulf A.x (broadcastInDim S4096x1024 ![0, 1] bcast_S4096x1_S4096x1024_0_1 (invT A))

theorem zT_at (A : Args) (r : Fin 4096) (k : Fin 1024) : zT A (ix2 r k) = A.z r k := by
  unfold zT Args.z
  rw [← invT_at]
  pointwise

theorem gxT_eq (A : Args) : addf A.dy (mulf (broadcastInDim S4096x1024 ![0, 1] bcast_S4096x1_S4096x1024_0_1 (invT A))
    (subf (mulf (dhT A) (broadcastInDim S4096x1024 ![0, 1] bcast_S1x1024_S4096x1024_0_1 A.g))
      (mulf (zT A) (broadcastInDim S4096x1024 ![0, 1] bcast_S4096x1_S4096x1024_0_1
        (Host.divf (broadcastInDim S4096x1 ![0] bcast_S4096_S4096x1_0 (Host.reduceAdd (mulf (mulf (dhT A)
          (broadcastInDim S4096x1024 ![0, 1] bcast_S1x1024_S4096x1024_0_1 A.g)) (zT A)) (constant S_ .f32 0x00000000#32) reducesTo_S4096x1024_S4096_d1 h_S_))
          (broadcastInDim S4096x1 ![] bcast_S_S4096x1 (constant S_ .f32 0x44800000#32))))))) = A.gx := by
  funext i
  obtain ⟨a, b, rfl⟩ : ∃ (a : Fin 4096) (b : Fin 1024), i = ix2 a b := ⟨i 0, i 1, eq_ix2 i⟩
  unfold Args.gx
  pointwise
  simp only [dhT_at, zT_at, invT_at]

theorem gwT_eq (A : Args) : Host.dotGeneral dot_S3328x4096_S4096x1024_S3328x1024_1_0_0_1_n_n none
    (transpose S3328x4096 [1, 0] (extf .f32 (catT A) bitsLt_bf16_f32) transposes_S4096x3328_S3328x4096_1_0)
    (mulf (zT A) (broadcastInDim S4096x1024 ![0, 1] bcast_S1x1024_S4096x1024_0_1 A.g)) = A.gw := by
  funext i
  obtain ⟨a, b, rfl⟩ : ∃ (a : Fin 3328) (b : Fin 1024), i = ix2 a b := ⟨i 0, i 1, eq_ix2 i⟩
  unfold Args.gw
  pointwise
  simp only [catT_at, zT_at]

theorem ggT_eq (A : Args) : broadcastInDim S1x1024 ![1] bcast_S1024_S1x1024_1
    (Host.reduceAdd (mulf (dhT A) (zT A)) (constant S_ .f32 0x00000000#32) reducesTo_S4096x1024_S1024_d0 h_S_) = A.gg := by
  funext i
  obtain ⟨a, b, rfl⟩ : ∃ (a : Fin 1) (b : Fin 1024), i = ix2 a b := ⟨i 0, i 1, eq_ix2 i⟩
  unfold Args.gg
  pointwise
  simp only [dhT_at, zT_at]

/-- The reference's run leaves the three gradients. -/
theorem run_grads : θ_run defs (onTc (τ := τ) (main (F := Ideal))) ⟨m, fun _ => 0, ρ⟩ fun r => ∀ c : Dev nD,
      r.2.mem ((c.tc : Thread nD τ).loc main_v26) = (args m c).gx
      ∧ r.2.mem ((c.tc : Thread nD τ).loc main_v40) = (args m c).gw
      ∧ r.2.mem ((c.tc : Thread nD τ).loc main_v43) = (args m c).gg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ⟨(h c).1.trans (gxT_eq (args m c)), (h c).2.1.trans (gwT_eq (args m c)), (h c).2.2.1.trans (ggT_eq (args m c)), (h c).2.2.2⟩) (run m ρ)
end Cert.ProjBwdRefIdeal.Value
end
-- ==== Proof.ProjBwd.lean ====
/-
  The backward pass of the input projection.
  The kernel goes through the tokens 256 at a time. A token's gradient depends on that token's rows alone; the weight's
  and the gain's gradients are sums over all tokens, which the kernel adds up block by block.
-/
module

public import proofs.«01_k».proof.Defs
public import proofs.«01_k».proof.Proof.ProjBwd.Ref
public import proofs.«01_k».proof.Proof.Gen.ProjBwdIdeal.Value
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.ProjBwdIdeal.Value

open Cert.ProjBwdIdeal Cert.ProjBwdIdeal.Gen
open Cert.ProjBwd (Args)
open Idealize.ShloMosaic.Pipeline (Dat)

variable (m : (ℓ : Loc nD τ sig) → Buf (Elt Ideal) ℓ) (ρ : Dev nD → PrngReg)

set_option maxRecDepth 16384

/-- The kernel's arguments. -/
abbrev args (c : Dev nD) : Args where
  x := m ((c.tc : Thread nD τ).loc main_arg0)
  dy := m ((c.tc : Thread nD τ).loc main_arg1)
  g := m ((c.tc : Thread nD τ).loc main_arg2)
  w := m ((c.tc : Thread nD τ).loc main_arg3)
  d0 := m ((c.tc : Thread nD τ).loc main_arg4)
  d1 := m ((c.tc : Thread nD τ).loc main_arg5)
  d2 := m ((c.tc : Thread nD τ).loc main_arg6)
  d3 := m ((c.tc : Thread nD τ).loc main_arg7)
  d4 := m ((c.tc : Thread nD τ).loc main_arg8)
  d5 := m ((c.tc : Thread nD τ).loc main_arg9)
  d6 := m ((c.tc : Thread nD τ).loc main_arg10)

/-- Where the windows' blocks lie: all move with the point, except the gain and its gradient. -/
theorem idx_facts : ∀ t : Fin cfg0.N,
    win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![0, 0] :=
  (by decide +kernel : ∀ t : Fin grid0.N, _)

theorem lt16 (t : Fin cfg0.N) : t.val < 16 := t.isLt

/-- Row `r` of point `t`'s block is row `256 t + r` of the array. -/
def at_ (t : Fin cfg0.N) (r : Fin 256) : Fin 4096 := ⟨t.val * 256 + r.val, by have := lt16 t; omega⟩

/-! What the windows' blocks hold. -/

theorem iblk0 (c : Dev nD) (t : Fin cfg0.N) (r : Fin 256) (k : Fin 1024) :
    iblk m c 0 t (ix2 r k) = (args m c).x (ix2 (at_ t r) k) := by blk_ext [iblk, V, idx_facts t, at_]
theorem iblk1 (c : Dev nD) (t : Fin cfg0.N) (r : Fin 256) (k : Fin 1024) :
    iblk m c 1 t (ix2 r k) = (args m c).dy (ix2 (at_ t r) k) := by blk_ext [iblk, V, idx_facts t, at_]
theorem iblk2 (c : Dev nD) (t : Fin cfg0.N) (k : Fin 1024) :
    iblk m c 2 t (ix2 0 k) = (args m c).g (ix2 0 k) := by blk_ext [iblk, V, idx_facts t, at_]
theorem iblk3 (c : Dev nD) (t : Fin cfg0.N) (r : Fin 256) (j : Fin 768) :
    iblk m c 3 t (ix2 r j) = (args m c).d0 (ix2 (at_ t r) j) := by blk_ext [iblk, V, idx_facts t, at_]
theorem iblk4 (c : Dev nD) (t : Fin cfg0.N) (r : Fin 256) (j : Fin 512) :
    iblk m c 4 t (ix2 r j) = (args m c).d1 (ix2 (at_ t r) j) := by blk_ext [iblk, V, idx_facts t, at_]
theorem iblk5 (c : Dev nD) (t : Fin cfg0.N) (r : Fin 256) (j : Fin 512) :
    iblk m c 5 t (ix2 r j) = (args m c).d2 (ix2 (at_ t r) j) := by blk_ext [iblk, V, idx_facts t, at_]
theorem iblk6 (c : Dev nD) (t : Fin cfg0.N) (r : Fin 256) (j : Fin 512) :
    iblk m c 6 t (ix2 r j) = (args m c).d3 (ix2 (at_ t r) j) := by blk_ext [iblk, V, idx_facts t, at_]
theorem iblk7 (c : Dev nD) (t : Fin cfg0.N) (r : Fin 256) (j : Fin 512) :
    iblk m c 7 t (ix2 r j) = (args m c).d4 (ix2 (at_ t r) j) := by blk_ext [iblk, V, idx_facts t, at_]
theorem iblk8 (c : Dev nD) (t : Fin cfg0.N) (r : Fin 256) (j : Fin 256) :
    iblk m c 8 t (ix2 r j) = (args m c).d5 (ix2 (at_ t r) j) := by blk_ext [iblk, V, idx_facts t, at_]
theorem iblk9 (c : Dev nD) (t : Fin cfg0.N) (r : Fin 256) (j : Fin 256) :
    iblk m c 9 t (ix2 r j) = (args m c).d6 (ix2 (at_ t r) j) := by blk_ext [iblk, V, idx_facts t, at_]

/-! What the body computes of its blocks, index by index. -/

theorem pay1_at (z dh : FVec Ideal S256x1024 .f32) (o : Vec Ideal S1x1024 .f32) (k : Fin 1024) :
    k0_pay1 z dh o (ix2 0 k) = o (ix2 0 k) + ∑ r : Fin 256, dh (ix2 r k) * z (ix2 r k) := by pointwise [k0_pay1]

theorem pay2_at (v : FVec Ideal S256x1 .f32) (z : FVec Ideal S256x1024 .f32) (g : Vec Ideal S1x1024 .f32)
    (dh : FVec Ideal S256x1024 .f32) (y : Vec Ideal S256x1024 .f32) (r : Fin 256) (k : Fin 1024) : k0_pay2 v z g dh y (ix2 r k)
      = y (ix2 r k) + v (ix2 r 0) * (dh (ix2 r k) * g (ix2 0 k) - z (ix2 r k)
        * Ideal.div (∑ l : Fin 1024, dh (ix2 r l) * g (ix2 0 l) * z (ix2 r l)) (Ideal.ofBits FTy.f32 1149239296#32)) := by
  pointwise [k0_pay2]

theorem pay5_at (c : Dev nD) (t : Fin cfg0.N) (r : Fin 256) :
    k0_pay5 (F := Ideal) (iblk m c 0 t) (ix2 r 0) = (args m c).inv (at_ t r) := by
  unfold Args.inv
  pointwise [k0_pay5]
  simp only [iblk0]

theorem pay6_at (c : Dev nD) (t : Fin cfg0.N) (r : Fin 256) (k : Fin 1024) :
    k0_pay6 (F := Ideal) (iblk m c 0 t) (ix2 r k) = (args m c).z (at_ t r) k := by
  unfold Args.z
  pointwise [k0_pay6]
  simp only [iblk0, pay5_at]

theorem pay7_at (c : Dev nD) (t : Fin cfg0.N) (r : Fin 256) (k : Fin 1024) :
    k0_pay7 (F := Ideal) (iblk m c 0 t) (iblk m c 2 t) (ix2 r k) = (args m c).z (at_ t r) k * (args m c).g (ix2 0 k) := by
  pointwise [k0_pay7]
  simp only [iblk2, pay6_at]

/-- Fusing seven sums over the parts into one over all columns. -/
theorem sum_parts (f : Fin 3328 → EReal) : ∑ j, f j
    = (∑ j : Fin 768, f ⟨j.val, by omega⟩) + (∑ j : Fin 512, f ⟨768 + j.val, by omega⟩) + (∑ j : Fin 512, f ⟨1280 + j.val, by omega⟩)
      + (∑ j : Fin 512, f ⟨1792 + j.val, by omega⟩) + (∑ j : Fin 512, f ⟨2304 + j.val, by omega⟩)
      + (∑ j : Fin 256, f ⟨2816 + j.val, by omega⟩) + ∑ j : Fin 256, f ⟨3072 + j.val, by omega⟩ := by
  rw [Fin.sum_univ_add (a := 3072) (b := 256) f, Fin.sum_univ_add (a := 2816) (b := 256), Fin.sum_univ_add (a := 2304) (b := 512),
    Fin.sum_univ_add (a := 1792) (b := 512), Fin.sum_univ_add (a := 1280) (b := 512), Fin.sum_univ_add (a := 768) (b := 512)]
  rfl

/-- The gradient of the projection's input as the body computes it at point `t`, from the weight `W`. -/
abbrev dhB (c : Dev nD) (t : Fin cfg0.N) (W : Vec Ideal S3328x1024 .bf16) : FVec Ideal S256x1024 .f32 :=
  k0_pay17 (k0_pay13 (k0_pay8 (iblk m c 3 t) (View.ld W (Rect.unit ![0, 0] ![768, 1024] inb_S3328x1024_S768x1024_0_0)))
      (k0_pay10 (iblk m c 4 t) (View.ld W (Rect.unit ![768, 0] ![512, 1024] inb_S3328x1024_S512x1024_768_0)))
      (iblk m c 5 t) (View.ld W (Rect.unit ![1280, 0] ![512, 1024] inb_S3328x1024_S512x1024_1280_0))
      (iblk m c 6 t) (View.ld W (Rect.unit ![1792, 0] ![512, 1024] inb_S3328x1024_S512x1024_1792_0)))
    (iblk m c 7 t) (View.ld W (Rect.unit ![2304, 0] ![512, 1024] inb_S3328x1024_S512x1024_2304_0))
    (iblk m c 8 t) (View.ld W (Rect.unit ![2816, 0] ![256, 1024] inb_S3328x1024_S256x1024_2816_0))
    (iblk m c 9 t) (View.ld W (Rect.unit ![3072, 0] ![256, 1024] inb_S3328x1024_S256x1024_3072_0))

theorem dhB_at (c : Dev nD) (t : Fin cfg0.N) (r : Fin 256) (k : Fin 1024) :
    dhB m c t (m ((c.tc : Thread nD τ).loc main_arg3)) (ix2 r k) = (args m c).dh (at_ t r) k := by
  unfold Args.dh
  rw [sum_parts]
  pointwise [k0_pay17, k0_pay13, k0_pay8, k0_pay10]
  simp only [iblk3, iblk4, iblk5, iblk6, iblk7, iblk8, iblk9, Args.d_part0, Args.d_part1, Args.d_part2, Args.d_part3, Args.d_part4,
    Args.d_part5, Args.d_part6]

/-! What the buffers hold after each point. -/

theorem cov_whole {S : Shape} {e : EltTy} {sp : Space} (v : View sig .tc sp S e) (w : S.Idx → Elt Ideal e) (r : Rect S) :
    v.readCov [⟨Rect.whole S, w⟩] r.toLoadRect = View.ld w r := by
  rw [View.readCov_eq_canon']
  funext y
  exact congrFun (View.canon_unit_zero (S := S) rfl _ w) _

/-- The weight is fetched at the first point and kept. -/
theorem wt_at (c : Dev nD) (n : ℕ) (h : n < cfg0.N) : (outsAt0 m c n h).2.2.1 = m ((c.tc : Thread nD τ).loc main_arg3) := by
  induction n with
  | zero =>
    rw [outsAt0_A m c ⟨0, h⟩ rfl (show ¬ 0 % 16 = 15 by decide)]
    frame_out
    exact View.canon_unit_zero (S := S3328x1024) rfl _ _
  | succ n ih =>
    have hn : n + 1 < 16 := h
    have h0 : ¬ (n + 1) % 16 = 0 := by omega
    by_cases h1 : (n + 1) % 16 = 15
    · rw [outsAt0_C m c ⟨n + 1, h⟩ h0 h1]
      dsimp only
      unfold sout0_C_0
      exact ih _
    · rw [outsAt0_B m c ⟨n + 1, h⟩ h0 h1]
      dsimp only
      unfold sout0_B_0
      exact ih _

theorem out10 (c : Dev nD) (t : Fin cfg0.N) : (outsAt0 m c t.val t.isLt).1
    = k0_pay2 (k0_pay5 (iblk m c 0 t)) (k0_pay6 (iblk m c 0 t)) (iblk m c 2 t)
      (dhB m c t (m ((c.tc : Thread nD τ).loc main_arg3))) (iblk m c 1 t) := by
  by_cases h0 : t.val % 16 = 0
  · rw [outsAt0_A m c t h0 (by omega)]
    frame_out
    simp only [cov_whole]
    rfl
  · by_cases h1 : t.val % 16 = 15
    · rw [outsAt0_C m c t h0 h1]
      frame_out
      simp only [read_unread_whole, wt_at]
    · rw [outsAt0_B m c t h0 h1]
      frame_out
      simp only [read_unread_whole, wt_at]

theorem out11_A (c : Dev nD) (t : Fin cfg0.N) (h0 : t.val % 16 = 0) : (outsAt0 m c t.val t.isLt).2.1
    = k0_pay1 (k0_pay6 (iblk m c 0 t)) (dhB m c t (m ((c.tc : Thread nD τ).loc main_arg3))) (k0_pay4 (F := Ideal)) := by
  rw [outsAt0_A m c t h0 (by omega)]
  frame_out
  simp only [cov_whole]
  rfl

theorem out11_B (c : Dev nD) (t : Fin cfg0.N) (h0 : ¬t.val % 16 = 0) : (outsAt0 m c t.val t.isLt).2.1
    = k0_pay1 (k0_pay6 (iblk m c 0 t)) (dhB m c t (m ((c.tc : Thread nD τ).loc main_arg3)))
      (outsAt0 m c (t.val - 1) (Nat.lt_of_le_of_lt (Nat.sub_le _ _) t.isLt)).2.1 := by
  by_cases h1 : t.val % 16 = 15
  · rw [outsAt0_C m c t h0 h1]
    frame_out
    simp only [read_unread_whole, wt_at]
  · rw [outsAt0_B m c t h0 h1]
    frame_out
    simp only [read_unread_whole, wt_at]

theorem hz : (![0, 0] : Fin 2 → Nat) = fun _ => 0 := funext fun a => by fin_cases a <;> rfl

/-- The weight's gradient so far, plus this block's. -/
abbrev gwStep (c : Dev nD) (t : Fin cfg0.N) (X : FVec Ideal S3328x1024 .f32) : FVec Ideal S3328x1024 .f32 := fun i =>
  X i + ∑ r : Fin 256, (args m c).d (at_ t r) (i 0) * ((args m c).z (at_ t r) (i 1) * (args m c).g (ix2 0 (i 1)))

theorem part0_at (c : Dev nD) (t : Fin cfg0.N) (X : FVec Ideal S3328x1024 .f32) (x : S768x1024.Idx) :
    k0_pay9 (iblk m c 0 t) (iblk m c 2 t) (iblk m c 3 t) (View.ld X (Rect.unit ![0, 0] ![768, 1024] inb_S3328x1024_S768x1024_0_0 : Rect S3328x1024)) x
      = gwStep m c t X ((Rect.unit ![0, 0] ![768, 1024] inb_S3328x1024_S768x1024_0_0 : Rect S3328x1024).emb x) := by
  obtain ⟨a, b, rfl⟩ : ∃ (a : Fin 768) (b : Fin 1024), x = ix2 a b := ⟨x 0, x 1, eq_ix2 x⟩
  rw [show (Rect.unit ![0, 0] ![768, 1024] inb_S3328x1024_S768x1024_0_0 : Rect S3328x1024).emb (ix2 a b) = ix2 ⟨a.val, by omega⟩ b from by
    funext e; apply Fin.ext
    match e with
    | ⟨0, _⟩ => show 0 + 1 * a.val = a.val; omega
    | ⟨1, _⟩ => show 0 + 1 * b.val = b.val; omega]
  unfold gwStep
  pointwise [k0_pay9]
  simp only [iblk3, pay7_at, Args.d_part0]
theorem part1_at (c : Dev nD) (t : Fin cfg0.N) (X : FVec Ideal S3328x1024 .f32) (x : S512x1024.Idx) :
    k0_pay11 (k0_pay7 (iblk m c 0 t) (iblk m c 2 t)) (iblk m c 4 t) (View.ld X (Rect.unit ![768, 0] ![512, 1024] inb_S3328x1024_S512x1024_768_0 : Rect S3328x1024)) x
      = gwStep m c t X ((Rect.unit ![768, 0] ![512, 1024] inb_S3328x1024_S512x1024_768_0 : Rect S3328x1024).emb x) := by
  obtain ⟨a, b, rfl⟩ : ∃ (a : Fin 512) (b : Fin 1024), x = ix2 a b := ⟨x 0, x 1, eq_ix2 x⟩
  rw [show (Rect.unit ![768, 0] ![512, 1024] inb_S3328x1024_S512x1024_768_0 : Rect S3328x1024).emb (ix2 a b) = ix2 ⟨768 + a.val, by omega⟩ b from by
    funext e; apply Fin.ext
    match e with
    | ⟨0, _⟩ => show 768 + 1 * a.val = 768 + a.val; omega
    | ⟨1, _⟩ => show 0 + 1 * b.val = b.val; omega]
  unfold gwStep
  pointwise [k0_pay11]
  simp only [iblk4, pay7_at, Args.d_part1]
theorem part2_at (c : Dev nD) (t : Fin cfg0.N) (X : FVec Ideal S3328x1024 .f32) (x : S512x1024.Idx) :
    k0_pay12 (k0_pay7 (iblk m c 0 t) (iblk m c 2 t)) (iblk m c 5 t) (View.ld X (Rect.unit ![1280, 0] ![512, 1024] inb_S3328x1024_S512x1024_1280_0 : Rect S3328x1024)) x
      = gwStep m c t X ((Rect.unit ![1280, 0] ![512, 1024] inb_S3328x1024_S512x1024_1280_0 : Rect S3328x1024).emb x) := by
  obtain ⟨a, b, rfl⟩ : ∃ (a : Fin 512) (b : Fin 1024), x = ix2 a b := ⟨x 0, x 1, eq_ix2 x⟩
  rw [show (Rect.unit ![1280, 0] ![512, 1024] inb_S3328x1024_S512x1024_1280_0 : Rect S3328x1024).emb (ix2 a b) = ix2 ⟨1280 + a.val, by omega⟩ b from by
    funext e; apply Fin.ext
    match e with
    | ⟨0, _⟩ => show 1280 + 1 * a.val = 1280 + a.val; omega
    | ⟨1, _⟩ => show 0 + 1 * b.val = b.val; omega]
  unfold gwStep
  pointwise [k0_pay12]
  simp only [iblk5, pay7_at, Args.d_part2]
theorem part3_at (c : Dev nD) (t : Fin cfg0.N) (X : FVec Ideal S3328x1024 .f32) (x : S512x1024.Idx) :
    k0_pay14 (k0_pay7 (iblk m c 0 t) (iblk m c 2 t)) (iblk m c 6 t) (View.ld X (Rect.unit ![1792, 0] ![512, 1024] inb_S3328x1024_S512x1024_1792_0 : Rect S3328x1024)) x
      = gwStep m c t X ((Rect.unit ![1792, 0] ![512, 1024] inb_S3328x1024_S512x1024_1792_0 : Rect S3328x1024).emb x) := by
  obtain ⟨a, b, rfl⟩ : ∃ (a : Fin 512) (b : Fin 1024), x = ix2 a b := ⟨x 0, x 1, eq_ix2 x⟩
  rw [show (Rect.unit ![1792, 0] ![512, 1024] inb_S3328x1024_S512x1024_1792_0 : Rect S3328x1024).emb (ix2 a b) = ix2 ⟨1792 + a.val, by omega⟩ b from by
    funext e; apply Fin.ext
    match e with
    | ⟨0, _⟩ => show 1792 + 1 * a.val = 1792 + a.val; omega
    | ⟨1, _⟩ => show 0 + 1 * b.val = b.val; omega]
  unfold gwStep
  pointwise [k0_pay14]
  simp only [iblk6, pay7_at, Args.d_part3]
theorem part4_at (c : Dev nD) (t : Fin cfg0.N) (X : FVec Ideal S3328x1024 .f32) (x : S512x1024.Idx) :
    k0_pay15 (k0_pay7 (iblk m c 0 t) (iblk m c 2 t)) (iblk m c 7 t) (View.ld X (Rect.unit ![2304, 0] ![512, 1024] inb_S3328x1024_S512x1024_2304_0 : Rect S3328x1024)) x
      = gwStep m c t X ((Rect.unit ![2304, 0] ![512, 1024] inb_S3328x1024_S512x1024_2304_0 : Rect S3328x1024).emb x) := by
  obtain ⟨a, b, rfl⟩ : ∃ (a : Fin 512) (b : Fin 1024), x = ix2 a b := ⟨x 0, x 1, eq_ix2 x⟩
  rw [show (Rect.unit ![2304, 0] ![512, 1024] inb_S3328x1024_S512x1024_2304_0 : Rect S3328x1024).emb (ix2 a b) = ix2 ⟨2304 + a.val, by omega⟩ b from by
    funext e; apply Fin.ext
    match e with
    | ⟨0, _⟩ => show 2304 + 1 * a.val = 2304 + a.val; omega
    | ⟨1, _⟩ => show 0 + 1 * b.val = b.val; omega]
  unfold gwStep
  pointwise [k0_pay15]
  simp only [iblk7, pay7_at, Args.d_part4]
theorem part5_at (c : Dev nD) (t : Fin cfg0.N) (X : FVec Ideal S3328x1024 .f32) (x : S256x1024.Idx) :
    k0_pay16 (k0_pay7 (iblk m c 0 t) (iblk m c 2 t)) (iblk m c 8 t) (View.ld X (Rect.unit ![2816, 0] ![256, 1024] inb_S3328x1024_S256x1024_2816_0 : Rect S3328x1024)) x
      = gwStep m c t X ((Rect.unit ![2816, 0] ![256, 1024] inb_S3328x1024_S256x1024_2816_0 : Rect S3328x1024).emb x) := by
  obtain ⟨a, b, rfl⟩ : ∃ (a : Fin 256) (b : Fin 1024), x = ix2 a b := ⟨x 0, x 1, eq_ix2 x⟩
  rw [show (Rect.unit ![2816, 0] ![256, 1024] inb_S3328x1024_S256x1024_2816_0 : Rect S3328x1024).emb (ix2 a b) = ix2 ⟨2816 + a.val, by omega⟩ b from by
    funext e; apply Fin.ext
    match e with
    | ⟨0, _⟩ => show 2816 + 1 * a.val = 2816 + a.val; omega
    | ⟨1, _⟩ => show 0 + 1 * b.val = b.val; omega]
  unfold gwStep
  pointwise [k0_pay16]
  simp only [iblk8, pay7_at, Args.d_part5]
theorem part6_at (c : Dev nD) (t : Fin cfg0.N) (X : FVec Ideal S3328x1024 .f32) (x : S256x1024.Idx) :
    k0_pay18 (k0_pay7 (iblk m c 0 t) (iblk m c 2 t)) (iblk m c 9 t) (View.ld X (Rect.unit ![3072, 0] ![256, 1024] inb_S3328x1024_S256x1024_3072_0 : Rect S3328x1024)) x
      = gwStep m c t X ((Rect.unit ![3072, 0] ![256, 1024] inb_S3328x1024_S256x1024_3072_0 : Rect S3328x1024).emb x) := by
  obtain ⟨a, b, rfl⟩ : ∃ (a : Fin 256) (b : Fin 1024), x = ix2 a b := ⟨x 0, x 1, eq_ix2 x⟩
  rw [show (Rect.unit ![3072, 0] ![256, 1024] inb_S3328x1024_S256x1024_3072_0 : Rect S3328x1024).emb (ix2 a b) = ix2 ⟨3072 + a.val, by omega⟩ b from by
    funext e; apply Fin.ext
    match e with
    | ⟨0, _⟩ => show 3072 + 1 * a.val = 3072 + a.val; omega
    | ⟨1, _⟩ => show 0 + 1 * b.val = b.val; omega]
  unfold gwStep
  pointwise [k0_pay18]
  simp only [iblk9, pay7_at, Args.d_part6]

/-- The pieces the body stores into the accumulator at point `t` over `X`. -/
abbrev pieces (c : Dev nD) (t : Fin cfg0.N) (X : FVec Ideal S3328x1024 .f32) : List (View.Piece (Elt Ideal) S3328x1024 .f32) :=
  [⟨Rect.unit ![3072, 0] ![256, 1024] inb_S3328x1024_S256x1024_3072_0, k0_pay18 (k0_pay7 (iblk m c 0 t) (iblk m c 2 t)) (iblk m c 9 t) (View.ld X (Rect.unit ![3072, 0] ![256, 1024] inb_S3328x1024_S256x1024_3072_0 : Rect S3328x1024))⟩,
    ⟨Rect.unit ![2816, 0] ![256, 1024] inb_S3328x1024_S256x1024_2816_0, k0_pay16 (k0_pay7 (iblk m c 0 t) (iblk m c 2 t)) (iblk m c 8 t) (View.ld X (Rect.unit ![2816, 0] ![256, 1024] inb_S3328x1024_S256x1024_2816_0 : Rect S3328x1024))⟩,
    ⟨Rect.unit ![2304, 0] ![512, 1024] inb_S3328x1024_S512x1024_2304_0, k0_pay15 (k0_pay7 (iblk m c 0 t) (iblk m c 2 t)) (iblk m c 7 t) (View.ld X (Rect.unit ![2304, 0] ![512, 1024] inb_S3328x1024_S512x1024_2304_0 : Rect S3328x1024))⟩,
    ⟨Rect.unit ![1792, 0] ![512, 1024] inb_S3328x1024_S512x1024_1792_0, k0_pay14 (k0_pay7 (iblk m c 0 t) (iblk m c 2 t)) (iblk m c 6 t) (View.ld X (Rect.unit ![1792, 0] ![512, 1024] inb_S3328x1024_S512x1024_1792_0 : Rect S3328x1024))⟩,
    ⟨Rect.unit ![1280, 0] ![512, 1024] inb_S3328x1024_S512x1024_1280_0, k0_pay12 (k0_pay7 (iblk m c 0 t) (iblk m c 2 t)) (iblk m c 5 t) (View.ld X (Rect.unit ![1280, 0] ![512, 1024] inb_S3328x1024_S512x1024_1280_0 : Rect S3328x1024))⟩,
    ⟨Rect.unit ![768, 0] ![512, 1024] inb_S3328x1024_S512x1024_768_0, k0_pay11 (k0_pay7 (iblk m c 0 t) (iblk m c 2 t)) (iblk m c 4 t) (View.ld X (Rect.unit ![768, 0] ![512, 1024] inb_S3328x1024_S512x1024_768_0 : Rect S3328x1024))⟩,
    ⟨Rect.unit ![0, 0] ![768, 1024] inb_S3328x1024_S768x1024_0_0, k0_pay9 (iblk m c 0 t) (iblk m c 2 t) (iblk m c 3 t) (View.ld X (Rect.unit ![0, 0] ![768, 1024] inb_S3328x1024_S768x1024_0_0 : Rect S3328x1024))⟩]

theorem canon_pieces (c : Dev nD) (t : Fin cfg0.N) (X : FVec Ideal S3328x1024 .f32) (L' : List (View.Piece (Elt Ideal) S3328x1024 .f32)) :
    View.canon (pieces m c t X ++ L') = gwStep m c t X := by
  funext y
  have h : View.PiecesOf (Val := Elt Ideal) (e := .f32) (gwStep m c t X) (pieces m c t X) :=
    ⟨part6_at m c t X, part5_at m c t X, part4_at m c t X, part3_at m c t X, part2_at m c t X, part1_at m c t X, part0_at m c t X, trivial⟩
  exact View.canon_append_of_piecesOf _ L' _ h y (View.cover_of_tiledBy _ ![256, 1024] (by sl_kernel_rfl) y)

theorem acc_A (c : Dev nD) (t : Fin cfg0.N) (h0 : t.val % 16 = 0) : (outsAt0 m c t.val t.isLt).2.2.2.1 = gwStep m c t (k0_pay3 (F := Ideal)) := by
  rw [outsAt0_A m c t h0 (by omega)]
  frame_open
  simp (disch := decide) only [↓View.readCov_skip, ↓View.readCov_fill]
  frame_out
  exact canon_pieces m c t (k0_pay3 (F := Ideal)) [_]

theorem acc_B (c : Dev nD) (t : Fin cfg0.N) (h0 : ¬t.val % 16 = 0) : (outsAt0 m c t.val t.isLt).2.2.2.1
    = gwStep m c t (outsAt0 m c (t.val - 1) (Nat.lt_of_le_of_lt (Nat.sub_le _ _) t.isLt)).2.2.2.1 := by
  by_cases h1 : t.val % 16 = 15
  · rw [outsAt0_C m c t h0 h1]
    frame_out
    simp only [read_unread_whole]
    exact canon_pieces m c t _ []
  · rw [outsAt0_B m c t h0 h1]
    frame_out
    simp only [read_unread_whole]
    exact canon_pieces m c t _ []

theorem hbm_C (c : Dev nD) (t : Fin cfg0.N) (h0 : ¬t.val % 16 = 0) (h1 : t.val % 16 = 15) : (outsAt0 m c t.val t.isLt).2.2.2.2 =
    gwStep m c t (outsAt0 m c (t.val - 1) (Nat.lt_of_le_of_lt (Nat.sub_le _ _) t.isLt)).2.2.2.1 := by
  rw [outsAt0_C m c t h0 h1]
  unfold hbw0_C_1
  frame_open
  simp only [View.readAt_eq_ld, Memref.IsWhole.read_unread, View.ld_unit_zero (S := S256x1024) hz, View.ld_unit_zero (S := S1x1024) hz,
    View.ld_unit_zero (S := S256x256) hz, View.ld_unit_zero (S := S256x512) hz, View.ld_unit_zero (S := S256x768) hz]
  rw [View.write_whole_univ]
  refine (View.read_writes_of_cover (View.whole cc0_scratch1) _ (View.whole cc0_scratch1) (View.junk _) (pieces m c t _)
    (View.cover_of_tiledBy _ ![256, 1024] (by sl_kernel_rfl))).trans ?_
  rw [View.read_writes_junk_eq_canon, read_unread_whole]
  exact canon_pieces m c t (outsAt0 m c (t.val - 1) (Nat.lt_of_le_of_lt (Nat.sub_le _ _) t.isLt)).2.2.2.1 []

/-! The three results. -/

theorem final10 (c : Dev nD) : (dats m 0 c).arrAt 10 cfg0.N = (args m c).gx := by
  refine (dats m 0 c).arrAt_eq_of_covers 10 _ (by decide +kernel) fun t _ y => ?_
  obtain ⟨r, k, rfl⟩ : ∃ (r : Fin 256) (k : Fin 1024), y = ix2 r k := ⟨y 0, y 1, eq_ix2 y⟩
  rw [after0_10, out10]
  show k0_pay2 _ _ _ _ _ (ix2 r k) = (args m c).gx (((cfg0.win 10).blk t).view.emb (ix2 r k))
  rw [show ((cfg0.win 10).blk t).view.emb (ix2 r k) = ix2 (at_ t r) k from by
    have e := (idx_facts t).2.2.2.2.2.2.2.2.2.2.1
    funext a; apply Fin.ext
    match a with
    | ⟨0, _⟩ => show win0_10.index t (0 : Fin 2) * 256 + 1 * r.val = t.val * 256 + r.val; rw [e]; show t.val * 256 + 1 * r.val = _; omega
    | ⟨1, _⟩ => show win0_10.index t (1 : Fin 2) * 1024 + 1 * k.val = k.val; rw [e]; show 0 * 1024 + 1 * k.val = _; omega]
  unfold Args.gx
  refine (pay2_at ..).trans ?_
  simp only [pay5_at, pay6_at, dhB_at, iblk1, iblk2]
  rfl

theorem pay3_at (i : S3328x1024.Idx) : k0_pay3 (F := Ideal) i = 0 := by pointwise [k0_pay3]
theorem pay4_at (k : Fin 1024) : k0_pay4 (F := Ideal) (ix2 0 k) = 0 := by pointwise [k0_pay4]

/-- A sum over the points of sums over their rows is one over all rows. -/
theorem sum_rows (f : Fin 4096 → EReal) : ∑ t : Fin cfg0.N, ∑ r : Fin 256, f (at_ t r) = ∑ r, f r :=
  Fin.sum_mul_add_fin 16 256 f

theorem acc_last (c : Dev nD) (t : Fin cfg0.N) (ht : t.val = 15) : (outsAt0 m c t.val t.isLt).2.2.2.1 = (args m c).gw := by
  funext i
  refine (Pipeline.eq_sum_fin_of_reset_step_apply_last (fun n h => (outsAt0 m c n h).2.2.2.1) 16 (k0_pay3 (F := Ideal))
    (fun t i => ∑ r : Fin 256, (args m c).d (at_ t r) (i 0) * ((args m c).z (at_ t r) (i 1) * (args m c).g (ix2 0 (i 1))))
    (fun t h i => congrFun (acc_A m c t h) i) (fun t h i => congrFun (acc_B m c t h) i) (le_refl 16) t (by rw [ht]; rfl) i).trans ?_
  rw [pay3_at, zero_add]
  exact sum_rows fun r => (args m c).d r (i 0) * ((args m c).z r (i 1) * (args m c).g (ix2 0 (i 1)))

theorem hbm_last (c : Dev nD) (t : Fin cfg0.N) (ht : t.val = 15) : (outsAt0 m c t.val t.isLt).2.2.2.2 = (args m c).gw :=
  ((hbm_C m c t (by omega) (by omega)).trans (acc_B m c t (by omega)).symm).trans (acc_last m c t ht)

theorem hbm_end (c : Dev nD) (n : ℕ) (h : n < cfg0.N) (hn : n = 15) : (outsAt0 m c n h).2.2.2.2 = (args m c).gw :=
  hbm_last m c ⟨n, h⟩ hn

theorem last_val : (Fin.last cfg0.N).val - 1 = 15 := by rw [Fin.val_last]; have : cfg0.N = 16 := N_0; omega

theorem gg_last (c : Dev nD) (k : Fin 1024) : (outsAt0 m c t0_15.val t0_15.isLt).2.1 (ix2 0 k) = (args m c).gg (ix2 0 k) := by
  refine (Pipeline.eq_sum_fin_of_reset_step_apply_last (ι := Fin 1024) (fun n h k => (outsAt0 m c n h).2.1 (ix2 0 k)) 16
    (fun k => k0_pay4 (F := Ideal) (ix2 0 k)) (fun t k => ∑ r : Fin 256, (args m c).dh (at_ t r) k * (args m c).z (at_ t r) k)
    (fun t h k => ?_) (fun t h k => ?_) (le_refl 16) t0_15 rfl k).trans ?_
  · rw [out11_A m c t h]
    refine (pay1_at ..).trans ?_
    simp only [dhB_at, pay6_at]
  · rw [out11_B m c t h]
    refine (pay1_at ..).trans ?_
    simp only [dhB_at, pay6_at]
  · rw [pay4_at, zero_add]
    exact sum_rows fun r => (args m c).dh r k * (args m c).z r k

theorem final11 (c : Dev nD) : (dats m 0 c).arrAt 11 cfg0.N = (args m c).gg := by
  refine (dats m 0 c).arrAt_eq_of_after_last 11 t0_15 (by decide +kernel) _ fun j => ?_
  obtain ⟨a, k, rfl⟩ : ∃ (a : Fin 1) (k : Fin 1024), j = ix2 a k := ⟨j 0, j 1, eq_ix2 j⟩
  obtain rfl : a = 0 := Subsingleton.elim _ _
  rw [after0_11]
  exact gg_last m c k

end Cert.ProjBwdIdeal.Value

namespace Cert.Proof

/-- The kernel's three gradients are the reference's. -/
theorem algebraic_projBwd : Cert.algebraic_ProjBwdIdeal_ProjBwdRefIdeal := by
  intro m g m' g' _ hm
  have ha : ∀ c, Cert.ProjBwdRefIdeal.Value.args m' c = Cert.ProjBwdIdeal.Value.args m c := fun c => by
    obtain ⟨h0, h1, h2, h3, h4, h5, h6, h7, h8, h9, h10⟩ := hm c
    unfold Cert.ProjBwdRefIdeal.Value.args
    rw [h0, h1, h2, h3, h4, h5, h6, h7, h8, h9, h10]
  refine ⟨fun c => (Cert.ProjBwdIdeal.Value.args m c).gx, fun c => (Cert.ProjBwdIdeal.Value.args m c).gw,
    fun c => (Cert.ProjBwdIdeal.Value.args m c).gg, ?_, ?_⟩
  · refine (θ_run _ _ _).mono (fun _ h c => ?_) (Cert.ProjBwdIdeal.Value.run_blocks m g)
    obtain ⟨hx, hg, k0, k1, k2, k3, k4, k5, k6, k7, k8, k9, k10, hw⟩ := h c
    exact ⟨hx.trans (Cert.ProjBwdIdeal.Value.final10 m c), hw.trans (Cert.ProjBwdIdeal.Value.hbm_end m c _ _ Cert.ProjBwdIdeal.Value.last_val),
      hg.trans (Cert.ProjBwdIdeal.Value.final11 m c), k0, k1, k2, k3, k4, k5, k6, k7, k8, k9, k10⟩
  · refine (θ_run _ _ _).mono (fun _ h c => ⟨(h c).1.trans ?_, (h c).2.1.trans ?_, (h c).2.2.1.trans ?_, (h c).2.2.2⟩)
      (Cert.ProjBwdRefIdeal.Value.run_grads m' g')
    all_goals rw [ha c]

end Cert.Proof
end
-- ==== Proof.Adamw.lean ====
/-
  The AdamW step of the three projections and of the packed small weights: entry by entry the same operations on the same words, so the kernel's three arrays
  are the reference's whatever the operations mean.
-/
module

public import proofs.«01_k».proof.Defs
public import proofs.«01_k».proof.Proof.Gen.AdamwInIdeal.Value
public import proofs.«01_k».proof.Proof.Gen.AdamwInRefIdeal.Run
public import proofs.«01_k».proof.Proof.Gen.AdamwKvIdeal.Value
public import proofs.«01_k».proof.Proof.Gen.AdamwKvRefIdeal.Run
public import proofs.«01_k».proof.Proof.Gen.AdamwOutIdeal.Value
public import proofs.«01_k».proof.Proof.Gen.AdamwOutRefIdeal.Run
public import proofs.«01_k».proof.Proof.Gen.AdamwSmallIdeal.Value
public import proofs.«01_k».proof.Proof.Gen.AdamwSmallRefIdeal.Run
public import Idealize.ShloMosaic.Lib.Quiescent

@[expose] public section

noncomputable section

namespace Cert.Proof

open Idealize.ShloMosaic Idealize.ShloMosaic.TcCoe Idealize.SL.Sem

/-- Of the input projection, the kernel's update, first moment and second moment are the reference's. -/
theorem algebraic_adamwIn : Cert.algebraic_AdamwInIdeal_AdamwInRefIdeal := by
  intro m g m' g' _ hm
  refine ⟨fun c => _, fun c => _, fun c => _, Cert.AdamwInIdeal.Value.run m g, ?_⟩
  refine (θ_run _ _ _).mono (fun _ h c => ⟨(h c).1.trans ?_, (h c).2.1.trans ?_, (h c).2.2.1.trans ?_, (h c).2.2.2⟩)
    (Cert.AdamwInRefIdeal.Value.run m' g')
  · rw [(hm c).1, (hm c).2.1, (hm c).2.2.1, (hm c).2.2.2]; rfl
  · rw [(hm c).2.1, (hm c).2.2.1]; rfl
  · rw [(hm c).2.1, (hm c).2.2.2]; rfl

/-- Of the memory projection, the kernel's update, first moment and second moment are the reference's. -/
theorem algebraic_adamwKv : Cert.algebraic_AdamwKvIdeal_AdamwKvRefIdeal := by
  intro m g m' g' _ hm
  refine ⟨fun c => _, fun c => _, fun c => _, Cert.AdamwKvIdeal.Value.run m g, ?_⟩
  refine (θ_run _ _ _).mono (fun _ h c => ⟨(h c).1.trans ?_, (h c).2.1.trans ?_, (h c).2.2.1.trans ?_, (h c).2.2.2⟩)
    (Cert.AdamwKvRefIdeal.Value.run m' g')
  · rw [(hm c).1, (hm c).2.1, (hm c).2.2.1, (hm c).2.2.2]; rfl
  · rw [(hm c).2.1, (hm c).2.2.1]; rfl
  · rw [(hm c).2.1, (hm c).2.2.2]; rfl

/-- Of the output projection, the kernel's update, first moment and second moment are the reference's. -/
theorem algebraic_adamwOut : Cert.algebraic_AdamwOutIdeal_AdamwOutRefIdeal := by
  intro m g m' g' _ hm
  refine ⟨fun c => _, fun c => _, fun c => _, Cert.AdamwOutIdeal.Value.run m g, ?_⟩
  refine (θ_run _ _ _).mono (fun _ h c => ⟨(h c).1.trans ?_, (h c).2.1.trans ?_, (h c).2.2.1.trans ?_, (h c).2.2.2⟩)
    (Cert.AdamwOutRefIdeal.Value.run m' g')
  · rw [(hm c).1, (hm c).2.1, (hm c).2.2.1, (hm c).2.2.2]; rfl
  · rw [(hm c).2.1, (hm c).2.2.1]; rfl
  · rw [(hm c).2.1, (hm c).2.2.2]; rfl

/-- Of the packed small weights, the kernel's update, first moment and second moment are the reference's. -/
theorem algebraic_adamwSmall : Cert.algebraic_AdamwSmallIdeal_AdamwSmallRefIdeal := by
  intro m g m' g' _ hm
  refine ⟨fun c => _, fun c => _, fun c => _, Cert.AdamwSmallIdeal.Value.run m g, ?_⟩
  refine (θ_run _ _ _).mono (fun _ h c => ⟨(h c).1.trans ?_, (h c).2.1.trans ?_, (h c).2.2.1.trans ?_, (h c).2.2.2⟩)
    (Cert.AdamwSmallRefIdeal.Value.run m' g')
  · rw [(hm c).1, (hm c).2.1, (hm c).2.2.1, (hm c).2.2.2]; rfl
  · rw [(hm c).2.1, (hm c).2.2.1]; rfl
  · rw [(hm c).2.1, (hm c).2.2.2]; rfl

end Cert.Proof
end
-- ==== Proof.Gather.Geom.lean ====
/-
The geometry of the weight gather: eight devices on a 2 × 2 × 2 mesh, a chip being a pair of cores, and the rows of
each gathered weight cut into eight halves of a chip's rows, one per core. A copy `(a, j)` moves one half of weight `a`
from a device to its peer in direction `j`.
-/
module

public import proofs.«01_k».proof.Proof.Gen.GatherIdeal
public import proofs.«01_k».proof.Proof.Gen.GatherIdeal.Skeleton
public import proofs.«01_k».proof.Proof.Gen.GatherIdeal.Launch
public import Idealize.ShloMosaic.Lib.Pipeline.Launch
public import Idealize.ShloMosaic.Lib.Pipeline.Kit
public import Idealize.ShloMosaic.Lib.Tactic

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices -/

/-- The other core of the chip, and the chips next to this one along each mesh axis (same core). -/
def sib (c : Dev nD) : Dev nD := ⟨(2 * (c.val / 2) + (1 - c.val % 2)) % 8, Nat.mod_lt _ (by decide)⟩
def xn (c : Dev nD) : Dev nD := ⟨(c.val + 4) % 8, Nat.mod_lt _ (by decide)⟩
def yn (c : Dev nD) : Dev nD := ⟨(4 * (c.val / 4) + (c.val + 2) % 4) % 8, Nat.mod_lt _ (by decide)⟩

/-- The chip across, same core. -/
def dn (c : Dev nD) : Dev nD := ⟨(4 * (1 - c.val / 4) + (c.val + 2) % 4) % 8, Nat.mod_lt _ (by decide)⟩

/-- The device that copy `j` of device `c` goes to: an even copy to another chip, an odd one to the other core. -/
def peer (j : Fin 6) (c : Dev nD) : Dev nD := match j with
  | 0 => xn c | 1 => sib c | 2 => yn c | 3 => sib c | 4 => dn c | 5 => sib c

theorem peer_peer (j : Fin 6) (c : Dev nD) : peer j (peer j c) = c := by revert j c; decide
theorem sib_sib (c : Dev nD) : sib (sib c) = c := by revert c; decide
theorem xn_xn (c : Dev nD) : xn (xn c) = c := by revert c; decide
theorem yn_yn (c : Dev nD) : yn (yn c) = c := by revert c; decide
theorem dn_dn (c : Dev nD) : dn (dn c) = c := by revert c; decide

/-! ## Pieces -/

/-- The half that copy `j` of device `c` moves: its own to another chip, then each received one to the other core. -/
def lo (j : Fin 6) (c : Dev nD) : Fin 8 := match j with
  | 0 => c | 1 => xn c | 2 => c | 3 => yn c | 4 => c | 5 => dn c
/-- The half that device `c` receives as copy `j` of its peer. -/
def inc (j : Fin 6) (c : Dev nD) : Fin 8 := lo j (peer j c)
/-- The other core's half of the chip's own rows. -/
def oh (c : Dev nD) : Fin 8 := sib c

/-- The eight halves as device `c` meets them: its own, the other core's, the received ones. -/
def ordL (c : Dev nD) : List (Fin 8) := [lo 0 c, oh c, inc 0 c, inc 1 c, inc 2 c, inc 3 c, inc 4 c, inc 5 c]
theorem ordL_nodup (c : Dev nD) : (ordL c).Nodup := by revert c; decide
theorem ordL_univ (c : Dev nD) : ∀ t : Fin 8, t ∈ ordL c := by revert c; decide

theorem lo0_val (c : Dev nD) : (lo 0 c).val = c.val := by revert c; decide
theorem oh_val (c : Dev nD) : (oh c).val = 2 * (c.val / 2) + (1 - c.val % 2) := by revert c; decide
/-- A received half lies in another chip's rows. -/
theorem inc_far (j : Fin 6) (c : Dev nD) : (inc j c).val / 2 ≠ c.val / 2 := by revert j c; decide
/-- A half received from another chip is passed on as it is. -/
theorem inc0_lo1 (c : Dev nD) : lo 1 c = inc 0 c := by revert c; decide
theorem inc2_lo3 (c : Dev nD) : lo 3 c = inc 2 c := by revert c; decide
theorem inc4_lo5 (c : Dev nD) : lo 5 c = inc 4 c := by revert c; decide

/-- Blocks of `k·q` counted in `q`s. -/
theorem mul_blocks (x k q : ℕ) : x * (k * q) = k * x * q := by rw [Nat.mul_left_comm, Nat.mul_assoc]

/-! ## Segments of rows -/

abbrev S2 (R C : ℕ) : Shape := ⟨2, ![R, C]⟩

/-- Rows `t·Q` to `(t + n)·Q` of a matrix. -/
def seg2 (R C Q t n : ℕ) : Finset (S2 R C).Idx := Finset.univ.filter fun i => t * Q ≤ (i 0).val ∧ (i 0).val < (t + n) * Q

theorem mem_seg2 {R C Q t n : ℕ} {i : (S2 R C).Idx} : i ∈ seg2 R C Q t n ↔ t * Q ≤ (i 0).val ∧ (i 0).val < (t + n) * Q := by
  unfold seg2; rw [Finset.mem_filter]; exact and_iff_right (Finset.mem_univ i)

theorem seg2_add (R C Q t n m : ℕ) : seg2 R C Q t (n + m) = seg2 R C Q t n ∪ seg2 R C Q (t + n) m := by
  ext i
  rw [Finset.mem_union, mem_seg2, mem_seg2, mem_seg2, Nat.add_assoc]
  have h1 : (t + n) * Q ≤ (t + (n + m)) * Q := Nat.mul_le_mul_right Q (by omega)
  have h2 : t * Q ≤ (t + n) * Q := Nat.mul_le_mul_right Q (by omega)
  omega

theorem seg2_disjoint (R C Q t n m : ℕ) : Disjoint (seg2 R C Q t n) (seg2 R C Q (t + n) m) := by
  rw [Finset.disjoint_left]
  intro i h1 h2
  rw [mem_seg2] at h1 h2
  omega

theorem seg2_ne {R C Q t t' : ℕ} (h : t ≠ t') : Disjoint (seg2 R C Q t 1) (seg2 R C Q t' 1) := by
  rw [Finset.disjoint_left]
  intro i h1 h2
  rw [mem_seg2] at h1 h2
  rcases Nat.lt_or_gt_of_ne h with h | h
  · have := Nat.mul_le_mul_right Q (show t + 1 ≤ t' by omega); omega
  · have := Nat.mul_le_mul_right Q (show t' + 1 ≤ t by omega); omega

theorem seg2_rect {R C Q t n : ℕ} (off size : Fin 2 → ℕ) (inb : ∀ a, off a + size a ≤ (S2 R C).size a)
    (h0 : off 0 = t * Q) (h1 : off 1 = 0) (s0 : size 0 = n * Q) (s1 : size 1 = C) :
    (Rect.unit (s := S2 R C) off size inb).set = seg2 R C Q t n := by
  ext i
  rw [Rect.mem_set_unit, mem_seg2, Nat.add_mul]
  constructor
  · intro h; have := h 0; rw [h0, s0] at this; exact this
  · intro h a
    match a with
    | 0 => rw [h0, s0]; exact h
    | 1 => rw [h1, s1]; exact ⟨Nat.zero_le _, by rw [Nat.zero_add]; exact (i 1).isLt⟩

end Cert.GatherProof

end
-- ==== Proof.Gather.Sched.lean ====
/-
The protocol of the weight gather: its cells (the entry handshake's, and one send and one receive cell per copy), what
each holds out to its owner, what every device owes and in which order it may wait.
-/
module

public import proofs.«01_k».proof.Proof.Gather.Geom

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's rounds and the protocol's (four duties at the most per round). -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The three gathered weights -/

/-- The staging buffer of gathered weight `a`. -/
abbrev ob (a : Fin 3) : Ref sig .tc := match a with
  | 0 => cc0_stg3_0 | 1 => cc0_stg4_0 | 2 => cc0_stg5_0
/-- The rows of a half of weight `a`. -/
def Q (a : Fin 3) : ℕ := match a with | 0 => 416 | 1 => 128 | 2 => 128
theorem Q_pos (a : Fin 3) : 0 < Q a := by revert a; decide

/-- The row of an element. -/
def rowOf (a : Fin 3) (i : (ob a).ty.Idx) : ℕ := match a with
  | 0 => ((i : S3328x1024.Idx) 0).val | 1 => ((i : S1024x512.Idx) 0).val | 2 => ((i : S1024x1024.Idx) 0).val
theorem rowOf_lt (a : Fin 3) (i : (ob a).ty.Idx) : rowOf a i < 8 * Q a := by
  match a with
  | 0 => exact ((i : S3328x1024.Idx) 0).isLt
  | 1 => exact ((i : S1024x512.Idx) 0).isLt
  | 2 => exact ((i : S1024x1024.Idx) 0).isLt

/-- `n` halves of weight `a` from half `t`. -/
def seg (a : Fin 3) (t n : ℕ) : Finset (ob a).ty.Idx := match a with
  | 0 => seg2 3328 1024 416 t n | 1 => seg2 1024 512 128 t n | 2 => seg2 1024 1024 128 t n

theorem mem_seg {a : Fin 3} {t n : ℕ} {i : (ob a).ty.Idx} : i ∈ seg a t n ↔ t * Q a ≤ rowOf a i ∧ rowOf a i < (t + n) * Q a := by
  match a with
  | 0 => exact mem_seg2
  | 1 => exact mem_seg2
  | 2 => exact mem_seg2
theorem seg_add (a : Fin 3) (t n k : ℕ) : seg a t (n + k) = seg a t n ∪ seg a (t + n) k := by
  match a with
  | 0 => exact seg2_add ..
  | 1 => exact seg2_add ..
  | 2 => exact seg2_add ..
theorem seg_disjoint (a : Fin 3) (t n k : ℕ) : Disjoint (seg a t n) (seg a (t + n) k) := by
  match a with
  | 0 => exact seg2_disjoint ..
  | 1 => exact seg2_disjoint ..
  | 2 => exact seg2_disjoint ..
theorem seg_ne (a : Fin 3) {t t' : ℕ} (h : t ≠ t') : Disjoint (seg a t 1) (seg a t' 1) := by
  match a with
  | 0 => exact seg2_ne h
  | 1 => exact seg2_ne h
  | 2 => exact seg2_ne h
theorem seg_cover (a : Fin 3) (i : (ob a).ty.Idx) : ∃ t : Fin 8, i ∈ seg a t.val 1 := by
  have hQ := Q_pos a
  refine ⟨⟨rowOf a i / Q a, (Nat.div_lt_iff_lt_mul hQ).mpr (rowOf_lt a i)⟩, ?_⟩
  rw [mem_seg]
  refine ⟨Nat.div_mul_le_self _ _, ?_⟩
  rw [Nat.add_mul, Nat.one_mul]
  exact Nat.lt_div_mul_add hQ

/-! ## Contents -/

/-- Device `c`'s shards, as its staging buffers hold them. -/
def x0 (c : Dev nD) : (cc0_stg0_0 : Ref sig .tc).ty.Contents (Elt F) :=
  (win0_0.blk (0 : Fin 1)).view.read (Elt F) ((s₀ m ρ).mem ((c : Thread nD τ).loc main_arg0))
def x1 (c : Dev nD) : (cc0_stg1_0 : Ref sig .tc).ty.Contents (Elt F) :=
  (win0_1.blk (0 : Fin 1)).view.read (Elt F) ((s₀ m ρ).mem ((c : Thread nD τ).loc main_arg1))
def x2 (c : Dev nD) : (cc0_stg2_0 : Ref sig .tc).ty.Contents (Elt F) :=
  (win0_2.blk (0 : Fin 1)).view.read (Elt F) ((s₀ m ρ).mem ((c : Thread nD τ).loc main_arg2))

/-- Row `r`, column `k` of a matrix of this many rows, the row taken modulo them. -/
def at2 {R C : ℕ} (hR : 0 < R) {α : Type} (v : (S2 R C).Idx → α) (r : ℕ) (k : Fin C) : α :=
  v (fun a => match a with | 0 => (⟨r % R, Nat.mod_lt _ hR⟩ : Fin R) | 1 => k)

/-- What device `d`'s cast shard of weight `a` puts at an element, its row read within the shard. -/
def val (a : Fin 3) (d : Dev nD) (i : (ob a).ty.Idx) : (Elt F) (ob a).ty.elt := match a with
  | 0 => at2 (R := 832) (C := 1024) (by decide) (k0_pay1 (x0 m ρ d)) ((i : S3328x1024.Idx) 0).val ((i : S3328x1024.Idx) 1)
  | 1 => at2 (R := 256) (C := 512) (by decide) (k0_pay2 (x1 m ρ d)) ((i : S1024x512.Idx) 0).val ((i : S1024x512.Idx) 1)
  | 2 => at2 (R := 256) (C := 1024) (by decide) (k0_pay3 (x2 m ρ d)) ((i : S1024x1024.Idx) 0).val ((i : S1024x1024.Idx) 1)

/-- The device whose shard a travelling row comes from: the chip that owns the row, the core that sends this half. -/
def srcDev (a : Fin 3) (i : (ob a).ty.Idx) : Dev nD := ⟨(rowOf a i / Q a) % 8, Nat.mod_lt _ (by decide)⟩

/-- The rows that travel. -/
def glob (a : Fin 3) : (ob a).ty.Contents (Elt F) := fun i => val m ρ a (srcDev a i) i
/-- What device `c` ends with: its chip's own rows from its own shard, the others as they travelled. -/
def outAt (a : Fin 3) (c : Dev nD) : (ob a).ty.Contents (Elt F) := fun i =>
  if rowOf a i / (2 * Q a) = c.val / 2 then val m ρ a c i else glob m ρ a i

/-- Quarters `t … t + n` of weight `a` on device `c`. -/
def pts (a : Fin 3) (c : Dev nD) (q : PosShare TreeShare) (t n : ℕ) (f : (ob a).ty.Contents (Elt F)) : sProp 𝕄 :=
  ((c : Thread nD τ).loc (ob a)) ↦[seg a t n]{q} f

omit [FloatOps F] in
instance pts_storable (a : Fin 3) (c : Dev nD) (q : PosShare TreeShare) (t n : ℕ) (f) : BI.Storable (upEmb : UEmb _ 𝕄) (pts (F := F) a c q t n f) := by
  unfold pts; infer_instance

/-! ## The cells -/

abbrev barS : Sem sig := (SemArray.scalar (sig.barrier 0 rfl) : Sems sig S_).sem
set_option backward.proofsInPublic true in
def sendS (k : Fin 3 × Fin 6) : DmaSem sig := (⟨6 + 6 * k.1.val + k.2.val, by omega⟩ : Fin 42)
set_option backward.proofsInPublic true in
def recvS (k : Fin 3 × Fin 6) : DmaSem sig := (⟨24 + 6 * k.1.val + k.2.val, by omega⟩ : Fin 42)

abbrev barCell (c : Dev nD) : GSem nD τ sig := ((c : Thread nD τ), .reg barS)
abbrev sendCell (c : Dev nD) (k : Fin 3 × Fin 6) : GSem nD τ sig := ((c : Thread nD τ), .dma (sendS k))
abbrev recvCell (c : Dev nD) (k : Fin 3 × Fin 6) : GSem nD τ sig := ((c : Thread nD τ), .dma (recvS k))

/-- The kernel's own semaphores: a send and a receive semaphore per copy. -/
abbrev osem (x : Bool × Fin 3 × Fin 6) : SemLoc sig := match x with | (false, k) => .dma (sendS k) | (true, k) => .dma (recvS k)
/-- All the protocol's: the handshake's and the kernel's own. -/
abbrev csem (x : Option (Bool × Fin 3 × Fin 6)) : SemLoc sig := match x with | none => .reg barS | some y => osem y
abbrev kcell (ck : Dev nD × Option (Bool × Fin 3 × Fin 6)) : GSem nD τ sig := ((ck.1 : Thread nD τ), csem ck.2)

/-- Which copy a semaphore's index belongs to. -/
def keyOf (n : ℕ) : Fin 3 × Fin 6 := (⟨n / 6 % 3, by omega⟩, ⟨n % 6, by omega⟩)
def sideOf (q : DmaSem sig) : Option (Bool × Fin 3 × Fin 6) :=
  if (q : Fin 42).val < 6 then none
  else if (q : Fin 42).val < 24 then some (false, keyOf ((q : Fin 42).val - 6)) else some (true, keyOf ((q : Fin 42).val - 24))
theorem sideOf_send (k : Fin 3 × Fin 6) : sideOf (sendS k) = some (false, k) := by revert k; decide
theorem sideOf_recv (k : Fin 3 × Fin 6) : sideOf (recvS k) = some (true, k) := by revert k; decide

/-- The credit of a copy. -/
def amt (k : Fin 3 × Fin 6) : ℕ := match k.1 with
  | 0 => (cc0_stg3_0 : Ref sig .tc).dmaCredit (S2 (416) 1024) .bf16
  | 1 => (cc0_stg4_0 : Ref sig .tc).dmaCredit (S2 (128) 512) .bf16
  | 2 => (cc0_stg5_0 : Ref sig .tc).dmaCredit (S2 (128) 1024) .bf16
theorem numel_pos {R C : ℕ} (hR : 0 < R) (hC : 0 < C) : 0 < (S2 R C).numel := by
  rw [show (S2 R C).numel = R * C from Fin.prod_univ_two _]; exact Nat.mul_pos hR hC
theorem amt_pos (k : Fin 3 × Fin 6) : 0 < amt k := by
  obtain ⟨a, j⟩ := k
  match a with
  | 0 => exact sig.dmaCredit_pos _ _ _ _ _ (numel_pos (by decide) (by decide))
  | 1 => exact sig.dmaCredit_pos _ _ _ _ _ (numel_pos (by decide) (by decide))
  | 2 => exact sig.dmaCredit_pos _ _ _ _ _ (numel_pos (by decide) (by decide))

/-- The share of its source a copy takes: the three copies of a device's own half run at a time. -/
def shr (j : Fin 6) : PosShare TreeShare := match j with
  | 0 => fullShare.left | 2 => fullShare.right.left | 4 => fullShare.right.right | 1 => fullShare | 3 => fullShare | 5 => fullShare

/-! ## The schedule -/

/-- The piece of copy `j`, on its sender; where it lands; the piece device `c` receives. -/
def srcP (a : Fin 3) (j : Fin 6) (c : Dev nD) : sProp 𝕄 := pts a c (shr j) (lo j c).val 1 (glob m ρ a)
def gotP (a : Fin 3) (j : Fin 6) (c : Dev nD) : sProp 𝕄 := pts a c fullShare (inc j c).val 1 (glob m ρ a)
/-- The rows of device `c` that its peer's copy `j` is to fill. -/
def inl (a : Fin 3) (j : Fin 6) (c : Dev nD) : sProp 𝕄 := iprop(∃ f, pts (F := F) a c fullShare (inc j c).val 1 f)
/-- The rows of its peer that device `c`'s copy `j` is to fill. -/
def land (a : Fin 3) (j : Fin 6) (c : Dev nD) : sProp 𝕄 := inl (F := F) a j (peer j c)

/-- What a signal of the handshake hands over: the rows of the signaller that the signalled device is to fill. -/
def sibPay (c : Dev nD) : sProp 𝕄 :=
  iprop((land (F := F) 0 1 c ∗ land (F := F) 0 3 c ∗ land (F := F) 0 5 c) ∗ (land (F := F) 1 1 c ∗ land (F := F) 1 3 c ∗ land (F := F) 1 5 c)
    ∗ (land (F := F) 2 1 c ∗ land (F := F) 2 3 c ∗ land (F := F) 2 5 c))
def farPay (j : Fin 6) (c : Dev nD) : sProp 𝕄 := iprop(land (F := F) 0 j c ∗ land (F := F) 1 j c ∗ land (F := F) 2 j c)
def barPay (d : Fin 4) (c : Dev nD) : sProp 𝕄 := match d with | 0 => sibPay c | 1 => farPay 0 c | 2 => farPay 2 c | 3 => farPay 4 c

/-- One round: the handshake's cell has four duties of one unit; a send or receive cell one, of its copy's credit. -/
def Rd : Rounds.Schedule (GSem nD τ sig) (Fin 4) 𝕄 where
  duties g r := if r = 0 ∧ g.1.2 = .tc then
      (match g.2 with | .reg _ => Finset.univ | .dma q => if (sideOf q).isSome then {0} else ∅) else ∅
  unitless _ := False
  amount g _ _ := match g.2 with | .reg _ => 1 | .dma q => match sideOf q with | none => 1 | some (_, k) => amt k
  payload g _ d := match g.2 with
    | .reg _ => barPay d g.1.1
    | .dma q => match sideOf q with
      | none => iprop(emp)
      | some (false, k) => srcP m ρ k.1 k.2 g.1.1
      | some (true, k) => gotP m ρ k.1 k.2 g.1.1
  amount_pos g _ _ _ := by
    split
    · exact Nat.one_pos
    · split
      · exact Nat.one_pos
      · exact amt_pos _

instance Rd_payload_storable (g : GSem nD τ sig) (r : ℕ) (d : Fin 4) :
    BI.Storable (upEmb : UEmb _ 𝕄) ((Rd (F := F) m ρ).payload g r d) := by
  show BI.Storable upEmb (match g.2 with
    | .reg _ => barPay d g.1.1
    | .dma q => match sideOf q with
      | none => iprop(emp)
      | some (false, k) => srcP m ρ k.1 k.2 g.1.1
      | some (true, k) => gotP m ρ k.1 k.2 g.1.1)
  split
  · unfold barPay sibPay farPay land inl
    split <;> infer_instance
  · split
    · infer_instance
    · unfold srcP; infer_instance
    · unfold gotP; infer_instance

section Tables
variable (c : Dev nD) (k : Fin 3 × Fin 6)

theorem duties_bar : (Rd (F := F) m ρ).duties (barCell c) 0 = Finset.univ := by dsimp only [Rd]; exact if_pos ⟨rfl, rfl⟩
theorem duties_send : (Rd (F := F) m ρ).duties (sendCell c k) 0 = {0} := by
  dsimp only [Rd]; rw [if_pos ⟨rfl, rfl⟩, sideOf_send]; rfl
theorem duties_recv : (Rd (F := F) m ρ).duties (recvCell c k) 0 = {0} := by
  dsimp only [Rd]; rw [if_pos ⟨rfl, rfl⟩, sideOf_recv]; rfl
theorem duties_later (g : GSem nD τ sig) : ∀ r, 1 ≤ r → (Rd (F := F) m ρ).duties g r = ∅ :=
  fun r hr => by dsimp only [Rd]; rw [if_neg fun h => by omega]

theorem amount_bar (d : Fin 4) : (Rd (F := F) m ρ).amount (barCell c) 0 d = 1 := rfl
theorem amount_send (d : Fin 4) : (Rd (F := F) m ρ).amount (sendCell c k) 0 d = amt k := by dsimp only [Rd]; rw [sideOf_send]
theorem amount_recv (d : Fin 4) : (Rd (F := F) m ρ).amount (recvCell c k) 0 d = amt k := by dsimp only [Rd]; rw [sideOf_recv]

theorem expect_bar : (Rd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c k) 0 = amt k := by
  unfold Schedule.expect Schedule.amountOf; rw [duties_send, Finset.sum_singleton, amount_send]
theorem expect_recv : (Rd (F := F) m ρ).expect (recvCell c k) 0 = amt k := by
  unfold Schedule.expect Schedule.amountOf; rw [duties_recv, Finset.sum_singleton, amount_recv]

theorem payload_bar (d : Fin 4) : (Rd (F := F) m ρ).payload (barCell c) 0 d = barPay d c := rfl
theorem payload_send (d : Fin 4) : (Rd (F := F) m ρ).payload (sendCell c k) 0 d = srcP m ρ k.1 k.2 c := by dsimp only [Rd]; rw [sideOf_send]
theorem payload_recv (d : Fin 4) : (Rd (F := F) m ρ).payload (recvCell c k) 0 d = gotP m ρ k.1 k.2 c := by dsimp only [Rd]; rw [sideOf_recv]

theorem rest_bar : bigSep ((Rd (F := F) m ρ).duties (barCell c) 0 \ ∅) (fun d => (Rd (F := F) m ρ).payload (barCell c) 0 d)
    = iprop(sibPay c ∗ farPay 0 c ∗ farPay 2 c ∗ farPay 4 c) := by
  rw [Finset.sdiff_empty, duties_bar, bigSep_univ_eq_bigSepL [0, 1, 2, 3] (by decide) (by decide), bigSepL_cons_cons, bigSepL_cons_cons, bigSepL_cons_cons, bigSepL_singleton]
  rfl
theorem rest_send : bigSep ((Rd (F := F) m ρ).duties (sendCell c k) 0 \ ∅) (fun d => (Rd (F := F) m ρ).payload (sendCell c k) 0 d) = srcP m ρ k.1 k.2 c := by
  rw [Finset.sdiff_empty, duties_send, bigSep_singleton, payload_send]
theorem rest_recv : bigSep ((Rd (F := F) m ρ).duties (recvCell c k) 0 \ ∅) (fun d => (Rd (F := F) m ρ).payload (recvCell c k) 0 d) = gotP m ρ k.1 k.2 c := by
  rw [Finset.sdiff_empty, duties_recv, bigSep_singleton, payload_recv]

end Tables

/-! ## What a device owes, and the levels -/

/-- The copies in the order a device issues them. -/
def allK : List (Fin 3 × Fin 6) :=
  [(0, 0), (0, 2), (0, 4), (1, 0), (1, 2), (1, 4), (2, 0), (2, 2), (2, 4), (0, 1), (0, 3), (0, 5), (1, 1), (1, 3), (1, 5), (2, 1), (2, 3), (2, 5)]

/-- The credits of the copies still to be issued. -/
def owe (c : Dev nD) : List (Fin 3 × Fin 6) → CellTallies nD τ sig Unit
  | [] => 0
  | k :: l => owe c l + tallyAt (recvCell (peer k.2 c) k) () (amt k)
/-- With the handshake's units, in the order of the signals. -/
def O₃ (c : Dev nD) : CellTallies nD τ sig Unit := owe c allK + tallyAt (barCell (dn c)) () 1
def O₂ (c : Dev nD) : CellTallies nD τ sig Unit := O₃ c + tallyAt (barCell (yn c)) () 1
def O₁ (c : Dev nD) : CellTallies nD τ sig Unit := O₂ c + tallyAt (barCell (xn c)) () 1
def O₀ (c : Dev nD) : CellTallies nD τ sig Unit := O₁ c + tallyAt (barCell (sib c)) () 1

def L (g : GSem nD τ sig) : Finset Unit := if g.1.2 = .tc then {()} else ∅
def rlev (j : Fin 6) : ℕ := match j with
  | 0 => 2 | 1 => 3 | 2 => 2 | 3 => 3 | 4 => 2 | 5 => 3
/-- The handshake at 1, a receive cell by the step of its copy, everything else at 0. -/
def lv (g : GSem nD τ sig) (_ : Unit) : ℕ := match g.2 with
  | .reg _ => 1
  | .dma q => match sideOf q with | some (true, k) => rlev k.2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 3 × Fin 6) : lv (recvCell c k) () = rlev k.2 := by dsimp only [lv]; rw [sideOf_recv]
theorem lv_send (c : Dev nD) (k : Fin 3 × Fin 6) : lv (sendCell c k) () = 0 := by dsimp only [lv]; rw [sideOf_send]

theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem owe_pos {c : Dev nD} {l : List (Fin 3 × Fin 6)} {g : GSem nD τ sig} {u : Unit} (h : 0 < owe c l g u) :
    ∃ k ∈ l, g = recvCell (peer k.2 c) k := by
  induction l with
  | nil => exact absurd h (Nat.lt_irrefl 0)
  | cons k l ih =>
    rw [owe, Pi.add_apply, Finsupp.add_apply] at h
    rcases Nat.eq_zero_or_pos (owe c l g u) with h0 | h0
    · rw [h0, Nat.zero_add] at h
      exact ⟨k, List.mem_cons_self, tally_pos h⟩
    · obtain ⟨k', hk', e⟩ := ih h0
      exact ⟨k', List.mem_cons_of_mem _ hk', e⟩

theorem O₀_pos {c : Dev nD} {g : GSem nD τ sig} {u : Unit} (h : 0 < O₀ c g u) :
    (∃ k ∈ allK, g = recvCell (peer k.2 c) k) ∨ ∃ d, g = barCell d := by
  unfold O₀ O₁ O₂ O₃ at h
  simp only [Pi.add_apply, Finsupp.add_apply] at h
  rcases Nat.eq_zero_or_pos (owe c allK g u) with h0 | h0
  · right
    rcases Nat.eq_zero_or_pos (tallyAt (barCell (dn c)) () 1 g u) with h3 | h3
    · rcases Nat.eq_zero_or_pos (tallyAt (barCell (yn c)) () 1 g u) with h1 | h1
      · rcases Nat.eq_zero_or_pos (tallyAt (barCell (xn c)) () 1 g u) with h2 | h2
        · exact ⟨sib c, tally_pos (show 0 < tallyAt (barCell (sib c)) () 1 g u by omega)⟩
        · exact ⟨xn c, tally_pos h2⟩
      · exact ⟨yn c, tally_pos h1⟩
    · exact ⟨dn c, tally_pos h3⟩
  · exact .inl (owe_pos h0)

/-- A wait at a level below every copy still to be issued. -/
theorem mayWait_owe (c : Dev nD) (sm : SemLoc sig) (l : List (Fin 3 × Fin 6)) (n : ℕ) (hn : lv ((c : Thread nD τ), sm) () = n)
    (hl : ∀ k ∈ l, n < rlev k.2) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨k, hk, rfl⟩ := owe_pos hg; exact Finset.mem_singleton_self _)
    (fun p hp => by rw [Finset.mem_singleton.mp hp]; exact le_of_eq hn)
    (fun g u hg => by obtain ⟨k, hk, rfl⟩ := owe_pos hg; cases u; rw [lv_recv]; exact hl k hk)

theorem rlev_pos (j : Fin 6) : 1 < rlev j := by revert j; decide

/-- The staging waits, before and after. -/
theorem mayWait_stage (c : Dev nD) (q : DmaSem sig) (hq : sideOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, _, rfl⟩ | ⟨d, rfl⟩ <;> exact Finset.mem_singleton_self _)
      (fun p hp => by rw [Finset.mem_singleton.mp hp]; dsimp only [lv]; rw [hq])
      (fun g u hg => by
        rcases O₀_pos hg with ⟨k, _, rfl⟩ | ⟨d, rfl⟩
        · cases u; rw [lv_recv]; have := rlev_pos k.2; omega
        · exact Nat.one_pos)
  · rw [MayWait_zero]; iintro -; iempintro

end Cert.GatherProof

end
-- ==== Proof.Gather.Steps.lean ====
/-
One rule per kind of step of the gather's body, at any of its 18 copies: the remote copy, the wait for a piece to land,
the wait for a copy to have left.
-/
module

public import proofs.«01_k».proof.Proof.Gather.Sched

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev CIx : Type := Option (Bool × Fin 3 × Fin 6)
variable (K : Dev nD × CIx → ℕ)

abbrev 𝒱₀ : Variants := Variants.none

/-- Every cell's invariant, and that its round 0 is reached. -/
def recs : sProp 𝕄 := bigSep (Finset.univ : Finset (Dev nD × CIx)) fun ck =>
  iprop(cellInv ER (Rd m ρ) (K ck) (kcell ck) ∗ reached ER (kcell ck) 0)
instance recs_persistent : BI.Persistent (recs m ρ K) := by unfold recs; infer_instance

theorem recs_at (ck : Dev nD × CIx) : recs m ρ K ⊢ iprop(cellInv ER (Rd m ρ) (K ck) (kcell ck) ∗ reached ER (kcell ck) 0) :=
  bigSep_elim (Finset.mem_univ ck)

/-- What a device starts a copy with, what it keeps while the copy runs, what it waits for a piece with. -/
def SK (k : Fin 3 × Fin 6) (c : Dev nD) : sProp 𝕄 :=
  iprop(dutyTok ER (sendCell c k) 0 0 ∗ dutyTok ER (recvCell (peer k.2 c) k) 0 0 ∗ atPos ER (sendCell c k) 0 ∅ 0)
def SW (k : Fin 3 × Fin 6) (c : Dev nD) : sProp 𝕄 :=
  iprop(atPos ER (sendCell c k) 0 ∅ 0 ∗ cred (tallyAt (sendCell c k) () (amt k)))
def RK (k : Fin 3 × Fin 6) (c : Dev nD) : sProp 𝕄 :=
  iprop(atPos ER (recvCell c k) 0 ∅ 0 ∗ cred (tallyAt (recvCell c k) () (amt k)))
/-- What it still owes, at whatever it has waited for. -/
def OW (c : Dev nD) (l : List (Fin 3 × Fin 6)) : sProp 𝕄 := iprop(∃ W, owes (c : Thread nD τ) (owe c l) W)
/-- A send or receive cell closed, its counter at zero. -/
def ZS (k : Fin 3 × Fin 6) (c : Dev nD) : sProp 𝕄 := semVal (sendCell c k) 0
def ZR (k : Fin 3 × Fin 6) (c : Dev nD) : sProp 𝕄 := semVal (recvCell c k) 0

theorem send_gen (a : Fin 3) (j : Fin 6) (c n : Dev nD) (hn : n = peer j c) (l : List (Fin 3 × Fin 6))
    {off size : Fin (ob a).ty.shape.rank → ℕ} {inb : ∀ x, off x + size x ≤ (ob a).ty.shape.size x}
    (hset : (Rect.unit (s := (ob a).ty.shape) off size inb).set = seg a (lo j c).val 1)
    {sS sR : DmaSem sig} (hS : sS = sendS (a, j)) (hR : sR = recvS (a, j))
    (hN : ((Memref.whole (ob a)).slice (Rect.unit (s := (ob a).ty.shape) off size inb) (fun _ => rfl)).view.amount (SemLoc.dma sR) = amt (a, j))
    {hsc : ((Memref.whole (ob a)).slice (Rect.unit (s := (ob a).ty.shape) off size inb) (fun _ => rfl) : Memref sig (Dev.tc n : Thread nD τ).2.kind _ _ _).view.ref.isScScratch = false}
    {hsrc : ((Memref.whole (ob a)).slice (Rect.unit (s := (ob a).ty.shape) off size inb) (fun _ => rfl)).view.WordExact}
    {hdst : ((Memref.whole (ob a)).slice (Rect.unit (s := (ob a).ty.shape) off size inb) (fun _ => rfl)).view.WordExact}
    {hsem : DmaTarget.Typed (ob a).space (.dma sR) (.remote (Dev.tc n : Thread nD τ)
      ((Memref.whole (ob a)).slice (Rect.unit (s := (ob a).ty.shape) off size inb) (fun _ => rfl)) (.dma sS) hsc)}
    {α : Type} {Qt : α → sProp 𝕄} {k : PUnit → Prog (TpuEff nD τ sig (Elt F) Λ₀ .tc) α} :
    iprop(recs m ρ K ∗ SK (a, j) c ∗ land a j c ∗ srcP m ρ a j c ∗ OW c ((a, j) :: l))
      ⊢ iprop(((SW (a, j) c ∗ OW c l) -∗ wp frame (wpE (defs₀ (F := F)) 𝒱₀ (c : Thread nD τ) none) Set.univ (k ⟨⟩) Qt)
          -∗ wp frame (wpE (defs₀ (F := F)) 𝒱₀ (c : Thread nD τ) none) Set.univ
              (.op (.enqueueDma ((Memref.whole (ob a)).slice (Rect.unit (s := (ob a).ty.shape) off size inb) (fun _ => rfl))
                (.remote (Dev.tc n : Thread nD τ) ((Memref.whole (ob a)).slice (Rect.unit (s := (ob a).ty.shape) off size inb) (fun _ => rfl)) (.dma sS) hsc)
                (.dma sR) hsrc hdst hsem) k) Qt) := by
  subst hn hS hR
  have hv : ((Memref.whole (ob a)).slice (Rect.unit (s := (ob a).ty.shape) off size inb) (fun _ => rfl)).view.set = seg a (lo j c).val 1 :=
    (View.set_slice_whole _ _).trans hset
  unfold SK land inl OW
  iintro ⟨#HK, ⟨Ht1, Ht2, Hat⟩, ⟨%fd, Hl⟩, Hs, ⟨%W, HO⟩⟩ Hk
  ihave H1 := (recs_at m ρ K (c, some (false, a, j))) $$ HK
  ihave H2 := (recs_at m ρ K (peer j c, some (true, a, j))) $$ HK
  icases H1 with ⟨#HI1, #HR1⟩
  icases H2 with ⟨#HI2, #HR2⟩
  have hi : (inc j (peer j c)).val = (lo j c).val := by rw [inc, peer_peer]
  iapply (Rounds.wp_send_pointsTo 𝒱₀ ER (Rd m ρ) (c : Thread nD τ) none (κ₁ := K (c, some (false, a, j))) (κ₂ := K (peer j c, some (true, a, j)))
    (r₁ := 0) (r₂ := 0) (d₁ := 0) (d₂ := 0) (q := shr j) (fs := glob m ρ a) (fd := fd)
    (by rw [duties_send]; exact Finset.mem_singleton_self _) (by rw [duties_recv]; exact Finset.mem_singleton_self _)
    () () (amt (a, j)) hN (amount_send m ρ c (a, j) 0) (amount_recv m ρ (peer j c) (a, j) 0) (owe c l) rfl (W := W)
    (by rw [payload_send, hv]; exact BI.Entails.refl _)
    (by
      rw [payload_recv, View.write_read_eq_piecewise, View.setOn_univ, hv]
      refine Entails.of_eq ?_
      unfold gotP pts
      rw [hi]
      exact pointsTo_congr fun i hi => Finset.piecewise_eq_of_mem _ _ _ hi)) $$ [Ht1 Ht2 Hl Hs HO]
  · isplitr; · iexact HI1
    isplitr; · iexact HI2
    isplitl [Hs]; · rw [hv]; unfold srcP pts; iexact Hs
    isplitl [Hl]; · rw [hv]; unfold pts; rw [hi]; iexact Hl
    isplitl [HO]; · iexact HO
    isplitl [Ht1]; · iexact Ht1
    isplitr; · iexact HR1
    isplitl [Ht2]; · iexact Ht2
    iexact HR2
  iintro ⟨Hc, HO⟩
  iapply Hk
  unfold SW
  isplitr [HO]
  · isplitl [Hat]; · iexact Hat
    iexact Hc
  · iexists W; iexact HO

/-- A wait on a receive cell: the piece has landed, and the cell is done. -/
theorem recv_gen (k' : Fin 3 × Fin 6) (c : Dev nD) (l : List (Fin 3 × Fin 6)) (hl : ∀ x ∈ l, rlev k'.2 < rlev x.2)
    {sR : DmaSem sig} (hR : sR = recvS k') {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma sR) (amt k') Kt)
    {α : Type} {Qt : α → sProp 𝕄} {k : PUnit → Prog (TpuEff nD τ sig (Elt F) Λ₀ .tc) α} :
    iprop(recs m ρ K ∗ levAts L lv ∗ RK k' c ∗ OW c l)
      ⊢ iprop(((gotP m ρ k'.1 k'.2 c ∗ ZR k' c ∗ OW c l) -∗ wp frame (wpE (defs₀ (F := F)) 𝒱₀ (c : Thread nD τ) none) Set.univ (k ⟨⟩) Qt)
          -∗ wp frame (wpE (defs₀ (F := F)) 𝒱₀ (c : Thread nD τ) none) Set.univ (.op w k) Qt) := by
  subst hR
  unfold RK OW
  iintro ⟨#HK, #Hlev, ⟨Hat, Hc⟩, ⟨%W, HO⟩⟩ Hk
  ihave H1 := (recs_at m ρ K (c, some (true, k'))) $$ HK
  icases H1 with ⟨#HI1, #HR1⟩
  iapply (Rounds.wp_wait_rest_token 𝒱₀ ER (Rd m ρ) (c : Thread nD τ) none (κ := K (c, some (true, k')))
      hw (Set.mem_univ _) () (O := owe c l) (W := W) (R := 0) (m := 0) (T := ∅)
      (by rw [Nat.zero_add, expect_recv])) $$ [Hc HO Hat]
  · isplitr; · iexact HI1
    isplitl [Hc]; · iexact Hc
    isplitl [HO]; · iexact HO
    isplitr; · iapply (mayWait_owe c (.dma (recvS k')) l (rlev k'.2) (lv_recv c k') hl); iexact Hlev
    iexact Hat
  iintro ⟨HO, Hat, -, Hpay⟩
  ihave Hp := (Entails.of_eq (rest_recv m ρ c k')) $$ Hpay
  imod (Rounds.cell_close ER (Rd m ρ) (Set.mem_univ (K (c, some (true, k')))) (fun h => h) (R := 0 + 1) (duties_later m ρ (recvCell c k'))) $$ [Hat] with Hz
  · isplitr; · iexact HI1
    iexact Hat
  iapply Hk
  unfold ZR
  isplitl [Hp]; · iexact Hp
  isplitl [Hz]; · iexact Hz
  iexists _; iexact HO

/-- A wait on a send cell, every copy issued: the piece's share is back, and the cell is done. -/
theorem swait_gen (k' : Fin 3 × Fin 6) (c : Dev nD)
    {sS : DmaSem sig} (hS : sS = sendS k') {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma sS) (amt k') Kt)
    {α : Type} {Qt : α → sProp 𝕄} {k : PUnit → Prog (TpuEff nD τ sig (Elt F) Λ₀ .tc) α} :
    iprop(recs m ρ K ∗ levAts L lv ∗ SW k' c ∗ OW c [])
      ⊢ iprop(((srcP m ρ k'.1 k'.2 c ∗ ZS k' c ∗ OW c []) -∗ wp frame (wpE (defs₀ (F := F)) 𝒱₀ (c : Thread nD τ) none) Set.univ (k ⟨⟩) Qt)
          -∗ wp frame (wpE (defs₀ (F := F)) 𝒱₀ (c : Thread nD τ) none) Set.univ (.op w k) Qt) := by
  subst hS
  unfold SW OW
  iintro ⟨#HK, #Hlev, ⟨Hat, Hc⟩, ⟨%W, HO⟩⟩ Hk
  ihave H1 := (recs_at m ρ K (c, some (false, k'))) $$ HK
  icases H1 with ⟨#HI1, #HR1⟩
  iapply (Rounds.wp_wait_rest_token 𝒱₀ ER (Rd m ρ) (c : Thread nD τ) none (κ := K (c, some (false, k')))
      hw (Set.mem_univ _) () (O := owe c []) (W := W) (R := 0) (m := 0) (T := ∅)
      (by rw [Nat.zero_add, expect_send])) $$ [Hc HO Hat]
  · isplitr; · iexact HI1
    isplitl [Hc]; · iexact Hc
    isplitl [HO]; · iexact HO
    isplitr; · iapply (mayWait_owe c (.dma (sendS k')) [] 0 (lv_send c k') (fun _ h => absurd h List.not_mem_nil)); iexact Hlev
    iexact Hat
  iintro ⟨HO, Hat, -, Hpay⟩
  ihave Hp := (Entails.of_eq (rest_send m ρ c k')) $$ Hpay
  imod (Rounds.cell_close ER (Rd m ρ) (Set.mem_univ (K (c, some (false, k')))) (fun h => h) (R := 0 + 1) (duties_later m ρ (sendCell c k'))) $$ [Hat] with Hz
  · isplitr; · iexact HI1
    iexact Hat
  iapply Hk
  unfold ZS
  isplitl [Hp]; · iexact Hp
  isplitl [Hz]; · iexact Hz
  iexists _; iexact HO

/-- The same at the printed wait: on the copy's receive cell, for its piece's credit. -/
theorem recv_w (a : Fin 3) (j : Fin 6) (c : Dev nD) (l : List (Fin 3 × Fin 6)) (hl : ∀ x ∈ l, rlev j < rlev x.2)
    {off size : Fin (ob a).ty.shape.rank → ℕ} {inb : ∀ x, off x + size x ≤ (ob a).ty.shape.size x}
    {sR : DmaSem sig} (hR : sR = recvS (a, j))
    (hN : ((Memref.whole (ob a)).slice (Rect.unit (s := (ob a).ty.shape) off size inb) (fun _ => rfl)).view.dmaCredit = amt (a, j))
    {hsrc : ((Memref.whole (ob a)).slice (Rect.unit (s := (ob a).ty.shape) off size inb) (fun _ => rfl)).view.WordExact}
    {hdst : ((Memref.whole (ob a)).slice (Rect.unit (s := (ob a).ty.shape) off size inb) (fun _ => rfl)).view.WordExact}
    {α : Type} {Qt : α → sProp 𝕄} {k : PUnit → Prog (TpuEff nD τ sig (Elt F) Λ₀ .tc) α} :
    iprop(recs m ρ K ∗ levAts L lv ∗ RK (a, j) c ∗ OW c l)
      ⊢ iprop(((gotP m ρ a j c ∗ ZR (a, j) c ∗ OW c l) -∗ wp frame (wpE (defs₀ (F := F)) 𝒱₀ (c : Thread nD τ) none) Set.univ (k ⟨⟩) Qt)
          -∗ wp frame (wpE (defs₀ (F := F)) 𝒱₀ (c : Thread nD τ) none) Set.univ
            (.op (.waitDma2 sR ((Memref.whole (ob a)).slice (Rect.unit (s := (ob a).ty.shape) off size inb) (fun _ => rfl))
              ((Memref.whole (ob a)).slice (Rect.unit (s := (ob a).ty.shape) off size inb) (fun _ => rfl)) hsrc hdst) k) Qt) :=
  recv_gen m ρ K (a, j) c l hl hR (fun Kt => by rw [← hN]; exact wpE_waitDma2_eq 𝒱₀ (c : Thread nD τ) none Set.univ Kt)

theorem swait_w (a : Fin 3) (j : Fin 6) (c : Dev nD)
    {off size : Fin (ob a).ty.shape.rank → ℕ} {inb : ∀ x, off x + size x ≤ (ob a).ty.shape.size x}
    {sS : DmaSem sig} (hS : sS = sendS (a, j))
    (hN : ((Memref.whole (ob a)).slice (Rect.unit (s := (ob a).ty.shape) off size inb) (fun _ => rfl)).view.dmaCredit = amt (a, j))
    {hsrc : ((Memref.whole (ob a)).slice (Rect.unit (s := (ob a).ty.shape) off size inb) (fun _ => rfl)).view.WordExact}
    {hdst : ((Memref.whole (ob a)).slice (Rect.unit (s := (ob a).ty.shape) off size inb) (fun _ => rfl)).view.WordExact}
    {α : Type} {Qt : α → sProp 𝕄} {k : PUnit → Prog (TpuEff nD τ sig (Elt F) Λ₀ .tc) α} :
    iprop(recs m ρ K ∗ levAts L lv ∗ SW (a, j) c ∗ OW c [])
      ⊢ iprop(((srcP m ρ a j c ∗ ZS (a, j) c ∗ OW c []) -∗ wp frame (wpE (defs₀ (F := F)) 𝒱₀ (c : Thread nD τ) none) Set.univ (k ⟨⟩) Qt)
          -∗ wp frame (wpE (defs₀ (F := F)) 𝒱₀ (c : Thread nD τ) none) Set.univ
            (.op (.waitDma2 sS ((Memref.whole (ob a)).slice (Rect.unit (s := (ob a).ty.shape) off size inb) (fun _ => rfl))
              ((Memref.whole (ob a)).slice (Rect.unit (s := (ob a).ty.shape) off size inb) (fun _ => rfl)) hsrc hdst) k) Qt) :=
  swait_gen m ρ K (a, j) c hS (fun Kt => by rw [← hN]; exact wpE_waitDma2_eq 𝒱₀ (c : Thread nD τ) none Set.univ Kt)

end Cert.GatherProof

end
-- ==== Proof.Gather.Pieces.lean ====
/-
Pieces of the gathered weights: how a device's rows are cut for the copies and put together again.
-/
module

public import proofs.«01_k».proof.Proof.Gather.Steps
public import Idealize.ShloMosaic.Lib.Ring

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cutting a piece in two -/

/-- A part of the body, applied to the call's own buffers and semaphores. -/
abbrev onRefs {α : Sort _} (f : ∀ (arg0 : Memref sig .tc .vmem S832x1024 .f32) (harg0 : arg0.IsWhole) (arg1 : Memref sig .tc .vmem S256x512 .f32) (harg1 : arg1.IsWhole) (arg2 : Memref sig .tc .vmem S256x1024 .f32) (harg2 : arg2.IsWhole) (arg3 : Memref sig .tc .vmem S3328x1024 .bf16) (harg3 : arg3.IsWhole) (arg4 : Memref sig .tc .vmem S1024x512 .bf16) (harg4 : arg4.IsWhole) (arg5 : Memref sig .tc .vmem S1024x1024 .bf16) (harg5 : arg5.IsWhole) (arg6 : DmaSems sig S18) (arg7 : DmaSems sig S18), α) : α :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) cc0_scratch0 cc0_scratch1

theorem pts_two (a : Fin 3) (c : Dev nD) (q : PosShare TreeShare) (t n k : ℕ) (f) :
    (pts (F := F) a c q t (n + k) f) ⊣⊢ iprop(pts a c q t n f ∗ pts a c q (t + n) k f) := by
  unfold pts; rw [seg_add]; exact pointsTo_union (seg_disjoint a t n k)

/-- A device's own half, holding the rows that travel. -/
def ownP (a : Fin 3) (c : Dev nD) : sProp 𝕄 := pts a c fullShare (lo 0 c).val 1 (glob m ρ a)

/-- It leaves three times at once, under three shares. -/
theorem own_eq (a : Fin 3) (c : Dev nD) : ownP m ρ a c ⊣⊢ iprop(srcP m ρ a 0 c ∗ srcP m ρ a 2 c ∗ srcP m ρ a 4 c) := by
  unfold ownP srcP pts
  constructor
  · refine (pointsTo_share (PosShare.mem_left_op_right fullShare)).1.trans ?_
    exact sep_mono_right (pointsTo_share (PosShare.mem_left_op_right fullShare.right)).1
  · exact (sep_mono_right (pointsTo_share (PosShare.mem_left_op_right fullShare.right)).2).trans (pointsTo_share (PosShare.mem_left_op_right fullShare)).2

theorem got0_eq (a : Fin 3) (c : Dev nD) : gotP m ρ a 0 c = srcP m ρ a 1 c := by unfold gotP srcP; rw [inc0_lo1 c]; rfl
theorem got2_eq (a : Fin 3) (c : Dev nD) : gotP m ρ a 2 c = srcP m ρ a 3 c := by unfold gotP srcP; rw [inc2_lo3 c]; rfl
theorem got4_eq (a : Fin 3) (c : Dev nD) : gotP m ρ a 4 c = srcP m ρ a 5 c := by unfold gotP srcP; rw [inc4_lo5 c]; rfl

/-! ## A chip's own rows -/

/-- The first half of the chip's rows. -/
def ch (c : Dev nD) : ℕ := 2 * (c.val / 2)

/-- The chip's rows are the device's half and the other core's. -/
theorem chip_eq (a : Fin 3) (c : Dev nD) (f) :
    (pts (F := F) a c fullShare (ch c) 2 f) ⊣⊢ iprop(pts a c fullShare (lo 0 c).val 1 f ∗ pts a c fullShare (oh c).val 1 f) := by
  have h := pts_two (F := F) a c fullShare (ch c) 1 1 f
  rcases Nat.mod_two_eq_zero_or_one c.val with hc | hc
  · rw [lo0_val, oh_val, show c.val = ch c by unfold ch; omega, show 2 * (ch c / 2) + (1 - ch c % 2) = ch c + 1 by unfold ch; omega]
    exact h
  · rw [lo0_val, oh_val, show 2 * (c.val / 2) + (1 - c.val % 2) = ch c by unfold ch; omega, show c.val = ch c + 1 by unfold ch; omega]
    exact ⟨h.1.trans BI.sep_comm, (BI.sep_comm).trans h.2⟩

/-- On its own half the rows that travel are the device's own. -/
theorem glob_own (a : Fin 3) (c : Dev nD) : ∀ i ∈ seg a (lo 0 c).val 1, val m ρ a c i = glob m ρ a i := by
  intro i hi
  rw [mem_seg, lo0_val] at hi
  unfold glob
  rw [show srcDev a i = c from Fin.ext (by
    show rowOf a i / Q a % 8 = c.val
    have hc : c.val < 8 := c.isLt
    rw [Nat.div_eq_of_lt_le hi.1 hi.2, Nat.mod_eq_of_lt hc])]

theorem out_own (a : Fin 3) (c : Dev nD) (t : ℕ) (ht : t / 2 = c.val / 2) : ∀ i ∈ seg a t 1, val m ρ a c i = outAt m ρ a c i := by
  intro i hi
  rw [mem_seg] at hi
  unfold outAt
  rw [if_pos]
  rw [Nat.mul_comm, ← Nat.div_div_eq_div_mul, Nat.div_eq_of_lt_le hi.1 hi.2, ht]

theorem out_far (a : Fin 3) (c : Dev nD) (j : Fin 6) : ∀ i ∈ seg a (inc j c).val 1, glob m ρ a i = outAt m ρ a c i := by
  intro i hi
  rw [mem_seg] at hi
  unfold outAt
  rw [if_neg]
  rw [Nat.mul_comm, ← Nat.div_div_eq_div_mul, Nat.div_eq_of_lt_le hi.1 hi.2]
  exact inc_far j c

theorem pts_congr (a : Fin 3) (c : Dev nD) (q : PosShare TreeShare) (t n : ℕ) {f g} (h : ∀ i ∈ seg a t n, f i = g i) :
    (pts (F := F) a c q t n f) = pts a c q t n g := by
  unfold pts; exact pointsTo_congr h

/-! ## The whole buffer -/

/-- All eight halves, by piece. -/
def pieces (a : Fin 3) (c : Dev nD) (f : (ob a).ty.Contents (Elt F)) : sProp 𝕄 :=
  iprop(pts a c fullShare (ch c) 2 f
    ∗ pts a c fullShare (inc 0 c).val 1 f ∗ pts a c fullShare (inc 1 c).val 1 f ∗ pts a c fullShare (inc 2 c).val 1 f
    ∗ pts a c fullShare (inc 3 c).val 1 f ∗ pts a c fullShare (inc 4 c).val 1 f ∗ pts a c fullShare (inc 5 c).val 1 f)

theorem whole_halves (a : Fin 3) (c : Dev nD) (f : (ob a).ty.Contents (Elt F)) :
    (((c : Thread nD τ).loc (ob a)) ↦{fullShare} f : sProp 𝕄) = bigSep Finset.univ fun t : Fin 8 => pts a c fullShare t.val 1 f := by
  refine (Ring.pointsTo_blocks (ℓ := (c : Thread nD τ).loc (ob a)) (fun t : Fin 8 => seg a t.val 1)
    (fun t t' h => seg_ne a (fun h' => h (Fin.ext h'))) ?_ f)
  ext i
  rw [Finset.mem_biUnion]
  obtain ⟨t, ht⟩ := seg_cover a i
  exact iff_of_true ⟨t, Finset.mem_univ _, ht⟩ (Finset.mem_univ i)

theorem bigSep_halves (c : Dev nD) (Φ : Fin 8 → sProp 𝕄) : bigSep Finset.univ Φ
    = iprop(Φ (lo 0 c) ∗ Φ (oh c) ∗ Φ (inc 0 c) ∗ Φ (inc 1 c) ∗ Φ (inc 2 c) ∗ Φ (inc 3 c) ∗ Φ (inc 4 c) ∗ Φ (inc 5 c)) :=
  bigSep_univ_eq_bigSepL (ordL c) (Finset.ext fun t => iff_of_true (Finset.mem_univ t) (List.mem_toFinset.mpr (ordL_univ c t))) (ordL_nodup c) Φ

theorem whole_pieces (a : Fin 3) (c : Dev nD) (f : (ob a).ty.Contents (Elt F)) :
    (((c : Thread nD τ).loc (ob a)) ↦{fullShare} f : sProp 𝕄) ⊣⊢ pieces a c f := by
  rw [whole_halves, bigSep_halves c]
  unfold pieces
  have hc := chip_eq (F := F) a c f
  constructor
  · iintro ⟨H0, H1, HR⟩
    isplitl [H0 H1]
    · iapply hc.2; isplitl [H0] <;> iassumption
    iexact HR
  · iintro ⟨HC, HR⟩
    ihave HC := hc.1 $$ HC
    icases HC with ⟨H0, H1⟩
    isplitl [H0]; · iexact H0
    isplitl [H1]; · iexact H1
    iexact HR

/-- Everything back after the last wait: the whole buffer at the result. -/
theorem whole_out (a : Fin 3) (c : Dev nD) :
    iprop((srcP m ρ a 0 c ∗ srcP m ρ a 2 c ∗ srcP m ρ a 4 c) ∗ pts a c fullShare (oh c).val 1 (val m ρ a c)
        ∗ srcP m ρ a 1 c ∗ gotP m ρ a 1 c ∗ srcP m ρ a 3 c ∗ gotP m ρ a 3 c ∗ srcP m ρ a 5 c ∗ gotP m ρ a 5 c)
      ⊢ (((c : Thread nD τ).loc (ob a)) ↦{fullShare} outAt m ρ a c : sProp 𝕄) := by
  have hg (j : Fin 6) : gotP m ρ a j c = pts a c fullShare (inc j c).val 1 (outAt m ρ a c) := pts_congr a c _ _ _ (out_far m ρ a c j)
  have ho : ownP m ρ a c = pts a c fullShare (lo 0 c).val 1 (outAt m ρ a c) := pts_congr a c _ _ _ fun i hi => by
    rw [← glob_own m ρ a c i hi]
    exact out_own m ρ a c _ (by rw [lo0_val]) i hi
  have hh : (pts a c fullShare (oh c).val 1 (val m ρ a c) : sProp 𝕄) = pts a c fullShare (oh c).val 1 (outAt m ρ a c) := pts_congr a c _ _ _
    (out_own m ρ a c _ (by rw [oh_val]; omega))
  rw [← got0_eq, ← got2_eq, ← got4_eq, hg 0, hg 1, hg 2, hg 3, hg 4, hg 5, hh]
  iintro ⟨HO, HH, HR⟩
  iapply (whole_pieces (F := F) a c (outAt m ρ a c)).2
  unfold pieces
  isplitl [HO HH]
  · iapply (chip_eq (F := F) a c _).2
    isplitl [HO]
    · rw [← ho]; iapply (own_eq m ρ a c).2; iexact HO
    · iexact HH
  iexact HR

end Cert.GatherProof

end
-- ==== Proof.Gather.Head.lean ====
/-
The head of the gather's body: the entry handshake, then the cast shards stored into their places.
-/
module

public import proofs.«01_k».proof.Proof.Gather.Pieces

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

/-! ## The stores -/

theorem off1_at (c : Dev nD) : k0_off1 c 0 = ch c * 416 ∧ k0_off1 c 1 = 0 := by revert c; decide
theorem off2_at (c : Dev nD) : k0_off2 c 0 = ch c * 128 ∧ k0_off2 c 1 = 0 := by revert c; decide
theorem off3_at (c : Dev nD) : k0_off3 c 0 = ch c * 128 ∧ k0_off3 c 1 = 0 := by revert c; decide

abbrev r1 (c : Dev nD) : Rect S3328x1024 := Rect.unit (s := S3328x1024) (k0_off1 c) S832x1024.size (k0_off1_inb c)
abbrev r2 (c : Dev nD) : Rect S1024x512 := Rect.unit (s := S1024x512) (k0_off2 c) S256x512.size (k0_off2_inb c)
abbrev r3 (c : Dev nD) : Rect S1024x1024 := Rect.unit (s := S1024x1024) (k0_off3 c) S256x1024.size (k0_off3_inb c)

theorem r1_set (c : Dev nD) : (r1 c).set = seg 0 (ch c) 2 := seg2_rect _ _ _ (off1_at c).1 (off1_at c).2 rfl rfl
theorem r2_set (c : Dev nD) : (r2 c).set = seg 1 (ch c) 2 := seg2_rect _ _ _ (off2_at c).1 (off2_at c).2 rfl rfl
theorem r3_set (c : Dev nD) : (r3 c).set = seg 2 (ch c) 2 := seg2_rect _ _ _ (off3_at c).1 (off3_at c).2 rfl rfl

/-- Rows `k·R'` on, read within `R'` rows. -/
theorem row_mod {R' o k x : ℕ} (ho : o = k * R') (hx : x < R') : (o + 1 * x) % R' = x := by
  rw [ho, Nat.one_mul, Nat.add_comm, Nat.add_mul_mod_self_right, Nat.mod_eq_of_lt hx]

theorem stored0 (c : Dev nD) (f : (cc0_stg3_0 : Ref sig .tc).ty.Contents (Elt F)) : ∀ i ∈ seg 0 (ch c) 2,
    ((Memref.whole cc0_stg3_0).access (r1 c) : View sig .tc _ _ _).write (Elt F) f (k0_pay1 (x0 m ρ c)) Finset.univ i = val m ρ 0 c i := by
  intro i hi
  rw [← r1_set, ← Rect.map_emb_univ] at hi
  obtain ⟨x, _, rfl⟩ := Finset.mem_map.mp hi
  refine (View.write_emb_of_mem (v := ((Memref.whole cc0_stg3_0).access (r1 c) : View sig .tc _ _ _)) f (k0_pay1 (x0 m ρ c)) (Finset.mem_univ x)).trans ?_
  show k0_pay1 (x0 m ρ c) x = at2 (R := 832) (C := 1024) (by decide) (k0_pay1 (x0 m ρ c)) _ _
  unfold at2
  refine congrArg _ (funext fun a => ?_)
  match a with
  | 0 => exact Fin.ext (row_mod (R' := 832) (k := c.val / 2) ((off1_at c).1.trans (by unfold ch; omega)) (x 0).isLt).symm
  | 1 =>
    refine Fin.ext ?_
    show (x 1).val = k0_off1 c 1 + 1 * (x 1).val
    rw [(off1_at c).2]; omega

theorem stored1 (c : Dev nD) (f : (cc0_stg4_0 : Ref sig .tc).ty.Contents (Elt F)) : ∀ i ∈ seg 1 (ch c) 2,
    ((Memref.whole cc0_stg4_0).access (r2 c) : View sig .tc _ _ _).write (Elt F) f (k0_pay2 (x1 m ρ c)) Finset.univ i = val m ρ 1 c i := by
  intro i hi
  rw [← r2_set, ← Rect.map_emb_univ] at hi
  obtain ⟨x, _, rfl⟩ := Finset.mem_map.mp hi
  refine (View.write_emb_of_mem (v := ((Memref.whole cc0_stg4_0).access (r2 c) : View sig .tc _ _ _)) f (k0_pay2 (x1 m ρ c)) (Finset.mem_univ x)).trans ?_
  show k0_pay2 (x1 m ρ c) x = at2 (R := 256) (C := 512) (by decide) (k0_pay2 (x1 m ρ c)) _ _
  unfold at2
  refine congrArg _ (funext fun a => ?_)
  match a with
  | 0 => exact Fin.ext (row_mod (R' := 256) (k := c.val / 2) ((off2_at c).1.trans (by unfold ch; omega)) (x 0).isLt).symm
  | 1 =>
    refine Fin.ext ?_
    show (x 1).val = k0_off2 c 1 + 1 * (x 1).val
    rw [(off2_at c).2]; omega

theorem stored2 (c : Dev nD) (f : (cc0_stg5_0 : Ref sig .tc).ty.Contents (Elt F)) : ∀ i ∈ seg 2 (ch c) 2,
    ((Memref.whole cc0_stg5_0).access (r3 c) : View sig .tc _ _ _).write (Elt F) f (k0_pay3 (x2 m ρ c)) Finset.univ i = val m ρ 2 c i := by
  intro i hi
  rw [← r3_set, ← Rect.map_emb_univ] at hi
  obtain ⟨x, _, rfl⟩ := Finset.mem_map.mp hi
  refine (View.write_emb_of_mem (v := ((Memref.whole cc0_stg5_0).access (r3 c) : View sig .tc _ _ _)) f (k0_pay3 (x2 m ρ c)) (Finset.mem_univ x)).trans ?_
  show k0_pay3 (x2 m ρ c) x = at2 (R := 256) (C := 1024) (by decide) (k0_pay3 (x2 m ρ c)) _ _
  unfold at2
  refine congrArg _ (funext fun a => ?_)
  match a with
  | 0 => exact Fin.ext (row_mod (R' := 256) (k := c.val / 2) ((off3_at c).1.trans (by unfold ch; omega)) (x 0).isLt).symm
  | 1 =>
    refine Fin.ext ?_
    show (x 1).val = k0_off3 c 1 + 1 * (x 1).val
    rw [(off3_at c).2]; omega

/-! ## The handshake -/

/-- The rows of device `c` that a neighbour is to fill, as `c` hands them over. -/
def sibIn (c : Dev nD) : sProp 𝕄 :=
  iprop((inl (F := F) 0 1 c ∗ inl (F := F) 0 3 c ∗ inl (F := F) 0 5 c) ∗ (inl (F := F) 1 1 c ∗ inl (F := F) 1 3 c ∗ inl (F := F) 1 5 c)
    ∗ (inl (F := F) 2 1 c ∗ inl (F := F) 2 3 c ∗ inl (F := F) 2 5 c))
def farIn (j : Fin 6) (c : Dev nD) : sProp 𝕄 := iprop(inl (F := F) 0 j c ∗ inl (F := F) 1 j c ∗ inl (F := F) 2 j c)

theorem land_peer (a : Fin 3) (j : Fin 6) (c n : Dev nD) (h : peer j n = c) : land (F := F) a j n = inl a j c := by unfold land; rw [h]

theorem sibPay_eq (c : Dev nD) : sibPay (F := F) (sib c) = sibIn c := by
  have h (a : Fin 3) (j : Fin 6) (hj : peer j (sib c) = c) := land_peer (F := F) a j c (sib c) hj
  have e := sib_sib c
  unfold sibPay sibIn
  rw [h 0 1 e, h 0 3 e, h 0 5 e, h 1 1 e, h 1 3 e, h 1 5 e, h 2 1 e, h 2 3 e, h 2 5 e]
theorem farPay_eq (j : Fin 6) (c : Dev nD) : farPay (F := F) j (peer j c) = farIn j c := by
  have h (a : Fin 3) := land_peer (F := F) a j c (peer j c) (peer_peer j c)
  unfold farPay farIn
  rw [h 0, h 1, h 2]

theorem dev1_eq (c : Dev nD) : (⟨k0_dev1 c, k0_dev1_lt c⟩ : Dev nD) = sib c := by revert c; decide
theorem dev2_eq (c : Dev nD) : (⟨k0_dev2 c, k0_dev2_lt c⟩ : Dev nD) = xn c := by revert c; decide
theorem dev3_eq (c : Dev nD) : (⟨k0_dev3 c, k0_dev3_lt c⟩ : Dev nD) = yn c := by revert c; decide
theorem dev4_eq (c : Dev nD) : (⟨k0_dev4 c, k0_dev4_lt c⟩ : Dev nD) = dn c := by revert c; decide

/-- One signal of the handshake. -/
theorem signal_gen (d : Fin 4) (c n : Dev nD) (O : CellTallies nD τ sig Unit) {O' : CellTallies nD τ sig Unit}
    (hO : O' = O + tallyAt (barCell n) () 1) (W : Waits sig Unit)
    {α : Type} {Qt : α → sProp 𝕄} {k : PUnit → Prog (TpuEff nD τ sig (Elt F) Λ₀ .tc) α} :
    iprop(recs m ρ K ∗ owes (c : Thread nD τ) O' W ∗ dutyTok ER (barCell n) 0 d ∗ barPay d n)
      ⊢ iprop((owes (c : Thread nD τ) O W -∗ wp frame (wpE (defs₀ (F := F)) 𝒱₀ (c : Thread nD τ) none) Set.univ (k ⟨⟩) Qt)
          -∗ wp frame (wpE (defs₀ (F := F)) 𝒱₀ (c : Thread nD τ) none) Set.univ (.op (.semSignal (Dev.tc n : Thread nD τ) barS 1) k) Qt) := by
  iintro ⟨#HK, HO, Ht, Hp⟩ Hk
  ihave H1 := (recs_at m ρ K (n, none)) $$ HK
  icases H1 with ⟨#HI, #HR⟩
  iapply (Rounds.wp_signal 𝒱₀ ER (Rd m ρ) (c : Thread nD τ) none (dst := (n : Thread nD τ)) (κ := K (n, none))
      (d := d) (by rw [duties_bar]; exact Finset.mem_univ _) (amount_bar m ρ n d) () O hO)
    $$ [HO Ht Hp]
  · isplitr; · iexact HI
    isplitl [HO]; · iexact HO
    isplitl [Ht]; · iexact Ht
    isplitl [Hp]; · rw [payload_bar]; iexact Hp
    iexact HR
  iexact Hk

/-- Both neighbours' rows and the other core's, that device `c` is to fill. -/
def lands (c : Dev nD) : sProp 𝕄 := iprop(sibPay (F := F) c ∗ farPay (F := F) 0 c ∗ farPay (F := F) 2 c ∗ farPay (F := F) 4 c)

/-- The handshake's wait: every neighbour has entered and handed its rows over. -/
theorem bar_wait (c : Dev nD) (W : Waits sig Unit) {α : Type} {Qt : α → sProp 𝕄} {k : PUnit → Prog (TpuEff nD τ sig (Elt F) Λ₀ .tc) α} :
    iprop(recs m ρ K ∗ levAts L lv ∗ owes (c : Thread nD τ) (owe c allK) W ∗ cred (tallyAt (barCell c) () 4) ∗ atPos ER (barCell c) 0 ∅ 0)
      ⊢ iprop(((lands (F := F) c ∗ semVal (barCell c) 0 ∗ OW c allK)
            -∗ wp frame (wpE (defs₀ (F := F)) 𝒱₀ (c : Thread nD τ) none) Set.univ (k ⟨⟩) Qt)
          -∗ wp frame (wpE (defs₀ (F := F)) 𝒱₀ (c : Thread nD τ) none) Set.univ (.op (.semWait barS 4) k) Qt) := by
  iintro ⟨#HK, #HL, HO, Hc, Hat⟩ Hk
  ihave H1 := (recs_at m ρ K (c, none)) $$ HK
  icases H1 with ⟨#HI, #HR⟩
  iapply (Rounds.wp_wait_rest_token 𝒱₀ ER (Rd m ρ) (c : Thread nD τ) none (κ := K (c, none))
      (wpE_semWait_eq 𝒱₀ (c : Thread nD τ) none Set.univ) (Set.mem_univ _) () (O := owe c allK) (W := W) (R := 0) (m := 0) (T := ∅)
      (by rw [expect_bar])) $$ [Hc HO Hat]
  · isplitr; · iexact HI
    isplitl [Hc]; · iexact Hc
    isplitl [HO]; · iexact HO
    isplitr; · iapply (mayWait_owe c (.reg barS) allK 1 rfl (by decide)); iexact HL
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact HI
    iexact Hat
  iapply Hk
  isplitl [Hp]; · unfold lands; iexact Hp
  isplitl [Hz]; · iexact Hz
  unfold OW; iexists _; iexact HO

/-! ## The two printed parts -/

theorem hz : (![0, 0] : Fin 2 → Nat) = fun _ => 0 := funext fun a => by fin_cases a <;> rfl

theorem part1 (c : Dev nD) (W : Waits sig Unit) (Kt : (Σ' (d0 : Dev nD) (v2 v5 v8 v10 v11 v12 v13 v14 v15 : BitVec 32) (v16 : Sems sig S_) (v18 v19 v20 v30 : BitVec 32), BitVec 32) → sProp 𝕄) :
    iprop(recs m ρ K ∗ owes (c : Thread nD τ) (O₀ c) W ∗ dutyTok ER (barCell (sib c)) 0 0 ∗ sibIn (F := F) c
      ∗ (∀ v2 v5 v8 v10 v11 v12 v13 v14 v15 v18 v19 v20 v30 v31, owes (c : Thread nD τ) (O₁ c) W -∗ Kt ⟨c, v2, v5, v8, v10, v11, v12, v13, v14, v15, SemArray.scalar (sig.barrier 0 rfl), v18, v19, v20, v30, v31⟩))
     ⊢ wp frame (wpE (defs₀ (F := F)) 𝒱₀ (c : Thread nD τ) none) Set.univ
      (onRefs (k0_part1 (F := F))) Kt := by
  unfold onRefs; rw [k0_part1_eq_skeleton]; unfold k0_part1_skel
  simp only [semSignalWord, Prog.lift, Prog.bind_op, Prog.bind_ret, Prog.pure_eq_ret, wp_deviceId, dev1_eq c]
  iintro ⟨#HK, HO, Ht, Hin, Hk⟩
  iapply (signal_gen m ρ K 0 c (sib c) (O₁ c) rfl W) $$ [HO Ht Hin]
  · isplitr; · iexact HK
    isplitl [HO]; · iexact HO
    isplitl [Ht]; · iexact Ht
    iapply (Entails.of_eq (show sibIn (F := F) c = barPay 0 (sib c) from (sibPay_eq (F := F) c).symm)); iexact Hin
  iintro HO
  simp only [wp_ret]
  imodintro
  iapply Hk
  iexact HO

theorem part2 (c : Dev nD) (W : Waits sig Unit) (v2 v8 v10 v18 v19 v20 v30 v31 : BitVec 32) (f0 f1) (Kt : (Σ' (_ : FVec F S256x1024 .bf16), BitVec 32) → sProp 𝕄) :
    iprop(recs m ρ K ∗ levAts L lv ∗ owes (c : Thread nD τ) (O₁ c) W
      ∗ (dutyTok ER (barCell (xn c)) 0 1 ∗ dutyTok ER (barCell (yn c)) 0 2 ∗ dutyTok ER (barCell (dn c)) 0 3)
      ∗ (farIn (F := F) 0 c ∗ farIn (F := F) 2 c ∗ farIn (F := F) 4 c)
      ∗ cred (tallyAt (barCell c) () 4) ∗ atPos ER (barCell c) 0 ∅ 0
      ∗ (((c : Thread nD τ).loc cc0_stg0_0) ↦{fullShare} x0 m ρ c) ∗ (((c : Thread nD τ).loc cc0_stg1_0) ↦{fullShare} x1 m ρ c)
      ∗ (((c : Thread nD τ).loc cc0_stg2_0) ↦{fullShare} x2 m ρ c)
      ∗ pts (F := F) 0 c fullShare (ch c) 2 f0 ∗ pts (F := F) 1 c fullShare (ch c) 2 f1
      ∗ (∀ w, ((((c : Thread nD τ).loc cc0_stg0_0) ↦{fullShare} x0 m ρ c) ∗ (((c : Thread nD τ).loc cc0_stg1_0) ↦{fullShare} x1 m ρ c)
        ∗ (((c : Thread nD τ).loc cc0_stg2_0) ↦{fullShare} x2 m ρ c)
        ∗ pts (F := F) 0 c fullShare (ch c) 2 (val m ρ 0 c) ∗ pts (F := F) 1 c fullShare (ch c) 2 (val m ρ 1 c)
        ∗ lands (F := F) c ∗ semVal (barCell c) 0 ∗ OW c allK) -∗ Kt ⟨k0_pay3 (x2 m ρ c), w⟩))
     ⊢ wp frame (wpE (defs₀ (F := F)) 𝒱₀ (c : Thread nD τ) none) Set.univ
      (onRefs (k0_part2 (F := F)) c v2 v8 v10 (SemArray.scalar (sig.barrier 0 rfl)) v18 v19 v20 v30 v31) Kt := by
  unfold onRefs; rw [k0_part2_eq_skeleton]; unfold k0_part2_skel
  simp only [semSignalWord, semWaitWord, Prog.lift, Prog.bind_op, Prog.bind_ret, Prog.pure_eq_ret, dev2_eq c, dev3_eq c, dev4_eq c]
  iintro ⟨#HK, #HL, HO, ⟨Ht1, Ht2, Ht3⟩, ⟨Hin1, Hin2, Hin3⟩, Hc, Hat, Hx0, Hx1, Hx2, Hp0, Hp1, Hk⟩
  iapply (signal_gen m ρ K 1 c (xn c) (O₂ c) rfl W) $$ [HO Ht1 Hin1]
  · isplitr; · iexact HK
    isplitl [HO]; · iexact HO
    isplitl [Ht1]; · iexact Ht1
    iapply (Entails.of_eq (show farIn (F := F) 0 c = barPay 1 (xn c) from (farPay_eq (F := F) 0 c).symm)); iexact Hin1
  iintro HO
  iapply (signal_gen m ρ K 2 c (yn c) (O₃ c) rfl W) $$ [HO Ht2 Hin2]
  · isplitr; · iexact HK
    isplitl [HO]; · iexact HO
    isplitl [Ht2]; · iexact Ht2
    iapply (Entails.of_eq (show farIn (F := F) 2 c = barPay 2 (yn c) from (farPay_eq (F := F) 2 c).symm)); iexact Hin2
  iintro HO
  iapply (signal_gen m ρ K 3 c (dn c) (owe c allK) rfl W) $$ [HO Ht3 Hin3]
  · isplitr; · iexact HK
    isplitl [HO]; · iexact HO
    isplitl [Ht3]; · iexact Ht3
    iapply (Entails.of_eq (show farIn (F := F) 4 c = barPay 3 (dn c) from (farPay_eq (F := F) 4 c).symm)); iexact Hin3
  iintro HO
  iapply (bar_wait m ρ K c W) $$ [HO Hc Hat]
  · isplitr; · iexact HK
    isplitr; · iexact HL
    isplitl [HO]; · iexact HO
    isplitl [Hc]; · iexact Hc
    iexact Hat
  iintro ⟨Hland, Hz, HO⟩
  unfold pts
  iapply (wp_load 𝒱₀ (c : Thread nD τ) none Set.univ (m := Memref.whole cc0_stg0_0) (Finset.subset_univ _)) $$ Hx0; iintro Hx0
  rw [show (Memref.whole cc0_stg0_0 : Memref sig .tc .vmem S832x1024 .f32).view.readAt (Elt F) (Rect.unit (s := S832x1024) ![0, 0] S832x1024.size inb_S832x1024_S832x1024_0_0).toLoadRect (x0 m ρ c) = x0 m ρ c
    from Memref.readAt_unit_zero (Elt F) cc0_stg0_0 hz _ _]
  iapply (wp_load_rect 𝒱₀ (c : Thread nD τ) none Set.univ (m := Memref.whole cc0_stg3_0) (r := r1 c) (S := seg 0 (ch c) 2) (by rw [← r1_set]; exact le_of_eq (View.set_slice_whole _ _))) $$ Hp0; iintro Hp0
  iapply (wp_store 𝒱₀ (c : Thread nD τ) none Set.univ (m := Memref.whole cc0_stg3_0) (r := r1 c) (Mk := Finset.univ) (S := seg 0 (ch c) 2)
    (by rw [View.setOn_univ, ← r1_set]; exact le_of_eq (View.set_slice_whole _ _))) $$ Hp0; iintro Hp0
  ihave Hp0 := (Entails.of_eq (pointsTo_congr (stored0 m ρ c f0))) $$ Hp0
  iapply (wp_load 𝒱₀ (c : Thread nD τ) none Set.univ (m := Memref.whole cc0_stg1_0) (Finset.subset_univ _)) $$ Hx1; iintro Hx1
  rw [show (Memref.whole cc0_stg1_0 : Memref sig .tc .vmem S256x512 .f32).view.readAt (Elt F) (Rect.unit (s := S256x512) ![0, 0] S256x512.size inb_S256x512_S256x512_0_0).toLoadRect (x1 m ρ c) = x1 m ρ c
    from Memref.readAt_unit_zero (Elt F) cc0_stg1_0 hz _ _]
  iapply (wp_load_rect 𝒱₀ (c : Thread nD τ) none Set.univ (m := Memref.whole cc0_stg4_0) (r := r2 c) (S := seg 1 (ch c) 2) (by rw [← r2_set]; exact le_of_eq (View.set_slice_whole _ _))) $$ Hp1; iintro Hp1
  iapply (wp_store 𝒱₀ (c : Thread nD τ) none Set.univ (m := Memref.whole cc0_stg4_0) (r := r2 c) (Mk := Finset.univ) (S := seg 1 (ch c) 2)
    (by rw [View.setOn_univ, ← r2_set]; exact le_of_eq (View.set_slice_whole _ _))) $$ Hp1; iintro Hp1
  ihave Hp1 := (Entails.of_eq (pointsTo_congr (stored1 m ρ c f1))) $$ Hp1
  iapply (wp_load 𝒱₀ (c : Thread nD τ) none Set.univ (m := Memref.whole cc0_stg2_0) (Finset.subset_univ _)) $$ Hx2; iintro Hx2
  rw [show (Memref.whole cc0_stg2_0 : Memref sig .tc .vmem S256x1024 .f32).view.readAt (Elt F) (Rect.unit (s := S256x1024) ![0, 0] S256x1024.size inb_S256x1024_S256x1024_0_0).toLoadRect (x2 m ρ c) = x2 m ρ c
    from Memref.readAt_unit_zero (Elt F) cc0_stg2_0 hz _ _]
  simp only [wp_ret]
  imodintro
  iapply Hk
  isplitl [Hx0]; · iexact Hx0
  isplitl [Hx1]; · iexact Hx1
  isplitl [Hx2]; · iexact Hx2
  isplitl [Hp0]; · iexact Hp0
  isplitl [Hp1]; · iexact Hp1
  isplitl [Hland]; · iexact Hland
  isplitl [Hz]; · iexact Hz
  iexact HO

end Cert.GatherProof

end
-- ==== Proof.Gather.Offs.lean ====
/-
Where the printed device and row numbers of each copy are.
-/
module

public import proofs.«01_k».proof.Proof.Gather.Head

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

theorem amt_0 (j : Fin 6) : amt (0, j) = (cc0_stg3_0 : Ref sig .tc).dmaCredit (S2 416 1024) .bf16 := rfl
theorem amt_1 (j : Fin 6) : amt (1, j) = (cc0_stg4_0 : Ref sig .tc).dmaCredit (S2 128 512) .bf16 := rfl
theorem amt_2 (j : Fin 6) : amt (2, j) = (cc0_stg5_0 : Ref sig .tc).dmaCredit (S2 128 1024) .bf16 := rfl

theorem off_4_0_0 (c : Dev nD) : k0_off4 c 0 = (lo 0 c).val * 416 ∧ k0_off4 c 1 = 0 := by revert c; decide
theorem k0_dev5_eq (c : Dev nD) : (⟨k0_dev5 c, k0_dev5_lt c⟩ : Dev nD) = peer 0 c := by revert c; decide
theorem off_4_0_2 (c : Dev nD) : k0_off4 c 0 = (lo 2 c).val * 416 ∧ k0_off4 c 1 = 0 := by revert c; decide
theorem k0_dev6_eq (c : Dev nD) : (⟨k0_dev6 c, k0_dev6_lt c⟩ : Dev nD) = peer 2 c := by revert c; decide
theorem off_4_0_4 (c : Dev nD) : k0_off4 c 0 = (lo 4 c).val * 416 ∧ k0_off4 c 1 = 0 := by revert c; decide
theorem k0_dev7_eq (c : Dev nD) : (⟨k0_dev7 c, k0_dev7_lt c⟩ : Dev nD) = peer 4 c := by revert c; decide
theorem off_5_1_0 (c : Dev nD) : k0_off5 c 0 = (lo 0 c).val * 128 ∧ k0_off5 c 1 = 0 := by revert c; decide
theorem k0_dev8_eq (c : Dev nD) : (⟨k0_dev8 c, k0_dev8_lt c⟩ : Dev nD) = peer 0 c := by revert c; decide
theorem off_5_1_2 (c : Dev nD) : k0_off5 c 0 = (lo 2 c).val * 128 ∧ k0_off5 c 1 = 0 := by revert c; decide
theorem k0_dev9_eq (c : Dev nD) : (⟨k0_dev9 c, k0_dev9_lt c⟩ : Dev nD) = peer 2 c := by revert c; decide
theorem off_5_1_4 (c : Dev nD) : k0_off5 c 0 = (lo 4 c).val * 128 ∧ k0_off5 c 1 = 0 := by revert c; decide
theorem k0_dev10_eq (c : Dev nD) : (⟨k0_dev10 c, k0_dev10_lt c⟩ : Dev nD) = peer 4 c := by revert c; decide
theorem off_6_2_0 (c : Dev nD) : k0_off6 c 0 = (lo 0 c).val * 128 ∧ k0_off6 c 1 = 0 := by revert c; decide
theorem k0_dev11_eq (c : Dev nD) : (⟨k0_dev11 c, k0_dev11_lt c⟩ : Dev nD) = peer 0 c := by revert c; decide
theorem off_6_2_2 (c : Dev nD) : k0_off6 c 0 = (lo 2 c).val * 128 ∧ k0_off6 c 1 = 0 := by revert c; decide
theorem k0_dev12_eq (c : Dev nD) : (⟨k0_dev12 c, k0_dev12_lt c⟩ : Dev nD) = peer 2 c := by revert c; decide
theorem off_6_2_4 (c : Dev nD) : k0_off6 c 0 = (lo 4 c).val * 128 ∧ k0_off6 c 1 = 0 := by revert c; decide
theorem k0_dev13_eq (c : Dev nD) : (⟨k0_dev13 c, k0_dev13_lt c⟩ : Dev nD) = peer 4 c := by revert c; decide
theorem off_7_0_1 (c : Dev nD) : k0_off7 c 0 = (lo 1 c).val * 416 ∧ k0_off7 c 1 = 0 := by revert c; decide
theorem k0_dev14_eq (c : Dev nD) : (⟨k0_dev14 c, k0_dev14_lt c⟩ : Dev nD) = peer 1 c := by revert c; decide
theorem off_8_0_3 (c : Dev nD) : k0_off8 c 0 = (lo 3 c).val * 416 ∧ k0_off8 c 1 = 0 := by revert c; decide
theorem k0_dev15_eq (c : Dev nD) : (⟨k0_dev15 c, k0_dev15_lt c⟩ : Dev nD) = peer 3 c := by revert c; decide
theorem off_9_0_5 (c : Dev nD) : k0_off9 c 0 = (lo 5 c).val * 416 ∧ k0_off9 c 1 = 0 := by revert c; decide
theorem k0_dev16_eq (c : Dev nD) : (⟨k0_dev16 c, k0_dev16_lt c⟩ : Dev nD) = peer 5 c := by revert c; decide
theorem off_10_1_1 (c : Dev nD) : k0_off10 c 0 = (lo 1 c).val * 128 ∧ k0_off10 c 1 = 0 := by revert c; decide
theorem k0_dev17_eq (c : Dev nD) : (⟨k0_dev17 c, k0_dev17_lt c⟩ : Dev nD) = peer 1 c := by revert c; decide
theorem off_11_1_3 (c : Dev nD) : k0_off11 c 0 = (lo 3 c).val * 128 ∧ k0_off11 c 1 = 0 := by revert c; decide
theorem k0_dev18_eq (c : Dev nD) : (⟨k0_dev18 c, k0_dev18_lt c⟩ : Dev nD) = peer 3 c := by revert c; decide
theorem off_12_1_5 (c : Dev nD) : k0_off12 c 0 = (lo 5 c).val * 128 ∧ k0_off12 c 1 = 0 := by revert c; decide
theorem k0_dev19_eq (c : Dev nD) : (⟨k0_dev19 c, k0_dev19_lt c⟩ : Dev nD) = peer 5 c := by revert c; decide
theorem off_13_2_1 (c : Dev nD) : k0_off13 c 0 = (lo 1 c).val * 128 ∧ k0_off13 c 1 = 0 := by revert c; decide
theorem k0_dev20_eq (c : Dev nD) : (⟨k0_dev20 c, k0_dev20_lt c⟩ : Dev nD) = peer 1 c := by revert c; decide
theorem off_14_2_3 (c : Dev nD) : k0_off14 c 0 = (lo 3 c).val * 128 ∧ k0_off14 c 1 = 0 := by revert c; decide
theorem k0_dev21_eq (c : Dev nD) : (⟨k0_dev21 c, k0_dev21_lt c⟩ : Dev nD) = peer 3 c := by revert c; decide
theorem off_15_2_5 (c : Dev nD) : k0_off15 c 0 = (lo 5 c).val * 128 ∧ k0_off15 c 1 = 0 := by revert c; decide
theorem k0_dev22_eq (c : Dev nD) : (⟨k0_dev22 c, k0_dev22_lt c⟩ : Dev nD) = peer 5 c := by revert c; decide

end Cert.GatherProof

end
-- ==== Proof.Gather.PartsA.lean ====
/-
The gather's body, part by part: what each printed part needs and what it leaves, by the rule of each step in turn.
-/
module

public import proofs.«01_k».proof.Proof.Gather.Offs

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

theorem part3 (c : Dev nD) (v2 v5 v8 v10 v12 v13 : BitVec 32)  (v62 : BitVec 32) (f2) (Kt : BitVec 32 → sProp 𝕄) :
    iprop(recs m ρ K ∗ levAts L lv ∗ pts (F := F) 2 c fullShare (ch c) 2 f2 ∗ SK (0, 0) c ∗ land 0 0 c ∗ srcP m ρ 0 0 c ∗ SK (0, 2) c ∗ land 0 2 c ∗ srcP m ρ 0 2 c ∗ OW c (allK.drop 0)
      ∗ (∀ r, (pts (F := F) 2 c fullShare (ch c) 2 (val m ρ 2 c) ∗ SW (0, 0) c ∗ SW (0, 2) c ∗ OW c (allK.drop 2)) -∗ Kt r))
     ⊢ wp frame (wpE (defs₀ (F := F)) 𝒱₀ (c : Thread nD τ) none) Set.univ
      (onRefs (k0_part3 (F := F)) c v2 v5 v8 v10 v12 v13 (k0_pay3 (x2 m ρ c)) v62) Kt := by
  unfold onRefs; rw [k0_part3_eq_skeleton]; unfold k0_part3_skel
  simp only [Prog.lift, Prog.bind_op, Prog.bind_ret, Prog.pure_eq_ret]
  iintro ⟨#HK, #HL, Hp2, HSK00, HLD00, HSR00, HSK02, HLD02, HSR02, HO, Hk⟩
  ihave Hp2 := (show (pts (F := F) 2 c fullShare (ch c) 2 f2) ⊢ (((c : Thread nD τ).loc cc0_stg5_0) ↦[seg 2 (ch c) 2]{fullShare} f2 : sProp 𝕄) from Entails.of_eq rfl) $$ Hp2
  iapply (wp_load_rect 𝒱₀ (c : Thread nD τ) none Set.univ (m := Memref.whole cc0_stg5_0) (r := r3 c) (S := seg 2 (ch c) 2) (by rw [← r3_set]; exact le_of_eq (View.set_slice_whole _ _))) $$ Hp2; iintro Hp2
  iapply (wp_store 𝒱₀ (c : Thread nD τ) none Set.univ (m := Memref.whole cc0_stg5_0) (r := r3 c) (Mk := Finset.univ) (S := seg 2 (ch c) 2)
    (by rw [View.setOn_univ, ← r3_set]; exact le_of_eq (View.set_slice_whole _ _))) $$ Hp2; iintro Hp2
  ihave Hp2 := (Entails.of_eq (pointsTo_congr (stored2 m ρ c f2))) $$ Hp2
  iapply (send_gen m ρ K 0 0 c _ (k0_dev5_eq c) (allK.drop 1) (seg2_rect _ _ _ (off_4_0_0 c).1 (off_4_0_0 c).2 rfl rfl) rfl rfl (amt_0 0).symm) $$ [HSK00 HLD00 HSR00 HO]
  · isplitr; · iexact HK
    isplitl [HSK00]; · iexact HSK00
    isplitl [HLD00]; · iexact HLD00
    isplitl [HSR00]; · iexact HSR00
    iexact HO
  iintro ⟨HSW00, HO⟩
  iapply (send_gen m ρ K 0 2 c _ (k0_dev6_eq c) (allK.drop 2) (seg2_rect _ _ _ (off_4_0_2 c).1 (off_4_0_2 c).2 rfl rfl) rfl rfl (amt_0 2).symm) $$ [HSK02 HLD02 HSR02 HO]
  · isplitr; · iexact HK
    isplitl [HSK02]; · iexact HSK02
    isplitl [HLD02]; · iexact HLD02
    isplitl [HSR02]; · iexact HSR02
    iexact HO
  iintro ⟨HSW02, HO⟩
  simp only [wp_ret]
  imodintro
  iapply Hk
  isplitl [Hp2]; · unfold pts; iexact Hp2
  isplitl [HSW00]; · iexact HSW00
  isplitl [HSW02]; · iexact HSW02
  iexact HO

theorem part4 (c : Dev nD) (v5 v8 v10 v12 v14 v15 : BitVec 32) (c832_i32_61 : BitVec 32) (Kt : PUnit → sProp 𝕄) :
    iprop(recs m ρ K ∗ levAts L lv ∗ SK (0, 4) c ∗ land 0 4 c ∗ srcP m ρ 0 4 c ∗ SK (1, 0) c ∗ land 1 0 c ∗ srcP m ρ 1 0 c ∗ OW c (allK.drop 2)
      ∗ (∀ r, (SW (0, 4) c ∗ SW (1, 0) c ∗ OW c (allK.drop 4)) -∗ Kt r))
     ⊢ wp frame (wpE (defs₀ (F := F)) 𝒱₀ (c : Thread nD τ) none) Set.univ
      (onRefs (k0_part4 (F := F)) c v5 v8 v10 v12 v14 v15 c832_i32_61) Kt := by
  unfold onRefs; rw [k0_part4_eq_skeleton]; unfold k0_part4_skel
  simp only [Prog.lift, Prog.bind_op, Prog.bind_ret, Prog.pure_eq_ret]
  iintro ⟨#HK, #HL, HSK04, HLD04, HSR04, HSK10, HLD10, HSR10, HO, Hk⟩
  iapply (send_gen m ρ K 0 4 c _ (k0_dev7_eq c) (allK.drop 3) (seg2_rect _ _ _ (off_4_0_4 c).1 (off_4_0_4 c).2 rfl rfl) rfl rfl (amt_0 4).symm) $$ [HSK04 HLD04 HSR04 HO]
  · isplitr; · iexact HK
    isplitl [HSK04]; · iexact HSK04
    isplitl [HLD04]; · iexact HLD04
    isplitl [HSR04]; · iexact HSR04
    iexact HO
  iintro ⟨HSW04, HO⟩
  iapply (send_gen m ρ K 1 0 c _ (k0_dev8_eq c) (allK.drop 4) (seg2_rect _ _ _ (off_5_1_0 c).1 (off_5_1_0 c).2 rfl rfl) rfl rfl (amt_1 0).symm) $$ [HSK10 HLD10 HSR10 HO]
  · isplitr; · iexact HK
    isplitl [HSK10]; · iexact HSK10
    isplitl [HLD10]; · iexact HLD10
    isplitl [HSR10]; · iexact HSR10
    iexact HO
  iintro ⟨HSW10, HO⟩
  simp only [wp_ret]
  imodintro
  iapply Hk
  isplitl [HSW04]; · iexact HSW04
  isplitl [HSW10]; · iexact HSW10
  iexact HO

theorem part5 (c : Dev nD) (v2 v8 v10 v12 v13 v14 v15 : BitVec 32) (Kt : (Σ' (v167 : BitVec 32), BitVec 32) → sProp 𝕄) :
    iprop(recs m ρ K ∗ levAts L lv ∗ SK (1, 2) c ∗ land 1 2 c ∗ srcP m ρ 1 2 c ∗ SK (1, 4) c ∗ land 1 4 c ∗ srcP m ρ 1 4 c ∗ OW c (allK.drop 4)
      ∗ (∀ r, (SW (1, 2) c ∗ SW (1, 4) c ∗ OW c (allK.drop 6)) -∗ Kt r))
     ⊢ wp frame (wpE (defs₀ (F := F)) 𝒱₀ (c : Thread nD τ) none) Set.univ
      (onRefs (k0_part5 (F := F)) c v2 v8 v10 v12 v13 v14 v15) Kt := by
  unfold onRefs; rw [k0_part5_eq_skeleton]; unfold k0_part5_skel
  simp only [Prog.lift, Prog.bind_op, Prog.bind_ret, Prog.pure_eq_ret]
  iintro ⟨#HK, #HL, HSK12, HLD12, HSR12, HSK14, HLD14, HSR14, HO, Hk⟩
  iapply (send_gen m ρ K 1 2 c _ (k0_dev9_eq c) (allK.drop 5) (seg2_rect _ _ _ (off_5_1_2 c).1 (off_5_1_2 c).2 rfl rfl) rfl rfl (amt_1 2).symm) $$ [HSK12 HLD12 HSR12 HO]
  · isplitr; · iexact HK
    isplitl [HSK12]; · iexact HSK12
    isplitl [HLD12]; · iexact HLD12
    isplitl [HSR12]; · iexact HSR12
    iexact HO
  iintro ⟨HSW12, HO⟩
  iapply (send_gen m ρ K 1 4 c _ (k0_dev10_eq c) (allK.drop 6) (seg2_rect _ _ _ (off_5_1_4 c).1 (off_5_1_4 c).2 rfl rfl) rfl rfl (amt_1 4).symm) $$ [HSK14 HLD14 HSR14 HO]
  · isplitr; · iexact HK
    isplitl [HSK14]; · iexact HSK14
    isplitl [HLD14]; · iexact HLD14
    isplitl [HSR14]; · iexact HSR14
    iexact HO
  iintro ⟨HSW14, HO⟩
  simp only [wp_ret]
  imodintro
  iapply Hk
  isplitl [HSW12]; · iexact HSW12
  isplitl [HSW14]; · iexact HSW14
  iexact HO

theorem part6 (c : Dev nD) (v2 v5 v8 v10 v13 v14 v15 v167 : BitVec 32) (c2_i32_102 : BitVec 32) (Kt : PUnit → sProp 𝕄) :
    iprop(recs m ρ K ∗ levAts L lv ∗ SK (2, 0) c ∗ land 2 0 c ∗ srcP m ρ 2 0 c ∗ SK (2, 2) c ∗ land 2 2 c ∗ srcP m ρ 2 2 c ∗ OW c (allK.drop 6)
      ∗ (∀ r, (SW (2, 0) c ∗ SW (2, 2) c ∗ OW c (allK.drop 8)) -∗ Kt r))
     ⊢ wp frame (wpE (defs₀ (F := F)) 𝒱₀ (c : Thread nD τ) none) Set.univ
      (onRefs (k0_part6 (F := F)) c v2 v5 v8 v10 v13 v14 v15 v167 c2_i32_102) Kt := by
  unfold onRefs; rw [k0_part6_eq_skeleton]; unfold k0_part6_skel
  simp only [Prog.lift, Prog.bind_op, Prog.bind_ret, Prog.pure_eq_ret]
  iintro ⟨#HK, #HL, HSK20, HLD20, HSR20, HSK22, HLD22, HSR22, HO, Hk⟩
  iapply (send_gen m ρ K 2 0 c _ (k0_dev11_eq c) (allK.drop 7) (seg2_rect _ _ _ (off_6_2_0 c).1 (off_6_2_0 c).2 rfl rfl) rfl rfl (amt_2 0).symm) $$ [HSK20 HLD20 HSR20 HO]
  · isplitr; · iexact HK
    isplitl [HSK20]; · iexact HSK20
    isplitl [HLD20]; · iexact HLD20
    isplitl [HSR20]; · iexact HSR20
    iexact HO
  iintro ⟨HSW20, HO⟩
  iapply (send_gen m ρ K 2 2 c _ (k0_dev12_eq c) (allK.drop 8) (seg2_rect _ _ _ (off_6_2_2 c).1 (off_6_2_2 c).2 rfl rfl) rfl rfl (amt_2 2).symm) $$ [HSK22 HLD22 HSR22 HO]
  · isplitr; · iexact HK
    isplitl [HSK22]; · iexact HSK22
    isplitl [HLD22]; · iexact HLD22
    isplitl [HSR22]; · iexact HSR22
    iexact HO
  iintro ⟨HSW22, HO⟩
  simp only [wp_ret]
  imodintro
  iapply Hk
  isplitl [HSW20]; · iexact HSW20
  isplitl [HSW22]; · iexact HSW22
  iexact HO

theorem part7 (c : Dev nD) (v2 v5 v8 v11 v12 v13 : BitVec 32) (Kt : BitVec 32 → sProp 𝕄) :
    iprop(recs m ρ K ∗ levAts L lv ∗ SK (2, 4) c ∗ land 2 4 c ∗ srcP m ρ 2 4 c ∗ RK (0, 0) c ∗ SK (0, 1) c ∗ land 0 1 c ∗ OW c (allK.drop 8)
      ∗ (∀ r, (SW (2, 4) c ∗ ZR (0, 0) c ∗ SW (0, 1) c ∗ OW c (allK.drop 10)) -∗ Kt r))
     ⊢ wp frame (wpE (defs₀ (F := F)) 𝒱₀ (c : Thread nD τ) none) Set.univ
      (onRefs (k0_part7 (F := F)) c v2 v5 v8 v11 v12 v13) Kt := by
  unfold onRefs; rw [k0_part7_eq_skeleton]; unfold k0_part7_skel
  simp only [Prog.lift, Prog.bind_op, Prog.bind_ret, Prog.pure_eq_ret]
  iintro ⟨#HK, #HL, HSK24, HLD24, HSR24, HRK00, HSK01, HLD01, HO, Hk⟩
  iapply (send_gen m ρ K 2 4 c _ (k0_dev13_eq c) (allK.drop 9) (seg2_rect _ _ _ (off_6_2_4 c).1 (off_6_2_4 c).2 rfl rfl) rfl rfl (amt_2 4).symm) $$ [HSK24 HLD24 HSR24 HO]
  · isplitr; · iexact HK
    isplitl [HSK24]; · iexact HSK24
    isplitl [HLD24]; · iexact HLD24
    isplitl [HSR24]; · iexact HSR24
    iexact HO
  iintro ⟨HSW24, HO⟩
  iapply (recv_w m ρ K 0 0 c (allK.drop 9) (by decide) rfl (amt_0 0).symm) $$ [HRK00 HO]
  · isplitr; · iexact HK
    isplitr; · iexact HL
    isplitl [HRK00]; · iexact HRK00
    iexact HO
  iintro ⟨HG, HZR00, HO⟩
  ihave HSR01 := (Entails.of_eq (got0_eq m ρ 0 c)) $$ HG
  iapply (send_gen m ρ K 0 1 c _ (k0_dev14_eq c) (allK.drop 10) (seg2_rect _ _ _ (off_7_0_1 c).1 (off_7_0_1 c).2 rfl rfl) rfl rfl (amt_0 1).symm) $$ [HSK01 HLD01 HSR01 HO]
  · isplitr; · iexact HK
    isplitl [HSK01]; · iexact HSK01
    isplitl [HLD01]; · iexact HLD01
    isplitl [HSR01]; · iexact HSR01
    iexact HO
  iintro ⟨HSW01, HO⟩
  simp only [wp_ret]
  imodintro
  iapply Hk
  isplitl [HSW24]; · iexact HSW24
  isplitl [HZR00]; · iexact HZR00
  isplitl [HSW01]; · iexact HSW01
  iexact HO

theorem part8 (c : Dev nD) (v2 v5 v8 v11 v13 v14 v15 v239 : BitVec 32) (Kt : (Σ' (v272 : BitVec 32), BitVec 32) → sProp 𝕄) :
    iprop(recs m ρ K ∗ levAts L lv ∗ RK (0, 2) c ∗ SK (0, 3) c ∗ land 0 3 c ∗ OW c (allK.drop 10)
      ∗ (∀ r, (ZR (0, 2) c ∗ SW (0, 3) c ∗ OW c (allK.drop 11)) -∗ Kt r))
     ⊢ wp frame (wpE (defs₀ (F := F)) 𝒱₀ (c : Thread nD τ) none) Set.univ
      (onRefs (k0_part8 (F := F)) c v2 v5 v8 v11 v13 v14 v15 v239) Kt := by
  unfold onRefs; rw [k0_part8_eq_skeleton]; unfold k0_part8_skel
  simp only [Prog.lift, Prog.bind_op, Prog.bind_ret, Prog.pure_eq_ret]
  iintro ⟨#HK, #HL, HRK02, HSK03, HLD03, HO, Hk⟩
  iapply (recv_w m ρ K 0 2 c (allK.drop 10) (by decide) rfl (amt_0 2).symm) $$ [HRK02 HO]
  · isplitr; · iexact HK
    isplitr; · iexact HL
    isplitl [HRK02]; · iexact HRK02
    iexact HO
  iintro ⟨HG, HZR02, HO⟩
  ihave HSR03 := (Entails.of_eq (got2_eq m ρ 0 c)) $$ HG
  iapply (send_gen m ρ K 0 3 c _ (k0_dev15_eq c) (allK.drop 11) (seg2_rect _ _ _ (off_8_0_3 c).1 (off_8_0_3 c).2 rfl rfl) rfl rfl (amt_0 3).symm) $$ [HSK03 HLD03 HSR03 HO]
  · isplitr; · iexact HK
    isplitl [HSK03]; · iexact HSK03
    isplitl [HLD03]; · iexact HLD03
    isplitl [HSR03]; · iexact HSR03
    iexact HO
  iintro ⟨HSW03, HO⟩
  simp only [wp_ret]
  imodintro
  iapply Hk
  isplitl [HZR02]; · iexact HZR02
  isplitl [HSW03]; · iexact HSW03
  iexact HO

theorem part9 (c : Dev nD) (v2 v5 v8 v11 v12 v15 v272 : BitVec 32) (c0_i32_167 : BitVec 32) (Kt : PUnit → sProp 𝕄) :
    iprop(recs m ρ K ∗ levAts L lv ∗ RK (0, 4) c ∗ SK (0, 5) c ∗ land 0 5 c ∗ OW c (allK.drop 11)
      ∗ (∀ r, (ZR (0, 4) c ∗ SW (0, 5) c ∗ OW c (allK.drop 12)) -∗ Kt r))
     ⊢ wp frame (wpE (defs₀ (F := F)) 𝒱₀ (c : Thread nD τ) none) Set.univ
      (onRefs (k0_part9 (F := F)) c v2 v5 v8 v11 v12 v15 v272 c0_i32_167) Kt := by
  unfold onRefs; rw [k0_part9_eq_skeleton]; unfold k0_part9_skel
  simp only [Prog.lift, Prog.bind_op, Prog.bind_ret, Prog.pure_eq_ret]
  iintro ⟨#HK, #HL, HRK04, HSK05, HLD05, HO, Hk⟩
  iapply (recv_w m ρ K 0 4 c (allK.drop 11) (by decide) rfl (amt_0 4).symm) $$ [HRK04 HO]
  · isplitr; · iexact HK
    isplitr; · iexact HL
    isplitl [HRK04]; · iexact HRK04
    iexact HO
  iintro ⟨HG, HZR04, HO⟩
  ihave HSR05 := (Entails.of_eq (got4_eq m ρ 0 c)) $$ HG
  iapply (send_gen m ρ K 0 5 c _ (k0_dev16_eq c) (allK.drop 12) (seg2_rect _ _ _ (off_9_0_5 c).1 (off_9_0_5 c).2 rfl rfl) rfl rfl (amt_0 5).symm) $$ [HSK05 HLD05 HSR05 HO]
  · isplitr; · iexact HK
    isplitl [HSK05]; · iexact HSK05
    isplitl [HLD05]; · iexact HLD05
    isplitl [HSR05]; · iexact HSR05
    iexact HO
  iintro ⟨HSW05, HO⟩
  simp only [wp_ret]
  imodintro
  iapply Hk
  isplitl [HZR04]; · iexact HZR04
  isplitl [HSW05]; · iexact HSW05
  iexact HO

theorem part10 (c : Dev nD) (v2 v5 v8 v11 v13 : BitVec 32) (Kt : (Σ' (v339 : BitVec 32), BitVec 32) → sProp 𝕄) :
    iprop(recs m ρ K ∗ levAts L lv ∗ RK (1, 0) c ∗ SK (1, 1) c ∗ land 1 1 c ∗ RK (1, 2) c ∗ OW c (allK.drop 12)
      ∗ (∀ r, (ZR (1, 0) c ∗ SW (1, 1) c ∗ srcP m ρ 1 3 c ∗ ZR (1, 2) c ∗ OW c (allK.drop 13)) -∗ Kt r))
     ⊢ wp frame (wpE (defs₀ (F := F)) 𝒱₀ (c : Thread nD τ) none) Set.univ
      (onRefs (k0_part10 (F := F)) c v2 v5 v8 v11 v13) Kt := by
  unfold onRefs; rw [k0_part10_eq_skeleton]; unfold k0_part10_skel
  simp only [Prog.lift, Prog.bind_op, Prog.bind_ret, Prog.pure_eq_ret]
  iintro ⟨#HK, #HL, HRK10, HSK11, HLD11, HRK12, HO, Hk⟩
  iapply (recv_w m ρ K 1 0 c (allK.drop 12) (by decide) rfl (amt_1 0).symm) $$ [HRK10 HO]
  · isplitr; · iexact HK
    isplitr; · iexact HL
    isplitl [HRK10]; · iexact HRK10
    iexact HO
  iintro ⟨HG, HZR10, HO⟩
  ihave HSR11 := (Entails.of_eq (got0_eq m ρ 1 c)) $$ HG
  iapply (send_gen m ρ K 1 1 c _ (k0_dev17_eq c) (allK.drop 13) (seg2_rect _ _ _ (off_10_1_1 c).1 (off_10_1_1 c).2 rfl rfl) rfl rfl (amt_1 1).symm) $$ [HSK11 HLD11 HSR11 HO]
  · isplitr; · iexact HK
    isplitl [HSK11]; · iexact HSK11
    isplitl [HLD11]; · iexact HLD11
    isplitl [HSR11]; · iexact HSR11
    iexact HO
  iintro ⟨HSW11, HO⟩
  iapply (recv_w m ρ K 1 2 c (allK.drop 13) (by decide) rfl (amt_1 2).symm) $$ [HRK12 HO]
  · isplitr; · iexact HK
    isplitr; · iexact HL
    isplitl [HRK12]; · iexact HRK12
    iexact HO
  iintro ⟨HG, HZR12, HO⟩
  ihave HSR13 := (Entails.of_eq (got2_eq m ρ 1 c)) $$ HG
  simp only [wp_ret]
  imodintro
  iapply Hk
  isplitl [HZR10]; · iexact HZR10
  isplitl [HSW11]; · iexact HSW11
  isplitl [HSR13]; · iexact HSR13
  isplitl [HZR12]; · iexact HZR12
  iexact HO

theorem part11 (c : Dev nD) (v2 v5 v8 v11 v14 v15 v339 v340 : BitVec 32) (Kt : PUnit → sProp 𝕄) :
    iprop(recs m ρ K ∗ levAts L lv ∗ SK (1, 3) c ∗ land 1 3 c ∗ srcP m ρ 1 3 c ∗ RK (1, 4) c ∗ OW c (allK.drop 13)
      ∗ (∀ r, (SW (1, 3) c ∗ srcP m ρ 1 5 c ∗ ZR (1, 4) c ∗ OW c (allK.drop 14)) -∗ Kt r))
     ⊢ wp frame (wpE (defs₀ (F := F)) 𝒱₀ (c : Thread nD τ) none) Set.univ
      (onRefs (k0_part11 (F := F)) c v2 v5 v8 v11 v14 v15 v339 v340) Kt := by
  unfold onRefs; rw [k0_part11_eq_skeleton]; unfold k0_part11_skel
  simp only [Prog.lift, Prog.bind_op, Prog.bind_ret, Prog.pure_eq_ret]
  iintro ⟨#HK, #HL, HSK13, HLD13, HSR13, HRK14, HO, Hk⟩
  iapply (send_gen m ρ K 1 3 c _ (k0_dev18_eq c) (allK.drop 14) (seg2_rect _ _ _ (off_11_1_3 c).1 (off_11_1_3 c).2 rfl rfl) rfl rfl (amt_1 3).symm) $$ [HSK13 HLD13 HSR13 HO]
  · isplitr; · iexact HK
    isplitl [HSK13]; · iexact HSK13
    isplitl [HLD13]; · iexact HLD13
    isplitl [HSR13]; · iexact HSR13
    iexact HO
  iintro ⟨HSW13, HO⟩
  iapply (recv_w m ρ K 1 4 c (allK.drop 14) (by decide) rfl (amt_1 4).symm) $$ [HRK14 HO]
  · isplitr; · iexact HK
    isplitr; · iexact HL
    isplitl [HRK14]; · iexact HRK14
    iexact HO
  iintro ⟨HG, HZR14, HO⟩
  ihave HSR15 := (Entails.of_eq (got4_eq m ρ 1 c)) $$ HG
  simp only [wp_ret]
  imodintro
  iapply Hk
  isplitl [HSW13]; · iexact HSW13
  isplitl [HSR15]; · iexact HSR15
  isplitl [HZR14]; · iexact HZR14
  iexact HO

end Cert.GatherProof

end
-- ==== Proof.Gather.PartsB.lean ====
/-
The gather's body, part by part: what each printed part needs and what it leaves, by the rule of each step in turn.
-/
module

public import proofs.«01_k».proof.Proof.Gather.Offs

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

theorem part12 (c : Dev nD) (v2 v5 v8 v11 v12 v13 : BitVec 32) (Kt : PUnit → sProp 𝕄) :
    iprop(recs m ρ K ∗ levAts L lv ∗ SK (1, 5) c ∗ land 1 5 c ∗ srcP m ρ 1 5 c ∗ RK (2, 0) c ∗ SK (2, 1) c ∗ land 2 1 c ∗ OW c (allK.drop 14)
      ∗ (∀ r, (SW (1, 5) c ∗ ZR (2, 0) c ∗ SW (2, 1) c ∗ OW c (allK.drop 16)) -∗ Kt r))
     ⊢ wp frame (wpE (defs₀ (F := F)) 𝒱₀ (c : Thread nD τ) none) Set.univ
      (onRefs (k0_part12 (F := F)) c v2 v5 v8 v11 v12 v13) Kt := by
  unfold onRefs; rw [k0_part12_eq_skeleton]; unfold k0_part12_skel
  simp only [Prog.lift, Prog.bind_op, Prog.bind_ret, Prog.pure_eq_ret]
  iintro ⟨#HK, #HL, HSK15, HLD15, HSR15, HRK20, HSK21, HLD21, HO, Hk⟩
  iapply (send_gen m ρ K 1 5 c _ (k0_dev19_eq c) (allK.drop 15) (seg2_rect _ _ _ (off_12_1_5 c).1 (off_12_1_5 c).2 rfl rfl) rfl rfl (amt_1 5).symm) $$ [HSK15 HLD15 HSR15 HO]
  · isplitr; · iexact HK
    isplitl [HSK15]; · iexact HSK15
    isplitl [HLD15]; · iexact HLD15
    isplitl [HSR15]; · iexact HSR15
    iexact HO
  iintro ⟨HSW15, HO⟩
  iapply (recv_w m ρ K 2 0 c (allK.drop 15) (by decide) rfl (amt_2 0).symm) $$ [HRK20 HO]
  · isplitr; · iexact HK
    isplitr; · iexact HL
    isplitl [HRK20]; · iexact HRK20
    iexact HO
  iintro ⟨HG, HZR20, HO⟩
  ihave HSR21 := (Entails.of_eq (got0_eq m ρ 2 c)) $$ HG
  iapply (send_gen m ρ K 2 1 c _ (k0_dev20_eq c) (allK.drop 16) (seg2_rect _ _ _ (off_13_2_1 c).1 (off_13_2_1 c).2 rfl rfl) rfl rfl (amt_2 1).symm) $$ [HSK21 HLD21 HSR21 HO]
  · isplitr; · iexact HK
    isplitl [HSK21]; · iexact HSK21
    isplitl [HLD21]; · iexact HLD21
    isplitl [HSR21]; · iexact HSR21
    iexact HO
  iintro ⟨HSW21, HO⟩
  simp only [wp_ret]
  imodintro
  iapply Hk
  isplitl [HSW15]; · iexact HSW15
  isplitl [HZR20]; · iexact HZR20
  isplitl [HSW21]; · iexact HSW21
  iexact HO

theorem part13 (c : Dev nD) (v2 v5 v8 v11 v13 v14 v15 : BitVec 32) (Kt : (Σ' (v443 : BitVec 32), BitVec 32) → sProp 𝕄) :
    iprop(recs m ρ K ∗ levAts L lv ∗ RK (2, 2) c ∗ SK (2, 3) c ∗ land 2 3 c ∗ OW c (allK.drop 16)
      ∗ (∀ r, (ZR (2, 2) c ∗ SW (2, 3) c ∗ OW c (allK.drop 17)) -∗ Kt r))
     ⊢ wp frame (wpE (defs₀ (F := F)) 𝒱₀ (c : Thread nD τ) none) Set.univ
      (onRefs (k0_part13 (F := F)) c v2 v5 v8 v11 v13 v14 v15) Kt := by
  unfold onRefs; rw [k0_part13_eq_skeleton]; unfold k0_part13_skel
  simp only [Prog.lift, Prog.bind_op, Prog.bind_ret, Prog.pure_eq_ret]
  iintro ⟨#HK, #HL, HRK22, HSK23, HLD23, HO, Hk⟩
  iapply (recv_w m ρ K 2 2 c (allK.drop 16) (by decide) rfl (amt_2 2).symm) $$ [HRK22 HO]
  · isplitr; · iexact HK
    isplitr; · iexact HL
    isplitl [HRK22]; · iexact HRK22
    iexact HO
  iintro ⟨HG, HZR22, HO⟩
  ihave HSR23 := (Entails.of_eq (got2_eq m ρ 2 c)) $$ HG
  iapply (send_gen m ρ K 2 3 c _ (k0_dev21_eq c) (allK.drop 17) (seg2_rect _ _ _ (off_14_2_3 c).1 (off_14_2_3 c).2 rfl rfl) rfl rfl (amt_2 3).symm) $$ [HSK23 HLD23 HSR23 HO]
  · isplitr; · iexact HK
    isplitl [HSK23]; · iexact HSK23
    isplitl [HLD23]; · iexact HLD23
    isplitl [HSR23]; · iexact HSR23
    iexact HO
  iintro ⟨HSW23, HO⟩
  simp only [wp_ret]
  imodintro
  iapply Hk
  isplitl [HZR22]; · iexact HZR22
  isplitl [HSW23]; · iexact HSW23
  iexact HO

theorem part14 (c : Dev nD) (v2 v5 v8 v11 v12 v443 v444 : BitVec 32) (Kt : BitVec 32 → sProp 𝕄) :
    iprop(recs m ρ K ∗ levAts L lv ∗ RK (2, 4) c ∗ SK (2, 5) c ∗ land 2 5 c ∗ RK (0, 1) c ∗ OW c (allK.drop 17)
      ∗ (∀ r, (ZR (2, 4) c ∗ SW (2, 5) c ∗ gotP m ρ 0 1 c ∗ ZR (0, 1) c ∗ OW c (allK.drop 18)) -∗ Kt r))
     ⊢ wp frame (wpE (defs₀ (F := F)) 𝒱₀ (c : Thread nD τ) none) Set.univ
      (onRefs (k0_part14 (F := F)) c v2 v5 v8 v11 v12 v443 v444) Kt := by
  unfold onRefs; rw [k0_part14_eq_skeleton]; unfold k0_part14_skel
  simp only [Prog.lift, Prog.bind_op, Prog.bind_ret, Prog.pure_eq_ret]
  iintro ⟨#HK, #HL, HRK24, HSK25, HLD25, HRK01, HO, Hk⟩
  iapply (recv_w m ρ K 2 4 c (allK.drop 17) (by decide) rfl (amt_2 4).symm) $$ [HRK24 HO]
  · isplitr; · iexact HK
    isplitr; · iexact HL
    isplitl [HRK24]; · iexact HRK24
    iexact HO
  iintro ⟨HG, HZR24, HO⟩
  ihave HSR25 := (Entails.of_eq (got4_eq m ρ 2 c)) $$ HG
  iapply (send_gen m ρ K 2 5 c _ (k0_dev22_eq c) (allK.drop 18) (seg2_rect _ _ _ (off_15_2_5 c).1 (off_15_2_5 c).2 rfl rfl) rfl rfl (amt_2 5).symm) $$ [HSK25 HLD25 HSR25 HO]
  · isplitr; · iexact HK
    isplitl [HSK25]; · iexact HSK25
    isplitl [HLD25]; · iexact HLD25
    isplitl [HSR25]; · iexact HSR25
    iexact HO
  iintro ⟨HSW25, HO⟩
  iapply (recv_w m ρ K 0 1 c (allK.drop 18) (by decide) rfl (amt_0 1).symm) $$ [HRK01 HO]
  · isplitr; · iexact HK
    isplitr; · iexact HL
    isplitl [HRK01]; · iexact HRK01
    iexact HO
  iintro ⟨HGT01, HZR01, HO⟩
  simp only [wp_ret]
  imodintro
  iapply Hk
  isplitl [HZR24]; · iexact HZR24
  isplitl [HSW25]; · iexact HSW25
  isplitl [HGT01]; · iexact HGT01
  isplitl [HZR01]; · iexact HZR01
  iexact HO

theorem part15 (c : Dev nD) (v2 v5 v8 v11 v13 v14 v15 : BitVec 32) (c2_i32_299 : BitVec 32) (Kt : BitVec 32 → sProp 𝕄) :
    iprop(recs m ρ K ∗ levAts L lv ∗ RK (0, 3) c ∗ RK (0, 5) c ∗ OW c (allK.drop 18)
      ∗ (∀ r, (gotP m ρ 0 3 c ∗ ZR (0, 3) c ∗ gotP m ρ 0 5 c ∗ ZR (0, 5) c ∗ OW c (allK.drop 18)) -∗ Kt r))
     ⊢ wp frame (wpE (defs₀ (F := F)) 𝒱₀ (c : Thread nD τ) none) Set.univ
      (onRefs (k0_part15 (F := F)) c v2 v5 v8 v11 v13 v14 v15 c2_i32_299) Kt := by
  unfold onRefs; rw [k0_part15_eq_skeleton]; unfold k0_part15_skel
  simp only [Prog.lift, Prog.bind_op, Prog.bind_ret, Prog.pure_eq_ret]
  iintro ⟨#HK, #HL, HRK03, HRK05, HO, Hk⟩
  iapply (recv_w m ρ K 0 3 c (allK.drop 18) (by decide) rfl (amt_0 3).symm) $$ [HRK03 HO]
  · isplitr; · iexact HK
    isplitr; · iexact HL
    isplitl [HRK03]; · iexact HRK03
    iexact HO
  iintro ⟨HGT03, HZR03, HO⟩
  iapply (recv_w m ρ K 0 5 c (allK.drop 18) (by decide) rfl (amt_0 5).symm) $$ [HRK05 HO]
  · isplitr; · iexact HK
    isplitr; · iexact HL
    isplitl [HRK05]; · iexact HRK05
    iexact HO
  iintro ⟨HGT05, HZR05, HO⟩
  simp only [wp_ret]
  imodintro
  iapply Hk
  isplitl [HGT03]; · iexact HGT03
  isplitl [HZR03]; · iexact HZR03
  isplitl [HGT05]; · iexact HGT05
  isplitl [HZR05]; · iexact HZR05
  iexact HO

theorem part16 (c : Dev nD) (v2 v5 v8 v11 v12 v13 : BitVec 32) (c2_i32_323 : BitVec 32) (Kt : BitVec 32 → sProp 𝕄) :
    iprop(recs m ρ K ∗ levAts L lv ∗ RK (1, 1) c ∗ RK (1, 3) c ∗ OW c (allK.drop 18)
      ∗ (∀ r, (gotP m ρ 1 1 c ∗ ZR (1, 1) c ∗ gotP m ρ 1 3 c ∗ ZR (1, 3) c ∗ OW c (allK.drop 18)) -∗ Kt r))
     ⊢ wp frame (wpE (defs₀ (F := F)) 𝒱₀ (c : Thread nD τ) none) Set.univ
      (onRefs (k0_part16 (F := F)) c v2 v5 v8 v11 v12 v13 c2_i32_323) Kt := by
  unfold onRefs; rw [k0_part16_eq_skeleton]; unfold k0_part16_skel
  simp only [Prog.lift, Prog.bind_op, Prog.bind_ret, Prog.pure_eq_ret]
  iintro ⟨#HK, #HL, HRK11, HRK13, HO, Hk⟩
  iapply (recv_w m ρ K 1 1 c (allK.drop 18) (by decide) rfl (amt_1 1).symm) $$ [HRK11 HO]
  · isplitr; · iexact HK
    isplitr; · iexact HL
    isplitl [HRK11]; · iexact HRK11
    iexact HO
  iintro ⟨HGT11, HZR11, HO⟩
  iapply (recv_w m ρ K 1 3 c (allK.drop 18) (by decide) rfl (amt_1 3).symm) $$ [HRK13 HO]
  · isplitr; · iexact HK
    isplitr; · iexact HL
    isplitl [HRK13]; · iexact HRK13
    iexact HO
  iintro ⟨HGT13, HZR13, HO⟩
  simp only [wp_ret]
  imodintro
  iapply Hk
  isplitl [HGT11]; · iexact HGT11
  isplitl [HZR11]; · iexact HZR11
  isplitl [HGT13]; · iexact HGT13
  isplitl [HZR13]; · iexact HZR13
  iexact HO

theorem part17 (c : Dev nD) (v2 v5 v8 v11 v12 v14 v15 : BitVec 32) (c2_i32_347 : BitVec 32) (Kt : BitVec 32 → sProp 𝕄) :
    iprop(recs m ρ K ∗ levAts L lv ∗ RK (1, 5) c ∗ RK (2, 1) c ∗ OW c (allK.drop 18)
      ∗ (∀ r, (gotP m ρ 1 5 c ∗ ZR (1, 5) c ∗ gotP m ρ 2 1 c ∗ ZR (2, 1) c ∗ OW c (allK.drop 18)) -∗ Kt r))
     ⊢ wp frame (wpE (defs₀ (F := F)) 𝒱₀ (c : Thread nD τ) none) Set.univ
      (onRefs (k0_part17 (F := F)) c v2 v5 v8 v11 v12 v14 v15 c2_i32_347) Kt := by
  unfold onRefs; rw [k0_part17_eq_skeleton]; unfold k0_part17_skel
  simp only [Prog.lift, Prog.bind_op, Prog.bind_ret, Prog.pure_eq_ret]
  iintro ⟨#HK, #HL, HRK15, HRK21, HO, Hk⟩
  iapply (recv_w m ρ K 1 5 c (allK.drop 18) (by decide) rfl (amt_1 5).symm) $$ [HRK15 HO]
  · isplitr; · iexact HK
    isplitr; · iexact HL
    isplitl [HRK15]; · iexact HRK15
    iexact HO
  iintro ⟨HGT15, HZR15, HO⟩
  iapply (recv_w m ρ K 2 1 c (allK.drop 18) (by decide) rfl (amt_2 1).symm) $$ [HRK21 HO]
  · isplitr; · iexact HK
    isplitr; · iexact HL
    isplitl [HRK21]; · iexact HRK21
    iexact HO
  iintro ⟨HGT21, HZR21, HO⟩
  simp only [wp_ret]
  imodintro
  iapply Hk
  isplitl [HGT15]; · iexact HGT15
  isplitl [HZR15]; · iexact HZR15
  isplitl [HGT21]; · iexact HGT21
  isplitl [HZR21]; · iexact HZR21
  iexact HO

theorem part18 (c : Dev nD) (v2 v5 v8 v11 v13 v14 v15 : BitVec 32) (c2_i32_371 : BitVec 32) (Kt : PUnit → sProp 𝕄) :
    iprop(recs m ρ K ∗ levAts L lv ∗ RK (2, 3) c ∗ RK (2, 5) c ∗ OW c (allK.drop 18)
      ∗ (∀ r, (gotP m ρ 2 3 c ∗ ZR (2, 3) c ∗ gotP m ρ 2 5 c ∗ ZR (2, 5) c ∗ OW c (allK.drop 18)) -∗ Kt r))
     ⊢ wp frame (wpE (defs₀ (F := F)) 𝒱₀ (c : Thread nD τ) none) Set.univ
      (onRefs (k0_part18 (F := F)) c v2 v5 v8 v11 v13 v14 v15 c2_i32_371) Kt := by
  unfold onRefs; rw [k0_part18_eq_skeleton]; unfold k0_part18_skel
  simp only [Prog.lift, Prog.bind_op, Prog.bind_ret, Prog.pure_eq_ret]
  iintro ⟨#HK, #HL, HRK23, HRK25, HO, Hk⟩
  iapply (recv_w m ρ K 2 3 c (allK.drop 18) (by decide) rfl (amt_2 3).symm) $$ [HRK23 HO]
  · isplitr; · iexact HK
    isplitr; · iexact HL
    isplitl [HRK23]; · iexact HRK23
    iexact HO
  iintro ⟨HGT23, HZR23, HO⟩
  iapply (recv_w m ρ K 2 5 c (allK.drop 18) (by decide) rfl (amt_2 5).symm) $$ [HRK25 HO]
  · isplitr; · iexact HK
    isplitr; · iexact HL
    isplitl [HRK25]; · iexact HRK25
    iexact HO
  iintro ⟨HGT25, HZR25, HO⟩
  simp only [wp_ret]
  imodintro
  iapply Hk
  isplitl [HGT23]; · iexact HGT23
  isplitl [HZR23]; · iexact HZR23
  isplitl [HGT25]; · iexact HGT25
  isplitl [HZR25]; · iexact HZR25
  iexact HO

theorem part19 (c : Dev nD)  (Kt : PUnit → sProp 𝕄) :
    iprop(recs m ρ K ∗ levAts L lv ∗ SW (0, 0) c ∗ SW (0, 2) c ∗ SW (0, 4) c ∗ SW (1, 0) c ∗ SW (1, 2) c ∗ SW (1, 4) c ∗ OW c []
      ∗ (∀ r, (srcP m ρ 0 0 c ∗ ZS (0, 0) c ∗ srcP m ρ 0 2 c ∗ ZS (0, 2) c ∗ srcP m ρ 0 4 c ∗ ZS (0, 4) c ∗ srcP m ρ 1 0 c ∗ ZS (1, 0) c ∗ srcP m ρ 1 2 c ∗ ZS (1, 2) c ∗ srcP m ρ 1 4 c ∗ ZS (1, 4) c ∗ OW c []) -∗ Kt r))
     ⊢ wp frame (wpE (defs₀ (F := F)) 𝒱₀ (c : Thread nD τ) none) Set.univ
      (onRefs (k0_part19 (F := F)) c) Kt := by
  unfold onRefs; rw [k0_part19_eq_skeleton]; unfold k0_part19_skel
  simp only [Prog.lift, Prog.bind_op, Prog.bind_ret, Prog.pure_eq_ret]
  iintro ⟨#HK, #HL, HSW00, HSW02, HSW04, HSW10, HSW12, HSW14, HO, Hk⟩
  iapply (swait_w m ρ K 0 0 c rfl (amt_0 0).symm) $$ [HSW00 HO]
  · isplitr; · iexact HK
    isplitr; · iexact HL
    isplitl [HSW00]; · iexact HSW00
    iexact HO
  iintro ⟨HSR00, HZS00, HO⟩
  iapply (swait_w m ρ K 0 2 c rfl (amt_0 2).symm) $$ [HSW02 HO]
  · isplitr; · iexact HK
    isplitr; · iexact HL
    isplitl [HSW02]; · iexact HSW02
    iexact HO
  iintro ⟨HSR02, HZS02, HO⟩
  iapply (swait_w m ρ K 0 4 c rfl (amt_0 4).symm) $$ [HSW04 HO]
  · isplitr; · iexact HK
    isplitr; · iexact HL
    isplitl [HSW04]; · iexact HSW04
    iexact HO
  iintro ⟨HSR04, HZS04, HO⟩
  iapply (swait_w m ρ K 1 0 c rfl (amt_1 0).symm) $$ [HSW10 HO]
  · isplitr; · iexact HK
    isplitr; · iexact HL
    isplitl [HSW10]; · iexact HSW10
    iexact HO
  iintro ⟨HSR10, HZS10, HO⟩
  iapply (swait_w m ρ K 1 2 c rfl (amt_1 2).symm) $$ [HSW12 HO]
  · isplitr; · iexact HK
    isplitr; · iexact HL
    isplitl [HSW12]; · iexact HSW12
    iexact HO
  iintro ⟨HSR12, HZS12, HO⟩
  iapply (swait_w m ρ K 1 4 c rfl (amt_1 4).symm) $$ [HSW14 HO]
  · isplitr; · iexact HK
    isplitr; · iexact HL
    isplitl [HSW14]; · iexact HSW14
    iexact HO
  iintro ⟨HSR14, HZS14, HO⟩
  simp only [wp_ret]
  imodintro
  iapply Hk
  isplitl [HSR00]; · iexact HSR00
  isplitl [HZS00]; · iexact HZS00
  isplitl [HSR02]; · iexact HSR02
  isplitl [HZS02]; · iexact HZS02
  isplitl [HSR04]; · iexact HSR04
  isplitl [HZS04]; · iexact HZS04
  isplitl [HSR10]; · iexact HSR10
  isplitl [HZS10]; · iexact HZS10
  isplitl [HSR12]; · iexact HSR12
  isplitl [HZS12]; · iexact HZS12
  isplitl [HSR14]; · iexact HSR14
  isplitl [HZS14]; · iexact HZS14
  iexact HO

theorem part20 (c : Dev nD)  (Kt : PUnit → sProp 𝕄) :
    iprop(recs m ρ K ∗ levAts L lv ∗ SW (2, 0) c ∗ SW (2, 2) c ∗ SW (2, 4) c ∗ SW (0, 1) c ∗ SW (0, 3) c ∗ SW (0, 5) c ∗ OW c []
      ∗ (∀ r, (srcP m ρ 2 0 c ∗ ZS (2, 0) c ∗ srcP m ρ 2 2 c ∗ ZS (2, 2) c ∗ srcP m ρ 2 4 c ∗ ZS (2, 4) c ∗ srcP m ρ 0 1 c ∗ ZS (0, 1) c ∗ srcP m ρ 0 3 c ∗ ZS (0, 3) c ∗ srcP m ρ 0 5 c ∗ ZS (0, 5) c ∗ OW c []) -∗ Kt r))
     ⊢ wp frame (wpE (defs₀ (F := F)) 𝒱₀ (c : Thread nD τ) none) Set.univ
      (onRefs (k0_part20 (F := F)) c) Kt := by
  unfold onRefs; rw [k0_part20_eq_skeleton]; unfold k0_part20_skel
  simp only [Prog.lift, Prog.bind_op, Prog.bind_ret, Prog.pure_eq_ret]
  iintro ⟨#HK, #HL, HSW20, HSW22, HSW24, HSW01, HSW03, HSW05, HO, Hk⟩
  iapply (swait_w m ρ K 2 0 c rfl (amt_2 0).symm) $$ [HSW20 HO]
  · isplitr; · iexact HK
    isplitr; · iexact HL
    isplitl [HSW20]; · iexact HSW20
    iexact HO
  iintro ⟨HSR20, HZS20, HO⟩
  iapply (swait_w m ρ K 2 2 c rfl (amt_2 2).symm) $$ [HSW22 HO]
  · isplitr; · iexact HK
    isplitr; · iexact HL
    isplitl [HSW22]; · iexact HSW22
    iexact HO
  iintro ⟨HSR22, HZS22, HO⟩
  iapply (swait_w m ρ K 2 4 c rfl (amt_2 4).symm) $$ [HSW24 HO]
  · isplitr; · iexact HK
    isplitr; · iexact HL
    isplitl [HSW24]; · iexact HSW24
    iexact HO
  iintro ⟨HSR24, HZS24, HO⟩
  iapply (swait_w m ρ K 0 1 c rfl (amt_0 1).symm) $$ [HSW01 HO]
  · isplitr; · iexact HK
    isplitr; · iexact HL
    isplitl [HSW01]; · iexact HSW01
    iexact HO
  iintro ⟨HSR01, HZS01, HO⟩
  iapply (swait_w m ρ K 0 3 c rfl (amt_0 3).symm) $$ [HSW03 HO]
  · isplitr; · iexact HK
    isplitr; · iexact HL
    isplitl [HSW03]; · iexact HSW03
    iexact HO
  iintro ⟨HSR03, HZS03, HO⟩
  iapply (swait_w m ρ K 0 5 c rfl (amt_0 5).symm) $$ [HSW05 HO]
  · isplitr; · iexact HK
    isplitr; · iexact HL
    isplitl [HSW05]; · iexact HSW05
    iexact HO
  iintro ⟨HSR05, HZS05, HO⟩
  simp only [wp_ret]
  imodintro
  iapply Hk
  isplitl [HSR20]; · iexact HSR20
  isplitl [HZS20]; · iexact HZS20
  isplitl [HSR22]; · iexact HSR22
  isplitl [HZS22]; · iexact HZS22
  isplitl [HSR24]; · iexact HSR24
  isplitl [HZS24]; · iexact HZS24
  isplitl [HSR01]; · iexact HSR01
  isplitl [HZS01]; · iexact HZS01
  isplitl [HSR03]; · iexact HSR03
  isplitl [HZS03]; · iexact HZS03
  isplitl [HSR05]; · iexact HSR05
  isplitl [HZS05]; · iexact HZS05
  iexact HO

end Cert.GatherProof

end
-- ==== Proof.Gather.Body.lean ====
/-
The gather's whole body, part after part: from the staged shards to the three gathered arrays.
-/
module

public import proofs.«01_k».proof.Proof.Gather.Head
public import proofs.«01_k».proof.Proof.Gather.PartsA
public import proofs.«01_k».proof.Proof.Gather.PartsB

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

/-- What a device holds for the copies of one array: its duties, its waits, and at the end its closed cells. -/
def duties6 (a : Fin 3) (c : Dev nD) : sProp 𝕄 :=
  iprop(SK (a, 0) c ∗ SK (a, 1) c ∗ SK (a, 2) c ∗ SK (a, 3) c ∗ SK (a, 4) c ∗ SK (a, 5) c)
def waits6 (a : Fin 3) (c : Dev nD) : sProp 𝕄 :=
  iprop(RK (a, 0) c ∗ RK (a, 1) c ∗ RK (a, 2) c ∗ RK (a, 3) c ∗ RK (a, 4) c ∗ RK (a, 5) c)
def closed6 (a : Fin 3) (c : Dev nD) : sProp 𝕄 :=
  iprop((ZS (a, 0) c ∗ ZS (a, 1) c ∗ ZS (a, 2) c ∗ ZS (a, 3) c ∗ ZS (a, 4) c ∗ ZS (a, 5) c) ∗ (ZR (a, 0) c ∗ ZR (a, 1) c ∗ ZR (a, 2) c ∗ ZR (a, 3) c ∗ ZR (a, 4) c ∗ ZR (a, 5) c))

theorem own_split (a : Fin 3) (c : Dev nD) :
    (pts a c fullShare (ch c) 2 (val m ρ a c) : sProp 𝕄)
      ⊢ iprop((srcP m ρ a 0 c ∗ srcP m ρ a 2 c ∗ srcP m ρ a 4 c) ∗ pts a c fullShare (oh c).val 1 (val m ρ a c)) := by
  have e : ownP m ρ a c = (pts a c fullShare (lo 0 c).val 1 (val m ρ a c) : sProp 𝕄) := (pts_congr a c _ _ _ (glob_own m ρ a c)).symm
  refine (chip_eq (F := F) a c _).1.trans (sep_mono_left ?_)
  rw [← e]
  exact (own_eq m ρ a c).1

set_option maxHeartbeats 8000000 in
theorem body (c : Dev nD) (W : Waits sig Unit) (f0 f1 f2) (Kt : PUnit → sProp 𝕄) :
    iprop(recs m ρ K ∗ levAts L lv ∗ owes (c : Thread nD τ) (O₀ c) W
      ∗ (dutyTok ER (barCell (sib c)) 0 0 ∗ dutyTok ER (barCell (xn c)) 0 1 ∗ dutyTok ER (barCell (yn c)) 0 2 ∗ dutyTok ER (barCell (dn c)) 0 3)
      ∗ (sibIn (F := F) c ∗ farIn (F := F) 0 c ∗ farIn (F := F) 2 c ∗ farIn (F := F) 4 c)
      ∗ (cred (tallyAt (barCell c) () 4) ∗ atPos ER (barCell c) 0 ∅ 0)
      ∗ ((((c : Thread nD τ).loc cc0_stg0_0) ↦{fullShare} x0 m ρ c) ∗ (((c : Thread nD τ).loc cc0_stg1_0) ↦{fullShare} x1 m ρ c)
        ∗ (((c : Thread nD τ).loc cc0_stg2_0) ↦{fullShare} x2 m ρ c))
      ∗ (pts (F := F) 0 c fullShare (ch c) 2 f0 ∗ pts (F := F) 1 c fullShare (ch c) 2 f1 ∗ pts (F := F) 2 c fullShare (ch c) 2 f2)
      ∗ (duties6 (F := F) 0 c ∗ duties6 (F := F) 1 c ∗ duties6 (F := F) 2 c) ∗ (waits6 (F := F) 0 c ∗ waits6 (F := F) 1 c ∗ waits6 (F := F) 2 c)
      ∗ ((((((c : Thread nD τ).loc cc0_stg0_0) ↦{fullShare} x0 m ρ c) ∗ (((c : Thread nD τ).loc cc0_stg1_0) ↦{fullShare} x1 m ρ c)
          ∗ (((c : Thread nD τ).loc cc0_stg2_0) ↦{fullShare} x2 m ρ c))
        ∗ ((((c : Thread nD τ).loc (ob 0)) ↦{fullShare} outAt m ρ 0 c) ∗ (((c : Thread nD τ).loc (ob 1)) ↦{fullShare} outAt m ρ 1 c)
          ∗ (((c : Thread nD τ).loc (ob 2)) ↦{fullShare} outAt m ρ 2 c))
        ∗ semVal (barCell c) 0 ∗ (closed6 (F := F) 0 c ∗ closed6 (F := F) 1 c ∗ closed6 (F := F) 2 c) ∗ OW c []) -∗ Kt ⟨⟩))
     ⊢ wp frame (wpE (defs₀ (F := F)) 𝒱₀ (c : Thread nD τ) none) Set.univ
      (cc0_gather_weights (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        cc0_scratch0 cc0_scratch1) Kt := by
  rw [cc0_gather_weights_eq_skeleton]; unfold cc0_gather_weights_skel
  rw [wp_bind, k0_part21_eq_skeleton]; unfold k0_part21_skel
  unfold duties6 waits6
  iintro ⟨#HK, #HL, HO, ⟨Ht0, Ht⟩, ⟨Hi0, Hi⟩, ⟨Hbc, Hba⟩, ⟨Hx0, Hx1, Hx2⟩, ⟨Hp0, Hp1, Hp2⟩, ⟨⟨HSK00, HSK01, HSK02, HSK03, HSK04, HSK05⟩, ⟨HSK10, HSK11, HSK12, HSK13, HSK14, HSK15⟩, ⟨HSK20, HSK21, HSK22, HSK23, HSK24, HSK25⟩⟩, ⟨⟨HRK00, HRK01, HRK02, HRK03, HRK04, HRK05⟩, ⟨HRK10, HRK11, HRK12, HRK13, HRK14, HRK15⟩, ⟨HRK20, HRK21, HRK22, HRK23, HRK24, HRK25⟩⟩, Hk⟩
  rw [wp_bind]
  iapply (part1 m ρ K c W _)
  isplitr; · iexact HK
  isplitl [HO]; · iexact HO
  isplitl [Ht0]; · iexact Ht0
  isplitl [Hi0]; · iexact Hi0
  iintro %v2 %v5 %v8 %v10 %v11 %v12 %v13 %v14 %v15 %v18 %v19 %v20 %v30 %v31 HO
  rw [wp_bind]
  iapply (part2 m ρ K c W _ _ _ _ _ _ _ _ f0 f1 _)
  isplitr; · iexact HK
  isplitr; · iexact HL
  isplitl [HO]; · iexact HO
  isplitl [Ht]; · iexact Ht
  isplitl [Hi]; · iexact Hi
  isplitl [Hbc]; · iexact Hbc
  isplitl [Hba]; · iexact Hba
  isplitl [Hx0]; · iexact Hx0
  isplitl [Hx1]; · iexact Hx1
  isplitl [Hx2]; · iexact Hx2
  isplitl [Hp0]; · iexact Hp0
  isplitl [Hp1]; · iexact Hp1
  iintro %w ⟨Hx0, Hx1, Hx2, Hp0, Hp1, Hland, Hz, HO⟩
  dsimp only
  ihave HO := (show (OW c allK : sProp 𝕄) ⊢ OW c (allK.drop 0) from Entails.of_eq rfl) $$ HO
  ihave Hp0 := (own_split m ρ 0 c) $$ Hp0
  icases Hp0 with ⟨⟨HSR00, HSR02, HSR04⟩, HOH0⟩
  ihave Hp1 := (own_split m ρ 1 c) $$ Hp1
  icases Hp1 with ⟨⟨HSR10, HSR12, HSR14⟩, HOH1⟩
  unfold lands sibPay farPay
  icases Hland with ⟨⟨⟨HLD01, HLD03, HLD05⟩, ⟨HLD11, HLD13, HLD15⟩, ⟨HLD21, HLD23, HLD25⟩⟩, ⟨HLD00, HLD10, HLD20⟩, ⟨HLD02, HLD12, HLD22⟩, ⟨HLD04, HLD14, HLD24⟩⟩
  rw [wp_bind]
  iapply (part3 m ρ K c _ _ _ _ _ _ _ f2 _)
  isplitr; · iexact HK
  isplitr; · iexact HL
  isplitl [Hp2]; · iexact Hp2
  isplitl [HSK00]; · iexact HSK00
  isplitl [HLD00]; · iexact HLD00
  isplitl [HSR00]; · iexact HSR00
  isplitl [HSK02]; · iexact HSK02
  isplitl [HLD02]; · iexact HLD02
  isplitl [HSR02]; · iexact HSR02
  isplitl [HO]; · iexact HO
  iintro %r3 ⟨Hp2, HSW00, HSW02, HO⟩
  ihave Hp2 := (own_split m ρ 2 c) $$ Hp2
  icases Hp2 with ⟨⟨HSR20, HSR22, HSR24⟩, HOH2⟩
  rw [wp_bind]
  iapply (part4 m ρ K c _ _ _ _ _ _ _ _)
  isplitr; · iexact HK
  isplitr; · iexact HL
  isplitl [HSK04]; · iexact HSK04
  isplitl [HLD04]; · iexact HLD04
  isplitl [HSR04]; · iexact HSR04
  isplitl [HSK10]; · iexact HSK10
  isplitl [HLD10]; · iexact HLD10
  isplitl [HSR10]; · iexact HSR10
  isplitl [HO]; · iexact HO
  iintro %r4 ⟨HSW04, HSW10, HO⟩
  rw [wp_bind]
  iapply (part5 m ρ K c _ _ _ _ _ _ _ _)
  isplitr; · iexact HK
  isplitr; · iexact HL
  isplitl [HSK12]; · iexact HSK12
  isplitl [HLD12]; · iexact HLD12
  isplitl [HSR12]; · iexact HSR12
  isplitl [HSK14]; · iexact HSK14
  isplitl [HLD14]; · iexact HLD14
  isplitl [HSR14]; · iexact HSR14
  isplitl [HO]; · iexact HO
  iintro %r5 ⟨HSW12, HSW14, HO⟩
  rcases r5 with ⟨w5, u5⟩
  dsimp only
  rw [wp_bind]
  iapply (part6 m ρ K c _ _ _ _ _ _ _ _ _ _)
  isplitr; · iexact HK
  isplitr; · iexact HL
  isplitl [HSK20]; · iexact HSK20
  isplitl [HLD20]; · iexact HLD20
  isplitl [HSR20]; · iexact HSR20
  isplitl [HSK22]; · iexact HSK22
  isplitl [HLD22]; · iexact HLD22
  isplitl [HSR22]; · iexact HSR22
  isplitl [HO]; · iexact HO
  iintro %r6 ⟨HSW20, HSW22, HO⟩
  rw [wp_bind]
  iapply (part7 m ρ K c _ _ _ _ _ _ _)
  isplitr; · iexact HK
  isplitr; · iexact HL
  isplitl [HSK24]; · iexact HSK24
  isplitl [HLD24]; · iexact HLD24
  isplitl [HSR24]; · iexact HSR24
  isplitl [HRK00]; · iexact HRK00
  isplitl [HSK01]; · iexact HSK01
  isplitl [HLD01]; · iexact HLD01
  isplitl [HO]; · iexact HO
  iintro %r7 ⟨HSW24, HZR00, HSW01, HO⟩
  rw [wp_bind]
  iapply (part8 m ρ K c _ _ _ _ _ _ _ _ _)
  isplitr; · iexact HK
  isplitr; · iexact HL
  isplitl [HRK02]; · iexact HRK02
  isplitl [HSK03]; · iexact HSK03
  isplitl [HLD03]; · iexact HLD03
  isplitl [HO]; · iexact HO
  iintro %r8 ⟨HZR02, HSW03, HO⟩
  rcases r8 with ⟨w8, u8⟩
  dsimp only
  rw [wp_bind]
  iapply (part9 m ρ K c _ _ _ _ _ _ _ _ _)
  isplitr; · iexact HK
  isplitr; · iexact HL
  isplitl [HRK04]; · iexact HRK04
  isplitl [HSK05]; · iexact HSK05
  isplitl [HLD05]; · iexact HLD05
  isplitl [HO]; · iexact HO
  iintro %r9 ⟨HZR04, HSW05, HO⟩
  rw [wp_bind]
  iapply (part10 m ρ K c _ _ _ _ _ _)
  isplitr; · iexact HK
  isplitr; · iexact HL
  isplitl [HRK10]; · iexact HRK10
  isplitl [HSK11]; · iexact HSK11
  isplitl [HLD11]; · iexact HLD11
  isplitl [HRK12]; · iexact HRK12
  isplitl [HO]; · iexact HO
  iintro %r10 ⟨HZR10, HSW11, HSR13, HZR12, HO⟩
  rcases r10 with ⟨w10, u10⟩
  dsimp only
  rw [wp_bind]
  iapply (part11 m ρ K c _ _ _ _ _ _ _ _ _)
  isplitr; · iexact HK
  isplitr; · iexact HL
  isplitl [HSK13]; · iexact HSK13
  isplitl [HLD13]; · iexact HLD13
  isplitl [HSR13]; · iexact HSR13
  isplitl [HRK14]; · iexact HRK14
  isplitl [HO]; · iexact HO
  iintro %r11 ⟨HSW13, HSR15, HZR14, HO⟩
  rw [wp_bind]
  iapply (part12 m ρ K c _ _ _ _ _ _ _)
  isplitr; · iexact HK
  isplitr; · iexact HL
  isplitl [HSK15]; · iexact HSK15
  isplitl [HLD15]; · iexact HLD15
  isplitl [HSR15]; · iexact HSR15
  isplitl [HRK20]; · iexact HRK20
  isplitl [HSK21]; · iexact HSK21
  isplitl [HLD21]; · iexact HLD21
  isplitl [HO]; · iexact HO
  iintro %r12 ⟨HSW15, HZR20, HSW21, HO⟩
  rw [wp_bind]
  iapply (part13 m ρ K c _ _ _ _ _ _ _ _)
  isplitr; · iexact HK
  isplitr; · iexact HL
  isplitl [HRK22]; · iexact HRK22
  isplitl [HSK23]; · iexact HSK23
  isplitl [HLD23]; · iexact HLD23
  isplitl [HO]; · iexact HO
  iintro %r13 ⟨HZR22, HSW23, HO⟩
  rcases r13 with ⟨w13, u13⟩
  dsimp only
  rw [wp_bind]
  iapply (part14 m ρ K c _ _ _ _ _ _ _ _)
  isplitr; · iexact HK
  isplitr; · iexact HL
  isplitl [HRK24]; · iexact HRK24
  isplitl [HSK25]; · iexact HSK25
  isplitl [HLD25]; · iexact HLD25
  isplitl [HRK01]; · iexact HRK01
  isplitl [HO]; · iexact HO
  iintro %r14 ⟨HZR24, HSW25, HGT01, HZR01, HO⟩
  rw [wp_bind]
  iapply (part15 m ρ K c _ _ _ _ _ _ _ _ _)
  isplitr; · iexact HK
  isplitr; · iexact HL
  isplitl [HRK03]; · iexact HRK03
  isplitl [HRK05]; · iexact HRK05
  isplitl [HO]; · iexact HO
  iintro %r15 ⟨HGT03, HZR03, HGT05, HZR05, HO⟩
  rw [wp_bind]
  iapply (part16 m ρ K c _ _ _ _ _ _ _ _)
  isplitr; · iexact HK
  isplitr; · iexact HL
  isplitl [HRK11]; · iexact HRK11
  isplitl [HRK13]; · iexact HRK13
  isplitl [HO]; · iexact HO
  iintro %r16 ⟨HGT11, HZR11, HGT13, HZR13, HO⟩
  rw [wp_bind]
  iapply (part17 m ρ K c _ _ _ _ _ _ _ _ _)
  isplitr; · iexact HK
  isplitr; · iexact HL
  isplitl [HRK15]; · iexact HRK15
  isplitl [HRK21]; · iexact HRK21
  isplitl [HO]; · iexact HO
  iintro %r17 ⟨HGT15, HZR15, HGT21, HZR21, HO⟩
  rw [wp_bind]
  iapply (part18 m ρ K c _ _ _ _ _ _ _ _ _)
  isplitr; · iexact HK
  isplitr; · iexact HL
  isplitl [HRK23]; · iexact HRK23
  isplitl [HRK25]; · iexact HRK25
  isplitl [HO]; · iexact HO
  iintro %r18 ⟨HGT23, HZR23, HGT25, HZR25, HO⟩
  rw [wp_bind]
  iapply (part19 m ρ K c _)
  isplitr; · iexact HK
  isplitr; · iexact HL
  isplitl [HSW00]; · iexact HSW00
  isplitl [HSW02]; · iexact HSW02
  isplitl [HSW04]; · iexact HSW04
  isplitl [HSW10]; · iexact HSW10
  isplitl [HSW12]; · iexact HSW12
  isplitl [HSW14]; · iexact HSW14
  isplitl [HO]; · iexact HO
  iintro %r19 ⟨HSR00, HZS00, HSR02, HZS02, HSR04, HZS04, HSR10, HZS10, HSR12, HZS12, HSR14, HZS14, HO⟩
  rw [wp_bind]
  iapply (part20 m ρ K c _)
  isplitr; · iexact HK
  isplitr; · iexact HL
  isplitl [HSW20]; · iexact HSW20
  isplitl [HSW22]; · iexact HSW22
  isplitl [HSW24]; · iexact HSW24
  isplitl [HSW01]; · iexact HSW01
  isplitl [HSW03]; · iexact HSW03
  isplitl [HSW05]; · iexact HSW05
  isplitl [HO]; · iexact HO
  iintro %r20 ⟨HSR20, HZS20, HSR22, HZS22, HSR24, HZS24, HSR01, HZS01, HSR03, HZS03, HSR05, HZS05, HO⟩
  simp only [Prog.lift, Prog.bind_op, Prog.bind_ret, Prog.pure_eq_ret]
  iapply (swait_w m ρ K 1 1 c rfl (amt_1 1).symm) $$ [HSW11 HO]
  · isplitr; · iexact HK
    isplitr; · iexact HL
    isplitl [HSW11]; · iexact HSW11
    iexact HO
  iintro ⟨HSR11, HZS11, HO⟩
  iapply (swait_w m ρ K 1 3 c rfl (amt_1 3).symm) $$ [HSW13 HO]
  · isplitr; · iexact HK
    isplitr; · iexact HL
    isplitl [HSW13]; · iexact HSW13
    iexact HO
  iintro ⟨HSR13, HZS13, HO⟩
  iapply (swait_w m ρ K 1 5 c rfl (amt_1 5).symm) $$ [HSW15 HO]
  · isplitr; · iexact HK
    isplitr; · iexact HL
    isplitl [HSW15]; · iexact HSW15
    iexact HO
  iintro ⟨HSR15, HZS15, HO⟩
  iapply (swait_w m ρ K 2 1 c rfl (amt_2 1).symm) $$ [HSW21 HO]
  · isplitr; · iexact HK
    isplitr; · iexact HL
    isplitl [HSW21]; · iexact HSW21
    iexact HO
  iintro ⟨HSR21, HZS21, HO⟩
  simp only [wp_ret]
  imodintro
  iapply (swait_w m ρ K 2 3 c rfl (amt_2 3).symm) $$ [HSW23 HO]
  · isplitr; · iexact HK
    isplitr; · iexact HL
    isplitl [HSW23]; · iexact HSW23
    iexact HO
  iintro ⟨HSR23, HZS23, HO⟩
  iapply (swait_w m ρ K 2 5 c rfl (amt_2 5).symm) $$ [HSW25 HO]
  · isplitr; · iexact HK
    isplitr; · iexact HL
    isplitl [HSW25]; · iexact HSW25
    iexact HO
  iintro ⟨HSR25, HZS25, HO⟩
  simp only [wp_ret]
  imodintro
  iapply Hk
  isplitl [Hx0 Hx1 Hx2]
  · isplitl [Hx0]; · iexact Hx0
    isplitl [Hx1]; · iexact Hx1
    iexact Hx2
  isplitl [HSR00 HSR02 HSR04 HOH0 HSR01 HGT01 HSR03 HGT03 HSR05 HGT05 HSR10 HSR12 HSR14 HOH1 HSR11 HGT11 HSR13 HGT13 HSR15 HGT15 HSR20 HSR22 HSR24 HOH2 HSR21 HGT21 HSR23 HGT23 HSR25 HGT25]
  · isplitl [HSR00 HSR02 HSR04 HOH0 HSR01 HGT01 HSR03 HGT03 HSR05 HGT05]
    · iapply (whole_out m ρ 0 c)
      isplitl [HSR00 HSR02 HSR04]
      · isplitl [HSR00]; · iexact HSR00
        isplitl [HSR02]; · iexact HSR02
        iexact HSR04
      isplitl [HOH0]; · iexact HOH0
      isplitl [HSR01]; · iexact HSR01
      isplitl [HGT01]; · iexact HGT01
      isplitl [HSR03]; · iexact HSR03
      isplitl [HGT03]; · iexact HGT03
      isplitl [HSR05]; · iexact HSR05
      iexact HGT05
    isplitl [HSR10 HSR12 HSR14 HOH1 HSR11 HGT11 HSR13 HGT13 HSR15 HGT15]
    · iapply (whole_out m ρ 1 c)
      isplitl [HSR10 HSR12 HSR14]
      · isplitl [HSR10]; · iexact HSR10
        isplitl [HSR12]; · iexact HSR12
        iexact HSR14
      isplitl [HOH1]; · iexact HOH1
      isplitl [HSR11]; · iexact HSR11
      isplitl [HGT11]; · iexact HGT11
      isplitl [HSR13]; · iexact HSR13
      isplitl [HGT13]; · iexact HGT13
      isplitl [HSR15]; · iexact HSR15
      iexact HGT15
    iapply (whole_out m ρ 2 c)
    isplitl [HSR20 HSR22 HSR24]
    · isplitl [HSR20]; · iexact HSR20
      isplitl [HSR22]; · iexact HSR22
      iexact HSR24
    isplitl [HOH2]; · iexact HOH2
    isplitl [HSR21]; · iexact HSR21
    isplitl [HGT21]; · iexact HGT21
    isplitl [HSR23]; · iexact HSR23
    isplitl [HGT23]; · iexact HGT23
    isplitl [HSR25]; · iexact HSR25
    iexact HGT25
  isplitl [Hz]; · iexact Hz
  isplitl [HZS00 HZS01 HZS02 HZS03 HZS04 HZS05 HZR00 HZR01 HZR02 HZR03 HZR04 HZR05 HZS10 HZS11 HZS12 HZS13 HZS14 HZS15 HZR10 HZR11 HZR12 HZR13 HZR14 HZR15 HZS20 HZS21 HZS22 HZS23 HZS24 HZS25 HZR20 HZR21 HZR22 HZR23 HZR24 HZR25]
  · isplitl [HZS00 HZS01 HZS02 HZS03 HZS04 HZS05 HZR00 HZR01 HZR02 HZR03 HZR04 HZR05]
    · unfold closed6
      isplitl [HZS00 HZS01 HZS02 HZS03 HZS04 HZS05]
      · isplitl [HZS00]; · iexact HZS00
        isplitl [HZS01]; · iexact HZS01
        isplitl [HZS02]; · iexact HZS02
        isplitl [HZS03]; · iexact HZS03
        isplitl [HZS04]; · iexact HZS04
        iexact HZS05
      isplitl [HZR00]; · iexact HZR00
      isplitl [HZR01]; · iexact HZR01
      isplitl [HZR02]; · iexact HZR02
      isplitl [HZR03]; · iexact HZR03
      isplitl [HZR04]; · iexact HZR04
      iexact HZR05
    isplitl [HZS10 HZS11 HZS12 HZS13 HZS14 HZS15 HZR10 HZR11 HZR12 HZR13 HZR14 HZR15]
    · unfold closed6
      isplitl [HZS10 HZS11 HZS12 HZS13 HZS14 HZS15]
      · isplitl [HZS10]; · iexact HZS10
        isplitl [HZS11]; · iexact HZS11
        isplitl [HZS12]; · iexact HZS12
        isplitl [HZS13]; · iexact HZS13
        isplitl [HZS14]; · iexact HZS14
        iexact HZS15
      isplitl [HZR10]; · iexact HZR10
      isplitl [HZR11]; · iexact HZR11
      isplitl [HZR12]; · iexact HZR12
      isplitl [HZR13]; · iexact HZR13
      isplitl [HZR14]; · iexact HZR14
      iexact HZR15
    unfold closed6
    isplitl [HZS20 HZS21 HZS22 HZS23 HZS24 HZS25]
    · isplitl [HZS20]; · iexact HZS20
      isplitl [HZS21]; · iexact HZS21
      isplitl [HZS22]; · iexact HZS22
      isplitl [HZS23]; · iexact HZS23
      isplitl [HZS24]; · iexact HZS24
      iexact HZS25
    isplitl [HZR20]; · iexact HZR20
    isplitl [HZR21]; · iexact HZR21
    isplitl [HZR22]; · iexact HZR22
    isplitl [HZR23]; · iexact HZR23
    isplitl [HZR24]; · iexact HZR24
    iexact HZR25
  iexact HO

end Cert.GatherProof

end
-- ==== Proof.Gather.Launch.lean ====
/-
The launch of the weight gather: the cells and tokens dealt to the devices, and the run of the whole program.
-/
module

public import proofs.«01_k».proof.Proof.Gather.Body
public import Idealize.ShloMosaic.Lib.Pipeline.CollectiveSegs
public import Idealize.ShloMosaic.Lib.Pipeline.Kit

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev KIx : Type := Fin 3 × Fin 6

/-! ## Sums over the cells -/

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_bool (Φ : Bool → sProp 𝕄) : bigSep Finset.univ Φ = iprop(Φ false ∗ Φ true) := bigSep_univ_eq_bigSepL [false, true] (by decide) (by decide) Φ
omit [FloatOps F] in
/-- Array by array, copy by copy. -/
theorem bigSep_kix (Φ : KIx → sProp 𝕄) : bigSep Finset.univ Φ
    = iprop((Φ (0, 0) ∗ Φ (0, 1) ∗ Φ (0, 2) ∗ Φ (0, 3) ∗ Φ (0, 4) ∗ Φ (0, 5)) ∗ (Φ (1, 0) ∗ Φ (1, 1) ∗ Φ (1, 2) ∗ Φ (1, 3) ∗ Φ (1, 4) ∗ Φ (1, 5)) ∗ (Φ (2, 0) ∗ Φ (2, 1) ∗ Φ (2, 2) ∗ Φ (2, 3) ∗ Φ (2, 4) ∗ Φ (2, 5))) := by
  rw [bigSep_univ_prod, bigSep_fin3, bigSep_fin6, bigSep_fin6, bigSep_fin6]
omit [FloatOps F] in
/-- The kernel's own semaphores: the send cells, then the receive cells. -/
theorem bigSep_own (Φ : Bool × KIx → sProp 𝕄) : bigSep Finset.univ Φ
    = iprop((bigSep Finset.univ fun k => Φ (false, k)) ∗ bigSep Finset.univ fun k => Φ (true, k)) := by
  rw [bigSep_univ_prod, bigSep_bool]
omit [FloatOps F] in
/-- The handshake's cell, then the kernel's own. -/
theorem bigSep_cix (Φ : CIx → sProp 𝕄) : bigSep Finset.univ Φ = iprop(Φ none ∗ bigSep Finset.univ fun k => Φ (some k)) := by
  rw [bigSep_univ_at Φ none, show (Finset.univ : Finset CIx).erase none = Finset.univ.map Function.Embedding.some from by
    ext x; cases x <;> simp, bigSep_map]
  rfl

omit [FloatOps F] in
theorem bigSep_comm {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` holds of the protocol before its body. -/
def ghost (K : Dev nD × CIx → ℕ) (c : Dev nD) : sProp 𝕄 :=
  iprop(recs m ρ K ∗ (dutyTok ER (barCell (sib c)) 0 0 ∗ dutyTok ER (barCell (xn c)) 0 1 ∗ dutyTok ER (barCell (yn c)) 0 2 ∗ dutyTok ER (barCell (dn c)) 0 3)
    ∗ atPos ER (barCell c) 0 ∅ 0 ∗ (bigSep Finset.univ fun k : KIx => SK k c) ∗ bigSep Finset.univ fun k : KIx => atPos ER (recvCell c k) 0 ∅ 0)

def start (c : Dev nD) : sProp 𝕄 :=
  iprop((∃ K, ghost m ρ K c) ∗ cred (tallyAt (barCell c) () 4) ∗ (bigSep Finset.univ fun k : KIx => cred (tallyAt (recvCell c k) () (amt k))) ∗ levAts L lv)

/-- After the body every cell is closed. -/
def Φ₁ (c : Dev nD) : sProp 𝕄 :=
  iprop(semVal (barCell c) 0 ∗ (bigSep Finset.univ fun k : KIx => ZS (F := F) k c) ∗ bigSep Finset.univ fun k : KIx => ZR (F := F) k c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => x0 m ρ c
    | ⟨1, _⟩ => x1 m ρ c
    | ⟨2, _⟩ => x2 m ρ c
    | ⟨3, _⟩ => outAt m ρ 0 c
    | ⟨4, _⟩ => outAt m ρ 1 c
    | ⟨5, _⟩ => outAt m ρ 2 c
  Φ t := match t with
    | ⟨0, _⟩ => start m ρ c
    | ⟨_ + 1, _⟩ => Φ₁ (F := F) c
  q _ := fullShare
  owed t := match t with
    | ⟨0, _⟩ => O₀ c
    | ⟨_ + 1, _⟩ => 0

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

theorem before_0 (c : Dev nD) (d) : (dats m ρ 0 c).before (0 : Fin 6) t₀ d = x0 m ρ c := by
  unfold Dat.before; rw [if_pos (show (cfg0.win (0 : Fin 6)).fetch t₀ = true from rfl)]; rfl
theorem before_1 (c : Dev nD) (d) : (dats m ρ 0 c).before (1 : Fin 6) t₀ d = x1 m ρ c := by
  unfold Dat.before; rw [if_pos (show (cfg0.win (1 : Fin 6)).fetch t₀ = true from rfl)]; rfl
theorem before_2 (c : Dev nD) (d) : (dats m ρ 0 c).before (2 : Fin 6) t₀ d = x2 m ρ c := by
  unfold Dat.before; rw [if_pos (show (cfg0.win (2 : Fin 6)).fetch t₀ = true from rfl)]; rfl

def bodyPre (c : Dev nD) : sProp 𝕄 :=
  iprop(start m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (x0 m ρ c) ∗ stg c cc0_stg1_0 (x1 m ρ c) ∗ stg c cc0_stg2_0 (x2 m ρ c)
    ∗ stg c cc0_stg3_0 (outAt m ρ 0 c) ∗ stg c cc0_stg4_0 (outAt m ρ 1 c) ∗ stg c cc0_stg5_0 (outAt m ρ 2 c))

/-- An output's staging buffer, whatever it holds: the chip's own rows, and the rows the neighbours fill. -/
theorem open_out (a : Fin 3) (c : Dev nD) (f : (ob a).ty.Contents (Elt F)) :
    (((c : Thread nD τ).loc (ob a)) ↦{fullShare} f : sProp 𝕄)
      ⊢ iprop(pts (F := F) a c fullShare (ch c) 2 f ∗ (inl (F := F) a 1 c ∗ inl (F := F) a 3 c ∗ inl (F := F) a 5 c)
        ∗ inl (F := F) a 0 c ∗ inl (F := F) a 2 c ∗ inl (F := F) a 4 c) := by
  iintro H
  ihave H := (whole_pieces (F := F) a c f).1 $$ H
  unfold pieces
  icases H with ⟨H, H0, H1, H2, H3, H4, H5⟩
  unfold inl
  isplitl [H]; · iexact H
  isplitl [H1 H3 H5]
  · isplitl [H1]; · iexists f; iexact H1
    isplitl [H3]; · iexists f; iexact H3
    iexists f; iexact H5
  isplitl [H0]; · iexists f; iexact H0
  isplitl [H2]; · iexists f; iexact H2
  iexists f; iexact H4

omit [FloatOps F] in
theorem waits_eq (c : Dev nD) :
    iprop((bigSep Finset.univ fun k : KIx => atPos ER (recvCell c k) 0 ∅ 0) ∗ (bigSep Finset.univ fun k : KIx => cred (tallyAt (recvCell c k) () (amt k))))
      = iprop(waits6 (F := F) 0 c ∗ waits6 (F := F) 1 c ∗ waits6 (F := F) 2 c) := by
  rw [← bigSep_sep', bigSep_kix]; rfl
omit [FloatOps F] in
theorem duties_eq (c : Dev nD) : (bigSep Finset.univ fun k : KIx => SK (F := F) k c)
      = iprop(duties6 (F := F) 0 c ∗ duties6 (F := F) 1 c ∗ duties6 (F := F) 2 c) := bigSep_kix _
omit [FloatOps F] in
theorem closed_eq (c : Dev nD) : iprop(closed6 (F := F) 0 c ∗ closed6 (F := F) 1 c ∗ closed6 (F := F) 2 c)
      ⊢ iprop((bigSep Finset.univ fun k : KIx => ZS (F := F) k c) ∗ bigSep Finset.univ fun k : KIx => ZR (F := F) k c) := by
  rw [bigSep_kix, bigSep_kix]; unfold closed6
  iintro ⟨⟨A0, B0⟩, ⟨A1, B1⟩, A2, B2⟩
  isplitl [A0 A1 A2]
  · isplitl [A0]; · iexact A0
    isplitl [A1]; · iexact A1
    iexact A2
  isplitl [B0]; · iexact B0
  isplitl [B1]; · iexact B1
  iexact B2

theorem body_obligation' (c : Dev nD) :
    bodyPre m ρ c ⊢ wp frame (wpE (defs₀ (F := F)) 𝒱₀ (c : Thread nD τ) none) Set.univ
      (cc0_gather_weights (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        cc0_scratch0 cc0_scratch1) (fun _ => bodyPost m ρ c) := by
  unfold bodyPre start ghost
  iintro ⟨⟨⟨%K, #HK, Ht, Hba, HS, HR⟩, Hbc, HC, #HL⟩, Ho, ⟨%d0, %g0, %hg0, Hx0⟩, ⟨%d1, %g1, %hg1, Hx1⟩, ⟨%d2, %g2, %hg2, Hx2⟩, ⟨%d3, %g3, %hg3, Hp0⟩, ⟨%d4, %g4, %hg4, Hp1⟩, ⟨%d5, %g5, %hg5, Hp2⟩⟩
  rw [before_0] at hg0; subst hg0
  rw [before_1] at hg1; subst hg1
  rw [before_2] at hg2; subst hg2
  unfold Dat.owesAt Pipeline.owesWithin
  icases Ho with ⟨%W, %hW, HO⟩
  rw [show (dats m ρ 0 c).owed t₀.castSucc = O₀ c from rfl]
  ihave Hp0 := (open_out (F := F) 0 c g3) $$ Hp0
  ihave Hp1 := (open_out (F := F) 1 c g4) $$ Hp1
  ihave Hp2 := (open_out (F := F) 2 c g5) $$ Hp2
  icases Hp0 with ⟨Hp0, Hs0, Hxi0, Hyi0, Hdi0⟩
  icases Hp1 with ⟨Hp1, Hs1, Hxi1, Hyi1, Hdi1⟩
  icases Hp2 with ⟨Hp2, Hs2, Hxi2, Hyi2, Hdi2⟩
  ihave HS := (Entails.of_eq (duties_eq (F := F) c)) $$ HS
  ihave HW := (Entails.of_eq (waits_eq (F := F) c)) $$ [HR HC]
  · isplitl [HR]; · iexact HR
    iexact HC
  iapply (body m ρ K c W g3 g4 g5 _)
  isplitr; · iexact HK
  isplitr; · iexact HL
  isplitl [HO]; · iexact HO
  isplitl [Ht]; · iexact Ht
  isplitl [Hs0 Hs1 Hs2 Hxi0 Hxi1 Hxi2 Hyi0 Hyi1 Hyi2 Hdi0 Hdi1 Hdi2]
  · unfold sibIn farIn
    isplitl [Hs0 Hs1 Hs2]
    · isplitl [Hs0]; · iexact Hs0
      isplitl [Hs1]; · iexact Hs1
      iexact Hs2
    isplitl [Hxi0 Hxi1 Hxi2]
    · isplitl [Hxi0]; · iexact Hxi0
      isplitl [Hxi1]; · iexact Hxi1
      iexact Hxi2
    isplitl [Hyi0 Hyi1 Hyi2]
    · isplitl [Hyi0]; · iexact Hyi0
      isplitl [Hyi1]; · iexact Hyi1
      iexact Hyi2
    isplitl [Hdi0]; · iexact Hdi0
    isplitl [Hdi1]; · iexact Hdi1
    iexact Hdi2
  isplitl [Hbc Hba]
  · isplitl [Hbc]; · iexact Hbc
    iexact Hba
  isplitl [Hx0 Hx1 Hx2]
  · isplitl [Hx0]; · iexact Hx0
    isplitl [Hx1]; · iexact Hx1
    iexact Hx2
  isplitl [Hp0 Hp1 Hp2]
  · isplitl [Hp0]; · iexact Hp0
    isplitl [Hp1]; · iexact Hp1
    iexact Hp2
  isplitl [HS]; · iexact HS
  isplitl [HW]; · iexact HW
  iintro ⟨⟨Hx0, Hx1, Hx2⟩, ⟨Hp0, Hp1, Hp2⟩, Hz, Hcl, HO⟩
  unfold bodyPost Φ₁ Dat.owesAt Pipeline.owesWithin OW
  rw [show (dats m ρ 0 c).owed t₀.succ = 0 from rfl]
  isplitl [Hz Hcl]
  · isplitl [Hz]; · iexact Hz
    iapply (closed_eq (F := F) c); iexact Hcl
  isplitl [HO]
  · icases HO with ⟨%W', HO⟩
    iexists W'
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hp0]
  · iexists (outAt m ρ 0 c); isplitr; · (ipureintro; rfl)
    iexact Hp0
  isplitl [Hp1]
  · iexists (outAt m ρ 1 c); isplitr; · (ipureintro; rfl)
    iexact Hp1
  iexists (outAt m ρ 2 c); isplitr; · (ipureintro; rfl)
  iexact Hp2

set_option maxRecDepth 65536 in
set_option maxHeartbeats 1000000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_obligation' m ρ c

/-! ## The launch -/

theorem osem_eq (x : Bool × KIx) : ∃ q : DmaSem sig, osem x = .dma q ∧ sideOf q = some x := by
  rcases x with ⟨b, k⟩
  cases b
  · exact ⟨_, rfl, sideOf_send k⟩
  · exact ⟨_, rfl, sideOf_recv k⟩
theorem stage_side (w : Fin cfg0.W) (s : Fin (cfg0.spec w).nbuf) : sideOf ((cfg0.spec w).sem s) = none := by
  fin_cases w <;> fin_cases s <;> decide
theorem ownSemFacts : Pipeline.OwnSemFacts cfg0.spec osem where
  isScoped := by rintro ⟨b, k⟩; cases b <;> revert k <;> decide
  inj := fun x y h => by
    obtain ⟨q, hq, hx⟩ := osem_eq x
    obtain ⟨q', hq', hy⟩ := osem_eq y
    have e : q = q' := SemLoc.dma.inj (hq.symm.trans (h.trans hq'))
    exact Option.some.inj (hx.symm.trans ((congrArg sideOf e).trans hy))
  disj := fun x w s h => by
    obtain ⟨q, hq, hx⟩ := osem_eq x
    have e : q = (cfg0.spec w).sem s := SemLoc.dma.inj (hq.symm.trans h)
    rw [e, stage_side w s] at hx
    cases hx

theorem share_eq (c : Dev nD) (w : Fin cfg0.W) : (dats m ρ 0 c).share w = fullShare := by unfold Dat.share; split <;> rfl

theorem csem_injective : Function.Injective csem := by
  rintro (_ | ⟨b, k⟩) (_ | ⟨b', k'⟩) h
  · rfl
  · cases b' <;> cases h
  · cases b <;> cases h
  · exact congrArg some (ownSemFacts.inj h)
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl
def allCells : Finset (GSem nD τ sig) := Finset.univ.map ⟨kcell, kcell_injective⟩

/-- Every duty's token, of every cell (more than the protocol uses). -/
abbrev tokOf (x : Dev nD × CIx × Fin 4) : GSem nD τ sig × ℕ × Fin 4 := (kcell (x.1, x.2.1), 0, x.2.2)
theorem tokOf_injective : Function.Injective (tokOf : Dev nD × CIx × Fin 4 → GSem nD τ sig × ℕ × Fin 4) := by
  rintro ⟨c, k, d⟩ ⟨c', k', d'⟩ h
  have h1 : (c, k) = (c', k') := kcell_injective (congrArg Prod.fst h)
  have h2 : d = d' := congrArg (fun x : GSem nD τ sig × ℕ × Fin 4 => x.2.2) h
  cases h1; subst h2; rfl
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun k : CIx => bigSep Finset.univ fun d : Fin 4 => dutyTok ER (kcell (c, k)) 0 d

def G (c : Dev nD) : sProp 𝕄 :=
  iprop((bigSep Finset.univ fun k : CIx => roundState ER (Rd m ρ) (kcell (c, k)) 0)
    ∗ (bigSep Finset.univ fun k : CIx => iprop(atPos ER (kcell (c, k)) 0 ∅ 0 ∗ reached ER (kcell (c, k)) 0)) ∗ toks (F := F) c)
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : KIx => ZS (F := F) k c) ∗ bigSep Finset.univ fun k : KIx => ZR (F := F) k c) := by
  unfold Pipeline.ownSems0; rw [bigSep_own]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_cix]; unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv ER (Rd m ρ) κ (kcell (c, k))))
          ∗ (bigSep Finset.univ fun k : CIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m ρ) (kcell (c, k)) 0)
      ⊢ (|={Set.univ}=> bigSep Finset.univ fun k : CIx => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of a device's cells that the protocol uses. -/
def used (c : Dev nD) : sProp 𝕄 :=
  iprop((dutyTok ER (barCell c) 0 0 ∗ dutyTok ER (barCell c) 0 1 ∗ dutyTok ER (barCell c) 0 2 ∗ dutyTok ER (barCell c) 0 3)
    ∗ (bigSep Finset.univ fun k : KIx => dutyTok ER (sendCell c k) 0 0) ∗ bigSep Finset.univ fun k : KIx => dutyTok ER (recvCell c k) 0 0)
/-- The tokens of the duties a device pays. -/
def payToks (c : Dev nD) : sProp 𝕄 :=
  iprop((dutyTok ER (barCell (sib c)) 0 0 ∗ dutyTok ER (barCell (xn c)) 0 1 ∗ dutyTok ER (barCell (yn c)) 0 2 ∗ dutyTok ER (barCell (dn c)) 0 3)
    ∗ (bigSep Finset.univ fun k : KIx => dutyTok ER (sendCell c k) 0 0) ∗ bigSep Finset.univ fun k : KIx => dutyTok ER (recvCell (peer k.2 c) k) 0 0)

omit [FloatOps F] in
theorem toks_used (c : Dev nD) : toks (F := F) c ⊢ used c := by
  unfold toks used
  rw [bigSep_cix, bigSep_own, bigSep_fin4]
  refine BI.sep_mono (BI.Entails.refl _) (BI.sep_mono ?_ ?_)
  · exact bigSep_mono fun k _ => bigSep_elim (Finset.mem_univ (0 : Fin 4))
  · exact bigSep_mono fun k _ => bigSep_elim (Finset.mem_univ (0 : Fin 4))

/-- A neighbour's relation as a permutation of the devices. -/
def invol (f : Dev nD → Dev nD) (h : ∀ c, f (f c) = c) : Dev nD ≃ Dev nD := ⟨f, f, h, h⟩

omit [FloatOps F] in
theorem toks_around : (bigSep Finset.univ fun c : Dev nD => (used c : sProp 𝕄)) ⊢ bigSep Finset.univ fun c : Dev nD => payToks c := by
  have hR : (bigSep Finset.univ fun c : Dev nD => bigSep Finset.univ fun k : KIx => (dutyTok ER (recvCell c k) 0 0 : sProp 𝕄))
      = bigSep Finset.univ fun c : Dev nD => bigSep Finset.univ fun k : KIx => (dutyTok ER (recvCell (peer k.2 c) k) 0 0 : sProp 𝕄) := by
    rw [bigSep_comm, bigSep_comm (fun (c : Dev nD) (k : KIx) => (dutyTok ER (recvCell (peer k.2 c) k) 0 0 : sProp 𝕄))]
    exact bigSep_congr fun k _ => bigSep_univ_equiv (invol (peer k.2) (peer_peer k.2)) (fun c : Dev nD => (dutyTok ER (recvCell c k) 0 0 : sProp 𝕄))
  unfold used payToks
  simp only [bigSep_sep']
  rw [hR, bigSep_univ_equiv (invol sib sib_sib) (fun c : Dev nD => (dutyTok ER (barCell c) 0 0 : sProp 𝕄)),
    bigSep_univ_equiv (invol xn xn_xn) (fun c : Dev nD => (dutyTok ER (barCell c) 0 1 : sProp 𝕄)),
    bigSep_univ_equiv (invol yn yn_yn) (fun c : Dev nD => (dutyTok ER (barCell c) 0 2 : sProp 𝕄)),
    bigSep_univ_equiv (invol dn dn_dn) (fun c : Dev nD => (dutyTok ER (barCell c) 0 3 : sProp 𝕄))]
  exact BI.Entails.refl _

def linear (c : Dev nD) : sProp 𝕄 := iprop((bigSep Finset.univ fun k : CIx => atPos ER (kcell (c, k)) 0 ∅ 0) ∗ payToks (F := F) c)

theorem ghost_intro (K : Dev nD × CIx → ℕ) (c : Dev nD) : iprop(recs m ρ K ∗ linear (F := F) c) ⊢ G' m ρ c := by
  unfold linear payToks G' ghost SK
  rw [bigSep_cix, bigSep_own]
  simp only [bigSep_sep']
  iintro ⟨#HR, ⟨HaB, HaS, HaV⟩, HtB, HtS, HtV⟩
  iexists K
  isplitr; · iexact HR
  isplitl [HtB]; · iexact HtB
  isplitl [HaB]; · iexact HaB
  isplitl [HtS HtV HaS]
  · isplitl [HtS]; · iexact HtS
    isplitl [HtV]; · iexact HtV
    iexact HaS
  iexact HaV

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CIx => iprop(∃ κ : ℕ, cellInv ER (Rd m ρ) κ (kcell (c, k))))
          ∗ (bigSep Finset.univ fun k : CIx => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CIx => iprop(∃ κ : ℕ, cellInv ER (Rd m ρ) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m ρ) κ (kcell ck) : sProp 𝕄))) $$ HI
  icases HK with ⟨%K, #HI⟩
  ihave Htk := (show (bigSep Finset.univ fun c : Dev nD => (toks c : sProp 𝕄)) ⊢ bigSep Finset.univ fun c : Dev nD => payToks c from
    (bigSep_mono fun c _ => toks_used (F := F) c).trans (toks_around (F := F))) $$ Htok
  iapply (bigSep_with_persistent (R := recs m ρ K) fun c _ => ghost_intro m ρ K c)
  isplitr
  · unfold recs
    rw [bigSep_sep']
    isplitl; · iexact HI
    iexact HR
  · iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

theorem glob_step : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- A unit owed to every device's cell by one device each is that cell's credit at the launch. -/
theorem launch_one (f : Dev nD → Dev nD) (h : ∀ c, f (f c) = c) (sm : SemLoc sig) (n : ℕ) (c : Dev nD) :
    (Pipeline.launchCred (fun d => tallyAt ((f d : Thread nD τ), sm) () n) c : sProp 𝕄) ⊢ cred (tallyAt ((c : Thread nD τ), sm) () n) := by
  refine (Pipeline.launchCred_elim _ c sm).trans (Entails.of_eq (congrArg cred ?_))
  unfold tallyAt; refine congrArg _ (Finsupp.ext fun u => ?_); cases u
  rw [Pipeline.launchCredit_owing, Finsupp.single_eq_same, Finset.sum_eq_single (f c)]
  · show tallyAt ((f (f c) : Thread nD τ), sm) () n ((c : Thread nD τ), sm) () = n
    rw [h, tallyAt_apply, if_pos ⟨rfl, rfl⟩]
  · intro d _ hd
    show tallyAt ((f d : Thread nD τ), sm) () n ((c : Thread nD τ), sm) () = 0
    rw [tallyAt_apply, if_neg]
    rintro ⟨e, -⟩
    have e' : c = f d := congrArg (fun g : GSem nD τ sig => g.1.1) e
    exact hd (by rw [e', h])
  · intro hn; exact absurd (Finset.mem_univ _) hn

omit [FloatOps F] in
theorem launch_owe (c : Dev nD) : ∀ l : List KIx, l.Nodup →
    ((Pipeline.launchCred (fun d => owe d l) c : sProp 𝕄) ⊢ bigSep l.toFinset fun k : KIx => cred (tallyAt (recvCell c k) () (amt k)))
  | [], _ => by rw [List.toFinset_nil, bigSep_empty]; iintro -; iempintro
  | k :: l, hl => by
    rw [List.toFinset_cons, show (bigSep (insert k l.toFinset) fun k : KIx => (cred (tallyAt (recvCell c k) () (amt k)) : sProp 𝕄))
        = iprop(cred (tallyAt (recvCell c k) () (amt k)) ∗ bigSep l.toFinset fun k : KIx => cred (tallyAt (recvCell c k) () (amt k)))
      from bigSep_insert (by rw [List.mem_toFinset]; exact (List.nodup_cons.mp hl).1)]
    show (Pipeline.launchCred (fun d => owe d l + tallyAt (recvCell (peer k.2 d) k) () (amt k)) c : sProp 𝕄) ⊢ _
    rw [Pipeline.launchCred_add (fun d => owe d l)]
    iintro ⟨H1, H2⟩
    isplitl [H2]
    · iapply (launch_one (F := F) (peer k.2) (peer_peer k.2) (.dma (recvS k)) (amt k) c); iexact H2
    · iapply (launch_owe c l (List.nodup_cons.mp hl).2); iexact H1

omit [FloatOps F] in
theorem creds (c : Dev nD) :
    (Pipeline.launchCred O₀ c : sProp 𝕄)
      ⊢ iprop(cred (tallyAt (barCell c) () 4) ∗ bigSep Finset.univ fun k : KIx => cred (tallyAt (recvCell c k) () (amt k))) := by
  show (Pipeline.launchCred (fun d => O₁ d + tallyAt (barCell (sib d)) () 1) c : sProp 𝕄) ⊢ _
  rw [Pipeline.launchCred_add O₁]
  show iprop(Pipeline.launchCred (fun d => O₂ d + tallyAt (barCell (xn d)) () 1) c ∗ _) ⊢ _
  rw [Pipeline.launchCred_add O₂]
  show iprop((Pipeline.launchCred (fun d => O₃ d + tallyAt (barCell (yn d)) () 1) c ∗ _) ∗ _) ⊢ _
  rw [Pipeline.launchCred_add O₃]
  show iprop(((Pipeline.launchCred (fun d => owe d allK + tallyAt (barCell (dn d)) () 1) c ∗ _) ∗ _) ∗ _) ⊢ _
  rw [Pipeline.launchCred_add (fun d => owe d allK)]
  iintro ⟨⟨⟨⟨HK, Hd⟩, Hy⟩, Hx⟩, Hs⟩
  ihave Hd := (launch_one (F := F) dn dn_dn (.reg barS) 1 c) $$ Hd
  ihave Hy := (launch_one (F := F) yn yn_yn (.reg barS) 1 c) $$ Hy
  ihave Hx := (launch_one (F := F) xn xn_xn (.reg barS) 1 c) $$ Hx
  ihave Hs := (launch_one (F := F) sib sib_sib (.reg barS) 1 c) $$ Hs
  ihave HK := (launch_owe (F := F) c allK (by decide)) $$ HK
  isplitl [Hd Hy Hx Hs]
  · rw [show (tallyAt (barCell c) () 4 : CellTallies nD τ sig Unit)
        = tallyAt (barCell c) () 1 + (tallyAt (barCell c) () 1 + (tallyAt (barCell c) () 1 + tallyAt (barCell c) () 1)) from by
      rw [tallyAt_add, tallyAt_add, tallyAt_add]]
    iapply (cred_add _ _).2
    isplitl [Hd]; · iexact Hd
    iapply (cred_add _ _).2
    isplitl [Hy]; · iexact Hy
    iapply (cred_add _ _).2
    isplitl [Hx]; · iexact Hx
    iexact Hs
  · rw [show (Finset.univ : Finset KIx) = allK.toFinset by decide]
    iexact HK

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁
  iintro ⟨HzB, HzS, HzV⟩
  isplitl [HzB]; · iexact HzB
  isplitl [HzS HzV]
  · isplitl [HzS]; · iexact HzS
    iexact HzV
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory: every weakly fair execution ends, with every device's arrays at the computed
    contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob_step m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GatherProof

end
-- ==== Proof.Gather.Value.lean ====
/-
  What the weight gather leaves: on every device the three whole weights, each element cast to bf16.
-/
module

public import proofs.«01_k».proof.Proof.Gather.Launch
public import proofs.«01_k».proof.Proof.Gen.GatherIdeal.Points
public import Idealize.ShloMosaic.Lib.Layout
public import Idealize.ShloMosaic.Lib.Pointwise

@[expose] public section

noncomputable section

namespace Cert.GatherProof

open Cert.GatherIdeal Cert.GatherIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## The arrays after the run -/

theorem final_0 (c : Dev nD) : finalA m ρ c (0 : Fin 6) = m ((c : Thread nD τ).loc main_arg0) := (dats m ρ 0 c).arrAt_in (0 : Fin 6) rfl _
theorem final_1 (c : Dev nD) : finalA m ρ c (1 : Fin 6) = m ((c : Thread nD τ).loc main_arg1) := (dats m ρ 0 c).arrAt_in (1 : Fin 6) rfl _
theorem final_2 (c : Dev nD) : finalA m ρ c (2 : Fin 6) = m ((c : Thread nD τ).loc main_arg2) := (dats m ρ 0 c).arrAt_in (2 : Fin 6) rfl _

omit [FloatOps F] in
theorem idx_facts : ∀ t : Fin cfg0.N,
    win0_0.index t (0 : Fin 2) = 0 ∧ win0_0.index t (1 : Fin 2) = 0 ∧ win0_1.index t (0 : Fin 2) = 0
    ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0
    ∧ win0_4.index t (1 : Fin 2) = 0 ∧ win0_5.index t (0 : Fin 2) = 0 ∧ win0_5.index t (1 : Fin 2) = 0 :=
  (by decide +kernel : ∀ t : Fin grid0.N, _)

/-- The one block of each argument is the whole of it. -/
theorem x0_eq (d : Dev nD) : x0 m ρ d = m ((d : Thread nD τ).loc main_arg0) := by
  obtain ⟨e0, e1, -⟩ := idx_facts (0 : Fin 1)
  funext i
  show m ((d : Thread nD τ).loc main_arg0) ((win0_0.blk (0 : Fin 1)).view.emb i) = _
  congr 1; funext a; apply Fin.ext
  match a with
  | ⟨0, _⟩ => show win0_0.index (0 : Fin 1) (0 : Fin 2) * 832 + 1 * ((i : S832x1024.Idx) 0).val = ((i : S832x1024.Idx) 0).val; omega
  | ⟨1, _⟩ => show win0_0.index (0 : Fin 1) (1 : Fin 2) * 1024 + 1 * ((i : S832x1024.Idx) 1).val = ((i : S832x1024.Idx) 1).val; omega
theorem x1_eq (d : Dev nD) : x1 m ρ d = m ((d : Thread nD τ).loc main_arg1) := by
  obtain ⟨-, -, e0, e1, -⟩ := idx_facts (0 : Fin 1)
  funext i
  show m ((d : Thread nD τ).loc main_arg1) ((win0_1.blk (0 : Fin 1)).view.emb i) = _
  congr 1; funext a; apply Fin.ext
  match a with
  | ⟨0, _⟩ => show win0_1.index (0 : Fin 1) (0 : Fin 2) * 256 + 1 * ((i : S256x512.Idx) 0).val = ((i : S256x512.Idx) 0).val; omega
  | ⟨1, _⟩ => show win0_1.index (0 : Fin 1) (1 : Fin 2) * 512 + 1 * ((i : S256x512.Idx) 1).val = ((i : S256x512.Idx) 1).val; omega
theorem x2_eq (d : Dev nD) : x2 m ρ d = m ((d : Thread nD τ).loc main_arg2) := by
  obtain ⟨-, -, -, -, e0, e1, -⟩ := idx_facts (0 : Fin 1)
  funext i
  show m ((d : Thread nD τ).loc main_arg2) ((win0_2.blk (0 : Fin 1)).view.emb i) = _
  congr 1; funext a; apply Fin.ext
  match a with
  | ⟨0, _⟩ => show win0_2.index (0 : Fin 1) (0 : Fin 2) * 256 + 1 * ((i : S256x1024.Idx) 0).val = ((i : S256x1024.Idx) 0).val; omega
  | ⟨1, _⟩ => show win0_2.index (0 : Fin 1) (1 : Fin 2) * 1024 + 1 * ((i : S256x1024.Idx) 1).val = ((i : S256x1024.Idx) 1).val; omega

/-- The one block of each result is the whole of it, so the array ends with what the body left in its buffer. -/
theorem final_3 (c : Dev nD) : finalA m ρ c (3 : Fin 6) = outAt m ρ 0 c := by
  refine (dats m ρ 0 c).arrAt_eq_of_cover (3 : Fin 6) (outAt m ρ 0 c) (fun t _ => ?_) fun i => ⟨(0 : Fin 1), flush0_3 _, ?_⟩
  · obtain ⟨-, -, -, -, -, -, e0, e1, -⟩ := idx_facts t
    funext i
    show outAt m ρ 0 c i = outAt m ρ 0 c ((win0_3.blk t).view.emb i)
    congr 1; funext a; apply Fin.ext
    match a with
    | ⟨0, _⟩ => show ((i : S3328x1024.Idx) 0).val = win0_3.index t (0 : Fin 2) * 3328 + 1 * ((i : S3328x1024.Idx) 0).val; omega
    | ⟨1, _⟩ => show ((i : S3328x1024.Idx) 1).val = win0_3.index t (1 : Fin 2) * 1024 + 1 * ((i : S3328x1024.Idx) 1).val; omega
  · obtain ⟨-, -, -, -, -, -, e0, e1, -⟩ := idx_facts (0 : Fin 1)
    show i ∈ ((View.whole main_v1_0).slice (win0_3.rect (0 : Fin 1))).set
    rw [View.set_slice_whole, Rect.mem_set_unit]
    have h0 : ((i : S3328x1024.Idx) 0).val < 3328 := ((i : S3328x1024.Idx) 0).isLt
    have h1 : ((i : S3328x1024.Idx) 1).val < 1024 := ((i : S3328x1024.Idx) 1).isLt
    intro a
    match a with
    | ⟨0, _⟩ => show win0_3.index (0 : Fin 1) (0 : Fin 2) * 3328 ≤ ((i : S3328x1024.Idx) 0).val ∧ ((i : S3328x1024.Idx) 0).val < win0_3.index (0 : Fin 1) (0 : Fin 2) * 3328 + 3328; omega
    | ⟨1, _⟩ => show win0_3.index (0 : Fin 1) (1 : Fin 2) * 1024 ≤ ((i : S3328x1024.Idx) 1).val ∧ ((i : S3328x1024.Idx) 1).val < win0_3.index (0 : Fin 1) (1 : Fin 2) * 1024 + 1024; omega
theorem final_4 (c : Dev nD) : finalA m ρ c (4 : Fin 6) = outAt m ρ 1 c := by
  refine (dats m ρ 0 c).arrAt_eq_of_cover (4 : Fin 6) (outAt m ρ 1 c) (fun t _ => ?_) fun i => ⟨(0 : Fin 1), flush0_4 _, ?_⟩
  · obtain ⟨-, -, -, -, -, -, -, -, e0, e1, -⟩ := idx_facts t
    funext i
    show outAt m ρ 1 c i = outAt m ρ 1 c ((win0_4.blk t).view.emb i)
    congr 1; funext a; apply Fin.ext
    match a with
    | ⟨0, _⟩ => show ((i : S1024x512.Idx) 0).val = win0_4.index t (0 : Fin 2) * 1024 + 1 * ((i : S1024x512.Idx) 0).val; omega
    | ⟨1, _⟩ => show ((i : S1024x512.Idx) 1).val = win0_4.index t (1 : Fin 2) * 512 + 1 * ((i : S1024x512.Idx) 1).val; omega
  · obtain ⟨-, -, -, -, -, -, -, -, e0, e1, -⟩ := idx_facts (0 : Fin 1)
    show i ∈ ((View.whole main_v1_1).slice (win0_4.rect (0 : Fin 1))).set
    rw [View.set_slice_whole, Rect.mem_set_unit]
    have h0 : ((i : S1024x512.Idx) 0).val < 1024 := ((i : S1024x512.Idx) 0).isLt
    have h1 : ((i : S1024x512.Idx) 1).val < 512 := ((i : S1024x512.Idx) 1).isLt
    intro a
    match a with
    | ⟨0, _⟩ => show win0_4.index (0 : Fin 1) (0 : Fin 2) * 1024 ≤ ((i : S1024x512.Idx) 0).val ∧ ((i : S1024x512.Idx) 0).val < win0_4.index (0 : Fin 1) (0 : Fin 2) * 1024 + 1024; omega
    | ⟨1, _⟩ => show win0_4.index (0 : Fin 1) (1 : Fin 2) * 512 ≤ ((i : S1024x512.Idx) 1).val ∧ ((i : S1024x512.Idx) 1).val < win0_4.index (0 : Fin 1) (1 : Fin 2) * 512 + 512; omega
theorem final_5 (c : Dev nD) : finalA m ρ c (5 : Fin 6) = outAt m ρ 2 c := by
  refine (dats m ρ 0 c).arrAt_eq_of_cover (5 : Fin 6) (outAt m ρ 2 c) (fun t _ => ?_) fun i => ⟨(0 : Fin 1), flush0_5 _, ?_⟩
  · obtain ⟨-, -, -, -, -, -, -, -, -, -, e0, e1⟩ := idx_facts t
    funext i
    show outAt m ρ 2 c i = outAt m ρ 2 c ((win0_5.blk t).view.emb i)
    congr 1; funext a; apply Fin.ext
    match a with
    | ⟨0, _⟩ => show ((i : S1024x1024.Idx) 0).val = win0_5.index t (0 : Fin 2) * 1024 + 1 * ((i : S1024x1024.Idx) 0).val; omega
    | ⟨1, _⟩ => show ((i : S1024x1024.Idx) 1).val = win0_5.index t (1 : Fin 2) * 1024 + 1 * ((i : S1024x1024.Idx) 1).val; omega
  · obtain ⟨-, -, -, -, -, -, -, -, -, -, e0, e1⟩ := idx_facts (0 : Fin 1)
    show i ∈ ((View.whole main_v1_2).slice (win0_5.rect (0 : Fin 1))).set
    rw [View.set_slice_whole, Rect.mem_set_unit]
    have h0 : ((i : S1024x1024.Idx) 0).val < 1024 := ((i : S1024x1024.Idx) 0).isLt
    have h1 : ((i : S1024x1024.Idx) 1).val < 1024 := ((i : S1024x1024.Idx) 1).isLt
    intro a
    match a with
    | ⟨0, _⟩ => show win0_5.index (0 : Fin 1) (0 : Fin 2) * 1024 ≤ ((i : S1024x1024.Idx) 0).val ∧ ((i : S1024x1024.Idx) 0).val < win0_5.index (0 : Fin 1) (0 : Fin 2) * 1024 + 1024; omega
    | ⟨1, _⟩ => show win0_5.index (0 : Fin 1) (1 : Fin 2) * 1024 ≤ ((i : S1024x1024.Idx) 1).val ∧ ((i : S1024x1024.Idx) 1).val < win0_5.index (0 : Fin 1) (1 : Fin 2) * 1024 + 1024; omega

/-! ## Every row in its place -/

theorem pay0 (v : Vec F S832x1024 .f32) : k0_pay1 v = truncf .bf16 v bitsLt_bf16_f32 := by
  unfold k0_pay1
  rw [shapeCast_self]

/-- The shard's row put at row `r` of the whole weight is the whole weight's row `r`, when the shard is of that block. -/
theorem val0 (W : Vec F S3328x1024 .f32) (d : Dev nD) (i : S3328x1024.Idx)
    (h : m ((d : Thread nD τ).loc main_arg0) = Layout.blockN ⟨2, ![832, 1024]⟩ ⟨2, ![3328, 1024]⟩ (Layout.meshBlock [2, 2, 2] ![[0, 1], []] d) W)
    (hq : (i 0).val / 832 = d.val / 2) : val m ρ 0 d i = truncf .bf16 W bitsLt_bf16_f32 i := by
  have hi : (i 0).val < 3328 := (i 0).isLt
  have hd : d.val < 8 := d.isLt
  show at2 (R := 832) (C := 1024) (by decide) (k0_pay1 (x0 m ρ d)) (i 0).val (i 1) = _
  rw [pay0, x0_eq, h]
  unfold at2
  show (truncf .bf16 (fun _ => _) bitsLt_bf16_f32) _ = _
  refine congrArg (fun j => truncf .bf16 W bitsLt_bf16_f32 j) (a₁ := Layout.TilesN.idx (S := ⟨2, ![832, 1024]⟩) (T := ⟨2, ![3328, 1024]⟩) (by decide) (Layout.meshBlock [2, 2, 2] ![[0, 1], []] d) _) (a₂ := i) ?_
  funext a
  apply Fin.ext
  rw [Layout.TilesN.idx_val]
  match a with
  | ⟨0, _⟩ =>
    show Layout.meshLin [2, 2, 2] d.val [0, 1] * 832 + (i 0).val % 832 = (i 0).val
    have e : Layout.meshLin [2, 2, 2] d.val [0, 1] = d.val / 2 := by
      show (d.val / 4) % 2 * 2 + ((d.val / 2) % 2 * 1 + 0) = d.val / 2
      omega
    rw [e]; omega
  | ⟨1, _⟩ => show 0 * 1024 + (i 1).val = (i 1).val; omega

/-- Weight 0 ends whole on every device. -/
theorem out0 (W : Vec F S3328x1024 .f32)
    (h : ∀ d : Dev nD, m ((d : Thread nD τ).loc main_arg0) = Layout.blockN ⟨2, ![832, 1024]⟩ ⟨2, ![3328, 1024]⟩ (Layout.meshBlock [2, 2, 2] ![[0, 1], []] d) W)
    (c : Dev nD) : outAt m ρ 0 c = truncf .bf16 W bitsLt_bf16_f32 := by
  funext i
  have hi : ((i : S3328x1024.Idx) 0).val < 3328 := ((i : S3328x1024.Idx) 0).isLt
  unfold outAt
  split
  · rename_i hq
    exact val0 m ρ W c i (h c) (show ((i : S3328x1024.Idx) 0).val / 832 = c.val / 2 from hq)
  · refine val0 m ρ W (srcDev 0 i) i (h _) ?_
    show ((i : S3328x1024.Idx) 0).val / 832 = (((i : S3328x1024.Idx) 0).val / 416) % 8 / 2
    omega

theorem pay1 (v : Vec F S256x512 .f32) : k0_pay2 v = truncf .bf16 v bitsLt_bf16_f32 := by
  unfold k0_pay2
  rw [shapeCast_self]

/-- The shard's row put at row `r` of the whole weight is the whole weight's row `r`, when the shard is of that block. -/
theorem val1 (W : Vec F S1024x512 .f32) (d : Dev nD) (i : S1024x512.Idx)
    (h : m ((d : Thread nD τ).loc main_arg1) = Layout.blockN ⟨2, ![256, 512]⟩ ⟨2, ![1024, 512]⟩ (Layout.meshBlock [2, 2, 2] ![[0, 1], []] d) W)
    (hq : (i 0).val / 256 = d.val / 2) : val m ρ 1 d i = truncf .bf16 W bitsLt_bf16_f32 i := by
  have hi : (i 0).val < 1024 := (i 0).isLt
  have hd : d.val < 8 := d.isLt
  show at2 (R := 256) (C := 512) (by decide) (k0_pay2 (x1 m ρ d)) (i 0).val (i 1) = _
  rw [pay1, x1_eq, h]
  unfold at2
  show (truncf .bf16 (fun _ => _) bitsLt_bf16_f32) _ = _
  refine congrArg (fun j => truncf .bf16 W bitsLt_bf16_f32 j) (a₁ := Layout.TilesN.idx (S := ⟨2, ![256, 512]⟩) (T := ⟨2, ![1024, 512]⟩) (by decide) (Layout.meshBlock [2, 2, 2] ![[0, 1], []] d) _) (a₂ := i) ?_
  funext a
  apply Fin.ext
  rw [Layout.TilesN.idx_val]
  match a with
  | ⟨0, _⟩ =>
    show Layout.meshLin [2, 2, 2] d.val [0, 1] * 256 + (i 0).val % 256 = (i 0).val
    have e : Layout.meshLin [2, 2, 2] d.val [0, 1] = d.val / 2 := by
      show (d.val / 4) % 2 * 2 + ((d.val / 2) % 2 * 1 + 0) = d.val / 2
      omega
    rw [e]; omega
  | ⟨1, _⟩ => show 0 * 512 + (i 1).val = (i 1).val; omega

/-- Weight 1 ends whole on every device. -/
theorem out1 (W : Vec F S1024x512 .f32)
    (h : ∀ d : Dev nD, m ((d : Thread nD τ).loc main_arg1) = Layout.blockN ⟨2, ![256, 512]⟩ ⟨2, ![1024, 512]⟩ (Layout.meshBlock [2, 2, 2] ![[0, 1], []] d) W)
    (c : Dev nD) : outAt m ρ 1 c = truncf .bf16 W bitsLt_bf16_f32 := by
  funext i
  have hi : ((i : S1024x512.Idx) 0).val < 1024 := ((i : S1024x512.Idx) 0).isLt
  unfold outAt
  split
  · rename_i hq
    exact val1 m ρ W c i (h c) (show ((i : S1024x512.Idx) 0).val / 256 = c.val / 2 from hq)
  · refine val1 m ρ W (srcDev 1 i) i (h _) ?_
    show ((i : S1024x512.Idx) 0).val / 256 = (((i : S1024x512.Idx) 0).val / 128) % 8 / 2
    omega

theorem pay2 (v : Vec F S256x1024 .f32) : k0_pay3 v = truncf .bf16 v bitsLt_bf16_f32 := by
  unfold k0_pay3
  rw [shapeCast_self]

/-- The shard's row put at row `r` of the whole weight is the whole weight's row `r`, when the shard is of that block. -/
theorem val2 (W : Vec F S1024x1024 .f32) (d : Dev nD) (i : S1024x1024.Idx)
    (h : m ((d : Thread nD τ).loc main_arg2) = Layout.blockN ⟨2, ![256, 1024]⟩ ⟨2, ![1024, 1024]⟩ (Layout.meshBlock [2, 2, 2] ![[0, 1], []] d) W)
    (hq : (i 0).val / 256 = d.val / 2) : val m ρ 2 d i = truncf .bf16 W bitsLt_bf16_f32 i := by
  have hi : (i 0).val < 1024 := (i 0).isLt
  have hd : d.val < 8 := d.isLt
  show at2 (R := 256) (C := 1024) (by decide) (k0_pay3 (x2 m ρ d)) (i 0).val (i 1) = _
  rw [pay2, x2_eq, h]
  unfold at2
  show (truncf .bf16 (fun _ => _) bitsLt_bf16_f32) _ = _
  refine congrArg (fun j => truncf .bf16 W bitsLt_bf16_f32 j) (a₁ := Layout.TilesN.idx (S := ⟨2, ![256, 1024]⟩) (T := ⟨2, ![1024, 1024]⟩) (by decide) (Layout.meshBlock [2, 2, 2] ![[0, 1], []] d) _) (a₂ := i) ?_
  funext a
  apply Fin.ext
  rw [Layout.TilesN.idx_val]
  match a with
  | ⟨0, _⟩ =>
    show Layout.meshLin [2, 2, 2] d.val [0, 1] * 256 + (i 0).val % 256 = (i 0).val
    have e : Layout.meshLin [2, 2, 2] d.val [0, 1] = d.val / 2 := by
      show (d.val / 4) % 2 * 2 + ((d.val / 2) % 2 * 1 + 0) = d.val / 2
      omega
    rw [e]; omega
  | ⟨1, _⟩ => show 0 * 1024 + (i 1).val = (i 1).val; omega

/-- Weight 2 ends whole on every device. -/
theorem out2 (W : Vec F S1024x1024 .f32)
    (h : ∀ d : Dev nD, m ((d : Thread nD τ).loc main_arg2) = Layout.blockN ⟨2, ![256, 1024]⟩ ⟨2, ![1024, 1024]⟩ (Layout.meshBlock [2, 2, 2] ![[0, 1], []] d) W)
    (c : Dev nD) : outAt m ρ 2 c = truncf .bf16 W bitsLt_bf16_f32 := by
  funext i
  have hi : ((i : S1024x1024.Idx) 0).val < 1024 := ((i : S1024x1024.Idx) 0).isLt
  unfold outAt
  split
  · rename_i hq
    exact val2 m ρ W c i (h c) (show ((i : S1024x1024.Idx) 0).val / 256 = c.val / 2 from hq)
  · refine val2 m ρ W (srcDev 2 i) i (h _) ?_
    show ((i : S1024x1024.Idx) 0).val / 256 = (((i : S1024x1024.Idx) 0).val / 128) % 8 / 2
    omega

/-- The run, its result arrays at what the devices end with and its arguments unchanged. -/
theorem run_out (m : (ℓ : Loc nD τ sig) → Buf (Elt F) ℓ) (ρ : Dev nD → PrngReg) :
    θ_run defs (onTc (τ := τ) (main (F := F))) ⟨m, fun _ => 0, ρ⟩ (fun r => (∀ c : Dev nD,
      (r.2.mem ((c.tc : Thread nD τ).loc main_v1_0) = outAt m ρ 0 c
      ∧ r.2.mem ((c.tc : Thread nD τ).loc main_v1_1) = outAt m ρ 1 c
      ∧ r.2.mem ((c.tc : Thread nD τ).loc main_v1_2) = outAt m ρ 2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨⟨(h.1 c (3 : Fin 6)).trans (final_3 m ρ c), (h.1 c (4 : Fin 6)).trans (final_4 m ρ c), (h.1 c (5 : Fin 6)).trans (final_5 m ρ c)⟩,
    (h.1 c (0 : Fin 6)).trans (final_0 m ρ c), (h.1 c (1 : Fin 6)).trans (final_1 m ρ c), (h.1 c (2 : Fin 6)).trans (final_2 m ρ c)⟩, h.2⟩)
    (run_main m ρ)

end Cert.GatherProof

end
-- ==== Proof.Gather.Claims.lean ====
/-
  What is claimed of the weight gather: its frames, and that on every device it leaves the three whole weights that the
  reference leaves, over the reals and bit for bit.
-/
module

public import proofs.«01_k».proof.Defs
public import proofs.«01_k».proof.Proof.Gather.Value
public import proofs.«01_k».proof.Proof.Gen.Gather
public import proofs.«01_k».proof.Proof.Gen.GatherRef.Run
public import proofs.«01_k».proof.Proof.Gen.GatherRefIdeal.Run
public import Idealize.ShloMosaic.Lib.Quiescent

@[expose] public section

noncomputable section

namespace Cert.Proof

open Idealize.ShloMosaic Idealize.SL.Sem

set_option maxRecDepth 100000 in
/-- The two printings of the kernel's body are one program. -/
theorem gather_body_eq {F : FTy → Type} [FloatOps F] : Cert.Gather.defs₀ (F := F) = Cert.GatherIdeal.defs₀ (F := F) := by
  unfold Cert.Gather.defs₀ Cert.GatherIdeal.defs₀
  refine congrArg Defs.onTc ?_
  funext l x
  match l, x with
  | ⟨0, _⟩, (t, s) => rfl
  | ⟨_ + 1, h⟩, _ => exact absurd h (Nat.not_lt.2 (Nat.le_add_left _ _))

set_option maxRecDepth 100000 in
theorem gather_defs_eq {F : FTy → Type} [FloatOps F] : Cert.Gather.defs (F := F) = Cert.GatherIdeal.defs (F := F) := by
  unfold Cert.Gather.defs Cert.GatherIdeal.defs
  rw [gather_body_eq]; rfl

theorem frame_gather : Cert.quiescent_Gather := fun m ρ _ => by
  rw [show Cert.Gather.defs (F := Bits) = Cert.GatherIdeal.defs (F := Bits) from gather_defs_eq]
  exact (θ_run Cert.GatherIdeal.defs _ _).mono (fun _ h => ⟨fun c => (h.1 c).2, h.2⟩) (Cert.GatherProof.run_out (F := Bits) m ρ)

theorem frame_gatherIdeal : Cert.quiescent_GatherIdeal := fun m ρ _ =>
  (θ_run Cert.GatherIdeal.defs _ _).mono (fun _ h => ⟨fun c => (h.1 c).2, h.2⟩) (Cert.GatherProof.run_out (F := Ideal) m ρ)

/-- The reference of `Gather` is host code and has no semaphores. -/
theorem frame_gatherRef : Cert.quiescent_GatherRef := fun m ρ _ =>
  (θ_run _ _ _).mono (fun r h => ⟨fun c => (h c).2.2.2, sem_eq_zero_of_no_sems rfl r.2⟩) (Cert.GatherRef.Value.run m ρ)

theorem frame_gatherRefIdeal : Cert.quiescent_GatherRefIdeal := fun m ρ _ =>
  (θ_run _ _ _).mono (fun r h => ⟨fun c => (h c).2.2.2, sem_eq_zero_of_no_sems rfl r.2⟩) (Cert.GatherRefIdeal.Value.run m ρ)

theorem algebraic_gather : Cert.algebraic_GatherIdeal_GatherRefIdeal := by
  intro m g m' g' _ hm
  refine ⟨_, _, _, ?_, (θ_run _ _ _).mono (fun _ h => h 0) (Cert.GatherRefIdeal.Value.run m' g')⟩
  exact (θ_run _ _ _).mono (fun _ h c =>
    ⟨(h.1 c).1.1.trans (Cert.GatherProof.out0 m g _ (fun d => (hm d).1) c),
     (h.1 c).1.2.1.trans (Cert.GatherProof.out1 m g _ (fun d => (hm d).2.1) c),
     (h.1 c).1.2.2.trans (Cert.GatherProof.out2 m g _ (fun d => (hm d).2.2) c), (h.1 c).2⟩) (Cert.GatherProof.run_out (F := Ideal) m g)

theorem bitexact_gather : Cert.bitexact_Gather_GatherRef := by
  intro m g m' g' _ hm
  refine ⟨_, _, _, ?_, (θ_run _ _ _).mono (fun _ h => h 0) (Cert.GatherRef.Value.run m' g')⟩
  rw [show Cert.Gather.defs (F := Bits) = Cert.GatherIdeal.defs (F := Bits) from gather_defs_eq]
  exact (θ_run Cert.GatherIdeal.defs _ _).mono (fun _ h c =>
    ⟨(h.1 c).1.1.trans (Cert.GatherProof.out0 m g _ (fun d => (hm d).1) c),
     (h.1 c).1.2.1.trans (Cert.GatherProof.out1 m g _ (fun d => (hm d).2.1) c),
     (h.1 c).1.2.2.trans (Cert.GatherProof.out2 m g _ (fun d => (hm d).2.2) c), (h.1 c).2⟩) (Cert.GatherProof.run_out (F := Bits) m g)

end Cert.Proof

end
-- ==== Proof.Reduce.Geom.lean ====
/-
The geometry of the gradients' reduce-scatter: eight devices on a 2 × 2 × 2 mesh, a chip being a pair of cores; the
copies of a device and where each goes; rectangles of a buffer, what is read through one and what a store through one
leaves.
-/
module

public import proofs.«01_k».proof.Proof.Gen.ReduceIdeal
public import proofs.«01_k».proof.Proof.Gen.ReduceIdeal.Skeleton
public import proofs.«01_k».proof.Proof.Gen.ReduceIdeal.Launch
public import Idealize.ShloMosaic.Lib.Pipeline.Launch
public import Idealize.ShloMosaic.Lib.Pipeline.Kit
public import Idealize.ShloMosaic.Lib.Tactic

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices -/

/-- The other core of the chip, and the chips next to this one along each mesh axis (same core). -/
def sib (c : Dev nD) : Dev nD := ⟨(2 * (c.val / 2) + (1 - c.val % 2)) % 8, Nat.mod_lt _ (by decide)⟩
def xn (c : Dev nD) : Dev nD := ⟨(c.val + 4) % 8, Nat.mod_lt _ (by decide)⟩
def yn (c : Dev nD) : Dev nD := ⟨(4 * (c.val / 4) + (c.val + 2) % 4) % 8, Nat.mod_lt _ (by decide)⟩

/-- The device that copy `k` of device `c` goes to. -/
def peer (k : Fin 21) (c : Dev nD) : Dev nD := match k.val with
  | 0 => sib c | 1 => sib c | 2 => sib c | 3 => sib c
  | 4 => xn c | 5 => yn c | 6 => xn c | 7 => yn c | 8 => xn c | 9 => yn c
  | 10 => xn c
  | 11 => yn c | 12 => xn c | 13 => yn c | 14 => xn c | 15 => yn c | 16 => xn c
  | 17 => yn c
  | _ => sib c

theorem sib_sib (c : Dev nD) : sib (sib c) = c := by revert c; decide
theorem xn_xn (c : Dev nD) : xn (xn c) = c := by revert c; decide
theorem yn_yn (c : Dev nD) : yn (yn c) = c := by revert c; decide
theorem peer_peer (k : Fin 21) (c : Dev nD) : peer k (peer k c) = c := by revert k c; decide

/-! ## Rectangles and views -/

section Views
variable {F : FTy → Type}

/-- What a load through a rectangle of a buffer reads. -/
abbrev rd (B : Ref sig .tc) (R : Rect B.ty.shape) (V : B.ty.Contents (Elt F)) : R.shape.Idx → Elt F B.ty.elt :=
  ((Memref.whole B).access R : View sig .tc _ _ _).read (Elt F) V

/-- Contents that hold `w` in a rectangle, read at an element by its place in the rectangle. -/
def put {s : Shape} {α : Type} (R : Rect s) (hp : ∀ a, 0 < R.size a) (w : R.shape.Idx → α) : s.Idx → α :=
  fun i => w fun a => ⟨((i a).val - R.off a) % R.size a, Nat.mod_lt _ (hp a)⟩

/-- A view's elements after a write through it, element by element. -/
theorem wr_eq {κ : Kind} {sp : Space} {s : Shape} {e : EltTy} (v : View sig κ sp s e) {f : v.ty.Contents (Elt F)} {w : s.Idx → Elt F e}
    {V : v.ty.Contents (Elt F)} (h : ∀ x, V (v.emb x) = _root_.cast (congrArg (Elt F) v.elt_eq.symm) (w x)) :
    ∀ i ∈ v.set, v.write (Elt F) f w Finset.univ i = V i := by
  intro i hi
  obtain ⟨x, _, rfl⟩ := Finset.mem_map.mp hi
  rw [View.write_emb_of_mem _ _ (Finset.mem_univ x), h]

theorem put_emb {s : Shape} {α : Type} {off size : Fin s.rank → ℕ} (inb : ∀ a, off a + size a ≤ s.size a)
    (hp : ∀ a, 0 < (Rect.unit (s := s) off size inb).size a)
    (w : (Rect.unit (s := s) off size inb).shape.Idx → α) (x : (Rect.unit (s := s) off size inb).shape.Idx) :
    put (Rect.unit (s := s) off size inb) hp w ((Rect.unit (s := s) off size inb).emb x) = w x := by
  unfold put
  refine congrArg w (funext fun a => Fin.ext ?_)
  show (off a + 1 * (x a).val - off a) % size a = (x a).val
  rw [Nat.one_mul, Nat.add_sub_cancel_left]
  exact Nat.mod_eq_of_lt (x a).isLt

/-- A store of `w` through a rectangle leaves `put w` there. -/
theorem stored (B : Ref sig .tc) {off size : Fin B.ty.shape.rank → ℕ} (inb : ∀ a, off a + size a ≤ B.ty.shape.size a)
    (hp : ∀ a, 0 < (Rect.unit (s := B.ty.shape) off size inb).size a) (f : B.ty.Contents (Elt F))
    (w : (Rect.unit (s := B.ty.shape) off size inb).shape.Idx → Elt F B.ty.elt) :
    ∀ i ∈ (Rect.unit (s := B.ty.shape) off size inb).set,
      ((Memref.whole B).access (Rect.unit (s := B.ty.shape) off size inb) : View sig .tc _ _ _).write (Elt F) f w Finset.univ i
        = put (Rect.unit (s := B.ty.shape) off size inb) hp w i := by
  intro i hi
  rw [← View.set_slice_whole] at hi
  exact wr_eq ((Memref.whole B).access (Rect.unit (s := B.ty.shape) off size inb) : View sig .tc _ _ _) (put_emb inb hp w) i hi

/-- A rectangle at the origin of the shape's own sizes is everything. -/
theorem full_set {s : Shape} {off : Fin s.rank → ℕ} (h : ∀ a, off a = 0) (inb : ∀ a, off a + s.size a ≤ s.size a) :
    (Rect.unit (s := s) off s.size inb).set = Finset.univ := by
  ext i
  rw [Rect.mem_set_unit]
  exact ⟨fun _ => Finset.mem_univ _, fun _ a => by rw [h a, Nat.zero_add]; exact ⟨Nat.zero_le _, (i a).isLt⟩⟩

theorem sub_set {s : Shape} {off size off' size' : Fin s.rank → ℕ} {inb inb'}
    (h : ∀ a, off' a ≤ off a ∧ off a + size a ≤ off' a + size' a) :
    (Rect.unit (s := s) off size inb).set ⊆ (Rect.unit (s := s) off' size' inb').set := by
  intro i hi
  rw [Rect.mem_set_unit] at hi ⊢
  exact fun a => by have := hi a; have := h a; omega

/-- Two rectangles that cut a third in two along axis `x`. -/
def Cuts {s : Shape} (x : Fin s.rank) (off size off₁ size₁ off₂ size₂ : Fin s.rank → ℕ) : Prop :=
  (∀ a, a ≠ x → off₁ a = off a ∧ size₁ a = size a ∧ off₂ a = off a ∧ size₂ a = size a)
    ∧ size x = size₁ x + size₂ x
    ∧ ((off₁ x = off x ∧ off₂ x = off x + size₁ x) ∨ (off₂ x = off x ∧ off₁ x = off x + size₂ x))

instance {s : Shape} (x : Fin s.rank) (off size off₁ size₁ off₂ size₂ : Fin s.rank → ℕ) : Decidable (Cuts x off size off₁ size₁ off₂ size₂) := by
  unfold Cuts; infer_instance

theorem Cuts.union {s : Shape} {x : Fin s.rank} {off size off₁ size₁ off₂ size₂ : Fin s.rank → ℕ} (h : Cuts x off size off₁ size₁ off₂ size₂)
    {inb inb₁ inb₂} : (Rect.unit (s := s) off size inb).set = (Rect.unit (s := s) off₁ size₁ inb₁).set ∪ (Rect.unit (s := s) off₂ size₂ inb₂).set := by
  ext i
  rw [Finset.mem_union, Rect.mem_set_unit, Rect.mem_set_unit, Rect.mem_set_unit]
  obtain ⟨ha, hs, ho⟩ := h
  constructor
  · intro hi
    have hx := hi x
    by_cases h1 : off₁ x ≤ (i x).val ∧ (i x).val < off₁ x + size₁ x
    · left; intro a
      by_cases e : a = x
      · subst e; exact h1
      · have := ha a e; have := hi a; omega
    · right; intro a
      by_cases e : a = x
      · subst e; omega
      · have := ha a e; have := hi a; omega
  · rintro (hi | hi) <;> intro a
    · have := hi a
      by_cases e : a = x
      · subst e; omega
      · have := ha a e; omega
    · have := hi a
      by_cases e : a = x
      · subst e; omega
      · have := ha a e; omega

theorem Cuts.disjoint {s : Shape} {x : Fin s.rank} {off size off₁ size₁ off₂ size₂ : Fin s.rank → ℕ} (h : Cuts x off size off₁ size₁ off₂ size₂)
    {inb₁ inb₂} : Disjoint (Rect.unit (s := s) off₁ size₁ inb₁).set (Rect.unit (s := s) off₂ size₂ inb₂).set := by
  rw [Finset.disjoint_left]
  intro i h1 h2
  rw [Rect.mem_set_unit] at h1 h2
  have h1 := h1 x
  have h2 := h2 x
  obtain ⟨_, _, ho⟩ := h
  omega

theorem sq_set (B : Ref sig .tc) (R : Rect B.ty.shape) (hr : ∀ a, R.stride a = 1) (s' : Shape) (h : R.shape.Squeezes s') :
    (((Memref.whole B).slice R hr).squeeze s' h).view.set = R.set :=
  (View.set_reshape _ _).trans (View.set_slice_whole _ _)

end Views

end Cert.ReduceProof

end
-- ==== Proof.Reduce.Vals.lean ====
/-
The contents of the reduce-scatter's buffers: the rectangles its body names, and what each buffer holds after each step,
on every device, from the gradients in memory at the launch.
-/
module

public import proofs.«01_k».proof.Proof.Reduce.Geom

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Rectangles -/

abbrev o29 (c : Dev nD) : Rect S832x1024 := Rect.unit (s := S832x1024) (k0_off29 c) S416x1024.size (k0_off29_inb c)
abbrev o34 (c : Dev nD) : Rect S256x512 := Rect.unit (s := S256x512) (k0_off34 c) S128x512.size (k0_off34_inb c)
abbrev o39 (c : Dev nD) : Rect S256x1024 := Rect.unit (s := S256x1024) (k0_off39 c) S128x1024.size (k0_off39_inb c)
abbrev o1 (c : Dev nD) : Rect S2x2x2x416x1024 := Rect.unit (s := S2x2x2x416x1024) (k0_off1 c) S2x2x1x416x1024.size (k0_off1_inb c)
abbrev o2 (c : Dev nD) : Rect S2x2x2x416x1024 := Rect.unit (s := S2x2x2x416x1024) (k0_off2 c) S2x2x1x416x1024.size (k0_off2_inb c)
abbrev o3 (c : Dev nD) : Rect S2x2x2x128x512 := Rect.unit (s := S2x2x2x128x512) (k0_off3 c) S2x2x1x128x512.size (k0_off3_inb c)
abbrev o4 (c : Dev nD) : Rect S2x2x2x128x512 := Rect.unit (s := S2x2x2x128x512) (k0_off4 c) S2x2x1x128x512.size (k0_off4_inb c)
abbrev o5 (c : Dev nD) : Rect S2x2x2x128x1024 := Rect.unit (s := S2x2x2x128x1024) (k0_off5 c) S2x2x1x128x1024.size (k0_off5_inb c)
abbrev o6 (c : Dev nD) : Rect S2x2x2x128x1024 := Rect.unit (s := S2x2x2x128x1024) (k0_off6 c) S2x2x1x128x1024.size (k0_off6_inb c)
abbrev w_S2x2x416x1024 : Rect S2x2x416x1024 := Rect.unit (s := S2x2x416x1024) ![0, 0, 0, 0] S2x2x416x1024.size inb_S2x2x416x1024_S2x2x416x1024_0_0_0_0
abbrev o7 (c : Dev nD) : Rect S2x2x416x1024 := Rect.unit (s := S2x2x416x1024) (k0_off7 c) S1x2x416x512.size (k0_off7_inb c)
abbrev z0_S2x2x416x512 : Rect S2x2x416x512 := Rect.unit (s := S2x2x416x512) ![0, 0, 0, 0] S1x2x416x512.size inb_S2x2x416x512_S1x2x416x512_0_0_0_0
abbrev o8 (c : Dev nD) : Rect S2x2x416x1024 := Rect.unit (s := S2x2x416x1024) (k0_off8 c) S2x1x416x512.size (k0_off8_inb c)
abbrev z1_S2x2x416x512 : Rect S2x2x416x512 := Rect.unit (s := S2x2x416x512) ![1, 0, 0, 0] S1x2x416x512.size inb_S2x2x416x512_S1x2x416x512_1_0_0_0
abbrev w_S2x2x128x512 : Rect S2x2x128x512 := Rect.unit (s := S2x2x128x512) ![0, 0, 0, 0] S2x2x128x512.size inb_S2x2x128x512_S2x2x128x512_0_0_0_0
abbrev o9 (c : Dev nD) : Rect S2x2x128x512 := Rect.unit (s := S2x2x128x512) (k0_off9 c) S1x2x128x256.size (k0_off9_inb c)
abbrev z0_S2x2x128x256 : Rect S2x2x128x256 := Rect.unit (s := S2x2x128x256) ![0, 0, 0, 0] S1x2x128x256.size inb_S2x2x128x256_S1x2x128x256_0_0_0_0
abbrev o10 (c : Dev nD) : Rect S2x2x128x512 := Rect.unit (s := S2x2x128x512) (k0_off10 c) S2x1x128x256.size (k0_off10_inb c)
abbrev z1_S2x2x128x256 : Rect S2x2x128x256 := Rect.unit (s := S2x2x128x256) ![1, 0, 0, 0] S1x2x128x256.size inb_S2x2x128x256_S1x2x128x256_1_0_0_0
abbrev w_S2x2x128x1024 : Rect S2x2x128x1024 := Rect.unit (s := S2x2x128x1024) ![0, 0, 0, 0] S2x2x128x1024.size inb_S2x2x128x1024_S2x2x128x1024_0_0_0_0
abbrev o11 (c : Dev nD) : Rect S2x2x128x1024 := Rect.unit (s := S2x2x128x1024) (k0_off11 c) S1x2x128x512.size (k0_off11_inb c)
abbrev z0_S2x2x128x512 : Rect S2x2x128x512 := Rect.unit (s := S2x2x128x512) ![0, 0, 0, 0] S1x2x128x512.size inb_S2x2x128x512_S1x2x128x512_0_0_0_0
abbrev o12 (c : Dev nD) : Rect S2x2x128x1024 := Rect.unit (s := S2x2x128x1024) (k0_off12 c) S2x1x128x512.size (k0_off12_inb c)
abbrev z1_S2x2x128x512 : Rect S2x2x128x512 := Rect.unit (s := S2x2x128x512) ![1, 0, 0, 0] S1x2x128x512.size inb_S2x2x128x512_S1x2x128x512_1_0_0_0
abbrev w_S640x128 : Rect S640x128 := Rect.unit (s := S640x128) ![0, 0] S640x128.size inb_S640x128_S640x128_0_0
abbrev o13 (c : Dev nD) : Rect S2x2x416x1024 := Rect.unit (s := S2x2x416x1024) (k0_off13 c) S1x2x416x512.size (k0_off13_inb c)
abbrev o14 (c : Dev nD) : Rect S2x2x416x1024 := Rect.unit (s := S2x2x416x1024) (k0_off14 c) S2x1x416x512.size (k0_off14_inb c)
abbrev o15 (c : Dev nD) : Rect S2x2x416x512 := Rect.unit (s := S2x2x416x512) (k0_off15 c) S1x1x416x512.size (k0_off15_inb c)
abbrev z0_S2x416x512 : Rect S2x416x512 := Rect.unit (s := S2x416x512) ![0, 0, 0] S1x416x512.size inb_S2x416x512_S1x416x512_0_0_0
abbrev o16 (c : Dev nD) : Rect S2x2x416x512 := Rect.unit (s := S2x2x416x512) (k0_off16 c) S1x1x416x512.size (k0_off16_inb c)
abbrev z1_S2x416x512 : Rect S2x416x512 := Rect.unit (s := S2x416x512) ![1, 0, 0] S1x416x512.size inb_S2x416x512_S1x416x512_1_0_0
abbrev o17 (c : Dev nD) : Rect S2x2x128x512 := Rect.unit (s := S2x2x128x512) (k0_off17 c) S1x2x128x256.size (k0_off17_inb c)
abbrev o18 (c : Dev nD) : Rect S2x2x128x512 := Rect.unit (s := S2x2x128x512) (k0_off18 c) S2x1x128x256.size (k0_off18_inb c)
abbrev o19 (c : Dev nD) : Rect S2x2x128x256 := Rect.unit (s := S2x2x128x256) (k0_off19 c) S1x1x128x256.size (k0_off19_inb c)
abbrev z0_S2x128x256 : Rect S2x128x256 := Rect.unit (s := S2x128x256) ![0, 0, 0] S1x128x256.size inb_S2x128x256_S1x128x256_0_0_0
abbrev o20 (c : Dev nD) : Rect S2x2x128x256 := Rect.unit (s := S2x2x128x256) (k0_off20 c) S1x1x128x256.size (k0_off20_inb c)
abbrev z1_S2x128x256 : Rect S2x128x256 := Rect.unit (s := S2x128x256) ![1, 0, 0] S1x128x256.size inb_S2x128x256_S1x128x256_1_0_0
abbrev o21 (c : Dev nD) : Rect S2x2x128x1024 := Rect.unit (s := S2x2x128x1024) (k0_off21 c) S1x2x128x512.size (k0_off21_inb c)
abbrev o22 (c : Dev nD) : Rect S2x2x128x1024 := Rect.unit (s := S2x2x128x1024) (k0_off22 c) S2x1x128x512.size (k0_off22_inb c)
abbrev o23 (c : Dev nD) : Rect S2x2x128x512 := Rect.unit (s := S2x2x128x512) (k0_off23 c) S1x1x128x512.size (k0_off23_inb c)
abbrev z0_S2x128x512 : Rect S2x128x512 := Rect.unit (s := S2x128x512) ![0, 0, 0] S1x128x512.size inb_S2x128x512_S1x128x512_0_0_0
abbrev o24 (c : Dev nD) : Rect S2x2x128x512 := Rect.unit (s := S2x2x128x512) (k0_off24 c) S1x1x128x512.size (k0_off24_inb c)
abbrev z1_S2x128x512 : Rect S2x128x512 := Rect.unit (s := S2x128x512) ![1, 0, 0] S1x128x512.size inb_S2x128x512_S1x128x512_1_0_0
abbrev o25 (c : Dev nD) : Rect S2x2x416x512 := Rect.unit (s := S2x2x416x512) (k0_off25 c) S1x1x416x512.size (k0_off25_inb c)
abbrev o26 (c : Dev nD) : Rect S832x1024 := Rect.unit (s := S832x1024) (k0_off26 c) S416x512.size (k0_off26_inb c)
abbrev o27 (c : Dev nD) : Rect S2x2x416x512 := Rect.unit (s := S2x2x416x512) (k0_off27 c) S1x1x416x512.size (k0_off27_inb c)
abbrev o28 (c : Dev nD) : Rect S832x1024 := Rect.unit (s := S832x1024) (k0_off28 c) S416x512.size (k0_off28_inb c)
abbrev o30 (c : Dev nD) : Rect S2x2x128x256 := Rect.unit (s := S2x2x128x256) (k0_off30 c) S1x1x128x256.size (k0_off30_inb c)
abbrev o31 (c : Dev nD) : Rect S256x512 := Rect.unit (s := S256x512) (k0_off31 c) S128x256.size (k0_off31_inb c)
abbrev o32 (c : Dev nD) : Rect S2x2x128x256 := Rect.unit (s := S2x2x128x256) (k0_off32 c) S1x1x128x256.size (k0_off32_inb c)
abbrev o33 (c : Dev nD) : Rect S256x512 := Rect.unit (s := S256x512) (k0_off33 c) S128x256.size (k0_off33_inb c)
abbrev o35 (c : Dev nD) : Rect S2x2x128x512 := Rect.unit (s := S2x2x128x512) (k0_off35 c) S1x1x128x512.size (k0_off35_inb c)
abbrev o36 (c : Dev nD) : Rect S256x1024 := Rect.unit (s := S256x1024) (k0_off36 c) S128x512.size (k0_off36_inb c)
abbrev o37 (c : Dev nD) : Rect S2x2x128x512 := Rect.unit (s := S2x2x128x512) (k0_off37 c) S1x1x128x512.size (k0_off37_inb c)
abbrev o38 (c : Dev nD) : Rect S256x1024 := Rect.unit (s := S256x1024) (k0_off38 c) S128x512.size (k0_off38_inb c)
abbrev o40 (c : Dev nD) : Rect S832x1024 := Rect.unit (s := S832x1024) (k0_off40 c) S416x1024.size (k0_off40_inb c)
abbrev o41 (c : Dev nD) : Rect S256x512 := Rect.unit (s := S256x512) (k0_off41 c) S128x512.size (k0_off41_inb c)
abbrev o42 (c : Dev nD) : Rect S256x1024 := Rect.unit (s := S256x1024) (k0_off42 c) S128x1024.size (k0_off42_inb c)

theorem pos_S128x1024 : ∀ a, 0 < S128x1024.size a := by decide
theorem pos_S128x256 : ∀ a, 0 < S128x256.size a := by decide
theorem pos_S128x512 : ∀ a, 0 < S128x512.size a := by decide
theorem pos_S1x128x256 : ∀ a, 0 < S1x128x256.size a := by decide
theorem pos_S1x128x512 : ∀ a, 0 < S1x128x512.size a := by decide
theorem pos_S1x1x128x256 : ∀ a, 0 < S1x1x128x256.size a := by decide
theorem pos_S1x1x128x512 : ∀ a, 0 < S1x1x128x512.size a := by decide
theorem pos_S1x1x416x512 : ∀ a, 0 < S1x1x416x512.size a := by decide
theorem pos_S1x2x128x256 : ∀ a, 0 < S1x2x128x256.size a := by decide
theorem pos_S1x2x128x512 : ∀ a, 0 < S1x2x128x512.size a := by decide
theorem pos_S1x2x416x512 : ∀ a, 0 < S1x2x416x512.size a := by decide
theorem pos_S1x416x512 : ∀ a, 0 < S1x416x512.size a := by decide
theorem pos_S2x1x128x256 : ∀ a, 0 < S2x1x128x256.size a := by decide
theorem pos_S2x1x128x512 : ∀ a, 0 < S2x1x128x512.size a := by decide
theorem pos_S2x1x416x512 : ∀ a, 0 < S2x1x416x512.size a := by decide
theorem pos_S2x2x128x1024 : ∀ a, 0 < S2x2x128x1024.size a := by decide
theorem pos_S2x2x128x512 : ∀ a, 0 < S2x2x128x512.size a := by decide
theorem pos_S2x2x1x128x1024 : ∀ a, 0 < S2x2x1x128x1024.size a := by decide
theorem pos_S2x2x1x128x512 : ∀ a, 0 < S2x2x1x128x512.size a := by decide
theorem pos_S2x2x1x416x1024 : ∀ a, 0 < S2x2x1x416x1024.size a := by decide
theorem pos_S2x2x416x1024 : ∀ a, 0 < S2x2x416x1024.size a := by decide
theorem pos_S416x1024 : ∀ a, 0 < S416x1024.size a := by decide
theorem pos_S416x512 : ∀ a, 0 < S416x512.size a := by decide
theorem pos_S640x128 : ∀ a, 0 < S640x128.size a := by decide

/-! ## Contents -/

section Contents
variable {F : FTy → Type} [FloatOps F] (m : (ℓ : Loc nD τ sig) → Buf (Elt F) ℓ)

/-- Device `c`'s gradients, in main memory, and its small gradients, as staged. -/
def gv0 (c : Dev nD) : (main_arg0 : Ref sig .tc).ty.Contents (Elt F) := m ((c : Thread nD τ).loc main_arg0)
def gv1 (c : Dev nD) : (main_arg1 : Ref sig .tc).ty.Contents (Elt F) := m ((c : Thread nD τ).loc main_arg1)
def gv2 (c : Dev nD) : (main_arg2 : Ref sig .tc).ty.Contents (Elt F) := m ((c : Thread nD τ).loc main_arg2)
def smv (c : Dev nD) : (cc0_stg0_0 : Ref sig .tc).ty.Contents (Elt F) := (win0_0.blk (0 : Fin 1)).view.read (Elt F) (m ((c : Thread nD τ).loc main_arg3))
/-- The rows of a gradient that device `c` keeps for its chip, and the rows it sends to the other core. -/
def la0 (c : Dev nD) : (cc0_scratch0 : Ref sig .tc).ty.Contents (Elt F) := (((Memref.whole main_arg0).slice (o2 c) (fun _ => rfl)).squeeze S2x2x416x1024 squeezes_S2x2x1x416x1024_S2x2x416x1024).view.read (Elt F) (gv0 m c)
def cp0 (c : Dev nD) : (cc0_scratch3 : Ref sig .tc).ty.Contents (Elt F) := (((Memref.whole main_arg0).slice (o1 c) (fun _ => rfl)).squeeze S2x2x416x1024 squeezes_S2x2x1x416x1024_S2x2x416x1024).view.read (Elt F) (gv0 m c)
def la1 (c : Dev nD) : (cc0_scratch1 : Ref sig .tc).ty.Contents (Elt F) := (((Memref.whole main_arg1).slice (o4 c) (fun _ => rfl)).squeeze S2x2x128x512 squeezes_S2x2x1x128x512_S2x2x128x512).view.read (Elt F) (gv1 m c)
def cp1 (c : Dev nD) : (cc0_scratch4 : Ref sig .tc).ty.Contents (Elt F) := (((Memref.whole main_arg1).slice (o3 c) (fun _ => rfl)).squeeze S2x2x128x512 squeezes_S2x2x1x128x512_S2x2x128x512).view.read (Elt F) (gv1 m c)
def la2 (c : Dev nD) : (cc0_scratch2 : Ref sig .tc).ty.Contents (Elt F) := (((Memref.whole main_arg2).slice (o6 c) (fun _ => rfl)).squeeze S2x2x128x1024 squeezes_S2x2x1x128x1024_S2x2x128x1024).view.read (Elt F) (gv2 m c)
def cp2 (c : Dev nD) : (cc0_scratch5 : Ref sig .tc).ty.Contents (Elt F) := (((Memref.whole main_arg2).slice (o5 c) (fun _ => rfl)).squeeze S2x2x128x1024 squeezes_S2x2x1x128x1024_S2x2x128x1024).view.read (Elt F) (gv2 m c)
/-- The chip's sums of two cores, and the halves of them that travel, rounded to `bf16`. -/
def rs0 (c : Dev nD) : (cc0_scratch3 : Ref sig .tc).ty.Contents (Elt F) := put (w_S2x2x416x1024) pos_S2x2x416x1024 ((k0_pay1 (rd cc0_scratch0 (w_S2x2x416x1024) (la0 m c)) (rd cc0_scratch3 (w_S2x2x416x1024) (cp0 m (sib c)))))
def b00 (c : Dev nD) : (cc0_scratch6 : Ref sig .tc).ty.Contents (Elt F) := put (z0_S2x2x416x512) pos_S1x2x416x512 ((k0_pay2 (rd cc0_scratch3 (o7 c) (rs0 m c))))
def b01 (c : Dev nD) : (cc0_scratch6 : Ref sig .tc).ty.Contents (Elt F) := put (z1_S2x2x416x512) pos_S1x2x416x512 ((k0_pay3 (rd cc0_scratch3 (o8 c) (rs0 m c))))
def rs1 (c : Dev nD) : (cc0_scratch4 : Ref sig .tc).ty.Contents (Elt F) := put (w_S2x2x128x512) pos_S2x2x128x512 ((k0_pay4 (rd cc0_scratch1 (w_S2x2x128x512) (la1 m c)) (rd cc0_scratch4 (w_S2x2x128x512) (cp1 m (sib c)))))
def b10 (c : Dev nD) : (cc0_scratch7 : Ref sig .tc).ty.Contents (Elt F) := put (z0_S2x2x128x256) pos_S1x2x128x256 ((k0_pay5 (rd cc0_scratch4 (o9 c) (rs1 m c))))
def b11 (c : Dev nD) : (cc0_scratch7 : Ref sig .tc).ty.Contents (Elt F) := put (z1_S2x2x128x256) pos_S1x2x128x256 ((k0_pay6 (rd cc0_scratch4 (o10 c) (rs1 m c))))
def rs2 (c : Dev nD) : (cc0_scratch5 : Ref sig .tc).ty.Contents (Elt F) := put (w_S2x2x128x1024) pos_S2x2x128x1024 ((k0_pay7 (rd cc0_scratch2 (w_S2x2x128x1024) (la2 m c)) (rd cc0_scratch5 (w_S2x2x128x1024) (cp2 m (sib c)))))
def b20 (c : Dev nD) : (cc0_scratch8 : Ref sig .tc).ty.Contents (Elt F) := put (z0_S2x2x128x512) pos_S1x2x128x512 ((k0_pay8 (rd cc0_scratch5 (o11 c) (rs2 m c))))
def b21 (c : Dev nD) : (cc0_scratch8 : Ref sig .tc).ty.Contents (Elt F) := put (z1_S2x2x128x512) pos_S1x2x128x512 ((k0_pay9 (rd cc0_scratch5 (o12 c) (rs2 m c))))
/-- The small gradients of a chip. -/
def acs (c : Dev nD) : (cc0_scratch24 : Ref sig .tc).ty.Contents (Elt F) := put (w_S640x128) pos_S640x128 ((k0_pay10 (rd cc0_stg0_0 (w_S640x128) (smv m c)) (rd cc0_scratch21 (w_S640x128) (smv m (sib c)))))
def ac00 (c : Dev nD) : (cc0_scratch12 : Ref sig .tc).ty.Contents (Elt F) := put (z0_S2x2x416x512) pos_S1x2x416x512 ((k0_pay11 (rd cc0_scratch3 (o13 c) (rs0 m c)) (rd cc0_scratch9 (z0_S2x2x416x512) (b00 m (xn c)))))
def ac01 (c : Dev nD) : (cc0_scratch12 : Ref sig .tc).ty.Contents (Elt F) := put (z1_S2x2x416x512) pos_S1x2x416x512 ((k0_pay12 (rd cc0_scratch3 (o14 c) (rs0 m c)) (rd cc0_scratch9 (z1_S2x2x416x512) (b01 m (yn c)))))
def sc00 (c : Dev nD) : (cc0_scratch15 : Ref sig .tc).ty.Contents (Elt F) := put (z0_S2x416x512) pos_S1x416x512 ((k0_pay13 (rd cc0_scratch12 (o15 c) (ac00 m c))))
def sc01 (c : Dev nD) : (cc0_scratch15 : Ref sig .tc).ty.Contents (Elt F) := put (z1_S2x416x512) pos_S1x416x512 ((k0_pay14 (rd cc0_scratch12 (o16 c) (ac01 m c))))
def ac10 (c : Dev nD) : (cc0_scratch13 : Ref sig .tc).ty.Contents (Elt F) := put (z0_S2x2x128x256) pos_S1x2x128x256 ((k0_pay15 (rd cc0_scratch4 (o17 c) (rs1 m c)) (rd cc0_scratch10 (z0_S2x2x128x256) (b10 m (xn c)))))
def ac11 (c : Dev nD) : (cc0_scratch13 : Ref sig .tc).ty.Contents (Elt F) := put (z1_S2x2x128x256) pos_S1x2x128x256 ((k0_pay16 (rd cc0_scratch4 (o18 c) (rs1 m c)) (rd cc0_scratch10 (z1_S2x2x128x256) (b11 m (yn c)))))
def sc10 (c : Dev nD) : (cc0_scratch16 : Ref sig .tc).ty.Contents (Elt F) := put (z0_S2x128x256) pos_S1x128x256 ((k0_pay17 (rd cc0_scratch13 (o19 c) (ac10 m c))))
def sc11 (c : Dev nD) : (cc0_scratch16 : Ref sig .tc).ty.Contents (Elt F) := put (z1_S2x128x256) pos_S1x128x256 ((k0_pay18 (rd cc0_scratch13 (o20 c) (ac11 m c))))
def ac20 (c : Dev nD) : (cc0_scratch14 : Ref sig .tc).ty.Contents (Elt F) := put (z0_S2x2x128x512) pos_S1x2x128x512 ((k0_pay19 (rd cc0_scratch5 (o21 c) (rs2 m c)) (rd cc0_scratch11 (z0_S2x2x128x512) (b20 m (xn c)))))
def ac21 (c : Dev nD) : (cc0_scratch14 : Ref sig .tc).ty.Contents (Elt F) := put (z1_S2x2x128x512) pos_S1x2x128x512 ((k0_pay20 (rd cc0_scratch5 (o22 c) (rs2 m c)) (rd cc0_scratch11 (z1_S2x2x128x512) (b21 m (yn c)))))
def sc20 (c : Dev nD) : (cc0_scratch17 : Ref sig .tc).ty.Contents (Elt F) := put (z0_S2x128x512) pos_S1x128x512 ((k0_pay22 (k0_pay21 (rd cc0_scratch14 (o23 c) (ac20 m c)))))
def sc21 (c : Dev nD) : (cc0_scratch17 : Ref sig .tc).ty.Contents (Elt F) := put (z1_S2x128x512) pos_S1x128x512 ((k0_pay23 (rd cc0_scratch14 (o24 c) (ac21 m c))))
def sbt (c : Dev nD) : (cc0_scratch22 : Ref sig .tc).ty.Contents (Elt F) := put (w_S640x128) pos_S640x128 ((k0_pay24 (rd cc0_scratch24 (w_S640x128) (acs m c)) (rd cc0_scratch22 (w_S640x128) (acs m (xn c)))))
def ot00 (c : Dev nD) : (cc0_stg1_0 : Ref sig .tc).ty.Contents (Elt F) := put (o26 c) pos_S416x512 ((k0_pay26 (k0_pay25 (rd cc0_scratch12 (o25 c) (ac00 m c))) (rd cc0_scratch18 (z0_S2x416x512) (sc00 m (yn c)))))
def ot01 (c : Dev nD) : (cc0_stg1_0 : Ref sig .tc).ty.Contents (Elt F) := put (o28 c) pos_S416x512 ((k0_pay27 (rd cc0_scratch12 (o27 c) (ac01 m c)) (rd cc0_scratch18 (z1_S2x416x512) (sc01 m (xn c)))))
def ot10 (c : Dev nD) : (cc0_stg2_0 : Ref sig .tc).ty.Contents (Elt F) := put (o31 c) pos_S128x256 ((k0_pay28 (rd cc0_scratch13 (o30 c) (ac10 m c)) (rd cc0_scratch19 (z0_S2x128x256) (sc10 m (yn c)))))
def ot11 (c : Dev nD) : (cc0_stg2_0 : Ref sig .tc).ty.Contents (Elt F) := put (o33 c) pos_S128x256 ((k0_pay29 (rd cc0_scratch13 (o32 c) (ac11 m c)) (rd cc0_scratch19 (z1_S2x128x256) (sc11 m (xn c)))))
def ot20 (c : Dev nD) : (cc0_stg3_0 : Ref sig .tc).ty.Contents (Elt F) := put (o36 c) pos_S128x512 ((k0_pay30 (rd cc0_scratch14 (o35 c) (ac20 m c)) (rd cc0_scratch20 (z0_S2x128x512) (sc20 m (yn c)))))
def ot21 (c : Dev nD) : (cc0_stg3_0 : Ref sig .tc).ty.Contents (Elt F) := put (o38 c) pos_S128x512 ((k0_pay31 (rd cc0_scratch14 (o37 c) (ac21 m c)) (rd cc0_scratch20 (z1_S2x128x512) (sc21 m (xn c)))))
def osmv (c : Dev nD) : (cc0_stg4_0 : Ref sig .tc).ty.Contents (Elt F) := put (w_S640x128) pos_S640x128 ((k0_pay32 (rd cc0_scratch22 (w_S640x128) (sbt m c)) (rd cc0_scratch23 (w_S640x128) (sbt m (yn c)))))
/-- What device `c` has of its rows of the sums: the left half of the columns from one reduction, the right half from the other. -/
def om0 (c : Dev nD) : (cc0_stg1_0 : Ref sig .tc).ty.Contents (Elt F) := fun i => if ((i : S832x1024.Idx) 1).val < 512 then ot00 m c i else ot01 m c i
def om1 (c : Dev nD) : (cc0_stg2_0 : Ref sig .tc).ty.Contents (Elt F) := fun i => if ((i : S256x512.Idx) 1).val < 256 then ot10 m c i else ot11 m c i
def om2 (c : Dev nD) : (cc0_stg3_0 : Ref sig .tc).ty.Contents (Elt F) := fun i => if ((i : S256x1024.Idx) 1).val < 512 then ot20 m c i else ot21 m c i
/-- The results: a device's own rows, and those of the other core. -/
def ov0 (c : Dev nD) : (cc0_stg1_0 : Ref sig .tc).ty.Contents (Elt F) := fun i => if ((i : S832x1024.Idx) 0).val / 416 = c.val % 2 then om0 m c i else om0 m (sib c) i
def ov1 (c : Dev nD) : (cc0_stg2_0 : Ref sig .tc).ty.Contents (Elt F) := fun i => if ((i : S256x512.Idx) 0).val / 128 = c.val % 2 then om1 m c i else om1 m (sib c) i
def ov2 (c : Dev nD) : (cc0_stg3_0 : Ref sig .tc).ty.Contents (Elt F) := fun i => if ((i : S256x1024.Idx) 0).val / 128 = c.val % 2 then om2 m c i else om2 m (sib c) i

end Contents

end Cert.ReduceProof

end
-- ==== Proof.Reduce.Sched.lean ====
/-
The protocol of the reduce-scatter: its cells (the entry handshake's, a send and a receive cell per remote copy, one per
local copy), what each holds out to its owner, what every device owes and in which order it may wait.
-/
module

public import proofs.«01_k».proof.Proof.Reduce.Vals

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

/-- The resource algebra: the pipeline's rounds and the protocol's (three duties at the most per round). -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A piece of a buffer of device `c`, held at a share with its contents; held whole with whatever is there. -/
abbrev hold (B : Ref sig .tc) (S : Finset B.ty.Idx) (q : PosShare TreeShare) (V : B.ty.Contents (Elt F)) (c : Dev nD) : sProp 𝕄 :=
  ((c : Thread nD τ).loc B) ↦[S]{q} V
def hole (B : Ref sig .tc) (S : Finset B.ty.Idx) (c : Dev nD) : sProp 𝕄 := iprop(∃ f, hold (F := F) B S fullShare f c)

omit [FloatOps F] in
instance hole_storable (B : Ref sig .tc) (S : Finset B.ty.Idx) (c : Dev nD) : BI.Storable (upEmb : UEmb _ 𝕄) (hole (F := F) B S c) := by
  unfold hole; infer_instance

variable (m : (ℓ : Loc nD τ sig) → Buf (Elt F) ℓ)

/-! ## The cells -/

/-- A device's own cells: a send and a receive semaphore per remote copy, one per local copy. -/
abbrev OIx : Type := Fin 21 ⊕ Fin 21 ⊕ Fin 3
/-- With the handshake's. -/
abbrev CIx : Type := Option OIx

abbrev barS : Sem sig := (SemArray.scalar (sig.barrier 0 rfl) : Sems sig S_).sem
set_option backward.proofsInPublic true in
def sendS (k : Fin 21) : DmaSem sig := (⟨5 + k.val, by omega⟩ : Fin 50)
set_option backward.proofsInPublic true in
def recvS (k : Fin 21) : DmaSem sig := (⟨26 + k.val, by omega⟩ : Fin 50)
set_option backward.proofsInPublic true in
def locS (a : Fin 3) : DmaSem sig := (⟨47 + a.val, by omega⟩ : Fin 50)

abbrev barCell (c : Dev nD) : GSem nD τ sig := ((c : Thread nD τ), .reg barS)
abbrev sendCell (c : Dev nD) (k : Fin 21) : GSem nD τ sig := ((c : Thread nD τ), .dma (sendS k))
abbrev recvCell (c : Dev nD) (k : Fin 21) : GSem nD τ sig := ((c : Thread nD τ), .dma (recvS k))
abbrev locCell (c : Dev nD) (a : Fin 3) : GSem nD τ sig := ((c : Thread nD τ), .dma (locS a))

abbrev osem (x : OIx) : SemLoc sig := match x with | .inl k => .dma (sendS k) | .inr (.inl k) => .dma (recvS k) | .inr (.inr a) => .dma (locS a)
abbrev csem (x : CIx) : SemLoc sig := match x with | none => .reg barS | some y => osem y
abbrev kcell (ck : Dev nD × CIx) : GSem nD τ sig := ((ck.1 : Thread nD τ), csem ck.2)

/-- Which cell a semaphore's index is. -/
def sideOf (q : DmaSem sig) : Option OIx :=
  if (q : Fin 50).val < 5 then none
  else if (q : Fin 50).val < 26 then some (.inl ⟨((q : Fin 50).val - 5) % 21, Nat.mod_lt _ (by decide)⟩)
  else if (q : Fin 50).val < 47 then some (.inr (.inl ⟨((q : Fin 50).val - 26) % 21, Nat.mod_lt _ (by decide)⟩))
  else some (.inr (.inr ⟨((q : Fin 50).val - 47) % 3, Nat.mod_lt _ (by decide)⟩))
theorem sideOf_send (k : Fin 21) : sideOf (sendS k) = some (.inl k) := by revert k; decide
theorem sideOf_recv (k : Fin 21) : sideOf (recvS k) = some (.inr (.inl k)) := by revert k; decide
theorem sideOf_loc (a : Fin 3) : sideOf (locS a) = some (.inr (.inr a)) := by revert a; decide

/-- The credit of a copy. -/
def amt (k : Fin 21) : ℕ := match k.val with
  | 0 => (cc0_scratch3 : Ref sig .tc).dmaCredit S2x2x416x1024 .f32
  | 1 => (cc0_scratch4 : Ref sig .tc).dmaCredit S2x2x128x512 .f32
  | 2 => (cc0_scratch5 : Ref sig .tc).dmaCredit S2x2x128x1024 .f32
  | 3 => (cc0_scratch21 : Ref sig .tc).dmaCredit S640x128 .f32
  | 4 => (cc0_scratch9 : Ref sig .tc).dmaCredit S2x416x512 .bf16
  | 5 => (cc0_scratch9 : Ref sig .tc).dmaCredit S2x416x512 .bf16
  | 6 => (cc0_scratch10 : Ref sig .tc).dmaCredit S2x128x256 .bf16
  | 7 => (cc0_scratch10 : Ref sig .tc).dmaCredit S2x128x256 .bf16
  | 8 => (cc0_scratch11 : Ref sig .tc).dmaCredit S2x128x512 .bf16
  | 9 => (cc0_scratch11 : Ref sig .tc).dmaCredit S2x128x512 .bf16
  | 10 => (cc0_scratch22 : Ref sig .tc).dmaCredit S640x128 .f32
  | 11 => (cc0_scratch18 : Ref sig .tc).dmaCredit S416x512 .bf16
  | 12 => (cc0_scratch18 : Ref sig .tc).dmaCredit S416x512 .bf16
  | 13 => (cc0_scratch19 : Ref sig .tc).dmaCredit S128x256 .bf16
  | 14 => (cc0_scratch19 : Ref sig .tc).dmaCredit S128x256 .bf16
  | 15 => (cc0_scratch20 : Ref sig .tc).dmaCredit S128x512 .bf16
  | 16 => (cc0_scratch20 : Ref sig .tc).dmaCredit S128x512 .bf16
  | 17 => (cc0_scratch23 : Ref sig .tc).dmaCredit S640x128 .f32
  | 18 => (cc0_stg1_0 : Ref sig .tc).dmaCredit S416x1024 .f32
  | 19 => (cc0_stg2_0 : Ref sig .tc).dmaCredit S128x512 .f32
  | _ => (cc0_stg3_0 : Ref sig .tc).dmaCredit S128x1024 .f32
def lamt (a : Fin 3) : ℕ := match a with
  | 0 => (cc0_scratch0 : Ref sig .tc).dmaCredit S2x2x416x1024 .f32
  | 1 => (cc0_scratch1 : Ref sig .tc).dmaCredit S2x2x128x512 .f32
  | 2 => (cc0_scratch2 : Ref sig .tc).dmaCredit S2x2x128x1024 .f32
theorem numel_S128x1024 : 0 < S128x1024.numel := by decide
theorem numel_S128x256 : 0 < S128x256.numel := by decide
theorem numel_S128x512 : 0 < S128x512.numel := by decide
theorem numel_S2x128x256 : 0 < S2x128x256.numel := by decide
theorem numel_S2x128x512 : 0 < S2x128x512.numel := by decide
theorem numel_S2x2x128x1024 : 0 < S2x2x128x1024.numel := by decide
theorem numel_S2x2x128x512 : 0 < S2x2x128x512.numel := by decide
theorem numel_S2x2x416x1024 : 0 < S2x2x416x1024.numel := by decide
theorem numel_S2x416x512 : 0 < S2x416x512.numel := by decide
theorem numel_S416x1024 : 0 < S416x1024.numel := by decide
theorem numel_S416x512 : 0 < S416x512.numel := by decide
theorem numel_S640x128 : 0 < S640x128.numel := by decide
theorem amt_pos (k : Fin 21) : 0 < amt k := by
  unfold amt
  split
  · exact sig.dmaCredit_pos _ _ _ _ _ numel_S2x2x416x1024
  · exact sig.dmaCredit_pos _ _ _ _ _ numel_S2x2x128x512
  · exact sig.dmaCredit_pos _ _ _ _ _ numel_S2x2x128x1024
  · exact sig.dmaCredit_pos _ _ _ _ _ numel_S640x128
  · exact sig.dmaCredit_pos _ _ _ _ _ numel_S2x416x512
  · exact sig.dmaCredit_pos _ _ _ _ _ numel_S2x416x512
  · exact sig.dmaCredit_pos _ _ _ _ _ numel_S2x128x256
  · exact sig.dmaCredit_pos _ _ _ _ _ numel_S2x128x256
  · exact sig.dmaCredit_pos _ _ _ _ _ numel_S2x128x512
  · exact sig.dmaCredit_pos _ _ _ _ _ numel_S2x128x512
  · exact sig.dmaCredit_pos _ _ _ _ _ numel_S640x128
  · exact sig.dmaCredit_pos _ _ _ _ _ numel_S416x512
  · exact sig.dmaCredit_pos _ _ _ _ _ numel_S416x512
  · exact sig.dmaCredit_pos _ _ _ _ _ numel_S128x256
  · exact sig.dmaCredit_pos _ _ _ _ _ numel_S128x256
  · exact sig.dmaCredit_pos _ _ _ _ _ numel_S128x512
  · exact sig.dmaCredit_pos _ _ _ _ _ numel_S128x512
  · exact sig.dmaCredit_pos _ _ _ _ _ numel_S640x128
  · exact sig.dmaCredit_pos _ _ _ _ _ numel_S416x1024
  · exact sig.dmaCredit_pos _ _ _ _ _ numel_S128x512
  · exact sig.dmaCredit_pos _ _ _ _ _ numel_S128x1024
theorem lamt_pos (a : Fin 3) : 0 < lamt a := by
  unfold lamt
  split
  · exact sig.dmaCredit_pos _ _ _ _ _ numel_S2x2x416x1024
  · exact sig.dmaCredit_pos _ _ _ _ _ numel_S2x2x128x512
  · exact sig.dmaCredit_pos _ _ _ _ _ numel_S2x2x128x1024

/-! ## The schedule -/

/-- The source of copy `k`, on its sender, as it is held while the copy runs. -/
def srcP (k : Fin 21) (c : Dev nD) : sProp 𝕄 := match k.val with
  | 0 => hold main_arg0 (o1 c).set fullShare (gv0 m c) c
  | 1 => hold main_arg1 (o3 c).set fullShare (gv1 m c) c
  | 2 => hold main_arg2 (o5 c).set fullShare (gv2 m c) c
  | 3 => hold cc0_stg0_0 Finset.univ fullShare.left (smv m c) c
  | 4 => hold cc0_scratch6 z0_S2x2x416x512.set fullShare (b00 m c) c
  | 5 => hold cc0_scratch6 z1_S2x2x416x512.set fullShare (b01 m c) c
  | 6 => hold cc0_scratch7 z0_S2x2x128x256.set fullShare (b10 m c) c
  | 7 => hold cc0_scratch7 z1_S2x2x128x256.set fullShare (b11 m c) c
  | 8 => hold cc0_scratch8 z0_S2x2x128x512.set fullShare (b20 m c) c
  | 9 => hold cc0_scratch8 z1_S2x2x128x512.set fullShare (b21 m c) c
  | 10 => hold cc0_scratch24 Finset.univ fullShare.left (acs m c) c
  | 11 => hold cc0_scratch15 z0_S2x416x512.set fullShare (sc00 m c) c
  | 12 => hold cc0_scratch15 z1_S2x416x512.set fullShare (sc01 m c) c
  | 13 => hold cc0_scratch16 z0_S2x128x256.set fullShare (sc10 m c) c
  | 14 => hold cc0_scratch16 z1_S2x128x256.set fullShare (sc11 m c) c
  | 15 => hold cc0_scratch17 z0_S2x128x512.set fullShare (sc20 m c) c
  | 16 => hold cc0_scratch17 z1_S2x128x512.set fullShare (sc21 m c) c
  | 17 => hold cc0_scratch22 Finset.univ fullShare.left (sbt m c) c
  | 18 => hold cc0_stg1_0 (o29 c).set fullShare (om0 m c) c
  | 19 => hold cc0_stg2_0 (o34 c).set fullShare (om1 m c) c
  | _ => hold cc0_stg3_0 (o39 c).set fullShare (om2 m c) c
/-- What device `c`'s copy `k` leaves on device `n`; where it is to land, before. -/
def inP (k : Fin 21) (c n : Dev nD) : sProp 𝕄 := match k.val with
  | 0 => hold cc0_scratch3 Finset.univ fullShare (cp0 m c) n
  | 1 => hold cc0_scratch4 Finset.univ fullShare (cp1 m c) n
  | 2 => hold cc0_scratch5 Finset.univ fullShare (cp2 m c) n
  | 3 => hold cc0_scratch21 Finset.univ fullShare (smv m c) n
  | 4 => hold cc0_scratch9 z0_S2x2x416x512.set fullShare (b00 m c) n
  | 5 => hold cc0_scratch9 z1_S2x2x416x512.set fullShare (b01 m c) n
  | 6 => hold cc0_scratch10 z0_S2x2x128x256.set fullShare (b10 m c) n
  | 7 => hold cc0_scratch10 z1_S2x2x128x256.set fullShare (b11 m c) n
  | 8 => hold cc0_scratch11 z0_S2x2x128x512.set fullShare (b20 m c) n
  | 9 => hold cc0_scratch11 z1_S2x2x128x512.set fullShare (b21 m c) n
  | 10 => hold cc0_scratch22 Finset.univ fullShare (acs m c) n
  | 11 => hold cc0_scratch18 z0_S2x416x512.set fullShare (sc00 m c) n
  | 12 => hold cc0_scratch18 z1_S2x416x512.set fullShare (sc01 m c) n
  | 13 => hold cc0_scratch19 z0_S2x128x256.set fullShare (sc10 m c) n
  | 14 => hold cc0_scratch19 z1_S2x128x256.set fullShare (sc11 m c) n
  | 15 => hold cc0_scratch20 z0_S2x128x512.set fullShare (sc20 m c) n
  | 16 => hold cc0_scratch20 z1_S2x128x512.set fullShare (sc21 m c) n
  | 17 => hold cc0_scratch23 Finset.univ fullShare (sbt m c) n
  | 18 => hold cc0_stg1_0 (o29 c).set fullShare (om0 m c) n
  | 19 => hold cc0_stg2_0 (o34 c).set fullShare (om1 m c) n
  | _ => hold cc0_stg3_0 (o39 c).set fullShare (om2 m c) n
def landR (k : Fin 21) (c n : Dev nD) : sProp 𝕄 := match k.val with
  | 0 => hole cc0_scratch3 Finset.univ n
  | 1 => hole cc0_scratch4 Finset.univ n
  | 2 => hole cc0_scratch5 Finset.univ n
  | 3 => hole cc0_scratch21 Finset.univ n
  | 4 => hole cc0_scratch9 z0_S2x2x416x512.set n
  | 5 => hole cc0_scratch9 z1_S2x2x416x512.set n
  | 6 => hole cc0_scratch10 z0_S2x2x128x256.set n
  | 7 => hole cc0_scratch10 z1_S2x2x128x256.set n
  | 8 => hole cc0_scratch11 z0_S2x2x128x512.set n
  | 9 => hole cc0_scratch11 z1_S2x2x128x512.set n
  | 10 => hole cc0_scratch22 Finset.univ n
  | 11 => hole cc0_scratch18 z0_S2x416x512.set n
  | 12 => hole cc0_scratch18 z1_S2x416x512.set n
  | 13 => hole cc0_scratch19 z0_S2x128x256.set n
  | 14 => hole cc0_scratch19 z1_S2x128x256.set n
  | 15 => hole cc0_scratch20 z0_S2x128x512.set n
  | 16 => hole cc0_scratch20 z1_S2x128x512.set n
  | 17 => hole cc0_scratch23 Finset.univ n
  | 18 => hole cc0_stg1_0 (o29 c).set n
  | 19 => hole cc0_stg2_0 (o34 c).set n
  | _ => hole cc0_stg3_0 (o39 c).set n
/-- What device `c` receives by copy `k` of its peer. -/
def gotP (k : Fin 21) (c : Dev nD) : sProp 𝕄 := inP m k (peer k c) c
/-- The part of device `c`'s memory that its peer's copy `k` is to fill; the part of its peer's that its own is to fill. -/
def inl (k : Fin 21) (c : Dev nD) : sProp 𝕄 := landR (F := F) k (peer k c) c
def land (k : Fin 21) (c : Dev nD) : sProp 𝕄 := landR (F := F) k c (peer k c)
/-- What a local copy leaves, with its source. -/
def locP (a : Fin 3) (c : Dev nD) : sProp 𝕄 := match a with
  | 0 => iprop(hold cc0_scratch0 Finset.univ fullShare (la0 m c) c ∗ hold main_arg0 (o2 c).set fullShare (gv0 m c) c)
  | 1 => iprop(hold cc0_scratch1 Finset.univ fullShare (la1 m c) c ∗ hold main_arg1 (o4 c).set fullShare (gv1 m c) c)
  | 2 => iprop(hold cc0_scratch2 Finset.univ fullShare (la2 m c) c ∗ hold main_arg2 (o6 c).set fullShare (gv2 m c) c)

/-- What a signal of the handshake hands over: the memory of the signaller that the signalled device is to fill. -/
def sibPay (c : Dev nD) : sProp 𝕄 :=
  iprop(land (F := F) 0 c ∗ land (F := F) 1 c ∗ land (F := F) 2 c ∗ land (F := F) 3 c ∗ land (F := F) 18 c ∗ land (F := F) 19 c ∗ land (F := F) 20 c)
def xnPay (c : Dev nD) : sProp 𝕄 :=
  iprop(land (F := F) 4 c ∗ land (F := F) 6 c ∗ land (F := F) 8 c ∗ land (F := F) 10 c ∗ land (F := F) 12 c ∗ land (F := F) 14 c ∗ land (F := F) 16 c)
def ynPay (c : Dev nD) : sProp 𝕄 :=
  iprop(land (F := F) 5 c ∗ land (F := F) 7 c ∗ land (F := F) 9 c ∗ land (F := F) 11 c ∗ land (F := F) 13 c ∗ land (F := F) 15 c ∗ land (F := F) 17 c)
def barPay (d : Fin 3) (c : Dev nD) : sProp 𝕄 := match d with | 0 => sibPay c | 1 => xnPay c | 2 => ynPay c

def ownAmt (x : OIx) : ℕ := match x with | .inl k => amt k | .inr (.inl k) => amt k | .inr (.inr a) => lamt a
def ownPay (x : OIx) (c : Dev nD) : sProp 𝕄 := match x with | .inl k => srcP m k c | .inr (.inl k) => gotP m k c | .inr (.inr a) => locP m a c
theorem ownAmt_pos (x : OIx) : 0 < ownAmt x := by
  match x with
  | .inl k => exact amt_pos k
  | .inr (.inl k) => exact amt_pos k
  | .inr (.inr a) => exact lamt_pos a

instance srcP_storable (k : Fin 21) (c : Dev nD) : BI.Storable (upEmb : UEmb _ 𝕄) (srcP m k c) := by
  unfold srcP; split <;> infer_instance
instance inP_storable (k : Fin 21) (c n : Dev nD) : BI.Storable (upEmb : UEmb _ 𝕄) (inP m k c n) := by
  unfold inP; split <;> infer_instance
omit [FloatOps F] in
instance landR_storable (k : Fin 21) (c n : Dev nD) : BI.Storable (upEmb : UEmb _ 𝕄) (landR (F := F) k c n) := by
  unfold landR; split <;> infer_instance
instance locP_storable (a : Fin 3) (c : Dev nD) : BI.Storable (upEmb : UEmb _ 𝕄) (locP m a c) := by
  unfold locP; split <;> infer_instance
instance ownPay_storable (x : OIx) (c : Dev nD) : BI.Storable (upEmb : UEmb _ 𝕄) (ownPay m x c) := by
  unfold ownPay gotP; split <;> infer_instance
omit [FloatOps F] in
instance barPay_storable (d : Fin 3) (c : Dev nD) : BI.Storable (upEmb : UEmb _ 𝕄) (barPay (F := F) d c) := by
  unfold barPay sibPay xnPay ynPay land; split <;> infer_instance

/-- One round: the handshake's cell has three duties of one unit; any other has one, of its copy's credit. -/
def Rd : Rounds.Schedule (GSem nD τ sig) (Fin 3) 𝕄 where
  duties g r := if r = 0 ∧ g.1.2 = .tc then
      (match g.2 with | .reg _ => Finset.univ | .dma q => if (sideOf q).isSome then {0} else ∅) else ∅
  unitless _ := False
  amount g _ _ := match g.2 with | .reg _ => 1 | .dma q => match sideOf q with | none => 1 | some x => ownAmt x
  payload g _ d := match g.2 with
    | .reg _ => barPay d g.1.1
    | .dma q => match sideOf q with
      | none => iprop(emp)
      | some x => ownPay m x g.1.1
  amount_pos g _ _ _ := by
    split
    · exact Nat.one_pos
    · split
      · exact Nat.one_pos
      · exact ownAmt_pos _

instance Rd_payload_storable (g : GSem nD τ sig) (r : ℕ) (d : Fin 3) :
    BI.Storable (upEmb : UEmb _ 𝕄) ((Rd (F := F) m).payload g r d) := by
  show BI.Storable upEmb (match g.2 with
    | .reg _ => barPay d g.1.1
    | .dma q => match sideOf q with
      | none => iprop(emp)
      | some x => ownPay m x g.1.1)
  split
  · infer_instance
  · split <;> infer_instance

theorem sideOf_own (x : OIx) {q : DmaSem sig} (hq : osem x = .dma q) : sideOf q = some x := by
  match x with
  | .inl k => exact (SemLoc.dma.inj hq) ▸ sideOf_send k
  | .inr (.inl k) => exact (SemLoc.dma.inj hq) ▸ sideOf_recv k
  | .inr (.inr a) => exact (SemLoc.dma.inj hq) ▸ sideOf_loc a

section Tables
variable (c : Dev nD) (x : OIx)

theorem duties_bar : (Rd (F := F) m).duties (barCell c) 0 = Finset.univ := by dsimp only [Rd]; exact if_pos ⟨rfl, rfl⟩
theorem duties_own : (Rd (F := F) m).duties ((c : Thread nD τ), osem x) 0 = {0} := by
  match x with
  | .inl k => dsimp only [Rd]; rw [if_pos ⟨rfl, rfl⟩, sideOf_send]; rfl
  | .inr (.inl k) => dsimp only [Rd]; rw [if_pos ⟨rfl, rfl⟩, sideOf_recv]; rfl
  | .inr (.inr a) => dsimp only [Rd]; rw [if_pos ⟨rfl, rfl⟩, sideOf_loc]; rfl
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := rfl
theorem amount_own (d : Fin 3) : (Rd (F := F) m).amount ((c : Thread nD τ), osem x) 0 d = ownAmt x := by
  match x with
  | .inl k => dsimp only [Rd]; rw [sideOf_send]
  | .inr (.inl k) => dsimp only [Rd]; rw [sideOf_recv]
  | .inr (.inr a) => dsimp only [Rd]; rw [sideOf_loc]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_own : (Rd (F := F) m).expect ((c : Thread nD τ), osem x) 0 = ownAmt x := by
  unfold Schedule.expect Schedule.amountOf; rw [duties_own, Finset.sum_singleton, amount_own]

theorem payload_bar (d : Fin 3) : (Rd (F := F) m).payload (barCell c) 0 d = barPay d c := rfl
theorem payload_own (d : Fin 3) : (Rd (F := F) m).payload ((c : Thread nD τ), osem x) 0 d = ownPay m x c := by
  match x with
  | .inl k => dsimp only [Rd]; rw [sideOf_send]
  | .inr (.inl k) => dsimp only [Rd]; rw [sideOf_recv]
  | .inr (.inr a) => dsimp only [Rd]; rw [sideOf_loc]

theorem rest_bar : bigSep ((Rd (F := F) m).duties (barCell c) 0 \ ∅) (fun d => (Rd (F := F) m).payload (barCell c) 0 d)
    = iprop(sibPay c ∗ xnPay c ∗ ynPay c) := by
  rw [Finset.sdiff_empty, duties_bar, bigSep_univ_eq_bigSepL [0, 1, 2] (by decide) (by decide), bigSepL_cons_cons, bigSepL_cons_cons, bigSepL_singleton]
  rfl
theorem rest_own : bigSep ((Rd (F := F) m).duties ((c : Thread nD τ), osem x) 0 \ ∅) (fun d => (Rd (F := F) m).payload ((c : Thread nD τ), osem x) 0 d)
    = ownPay m x c := by
  rw [Finset.sdiff_empty, duties_own, bigSep_singleton, payload_own]

end Tables

/-! ## What a device owes, and the levels -/

/-- The copies in the order a device issues them. -/
def allK : List (Fin 21) := [0, 1, 2, 3, 4, 5, 6, 7, 8, 9, 10, 11, 12, 13, 14, 15, 16, 17, 18, 19, 20]

/-- The credits of the copies still to be issued. -/
def owe (c : Dev nD) : List (Fin 21) → CellTallies nD τ sig Unit
  | [] => 0
  | k :: l => owe c l + tallyAt (recvCell (peer k c) k) () (amt k)
/-- With the handshake's units, in the order of the signals. -/
def O₂ (c : Dev nD) : CellTallies nD τ sig Unit := owe c allK + tallyAt (barCell (yn c)) () 1
def O₁ (c : Dev nD) : CellTallies nD τ sig Unit := O₂ c + tallyAt (barCell (xn c)) () 1
def O₀ (c : Dev nD) : CellTallies nD τ sig Unit := O₁ c + tallyAt (barCell (sib c)) () 1

def L (g : GSem nD τ sig) : Finset Unit := if g.1.2 = .tc then {()} else ∅
def rlev (k : Fin 21) : ℕ := match k.val with
  | 0 => 2
  | 1 => 2
  | 2 => 2
  | 3 => 2
  | 4 => 3
  | 5 => 3
  | 6 => 3
  | 7 => 3
  | 8 => 3
  | 9 => 3
  | 10 => 3
  | 11 => 4
  | 12 => 4
  | 13 => 4
  | 14 => 4
  | 15 => 4
  | 16 => 4
  | 17 => 4
  | 18 => 5
  | 19 => 5
  | _ => 5
/-- The handshake at 1, a receive cell by the step of its copy, everything else at 0. -/
def lv (g : GSem nD τ sig) (_ : Unit) : ℕ := match g.2 with
  | .reg _ => 1
  | .dma q => match sideOf q with | some (.inr (.inl k)) => rlev k | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 21) : lv (recvCell c k) () = rlev k := by dsimp only [lv]; rw [sideOf_recv]
theorem lv_send (c : Dev nD) (k : Fin 21) : lv (sendCell c k) () = 0 := by dsimp only [lv]; rw [sideOf_send]
theorem lv_loc (c : Dev nD) (a : Fin 3) : lv (locCell c a) () = 0 := by dsimp only [lv]; rw [sideOf_loc]

theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem owe_pos {c : Dev nD} {l : List (Fin 21)} {g : GSem nD τ sig} {u : Unit} (h : 0 < owe c l g u) :
    ∃ k ∈ l, g = recvCell (peer k c) k := by
  induction l with
  | nil => exact absurd h (Nat.lt_irrefl 0)
  | cons k l ih =>
    rw [owe, Pi.add_apply, Finsupp.add_apply] at h
    rcases Nat.eq_zero_or_pos (owe c l g u) with h0 | h0
    · rw [h0, Nat.zero_add] at h
      exact ⟨k, List.mem_cons_self, tally_pos h⟩
    · obtain ⟨k', hk', e⟩ := ih h0
      exact ⟨k', List.mem_cons_of_mem _ hk', e⟩

theorem O₀_pos {c : Dev nD} {g : GSem nD τ sig} {u : Unit} (h : 0 < O₀ c g u) :
    (∃ k ∈ allK, g = recvCell (peer k c) k) ∨ ∃ d, g = barCell d := by
  unfold O₀ O₁ O₂ at h
  simp only [Pi.add_apply, Finsupp.add_apply] at h
  rcases Nat.eq_zero_or_pos (owe c allK g u) with h0 | h0
  · right
    rcases Nat.eq_zero_or_pos (tallyAt (barCell (yn c)) () 1 g u) with h1 | h1
    · rcases Nat.eq_zero_or_pos (tallyAt (barCell (xn c)) () 1 g u) with h2 | h2
      · exact ⟨sib c, tally_pos (show 0 < tallyAt (barCell (sib c)) () 1 g u by omega)⟩
      · exact ⟨xn c, tally_pos h2⟩
    · exact ⟨yn c, tally_pos h1⟩
  · exact .inl (owe_pos h0)

/-- A wait at a level below every copy still to be issued. -/
theorem mayWait_owe (c : Dev nD) (sm : SemLoc sig) (l : List (Fin 21)) (n : ℕ) (hn : lv ((c : Thread nD τ), sm) () = n)
    (hl : ∀ k ∈ l, n < rlev k) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨k, hk, rfl⟩ := owe_pos hg; exact Finset.mem_singleton_self _)
    (fun p hp => by rw [Finset.mem_singleton.mp hp]; exact le_of_eq hn)
    (fun g u hg => by obtain ⟨k, hk, rfl⟩ := owe_pos hg; cases u; rw [lv_recv]; exact hl k hk)

theorem rlev_pos (k : Fin 21) : 1 < rlev k := by revert k; decide

/-- The staging waits, before and after. -/
theorem mayWait_stage (c : Dev nD) (q : DmaSem sig) (hq : sideOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, _, rfl⟩ | ⟨d, rfl⟩ <;> exact Finset.mem_singleton_self _)
      (fun p hp => by rw [Finset.mem_singleton.mp hp]; dsimp only [lv]; rw [hq])
      (fun g u hg => by
        rcases O₀_pos hg with ⟨k, _, rfl⟩ | ⟨d, rfl⟩
        · cases u; rw [lv_recv]; have := rlev_pos k; omega
        · exact Nat.one_pos)
  · rw [MayWait_zero]; iintro -; iempintro

end Cert.ReduceProof

end
-- ==== Proof.Reduce.Copies.lean ====
/-
Each copy's source and destination as views of their buffers: the pieces the protocol hands around are what the copy
reads and writes.
-/
module

public import proofs.«01_k».proof.Proof.Reduce.Sched

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem pt_congr {ℓ : Loc nD τ sig} {S T : Finset ℓ.2.ty.Idx} {q : PosShare TreeShare} {f : Buf (Elt F) ℓ} (h : S = T) :
    ((ℓ ↦[S]{q} f : sProp 𝕄)) = ℓ ↦[T]{q} f := h ▸ rfl

/-! ### Remote copy 0 -/
abbrev sM0 (c : Dev nD) : Memref sig .tc .hbm S2x2x416x1024 .f32 := ((Memref.whole main_arg0).slice (o1 c) (fun _ => rfl)).squeeze S2x2x416x1024 squeezes_S2x2x1x416x1024_S2x2x416x1024
abbrev dM0 (c : Dev nD) : Memref sig .tc .vmem S2x2x416x1024 .f32 := Memref.whole cc0_scratch3
theorem src0 (c : Dev nD) : srcP m 0 c = ((sM0 c).view.loc (c : Thread nD τ) ↦[(sM0 c).view.set]{fullShare} gv0 m c) :=
  pt_congr (ℓ := (c : Thread nD τ).loc main_arg0) (sq_set main_arg0 (o1 c) (fun _ => rfl) S2x2x416x1024 squeezes_S2x2x1x416x1024_S2x2x416x1024).symm
theorem lnd0 (c n : Dev nD) : landR (F := F) 0 c n = iprop(∃ f, (dM0 c).view.loc (n : Thread nD τ) ↦[(dM0 c).view.set]{fullShare} f) :=
  congrArg (fun g : _ → sProp 𝕄 => iprop(∃ f, g f)) (funext fun f => pt_congr (ℓ := (n : Thread nD τ).loc cc0_scratch3) (View.set_whole cc0_scratch3).symm)
theorem got0 (c n : Dev nD) (fd) : ((dM0 c).view.loc (n : Thread nD τ) ↦[(dM0 c).view.set]{fullShare}
      ((dM0 c).view.write (Elt F) fd ((sM0 c).view.read (Elt F) (gv0 m c)) Finset.univ) : sProp 𝕄) ⊢ inP m 0 c n :=
  (Entails.of_eq (pointsTo_congr (wr_eq (dM0 c).view (V := cp0 m c) (fun x => rfl)))).trans
    (Entails.of_eq (pt_congr (ℓ := (n : Thread nD τ).loc cc0_scratch3) (View.set_whole cc0_scratch3)))
/-! ### Remote copy 1 -/
abbrev sM1 (c : Dev nD) : Memref sig .tc .hbm S2x2x128x512 .f32 := ((Memref.whole main_arg1).slice (o3 c) (fun _ => rfl)).squeeze S2x2x128x512 squeezes_S2x2x1x128x512_S2x2x128x512
abbrev dM1 (c : Dev nD) : Memref sig .tc .vmem S2x2x128x512 .f32 := Memref.whole cc0_scratch4
theorem src1 (c : Dev nD) : srcP m 1 c = ((sM1 c).view.loc (c : Thread nD τ) ↦[(sM1 c).view.set]{fullShare} gv1 m c) :=
  pt_congr (ℓ := (c : Thread nD τ).loc main_arg1) (sq_set main_arg1 (o3 c) (fun _ => rfl) S2x2x128x512 squeezes_S2x2x1x128x512_S2x2x128x512).symm
theorem lnd1 (c n : Dev nD) : landR (F := F) 1 c n = iprop(∃ f, (dM1 c).view.loc (n : Thread nD τ) ↦[(dM1 c).view.set]{fullShare} f) :=
  congrArg (fun g : _ → sProp 𝕄 => iprop(∃ f, g f)) (funext fun f => pt_congr (ℓ := (n : Thread nD τ).loc cc0_scratch4) (View.set_whole cc0_scratch4).symm)
theorem got1 (c n : Dev nD) (fd) : ((dM1 c).view.loc (n : Thread nD τ) ↦[(dM1 c).view.set]{fullShare}
      ((dM1 c).view.write (Elt F) fd ((sM1 c).view.read (Elt F) (gv1 m c)) Finset.univ) : sProp 𝕄) ⊢ inP m 1 c n :=
  (Entails.of_eq (pointsTo_congr (wr_eq (dM1 c).view (V := cp1 m c) (fun x => rfl)))).trans
    (Entails.of_eq (pt_congr (ℓ := (n : Thread nD τ).loc cc0_scratch4) (View.set_whole cc0_scratch4)))
/-! ### Remote copy 2 -/
abbrev sM2 (c : Dev nD) : Memref sig .tc .hbm S2x2x128x1024 .f32 := ((Memref.whole main_arg2).slice (o5 c) (fun _ => rfl)).squeeze S2x2x128x1024 squeezes_S2x2x1x128x1024_S2x2x128x1024
abbrev dM2 (c : Dev nD) : Memref sig .tc .vmem S2x2x128x1024 .f32 := Memref.whole cc0_scratch5
theorem src2 (c : Dev nD) : srcP m 2 c = ((sM2 c).view.loc (c : Thread nD τ) ↦[(sM2 c).view.set]{fullShare} gv2 m c) :=
  pt_congr (ℓ := (c : Thread nD τ).loc main_arg2) (sq_set main_arg2 (o5 c) (fun _ => rfl) S2x2x128x1024 squeezes_S2x2x1x128x1024_S2x2x128x1024).symm
theorem lnd2 (c n : Dev nD) : landR (F := F) 2 c n = iprop(∃ f, (dM2 c).view.loc (n : Thread nD τ) ↦[(dM2 c).view.set]{fullShare} f) :=
  congrArg (fun g : _ → sProp 𝕄 => iprop(∃ f, g f)) (funext fun f => pt_congr (ℓ := (n : Thread nD τ).loc cc0_scratch5) (View.set_whole cc0_scratch5).symm)
theorem got2 (c n : Dev nD) (fd) : ((dM2 c).view.loc (n : Thread nD τ) ↦[(dM2 c).view.set]{fullShare}
      ((dM2 c).view.write (Elt F) fd ((sM2 c).view.read (Elt F) (gv2 m c)) Finset.univ) : sProp 𝕄) ⊢ inP m 2 c n :=
  (Entails.of_eq (pointsTo_congr (wr_eq (dM2 c).view (V := cp2 m c) (fun x => rfl)))).trans
    (Entails.of_eq (pt_congr (ℓ := (n : Thread nD τ).loc cc0_scratch5) (View.set_whole cc0_scratch5)))
/-! ### Remote copy 3 -/
abbrev sM3 (c : Dev nD) : Memref sig .tc .vmem S640x128 .f32 := Memref.whole cc0_stg0_0
abbrev dM3 (c : Dev nD) : Memref sig .tc .vmem S640x128 .f32 := Memref.whole cc0_scratch21
theorem src3 (c : Dev nD) : srcP m 3 c = ((sM3 c).view.loc (c : Thread nD τ) ↦[(sM3 c).view.set]{fullShare.left} smv m c) :=
  pt_congr (ℓ := (c : Thread nD τ).loc cc0_stg0_0) (View.set_whole cc0_stg0_0).symm
theorem lnd3 (c n : Dev nD) : landR (F := F) 3 c n = iprop(∃ f, (dM3 c).view.loc (n : Thread nD τ) ↦[(dM3 c).view.set]{fullShare} f) :=
  congrArg (fun g : _ → sProp 𝕄 => iprop(∃ f, g f)) (funext fun f => pt_congr (ℓ := (n : Thread nD τ).loc cc0_scratch21) (View.set_whole cc0_scratch21).symm)
theorem got3 (c n : Dev nD) (fd) : ((dM3 c).view.loc (n : Thread nD τ) ↦[(dM3 c).view.set]{fullShare}
      ((dM3 c).view.write (Elt F) fd ((sM3 c).view.read (Elt F) (smv m c)) Finset.univ) : sProp 𝕄) ⊢ inP m 3 c n :=
  (Entails.of_eq (pointsTo_congr (wr_eq (dM3 c).view (V := smv m c) (fun x => rfl)))).trans
    (Entails.of_eq (pt_congr (ℓ := (n : Thread nD τ).loc cc0_scratch21) (View.set_whole cc0_scratch21)))
/-! ### Remote copy 4 -/
abbrev sM4 (c : Dev nD) : Memref sig .tc .vmem S2x416x512 .bf16 := ((Memref.whole cc0_scratch6).slice (z0_S2x2x416x512) (fun _ => rfl)).squeeze S2x416x512 squeezes_S1x2x416x512_S2x416x512
abbrev dM4 (c : Dev nD) : Memref sig .tc .vmem S2x416x512 .bf16 := ((Memref.whole cc0_scratch9).slice (z0_S2x2x416x512) (fun _ => rfl)).squeeze S2x416x512 squeezes_S1x2x416x512_S2x416x512
theorem src4 (c : Dev nD) : srcP m 4 c = ((sM4 c).view.loc (c : Thread nD τ) ↦[(sM4 c).view.set]{fullShare} b00 m c) :=
  pt_congr (ℓ := (c : Thread nD τ).loc cc0_scratch6) (sq_set cc0_scratch6 (z0_S2x2x416x512) (fun _ => rfl) S2x416x512 squeezes_S1x2x416x512_S2x416x512).symm
theorem lnd4 (c n : Dev nD) : landR (F := F) 4 c n = iprop(∃ f, (dM4 c).view.loc (n : Thread nD τ) ↦[(dM4 c).view.set]{fullShare} f) :=
  congrArg (fun g : _ → sProp 𝕄 => iprop(∃ f, g f)) (funext fun f => pt_congr (ℓ := (n : Thread nD τ).loc cc0_scratch9) (sq_set cc0_scratch9 (z0_S2x2x416x512) (fun _ => rfl) S2x416x512 squeezes_S1x2x416x512_S2x416x512).symm)
theorem got4 (c n : Dev nD) (fd) : ((dM4 c).view.loc (n : Thread nD τ) ↦[(dM4 c).view.set]{fullShare}
      ((dM4 c).view.write (Elt F) fd ((sM4 c).view.read (Elt F) (b00 m c)) Finset.univ) : sProp 𝕄) ⊢ inP m 4 c n :=
  (Entails.of_eq (pointsTo_congr (wr_eq (dM4 c).view (V := b00 m c) (fun x => rfl)))).trans
    (Entails.of_eq (pt_congr (ℓ := (n : Thread nD τ).loc cc0_scratch9) (sq_set cc0_scratch9 (z0_S2x2x416x512) (fun _ => rfl) S2x416x512 squeezes_S1x2x416x512_S2x416x512)))
/-! ### Remote copy 5 -/
abbrev sM5 (c : Dev nD) : Memref sig .tc .vmem S2x416x512 .bf16 := ((Memref.whole cc0_scratch6).slice (z1_S2x2x416x512) (fun _ => rfl)).squeeze S2x416x512 squeezes_S1x2x416x512_S2x416x512
abbrev dM5 (c : Dev nD) : Memref sig .tc .vmem S2x416x512 .bf16 := ((Memref.whole cc0_scratch9).slice (z1_S2x2x416x512) (fun _ => rfl)).squeeze S2x416x512 squeezes_S1x2x416x512_S2x416x512
theorem src5 (c : Dev nD) : srcP m 5 c = ((sM5 c).view.loc (c : Thread nD τ) ↦[(sM5 c).view.set]{fullShare} b01 m c) :=
  pt_congr (ℓ := (c : Thread nD τ).loc cc0_scratch6) (sq_set cc0_scratch6 (z1_S2x2x416x512) (fun _ => rfl) S2x416x512 squeezes_S1x2x416x512_S2x416x512).symm
theorem lnd5 (c n : Dev nD) : landR (F := F) 5 c n = iprop(∃ f, (dM5 c).view.loc (n : Thread nD τ) ↦[(dM5 c).view.set]{fullShare} f) :=
  congrArg (fun g : _ → sProp 𝕄 => iprop(∃ f, g f)) (funext fun f => pt_congr (ℓ := (n : Thread nD τ).loc cc0_scratch9) (sq_set cc0_scratch9 (z1_S2x2x416x512) (fun _ => rfl) S2x416x512 squeezes_S1x2x416x512_S2x416x512).symm)
theorem got5 (c n : Dev nD) (fd) : ((dM5 c).view.loc (n : Thread nD τ) ↦[(dM5 c).view.set]{fullShare}
      ((dM5 c).view.write (Elt F) fd ((sM5 c).view.read (Elt F) (b01 m c)) Finset.univ) : sProp 𝕄) ⊢ inP m 5 c n :=
  (Entails.of_eq (pointsTo_congr (wr_eq (dM5 c).view (V := b01 m c) (fun x => rfl)))).trans
    (Entails.of_eq (pt_congr (ℓ := (n : Thread nD τ).loc cc0_scratch9) (sq_set cc0_scratch9 (z1_S2x2x416x512) (fun _ => rfl) S2x416x512 squeezes_S1x2x416x512_S2x416x512)))
/-! ### Remote copy 6 -/
abbrev sM6 (c : Dev nD) : Memref sig .tc .vmem S2x128x256 .bf16 := ((Memref.whole cc0_scratch7).slice (z0_S2x2x128x256) (fun _ => rfl)).squeeze S2x128x256 squeezes_S1x2x128x256_S2x128x256
abbrev dM6 (c : Dev nD) : Memref sig .tc .vmem S2x128x256 .bf16 := ((Memref.whole cc0_scratch10).slice (z0_S2x2x128x256) (fun _ => rfl)).squeeze S2x128x256 squeezes_S1x2x128x256_S2x128x256
theorem src6 (c : Dev nD) : srcP m 6 c = ((sM6 c).view.loc (c : Thread nD τ) ↦[(sM6 c).view.set]{fullShare} b10 m c) :=
  pt_congr (ℓ := (c : Thread nD τ).loc cc0_scratch7) (sq_set cc0_scratch7 (z0_S2x2x128x256) (fun _ => rfl) S2x128x256 squeezes_S1x2x128x256_S2x128x256).symm
theorem lnd6 (c n : Dev nD) : landR (F := F) 6 c n = iprop(∃ f, (dM6 c).view.loc (n : Thread nD τ) ↦[(dM6 c).view.set]{fullShare} f) :=
  congrArg (fun g : _ → sProp 𝕄 => iprop(∃ f, g f)) (funext fun f => pt_congr (ℓ := (n : Thread nD τ).loc cc0_scratch10) (sq_set cc0_scratch10 (z0_S2x2x128x256) (fun _ => rfl) S2x128x256 squeezes_S1x2x128x256_S2x128x256).symm)
theorem got6 (c n : Dev nD) (fd) : ((dM6 c).view.loc (n : Thread nD τ) ↦[(dM6 c).view.set]{fullShare}
      ((dM6 c).view.write (Elt F) fd ((sM6 c).view.read (Elt F) (b10 m c)) Finset.univ) : sProp 𝕄) ⊢ inP m 6 c n :=
  (Entails.of_eq (pointsTo_congr (wr_eq (dM6 c).view (V := b10 m c) (fun x => rfl)))).trans
    (Entails.of_eq (pt_congr (ℓ := (n : Thread nD τ).loc cc0_scratch10) (sq_set cc0_scratch10 (z0_S2x2x128x256) (fun _ => rfl) S2x128x256 squeezes_S1x2x128x256_S2x128x256)))
/-! ### Remote copy 7 -/
abbrev sM7 (c : Dev nD) : Memref sig .tc .vmem S2x128x256 .bf16 := ((Memref.whole cc0_scratch7).slice (z1_S2x2x128x256) (fun _ => rfl)).squeeze S2x128x256 squeezes_S1x2x128x256_S2x128x256
abbrev dM7 (c : Dev nD) : Memref sig .tc .vmem S2x128x256 .bf16 := ((Memref.whole cc0_scratch10).slice (z1_S2x2x128x256) (fun _ => rfl)).squeeze S2x128x256 squeezes_S1x2x128x256_S2x128x256
theorem src7 (c : Dev nD) : srcP m 7 c = ((sM7 c).view.loc (c : Thread nD τ) ↦[(sM7 c).view.set]{fullShare} b11 m c) :=
  pt_congr (ℓ := (c : Thread nD τ).loc cc0_scratch7) (sq_set cc0_scratch7 (z1_S2x2x128x256) (fun _ => rfl) S2x128x256 squeezes_S1x2x128x256_S2x128x256).symm
theorem lnd7 (c n : Dev nD) : landR (F := F) 7 c n = iprop(∃ f, (dM7 c).view.loc (n : Thread nD τ) ↦[(dM7 c).view.set]{fullShare} f) :=
  congrArg (fun g : _ → sProp 𝕄 => iprop(∃ f, g f)) (funext fun f => pt_congr (ℓ := (n : Thread nD τ).loc cc0_scratch10) (sq_set cc0_scratch10 (z1_S2x2x128x256) (fun _ => rfl) S2x128x256 squeezes_S1x2x128x256_S2x128x256).symm)
theorem got7 (c n : Dev nD) (fd) : ((dM7 c).view.loc (n : Thread nD τ) ↦[(dM7 c).view.set]{fullShare}
      ((dM7 c).view.write (Elt F) fd ((sM7 c).view.read (Elt F) (b11 m c)) Finset.univ) : sProp 𝕄) ⊢ inP m 7 c n :=
  (Entails.of_eq (pointsTo_congr (wr_eq (dM7 c).view (V := b11 m c) (fun x => rfl)))).trans
    (Entails.of_eq (pt_congr (ℓ := (n : Thread nD τ).loc cc0_scratch10) (sq_set cc0_scratch10 (z1_S2x2x128x256) (fun _ => rfl) S2x128x256 squeezes_S1x2x128x256_S2x128x256)))
/-! ### Remote copy 8 -/
abbrev sM8 (c : Dev nD) : Memref sig .tc .vmem S2x128x512 .bf16 := ((Memref.whole cc0_scratch8).slice (z0_S2x2x128x512) (fun _ => rfl)).squeeze S2x128x512 squeezes_S1x2x128x512_S2x128x512
abbrev dM8 (c : Dev nD) : Memref sig .tc .vmem S2x128x512 .bf16 := ((Memref.whole cc0_scratch11).slice (z0_S2x2x128x512) (fun _ => rfl)).squeeze S2x128x512 squeezes_S1x2x128x512_S2x128x512
theorem src8 (c : Dev nD) : srcP m 8 c = ((sM8 c).view.loc (c : Thread nD τ) ↦[(sM8 c).view.set]{fullShare} b20 m c) :=
  pt_congr (ℓ := (c : Thread nD τ).loc cc0_scratch8) (sq_set cc0_scratch8 (z0_S2x2x128x512) (fun _ => rfl) S2x128x512 squeezes_S1x2x128x512_S2x128x512).symm
theorem lnd8 (c n : Dev nD) : landR (F := F) 8 c n = iprop(∃ f, (dM8 c).view.loc (n : Thread nD τ) ↦[(dM8 c).view.set]{fullShare} f) :=
  congrArg (fun g : _ → sProp 𝕄 => iprop(∃ f, g f)) (funext fun f => pt_congr (ℓ := (n : Thread nD τ).loc cc0_scratch11) (sq_set cc0_scratch11 (z0_S2x2x128x512) (fun _ => rfl) S2x128x512 squeezes_S1x2x128x512_S2x128x512).symm)
theorem got8 (c n : Dev nD) (fd) : ((dM8 c).view.loc (n : Thread nD τ) ↦[(dM8 c).view.set]{fullShare}
      ((dM8 c).view.write (Elt F) fd ((sM8 c).view.read (Elt F) (b20 m c)) Finset.univ) : sProp 𝕄) ⊢ inP m 8 c n :=
  (Entails.of_eq (pointsTo_congr (wr_eq (dM8 c).view (V := b20 m c) (fun x => rfl)))).trans
    (Entails.of_eq (pt_congr (ℓ := (n : Thread nD τ).loc cc0_scratch11) (sq_set cc0_scratch11 (z0_S2x2x128x512) (fun _ => rfl) S2x128x512 squeezes_S1x2x128x512_S2x128x512)))
/-! ### Remote copy 9 -/
abbrev sM9 (c : Dev nD) : Memref sig .tc .vmem S2x128x512 .bf16 := ((Memref.whole cc0_scratch8).slice (z1_S2x2x128x512) (fun _ => rfl)).squeeze S2x128x512 squeezes_S1x2x128x512_S2x128x512
abbrev dM9 (c : Dev nD) : Memref sig .tc .vmem S2x128x512 .bf16 := ((Memref.whole cc0_scratch11).slice (z1_S2x2x128x512) (fun _ => rfl)).squeeze S2x128x512 squeezes_S1x2x128x512_S2x128x512
theorem src9 (c : Dev nD) : srcP m 9 c = ((sM9 c).view.loc (c : Thread nD τ) ↦[(sM9 c).view.set]{fullShare} b21 m c) :=
  pt_congr (ℓ := (c : Thread nD τ).loc cc0_scratch8) (sq_set cc0_scratch8 (z1_S2x2x128x512) (fun _ => rfl) S2x128x512 squeezes_S1x2x128x512_S2x128x512).symm
theorem lnd9 (c n : Dev nD) : landR (F := F) 9 c n = iprop(∃ f, (dM9 c).view.loc (n : Thread nD τ) ↦[(dM9 c).view.set]{fullShare} f) :=
  congrArg (fun g : _ → sProp 𝕄 => iprop(∃ f, g f)) (funext fun f => pt_congr (ℓ := (n : Thread nD τ).loc cc0_scratch11) (sq_set cc0_scratch11 (z1_S2x2x128x512) (fun _ => rfl) S2x128x512 squeezes_S1x2x128x512_S2x128x512).symm)
theorem got9 (c n : Dev nD) (fd) : ((dM9 c).view.loc (n : Thread nD τ) ↦[(dM9 c).view.set]{fullShare}
      ((dM9 c).view.write (Elt F) fd ((sM9 c).view.read (Elt F) (b21 m c)) Finset.univ) : sProp 𝕄) ⊢ inP m 9 c n :=
  (Entails.of_eq (pointsTo_congr (wr_eq (dM9 c).view (V := b21 m c) (fun x => rfl)))).trans
    (Entails.of_eq (pt_congr (ℓ := (n : Thread nD τ).loc cc0_scratch11) (sq_set cc0_scratch11 (z1_S2x2x128x512) (fun _ => rfl) S2x128x512 squeezes_S1x2x128x512_S2x128x512)))
/-! ### Remote copy 10 -/
abbrev sM10 (c : Dev nD) : Memref sig .tc .vmem S640x128 .f32 := Memref.whole cc0_scratch24
abbrev dM10 (c : Dev nD) : Memref sig .tc .vmem S640x128 .f32 := Memref.whole cc0_scratch22
theorem src10 (c : Dev nD) : srcP m 10 c = ((sM10 c).view.loc (c : Thread nD τ) ↦[(sM10 c).view.set]{fullShare.left} acs m c) :=
  pt_congr (ℓ := (c : Thread nD τ).loc cc0_scratch24) (View.set_whole cc0_scratch24).symm
theorem lnd10 (c n : Dev nD) : landR (F := F) 10 c n = iprop(∃ f, (dM10 c).view.loc (n : Thread nD τ) ↦[(dM10 c).view.set]{fullShare} f) :=
  congrArg (fun g : _ → sProp 𝕄 => iprop(∃ f, g f)) (funext fun f => pt_congr (ℓ := (n : Thread nD τ).loc cc0_scratch22) (View.set_whole cc0_scratch22).symm)
theorem got10 (c n : Dev nD) (fd) : ((dM10 c).view.loc (n : Thread nD τ) ↦[(dM10 c).view.set]{fullShare}
      ((dM10 c).view.write (Elt F) fd ((sM10 c).view.read (Elt F) (acs m c)) Finset.univ) : sProp 𝕄) ⊢ inP m 10 c n :=
  (Entails.of_eq (pointsTo_congr (wr_eq (dM10 c).view (V := acs m c) (fun x => rfl)))).trans
    (Entails.of_eq (pt_congr (ℓ := (n : Thread nD τ).loc cc0_scratch22) (View.set_whole cc0_scratch22)))
/-! ### Remote copy 11 -/
abbrev sM11 (c : Dev nD) : Memref sig .tc .vmem S416x512 .bf16 := ((Memref.whole cc0_scratch15).slice (z0_S2x416x512) (fun _ => rfl)).squeeze S416x512 squeezes_S1x416x512_S416x512
abbrev dM11 (c : Dev nD) : Memref sig .tc .vmem S416x512 .bf16 := ((Memref.whole cc0_scratch18).slice (z0_S2x416x512) (fun _ => rfl)).squeeze S416x512 squeezes_S1x416x512_S416x512
theorem src11 (c : Dev nD) : srcP m 11 c = ((sM11 c).view.loc (c : Thread nD τ) ↦[(sM11 c).view.set]{fullShare} sc00 m c) :=
  pt_congr (ℓ := (c : Thread nD τ).loc cc0_scratch15) (sq_set cc0_scratch15 (z0_S2x416x512) (fun _ => rfl) S416x512 squeezes_S1x416x512_S416x512).symm
theorem lnd11 (c n : Dev nD) : landR (F := F) 11 c n = iprop(∃ f, (dM11 c).view.loc (n : Thread nD τ) ↦[(dM11 c).view.set]{fullShare} f) :=
  congrArg (fun g : _ → sProp 𝕄 => iprop(∃ f, g f)) (funext fun f => pt_congr (ℓ := (n : Thread nD τ).loc cc0_scratch18) (sq_set cc0_scratch18 (z0_S2x416x512) (fun _ => rfl) S416x512 squeezes_S1x416x512_S416x512).symm)
theorem got11 (c n : Dev nD) (fd) : ((dM11 c).view.loc (n : Thread nD τ) ↦[(dM11 c).view.set]{fullShare}
      ((dM11 c).view.write (Elt F) fd ((sM11 c).view.read (Elt F) (sc00 m c)) Finset.univ) : sProp 𝕄) ⊢ inP m 11 c n :=
  (Entails.of_eq (pointsTo_congr (wr_eq (dM11 c).view (V := sc00 m c) (fun x => rfl)))).trans
    (Entails.of_eq (pt_congr (ℓ := (n : Thread nD τ).loc cc0_scratch18) (sq_set cc0_scratch18 (z0_S2x416x512) (fun _ => rfl) S416x512 squeezes_S1x416x512_S416x512)))
/-! ### Remote copy 12 -/
abbrev sM12 (c : Dev nD) : Memref sig .tc .vmem S416x512 .bf16 := ((Memref.whole cc0_scratch15).slice (z1_S2x416x512) (fun _ => rfl)).squeeze S416x512 squeezes_S1x416x512_S416x512
abbrev dM12 (c : Dev nD) : Memref sig .tc .vmem S416x512 .bf16 := ((Memref.whole cc0_scratch18).slice (z1_S2x416x512) (fun _ => rfl)).squeeze S416x512 squeezes_S1x416x512_S416x512
theorem src12 (c : Dev nD) : srcP m 12 c = ((sM12 c).view.loc (c : Thread nD τ) ↦[(sM12 c).view.set]{fullShare} sc01 m c) :=
  pt_congr (ℓ := (c : Thread nD τ).loc cc0_scratch15) (sq_set cc0_scratch15 (z1_S2x416x512) (fun _ => rfl) S416x512 squeezes_S1x416x512_S416x512).symm
theorem lnd12 (c n : Dev nD) : landR (F := F) 12 c n = iprop(∃ f, (dM12 c).view.loc (n : Thread nD τ) ↦[(dM12 c).view.set]{fullShare} f) :=
  congrArg (fun g : _ → sProp 𝕄 => iprop(∃ f, g f)) (funext fun f => pt_congr (ℓ := (n : Thread nD τ).loc cc0_scratch18) (sq_set cc0_scratch18 (z1_S2x416x512) (fun _ => rfl) S416x512 squeezes_S1x416x512_S416x512).symm)
theorem got12 (c n : Dev nD) (fd) : ((dM12 c).view.loc (n : Thread nD τ) ↦[(dM12 c).view.set]{fullShare}
      ((dM12 c).view.write (Elt F) fd ((sM12 c).view.read (Elt F) (sc01 m c)) Finset.univ) : sProp 𝕄) ⊢ inP m 12 c n :=
  (Entails.of_eq (pointsTo_congr (wr_eq (dM12 c).view (V := sc01 m c) (fun x => rfl)))).trans
    (Entails.of_eq (pt_congr (ℓ := (n : Thread nD τ).loc cc0_scratch18) (sq_set cc0_scratch18 (z1_S2x416x512) (fun _ => rfl) S416x512 squeezes_S1x416x512_S416x512)))
/-! ### Remote copy 13 -/
abbrev sM13 (c : Dev nD) : Memref sig .tc .vmem S128x256 .bf16 := ((Memref.whole cc0_scratch16).slice (z0_S2x128x256) (fun _ => rfl)).squeeze S128x256 squeezes_S1x128x256_S128x256
abbrev dM13 (c : Dev nD) : Memref sig .tc .vmem S128x256 .bf16 := ((Memref.whole cc0_scratch19).slice (z0_S2x128x256) (fun _ => rfl)).squeeze S128x256 squeezes_S1x128x256_S128x256
theorem src13 (c : Dev nD) : srcP m 13 c = ((sM13 c).view.loc (c : Thread nD τ) ↦[(sM13 c).view.set]{fullShare} sc10 m c) :=
  pt_congr (ℓ := (c : Thread nD τ).loc cc0_scratch16) (sq_set cc0_scratch16 (z0_S2x128x256) (fun _ => rfl) S128x256 squeezes_S1x128x256_S128x256).symm
theorem lnd13 (c n : Dev nD) : landR (F := F) 13 c n = iprop(∃ f, (dM13 c).view.loc (n : Thread nD τ) ↦[(dM13 c).view.set]{fullShare} f) :=
  congrArg (fun g : _ → sProp 𝕄 => iprop(∃ f, g f)) (funext fun f => pt_congr (ℓ := (n : Thread nD τ).loc cc0_scratch19) (sq_set cc0_scratch19 (z0_S2x128x256) (fun _ => rfl) S128x256 squeezes_S1x128x256_S128x256).symm)
theorem got13 (c n : Dev nD) (fd) : ((dM13 c).view.loc (n : Thread nD τ) ↦[(dM13 c).view.set]{fullShare}
      ((dM13 c).view.write (Elt F) fd ((sM13 c).view.read (Elt F) (sc10 m c)) Finset.univ) : sProp 𝕄) ⊢ inP m 13 c n :=
  (Entails.of_eq (pointsTo_congr (wr_eq (dM13 c).view (V := sc10 m c) (fun x => rfl)))).trans
    (Entails.of_eq (pt_congr (ℓ := (n : Thread nD τ).loc cc0_scratch19) (sq_set cc0_scratch19 (z0_S2x128x256) (fun _ => rfl) S128x256 squeezes_S1x128x256_S128x256)))
/-! ### Remote copy 14 -/
abbrev sM14 (c : Dev nD) : Memref sig .tc .vmem S128x256 .bf16 := ((Memref.whole cc0_scratch16).slice (z1_S2x128x256) (fun _ => rfl)).squeeze S128x256 squeezes_S1x128x256_S128x256
abbrev dM14 (c : Dev nD) : Memref sig .tc .vmem S128x256 .bf16 := ((Memref.whole cc0_scratch19).slice (z1_S2x128x256) (fun _ => rfl)).squeeze S128x256 squeezes_S1x128x256_S128x256
theorem src14 (c : Dev nD) : srcP m 14 c = ((sM14 c).view.loc (c : Thread nD τ) ↦[(sM14 c).view.set]{fullShare} sc11 m c) :=
  pt_congr (ℓ := (c : Thread nD τ).loc cc0_scratch16) (sq_set cc0_scratch16 (z1_S2x128x256) (fun _ => rfl) S128x256 squeezes_S1x128x256_S128x256).symm
theorem lnd14 (c n : Dev nD) : landR (F := F) 14 c n = iprop(∃ f, (dM14 c).view.loc (n : Thread nD τ) ↦[(dM14 c).view.set]{fullShare} f) :=
  congrArg (fun g : _ → sProp 𝕄 => iprop(∃ f, g f)) (funext fun f => pt_congr (ℓ := (n : Thread nD τ).loc cc0_scratch19) (sq_set cc0_scratch19 (z1_S2x128x256) (fun _ => rfl) S128x256 squeezes_S1x128x256_S128x256).symm)
theorem got14 (c n : Dev nD) (fd) : ((dM14 c).view.loc (n : Thread nD τ) ↦[(dM14 c).view.set]{fullShare}
      ((dM14 c).view.write (Elt F) fd ((sM14 c).view.read (Elt F) (sc11 m c)) Finset.univ) : sProp 𝕄) ⊢ inP m 14 c n :=
  (Entails.of_eq (pointsTo_congr (wr_eq (dM14 c).view (V := sc11 m c) (fun x => rfl)))).trans
    (Entails.of_eq (pt_congr (ℓ := (n : Thread nD τ).loc cc0_scratch19) (sq_set cc0_scratch19 (z1_S2x128x256) (fun _ => rfl) S128x256 squeezes_S1x128x256_S128x256)))
/-! ### Remote copy 15 -/
abbrev sM15 (c : Dev nD) : Memref sig .tc .vmem S128x512 .bf16 := ((Memref.whole cc0_scratch17).slice (z0_S2x128x512) (fun _ => rfl)).squeeze S128x512 squeezes_S1x128x512_S128x512
abbrev dM15 (c : Dev nD) : Memref sig .tc .vmem S128x512 .bf16 := ((Memref.whole cc0_scratch20).slice (z0_S2x128x512) (fun _ => rfl)).squeeze S128x512 squeezes_S1x128x512_S128x512
theorem src15 (c : Dev nD) : srcP m 15 c = ((sM15 c).view.loc (c : Thread nD τ) ↦[(sM15 c).view.set]{fullShare} sc20 m c) :=
  pt_congr (ℓ := (c : Thread nD τ).loc cc0_scratch17) (sq_set cc0_scratch17 (z0_S2x128x512) (fun _ => rfl) S128x512 squeezes_S1x128x512_S128x512).symm
theorem lnd15 (c n : Dev nD) : landR (F := F) 15 c n = iprop(∃ f, (dM15 c).view.loc (n : Thread nD τ) ↦[(dM15 c).view.set]{fullShare} f) :=
  congrArg (fun g : _ → sProp 𝕄 => iprop(∃ f, g f)) (funext fun f => pt_congr (ℓ := (n : Thread nD τ).loc cc0_scratch20) (sq_set cc0_scratch20 (z0_S2x128x512) (fun _ => rfl) S128x512 squeezes_S1x128x512_S128x512).symm)
theorem got15 (c n : Dev nD) (fd) : ((dM15 c).view.loc (n : Thread nD τ) ↦[(dM15 c).view.set]{fullShare}
      ((dM15 c).view.write (Elt F) fd ((sM15 c).view.read (Elt F) (sc20 m c)) Finset.univ) : sProp 𝕄) ⊢ inP m 15 c n :=
  (Entails.of_eq (pointsTo_congr (wr_eq (dM15 c).view (V := sc20 m c) (fun x => rfl)))).trans
    (Entails.of_eq (pt_congr (ℓ := (n : Thread nD τ).loc cc0_scratch20) (sq_set cc0_scratch20 (z0_S2x128x512) (fun _ => rfl) S128x512 squeezes_S1x128x512_S128x512)))
/-! ### Remote copy 16 -/
abbrev sM16 (c : Dev nD) : Memref sig .tc .vmem S128x512 .bf16 := ((Memref.whole cc0_scratch17).slice (z1_S2x128x512) (fun _ => rfl)).squeeze S128x512 squeezes_S1x128x512_S128x512
abbrev dM16 (c : Dev nD) : Memref sig .tc .vmem S128x512 .bf16 := ((Memref.whole cc0_scratch20).slice (z1_S2x128x512) (fun _ => rfl)).squeeze S128x512 squeezes_S1x128x512_S128x512
theorem src16 (c : Dev nD) : srcP m 16 c = ((sM16 c).view.loc (c : Thread nD τ) ↦[(sM16 c).view.set]{fullShare} sc21 m c) :=
  pt_congr (ℓ := (c : Thread nD τ).loc cc0_scratch17) (sq_set cc0_scratch17 (z1_S2x128x512) (fun _ => rfl) S128x512 squeezes_S1x128x512_S128x512).symm
theorem lnd16 (c n : Dev nD) : landR (F := F) 16 c n = iprop(∃ f, (dM16 c).view.loc (n : Thread nD τ) ↦[(dM16 c).view.set]{fullShare} f) :=
  congrArg (fun g : _ → sProp 𝕄 => iprop(∃ f, g f)) (funext fun f => pt_congr (ℓ := (n : Thread nD τ).loc cc0_scratch20) (sq_set cc0_scratch20 (z1_S2x128x512) (fun _ => rfl) S128x512 squeezes_S1x128x512_S128x512).symm)
theorem got16 (c n : Dev nD) (fd) : ((dM16 c).view.loc (n : Thread nD τ) ↦[(dM16 c).view.set]{fullShare}
      ((dM16 c).view.write (Elt F) fd ((sM16 c).view.read (Elt F) (sc21 m c)) Finset.univ) : sProp 𝕄) ⊢ inP m 16 c n :=
  (Entails.of_eq (pointsTo_congr (wr_eq (dM16 c).view (V := sc21 m c) (fun x => rfl)))).trans
    (Entails.of_eq (pt_congr (ℓ := (n : Thread nD τ).loc cc0_scratch20) (sq_set cc0_scratch20 (z1_S2x128x512) (fun _ => rfl) S128x512 squeezes_S1x128x512_S128x512)))
/-! ### Remote copy 17 -/
abbrev sM17 (c : Dev nD) : Memref sig .tc .vmem S640x128 .f32 := Memref.whole cc0_scratch22
abbrev dM17 (c : Dev nD) : Memref sig .tc .vmem S640x128 .f32 := Memref.whole cc0_scratch23
theorem src17 (c : Dev nD) : srcP m 17 c = ((sM17 c).view.loc (c : Thread nD τ) ↦[(sM17 c).view.set]{fullShare.left} sbt m c) :=
  pt_congr (ℓ := (c : Thread nD τ).loc cc0_scratch22) (View.set_whole cc0_scratch22).symm
theorem lnd17 (c n : Dev nD) : landR (F := F) 17 c n = iprop(∃ f, (dM17 c).view.loc (n : Thread nD τ) ↦[(dM17 c).view.set]{fullShare} f) :=
  congrArg (fun g : _ → sProp 𝕄 => iprop(∃ f, g f)) (funext fun f => pt_congr (ℓ := (n : Thread nD τ).loc cc0_scratch23) (View.set_whole cc0_scratch23).symm)
theorem got17 (c n : Dev nD) (fd) : ((dM17 c).view.loc (n : Thread nD τ) ↦[(dM17 c).view.set]{fullShare}
      ((dM17 c).view.write (Elt F) fd ((sM17 c).view.read (Elt F) (sbt m c)) Finset.univ) : sProp 𝕄) ⊢ inP m 17 c n :=
  (Entails.of_eq (pointsTo_congr (wr_eq (dM17 c).view (V := sbt m c) (fun x => rfl)))).trans
    (Entails.of_eq (pt_congr (ℓ := (n : Thread nD τ).loc cc0_scratch23) (View.set_whole cc0_scratch23)))
/-! ### Remote copy 18 -/
abbrev sM18 (c : Dev nD) : Memref sig .tc .vmem S416x1024 .f32 := (Memref.whole cc0_stg1_0).slice (o29 c) (fun _ => rfl)
abbrev dM18 (c : Dev nD) : Memref sig .tc .vmem S416x1024 .f32 := (Memref.whole cc0_stg1_0).slice (o29 c) (fun _ => rfl)
theorem src18 (c : Dev nD) : srcP m 18 c = ((sM18 c).view.loc (c : Thread nD τ) ↦[(sM18 c).view.set]{fullShare} om0 m c) :=
  pt_congr (ℓ := (c : Thread nD τ).loc cc0_stg1_0) (View.set_slice_whole (Memref.whole cc0_stg1_0).view.ref (o29 c)).symm
theorem lnd18 (c n : Dev nD) : landR (F := F) 18 c n = iprop(∃ f, (dM18 c).view.loc (n : Thread nD τ) ↦[(dM18 c).view.set]{fullShare} f) :=
  congrArg (fun g : _ → sProp 𝕄 => iprop(∃ f, g f)) (funext fun f => pt_congr (ℓ := (n : Thread nD τ).loc cc0_stg1_0) (View.set_slice_whole (Memref.whole cc0_stg1_0).view.ref (o29 c)).symm)
theorem got18 (c n : Dev nD) (fd) : ((dM18 c).view.loc (n : Thread nD τ) ↦[(dM18 c).view.set]{fullShare}
      ((dM18 c).view.write (Elt F) fd ((sM18 c).view.read (Elt F) (om0 m c)) Finset.univ) : sProp 𝕄) ⊢ inP m 18 c n :=
  (Entails.of_eq (pointsTo_congr (wr_eq (dM18 c).view (V := om0 m c) (fun x => rfl)))).trans
    (Entails.of_eq (pt_congr (ℓ := (n : Thread nD τ).loc cc0_stg1_0) (View.set_slice_whole (Memref.whole cc0_stg1_0).view.ref (o29 c))))
/-! ### Remote copy 19 -/
abbrev sM19 (c : Dev nD) : Memref sig .tc .vmem S128x512 .f32 := (Memref.whole cc0_stg2_0).slice (o34 c) (fun _ => rfl)
abbrev dM19 (c : Dev nD) : Memref sig .tc .vmem S128x512 .f32 := (Memref.whole cc0_stg2_0).slice (o34 c) (fun _ => rfl)
theorem src19 (c : Dev nD) : srcP m 19 c = ((sM19 c).view.loc (c : Thread nD τ) ↦[(sM19 c).view.set]{fullShare} om1 m c) :=
  pt_congr (ℓ := (c : Thread nD τ).loc cc0_stg2_0) (View.set_slice_whole (Memref.whole cc0_stg2_0).view.ref (o34 c)).symm
theorem lnd19 (c n : Dev nD) : landR (F := F) 19 c n = iprop(∃ f, (dM19 c).view.loc (n : Thread nD τ) ↦[(dM19 c).view.set]{fullShare} f) :=
  congrArg (fun g : _ → sProp 𝕄 => iprop(∃ f, g f)) (funext fun f => pt_congr (ℓ := (n : Thread nD τ).loc cc0_stg2_0) (View.set_slice_whole (Memref.whole cc0_stg2_0).view.ref (o34 c)).symm)
theorem got19 (c n : Dev nD) (fd) : ((dM19 c).view.loc (n : Thread nD τ) ↦[(dM19 c).view.set]{fullShare}
      ((dM19 c).view.write (Elt F) fd ((sM19 c).view.read (Elt F) (om1 m c)) Finset.univ) : sProp 𝕄) ⊢ inP m 19 c n :=
  (Entails.of_eq (pointsTo_congr (wr_eq (dM19 c).view (V := om1 m c) (fun x => rfl)))).trans
    (Entails.of_eq (pt_congr (ℓ := (n : Thread nD τ).loc cc0_stg2_0) (View.set_slice_whole (Memref.whole cc0_stg2_0).view.ref (o34 c))))
/-! ### Remote copy 20 -/
abbrev sM20 (c : Dev nD) : Memref sig .tc .vmem S128x1024 .f32 := (Memref.whole cc0_stg3_0).slice (o39 c) (fun _ => rfl)
abbrev dM20 (c : Dev nD) : Memref sig .tc .vmem S128x1024 .f32 := (Memref.whole cc0_stg3_0).slice (o39 c) (fun _ => rfl)
theorem src20 (c : Dev nD) : srcP m 20 c = ((sM20 c).view.loc (c : Thread nD τ) ↦[(sM20 c).view.set]{fullShare} om2 m c) :=
  pt_congr (ℓ := (c : Thread nD τ).loc cc0_stg3_0) (View.set_slice_whole (Memref.whole cc0_stg3_0).view.ref (o39 c)).symm
theorem lnd20 (c n : Dev nD) : landR (F := F) 20 c n = iprop(∃ f, (dM20 c).view.loc (n : Thread nD τ) ↦[(dM20 c).view.set]{fullShare} f) :=
  congrArg (fun g : _ → sProp 𝕄 => iprop(∃ f, g f)) (funext fun f => pt_congr (ℓ := (n : Thread nD τ).loc cc0_stg3_0) (View.set_slice_whole (Memref.whole cc0_stg3_0).view.ref (o39 c)).symm)
theorem got20 (c n : Dev nD) (fd) : ((dM20 c).view.loc (n : Thread nD τ) ↦[(dM20 c).view.set]{fullShare}
      ((dM20 c).view.write (Elt F) fd ((sM20 c).view.read (Elt F) (om2 m c)) Finset.univ) : sProp 𝕄) ⊢ inP m 20 c n :=
  (Entails.of_eq (pointsTo_congr (wr_eq (dM20 c).view (V := om2 m c) (fun x => rfl)))).trans
    (Entails.of_eq (pt_congr (ℓ := (n : Thread nD τ).loc cc0_stg3_0) (View.set_slice_whole (Memref.whole cc0_stg3_0).view.ref (o39 c))))
/-! ### Local copy 0 -/
abbrev lS0 (c : Dev nD) : Memref sig .tc .hbm S2x2x416x1024 .f32 := ((Memref.whole main_arg0).slice (o2 c) (fun _ => rfl)).squeeze S2x2x416x1024 squeezes_S2x2x1x416x1024_S2x2x416x1024
abbrev lD0 : Memref sig .tc .vmem S2x2x416x1024 .f32 := Memref.whole cc0_scratch0
theorem lsrc0 (c : Dev nD) : (hold main_arg0 (o2 c).set fullShare (gv0 m c) c : sProp 𝕄) = ((lS0 c).view.loc (c : Thread nD τ) ↦[(lS0 c).view.set]{fullShare} gv0 m c) :=
  pt_congr (ℓ := (c : Thread nD τ).loc main_arg0) (sq_set main_arg0 (o2 c) (fun _ => rfl) S2x2x416x1024 squeezes_S2x2x1x416x1024_S2x2x416x1024).symm
theorem llnd0 (c : Dev nD) : hole (F := F) cc0_scratch0 Finset.univ c = iprop(∃ f, (lD0).view.loc (c : Thread nD τ) ↦[(lD0).view.set]{fullShare} f) :=
  congrArg (fun g : _ → sProp 𝕄 => iprop(∃ f, g f)) (funext fun f => pt_congr (ℓ := (c : Thread nD τ).loc cc0_scratch0) (View.set_whole cc0_scratch0).symm)
theorem lgot0 (c : Dev nD) (fd) : ((lD0).view.loc (c : Thread nD τ) ↦[(lD0).view.set]{fullShare}
      ((lD0).view.write (Elt F) fd ((lS0 c).view.read (Elt F) (gv0 m c)) Finset.univ) : sProp 𝕄) ⊢ hold cc0_scratch0 Finset.univ fullShare (la0 m c) c :=
  (Entails.of_eq (pointsTo_congr (wr_eq (lD0).view (V := la0 m c) (fun x => rfl)))).trans
    (Entails.of_eq (pt_congr (ℓ := (c : Thread nD τ).loc cc0_scratch0) (View.set_whole cc0_scratch0)))
/-! ### Local copy 1 -/
abbrev lS1 (c : Dev nD) : Memref sig .tc .hbm S2x2x128x512 .f32 := ((Memref.whole main_arg1).slice (o4 c) (fun _ => rfl)).squeeze S2x2x128x512 squeezes_S2x2x1x128x512_S2x2x128x512
abbrev lD1 : Memref sig .tc .vmem S2x2x128x512 .f32 := Memref.whole cc0_scratch1
theorem lsrc1 (c : Dev nD) : (hold main_arg1 (o4 c).set fullShare (gv1 m c) c : sProp 𝕄) = ((lS1 c).view.loc (c : Thread nD τ) ↦[(lS1 c).view.set]{fullShare} gv1 m c) :=
  pt_congr (ℓ := (c : Thread nD τ).loc main_arg1) (sq_set main_arg1 (o4 c) (fun _ => rfl) S2x2x128x512 squeezes_S2x2x1x128x512_S2x2x128x512).symm
theorem llnd1 (c : Dev nD) : hole (F := F) cc0_scratch1 Finset.univ c = iprop(∃ f, (lD1).view.loc (c : Thread nD τ) ↦[(lD1).view.set]{fullShare} f) :=
  congrArg (fun g : _ → sProp 𝕄 => iprop(∃ f, g f)) (funext fun f => pt_congr (ℓ := (c : Thread nD τ).loc cc0_scratch1) (View.set_whole cc0_scratch1).symm)
theorem lgot1 (c : Dev nD) (fd) : ((lD1).view.loc (c : Thread nD τ) ↦[(lD1).view.set]{fullShare}
      ((lD1).view.write (Elt F) fd ((lS1 c).view.read (Elt F) (gv1 m c)) Finset.univ) : sProp 𝕄) ⊢ hold cc0_scratch1 Finset.univ fullShare (la1 m c) c :=
  (Entails.of_eq (pointsTo_congr (wr_eq (lD1).view (V := la1 m c) (fun x => rfl)))).trans
    (Entails.of_eq (pt_congr (ℓ := (c : Thread nD τ).loc cc0_scratch1) (View.set_whole cc0_scratch1)))
/-! ### Local copy 2 -/
abbrev lS2 (c : Dev nD) : Memref sig .tc .hbm S2x2x128x1024 .f32 := ((Memref.whole main_arg2).slice (o6 c) (fun _ => rfl)).squeeze S2x2x128x1024 squeezes_S2x2x1x128x1024_S2x2x128x1024
abbrev lD2 : Memref sig .tc .vmem S2x2x128x1024 .f32 := Memref.whole cc0_scratch2
theorem lsrc2 (c : Dev nD) : (hold main_arg2 (o6 c).set fullShare (gv2 m c) c : sProp 𝕄) = ((lS2 c).view.loc (c : Thread nD τ) ↦[(lS2 c).view.set]{fullShare} gv2 m c) :=
  pt_congr (ℓ := (c : Thread nD τ).loc main_arg2) (sq_set main_arg2 (o6 c) (fun _ => rfl) S2x2x128x1024 squeezes_S2x2x1x128x1024_S2x2x128x1024).symm
theorem llnd2 (c : Dev nD) : hole (F := F) cc0_scratch2 Finset.univ c = iprop(∃ f, (lD2).view.loc (c : Thread nD τ) ↦[(lD2).view.set]{fullShare} f) :=
  congrArg (fun g : _ → sProp 𝕄 => iprop(∃ f, g f)) (funext fun f => pt_congr (ℓ := (c : Thread nD τ).loc cc0_scratch2) (View.set_whole cc0_scratch2).symm)
theorem lgot2 (c : Dev nD) (fd) : ((lD2).view.loc (c : Thread nD τ) ↦[(lD2).view.set]{fullShare}
      ((lD2).view.write (Elt F) fd ((lS2 c).view.read (Elt F) (gv2 m c)) Finset.univ) : sProp 𝕄) ⊢ hold cc0_scratch2 Finset.univ fullShare (la2 m c) c :=
  (Entails.of_eq (pointsTo_congr (wr_eq (lD2).view (V := la2 m c) (fun x => rfl)))).trans
    (Entails.of_eq (pt_congr (ℓ := (c : Thread nD τ).loc cc0_scratch2) (View.set_whole cc0_scratch2)))

end Cert.ReduceProof

end
-- ==== Proof.Reduce.Steps.lean ====
/-
One rule per kind of step of the reduce-scatter's body: the remote copy, the local copy, the waits, the load and the store.
-/
module

public import proofs.«01_k».proof.Proof.Reduce.Sched

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

abbrev 𝒱₀ : Variants := Variants.none

/-- Every cell's invariant, and that its round 0 is reached. -/
def recs : sProp 𝕄 := bigSep (Finset.univ : Finset (Dev nD × CIx)) fun ck =>
  iprop(cellInv ER (Rd m) (K ck) (kcell ck) ∗ reached ER (kcell ck) 0)
instance recs_persistent : BI.Persistent (recs m K) := by unfold recs; infer_instance

theorem recs_at (ck : Dev nD × CIx) : recs m K ⊢ iprop(cellInv ER (Rd m) (K ck) (kcell ck) ∗ reached ER (kcell ck) 0) :=
  bigSep_elim (Finset.mem_univ ck)

/-- What a device starts a remote copy with, what it keeps while the copy runs, what it waits for a piece with. -/
def SK (k : Fin 21) (c : Dev nD) : sProp 𝕄 :=
  iprop(dutyTok ER (sendCell c k) 0 0 ∗ dutyTok ER (recvCell (peer k c) k) 0 0 ∗ atPos ER (sendCell c k) 0 ∅ 0)
def SW (k : Fin 21) (c : Dev nD) : sProp 𝕄 :=
  iprop(atPos ER (sendCell c k) 0 ∅ 0 ∗ cred (tallyAt (sendCell c k) () (amt k)))
def RK (k : Fin 21) (c : Dev nD) : sProp 𝕄 :=
  iprop(atPos ER (recvCell c k) 0 ∅ 0 ∗ cred (tallyAt (recvCell c k) () (amt k)))
/-- The same for a local copy. -/
def LK (a : Fin 3) (c : Dev nD) : sProp 𝕄 := iprop(dutyTok ER (locCell c a) 0 0 ∗ atPos ER (locCell c a) 0 ∅ 0)
def LW (a : Fin 3) (c : Dev nD) : sProp 𝕄 := iprop(atPos ER (locCell c a) 0 ∅ 0 ∗ cred (tallyAt (locCell c a) () (lamt a)))
/-- The credits of the copies still to be issued, at whatever was waited for. -/
def OW (c : Dev nD) (l : List (Fin 21)) : sProp 𝕄 := iprop(∃ W, owes (c : Thread nD τ) (owe c l) W)
/-- A cell that is done. -/
def ZS (k : Fin 21) (c : Dev nD) : sProp 𝕄 := semVal (sendCell c k) 0
def ZR (k : Fin 21) (c : Dev nD) : sProp 𝕄 := semVal (recvCell c k) 0
def ZL (a : Fin 3) (c : Dev nD) : sProp 𝕄 := semVal (locCell c a) 0

/-- A remote copy: it pays the duty of the sender's cell with its source and the duty of the peer's with what it wrote there. -/
theorem send_gen (k : Fin 21) (c n : Dev nD) (hn : n = peer k c) (l : List (Fin 21))
    {sp sp' : Space} {s : Shape} {e : EltTy} (src : Memref sig .tc sp s e) (dst : Memref sig .tc sp' s e)
    {sS sR : DmaSem sig} (hS : sS = sendS k) (hR : sR = recvS k) (hN : dst.view.amount (SemLoc.dma sR) = amt k)
    {q : PosShare TreeShare} {fs : Buf (Elt F) (src.view.loc (c : Thread nD τ))}
    (hs : srcP m k c = (src.view.loc (c : Thread nD τ) ↦[src.view.set]{q} fs))
    (hl : ∀ n : Dev nD, landR (F := F) k c n = iprop(∃ f, dst.view.loc (n : Thread nD τ) ↦[dst.view.set]{fullShare} f))
    (hg : ∀ (n : Dev nD) fd, (dst.view.loc (n : Thread nD τ) ↦[dst.view.set]{fullShare} (dst.view.write (Elt F) fd (src.view.read (Elt F) fs) Finset.univ) : sProp 𝕄)
      ⊢ inP m k c n)
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    {α : Type} {Qt : α → sProp 𝕄} {kk : PUnit → Prog (TpuEff nD τ sig (Elt F) Λ₀ .tc) α} :
    iprop(recs m K ∗ SK k c ∗ land k c ∗ srcP m k c ∗ OW c (k :: l))
      ⊢ iprop(((SW k c ∗ OW c l) -∗ wp frame (wpE (defs₀ (F := F)) 𝒱₀ (c : Thread nD τ) none) Set.univ (kk ⟨⟩) Qt)
          -∗ wp frame (wpE (defs₀ (F := F)) 𝒱₀ (c : Thread nD τ) none) Set.univ
              (.op (.enqueueDma src (.remote (Dev.tc n : Thread nD τ) dst (.dma sS) hsc) (.dma sR) hsrc hdst hsem) kk) Qt) := by
  subst hn hS hR
  unfold SK land OW
  rw [hl]
  iintro ⟨#HK, ⟨Ht1, Ht2, Hat⟩, ⟨%fd, Hl⟩, Hs, ⟨%W, HO⟩⟩ Hk
  ihave H1 := (recs_at m K (c, some (.inl k))) $$ HK
  ihave H2 := (recs_at m K (peer k c, some (.inr (.inl k)))) $$ HK
  icases H1 with ⟨#HI1, #HR1⟩
  icases H2 with ⟨#HI2, #HR2⟩
  iapply (Rounds.wp_send_pointsTo 𝒱₀ ER (Rd m) (c : Thread nD τ) none (κ₁ := K (c, some (.inl k))) (κ₂ := K (peer k c, some (.inr (.inl k))))
    (r₁ := 0) (r₂ := 0) (d₁ := 0) (d₂ := 0) (q := q) (fs := fs) (fd := fd)
    (by rw [duties_own m c (.inl k)]; exact Finset.mem_singleton_self _) (by rw [duties_own m (peer k c) (.inr (.inl k))]; exact Finset.mem_singleton_self _)
    () () (amt k) hN (amount_own m c (.inl k) 0) (amount_own m (peer k c) (.inr (.inl k)) 0) (owe c l) rfl (W := W)
    (by rw [payload_own m c (.inl k)]; exact Entails.of_eq hs.symm)
    (by
      rw [payload_own m (peer k c) (.inr (.inl k))]
      show _ ⊢ inP m k (peer k (peer k c)) (peer k c)
      rw [peer_peer]
      exact hg (peer k c) fd)) $$ [Ht1 Ht2 Hl Hs HO]
  · isplitr; · iexact HI1
    isplitr; · iexact HI2
    isplitl [Hs]; · iapply (Entails.of_eq hs); iexact Hs
    isplitl [Hl]; · iexact Hl
    isplitl [HO]; · iexact HO
    isplitl [Ht1]; · iexact Ht1
    isplitr; · iexact HR1
    isplitl [Ht2]; · iexact Ht2
    iexact HR2
  iintro ⟨Hc, HO⟩
  iapply Hk
  unfold SW
  isplitr [HO]
  · isplitl [Hat]; · iexact Hat
    iexact Hc
  · iexists W; iexact HO

/-- A local copy: its wait is handed what it wrote, and its source back. -/
theorem copy_gen (a : Fin 3) (c : Dev nD)
    {sp sp' : Space} {s : Shape} {e : EltTy} (src : Memref sig .tc sp s e) (dst : Memref sig .tc sp' s e)
    {sL : DmaSem sig} (hL : sL = locS a) (hN : dst.view.amount (SemLoc.dma sL) = lamt a)
    {q : PosShare TreeShare} {fs : Buf (Elt F) (src.view.loc (c : Thread nD τ))} {S D T : sProp 𝕄}
    (hs : S = (src.view.loc (c : Thread nD τ) ↦[src.view.set]{q} fs))
    (hl : D = iprop(∃ f, dst.view.loc (c : Thread nD τ) ↦[dst.view.set]{fullShare} f))
    (hg : ∀ fd, (dst.view.loc (c : Thread nD τ) ↦[dst.view.set]{fullShare} (dst.view.write (Elt F) fd (src.view.read (Elt F) fs) Finset.univ) : sProp 𝕄) ⊢ T)
    (hT : locP m a c = iprop(T ∗ S))
    {hsrc : src.view.WordExact} {hdst : dst.view.WordExact} {hsem : DmaTarget.Typed (nD := nD) (τ := τ) (p := Proc.tc) sp (.dma sL) (.here dst)}
    {α : Type} {Qt : α → sProp 𝕄} {kk : PUnit → Prog (TpuEff nD τ sig (Elt F) Λ₀ .tc) α} :
    iprop(recs m K ∗ LK a c ∗ S ∗ D)
      ⊢ iprop((LW a c -∗ wp frame (wpE (defs₀ (F := F)) 𝒱₀ (c : Thread nD τ) none) Set.univ (kk ⟨⟩) Qt)
          -∗ wp frame (wpE (defs₀ (F := F)) 𝒱₀ (c : Thread nD τ) none) Set.univ
              (.op (.enqueueDma src (.here dst) (.dma sL) hsrc hdst hsem) kk) Qt) := by
  subst hL
  unfold LK
  rw [hl]
  iintro ⟨#HK, ⟨Ht, Hat⟩, Hs, ⟨%fd, Hl⟩⟩ Hk
  ihave H1 := (recs_at m K (c, some (.inr (.inr a)))) $$ HK
  icases H1 with ⟨#HI1, #HR1⟩
  iapply (Rounds.wp_copy_pointsTo 𝒱₀ ER (Rd m) (c : Thread nD τ) none (κ := K (c, some (.inr (.inr a))))
    (r := 0) (d := 0) (q := q) (fs := fs) (fd := fd)
    (by rw [duties_own m c (.inr (.inr a))]; exact Finset.mem_singleton_self _) () (lamt a) hN (amount_own m c (.inr (.inr a)) 0)
    (by
      rw [payload_own m c (.inr (.inr a))]
      show _ ⊢ locP m a c
      rw [hT, hs]
      exact sep_mono_left (hg fd))) $$ [Ht Hl Hs]
  · isplitr; · iexact HI1
    isplitl [Hs]; · iapply (Entails.of_eq hs); iexact Hs
    isplitl [Hl]; · iexact Hl
    isplitl [Ht]; · iexact Ht
    iexact HR1
  iintro Hc
  iapply Hk
  unfold LW
  isplitl [Hat]; · iexact Hat
  iexact Hc

/-- A wait on one of the device's own cells: what its round pays out, and the cell is done. -/
theorem wait_gen (x : OIx) (c : Dev nD) (l : List (Fin 21)) {n : ℕ} (hn : lv ((c : Thread nD τ), osem x) () = n) (hl : ∀ y ∈ l, n < rlev y)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (osem x) (ownAmt x) Kt)
    {α : Type} {Qt : α → sProp 𝕄} {kk : PUnit → Prog (TpuEff nD τ sig (Elt F) Λ₀ .tc) α} :
    iprop(recs m K ∗ levAts L lv ∗ (atPos ER ((c : Thread nD τ), osem x) 0 ∅ 0 ∗ cred (tallyAt ((c : Thread nD τ), osem x) () (ownAmt x))) ∗ OW c l)
      ⊢ iprop(((ownPay m x c ∗ semVal ((c : Thread nD τ), osem x) 0 ∗ OW c l) -∗ wp frame (wpE (defs₀ (F := F)) 𝒱₀ (c : Thread nD τ) none) Set.univ (kk ⟨⟩) Qt)
          -∗ wp frame (wpE (defs₀ (F := F)) 𝒱₀ (c : Thread nD τ) none) Set.univ (.op w kk) Qt) := by
  unfold OW
  iintro ⟨#HK, #Hlev, ⟨Hat, Hc⟩, ⟨%W, HO⟩⟩ Hk
  ihave H1 := (recs_at m K (c, some x)) $$ HK
  icases H1 with ⟨#HI1, #HR1⟩
  iapply (Rounds.wp_wait_rest_token 𝒱₀ ER (Rd m) (c : Thread nD τ) none (κ := K (c, some x))
      hw (Set.mem_univ _) () (O := owe c l) (W := W) (R := 0) (m := 0) (T := ∅)
      (by rw [Nat.zero_add, expect_own])) $$ [Hc HO Hat]
  · isplitr; · iexact HI1
    isplitl [Hc]; · iexact Hc
    isplitl [HO]; · iexact HO
    isplitr; · iapply (mayWait_owe c (osem x) l n hn hl); iexact Hlev
    iexact Hat
  iintro ⟨HO, Hat, -, Hpay⟩
  ihave Hp := (Entails.of_eq (rest_own m c x)) $$ Hpay
  imod (Rounds.cell_close ER (Rd m) (Set.mem_univ (K (c, some x))) (fun h => h) (R := 0 + 1) (duties_later m ((c : Thread nD τ), osem x))) $$ [Hat] with Hz
  · isplitr; · iexact HI1
    iexact Hat
  iapply Hk
  isplitl [Hp]; · iexact Hp
  isplitl [Hz]; · iexact Hz
  iexists _; iexact HO

/-- The waits as printed: for a piece to land, for a copy to have left, for a local copy. -/
theorem recv_w (k : Fin 21) (c : Dev nD) (l : List (Fin 21)) (hl : ∀ y ∈ l, rlev k < rlev y)
    {sp sp' : Space} {s s' : Shape} {e e' : EltTy} {src : Memref sig .tc sp s e} {dst : Memref sig .tc sp' s' e'}
    {sR : DmaSem sig} (hR : sR = recvS k) (hN : dst.view.dmaCredit = amt k) {hsrc : src.view.WordExact} {hdst : dst.view.WordExact}
    {α : Type} {Qt : α → sProp 𝕄} {kk : PUnit → Prog (TpuEff nD τ sig (Elt F) Λ₀ .tc) α} :
    iprop(recs m K ∗ levAts L lv ∗ RK k c ∗ OW c l)
      ⊢ iprop(((gotP m k c ∗ ZR k c ∗ OW c l) -∗ wp frame (wpE (defs₀ (F := F)) 𝒱₀ (c : Thread nD τ) none) Set.univ (kk ⟨⟩) Qt)
          -∗ wp frame (wpE (defs₀ (F := F)) 𝒱₀ (c : Thread nD τ) none) Set.univ (.op (.waitDma2 sR src dst hsrc hdst) kk) Qt) := by
  subst hR
  unfold RK ZR
  exact wait_gen m K (.inr (.inl k)) c l (lv_recv c k) hl (fun Kt => by show _ = waitSpec _ _ _ (amt k) _; rw [← hN]; exact wpE_waitDma2_eq 𝒱₀ (c : Thread nD τ) none Set.univ Kt)

theorem swait_w (k : Fin 21) (c : Dev nD)
    {sp sp' : Space} {s s' : Shape} {e e' : EltTy} {src : Memref sig .tc sp s e} {dst : Memref sig .tc sp' s' e'}
    {sS : DmaSem sig} (hS : sS = sendS k) (hN : dst.view.dmaCredit = amt k) {hsrc : src.view.WordExact} {hdst : dst.view.WordExact}
    {α : Type} {Qt : α → sProp 𝕄} {kk : PUnit → Prog (TpuEff nD τ sig (Elt F) Λ₀ .tc) α} :
    iprop(recs m K ∗ levAts L lv ∗ SW k c ∗ OW c [])
      ⊢ iprop(((srcP m k c ∗ ZS k c ∗ OW c []) -∗ wp frame (wpE (defs₀ (F := F)) 𝒱₀ (c : Thread nD τ) none) Set.univ (kk ⟨⟩) Qt)
          -∗ wp frame (wpE (defs₀ (F := F)) 𝒱₀ (c : Thread nD τ) none) Set.univ (.op (.waitDma2 sS src dst hsrc hdst) kk) Qt) := by
  subst hS
  unfold SW ZS
  exact wait_gen m K (.inl k) c [] (lv_send c k) (fun _ h => absurd h List.not_mem_nil)
    (fun Kt => by show _ = waitSpec _ _ _ (amt k) _; rw [← hN]; exact wpE_waitDma2_eq 𝒱₀ (c : Thread nD τ) none Set.univ Kt)

theorem lwait_w (a : Fin 3) (c : Dev nD) (l : List (Fin 21))
    {sp sp' : Space} {s s' : Shape} {e e' : EltTy} {src : Memref sig .tc sp s e} {dst : Memref sig .tc sp' s' e'}
    {sL : DmaSem sig} (hL : sL = locS a) (hN : dst.view.dmaCredit = lamt a) {hsrc : src.view.WordExact} {hdst : dst.view.WordExact}
    {α : Type} {Qt : α → sProp 𝕄} {kk : PUnit → Prog (TpuEff nD τ sig (Elt F) Λ₀ .tc) α} :
    iprop(recs m K ∗ levAts L lv ∗ LW a c ∗ OW c l)
      ⊢ iprop(((locP m a c ∗ ZL a c ∗ OW c l) -∗ wp frame (wpE (defs₀ (F := F)) 𝒱₀ (c : Thread nD τ) none) Set.univ (kk ⟨⟩) Qt)
          -∗ wp frame (wpE (defs₀ (F := F)) 𝒱₀ (c : Thread nD τ) none) Set.univ (.op (.waitDma2 sL src dst hsrc hdst) kk) Qt) := by
  subst hL
  unfold LW ZL
  exact wait_gen m K (.inr (.inr a)) c l (lv_loc c a) (fun y _ => Nat.lt_trans Nat.one_pos (rlev_pos y))
    (fun Kt => by show _ = waitSpec _ _ _ (lamt a) _; rw [← hN]; exact wpE_waitDma2_eq 𝒱₀ (c : Thread nD τ) none Set.univ Kt)

/-! ## Stores -/

/-- What a store over a whole piece leaves. -/
theorem st (B : Ref sig .tc) {off size : Fin B.ty.shape.rank → ℕ} {inb : ∀ a, off a + size a ≤ B.ty.shape.size a}
    {hp : ∀ a, 0 < (Rect.unit (s := B.ty.shape) off size inb).size a}
    {w : (Rect.unit (s := B.ty.shape) off size inb).shape.Idx → Elt F B.ty.elt}
    (S : Finset B.ty.Idx) (hRS : (Rect.unit (s := B.ty.shape) off size inb).set = S) (V : B.ty.Contents (Elt F))
    (hV : V = put (Rect.unit (s := B.ty.shape) off size inb) hp w) (c : Dev nD) (f : B.ty.Contents (Elt F)) :
    (hold B S fullShare (((Memref.whole B).access (Rect.unit (s := B.ty.shape) off size inb) : View sig .tc _ _ _).write (Elt F) f w Finset.univ) c : sProp 𝕄)
      ⊢ hold B S fullShare V c := by
  subst hRS
  exact Entails.of_eq (pointsTo_congr (fun i hi => by rw [hV]; exact stored B inb hp f w i hi))

end Cert.ReduceProof

end
-- ==== Proof.Reduce.Pieces.lean ====
/-
Cutting the buffers into the pieces that the copies and the stores touch, and joining them again.
-/
module

public import proofs.«01_k».proof.Proof.Reduce.Copies
public import proofs.«01_k».proof.Proof.Reduce.Steps

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cutting and joining -/

theorem hold_cut {B : Ref sig .tc} {S S₁ S₂ : Finset B.ty.Idx} (hu : S = S₁ ∪ S₂) (hd : Disjoint S₁ S₂) (q : PosShare TreeShare)
    (V : B.ty.Contents (Elt F)) (c : Dev nD) : (hold B S q V c : sProp 𝕄) ⊣⊢ iprop(hold B S₁ q V c ∗ hold B S₂ q V c) := by
  subst hu; exact pointsTo_union hd

theorem hole_of {B : Ref sig .tc} {S : Finset B.ty.Idx} (V : B.ty.Contents (Elt F)) (c : Dev nD) : (hold B S fullShare V c : sProp 𝕄) ⊢ hole B S c := by
  unfold hole; iintro H; iexists V; iexact H

theorem hole_cut {B : Ref sig .tc} {S S₁ S₂ : Finset B.ty.Idx} (hu : S = S₁ ∪ S₂) (hd : Disjoint S₁ S₂) (c : Dev nD) :
    (hole B S c : sProp 𝕄) ⊢ iprop(hole B S₁ c ∗ hole B S₂ c) := by
  unfold hole
  iintro ⟨%f, H⟩
  ihave H := (hold_cut hu hd fullShare f c).1 $$ H
  icases H with ⟨H1, H2⟩
  isplitl [H1]
  · iexists f; iexact H1
  · iexists f; iexact H2

theorem hole_join {B : Ref sig .tc} {S S₁ S₂ : Finset B.ty.Idx} (hu : S = S₁ ∪ S₂) (hd : Disjoint S₁ S₂)
    (V₁ V₂ : B.ty.Contents (Elt F)) (c : Dev nD) :
    iprop(hold B S₁ fullShare V₁ c ∗ hold B S₂ fullShare V₂ c) ⊢ (hole B S c : sProp 𝕄) := by
  subst hu
  refine (pointsTo_join hd).trans ?_
  exact hole_of (S := S₁ ∪ S₂) _ c

/-- Two pieces with contents that a third function agrees with. -/
theorem hold_join {B : Ref sig .tc} {S S₁ S₂ : Finset B.ty.Idx} (hu : S = S₁ ∪ S₂) (hd : Disjoint S₁ S₂) {V V₁ V₂ : B.ty.Contents (Elt F)}
    (h₁ : ∀ i ∈ S₁, V₁ i = V i) (h₂ : ∀ i ∈ S₂, V₂ i = V i) (c : Dev nD) :
    iprop(hold B S₁ fullShare V₁ c ∗ hold B S₂ fullShare V₂ c) ⊢ (hold B S fullShare V c : sProp 𝕄) := by
  rw [show (hold B S₁ fullShare V₁ c : sProp 𝕄) = hold B S₁ fullShare V c from pointsTo_congr h₁,
    show (hold B S₂ fullShare V₂ c : sProp 𝕄) = hold B S₂ fullShare V c from pointsTo_congr h₂]
  exact (hold_cut hu hd fullShare V c).2

/-- The two halves of a full share. -/
theorem halves {B : Ref sig .tc} {S : Finset B.ty.Idx} (V : B.ty.Contents (Elt F)) (c : Dev nD) :
    (hold B S fullShare V c : sProp 𝕄) ⊣⊢ iprop(hold B S fullShare.left V c ∗ hold B S fullShare.right V c) :=
  pointsTo_share (PosShare.mem_left_op_right fullShare)

theorem univ_cut {s : Shape} {x : Fin s.rank} {off₁ size₁ off₂ size₂ : Fin s.rank → ℕ} (h : Cuts x (fun _ => 0) s.size off₁ size₁ off₂ size₂)
    {inb₁ inb₂} : (Finset.univ : Finset s.Idx) = (Rect.unit (s := s) off₁ size₁ inb₁).set ∪ (Rect.unit (s := s) off₂ size₂ inb₂).set :=
  (full_set (s := s) (off := fun _ => 0) (fun _ => rfl) (fun a => by rw [Nat.zero_add])).symm.trans h.union

/-! ## What the copies hold, spelled out -/

theorem srcE0 (c : Dev nD) : srcP m 0 c = hold main_arg0 (o1 c).set fullShare (gv0 m c) c := rfl
theorem gotE0 (c : Dev nD) : gotP m 0 c = hold cc0_scratch3 Finset.univ fullShare (cp0 m (sib c)) c := rfl
theorem srcE1 (c : Dev nD) : srcP m 1 c = hold main_arg1 (o3 c).set fullShare (gv1 m c) c := rfl
theorem gotE1 (c : Dev nD) : gotP m 1 c = hold cc0_scratch4 Finset.univ fullShare (cp1 m (sib c)) c := rfl
theorem srcE2 (c : Dev nD) : srcP m 2 c = hold main_arg2 (o5 c).set fullShare (gv2 m c) c := rfl
theorem gotE2 (c : Dev nD) : gotP m 2 c = hold cc0_scratch5 Finset.univ fullShare (cp2 m (sib c)) c := rfl
theorem srcE3 (c : Dev nD) : srcP m 3 c = hold cc0_stg0_0 Finset.univ fullShare.left (smv m c) c := rfl
theorem gotE3 (c : Dev nD) : gotP m 3 c = hold cc0_scratch21 Finset.univ fullShare (smv m (sib c)) c := rfl
theorem srcE4 (c : Dev nD) : srcP m 4 c = hold cc0_scratch6 z0_S2x2x416x512.set fullShare (b00 m c) c := rfl
theorem gotE4 (c : Dev nD) : gotP m 4 c = hold cc0_scratch9 z0_S2x2x416x512.set fullShare (b00 m (xn c)) c := rfl
theorem srcE5 (c : Dev nD) : srcP m 5 c = hold cc0_scratch6 z1_S2x2x416x512.set fullShare (b01 m c) c := rfl
theorem gotE5 (c : Dev nD) : gotP m 5 c = hold cc0_scratch9 z1_S2x2x416x512.set fullShare (b01 m (yn c)) c := rfl
theorem srcE6 (c : Dev nD) : srcP m 6 c = hold cc0_scratch7 z0_S2x2x128x256.set fullShare (b10 m c) c := rfl
theorem gotE6 (c : Dev nD) : gotP m 6 c = hold cc0_scratch10 z0_S2x2x128x256.set fullShare (b10 m (xn c)) c := rfl
theorem srcE7 (c : Dev nD) : srcP m 7 c = hold cc0_scratch7 z1_S2x2x128x256.set fullShare (b11 m c) c := rfl
theorem gotE7 (c : Dev nD) : gotP m 7 c = hold cc0_scratch10 z1_S2x2x128x256.set fullShare (b11 m (yn c)) c := rfl
theorem srcE8 (c : Dev nD) : srcP m 8 c = hold cc0_scratch8 z0_S2x2x128x512.set fullShare (b20 m c) c := rfl
theorem gotE8 (c : Dev nD) : gotP m 8 c = hold cc0_scratch11 z0_S2x2x128x512.set fullShare (b20 m (xn c)) c := rfl
theorem srcE9 (c : Dev nD) : srcP m 9 c = hold cc0_scratch8 z1_S2x2x128x512.set fullShare (b21 m c) c := rfl
theorem gotE9 (c : Dev nD) : gotP m 9 c = hold cc0_scratch11 z1_S2x2x128x512.set fullShare (b21 m (yn c)) c := rfl
theorem srcE10 (c : Dev nD) : srcP m 10 c = hold cc0_scratch24 Finset.univ fullShare.left (acs m c) c := rfl
theorem gotE10 (c : Dev nD) : gotP m 10 c = hold cc0_scratch22 Finset.univ fullShare (acs m (xn c)) c := rfl
theorem srcE11 (c : Dev nD) : srcP m 11 c = hold cc0_scratch15 z0_S2x416x512.set fullShare (sc00 m c) c := rfl
theorem gotE11 (c : Dev nD) : gotP m 11 c = hold cc0_scratch18 z0_S2x416x512.set fullShare (sc00 m (yn c)) c := rfl
theorem srcE12 (c : Dev nD) : srcP m 12 c = hold cc0_scratch15 z1_S2x416x512.set fullShare (sc01 m c) c := rfl
theorem gotE12 (c : Dev nD) : gotP m 12 c = hold cc0_scratch18 z1_S2x416x512.set fullShare (sc01 m (xn c)) c := rfl
theorem srcE13 (c : Dev nD) : srcP m 13 c = hold cc0_scratch16 z0_S2x128x256.set fullShare (sc10 m c) c := rfl
theorem gotE13 (c : Dev nD) : gotP m 13 c = hold cc0_scratch19 z0_S2x128x256.set fullShare (sc10 m (yn c)) c := rfl
theorem srcE14 (c : Dev nD) : srcP m 14 c = hold cc0_scratch16 z1_S2x128x256.set fullShare (sc11 m c) c := rfl
theorem gotE14 (c : Dev nD) : gotP m 14 c = hold cc0_scratch19 z1_S2x128x256.set fullShare (sc11 m (xn c)) c := rfl
theorem srcE15 (c : Dev nD) : srcP m 15 c = hold cc0_scratch17 z0_S2x128x512.set fullShare (sc20 m c) c := rfl
theorem gotE15 (c : Dev nD) : gotP m 15 c = hold cc0_scratch20 z0_S2x128x512.set fullShare (sc20 m (yn c)) c := rfl
theorem srcE16 (c : Dev nD) : srcP m 16 c = hold cc0_scratch17 z1_S2x128x512.set fullShare (sc21 m c) c := rfl
theorem gotE16 (c : Dev nD) : gotP m 16 c = hold cc0_scratch20 z1_S2x128x512.set fullShare (sc21 m (xn c)) c := rfl
theorem srcE17 (c : Dev nD) : srcP m 17 c = hold cc0_scratch22 Finset.univ fullShare.left (sbt m c) c := rfl
theorem gotE17 (c : Dev nD) : gotP m 17 c = hold cc0_scratch23 Finset.univ fullShare (sbt m (yn c)) c := rfl
theorem srcE18 (c : Dev nD) : srcP m 18 c = hold cc0_stg1_0 (o29 c).set fullShare (om0 m c) c := rfl
theorem gotE18 (c : Dev nD) : gotP m 18 c = hold cc0_stg1_0 (o29 (sib c)).set fullShare (om0 m (sib c)) c := rfl
theorem srcE19 (c : Dev nD) : srcP m 19 c = hold cc0_stg2_0 (o34 c).set fullShare (om1 m c) c := rfl
theorem gotE19 (c : Dev nD) : gotP m 19 c = hold cc0_stg2_0 (o34 (sib c)).set fullShare (om1 m (sib c)) c := rfl
theorem srcE20 (c : Dev nD) : srcP m 20 c = hold cc0_stg3_0 (o39 c).set fullShare (om2 m c) c := rfl
theorem gotE20 (c : Dev nD) : gotP m 20 c = hold cc0_stg3_0 (o39 (sib c)).set fullShare (om2 m (sib c)) c := rfl
theorem locE0 (c : Dev nD) : locP m 0 c = iprop(hold cc0_scratch0 Finset.univ fullShare (la0 m c) c ∗ hold main_arg0 (o2 c).set fullShare (gv0 m c) c) := rfl
theorem locE1 (c : Dev nD) : locP m 1 c = iprop(hold cc0_scratch1 Finset.univ fullShare (la1 m c) c ∗ hold main_arg1 (o4 c).set fullShare (gv1 m c) c) := rfl
theorem locE2 (c : Dev nD) : locP m 2 c = iprop(hold cc0_scratch2 Finset.univ fullShare (la2 m c) c ∗ hold main_arg2 (o6 c).set fullShare (gv2 m c) c) := rfl

/-! ## Whole rectangles, and slices of slices -/

theorem full_S2x2x128x1024 : w_S2x2x128x1024.set = Finset.univ := full_set (by decide) _
theorem full_S2x2x128x512 : w_S2x2x128x512.set = Finset.univ := full_set (by decide) _
theorem full_S2x2x416x1024 : w_S2x2x416x1024.set = Finset.univ := full_set (by decide) _
theorem full_S640x128 : w_S640x128.set = Finset.univ := full_set (by decide) _
theorem sub_o15 (c : Dev nD) : ((o15 c).set : Finset S2x2x416x512.Idx) ⊆ z0_S2x2x416x512.set :=
  sub_set (show ∀ a : Fin S2x2x416x512.rank, (![0, 0, 0, 0] : Fin S2x2x416x512.rank → ℕ) a ≤ (k0_off15 c) a ∧ (k0_off15 c) a + S1x1x416x512.size a ≤ (![0, 0, 0, 0] : Fin S2x2x416x512.rank → ℕ) a + S1x2x416x512.size a by revert c; decide)
theorem sub_o16 (c : Dev nD) : ((o16 c).set : Finset S2x2x416x512.Idx) ⊆ z1_S2x2x416x512.set :=
  sub_set (show ∀ a : Fin S2x2x416x512.rank, (![1, 0, 0, 0] : Fin S2x2x416x512.rank → ℕ) a ≤ (k0_off16 c) a ∧ (k0_off16 c) a + S1x1x416x512.size a ≤ (![1, 0, 0, 0] : Fin S2x2x416x512.rank → ℕ) a + S1x2x416x512.size a by revert c; decide)
theorem sub_o19 (c : Dev nD) : ((o19 c).set : Finset S2x2x128x256.Idx) ⊆ z0_S2x2x128x256.set :=
  sub_set (show ∀ a : Fin S2x2x128x256.rank, (![0, 0, 0, 0] : Fin S2x2x128x256.rank → ℕ) a ≤ (k0_off19 c) a ∧ (k0_off19 c) a + S1x1x128x256.size a ≤ (![0, 0, 0, 0] : Fin S2x2x128x256.rank → ℕ) a + S1x2x128x256.size a by revert c; decide)
theorem sub_o20 (c : Dev nD) : ((o20 c).set : Finset S2x2x128x256.Idx) ⊆ z1_S2x2x128x256.set :=
  sub_set (show ∀ a : Fin S2x2x128x256.rank, (![1, 0, 0, 0] : Fin S2x2x128x256.rank → ℕ) a ≤ (k0_off20 c) a ∧ (k0_off20 c) a + S1x1x128x256.size a ≤ (![1, 0, 0, 0] : Fin S2x2x128x256.rank → ℕ) a + S1x2x128x256.size a by revert c; decide)
theorem sub_o23 (c : Dev nD) : ((o23 c).set : Finset S2x2x128x512.Idx) ⊆ z0_S2x2x128x512.set :=
  sub_set (show ∀ a : Fin S2x2x128x512.rank, (![0, 0, 0, 0] : Fin S2x2x128x512.rank → ℕ) a ≤ (k0_off23 c) a ∧ (k0_off23 c) a + S1x1x128x512.size a ≤ (![0, 0, 0, 0] : Fin S2x2x128x512.rank → ℕ) a + S1x2x128x512.size a by revert c; decide)
theorem sub_o24 (c : Dev nD) : ((o24 c).set : Finset S2x2x128x512.Idx) ⊆ z1_S2x2x128x512.set :=
  sub_set (show ∀ a : Fin S2x2x128x512.rank, (![1, 0, 0, 0] : Fin S2x2x128x512.rank → ℕ) a ≤ (k0_off24 c) a ∧ (k0_off24 c) a + S1x1x128x512.size a ≤ (![1, 0, 0, 0] : Fin S2x2x128x512.rank → ℕ) a + S1x2x128x512.size a by revert c; decide)
theorem sub_o25 (c : Dev nD) : ((o25 c).set : Finset S2x2x416x512.Idx) ⊆ z0_S2x2x416x512.set :=
  sub_set (show ∀ a : Fin S2x2x416x512.rank, (![0, 0, 0, 0] : Fin S2x2x416x512.rank → ℕ) a ≤ (k0_off25 c) a ∧ (k0_off25 c) a + S1x1x416x512.size a ≤ (![0, 0, 0, 0] : Fin S2x2x416x512.rank → ℕ) a + S1x2x416x512.size a by revert c; decide)
theorem sub_o27 (c : Dev nD) : ((o27 c).set : Finset S2x2x416x512.Idx) ⊆ z1_S2x2x416x512.set :=
  sub_set (show ∀ a : Fin S2x2x416x512.rank, (![1, 0, 0, 0] : Fin S2x2x416x512.rank → ℕ) a ≤ (k0_off27 c) a ∧ (k0_off27 c) a + S1x1x416x512.size a ≤ (![1, 0, 0, 0] : Fin S2x2x416x512.rank → ℕ) a + S1x2x416x512.size a by revert c; decide)
theorem sub_o30 (c : Dev nD) : ((o30 c).set : Finset S2x2x128x256.Idx) ⊆ z0_S2x2x128x256.set :=
  sub_set (show ∀ a : Fin S2x2x128x256.rank, (![0, 0, 0, 0] : Fin S2x2x128x256.rank → ℕ) a ≤ (k0_off30 c) a ∧ (k0_off30 c) a + S1x1x128x256.size a ≤ (![0, 0, 0, 0] : Fin S2x2x128x256.rank → ℕ) a + S1x2x128x256.size a by revert c; decide)
theorem sub_o32 (c : Dev nD) : ((o32 c).set : Finset S2x2x128x256.Idx) ⊆ z1_S2x2x128x256.set :=
  sub_set (show ∀ a : Fin S2x2x128x256.rank, (![1, 0, 0, 0] : Fin S2x2x128x256.rank → ℕ) a ≤ (k0_off32 c) a ∧ (k0_off32 c) a + S1x1x128x256.size a ≤ (![1, 0, 0, 0] : Fin S2x2x128x256.rank → ℕ) a + S1x2x128x256.size a by revert c; decide)
theorem sub_o35 (c : Dev nD) : ((o35 c).set : Finset S2x2x128x512.Idx) ⊆ z0_S2x2x128x512.set :=
  sub_set (show ∀ a : Fin S2x2x128x512.rank, (![0, 0, 0, 0] : Fin S2x2x128x512.rank → ℕ) a ≤ (k0_off35 c) a ∧ (k0_off35 c) a + S1x1x128x512.size a ≤ (![0, 0, 0, 0] : Fin S2x2x128x512.rank → ℕ) a + S1x2x128x512.size a by revert c; decide)
theorem sub_o37 (c : Dev nD) : ((o37 c).set : Finset S2x2x128x512.Idx) ⊆ z1_S2x2x128x512.set :=
  sub_set (show ∀ a : Fin S2x2x128x512.rank, (![1, 0, 0, 0] : Fin S2x2x128x512.rank → ℕ) a ≤ (k0_off37 c) a ∧ (k0_off37 c) a + S1x1x128x512.size a ≤ (![1, 0, 0, 0] : Fin S2x2x128x512.rank → ℕ) a + S1x2x128x512.size a by revert c; decide)

/-! ## The cuts -/

theorem cut_G0 (c : Dev nD) : (Finset.univ : Finset S2x2x2x416x1024.Idx) = (o1 c).set ∪ (o2 c).set :=
  univ_cut (show Cuts (s := S2x2x2x416x1024) 2 (fun _ => 0) S2x2x2x416x1024.size (k0_off1 c) S2x2x1x416x1024.size (k0_off2 c) S2x2x1x416x1024.size by revert c; decide)
theorem dj_G0 (c : Dev nD) : Disjoint ((o1 c).set : Finset S2x2x2x416x1024.Idx) (o2 c).set :=
  (show Cuts (s := S2x2x2x416x1024) 2 (fun _ => 0) S2x2x2x416x1024.size (k0_off1 c) S2x2x1x416x1024.size (k0_off2 c) S2x2x1x416x1024.size by revert c; decide).disjoint
theorem cut_G1 (c : Dev nD) : (Finset.univ : Finset S2x2x2x128x512.Idx) = (o3 c).set ∪ (o4 c).set :=
  univ_cut (show Cuts (s := S2x2x2x128x512) 2 (fun _ => 0) S2x2x2x128x512.size (k0_off3 c) S2x2x1x128x512.size (k0_off4 c) S2x2x1x128x512.size by revert c; decide)
theorem dj_G1 (c : Dev nD) : Disjoint ((o3 c).set : Finset S2x2x2x128x512.Idx) (o4 c).set :=
  (show Cuts (s := S2x2x2x128x512) 2 (fun _ => 0) S2x2x2x128x512.size (k0_off3 c) S2x2x1x128x512.size (k0_off4 c) S2x2x1x128x512.size by revert c; decide).disjoint
theorem cut_G2 (c : Dev nD) : (Finset.univ : Finset S2x2x2x128x1024.Idx) = (o5 c).set ∪ (o6 c).set :=
  univ_cut (show Cuts (s := S2x2x2x128x1024) 2 (fun _ => 0) S2x2x2x128x1024.size (k0_off5 c) S2x2x1x128x1024.size (k0_off6 c) S2x2x1x128x1024.size by revert c; decide)
theorem dj_G2 (c : Dev nD) : Disjoint ((o5 c).set : Finset S2x2x2x128x1024.Idx) (o6 c).set :=
  (show Cuts (s := S2x2x2x128x1024) 2 (fun _ => 0) S2x2x2x128x1024.size (k0_off5 c) S2x2x1x128x1024.size (k0_off6 c) S2x2x1x128x1024.size by revert c; decide).disjoint
theorem cut_S2x2x416x512 : (Finset.univ : Finset S2x2x416x512.Idx) = z0_S2x2x416x512.set ∪ z1_S2x2x416x512.set :=
  univ_cut (show Cuts (s := S2x2x416x512) 0 (fun _ => 0) S2x2x416x512.size (![0, 0, 0, 0]) S1x2x416x512.size (![1, 0, 0, 0]) S1x2x416x512.size by decide)
theorem dj_S2x2x416x512 : Disjoint (z0_S2x2x416x512.set : Finset S2x2x416x512.Idx) z1_S2x2x416x512.set :=
  (show Cuts (s := S2x2x416x512) 0 (fun _ => 0) S2x2x416x512.size (![0, 0, 0, 0]) S1x2x416x512.size (![1, 0, 0, 0]) S1x2x416x512.size by decide).disjoint
theorem cut_S2x416x512 : (Finset.univ : Finset S2x416x512.Idx) = z0_S2x416x512.set ∪ z1_S2x416x512.set :=
  univ_cut (show Cuts (s := S2x416x512) 0 (fun _ => 0) S2x416x512.size (![0, 0, 0]) S1x416x512.size (![1, 0, 0]) S1x416x512.size by decide)
theorem dj_S2x416x512 : Disjoint (z0_S2x416x512.set : Finset S2x416x512.Idx) z1_S2x416x512.set :=
  (show Cuts (s := S2x416x512) 0 (fun _ => 0) S2x416x512.size (![0, 0, 0]) S1x416x512.size (![1, 0, 0]) S1x416x512.size by decide).disjoint
theorem cut_S2x2x128x256 : (Finset.univ : Finset S2x2x128x256.Idx) = z0_S2x2x128x256.set ∪ z1_S2x2x128x256.set :=
  univ_cut (show Cuts (s := S2x2x128x256) 0 (fun _ => 0) S2x2x128x256.size (![0, 0, 0, 0]) S1x2x128x256.size (![1, 0, 0, 0]) S1x2x128x256.size by decide)
theorem dj_S2x2x128x256 : Disjoint (z0_S2x2x128x256.set : Finset S2x2x128x256.Idx) z1_S2x2x128x256.set :=
  (show Cuts (s := S2x2x128x256) 0 (fun _ => 0) S2x2x128x256.size (![0, 0, 0, 0]) S1x2x128x256.size (![1, 0, 0, 0]) S1x2x128x256.size by decide).disjoint
theorem cut_S2x128x256 : (Finset.univ : Finset S2x128x256.Idx) = z0_S2x128x256.set ∪ z1_S2x128x256.set :=
  univ_cut (show Cuts (s := S2x128x256) 0 (fun _ => 0) S2x128x256.size (![0, 0, 0]) S1x128x256.size (![1, 0, 0]) S1x128x256.size by decide)
theorem dj_S2x128x256 : Disjoint (z0_S2x128x256.set : Finset S2x128x256.Idx) z1_S2x128x256.set :=
  (show Cuts (s := S2x128x256) 0 (fun _ => 0) S2x128x256.size (![0, 0, 0]) S1x128x256.size (![1, 0, 0]) S1x128x256.size by decide).disjoint
theorem cut_S2x2x128x512 : (Finset.univ : Finset S2x2x128x512.Idx) = z0_S2x2x128x512.set ∪ z1_S2x2x128x512.set :=
  univ_cut (show Cuts (s := S2x2x128x512) 0 (fun _ => 0) S2x2x128x512.size (![0, 0, 0, 0]) S1x2x128x512.size (![1, 0, 0, 0]) S1x2x128x512.size by decide)
theorem dj_S2x2x128x512 : Disjoint (z0_S2x2x128x512.set : Finset S2x2x128x512.Idx) z1_S2x2x128x512.set :=
  (show Cuts (s := S2x2x128x512) 0 (fun _ => 0) S2x2x128x512.size (![0, 0, 0, 0]) S1x2x128x512.size (![1, 0, 0, 0]) S1x2x128x512.size by decide).disjoint
theorem cut_S2x128x512 : (Finset.univ : Finset S2x128x512.Idx) = z0_S2x128x512.set ∪ z1_S2x128x512.set :=
  univ_cut (show Cuts (s := S2x128x512) 0 (fun _ => 0) S2x128x512.size (![0, 0, 0]) S1x128x512.size (![1, 0, 0]) S1x128x512.size by decide)
theorem dj_S2x128x512 : Disjoint (z0_S2x128x512.set : Finset S2x128x512.Idx) z1_S2x128x512.set :=
  (show Cuts (s := S2x128x512) 0 (fun _ => 0) S2x128x512.size (![0, 0, 0]) S1x128x512.size (![1, 0, 0]) S1x128x512.size by decide).disjoint
theorem cut_O0 (c : Dev nD) : (Finset.univ : Finset S832x1024.Idx) = (o29 c).set ∪ (o29 (sib c)).set :=
  univ_cut (show Cuts (s := S832x1024) 0 (fun _ => 0) S832x1024.size (k0_off29 c) S416x1024.size (k0_off29 (sib c)) S416x1024.size by revert c; decide)
theorem dj_O0 (c : Dev nD) : Disjoint ((o29 c).set : Finset S832x1024.Idx) (o29 (sib c)).set :=
  (show Cuts (s := S832x1024) 0 (fun _ => 0) S832x1024.size (k0_off29 c) S416x1024.size (k0_off29 (sib c)) S416x1024.size by revert c; decide).disjoint
theorem cut_om0 (c : Dev nD) : ((o29 c).set : Finset S832x1024.Idx) = (o26 c).set ∪ (o28 c).set :=
  (show Cuts (s := S832x1024) 1 (k0_off29 c) S416x1024.size (k0_off26 c) S416x512.size (k0_off28 c) S416x512.size by revert c; decide).union
theorem dj_om0 (c : Dev nD) : Disjoint ((o26 c).set : Finset S832x1024.Idx) (o28 c).set :=
  (show Cuts (s := S832x1024) 1 (k0_off29 c) S416x1024.size (k0_off26 c) S416x512.size (k0_off28 c) S416x512.size by revert c; decide).disjoint
theorem cut_O1 (c : Dev nD) : (Finset.univ : Finset S256x512.Idx) = (o34 c).set ∪ (o34 (sib c)).set :=
  univ_cut (show Cuts (s := S256x512) 0 (fun _ => 0) S256x512.size (k0_off34 c) S128x512.size (k0_off34 (sib c)) S128x512.size by revert c; decide)
theorem dj_O1 (c : Dev nD) : Disjoint ((o34 c).set : Finset S256x512.Idx) (o34 (sib c)).set :=
  (show Cuts (s := S256x512) 0 (fun _ => 0) S256x512.size (k0_off34 c) S128x512.size (k0_off34 (sib c)) S128x512.size by revert c; decide).disjoint
theorem cut_om1 (c : Dev nD) : ((o34 c).set : Finset S256x512.Idx) = (o31 c).set ∪ (o33 c).set :=
  (show Cuts (s := S256x512) 1 (k0_off34 c) S128x512.size (k0_off31 c) S128x256.size (k0_off33 c) S128x256.size by revert c; decide).union
theorem dj_om1 (c : Dev nD) : Disjoint ((o31 c).set : Finset S256x512.Idx) (o33 c).set :=
  (show Cuts (s := S256x512) 1 (k0_off34 c) S128x512.size (k0_off31 c) S128x256.size (k0_off33 c) S128x256.size by revert c; decide).disjoint
theorem cut_O2 (c : Dev nD) : (Finset.univ : Finset S256x1024.Idx) = (o39 c).set ∪ (o39 (sib c)).set :=
  univ_cut (show Cuts (s := S256x1024) 0 (fun _ => 0) S256x1024.size (k0_off39 c) S128x1024.size (k0_off39 (sib c)) S128x1024.size by revert c; decide)
theorem dj_O2 (c : Dev nD) : Disjoint ((o39 c).set : Finset S256x1024.Idx) (o39 (sib c)).set :=
  (show Cuts (s := S256x1024) 0 (fun _ => 0) S256x1024.size (k0_off39 c) S128x1024.size (k0_off39 (sib c)) S128x1024.size by revert c; decide).disjoint
theorem cut_om2 (c : Dev nD) : ((o39 c).set : Finset S256x1024.Idx) = (o36 c).set ∪ (o38 c).set :=
  (show Cuts (s := S256x1024) 1 (k0_off39 c) S128x1024.size (k0_off36 c) S128x512.size (k0_off38 c) S128x512.size by revert c; decide).union
theorem dj_om2 (c : Dev nD) : Disjoint ((o36 c).set : Finset S256x1024.Idx) (o38 c).set :=
  (show Cuts (s := S256x1024) 1 (k0_off39 c) S128x1024.size (k0_off36 c) S128x512.size (k0_off38 c) S128x512.size by revert c; decide).disjoint

/-- The two halves of a device's rows of a result, joined. -/
theorem join_om0 (c : Dev nD) : iprop(hold cc0_stg1_0 (o26 c).set fullShare (ot00 m c) c ∗ hold cc0_stg1_0 (o28 c).set fullShare (ot01 m c) c)
    ⊢ (hold cc0_stg1_0 (o29 c).set fullShare (om0 m c) c : sProp 𝕄) :=
  hold_join (B := cc0_stg1_0) (cut_om0 c) (dj_om0 c)
    (fun i hi => by
      have h := (Rect.mem_set_unit.mp hi) 1
      have e := (show ∀ c : Dev nD, k0_off26 c 1 = 0 ∧ S416x512.size 1 = 512 by decide) c
      unfold om0; rw [if_pos (show ((i : S832x1024.Idx) 1).val < 512 by omega)])
    (fun i hi => by
      have h := (Rect.mem_set_unit.mp hi) 1
      have e := (show ∀ c : Dev nD, k0_off28 c 1 = 512 by decide) c
      unfold om0; rw [if_neg (show ¬ ((i : S832x1024.Idx) 1).val < 512 by omega)]) c
theorem join_om1 (c : Dev nD) : iprop(hold cc0_stg2_0 (o31 c).set fullShare (ot10 m c) c ∗ hold cc0_stg2_0 (o33 c).set fullShare (ot11 m c) c)
    ⊢ (hold cc0_stg2_0 (o34 c).set fullShare (om1 m c) c : sProp 𝕄) :=
  hold_join (B := cc0_stg2_0) (cut_om1 c) (dj_om1 c)
    (fun i hi => by
      have h := (Rect.mem_set_unit.mp hi) 1
      have e := (show ∀ c : Dev nD, k0_off31 c 1 = 0 ∧ S128x256.size 1 = 256 by decide) c
      unfold om1; rw [if_pos (show ((i : S256x512.Idx) 1).val < 256 by omega)])
    (fun i hi => by
      have h := (Rect.mem_set_unit.mp hi) 1
      have e := (show ∀ c : Dev nD, k0_off33 c 1 = 256 by decide) c
      unfold om1; rw [if_neg (show ¬ ((i : S256x512.Idx) 1).val < 256 by omega)]) c
theorem join_om2 (c : Dev nD) : iprop(hold cc0_stg3_0 (o36 c).set fullShare (ot20 m c) c ∗ hold cc0_stg3_0 (o38 c).set fullShare (ot21 m c) c)
    ⊢ (hold cc0_stg3_0 (o39 c).set fullShare (om2 m c) c : sProp 𝕄) :=
  hold_join (B := cc0_stg3_0) (cut_om2 c) (dj_om2 c)
    (fun i hi => by
      have h := (Rect.mem_set_unit.mp hi) 1
      have e := (show ∀ c : Dev nD, k0_off36 c 1 = 0 ∧ S128x512.size 1 = 512 by decide) c
      unfold om2; rw [if_pos (show ((i : S256x1024.Idx) 1).val < 512 by omega)])
    (fun i hi => by
      have h := (Rect.mem_set_unit.mp hi) 1
      have e := (show ∀ c : Dev nD, k0_off38 c 1 = 512 by decide) c
      unfold om2; rw [if_neg (show ¬ ((i : S256x1024.Idx) 1).val < 512 by omega)]) c

end Cert.ReduceProof

end
-- ==== Proof.Reduce.Devs.lean ====
/-
The devices that the copies name.
-/
module

public import proofs.«01_k».proof.Proof.Reduce.Pieces

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body, applied to the call's own buffers and semaphores. -/
abbrev onRefs {α : Sort _} (f : ∀ (arg0 : Memref sig .tc .hbm S2x2x2x416x1024 .f32) (harg0 : arg0.IsWhole) (arg1 : Memref sig .tc .hbm S2x2x2x128x512 .f32) (harg1 : arg1.IsWhole) (arg2 : Memref sig .tc .hbm S2x2x2x128x1024 .f32) (harg2 : arg2.IsWhole) (arg3 : Memref sig .tc .vmem S640x128 .f32) (harg3 : arg3.IsWhole) (arg4 : Memref sig .tc .vmem S832x1024 .f32) (harg4 : arg4.IsWhole) (arg5 : Memref sig .tc .vmem S256x512 .f32) (harg5 : arg5.IsWhole) (arg6 : Memref sig .tc .vmem S256x1024 .f32) (harg6 : arg6.IsWhole) (arg7 : Memref sig .tc .vmem S640x128 .f32) (harg7 : arg7.IsWhole) (arg8 : Memref sig .tc .vmem S2x2x416x1024 .f32) (harg8 : arg8.IsWhole) (arg9 : Memref sig .tc .vmem S2x2x128x512 .f32) (harg9 : arg9.IsWhole) (arg10 : Memref sig .tc .vmem S2x2x128x1024 .f32) (harg10 : arg10.IsWhole) (arg11 : Memref sig .tc .vmem S2x2x416x1024 .f32) (harg11 : arg11.IsWhole) (arg12 : Memref sig .tc .vmem S2x2x128x512 .f32) (harg12 : arg12.IsWhole) (arg13 : Memref sig .tc .vmem S2x2x128x1024 .f32) (harg13 : arg13.IsWhole) (arg14 : Memref sig .tc .vmem S2x2x416x512 .bf16) (harg14 : arg14.IsWhole) (arg15 : Memref sig .tc .vmem S2x2x128x256 .bf16) (harg15 : arg15.IsWhole) (arg16 : Memref sig .tc .vmem S2x2x128x512 .bf16) (harg16 : arg16.IsWhole) (arg17 : Memref sig .tc .vmem S2x2x416x512 .bf16) (harg17 : arg17.IsWhole) (arg18 : Memref sig .tc .vmem S2x2x128x256 .bf16) (harg18 : arg18.IsWhole) (arg19 : Memref sig .tc .vmem S2x2x128x512 .bf16) (harg19 : arg19.IsWhole) (arg20 : Memref sig .tc .vmem S2x2x416x512 .f32) (harg20 : arg20.IsWhole) (arg21 : Memref sig .tc .vmem S2x2x128x256 .f32) (harg21 : arg21.IsWhole) (arg22 : Memref sig .tc .vmem S2x2x128x512 .f32) (harg22 : arg22.IsWhole) (arg23 : Memref sig .tc .vmem S2x416x512 .bf16) (harg23 : arg23.IsWhole) (arg24 : Memref sig .tc .vmem S2x128x256 .bf16) (harg24 : arg24.IsWhole) (arg25 : Memref sig .tc .vmem S2x128x512 .bf16) (harg25 : arg25.IsWhole) (arg26 : Memref sig .tc .vmem S2x416x512 .bf16) (harg26 : arg26.IsWhole) (arg27 : Memref sig .tc .vmem S2x128x256 .bf16) (harg27 : arg27.IsWhole) (arg28 : Memref sig .tc .vmem S2x128x512 .bf16) (harg28 : arg28.IsWhole) (arg29 : Memref sig .tc .vmem S640x128 .f32) (harg29 : arg29.IsWhole) (arg30 : Memref sig .tc .vmem S640x128 .f32) (harg30 : arg30.IsWhole) (arg31 : Memref sig .tc .vmem S640x128 .f32) (harg31 : arg31.IsWhole) (arg32 : Memref sig .tc .vmem S640x128 .f32) (harg32 : arg32.IsWhole) (arg33 : DmaSems sig S21) (arg34 : DmaSems sig S21) (arg35 : DmaSems sig S3), α) : α :=
  f (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27

theorem dev0_eq (c : Dev nD) : (⟨k0_dev4 c, k0_dev4_lt c⟩ : Dev nD) = peer 0 c := by revert c; decide
theorem dev1_eq (c : Dev nD) : (⟨k0_dev5 c, k0_dev5_lt c⟩ : Dev nD) = peer 1 c := by revert c; decide
theorem dev2_eq (c : Dev nD) : (⟨k0_dev6 c, k0_dev6_lt c⟩ : Dev nD) = peer 2 c := by revert c; decide
theorem dev3_eq (c : Dev nD) : (⟨k0_dev7 c, k0_dev7_lt c⟩ : Dev nD) = peer 3 c := by revert c; decide
theorem dev4_eq (c : Dev nD) : (⟨k0_dev8 c, k0_dev8_lt c⟩ : Dev nD) = peer 4 c := by revert c; decide
theorem dev5_eq (c : Dev nD) : (⟨k0_dev9 c, k0_dev9_lt c⟩ : Dev nD) = peer 5 c := by revert c; decide
theorem dev6_eq (c : Dev nD) : (⟨k0_dev10 c, k0_dev10_lt c⟩ : Dev nD) = peer 6 c := by revert c; decide
theorem dev7_eq (c : Dev nD) : (⟨k0_dev11 c, k0_dev11_lt c⟩ : Dev nD) = peer 7 c := by revert c; decide
theorem dev8_eq (c : Dev nD) : (⟨k0_dev12 c, k0_dev12_lt c⟩ : Dev nD) = peer 8 c := by revert c; decide
theorem dev9_eq (c : Dev nD) : (⟨k0_dev13 c, k0_dev13_lt c⟩ : Dev nD) = peer 9 c := by revert c; decide
theorem dev10_eq (c : Dev nD) : (⟨k0_dev14 c, k0_dev14_lt c⟩ : Dev nD) = peer 10 c := by revert c; decide
theorem dev11_eq (c : Dev nD) : (⟨k0_dev15 c, k0_dev15_lt c⟩ : Dev nD) = peer 11 c := by revert c; decide
theorem dev12_eq (c : Dev nD) : (⟨k0_dev16 c, k0_dev16_lt c⟩ : Dev nD) = peer 12 c := by revert c; decide
theorem dev13_eq (c : Dev nD) : (⟨k0_dev17 c, k0_dev17_lt c⟩ : Dev nD) = peer 13 c := by revert c; decide
theorem dev14_eq (c : Dev nD) : (⟨k0_dev18 c, k0_dev18_lt c⟩ : Dev nD) = peer 14 c := by revert c; decide
theorem dev15_eq (c : Dev nD) : (⟨k0_dev19 c, k0_dev19_lt c⟩ : Dev nD) = peer 15 c := by revert c; decide
theorem dev16_eq (c : Dev nD) : (⟨k0_dev20 c, k0_dev20_lt c⟩ : Dev nD) = peer 16 c := by revert c; decide
theorem dev17_eq (c : Dev nD) : (⟨k0_dev21 c, k0_dev21_lt c⟩ : Dev nD) = peer 17 c := by revert c; decide
theorem dev18_eq (c : Dev nD) : (⟨k0_dev22 c, k0_dev22_lt c⟩ : Dev nD) = peer 18 c := by revert c; decide
theorem dev19_eq (c : Dev nD) : (⟨k0_dev23 c, k0_dev23_lt c⟩ : Dev nD) = peer 19 c := by revert c; decide
theorem dev20_eq (c : Dev nD) : (⟨k0_dev24 c, k0_dev24_lt c⟩ : Dev nD) = peer 20 c := by revert c; decide

end Cert.ReduceProof

end
-- ==== Proof.Reduce.Head.lean ====
/-
The head of the body: the entry handshake and the first copies.
-/
module

public import proofs.«01_k».proof.Proof.Reduce.Devs

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-! ## The handshake -/

/-- The memory of device `c` that a neighbour is to fill, as `c` hands it over. -/
def sibIn (c : Dev nD) : sProp 𝕄 :=
  iprop(inl (F := F) 0 c ∗ inl (F := F) 1 c ∗ inl (F := F) 2 c ∗ inl (F := F) 3 c ∗ inl (F := F) 18 c ∗ inl (F := F) 19 c ∗ inl (F := F) 20 c)
def xnIn (c : Dev nD) : sProp 𝕄 :=
  iprop(inl (F := F) 4 c ∗ inl (F := F) 6 c ∗ inl (F := F) 8 c ∗ inl (F := F) 10 c ∗ inl (F := F) 12 c ∗ inl (F := F) 14 c ∗ inl (F := F) 16 c)
def ynIn (c : Dev nD) : sProp 𝕄 :=
  iprop(inl (F := F) 5 c ∗ inl (F := F) 7 c ∗ inl (F := F) 9 c ∗ inl (F := F) 11 c ∗ inl (F := F) 13 c ∗ inl (F := F) 15 c ∗ inl (F := F) 17 c)

theorem land_peer (k : Fin 21) (c n : Dev nD) (h : peer k n = c) : land (F := F) k n = inl k c := by
  unfold land inl
  rw [h, ← h, peer_peer]

theorem sibPay_eq (c : Dev nD) : sibPay (F := F) (sib c) = sibIn c := by
  have h (k : Fin 21) (hk : peer k (sib c) = c) := land_peer (F := F) k c (sib c) hk
  have e := sib_sib c
  unfold sibPay sibIn
  rw [h 0 e, h 1 e, h 2 e, h 3 e, h 18 e, h 19 e, h 20 e]
theorem xnPay_eq (c : Dev nD) : xnPay (F := F) (xn c) = xnIn c := by
  have h (k : Fin 21) (hk : peer k (xn c) = c) := land_peer (F := F) k c (xn c) hk
  have e := xn_xn c
  unfold xnPay xnIn
  rw [h 4 e, h 6 e, h 8 e, h 10 e, h 12 e, h 14 e, h 16 e]
theorem ynPay_eq (c : Dev nD) : ynPay (F := F) (yn c) = ynIn c := by
  have h (k : Fin 21) (hk : peer k (yn c) = c) := land_peer (F := F) k c (yn c) hk
  have e := yn_yn c
  unfold ynPay ynIn
  rw [h 5 e, h 7 e, h 9 e, h 11 e, h 13 e, h 15 e, h 17 e]
theorem hs1_eq (c : Dev nD) : (⟨k0_dev1 c, k0_dev1_lt c⟩ : Dev nD) = sib c := by revert c; decide
theorem hs2_eq (c : Dev nD) : (⟨k0_dev2 c, k0_dev2_lt c⟩ : Dev nD) = xn c := by revert c; decide
theorem hs3_eq (c : Dev nD) : (⟨k0_dev3 c, k0_dev3_lt c⟩ : Dev nD) = yn c := by revert c; decide

/-- One signal of the handshake. -/
theorem signal_gen (d : Fin 3) (c n : Dev nD) (O : CellTallies nD τ sig Unit) {O' : CellTallies nD τ sig Unit}
    (hO : O' = O + tallyAt (barCell n) () 1) (W : Waits sig Unit)
    {α : Type} {Qt : α → sProp 𝕄} {k : PUnit → Prog (TpuEff nD τ sig (Elt F) Λ₀ .tc) α} :
    iprop(recs m K ∗ owes (c : Thread nD τ) O' W ∗ dutyTok ER (barCell n) 0 d ∗ barPay d n)
      ⊢ iprop((owes (c : Thread nD τ) O W -∗ wp frame (wpE (defs₀ (F := F)) 𝒱₀ (c : Thread nD τ) none) Set.univ (k ⟨⟩) Qt)
          -∗ wp frame (wpE (defs₀ (F := F)) 𝒱₀ (c : Thread nD τ) none) Set.univ (.op (.semSignal (Dev.tc n : Thread nD τ) barS 1) k) Qt) := by
  iintro ⟨#HK, HO, Ht, Hp⟩ Hk
  ihave H1 := (recs_at m K (n, none)) $$ HK
  icases H1 with ⟨#HI, #HR⟩
  iapply (Rounds.wp_signal 𝒱₀ ER (Rd m) (c : Thread nD τ) none (dst := (n : Thread nD τ)) (κ := K (n, none))
      (d := d) (by rw [duties_bar]; exact Finset.mem_univ _) (amount_bar m n d) () O hO)
    $$ [HO Ht Hp]
  · isplitr; · iexact HI
    isplitl [HO]; · iexact HO
    isplitl [Ht]; · iexact Ht
    isplitl [Hp]; · rw [payload_bar]; iexact Hp
    iexact HR
  iexact Hk

/-- Both neighbours' rows and the other core's, that device `c` is to fill. -/
def lands (c : Dev nD) : sProp 𝕄 := iprop(sibPay (F := F) c ∗ xnPay (F := F) c ∗ ynPay (F := F) c)

/-- The handshake's wait: every neighbour has entered and handed its rows over. -/
theorem bar_wait (c : Dev nD) (W : Waits sig Unit) {α : Type} {Qt : α → sProp 𝕄} {k : PUnit → Prog (TpuEff nD τ sig (Elt F) Λ₀ .tc) α} :
    iprop(recs m K ∗ levAts L lv ∗ owes (c : Thread nD τ) (owe c allK) W ∗ cred (tallyAt (barCell c) () 3) ∗ atPos ER (barCell c) 0 ∅ 0)
      ⊢ iprop(((lands (F := F) c ∗ semVal (barCell c) 0 ∗ OW c allK)
            -∗ wp frame (wpE (defs₀ (F := F)) 𝒱₀ (c : Thread nD τ) none) Set.univ (k ⟨⟩) Qt)
          -∗ wp frame (wpE (defs₀ (F := F)) 𝒱₀ (c : Thread nD τ) none) Set.univ (.op (.semWait barS 3) k) Qt) := by
  iintro ⟨#HK, #HL, HO, Hc, Hat⟩ Hk
  ihave H1 := (recs_at m K (c, none)) $$ HK
  icases H1 with ⟨#HI, #HR⟩
  iapply (Rounds.wp_wait_rest_token 𝒱₀ ER (Rd m) (c : Thread nD τ) none (κ := K (c, none))
      (wpE_semWait_eq 𝒱₀ (c : Thread nD τ) none Set.univ) (Set.mem_univ _) () (O := owe c allK) (W := W) (R := 0) (m := 0) (T := ∅)
      (by rw [expect_bar])) $$ [Hc HO Hat]
  · isplitr; · iexact HI
    isplitl [Hc]; · iexact Hc
    isplitl [HO]; · iexact HO
    isplitr; · iapply (mayWait_owe c (.reg barS) allK 1 rfl (by decide)); iexact HL
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  iapply Hk
  isplitl [Hp]; · unfold lands; iexact Hp
  isplitl [Hz]; · iexact Hz
  unfold OW; iexists _; iexact HO

/-! ## The first two parts -/

theorem part1 (c : Dev nD) (W : Waits sig Unit) (Kt : (Σ' (d0 : Dev nD) (v2 v5 v8 v9 v10 v11 : BitVec 32), Sems sig S_) → sProp 𝕄) :
    iprop(recs m K ∗ owes (c : Thread nD τ) (O₀ c) W ∗ (dutyTok ER (barCell (sib c)) 0 0 ∗ dutyTok ER (barCell (xn c)) 0 1 ∗ dutyTok ER (barCell (yn c)) 0 2)
      ∗ (sibIn (F := F) c ∗ xnIn (F := F) c ∗ ynIn (F := F) c)
      ∗ (∀ v2 v5 v8 v9 v10 v11, owes (c : Thread nD τ) (owe c allK) W -∗ Kt ⟨c, v2, v5, v8, v9, v10, v11, SemArray.scalar (sig.barrier 0 rfl)⟩))
     ⊢ wp frame (wpE (defs₀ (F := F)) 𝒱₀ (c : Thread nD τ) none) Set.univ
      (onRefs (k0_part1 (F := F))) Kt := by
  unfold onRefs; rw [k0_part1_eq_skeleton]; unfold k0_part1_skel
  simp only [semSignalWord, Prog.lift, Prog.bind_op, Prog.bind_ret, Prog.pure_eq_ret, wp_deviceId, hs1_eq c, hs2_eq c, hs3_eq c]
  iintro ⟨#HK, HO, ⟨Ht0, Ht1, Ht2⟩, ⟨Hi0, Hi1, Hi2⟩, Hk⟩
  iapply (signal_gen m K 0 c (sib c) (O₁ c) rfl W) $$ [HO Ht0 Hi0]
  · isplitr; · iexact HK
    isplitl [HO]; · iexact HO
    isplitl [Ht0]; · iexact Ht0
    iapply (Entails.of_eq (show sibIn (F := F) c = barPay 0 (sib c) from (sibPay_eq (F := F) c).symm)); iexact Hi0
  iintro HO
  iapply (signal_gen m K 1 c (xn c) (O₂ c) rfl W) $$ [HO Ht1 Hi1]
  · isplitr; · iexact HK
    isplitl [HO]; · iexact HO
    isplitl [Ht1]; · iexact Ht1
    iapply (Entails.of_eq (show xnIn (F := F) c = barPay 1 (xn c) from (xnPay_eq (F := F) c).symm)); iexact Hi1
  iintro HO
  iapply (signal_gen m K 2 c (yn c) (owe c allK) rfl W) $$ [HO Ht2 Hi2]
  · isplitr; · iexact HK
    isplitl [HO]; · iexact HO
    isplitl [Ht2]; · iexact Ht2
    iapply (Entails.of_eq (show ynIn (F := F) c = barPay 2 (yn c) from (ynPay_eq (F := F) c).symm)); iexact Hi2
  iintro HO
  simp only [wp_ret]
  imodintro
  iapply Hk
  iexact HO

/-- What the handshake leaves for the copies after the first. -/
def landsRest (c : Dev nD) : sProp 𝕄 := iprop((land (F := F) 1 c ∗ land (F := F) 2 c ∗ land (F := F) 3 c ∗ land (F := F) 18 c ∗ land (F := F) 19 c ∗ land (F := F) 20 c) ∗ xnPay (F := F) c ∗ ynPay (F := F) c)

theorem part2 (c : Dev nD) (W : Waits sig Unit) (v2 v5 v8 v9 : BitVec 32) (Kt : PUnit → sProp 𝕄) :
    iprop(recs m K ∗ levAts L lv ∗ owes (c : Thread nD τ) (owe c allK) W ∗ cred (tallyAt (barCell c) () 3) ∗ atPos ER (barCell c) 0 ∅ 0 ∗ SK 0 c ∗ hold main_arg0 (o1 c).set fullShare (gv0 m c) c ∗ LK 0 c ∗ hold main_arg0 (o2 c).set fullShare (gv0 m c) c ∗ hole cc0_scratch0 Finset.univ c
      ∗ (∀ r, (landsRest (F := F) c ∗ semVal (barCell c) 0 ∗ SW 0 c ∗ LW 0 c ∗ OW c (allK.drop 1)) -∗ Kt r))
     ⊢ wp frame (wpE (defs₀ (F := F)) 𝒱₀ (c : Thread nD τ) none) Set.univ
      (onRefs (k0_part2 (F := F)) c v2 v5 v8 v9 (SemArray.scalar (sig.barrier 0 rfl))) Kt := by
  unfold onRefs; rw [k0_part2_eq_skeleton]; unfold k0_part2_skel
  simp only [semWaitWord, Prog.lift, Prog.bind_op, Prog.bind_ret, Prog.pure_eq_ret]
  iintro ⟨#HK, #HL, HO, Hbc, Hba, HSK0, HGs0, HLK0, HGl0, Hloc0, Hk⟩
  iapply (bar_wait m K c W) $$ [HO Hbc Hba]
  · isplitr; · iexact HK
    isplitr; · iexact HL
    isplitl [HO]; · iexact HO
    isplitl [Hbc]; · iexact Hbc
    iexact Hba
  iintro ⟨Hland, Hz, HO⟩
  ihave HO := (show (OW c allK : sProp 𝕄) ⊢ OW c (allK.drop 0) from Entails.of_eq rfl) $$ HO
  ihave Hland := (show (lands c : sProp 𝕄) ⊢ iprop(land 0 c ∗ landsRest c) from by
    unfold lands landsRest sibPay
    iintro ⟨⟨H0, H1⟩, H2⟩
    isplitl [H0]; · iexact H0
    isplitl [H1]; · iexact H1
    iexact H2) $$ Hland
  icases Hland with ⟨HLD0, Hland⟩
  ihave Hs := (Entails.of_eq (srcE0 m c).symm) $$ HGs0
  iapply (send_gen m K 0 c _ (dev0_eq c) (allK.drop 1) (sM0 c) (dM0 c) rfl rfl rfl (src0 m c) (lnd0 c) (got0 m c)) $$ [HSK0 HLD0 Hs HO]
  · isplitr; · iexact HK
    isplitl [HSK0]; · iexact HSK0
    isplitl [HLD0]; · iexact HLD0
    isplitl [Hs]; · iexact Hs
    iexact HO
  iintro ⟨HSW0, HO⟩
  iapply (copy_gen m K 0 c (lS0 c) lD0 rfl rfl (lsrc0 m c) (llnd0 c) (lgot0 m c) (locE0 m c)) $$ [HLK0 HGl0 Hloc0]
  · isplitr; · iexact HK
    isplitl [HLK0]; · iexact HLK0
    isplitl [HGl0]; · iexact HGl0
    iexact Hloc0
  iintro HLW0
  simp only [wp_ret]
  imodintro
  iapply Hk
  isplitl [Hland]; · iexact Hland
  isplitl [Hz]; · iexact Hz
  isplitl [HSW0]; · iexact HSW0
  isplitl [HLW0]; · iexact HLW0
  iexact HO

end Cert.ReduceProof

end
-- ==== Proof.Reduce.PartsA.lean ====
/-
The steps of the body from the second exchange between cores to the chips' rounded halves.
-/
module

public import proofs.«01_k».proof.Proof.Reduce.Devs

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

theorem part3 (c : Dev nD) (v2 v5 v8 v9 : BitVec 32) (Kt : (PUnit) → sProp 𝕄) :
    iprop(recs m K ∗ levAts L lv ∗ SK 1 c ∗ land 1 c ∗ hold main_arg1 (o3 c).set fullShare (gv1 m c) c ∗ LK 1 c ∗ hold main_arg1 (o4 c).set fullShare (gv1 m c) c ∗ hole cc0_scratch1 Finset.univ c ∗ SK 2 c ∗ land 2 c ∗ hold main_arg2 (o5 c).set fullShare (gv2 m c) c ∗ LK 2 c ∗ hold main_arg2 (o6 c).set fullShare (gv2 m c) c ∗ hole cc0_scratch2 Finset.univ c ∗ OW c (allK.drop 1)
      ∗ (∀ r, (SW 1 c ∗ LW 1 c ∗ SW 2 c ∗ LW 2 c ∗ OW c (allK.drop 3)) -∗ Kt r))
     ⊢ wp frame (wpE (defs₀ (F := F)) 𝒱₀ (c : Thread nD τ) none) Set.univ
      (onRefs (k0_part3 (F := F)) c v2 v5 v8 v9) Kt := by
  unfold onRefs; rw [k0_part3_eq_skeleton]; unfold k0_part3_skel
  simp only [Prog.lift, Prog.bind_op, Prog.bind_ret, Prog.pure_eq_ret]
  iintro ⟨#HK, #HL, HSK1, HLD1, HGs1, HLK1, HGl1, Hloc1, HSK2, HLD2, HGs2, HLK2, HGl2, Hloc2, HO, Hk⟩
  ihave Hs := (Entails.of_eq (srcE1 m c).symm) $$ HGs1
  iapply (send_gen m K 1 c _ (dev1_eq c) (allK.drop 2) (sM1 c) (dM1 c) rfl rfl rfl (src1 m c) (lnd1 c) (got1 m c)) $$ [HSK1 HLD1 Hs HO]
  · isplitr; · iexact HK
    isplitl [HSK1]; · iexact HSK1
    isplitl [HLD1]; · iexact HLD1
    isplitl [Hs]; · iexact Hs
    iexact HO
  iintro ⟨HSW1, HO⟩
  iapply (copy_gen m K 1 c (lS1 c) lD1 rfl rfl (lsrc1 m c) (llnd1 c) (lgot1 m c) (locE1 m c)) $$ [HLK1 HGl1 Hloc1]
  · isplitr; · iexact HK
    isplitl [HLK1]; · iexact HLK1
    isplitl [HGl1]; · iexact HGl1
    iexact Hloc1
  iintro HLW1
  ihave Hs := (Entails.of_eq (srcE2 m c).symm) $$ HGs2
  iapply (send_gen m K 2 c _ (dev2_eq c) (allK.drop 3) (sM2 c) (dM2 c) rfl rfl rfl (src2 m c) (lnd2 c) (got2 m c)) $$ [HSK2 HLD2 Hs HO]
  · isplitr; · iexact HK
    isplitl [HSK2]; · iexact HSK2
    isplitl [HLD2]; · iexact HLD2
    isplitl [Hs]; · iexact Hs
    iexact HO
  iintro ⟨HSW2, HO⟩
  iapply (copy_gen m K 2 c (lS2 c) lD2 rfl rfl (lsrc2 m c) (llnd2 c) (lgot2 m c) (locE2 m c)) $$ [HLK2 HGl2 Hloc2]
  · isplitr; · iexact HK
    isplitl [HLK2]; · iexact HLK2
    isplitl [HGl2]; · iexact HGl2
    iexact Hloc2
  iintro HLW2
  simp only [wp_ret]
  imodintro
  iapply Hk
  isplitl [HSW1]; · iexact HSW1
  isplitl [HLW1]; · iexact HLW1
  isplitl [HSW2]; · iexact HSW2
  isplitl [HLW2]; · iexact HLW2
  iexact HO

theorem part4 (c : Dev nD) (v2 v5 v8 v9 : BitVec 32) (Kt : (PUnit) → sProp 𝕄) :
    iprop(recs m K ∗ levAts L lv ∗ SK 3 c ∗ land 3 c ∗ hold cc0_stg0_0 Finset.univ fullShare (smv m c) c ∗ LW 0 c ∗ RK 0 c ∗ OW c (allK.drop 3)
      ∗ (∀ r, (hold cc0_stg0_0 Finset.univ fullShare.right (smv m c) c ∗ hold cc0_scratch0 Finset.univ fullShare (la0 m c) c ∗ hold main_arg0 (o2 c).set fullShare (gv0 m c) c ∗ hold cc0_scratch3 Finset.univ fullShare (rs0 m c) c ∗ SW 3 c ∗ ZL 0 c ∗ ZR 0 c ∗ OW c (allK.drop 4)) -∗ Kt r))
     ⊢ wp frame (wpE (defs₀ (F := F)) 𝒱₀ (c : Thread nD τ) none) Set.univ
      (onRefs (k0_part4 (F := F)) c v2 v5 v8 v9) Kt := by
  unfold onRefs; rw [k0_part4_eq_skeleton]; unfold k0_part4_skel
  simp only [Prog.lift, Prog.bind_op, Prog.bind_ret, Prog.pure_eq_ret]
  iintro ⟨#HK, #HL, HSK3, HLD3, Hsm, HLW0, HRK0, HO, Hk⟩
  ihave Hsm := (halves _ c).1 $$ Hsm
  icases Hsm with ⟨Hs, Hsm⟩
  ihave Hs := (Entails.of_eq (srcE3 m c).symm) $$ Hs
  iapply (send_gen m K 3 c _ (dev3_eq c) (allK.drop 4) (sM3 c) (dM3 c) rfl rfl rfl (src3 m c) (lnd3 c) (got3 m c)) $$ [HSK3 HLD3 Hs HO]
  · isplitr; · iexact HK
    isplitl [HSK3]; · iexact HSK3
    isplitl [HLD3]; · iexact HLD3
    isplitl [Hs]; · iexact Hs
    iexact HO
  iintro ⟨HSW3, HO⟩
  iapply (lwait_w m K 0 c (allK.drop 4) rfl rfl) $$ [HLW0 HO]
  · isplitr; · iexact HK
    isplitr; · iexact HL
    isplitl [HLW0]; · iexact HLW0
    iexact HO
  iintro ⟨Hp, HZL0, HO⟩
  ihave Hp := (Entails.of_eq (locE0 m c)) $$ Hp
  icases Hp with ⟨Hloc0, HGl0⟩
  iapply (recv_w m K 0 c (allK.drop 4) (by decide) rfl rfl) $$ [HRK0 HO]
  · isplitr; · iexact HK
    isplitr; · iexact HL
    isplitl [HRK0]; · iexact HRK0
    iexact HO
  iintro ⟨Hp, HZR0, HO⟩
  ihave Hra0 := (Entails.of_eq (gotE0 m c)) $$ Hp
  iapply (wp_load_rect 𝒱₀ (c : Thread nD τ) none Set.univ (m := Memref.whole cc0_scratch0) (r := w_S2x2x416x1024) (S := Finset.univ) (Finset.subset_univ _)) $$ Hloc0; iintro Hloc0
  iapply (wp_load_rect 𝒱₀ (c : Thread nD τ) none Set.univ (m := Memref.whole cc0_scratch3) (r := w_S2x2x416x1024) (S := Finset.univ) (Finset.subset_univ _)) $$ Hra0; iintro Hra0
  iapply (wp_load_rect 𝒱₀ (c : Thread nD τ) none Set.univ (m := Memref.whole cc0_scratch3) (r := w_S2x2x416x1024) (S := Finset.univ) (Finset.subset_univ _)) $$ Hra0; iintro Hra0
  iapply (wp_store 𝒱₀ (c : Thread nD τ) none Set.univ (m := Memref.whole cc0_scratch3) (r := w_S2x2x416x1024) (Mk := Finset.univ) (S := Finset.univ) (Finset.subset_univ _)) $$ Hra0; iintro Hra0
  ihave Hra0 := (st cc0_scratch3 Finset.univ full_S2x2x416x1024 (rs0 m c) rfl c _) $$ Hra0
  simp only [wp_ret]
  imodintro
  iapply Hk
  isplitl [Hsm]; · iexact Hsm
  isplitl [Hloc0]; · iexact Hloc0
  isplitl [HGl0]; · iexact HGl0
  isplitl [Hra0]; · iexact Hra0
  isplitl [HSW3]; · iexact HSW3
  isplitl [HZL0]; · iexact HZL0
  isplitl [HZR0]; · iexact HZR0
  iexact HO

theorem part5 (c : Dev nD) (v5 v8 v10 : BitVec 32) (Kt : (PUnit) → sProp 𝕄) :
    iprop(recs m K ∗ levAts L lv ∗ hold cc0_scratch3 Finset.univ fullShare (rs0 m c) c ∗ hole cc0_scratch6 z0_S2x2x416x512.set c ∗ hole cc0_scratch6 z1_S2x2x416x512.set c ∗ SK 4 c ∗ land 4 c ∗ OW c (allK.drop 4)
      ∗ (∀ r, (hold cc0_scratch3 Finset.univ fullShare (rs0 m c) c ∗ hold cc0_scratch6 z1_S2x2x416x512.set fullShare (b01 m c) c ∗ SW 4 c ∗ OW c (allK.drop 5)) -∗ Kt r))
     ⊢ wp frame (wpE (defs₀ (F := F)) 𝒱₀ (c : Thread nD τ) none) Set.univ
      (onRefs (k0_part5 (F := F)) c v5 v8 v10) Kt := by
  unfold onRefs; rw [k0_part5_eq_skeleton]; unfold k0_part5_skel
  simp only [Prog.lift, Prog.bind_op, Prog.bind_ret, Prog.pure_eq_ret]
  unfold hole
  iintro ⟨#HK, #HL, Hra0, ⟨%f_b00, Hb00⟩, ⟨%f_b01, Hb01⟩, HSK4, HLD4, HO, Hk⟩
  iapply (wp_load_rect 𝒱₀ (c : Thread nD τ) none Set.univ (m := Memref.whole cc0_scratch3) (r := (o7 c)) (S := Finset.univ) (Finset.subset_univ _)) $$ Hra0; iintro Hra0
  iapply (wp_load_rect 𝒱₀ (c : Thread nD τ) none Set.univ (m := Memref.whole cc0_scratch6) (r := z0_S2x2x416x512) (S := z0_S2x2x416x512.set) (le_of_eq (View.set_slice_whole _ _))) $$ Hb00; iintro Hb00
  iapply (wp_store 𝒱₀ (c : Thread nD τ) none Set.univ (m := Memref.whole cc0_scratch6) (r := z0_S2x2x416x512) (Mk := Finset.univ) (S := z0_S2x2x416x512.set) (by rw [View.setOn_univ]; exact le_of_eq (View.set_slice_whole _ _))) $$ Hb00; iintro Hb00
  ihave Hb00 := (st cc0_scratch6 z0_S2x2x416x512.set rfl (b00 m c) rfl c _) $$ Hb00
  iapply (wp_load_rect 𝒱₀ (c : Thread nD τ) none Set.univ (m := Memref.whole cc0_scratch3) (r := (o8 c)) (S := Finset.univ) (Finset.subset_univ _)) $$ Hra0; iintro Hra0
  iapply (wp_load_rect 𝒱₀ (c : Thread nD τ) none Set.univ (m := Memref.whole cc0_scratch6) (r := z1_S2x2x416x512) (S := z1_S2x2x416x512.set) (le_of_eq (View.set_slice_whole _ _))) $$ Hb01; iintro Hb01
  iapply (wp_store 𝒱₀ (c : Thread nD τ) none Set.univ (m := Memref.whole cc0_scratch6) (r := z1_S2x2x416x512) (Mk := Finset.univ) (S := z1_S2x2x416x512.set) (by rw [View.setOn_univ]; exact le_of_eq (View.set_slice_whole _ _))) $$ Hb01; iintro Hb01
  ihave Hb01 := (st cc0_scratch6 z1_S2x2x416x512.set rfl (b01 m c) rfl c _) $$ Hb01
  ihave Hs := (Entails.of_eq (srcE4 m c).symm) $$ Hb00
  iapply (send_gen m K 4 c _ (dev4_eq c) (allK.drop 5) (sM4 c) (dM4 c) rfl rfl rfl (src4 m c) (lnd4 c) (got4 m c)) $$ [HSK4 HLD4 Hs HO]
  · isplitr; · iexact HK
    isplitl [HSK4]; · iexact HSK4
    isplitl [HLD4]; · iexact HLD4
    isplitl [Hs]; · iexact Hs
    iexact HO
  iintro ⟨HSW4, HO⟩
  simp only [wp_ret]
  imodintro
  iapply Hk
  isplitl [Hra0]; · iexact Hra0
  isplitl [Hb01]; · iexact Hb01
  isplitl [HSW4]; · iexact HSW4
  iexact HO

theorem part6 (c : Dev nD) (v2 v5 v8 v9 v11 : BitVec 32) (Kt : (PUnit) → sProp 𝕄) :
    iprop(recs m K ∗ levAts L lv ∗ SK 5 c ∗ land 5 c ∗ hold cc0_scratch6 z1_S2x2x416x512.set fullShare (b01 m c) c ∗ LW 1 c ∗ OW c (allK.drop 5)
      ∗ (∀ r, (hold cc0_scratch1 Finset.univ fullShare (la1 m c) c ∗ hold main_arg1 (o4 c).set fullShare (gv1 m c) c ∗ SW 5 c ∗ ZL 1 c ∗ OW c (allK.drop 6)) -∗ Kt r))
     ⊢ wp frame (wpE (defs₀ (F := F)) 𝒱₀ (c : Thread nD τ) none) Set.univ
      (onRefs (k0_part6 (F := F)) c v2 v5 v8 v9 v11) Kt := by
  unfold onRefs; rw [k0_part6_eq_skeleton]; unfold k0_part6_skel
  simp only [Prog.lift, Prog.bind_op, Prog.bind_ret, Prog.pure_eq_ret]
  iintro ⟨#HK, #HL, HSK5, HLD5, Hb01, HLW1, HO, Hk⟩
  ihave Hs := (Entails.of_eq (srcE5 m c).symm) $$ Hb01
  iapply (send_gen m K 5 c _ (dev5_eq c) (allK.drop 6) (sM5 c) (dM5 c) rfl rfl rfl (src5 m c) (lnd5 c) (got5 m c)) $$ [HSK5 HLD5 Hs HO]
  · isplitr; · iexact HK
    isplitl [HSK5]; · iexact HSK5
    isplitl [HLD5]; · iexact HLD5
    isplitl [Hs]; · iexact Hs
    iexact HO
  iintro ⟨HSW5, HO⟩
  iapply (lwait_w m K 1 c (allK.drop 6) rfl rfl) $$ [HLW1 HO]
  · isplitr; · iexact HK
    isplitr; · iexact HL
    isplitl [HLW1]; · iexact HLW1
    iexact HO
  iintro ⟨Hp, HZL1, HO⟩
  ihave Hp := (Entails.of_eq (locE1 m c)) $$ Hp
  icases Hp with ⟨Hloc1, HGl1⟩
  simp only [wp_ret]
  imodintro
  iapply Hk
  isplitl [Hloc1]; · iexact Hloc1
  isplitl [HGl1]; · iexact HGl1
  isplitl [HSW5]; · iexact HSW5
  isplitl [HZL1]; · iexact HZL1
  iexact HO

theorem part7 (c : Dev nD) (v2 v5 v10 : BitVec 32) (Kt : (BitVec 32) → sProp 𝕄) :
    iprop(recs m K ∗ levAts L lv ∗ RK 1 c ∗ hold cc0_scratch1 Finset.univ fullShare (la1 m c) c ∗ hole cc0_scratch7 z0_S2x2x128x256.set c ∗ hole cc0_scratch7 z1_S2x2x128x256.set c ∗ OW c (allK.drop 6)
      ∗ (∀ r, (hold cc0_scratch4 Finset.univ fullShare (rs1 m c) c ∗ hold cc0_scratch1 Finset.univ fullShare (la1 m c) c ∗ hold cc0_scratch7 z0_S2x2x128x256.set fullShare (b10 m c) c ∗ hold cc0_scratch7 z1_S2x2x128x256.set fullShare (b11 m c) c ∗ ZR 1 c ∗ OW c (allK.drop 6)) -∗ Kt r))
     ⊢ wp frame (wpE (defs₀ (F := F)) 𝒱₀ (c : Thread nD τ) none) Set.univ
      (onRefs (k0_part7 (F := F)) c v2 v5 v10) Kt := by
  unfold onRefs; rw [k0_part7_eq_skeleton]; unfold k0_part7_skel
  simp only [Prog.lift, Prog.bind_op, Prog.bind_ret, Prog.pure_eq_ret]
  unfold hole
  iintro ⟨#HK, #HL, HRK1, Hloc1, ⟨%f_b10, Hb10⟩, ⟨%f_b11, Hb11⟩, HO, Hk⟩
  iapply (recv_w m K 1 c (allK.drop 6) (by decide) rfl rfl) $$ [HRK1 HO]
  · isplitr; · iexact HK
    isplitr; · iexact HL
    isplitl [HRK1]; · iexact HRK1
    iexact HO
  iintro ⟨Hp, HZR1, HO⟩
  ihave Hra1 := (Entails.of_eq (gotE1 m c)) $$ Hp
  iapply (wp_load_rect 𝒱₀ (c : Thread nD τ) none Set.univ (m := Memref.whole cc0_scratch1) (r := w_S2x2x128x512) (S := Finset.univ) (Finset.subset_univ _)) $$ Hloc1; iintro Hloc1
  iapply (wp_load_rect 𝒱₀ (c : Thread nD τ) none Set.univ (m := Memref.whole cc0_scratch4) (r := w_S2x2x128x512) (S := Finset.univ) (Finset.subset_univ _)) $$ Hra1; iintro Hra1
  iapply (wp_load_rect 𝒱₀ (c : Thread nD τ) none Set.univ (m := Memref.whole cc0_scratch4) (r := w_S2x2x128x512) (S := Finset.univ) (Finset.subset_univ _)) $$ Hra1; iintro Hra1
  iapply (wp_store 𝒱₀ (c : Thread nD τ) none Set.univ (m := Memref.whole cc0_scratch4) (r := w_S2x2x128x512) (Mk := Finset.univ) (S := Finset.univ) (Finset.subset_univ _)) $$ Hra1; iintro Hra1
  ihave Hra1 := (st cc0_scratch4 Finset.univ full_S2x2x128x512 (rs1 m c) rfl c _) $$ Hra1
  iapply (wp_load_rect 𝒱₀ (c : Thread nD τ) none Set.univ (m := Memref.whole cc0_scratch4) (r := (o9 c)) (S := Finset.univ) (Finset.subset_univ _)) $$ Hra1; iintro Hra1
  iapply (wp_load_rect 𝒱₀ (c : Thread nD τ) none Set.univ (m := Memref.whole cc0_scratch7) (r := z0_S2x2x128x256) (S := z0_S2x2x128x256.set) (le_of_eq (View.set_slice_whole _ _))) $$ Hb10; iintro Hb10
  iapply (wp_store 𝒱₀ (c : Thread nD τ) none Set.univ (m := Memref.whole cc0_scratch7) (r := z0_S2x2x128x256) (Mk := Finset.univ) (S := z0_S2x2x128x256.set) (by rw [View.setOn_univ]; exact le_of_eq (View.set_slice_whole _ _))) $$ Hb10; iintro Hb10
  ihave Hb10 := (st cc0_scratch7 z0_S2x2x128x256.set rfl (b10 m c) rfl c _) $$ Hb10
  iapply (wp_load_rect 𝒱₀ (c : Thread nD τ) none Set.univ (m := Memref.whole cc0_scratch4) (r := (o10 c)) (S := Finset.univ) (Finset.subset_univ _)) $$ Hra1; iintro Hra1
  iapply (wp_load_rect 𝒱₀ (c : Thread nD τ) none Set.univ (m := Memref.whole cc0_scratch7) (r := z1_S2x2x128x256) (S := z1_S2x2x128x256.set) (le_of_eq (View.set_slice_whole _ _))) $$ Hb11; iintro Hb11
  iapply (wp_store 𝒱₀ (c : Thread nD τ) none Set.univ (m := Memref.whole cc0_scratch7) (r := z1_S2x2x128x256) (Mk := Finset.univ) (S := z1_S2x2x128x256.set) (by rw [View.setOn_univ]; exact le_of_eq (View.set_slice_whole _ _))) $$ Hb11; iintro Hb11
  ihave Hb11 := (st cc0_scratch7 z1_S2x2x128x256.set rfl (b11 m c) rfl c _) $$ Hb11
  simp only [wp_ret]
  imodintro
  iapply Hk
  isplitl [Hra1]; · iexact Hra1
  isplitl [Hloc1]; · iexact Hloc1
  isplitl [Hb10]; · iexact Hb10
  isplitl [Hb11]; · iexact Hb11
  isplitl [HZR1]; · iexact HZR1
  iexact HO

theorem part8 (c : Dev nD) (v2 v5 v8 v11 v194 : BitVec 32) (Kt : (PUnit) → sProp 𝕄) :
    iprop(recs m K ∗ levAts L lv ∗ SK 6 c ∗ land 6 c ∗ hold cc0_scratch7 z0_S2x2x128x256.set fullShare (b10 m c) c ∗ SK 7 c ∗ land 7 c ∗ hold cc0_scratch7 z1_S2x2x128x256.set fullShare (b11 m c) c ∗ OW c (allK.drop 6)
      ∗ (∀ r, (SW 6 c ∗ SW 7 c ∗ OW c (allK.drop 8)) -∗ Kt r))
     ⊢ wp frame (wpE (defs₀ (F := F)) 𝒱₀ (c : Thread nD τ) none) Set.univ
      (onRefs (k0_part8 (F := F)) c v2 v5 v8 v11 v194) Kt := by
  unfold onRefs; rw [k0_part8_eq_skeleton]; unfold k0_part8_skel
  simp only [Prog.lift, Prog.bind_op, Prog.bind_ret, Prog.pure_eq_ret]
  iintro ⟨#HK, #HL, HSK6, HLD6, Hb10, HSK7, HLD7, Hb11, HO, Hk⟩
  ihave Hs := (Entails.of_eq (srcE6 m c).symm) $$ Hb10
  iapply (send_gen m K 6 c _ (dev6_eq c) (allK.drop 7) (sM6 c) (dM6 c) rfl rfl rfl (src6 m c) (lnd6 c) (got6 m c)) $$ [HSK6 HLD6 Hs HO]
  · isplitr; · iexact HK
    isplitl [HSK6]; · iexact HSK6
    isplitl [HLD6]; · iexact HLD6
    isplitl [Hs]; · iexact Hs
    iexact HO
  iintro ⟨HSW6, HO⟩
  ihave Hs := (Entails.of_eq (srcE7 m c).symm) $$ Hb11
  iapply (send_gen m K 7 c _ (dev7_eq c) (allK.drop 8) (sM7 c) (dM7 c) rfl rfl rfl (src7 m c) (lnd7 c) (got7 m c)) $$ [HSK7 HLD7 Hs HO]
  · isplitr; · iexact HK
    isplitl [HSK7]; · iexact HSK7
    isplitl [HLD7]; · iexact HLD7
    isplitl [Hs]; · iexact Hs
    iexact HO
  iintro ⟨HSW7, HO⟩
  simp only [wp_ret]
  imodintro
  iapply Hk
  isplitl [HSW6]; · iexact HSW6
  isplitl [HSW7]; · iexact HSW7
  iexact HO

theorem part9 (c : Dev nD) (v2 v5 v8 v9 : BitVec 32) (Kt : (FVec F S1x2x128x512 .bf16) → sProp 𝕄) :
    iprop(recs m K ∗ levAts L lv ∗ LW 2 c ∗ RK 2 c ∗ hole cc0_scratch8 z0_S2x2x128x512.set c ∗ OW c (allK.drop 8)
      ∗ ((hold cc0_scratch2 Finset.univ fullShare (la2 m c) c ∗ hold main_arg2 (o6 c).set fullShare (gv2 m c) c ∗ hold cc0_scratch5 Finset.univ fullShare (rs2 m c) c ∗ hole cc0_scratch8 z0_S2x2x128x512.set c ∗ ZL 2 c ∗ ZR 2 c ∗ OW c (allK.drop 8)) -∗ Kt (k0_pay8 (rd cc0_scratch5 (o11 c) (rs2 m c)))))
     ⊢ wp frame (wpE (defs₀ (F := F)) 𝒱₀ (c : Thread nD τ) none) Set.univ
      (onRefs (k0_part9 (F := F)) c v2 v5 v8 v9) Kt := by
  unfold onRefs; rw [k0_part9_eq_skeleton]; unfold k0_part9_skel
  simp only [Prog.lift, Prog.bind_op, Prog.bind_ret, Prog.pure_eq_ret]
  unfold hole
  iintro ⟨#HK, #HL, HLW2, HRK2, ⟨%f_b20, Hb20⟩, HO, Hk⟩
  iapply (lwait_w m K 2 c (allK.drop 8) rfl rfl) $$ [HLW2 HO]
  · isplitr; · iexact HK
    isplitr; · iexact HL
    isplitl [HLW2]; · iexact HLW2
    iexact HO
  iintro ⟨Hp, HZL2, HO⟩
  ihave Hp := (Entails.of_eq (locE2 m c)) $$ Hp
  icases Hp with ⟨Hloc2, HGl2⟩
  iapply (recv_w m K 2 c (allK.drop 8) (by decide) rfl rfl) $$ [HRK2 HO]
  · isplitr; · iexact HK
    isplitr; · iexact HL
    isplitl [HRK2]; · iexact HRK2
    iexact HO
  iintro ⟨Hp, HZR2, HO⟩
  ihave Hra2 := (Entails.of_eq (gotE2 m c)) $$ Hp
  iapply (wp_load_rect 𝒱₀ (c : Thread nD τ) none Set.univ (m := Memref.whole cc0_scratch2) (r := w_S2x2x128x1024) (S := Finset.univ) (Finset.subset_univ _)) $$ Hloc2; iintro Hloc2
  iapply (wp_load_rect 𝒱₀ (c : Thread nD τ) none Set.univ (m := Memref.whole cc0_scratch5) (r := w_S2x2x128x1024) (S := Finset.univ) (Finset.subset_univ _)) $$ Hra2; iintro Hra2
  iapply (wp_load_rect 𝒱₀ (c : Thread nD τ) none Set.univ (m := Memref.whole cc0_scratch5) (r := w_S2x2x128x1024) (S := Finset.univ) (Finset.subset_univ _)) $$ Hra2; iintro Hra2
  iapply (wp_store 𝒱₀ (c : Thread nD τ) none Set.univ (m := Memref.whole cc0_scratch5) (r := w_S2x2x128x1024) (Mk := Finset.univ) (S := Finset.univ) (Finset.subset_univ _)) $$ Hra2; iintro Hra2
  ihave Hra2 := (st cc0_scratch5 Finset.univ full_S2x2x128x1024 (rs2 m c) rfl c _) $$ Hra2
  iapply (wp_load_rect 𝒱₀ (c : Thread nD τ) none Set.univ (m := Memref.whole cc0_scratch5) (r := (o11 c)) (S := Finset.univ) (Finset.subset_univ _)) $$ Hra2; iintro Hra2
  iapply (wp_load_rect 𝒱₀ (c : Thread nD τ) none Set.univ (m := Memref.whole cc0_scratch8) (r := z0_S2x2x128x512) (S := z0_S2x2x128x512.set) (le_of_eq (View.set_slice_whole _ _))) $$ Hb20; iintro Hb20
  simp only [wp_ret]
  imodintro
  iapply Hk
  isplitl [Hloc2]; · iexact Hloc2
  isplitl [HGl2]; · iexact HGl2
  isplitl [Hra2]; · iexact Hra2
  isplitl [Hb20]; · iexists _; iexact Hb20
  isplitl [HZL2]; · iexact HZL2
  isplitl [HZR2]; · iexact HZR2
  iexact HO

theorem part10 (c : Dev nD) (v2 v5 v8 v10 v11 : BitVec 32) (Kt : (Σ' (v276 : BitVec 32), BitVec 32) → sProp 𝕄) :
    iprop(recs m K ∗ levAts L lv ∗ hole cc0_scratch8 z0_S2x2x128x512.set c ∗ hold cc0_scratch5 Finset.univ fullShare (rs2 m c) c ∗ hole cc0_scratch8 z1_S2x2x128x512.set c ∗ SK 8 c ∗ land 8 c ∗ OW c (allK.drop 8)
      ∗ (∀ r, (hold cc0_scratch5 Finset.univ fullShare (rs2 m c) c ∗ hold cc0_scratch8 z1_S2x2x128x512.set fullShare (b21 m c) c ∗ SW 8 c ∗ OW c (allK.drop 9)) -∗ Kt r))
     ⊢ wp frame (wpE (defs₀ (F := F)) 𝒱₀ (c : Thread nD τ) none) Set.univ
      (onRefs (k0_part10 (F := F)) c v2 v5 v8 v10 v11 (k0_pay8 (rd cc0_scratch5 (o11 c) (rs2 m c)))) Kt := by
  unfold onRefs; rw [k0_part10_eq_skeleton]; unfold k0_part10_skel
  simp only [Prog.lift, Prog.bind_op, Prog.bind_ret, Prog.pure_eq_ret]
  unfold hole
  iintro ⟨#HK, #HL, ⟨%f_b20, Hb20⟩, Hra2, ⟨%f_b21, Hb21⟩, HSK8, HLD8, HO, Hk⟩
  iapply (wp_store 𝒱₀ (c : Thread nD τ) none Set.univ (m := Memref.whole cc0_scratch8) (r := z0_S2x2x128x512) (Mk := Finset.univ) (S := z0_S2x2x128x512.set) (by rw [View.setOn_univ]; exact le_of_eq (View.set_slice_whole _ _))) $$ Hb20; iintro Hb20
  ihave Hb20 := (st cc0_scratch8 z0_S2x2x128x512.set rfl (b20 m c) rfl c _) $$ Hb20
  iapply (wp_load_rect 𝒱₀ (c : Thread nD τ) none Set.univ (m := Memref.whole cc0_scratch5) (r := (o12 c)) (S := Finset.univ) (Finset.subset_univ _)) $$ Hra2; iintro Hra2
  iapply (wp_load_rect 𝒱₀ (c : Thread nD τ) none Set.univ (m := Memref.whole cc0_scratch8) (r := z1_S2x2x128x512) (S := z1_S2x2x128x512.set) (le_of_eq (View.set_slice_whole _ _))) $$ Hb21; iintro Hb21
  iapply (wp_store 𝒱₀ (c : Thread nD τ) none Set.univ (m := Memref.whole cc0_scratch8) (r := z1_S2x2x128x512) (Mk := Finset.univ) (S := z1_S2x2x128x512.set) (by rw [View.setOn_univ]; exact le_of_eq (View.set_slice_whole _ _))) $$ Hb21; iintro Hb21
  ihave Hb21 := (st cc0_scratch8 z1_S2x2x128x512.set rfl (b21 m c) rfl c _) $$ Hb21
  ihave Hs := (Entails.of_eq (srcE8 m c).symm) $$ Hb20
  iapply (send_gen m K 8 c _ (dev8_eq c) (allK.drop 9) (sM8 c) (dM8 c) rfl rfl rfl (src8 m c) (lnd8 c) (got8 m c)) $$ [HSK8 HLD8 Hs HO]
  · isplitr; · iexact HK
    isplitl [HSK8]; · iexact HSK8
    isplitl [HLD8]; · iexact HLD8
    isplitl [Hs]; · iexact Hs
    iexact HO
  iintro ⟨HSW8, HO⟩
  simp only [wp_ret]
  imodintro
  iapply Hk
  isplitl [Hra2]; · iexact Hra2
  isplitl [Hb21]; · iexact Hb21
  isplitl [HSW8]; · iexact HSW8
  iexact HO

theorem part11 (c : Dev nD) (v2 v5 v8 v9 v10 v276 v277 : BitVec 32) (Kt : (PUnit) → sProp 𝕄) :
    iprop(recs m K ∗ levAts L lv ∗ SK 9 c ∗ land 9 c ∗ hold cc0_scratch8 z1_S2x2x128x512.set fullShare (b21 m c) c ∗ RK 3 c ∗ hold cc0_stg0_0 Finset.univ fullShare.right (smv m c) c ∗ hole cc0_scratch24 Finset.univ c ∗ OW c (allK.drop 9)
      ∗ (∀ r, (hold cc0_scratch21 Finset.univ fullShare (smv m (sib c)) c ∗ hold cc0_stg0_0 Finset.univ fullShare.right (smv m c) c ∗ hold cc0_scratch24 Finset.univ fullShare (acs m c) c ∗ SW 9 c ∗ ZR 3 c ∗ OW c (allK.drop 10)) -∗ Kt r))
     ⊢ wp frame (wpE (defs₀ (F := F)) 𝒱₀ (c : Thread nD τ) none) Set.univ
      (onRefs (k0_part11 (F := F)) c v2 v5 v8 v9 v10 v276 v277) Kt := by
  unfold onRefs; rw [k0_part11_eq_skeleton]; unfold k0_part11_skel
  simp only [Prog.lift, Prog.bind_op, Prog.bind_ret, Prog.pure_eq_ret]
  unfold hole
  iintro ⟨#HK, #HL, HSK9, HLD9, Hb21, HRK3, Hsm, ⟨%f_acs, Hacs⟩, HO, Hk⟩
  ihave Hs := (Entails.of_eq (srcE9 m c).symm) $$ Hb21
  iapply (send_gen m K 9 c _ (dev9_eq c) (allK.drop 10) (sM9 c) (dM9 c) rfl rfl rfl (src9 m c) (lnd9 c) (got9 m c)) $$ [HSK9 HLD9 Hs HO]
  · isplitr; · iexact HK
    isplitl [HSK9]; · iexact HSK9
    isplitl [HLD9]; · iexact HLD9
    isplitl [Hs]; · iexact Hs
    iexact HO
  iintro ⟨HSW9, HO⟩
  iapply (recv_w m K 3 c (allK.drop 10) (by decide) rfl rfl) $$ [HRK3 HO]
  · isplitr; · iexact HK
    isplitr; · iexact HL
    isplitl [HRK3]; · iexact HRK3
    iexact HO
  iintro ⟨Hp, HZR3, HO⟩
  ihave Hsa := (Entails.of_eq (gotE3 m c)) $$ Hp
  iapply (wp_load_rect 𝒱₀ (c : Thread nD τ) none Set.univ (m := Memref.whole cc0_stg0_0) (r := w_S640x128) (S := Finset.univ) (Finset.subset_univ _)) $$ Hsm; iintro Hsm
  iapply (wp_load_rect 𝒱₀ (c : Thread nD τ) none Set.univ (m := Memref.whole cc0_scratch21) (r := w_S640x128) (S := Finset.univ) (Finset.subset_univ _)) $$ Hsa; iintro Hsa
  iapply (wp_load_rect 𝒱₀ (c : Thread nD τ) none Set.univ (m := Memref.whole cc0_scratch24) (r := w_S640x128) (S := Finset.univ) (Finset.subset_univ _)) $$ Hacs; iintro Hacs
  iapply (wp_store 𝒱₀ (c : Thread nD τ) none Set.univ (m := Memref.whole cc0_scratch24) (r := w_S640x128) (Mk := Finset.univ) (S := Finset.univ) (Finset.subset_univ _)) $$ Hacs; iintro Hacs
  ihave Hacs := (st cc0_scratch24 Finset.univ full_S640x128 (acs m c) rfl c _) $$ Hacs
  simp only [wp_ret]
  imodintro
  iapply Hk
  isplitl [Hsa]; · iexact Hsa
  isplitl [Hsm]; · iexact Hsm
  isplitl [Hacs]; · iexact Hacs
  isplitl [HSW9]; · iexact HSW9
  isplitl [HZR3]; · iexact HZR3
  iexact HO

end Cert.ReduceProof

end
-- ==== Proof.Reduce.PartsB.lean ====
/-
The steps of the body in which the first exchange of the chips is summed and the second is sent.
-/
module

public import proofs.«01_k».proof.Proof.Reduce.Devs

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

theorem part12 (c : Dev nD) (v2 v5 v8 v10 v11 : BitVec 32) (Kt : (PUnit) → sProp 𝕄) :
    iprop(recs m K ∗ levAts L lv ∗ SK 10 c ∗ land 10 c ∗ hold cc0_scratch24 Finset.univ fullShare (acs m c) c ∗ RK 4 c ∗ RK 5 c ∗ OW c (allK.drop 10)
      ∗ (∀ r, (hold cc0_scratch24 Finset.univ fullShare.right (acs m c) c ∗ hold cc0_scratch9 z0_S2x2x416x512.set fullShare (b00 m (xn c)) c ∗ hold cc0_scratch9 z1_S2x2x416x512.set fullShare (b01 m (yn c)) c ∗ SW 10 c ∗ ZR 4 c ∗ ZR 5 c ∗ OW c (allK.drop 11)) -∗ Kt r))
     ⊢ wp frame (wpE (defs₀ (F := F)) 𝒱₀ (c : Thread nD τ) none) Set.univ
      (onRefs (k0_part12 (F := F)) c v2 v5 v8 v10 v11) Kt := by
  unfold onRefs; rw [k0_part12_eq_skeleton]; unfold k0_part12_skel
  simp only [Prog.lift, Prog.bind_op, Prog.bind_ret, Prog.pure_eq_ret]
  iintro ⟨#HK, #HL, HSK10, HLD10, Hacs, HRK4, HRK5, HO, Hk⟩
  ihave Hacs := (halves _ c).1 $$ Hacs
  icases Hacs with ⟨Hs, Hacs⟩
  ihave Hs := (Entails.of_eq (srcE10 m c).symm) $$ Hs
  iapply (send_gen m K 10 c _ (dev10_eq c) (allK.drop 11) (sM10 c) (dM10 c) rfl rfl rfl (src10 m c) (lnd10 c) (got10 m c)) $$ [HSK10 HLD10 Hs HO]
  · isplitr; · iexact HK
    isplitl [HSK10]; · iexact HSK10
    isplitl [HLD10]; · iexact HLD10
    isplitl [Hs]; · iexact Hs
    iexact HO
  iintro ⟨HSW10, HO⟩
  iapply (recv_w m K 4 c (allK.drop 11) (by decide) rfl rfl) $$ [HRK4 HO]
  · isplitr; · iexact HK
    isplitr; · iexact HL
    isplitl [HRK4]; · iexact HRK4
    iexact HO
  iintro ⟨Hp, HZR4, HO⟩
  ihave Hrb00 := (Entails.of_eq (gotE4 m c)) $$ Hp
  iapply (recv_w m K 5 c (allK.drop 11) (by decide) rfl rfl) $$ [HRK5 HO]
  · isplitr; · iexact HK
    isplitr; · iexact HL
    isplitl [HRK5]; · iexact HRK5
    iexact HO
  iintro ⟨Hp, HZR5, HO⟩
  ihave Hrb01 := (Entails.of_eq (gotE5 m c)) $$ Hp
  simp only [wp_ret]
  imodintro
  iapply Hk
  isplitl [Hacs]; · iexact Hacs
  isplitl [Hrb00]; · iexact Hrb00
  isplitl [Hrb01]; · iexact Hrb01
  isplitl [HSW10]; · iexact HSW10
  isplitl [HZR4]; · iexact HZR4
  isplitl [HZR5]; · iexact HZR5
  iexact HO

theorem part13 (c : Dev nD) (v2 v5 : BitVec 32) (Kt : (PUnit) → sProp 𝕄) :
    iprop(recs m K ∗ levAts L lv ∗ hold cc0_scratch3 Finset.univ fullShare (rs0 m c) c ∗ hold cc0_scratch9 z0_S2x2x416x512.set fullShare (b00 m (xn c)) c ∗ hole cc0_scratch12 z0_S2x2x416x512.set c ∗ hold cc0_scratch9 z1_S2x2x416x512.set fullShare (b01 m (yn c)) c ∗ hole cc0_scratch12 z1_S2x2x416x512.set c ∗ hole cc0_scratch15 z0_S2x416x512.set c ∗ OW c (allK.drop 11)
      ∗ (∀ r, (hold cc0_scratch3 Finset.univ fullShare (rs0 m c) c ∗ hold cc0_scratch9 z0_S2x2x416x512.set fullShare (b00 m (xn c)) c ∗ hold cc0_scratch12 z0_S2x2x416x512.set fullShare (ac00 m c) c ∗ hold cc0_scratch9 z1_S2x2x416x512.set fullShare (b01 m (yn c)) c ∗ hold cc0_scratch12 z1_S2x2x416x512.set fullShare (ac01 m c) c ∗ hold cc0_scratch15 z0_S2x416x512.set fullShare (sc00 m c) c ∗ OW c (allK.drop 11)) -∗ Kt r))
     ⊢ wp frame (wpE (defs₀ (F := F)) 𝒱₀ (c : Thread nD τ) none) Set.univ
      (onRefs (k0_part13 (F := F)) c v2 v5) Kt := by
  unfold onRefs; rw [k0_part13_eq_skeleton]; unfold k0_part13_skel
  simp only [Prog.lift, Prog.bind_op, Prog.bind_ret, Prog.pure_eq_ret]
  unfold hole
  iintro ⟨#HK, #HL, Hra0, Hrb00, ⟨%f_ac00, Hac00⟩, Hrb01, ⟨%f_ac01, Hac01⟩, ⟨%f_sc00, Hsc00⟩, HO, Hk⟩
  iapply (wp_load_rect 𝒱₀ (c : Thread nD τ) none Set.univ (m := Memref.whole cc0_scratch3) (r := (o13 c)) (S := Finset.univ) (Finset.subset_univ _)) $$ Hra0; iintro Hra0
  iapply (wp_load_rect 𝒱₀ (c : Thread nD τ) none Set.univ (m := Memref.whole cc0_scratch9) (r := z0_S2x2x416x512) (S := z0_S2x2x416x512.set) (le_of_eq (View.set_slice_whole _ _))) $$ Hrb00; iintro Hrb00
  iapply (wp_load_rect 𝒱₀ (c : Thread nD τ) none Set.univ (m := Memref.whole cc0_scratch12) (r := z0_S2x2x416x512) (S := z0_S2x2x416x512.set) (le_of_eq (View.set_slice_whole _ _))) $$ Hac00; iintro Hac00
  iapply (wp_store 𝒱₀ (c : Thread nD τ) none Set.univ (m := Memref.whole cc0_scratch12) (r := z0_S2x2x416x512) (Mk := Finset.univ) (S := z0_S2x2x416x512.set) (by rw [View.setOn_univ]; exact le_of_eq (View.set_slice_whole _ _))) $$ Hac00; iintro Hac00
  ihave Hac00 := (st cc0_scratch12 z0_S2x2x416x512.set rfl (ac00 m c) rfl c _) $$ Hac00
  iapply (wp_load_rect 𝒱₀ (c : Thread nD τ) none Set.univ (m := Memref.whole cc0_scratch3) (r := (o14 c)) (S := Finset.univ) (Finset.subset_univ _)) $$ Hra0; iintro Hra0
  iapply (wp_load_rect 𝒱₀ (c : Thread nD τ) none Set.univ (m := Memref.whole cc0_scratch9) (r := z1_S2x2x416x512) (S := z1_S2x2x416x512.set) (le_of_eq (View.set_slice_whole _ _))) $$ Hrb01; iintro Hrb01
  iapply (wp_load_rect 𝒱₀ (c : Thread nD τ) none Set.univ (m := Memref.whole cc0_scratch12) (r := z1_S2x2x416x512) (S := z1_S2x2x416x512.set) (le_of_eq (View.set_slice_whole _ _))) $$ Hac01; iintro Hac01
  iapply (wp_store 𝒱₀ (c : Thread nD τ) none Set.univ (m := Memref.whole cc0_scratch12) (r := z1_S2x2x416x512) (Mk := Finset.univ) (S := z1_S2x2x416x512.set) (by rw [View.setOn_univ]; exact le_of_eq (View.set_slice_whole _ _))) $$ Hac01; iintro Hac01
  ihave Hac01 := (st cc0_scratch12 z1_S2x2x416x512.set rfl (ac01 m c) rfl c _) $$ Hac01
  iapply (wp_load_rect 𝒱₀ (c : Thread nD τ) none Set.univ (m := Memref.whole cc0_scratch12) (r := (o15 c)) (S := z0_S2x2x416x512.set) ((le_of_eq (View.set_slice_whole _ _)).trans (sub_o15 c))) $$ Hac00; iintro Hac00
  iapply (wp_load_rect 𝒱₀ (c : Thread nD τ) none Set.univ (m := Memref.whole cc0_scratch15) (r := z0_S2x416x512) (S := z0_S2x416x512.set) (le_of_eq (View.set_slice_whole _ _))) $$ Hsc00; iintro Hsc00
  iapply (wp_store 𝒱₀ (c : Thread nD τ) none Set.univ (m := Memref.whole cc0_scratch15) (r := z0_S2x416x512) (Mk := Finset.univ) (S := z0_S2x416x512.set) (by rw [View.setOn_univ]; exact le_of_eq (View.set_slice_whole _ _))) $$ Hsc00; iintro Hsc00
  ihave Hsc00 := (st cc0_scratch15 z0_S2x416x512.set rfl (sc00 m c) rfl c _) $$ Hsc00
  simp only [wp_ret]
  imodintro
  iapply Hk
  isplitl [Hra0]; · iexact Hra0
  isplitl [Hrb00]; · iexact Hrb00
  isplitl [Hac00]; · iexact Hac00
  isplitl [Hrb01]; · iexact Hrb01
  isplitl [Hac01]; · iexact Hac01
  isplitl [Hsc00]; · iexact Hsc00
  iexact HO

theorem part14 (c : Dev nD) (v2 v5 v8 v10 v11 : BitVec 32) (Kt : (PUnit) → sProp 𝕄) :
    iprop(recs m K ∗ levAts L lv ∗ hold cc0_scratch12 z1_S2x2x416x512.set fullShare (ac01 m c) c ∗ hole cc0_scratch15 z1_S2x416x512.set c ∗ SK 11 c ∗ land 11 c ∗ hold cc0_scratch15 z0_S2x416x512.set fullShare (sc00 m c) c ∗ OW c (allK.drop 11)
      ∗ (∀ r, (hold cc0_scratch12 z1_S2x2x416x512.set fullShare (ac01 m c) c ∗ hold cc0_scratch15 z1_S2x416x512.set fullShare (sc01 m c) c ∗ SW 11 c ∗ OW c (allK.drop 12)) -∗ Kt r))
     ⊢ wp frame (wpE (defs₀ (F := F)) 𝒱₀ (c : Thread nD τ) none) Set.univ
      (onRefs (k0_part14 (F := F)) c v2 v5 v8 v10 v11) Kt := by
  unfold onRefs; rw [k0_part14_eq_skeleton]; unfold k0_part14_skel
  simp only [Prog.lift, Prog.bind_op, Prog.bind_ret, Prog.pure_eq_ret]
  unfold hole
  iintro ⟨#HK, #HL, Hac01, ⟨%f_sc01, Hsc01⟩, HSK11, HLD11, Hsc00, HO, Hk⟩
  iapply (wp_load_rect 𝒱₀ (c : Thread nD τ) none Set.univ (m := Memref.whole cc0_scratch12) (r := (o16 c)) (S := z1_S2x2x416x512.set) ((le_of_eq (View.set_slice_whole _ _)).trans (sub_o16 c))) $$ Hac01; iintro Hac01
  iapply (wp_load_rect 𝒱₀ (c : Thread nD τ) none Set.univ (m := Memref.whole cc0_scratch15) (r := z1_S2x416x512) (S := z1_S2x416x512.set) (le_of_eq (View.set_slice_whole _ _))) $$ Hsc01; iintro Hsc01
  iapply (wp_store 𝒱₀ (c : Thread nD τ) none Set.univ (m := Memref.whole cc0_scratch15) (r := z1_S2x416x512) (Mk := Finset.univ) (S := z1_S2x416x512.set) (by rw [View.setOn_univ]; exact le_of_eq (View.set_slice_whole _ _))) $$ Hsc01; iintro Hsc01
  ihave Hsc01 := (st cc0_scratch15 z1_S2x416x512.set rfl (sc01 m c) rfl c _) $$ Hsc01
  ihave Hs := (Entails.of_eq (srcE11 m c).symm) $$ Hsc00
  iapply (send_gen m K 11 c _ (dev11_eq c) (allK.drop 12) (sM11 c) (dM11 c) rfl rfl rfl (src11 m c) (lnd11 c) (got11 m c)) $$ [HSK11 HLD11 Hs HO]
  · isplitr; · iexact HK
    isplitl [HSK11]; · iexact HSK11
    isplitl [HLD11]; · iexact HLD11
    isplitl [Hs]; · iexact Hs
    iexact HO
  iintro ⟨HSW11, HO⟩
  simp only [wp_ret]
  imodintro
  iapply Hk
  isplitl [Hac01]; · iexact Hac01
  isplitl [Hsc01]; · iexact Hsc01
  isplitl [HSW11]; · iexact HSW11
  iexact HO

theorem part15 (c : Dev nD) (v2 v5 v8 v10 v11 : BitVec 32) (Kt : (PUnit) → sProp 𝕄) :
    iprop(recs m K ∗ levAts L lv ∗ SK 12 c ∗ land 12 c ∗ hold cc0_scratch15 z1_S2x416x512.set fullShare (sc01 m c) c ∗ RK 6 c ∗ RK 7 c ∗ OW c (allK.drop 12)
      ∗ (∀ r, (hold cc0_scratch10 z0_S2x2x128x256.set fullShare (b10 m (xn c)) c ∗ hold cc0_scratch10 z1_S2x2x128x256.set fullShare (b11 m (yn c)) c ∗ SW 12 c ∗ ZR 6 c ∗ ZR 7 c ∗ OW c (allK.drop 13)) -∗ Kt r))
     ⊢ wp frame (wpE (defs₀ (F := F)) 𝒱₀ (c : Thread nD τ) none) Set.univ
      (onRefs (k0_part15 (F := F)) c v2 v5 v8 v10 v11) Kt := by
  unfold onRefs; rw [k0_part15_eq_skeleton]; unfold k0_part15_skel
  simp only [Prog.lift, Prog.bind_op, Prog.bind_ret, Prog.pure_eq_ret]
  iintro ⟨#HK, #HL, HSK12, HLD12, Hsc01, HRK6, HRK7, HO, Hk⟩
  ihave Hs := (Entails.of_eq (srcE12 m c).symm) $$ Hsc01
  iapply (send_gen m K 12 c _ (dev12_eq c) (allK.drop 13) (sM12 c) (dM12 c) rfl rfl rfl (src12 m c) (lnd12 c) (got12 m c)) $$ [HSK12 HLD12 Hs HO]
  · isplitr; · iexact HK
    isplitl [HSK12]; · iexact HSK12
    isplitl [HLD12]; · iexact HLD12
    isplitl [Hs]; · iexact Hs
    iexact HO
  iintro ⟨HSW12, HO⟩
  iapply (recv_w m K 6 c (allK.drop 13) (by decide) rfl rfl) $$ [HRK6 HO]
  · isplitr; · iexact HK
    isplitr; · iexact HL
    isplitl [HRK6]; · iexact HRK6
    iexact HO
  iintro ⟨Hp, HZR6, HO⟩
  ihave Hrb10 := (Entails.of_eq (gotE6 m c)) $$ Hp
  iapply (recv_w m K 7 c (allK.drop 13) (by decide) rfl rfl) $$ [HRK7 HO]
  · isplitr; · iexact HK
    isplitr; · iexact HL
    isplitl [HRK7]; · iexact HRK7
    iexact HO
  iintro ⟨Hp, HZR7, HO⟩
  ihave Hrb11 := (Entails.of_eq (gotE7 m c)) $$ Hp
  simp only [wp_ret]
  imodintro
  iapply Hk
  isplitl [Hrb10]; · iexact Hrb10
  isplitl [Hrb11]; · iexact Hrb11
  isplitl [HSW12]; · iexact HSW12
  isplitl [HZR6]; · iexact HZR6
  isplitl [HZR7]; · iexact HZR7
  iexact HO

theorem part16 (c : Dev nD) (v2 v5 : BitVec 32) (Kt : (PUnit) → sProp 𝕄) :
    iprop(recs m K ∗ levAts L lv ∗ hold cc0_scratch4 Finset.univ fullShare (rs1 m c) c ∗ hold cc0_scratch10 z0_S2x2x128x256.set fullShare (b10 m (xn c)) c ∗ hole cc0_scratch13 z0_S2x2x128x256.set c ∗ hold cc0_scratch10 z1_S2x2x128x256.set fullShare (b11 m (yn c)) c ∗ hole cc0_scratch13 z1_S2x2x128x256.set c ∗ hole cc0_scratch16 z0_S2x128x256.set c ∗ OW c (allK.drop 13)
      ∗ (∀ r, (hold cc0_scratch4 Finset.univ fullShare (rs1 m c) c ∗ hold cc0_scratch10 z0_S2x2x128x256.set fullShare (b10 m (xn c)) c ∗ hold cc0_scratch13 z0_S2x2x128x256.set fullShare (ac10 m c) c ∗ hold cc0_scratch10 z1_S2x2x128x256.set fullShare (b11 m (yn c)) c ∗ hold cc0_scratch13 z1_S2x2x128x256.set fullShare (ac11 m c) c ∗ hold cc0_scratch16 z0_S2x128x256.set fullShare (sc10 m c) c ∗ OW c (allK.drop 13)) -∗ Kt r))
     ⊢ wp frame (wpE (defs₀ (F := F)) 𝒱₀ (c : Thread nD τ) none) Set.univ
      (onRefs (k0_part16 (F := F)) c v2 v5) Kt := by
  unfold onRefs; rw [k0_part16_eq_skeleton]; unfold k0_part16_skel
  simp only [Prog.lift, Prog.bind_op, Prog.bind_ret, Prog.pure_eq_ret]
  unfold hole
  iintro ⟨#HK, #HL, Hra1, Hrb10, ⟨%f_ac10, Hac10⟩, Hrb11, ⟨%f_ac11, Hac11⟩, ⟨%f_sc10, Hsc10⟩, HO, Hk⟩
  iapply (wp_load_rect 𝒱₀ (c : Thread nD τ) none Set.univ (m := Memref.whole cc0_scratch4) (r := (o17 c)) (S := Finset.univ) (Finset.subset_univ _)) $$ Hra1; iintro Hra1
  iapply (wp_load_rect 𝒱₀ (c : Thread nD τ) none Set.univ (m := Memref.whole cc0_scratch10) (r := z0_S2x2x128x256) (S := z0_S2x2x128x256.set) (le_of_eq (View.set_slice_whole _ _))) $$ Hrb10; iintro Hrb10
  iapply (wp_load_rect 𝒱₀ (c : Thread nD τ) none Set.univ (m := Memref.whole cc0_scratch13) (r := z0_S2x2x128x256) (S := z0_S2x2x128x256.set) (le_of_eq (View.set_slice_whole _ _))) $$ Hac10; iintro Hac10
  iapply (wp_store 𝒱₀ (c : Thread nD τ) none Set.univ (m := Memref.whole cc0_scratch13) (r := z0_S2x2x128x256) (Mk := Finset.univ) (S := z0_S2x2x128x256.set) (by rw [View.setOn_univ]; exact le_of_eq (View.set_slice_whole _ _))) $$ Hac10; iintro Hac10
  ihave Hac10 := (st cc0_scratch13 z0_S2x2x128x256.set rfl (ac10 m c) rfl c _) $$ Hac10
  iapply (wp_load_rect 𝒱₀ (c : Thread nD τ) none Set.univ (m := Memref.whole cc0_scratch4) (r := (o18 c)) (S := Finset.univ) (Finset.subset_univ _)) $$ Hra1; iintro Hra1
  iapply (wp_load_rect 𝒱₀ (c : Thread nD τ) none Set.univ (m := Memref.whole cc0_scratch10) (r := z1_S2x2x128x256) (S := z1_S2x2x128x256.set) (le_of_eq (View.set_slice_whole _ _))) $$ Hrb11; iintro Hrb11
  iapply (wp_load_rect 𝒱₀ (c : Thread nD τ) none Set.univ (m := Memref.whole cc0_scratch13) (r := z1_S2x2x128x256) (S := z1_S2x2x128x256.set) (le_of_eq (View.set_slice_whole _ _))) $$ Hac11; iintro Hac11
  iapply (wp_store 𝒱₀ (c : Thread nD τ) none Set.univ (m := Memref.whole cc0_scratch13) (r := z1_S2x2x128x256) (Mk := Finset.univ) (S := z1_S2x2x128x256.set) (by rw [View.setOn_univ]; exact le_of_eq (View.set_slice_whole _ _))) $$ Hac11; iintro Hac11
  ihave Hac11 := (st cc0_scratch13 z1_S2x2x128x256.set rfl (ac11 m c) rfl c _) $$ Hac11
  iapply (wp_load_rect 𝒱₀ (c : Thread nD τ) none Set.univ (m := Memref.whole cc0_scratch13) (r := (o19 c)) (S := z0_S2x2x128x256.set) ((le_of_eq (View.set_slice_whole _ _)).trans (sub_o19 c))) $$ Hac10; iintro Hac10
  iapply (wp_load_rect 𝒱₀ (c : Thread nD τ) none Set.univ (m := Memref.whole cc0_scratch16) (r := z0_S2x128x256) (S := z0_S2x128x256.set) (le_of_eq (View.set_slice_whole _ _))) $$ Hsc10; iintro Hsc10
  iapply (wp_store 𝒱₀ (c : Thread nD τ) none Set.univ (m := Memref.whole cc0_scratch16) (r := z0_S2x128x256) (Mk := Finset.univ) (S := z0_S2x128x256.set) (by rw [View.setOn_univ]; exact le_of_eq (View.set_slice_whole _ _))) $$ Hsc10; iintro Hsc10
  ihave Hsc10 := (st cc0_scratch16 z0_S2x128x256.set rfl (sc10 m c) rfl c _) $$ Hsc10
  simp only [wp_ret]
  imodintro
  iapply Hk
  isplitl [Hra1]; · iexact Hra1
  isplitl [Hrb10]; · iexact Hrb10
  isplitl [Hac10]; · iexact Hac10
  isplitl [Hrb11]; · iexact Hrb11
  isplitl [Hac11]; · iexact Hac11
  isplitl [Hsc10]; · iexact Hsc10
  iexact HO

theorem part17 (c : Dev nD) (v2 v5 v8 v10 v11 : BitVec 32) (Kt : (PUnit) → sProp 𝕄) :
    iprop(recs m K ∗ levAts L lv ∗ hold cc0_scratch13 z1_S2x2x128x256.set fullShare (ac11 m c) c ∗ hole cc0_scratch16 z1_S2x128x256.set c ∗ SK 13 c ∗ land 13 c ∗ hold cc0_scratch16 z0_S2x128x256.set fullShare (sc10 m c) c ∗ OW c (allK.drop 13)
      ∗ (∀ r, (hold cc0_scratch13 z1_S2x2x128x256.set fullShare (ac11 m c) c ∗ hold cc0_scratch16 z1_S2x128x256.set fullShare (sc11 m c) c ∗ SW 13 c ∗ OW c (allK.drop 14)) -∗ Kt r))
     ⊢ wp frame (wpE (defs₀ (F := F)) 𝒱₀ (c : Thread nD τ) none) Set.univ
      (onRefs (k0_part17 (F := F)) c v2 v5 v8 v10 v11) Kt := by
  unfold onRefs; rw [k0_part17_eq_skeleton]; unfold k0_part17_skel
  simp only [Prog.lift, Prog.bind_op, Prog.bind_ret, Prog.pure_eq_ret]
  unfold hole
  iintro ⟨#HK, #HL, Hac11, ⟨%f_sc11, Hsc11⟩, HSK13, HLD13, Hsc10, HO, Hk⟩
  iapply (wp_load_rect 𝒱₀ (c : Thread nD τ) none Set.univ (m := Memref.whole cc0_scratch13) (r := (o20 c)) (S := z1_S2x2x128x256.set) ((le_of_eq (View.set_slice_whole _ _)).trans (sub_o20 c))) $$ Hac11; iintro Hac11
  iapply (wp_load_rect 𝒱₀ (c : Thread nD τ) none Set.univ (m := Memref.whole cc0_scratch16) (r := z1_S2x128x256) (S := z1_S2x128x256.set) (le_of_eq (View.set_slice_whole _ _))) $$ Hsc11; iintro Hsc11
  iapply (wp_store 𝒱₀ (c : Thread nD τ) none Set.univ (m := Memref.whole cc0_scratch16) (r := z1_S2x128x256) (Mk := Finset.univ) (S := z1_S2x128x256.set) (by rw [View.setOn_univ]; exact le_of_eq (View.set_slice_whole _ _))) $$ Hsc11; iintro Hsc11
  ihave Hsc11 := (st cc0_scratch16 z1_S2x128x256.set rfl (sc11 m c) rfl c _) $$ Hsc11
  ihave Hs := (Entails.of_eq (srcE13 m c).symm) $$ Hsc10
  iapply (send_gen m K 13 c _ (dev13_eq c) (allK.drop 14) (sM13 c) (dM13 c) rfl rfl rfl (src13 m c) (lnd13 c) (got13 m c)) $$ [HSK13 HLD13 Hs HO]
  · isplitr; · iexact HK
    isplitl [HSK13]; · iexact HSK13
    isplitl [HLD13]; · iexact HLD13
    isplitl [Hs]; · iexact Hs
    iexact HO
  iintro ⟨HSW13, HO⟩
  simp only [wp_ret]
  imodintro
  iapply Hk
  isplitl [Hac11]; · iexact Hac11
  isplitl [Hsc11]; · iexact Hsc11
  isplitl [HSW13]; · iexact HSW13
  iexact HO

theorem part18 (c : Dev nD) (v2 v5 v8 v10 v11 : BitVec 32) (Kt : (PUnit) → sProp 𝕄) :
    iprop(recs m K ∗ levAts L lv ∗ SK 14 c ∗ land 14 c ∗ hold cc0_scratch16 z1_S2x128x256.set fullShare (sc11 m c) c ∗ RK 8 c ∗ OW c (allK.drop 14)
      ∗ (∀ r, (hold cc0_scratch11 z0_S2x2x128x512.set fullShare (b20 m (xn c)) c ∗ SW 14 c ∗ ZR 8 c ∗ OW c (allK.drop 15)) -∗ Kt r))
     ⊢ wp frame (wpE (defs₀ (F := F)) 𝒱₀ (c : Thread nD τ) none) Set.univ
      (onRefs (k0_part18 (F := F)) c v2 v5 v8 v10 v11) Kt := by
  unfold onRefs; rw [k0_part18_eq_skeleton]; unfold k0_part18_skel
  simp only [Prog.lift, Prog.bind_op, Prog.bind_ret, Prog.pure_eq_ret]
  iintro ⟨#HK, #HL, HSK14, HLD14, Hsc11, HRK8, HO, Hk⟩
  ihave Hs := (Entails.of_eq (srcE14 m c).symm) $$ Hsc11
  iapply (send_gen m K 14 c _ (dev14_eq c) (allK.drop 15) (sM14 c) (dM14 c) rfl rfl rfl (src14 m c) (lnd14 c) (got14 m c)) $$ [HSK14 HLD14 Hs HO]
  · isplitr; · iexact HK
    isplitl [HSK14]; · iexact HSK14
    isplitl [HLD14]; · iexact HLD14
    isplitl [Hs]; · iexact Hs
    iexact HO
  iintro ⟨HSW14, HO⟩
  iapply (recv_w m K 8 c (allK.drop 15) (by decide) rfl rfl) $$ [HRK8 HO]
  · isplitr; · iexact HK
    isplitr; · iexact HL
    isplitl [HRK8]; · iexact HRK8
    iexact HO
  iintro ⟨Hp, HZR8, HO⟩
  ihave Hrb20 := (Entails.of_eq (gotE8 m c)) $$ Hp
  simp only [wp_ret]
  imodintro
  iapply Hk
  isplitl [Hrb20]; · iexact Hrb20
  isplitl [HSW14]; · iexact HSW14
  isplitl [HZR8]; · iexact HZR8
  iexact HO

theorem part19 (c : Dev nD) (v2 v5 : BitVec 32) (Kt : (FVec F S128x512 .bf16) → sProp 𝕄) :
    iprop(recs m K ∗ levAts L lv ∗ RK 9 c ∗ hold cc0_scratch5 Finset.univ fullShare (rs2 m c) c ∗ hold cc0_scratch11 z0_S2x2x128x512.set fullShare (b20 m (xn c)) c ∗ hole cc0_scratch14 z0_S2x2x128x512.set c ∗ hole cc0_scratch14 z1_S2x2x128x512.set c ∗ OW c (allK.drop 15)
      ∗ ((hold cc0_scratch11 z1_S2x2x128x512.set fullShare (b21 m (yn c)) c ∗ hold cc0_scratch5 Finset.univ fullShare (rs2 m c) c ∗ hold cc0_scratch11 z0_S2x2x128x512.set fullShare (b20 m (xn c)) c ∗ hold cc0_scratch14 z0_S2x2x128x512.set fullShare (ac20 m c) c ∗ hold cc0_scratch14 z1_S2x2x128x512.set fullShare (ac21 m c) c ∗ ZR 9 c ∗ OW c (allK.drop 15)) -∗ Kt (k0_pay21 (rd cc0_scratch14 (o23 c) (ac20 m c)))))
     ⊢ wp frame (wpE (defs₀ (F := F)) 𝒱₀ (c : Thread nD τ) none) Set.univ
      (onRefs (k0_part19 (F := F)) c v2 v5) Kt := by
  unfold onRefs; rw [k0_part19_eq_skeleton]; unfold k0_part19_skel
  simp only [Prog.lift, Prog.bind_op, Prog.bind_ret, Prog.pure_eq_ret]
  unfold hole
  iintro ⟨#HK, #HL, HRK9, Hra2, Hrb20, ⟨%f_ac20, Hac20⟩, ⟨%f_ac21, Hac21⟩, HO, Hk⟩
  iapply (recv_w m K 9 c (allK.drop 15) (by decide) rfl rfl) $$ [HRK9 HO]
  · isplitr; · iexact HK
    isplitr; · iexact HL
    isplitl [HRK9]; · iexact HRK9
    iexact HO
  iintro ⟨Hp, HZR9, HO⟩
  ihave Hrb21 := (Entails.of_eq (gotE9 m c)) $$ Hp
  iapply (wp_load_rect 𝒱₀ (c : Thread nD τ) none Set.univ (m := Memref.whole cc0_scratch5) (r := (o21 c)) (S := Finset.univ) (Finset.subset_univ _)) $$ Hra2; iintro Hra2
  iapply (wp_load_rect 𝒱₀ (c : Thread nD τ) none Set.univ (m := Memref.whole cc0_scratch11) (r := z0_S2x2x128x512) (S := z0_S2x2x128x512.set) (le_of_eq (View.set_slice_whole _ _))) $$ Hrb20; iintro Hrb20
  iapply (wp_load_rect 𝒱₀ (c : Thread nD τ) none Set.univ (m := Memref.whole cc0_scratch14) (r := z0_S2x2x128x512) (S := z0_S2x2x128x512.set) (le_of_eq (View.set_slice_whole _ _))) $$ Hac20; iintro Hac20
  iapply (wp_store 𝒱₀ (c : Thread nD τ) none Set.univ (m := Memref.whole cc0_scratch14) (r := z0_S2x2x128x512) (Mk := Finset.univ) (S := z0_S2x2x128x512.set) (by rw [View.setOn_univ]; exact le_of_eq (View.set_slice_whole _ _))) $$ Hac20; iintro Hac20
  ihave Hac20 := (st cc0_scratch14 z0_S2x2x128x512.set rfl (ac20 m c) rfl c _) $$ Hac20
  iapply (wp_load_rect 𝒱₀ (c : Thread nD τ) none Set.univ (m := Memref.whole cc0_scratch5) (r := (o22 c)) (S := Finset.univ) (Finset.subset_univ _)) $$ Hra2; iintro Hra2
  iapply (wp_load_rect 𝒱₀ (c : Thread nD τ) none Set.univ (m := Memref.whole cc0_scratch11) (r := z1_S2x2x128x512) (S := z1_S2x2x128x512.set) (le_of_eq (View.set_slice_whole _ _))) $$ Hrb21; iintro Hrb21
  iapply (wp_load_rect 𝒱₀ (c : Thread nD τ) none Set.univ (m := Memref.whole cc0_scratch14) (r := z1_S2x2x128x512) (S := z1_S2x2x128x512.set) (le_of_eq (View.set_slice_whole _ _))) $$ Hac21; iintro Hac21
  iapply (wp_store 𝒱₀ (c : Thread nD τ) none Set.univ (m := Memref.whole cc0_scratch14) (r := z1_S2x2x128x512) (Mk := Finset.univ) (S := z1_S2x2x128x512.set) (by rw [View.setOn_univ]; exact le_of_eq (View.set_slice_whole _ _))) $$ Hac21; iintro Hac21
  ihave Hac21 := (st cc0_scratch14 z1_S2x2x128x512.set rfl (ac21 m c) rfl c _) $$ Hac21
  iapply (wp_load_rect 𝒱₀ (c : Thread nD τ) none Set.univ (m := Memref.whole cc0_scratch14) (r := (o23 c)) (S := z0_S2x2x128x512.set) ((le_of_eq (View.set_slice_whole _ _)).trans (sub_o23 c))) $$ Hac20; iintro Hac20
  simp only [wp_ret]
  imodintro
  iapply Hk
  isplitl [Hrb21]; · iexact Hrb21
  isplitl [Hra2]; · iexact Hra2
  isplitl [Hrb20]; · iexact Hrb20
  isplitl [Hac20]; · iexact Hac20
  isplitl [Hac21]; · iexact Hac21
  isplitl [HZR9]; · iexact HZR9
  iexact HO

theorem part20 (c : Dev nD) (v2 v5 v8 v10 v11 : BitVec 32) (Kt : (Σ' (v565 : BitVec 32), BitVec 32) → sProp 𝕄) :
    iprop(recs m K ∗ levAts L lv ∗ hole cc0_scratch17 z0_S2x128x512.set c ∗ hold cc0_scratch14 z1_S2x2x128x512.set fullShare (ac21 m c) c ∗ hole cc0_scratch17 z1_S2x128x512.set c ∗ SK 15 c ∗ land 15 c ∗ OW c (allK.drop 15)
      ∗ (∀ r, (hold cc0_scratch14 z1_S2x2x128x512.set fullShare (ac21 m c) c ∗ hold cc0_scratch17 z1_S2x128x512.set fullShare (sc21 m c) c ∗ SW 15 c ∗ OW c (allK.drop 16)) -∗ Kt r))
     ⊢ wp frame (wpE (defs₀ (F := F)) 𝒱₀ (c : Thread nD τ) none) Set.univ
      (onRefs (k0_part20 (F := F)) c v2 v5 v8 v10 v11 (k0_pay21 (rd cc0_scratch14 (o23 c) (ac20 m c)))) Kt := by
  unfold onRefs; rw [k0_part20_eq_skeleton]; unfold k0_part20_skel
  simp only [Prog.lift, Prog.bind_op, Prog.bind_ret, Prog.pure_eq_ret]
  unfold hole
  iintro ⟨#HK, #HL, ⟨%f_sc20, Hsc20⟩, Hac21, ⟨%f_sc21, Hsc21⟩, HSK15, HLD15, HO, Hk⟩
  iapply (wp_load_rect 𝒱₀ (c : Thread nD τ) none Set.univ (m := Memref.whole cc0_scratch17) (r := z0_S2x128x512) (S := z0_S2x128x512.set) (le_of_eq (View.set_slice_whole _ _))) $$ Hsc20; iintro Hsc20
  iapply (wp_store 𝒱₀ (c : Thread nD τ) none Set.univ (m := Memref.whole cc0_scratch17) (r := z0_S2x128x512) (Mk := Finset.univ) (S := z0_S2x128x512.set) (by rw [View.setOn_univ]; exact le_of_eq (View.set_slice_whole _ _))) $$ Hsc20; iintro Hsc20
  ihave Hsc20 := (st cc0_scratch17 z0_S2x128x512.set rfl (sc20 m c) rfl c _) $$ Hsc20
  iapply (wp_load_rect 𝒱₀ (c : Thread nD τ) none Set.univ (m := Memref.whole cc0_scratch14) (r := (o24 c)) (S := z1_S2x2x128x512.set) ((le_of_eq (View.set_slice_whole _ _)).trans (sub_o24 c))) $$ Hac21; iintro Hac21
  iapply (wp_load_rect 𝒱₀ (c : Thread nD τ) none Set.univ (m := Memref.whole cc0_scratch17) (r := z1_S2x128x512) (S := z1_S2x128x512.set) (le_of_eq (View.set_slice_whole _ _))) $$ Hsc21; iintro Hsc21
  iapply (wp_store 𝒱₀ (c : Thread nD τ) none Set.univ (m := Memref.whole cc0_scratch17) (r := z1_S2x128x512) (Mk := Finset.univ) (S := z1_S2x128x512.set) (by rw [View.setOn_univ]; exact le_of_eq (View.set_slice_whole _ _))) $$ Hsc21; iintro Hsc21
  ihave Hsc21 := (st cc0_scratch17 z1_S2x128x512.set rfl (sc21 m c) rfl c _) $$ Hsc21
  ihave Hs := (Entails.of_eq (srcE15 m c).symm) $$ Hsc20
  iapply (send_gen m K 15 c _ (dev15_eq c) (allK.drop 16) (sM15 c) (dM15 c) rfl rfl rfl (src15 m c) (lnd15 c) (got15 m c)) $$ [HSK15 HLD15 Hs HO]
  · isplitr; · iexact HK
    isplitl [HSK15]; · iexact HSK15
    isplitl [HLD15]; · iexact HLD15
    isplitl [Hs]; · iexact Hs
    iexact HO
  iintro ⟨HSW15, HO⟩
  simp only [wp_ret]
  imodintro
  iapply Hk
  isplitl [Hac21]; · iexact Hac21
  isplitl [Hsc21]; · iexact Hsc21
  isplitl [HSW15]; · iexact HSW15
  iexact HO

theorem part21 (c : Dev nD) (v2 v5 v8 v10 v11 v565 v566 : BitVec 32) (Kt : (PUnit) → sProp 𝕄) :
    iprop(recs m K ∗ levAts L lv ∗ SK 16 c ∗ land 16 c ∗ hold cc0_scratch17 z1_S2x128x512.set fullShare (sc21 m c) c ∗ RK 10 c ∗ hold cc0_scratch24 Finset.univ fullShare.right (acs m c) c ∗ SK 17 c ∗ land 17 c ∗ OW c (allK.drop 16)
      ∗ (∀ r, (hold cc0_scratch22 Finset.univ fullShare.right (sbt m c) c ∗ hold cc0_scratch24 Finset.univ fullShare.right (acs m c) c ∗ SW 16 c ∗ ZR 10 c ∗ SW 17 c ∗ OW c (allK.drop 18)) -∗ Kt r))
     ⊢ wp frame (wpE (defs₀ (F := F)) 𝒱₀ (c : Thread nD τ) none) Set.univ
      (onRefs (k0_part21 (F := F)) c v2 v5 v8 v10 v11 v565 v566) Kt := by
  unfold onRefs; rw [k0_part21_eq_skeleton]; unfold k0_part21_skel
  simp only [Prog.lift, Prog.bind_op, Prog.bind_ret, Prog.pure_eq_ret]
  iintro ⟨#HK, #HL, HSK16, HLD16, Hsc21, HRK10, Hacs, HSK17, HLD17, HO, Hk⟩
  ihave Hs := (Entails.of_eq (srcE16 m c).symm) $$ Hsc21
  iapply (send_gen m K 16 c _ (dev16_eq c) (allK.drop 17) (sM16 c) (dM16 c) rfl rfl rfl (src16 m c) (lnd16 c) (got16 m c)) $$ [HSK16 HLD16 Hs HO]
  · isplitr; · iexact HK
    isplitl [HSK16]; · iexact HSK16
    isplitl [HLD16]; · iexact HLD16
    isplitl [Hs]; · iexact Hs
    iexact HO
  iintro ⟨HSW16, HO⟩
  iapply (recv_w m K 10 c (allK.drop 17) (by decide) rfl rfl) $$ [HRK10 HO]
  · isplitr; · iexact HK
    isplitr; · iexact HL
    isplitl [HRK10]; · iexact HRK10
    iexact HO
  iintro ⟨Hp, HZR10, HO⟩
  ihave Hsb := (Entails.of_eq (gotE10 m c)) $$ Hp
  iapply (wp_load_rect 𝒱₀ (c : Thread nD τ) none Set.univ (m := Memref.whole cc0_scratch24) (r := w_S640x128) (S := Finset.univ) (Finset.subset_univ _)) $$ Hacs; iintro Hacs
  iapply (wp_load_rect 𝒱₀ (c : Thread nD τ) none Set.univ (m := Memref.whole cc0_scratch22) (r := w_S640x128) (S := Finset.univ) (Finset.subset_univ _)) $$ Hsb; iintro Hsb
  iapply (wp_load_rect 𝒱₀ (c : Thread nD τ) none Set.univ (m := Memref.whole cc0_scratch22) (r := w_S640x128) (S := Finset.univ) (Finset.subset_univ _)) $$ Hsb; iintro Hsb
  iapply (wp_store 𝒱₀ (c : Thread nD τ) none Set.univ (m := Memref.whole cc0_scratch22) (r := w_S640x128) (Mk := Finset.univ) (S := Finset.univ) (Finset.subset_univ _)) $$ Hsb; iintro Hsb
  ihave Hsb := (st cc0_scratch22 Finset.univ full_S640x128 (sbt m c) rfl c _) $$ Hsb
  ihave Hsb := (halves _ c).1 $$ Hsb
  icases Hsb with ⟨Hs, Hsb⟩
  ihave Hs := (Entails.of_eq (srcE17 m c).symm) $$ Hs
  iapply (send_gen m K 17 c _ (dev17_eq c) (allK.drop 18) (sM17 c) (dM17 c) rfl rfl rfl (src17 m c) (lnd17 c) (got17 m c)) $$ [HSK17 HLD17 Hs HO]
  · isplitr; · iexact HK
    isplitl [HSK17]; · iexact HSK17
    isplitl [HLD17]; · iexact HLD17
    isplitl [Hs]; · iexact Hs
    iexact HO
  iintro ⟨HSW17, HO⟩
  simp only [wp_ret]
  imodintro
  iapply Hk
  isplitl [Hsb]; · iexact Hsb
  isplitl [Hacs]; · iexact Hacs
  isplitl [HSW16]; · iexact HSW16
  isplitl [HZR10]; · iexact HZR10
  isplitl [HSW17]; · iexact HSW17
  iexact HO

end Cert.ReduceProof

end
-- ==== Proof.Reduce.PartsC.lean ====
/-
The steps of the body in which the results are formed and exchanged between cores, and the closing waits.
-/
module

public import proofs.«01_k».proof.Proof.Reduce.Devs

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

theorem part22 (c : Dev nD) (v2 v5 v8 v10 v11 : BitVec 32) (Kt : (Σ' (v625 : BitVec 32), FVec F S416x512 .f32) → sProp 𝕄) :
    iprop(recs m K ∗ levAts L lv ∗ RK 11 c ∗ RK 12 c ∗ hold cc0_scratch12 z0_S2x2x416x512.set fullShare (ac00 m c) c ∗ OW c (allK.drop 18)
      ∗ (∀ r, (hold cc0_scratch18 z0_S2x416x512.set fullShare (sc00 m (yn c)) c ∗ hold cc0_scratch18 z1_S2x416x512.set fullShare (sc01 m (xn c)) c ∗ hold cc0_scratch12 z0_S2x2x416x512.set fullShare (ac00 m c) c ∗ ZR 11 c ∗ ZR 12 c ∗ OW c (allK.drop 18)) -∗ Kt ⟨r, k0_pay25 (rd cc0_scratch12 (o25 c) (ac00 m c))⟩))
     ⊢ wp frame (wpE (defs₀ (F := F)) 𝒱₀ (c : Thread nD τ) none) Set.univ
      (onRefs (k0_part22 (F := F)) c v2 v5 v8 v10 v11) Kt := by
  unfold onRefs; rw [k0_part22_eq_skeleton]; unfold k0_part22_skel
  simp only [Prog.lift, Prog.bind_op, Prog.bind_ret, Prog.pure_eq_ret]
  iintro ⟨#HK, #HL, HRK11, HRK12, Hac00, HO, Hk⟩
  iapply (recv_w m K 11 c (allK.drop 18) (by decide) rfl rfl) $$ [HRK11 HO]
  · isplitr; · iexact HK
    isplitr; · iexact HL
    isplitl [HRK11]; · iexact HRK11
    iexact HO
  iintro ⟨Hp, HZR11, HO⟩
  ihave Hrc00 := (Entails.of_eq (gotE11 m c)) $$ Hp
  iapply (recv_w m K 12 c (allK.drop 18) (by decide) rfl rfl) $$ [HRK12 HO]
  · isplitr; · iexact HK
    isplitr; · iexact HL
    isplitl [HRK12]; · iexact HRK12
    iexact HO
  iintro ⟨Hp, HZR12, HO⟩
  ihave Hrc01 := (Entails.of_eq (gotE12 m c)) $$ Hp
  iapply (wp_load_rect 𝒱₀ (c : Thread nD τ) none Set.univ (m := Memref.whole cc0_scratch12) (r := (o25 c)) (S := z0_S2x2x416x512.set) ((le_of_eq (View.set_slice_whole _ _)).trans (sub_o25 c))) $$ Hac00; iintro Hac00
  simp only [wp_ret]
  imodintro
  iapply Hk
  isplitl [Hrc00]; · iexact Hrc00
  isplitl [Hrc01]; · iexact Hrc01
  isplitl [Hac00]; · iexact Hac00
  isplitl [HZR11]; · iexact HZR11
  isplitl [HZR12]; · iexact HZR12
  iexact HO

theorem part23 (c : Dev nD) (v2 v5 v8 v9 v11 v625 : BitVec 32) (Kt : (Σ' (v659 : BitVec 32), BitVec 32) → sProp 𝕄) :
    iprop(recs m K ∗ levAts L lv ∗ hold cc0_scratch18 z0_S2x416x512.set fullShare (sc00 m (yn c)) c ∗ hole cc0_stg1_0 (o26 c).set c ∗ hold cc0_scratch12 z1_S2x2x416x512.set fullShare (ac01 m c) c ∗ hold cc0_scratch18 z1_S2x416x512.set fullShare (sc01 m (xn c)) c ∗ hole cc0_stg1_0 (o28 c).set c ∗ SK 18 c ∗ land 18 c ∗ OW c (allK.drop 18)
      ∗ (∀ r, (hold cc0_scratch18 z0_S2x416x512.set fullShare (sc00 m (yn c)) c ∗ hold cc0_scratch12 z1_S2x2x416x512.set fullShare (ac01 m c) c ∗ hold cc0_scratch18 z1_S2x416x512.set fullShare (sc01 m (xn c)) c ∗ SW 18 c ∗ OW c (allK.drop 19)) -∗ Kt r))
     ⊢ wp frame (wpE (defs₀ (F := F)) 𝒱₀ (c : Thread nD τ) none) Set.univ
      (onRefs (k0_part23 (F := F)) c v2 v5 v8 v9 v11 v625 (k0_pay25 (rd cc0_scratch12 (o25 c) (ac00 m c)))) Kt := by
  unfold onRefs; rw [k0_part23_eq_skeleton]; unfold k0_part23_skel
  simp only [Prog.lift, Prog.bind_op, Prog.bind_ret, Prog.pure_eq_ret]
  unfold hole
  iintro ⟨#HK, #HL, Hrc00, ⟨%f_ot00, Hot00⟩, Hac01, Hrc01, ⟨%f_ot01, Hot01⟩, HSK18, HLD18, HO, Hk⟩
  iapply (wp_load_rect 𝒱₀ (c : Thread nD τ) none Set.univ (m := Memref.whole cc0_scratch18) (r := z0_S2x416x512) (S := z0_S2x416x512.set) (le_of_eq (View.set_slice_whole _ _))) $$ Hrc00; iintro Hrc00
  iapply (wp_load_rect 𝒱₀ (c : Thread nD τ) none Set.univ (m := Memref.whole cc0_stg1_0) (r := (o26 c)) (S := (o26 c).set) (le_of_eq (View.set_slice_whole _ _))) $$ Hot00; iintro Hot00
  iapply (wp_store 𝒱₀ (c : Thread nD τ) none Set.univ (m := Memref.whole cc0_stg1_0) (r := (o26 c)) (Mk := Finset.univ) (S := (o26 c).set) (by rw [View.setOn_univ]; exact le_of_eq (View.set_slice_whole _ _))) $$ Hot00; iintro Hot00
  ihave Hot00 := (st cc0_stg1_0 (o26 c).set rfl (ot00 m c) rfl c _) $$ Hot00
  iapply (wp_load_rect 𝒱₀ (c : Thread nD τ) none Set.univ (m := Memref.whole cc0_scratch12) (r := (o27 c)) (S := z1_S2x2x416x512.set) ((le_of_eq (View.set_slice_whole _ _)).trans (sub_o27 c))) $$ Hac01; iintro Hac01
  iapply (wp_load_rect 𝒱₀ (c : Thread nD τ) none Set.univ (m := Memref.whole cc0_scratch18) (r := z1_S2x416x512) (S := z1_S2x416x512.set) (le_of_eq (View.set_slice_whole _ _))) $$ Hrc01; iintro Hrc01
  iapply (wp_load_rect 𝒱₀ (c : Thread nD τ) none Set.univ (m := Memref.whole cc0_stg1_0) (r := (o28 c)) (S := (o28 c).set) (le_of_eq (View.set_slice_whole _ _))) $$ Hot01; iintro Hot01
  iapply (wp_store 𝒱₀ (c : Thread nD τ) none Set.univ (m := Memref.whole cc0_stg1_0) (r := (o28 c)) (Mk := Finset.univ) (S := (o28 c).set) (by rw [View.setOn_univ]; exact le_of_eq (View.set_slice_whole _ _))) $$ Hot01; iintro Hot01
  ihave Hot01 := (st cc0_stg1_0 (o28 c).set rfl (ot01 m c) rfl c _) $$ Hot01
  ihave Hot00 := (join_om0 m c) $$ [Hot00 Hot01]
  · isplitl [Hot00]; · iexact Hot00
    iexact Hot01
  ihave Hs := (Entails.of_eq (srcE18 m c).symm) $$ Hot00
  iapply (send_gen m K 18 c _ (dev18_eq c) (allK.drop 19) (sM18 c) (dM18 c) rfl rfl rfl (src18 m c) (lnd18 c) (got18 m c)) $$ [HSK18 HLD18 Hs HO]
  · isplitr; · iexact HK
    isplitl [HSK18]; · iexact HSK18
    isplitl [HLD18]; · iexact HLD18
    isplitl [Hs]; · iexact Hs
    iexact HO
  iintro ⟨HSW18, HO⟩
  simp only [wp_ret]
  imodintro
  iapply Hk
  isplitl [Hrc00]; · iexact Hrc00
  isplitl [Hac01]; · iexact Hac01
  isplitl [Hrc01]; · iexact Hrc01
  isplitl [HSW18]; · iexact HSW18
  iexact HO

theorem part24 (c : Dev nD) (v2 v5 v8 v10 v659 v660 : BitVec 32) (Kt : (BitVec 32) → sProp 𝕄) :
    iprop(recs m K ∗ levAts L lv ∗ RK 13 c ∗ RK 14 c ∗ hold cc0_scratch13 z0_S2x2x128x256.set fullShare (ac10 m c) c ∗ hole cc0_stg2_0 (o31 c).set c ∗ OW c (allK.drop 19)
      ∗ (∀ r, (hold cc0_scratch19 z0_S2x128x256.set fullShare (sc10 m (yn c)) c ∗ hold cc0_scratch19 z1_S2x128x256.set fullShare (sc11 m (xn c)) c ∗ hold cc0_scratch13 z0_S2x2x128x256.set fullShare (ac10 m c) c ∗ hold cc0_stg2_0 (o31 c).set fullShare (ot10 m c) c ∗ ZR 13 c ∗ ZR 14 c ∗ OW c (allK.drop 19)) -∗ Kt r))
     ⊢ wp frame (wpE (defs₀ (F := F)) 𝒱₀ (c : Thread nD τ) none) Set.univ
      (onRefs (k0_part24 (F := F)) c v2 v5 v8 v10 v659 v660) Kt := by
  unfold onRefs; rw [k0_part24_eq_skeleton]; unfold k0_part24_skel
  simp only [Prog.lift, Prog.bind_op, Prog.bind_ret, Prog.pure_eq_ret]
  unfold hole
  iintro ⟨#HK, #HL, HRK13, HRK14, Hac10, ⟨%f_ot10, Hot10⟩, HO, Hk⟩
  iapply (recv_w m K 13 c (allK.drop 19) (by decide) rfl rfl) $$ [HRK13 HO]
  · isplitr; · iexact HK
    isplitr; · iexact HL
    isplitl [HRK13]; · iexact HRK13
    iexact HO
  iintro ⟨Hp, HZR13, HO⟩
  ihave Hrc10 := (Entails.of_eq (gotE13 m c)) $$ Hp
  iapply (recv_w m K 14 c (allK.drop 19) (by decide) rfl rfl) $$ [HRK14 HO]
  · isplitr; · iexact HK
    isplitr; · iexact HL
    isplitl [HRK14]; · iexact HRK14
    iexact HO
  iintro ⟨Hp, HZR14, HO⟩
  ihave Hrc11 := (Entails.of_eq (gotE14 m c)) $$ Hp
  iapply (wp_load_rect 𝒱₀ (c : Thread nD τ) none Set.univ (m := Memref.whole cc0_scratch13) (r := (o30 c)) (S := z0_S2x2x128x256.set) ((le_of_eq (View.set_slice_whole _ _)).trans (sub_o30 c))) $$ Hac10; iintro Hac10
  iapply (wp_load_rect 𝒱₀ (c : Thread nD τ) none Set.univ (m := Memref.whole cc0_scratch19) (r := z0_S2x128x256) (S := z0_S2x128x256.set) (le_of_eq (View.set_slice_whole _ _))) $$ Hrc10; iintro Hrc10
  iapply (wp_load_rect 𝒱₀ (c : Thread nD τ) none Set.univ (m := Memref.whole cc0_stg2_0) (r := (o31 c)) (S := (o31 c).set) (le_of_eq (View.set_slice_whole _ _))) $$ Hot10; iintro Hot10
  iapply (wp_store 𝒱₀ (c : Thread nD τ) none Set.univ (m := Memref.whole cc0_stg2_0) (r := (o31 c)) (Mk := Finset.univ) (S := (o31 c).set) (by rw [View.setOn_univ]; exact le_of_eq (View.set_slice_whole _ _))) $$ Hot10; iintro Hot10
  ihave Hot10 := (st cc0_stg2_0 (o31 c).set rfl (ot10 m c) rfl c _) $$ Hot10
  simp only [wp_ret]
  imodintro
  iapply Hk
  isplitl [Hrc10]; · iexact Hrc10
  isplitl [Hrc11]; · iexact Hrc11
  isplitl [Hac10]; · iexact Hac10
  isplitl [Hot10]; · iexact Hot10
  isplitl [HZR13]; · iexact HZR13
  isplitl [HZR14]; · iexact HZR14
  iexact HO

theorem part25 (c : Dev nD) (v2 v5 v8 v9 v11 v681 : BitVec 32) (Kt : (PUnit) → sProp 𝕄) :
    iprop(recs m K ∗ levAts L lv ∗ hold cc0_scratch13 z1_S2x2x128x256.set fullShare (ac11 m c) c ∗ hold cc0_scratch19 z1_S2x128x256.set fullShare (sc11 m (xn c)) c ∗ hole cc0_stg2_0 (o33 c).set c ∗ SK 19 c ∗ land 19 c ∗ hold cc0_stg2_0 (o31 c).set fullShare (ot10 m c) c ∗ RK 15 c ∗ OW c (allK.drop 19)
      ∗ (∀ r, (hold cc0_scratch13 z1_S2x2x128x256.set fullShare (ac11 m c) c ∗ hold cc0_scratch19 z1_S2x128x256.set fullShare (sc11 m (xn c)) c ∗ hold cc0_scratch20 z0_S2x128x512.set fullShare (sc20 m (yn c)) c ∗ SW 19 c ∗ ZR 15 c ∗ OW c (allK.drop 20)) -∗ Kt r))
     ⊢ wp frame (wpE (defs₀ (F := F)) 𝒱₀ (c : Thread nD τ) none) Set.univ
      (onRefs (k0_part25 (F := F)) c v2 v5 v8 v9 v11 v681) Kt := by
  unfold onRefs; rw [k0_part25_eq_skeleton]; unfold k0_part25_skel
  simp only [Prog.lift, Prog.bind_op, Prog.bind_ret, Prog.pure_eq_ret]
  unfold hole
  iintro ⟨#HK, #HL, Hac11, Hrc11, ⟨%f_ot11, Hot11⟩, HSK19, HLD19, Hot10, HRK15, HO, Hk⟩
  iapply (wp_load_rect 𝒱₀ (c : Thread nD τ) none Set.univ (m := Memref.whole cc0_scratch13) (r := (o32 c)) (S := z1_S2x2x128x256.set) ((le_of_eq (View.set_slice_whole _ _)).trans (sub_o32 c))) $$ Hac11; iintro Hac11
  iapply (wp_load_rect 𝒱₀ (c : Thread nD τ) none Set.univ (m := Memref.whole cc0_scratch19) (r := z1_S2x128x256) (S := z1_S2x128x256.set) (le_of_eq (View.set_slice_whole _ _))) $$ Hrc11; iintro Hrc11
  iapply (wp_load_rect 𝒱₀ (c : Thread nD τ) none Set.univ (m := Memref.whole cc0_stg2_0) (r := (o33 c)) (S := (o33 c).set) (le_of_eq (View.set_slice_whole _ _))) $$ Hot11; iintro Hot11
  iapply (wp_store 𝒱₀ (c : Thread nD τ) none Set.univ (m := Memref.whole cc0_stg2_0) (r := (o33 c)) (Mk := Finset.univ) (S := (o33 c).set) (by rw [View.setOn_univ]; exact le_of_eq (View.set_slice_whole _ _))) $$ Hot11; iintro Hot11
  ihave Hot11 := (st cc0_stg2_0 (o33 c).set rfl (ot11 m c) rfl c _) $$ Hot11
  ihave Hot10 := (join_om1 m c) $$ [Hot10 Hot11]
  · isplitl [Hot10]; · iexact Hot10
    iexact Hot11
  ihave Hs := (Entails.of_eq (srcE19 m c).symm) $$ Hot10
  iapply (send_gen m K 19 c _ (dev19_eq c) (allK.drop 20) (sM19 c) (dM19 c) rfl rfl rfl (src19 m c) (lnd19 c) (got19 m c)) $$ [HSK19 HLD19 Hs HO]
  · isplitr; · iexact HK
    isplitl [HSK19]; · iexact HSK19
    isplitl [HLD19]; · iexact HLD19
    isplitl [Hs]; · iexact Hs
    iexact HO
  iintro ⟨HSW19, HO⟩
  iapply (recv_w m K 15 c (allK.drop 20) (by decide) rfl rfl) $$ [HRK15 HO]
  · isplitr; · iexact HK
    isplitr; · iexact HL
    isplitl [HRK15]; · iexact HRK15
    iexact HO
  iintro ⟨Hp, HZR15, HO⟩
  ihave Hrc20 := (Entails.of_eq (gotE15 m c)) $$ Hp
  simp only [wp_ret]
  imodintro
  iapply Hk
  isplitl [Hac11]; · iexact Hac11
  isplitl [Hrc11]; · iexact Hrc11
  isplitl [Hrc20]; · iexact Hrc20
  isplitl [HSW19]; · iexact HSW19
  isplitl [HZR15]; · iexact HZR15
  iexact HO

theorem part26 (c : Dev nD) (v2 v5 v8 v10 : BitVec 32) (Kt : (FVec F S128x512 .f32) → sProp 𝕄) :
    iprop(recs m K ∗ levAts L lv ∗ RK 16 c ∗ hold cc0_scratch14 z0_S2x2x128x512.set fullShare (ac20 m c) c ∗ hold cc0_scratch20 z0_S2x128x512.set fullShare (sc20 m (yn c)) c ∗ hole cc0_stg3_0 (o36 c).set c ∗ hold cc0_scratch14 z1_S2x2x128x512.set fullShare (ac21 m c) c ∗ OW c (allK.drop 20)
      ∗ ((hold cc0_scratch20 z1_S2x128x512.set fullShare (sc21 m (xn c)) c ∗ hold cc0_scratch14 z0_S2x2x128x512.set fullShare (ac20 m c) c ∗ hold cc0_scratch20 z0_S2x128x512.set fullShare (sc20 m (yn c)) c ∗ hold cc0_stg3_0 (o36 c).set fullShare (ot20 m c) c ∗ hold cc0_scratch14 z1_S2x2x128x512.set fullShare (ac21 m c) c ∗ ZR 16 c ∗ OW c (allK.drop 20)) -∗ Kt (k0_pay31 (rd cc0_scratch14 (o37 c) (ac21 m c)) (rd cc0_scratch20 (z1_S2x128x512) (sc21 m (xn c))))))
     ⊢ wp frame (wpE (defs₀ (F := F)) 𝒱₀ (c : Thread nD τ) none) Set.univ
      (onRefs (k0_part26 (F := F)) c v2 v5 v8 v10) Kt := by
  unfold onRefs; rw [k0_part26_eq_skeleton]; unfold k0_part26_skel
  simp only [Prog.lift, Prog.bind_op, Prog.bind_ret, Prog.pure_eq_ret]
  unfold hole
  iintro ⟨#HK, #HL, HRK16, Hac20, Hrc20, ⟨%f_ot20, Hot20⟩, Hac21, HO, Hk⟩
  iapply (recv_w m K 16 c (allK.drop 20) (by decide) rfl rfl) $$ [HRK16 HO]
  · isplitr; · iexact HK
    isplitr; · iexact HL
    isplitl [HRK16]; · iexact HRK16
    iexact HO
  iintro ⟨Hp, HZR16, HO⟩
  ihave Hrc21 := (Entails.of_eq (gotE16 m c)) $$ Hp
  iapply (wp_load_rect 𝒱₀ (c : Thread nD τ) none Set.univ (m := Memref.whole cc0_scratch14) (r := (o35 c)) (S := z0_S2x2x128x512.set) ((le_of_eq (View.set_slice_whole _ _)).trans (sub_o35 c))) $$ Hac20; iintro Hac20
  iapply (wp_load_rect 𝒱₀ (c : Thread nD τ) none Set.univ (m := Memref.whole cc0_scratch20) (r := z0_S2x128x512) (S := z0_S2x128x512.set) (le_of_eq (View.set_slice_whole _ _))) $$ Hrc20; iintro Hrc20
  iapply (wp_load_rect 𝒱₀ (c : Thread nD τ) none Set.univ (m := Memref.whole cc0_stg3_0) (r := (o36 c)) (S := (o36 c).set) (le_of_eq (View.set_slice_whole _ _))) $$ Hot20; iintro Hot20
  iapply (wp_store 𝒱₀ (c : Thread nD τ) none Set.univ (m := Memref.whole cc0_stg3_0) (r := (o36 c)) (Mk := Finset.univ) (S := (o36 c).set) (by rw [View.setOn_univ]; exact le_of_eq (View.set_slice_whole _ _))) $$ Hot20; iintro Hot20
  ihave Hot20 := (st cc0_stg3_0 (o36 c).set rfl (ot20 m c) rfl c _) $$ Hot20
  iapply (wp_load_rect 𝒱₀ (c : Thread nD τ) none Set.univ (m := Memref.whole cc0_scratch14) (r := (o37 c)) (S := z1_S2x2x128x512.set) ((le_of_eq (View.set_slice_whole _ _)).trans (sub_o37 c))) $$ Hac21; iintro Hac21
  iapply (wp_load_rect 𝒱₀ (c : Thread nD τ) none Set.univ (m := Memref.whole cc0_scratch20) (r := z1_S2x128x512) (S := z1_S2x128x512.set) (le_of_eq (View.set_slice_whole _ _))) $$ Hrc21; iintro Hrc21
  simp only [wp_ret]
  imodintro
  iapply Hk
  isplitl [Hrc21]; · iexact Hrc21
  isplitl [Hac20]; · iexact Hac20
  isplitl [Hrc20]; · iexact Hrc20
  isplitl [Hot20]; · iexact Hot20
  isplitl [Hac21]; · iexact Hac21
  isplitl [HZR16]; · iexact HZR16
  iexact HO

theorem part27 (c : Dev nD) (v2 v5 v8 v9 v11 : BitVec 32) (Kt : (BitVec 32) → sProp 𝕄) :
    iprop(recs m K ∗ levAts L lv ∗ hole cc0_stg3_0 (o38 c).set c ∗ SK 20 c ∗ land 20 c ∗ hold cc0_stg3_0 (o36 c).set fullShare (ot20 m c) c ∗ RK 17 c ∗ hold cc0_scratch22 Finset.univ fullShare.right (sbt m c) c ∗ hole cc0_stg4_0 Finset.univ c ∗ OW c (allK.drop 20)
      ∗ (∀ r, (hold cc0_scratch23 Finset.univ fullShare (sbt m (yn c)) c ∗ hold cc0_scratch22 Finset.univ fullShare.right (sbt m c) c ∗ hold cc0_stg4_0 Finset.univ fullShare (osmv m c) c ∗ SW 20 c ∗ ZR 17 c ∗ OW c (allK.drop 21)) -∗ Kt r))
     ⊢ wp frame (wpE (defs₀ (F := F)) 𝒱₀ (c : Thread nD τ) none) Set.univ
      (onRefs (k0_part27 (F := F)) c v2 v5 v8 v9 v11 (k0_pay31 (rd cc0_scratch14 (o37 c) (ac21 m c)) (rd cc0_scratch20 (z1_S2x128x512) (sc21 m (xn c))))) Kt := by
  unfold onRefs; rw [k0_part27_eq_skeleton]; unfold k0_part27_skel
  simp only [Prog.lift, Prog.bind_op, Prog.bind_ret, Prog.pure_eq_ret]
  unfold hole
  iintro ⟨#HK, #HL, ⟨%f_ot21, Hot21⟩, HSK20, HLD20, Hot20, HRK17, Hsb, ⟨%f_osm, Hosm⟩, HO, Hk⟩
  iapply (wp_load_rect 𝒱₀ (c : Thread nD τ) none Set.univ (m := Memref.whole cc0_stg3_0) (r := (o38 c)) (S := (o38 c).set) (le_of_eq (View.set_slice_whole _ _))) $$ Hot21; iintro Hot21
  iapply (wp_store 𝒱₀ (c : Thread nD τ) none Set.univ (m := Memref.whole cc0_stg3_0) (r := (o38 c)) (Mk := Finset.univ) (S := (o38 c).set) (by rw [View.setOn_univ]; exact le_of_eq (View.set_slice_whole _ _))) $$ Hot21; iintro Hot21
  ihave Hot21 := (st cc0_stg3_0 (o38 c).set rfl (ot21 m c) rfl c _) $$ Hot21
  ihave Hot20 := (join_om2 m c) $$ [Hot20 Hot21]
  · isplitl [Hot20]; · iexact Hot20
    iexact Hot21
  ihave Hs := (Entails.of_eq (srcE20 m c).symm) $$ Hot20
  iapply (send_gen m K 20 c _ (dev20_eq c) (allK.drop 21) (sM20 c) (dM20 c) rfl rfl rfl (src20 m c) (lnd20 c) (got20 m c)) $$ [HSK20 HLD20 Hs HO]
  · isplitr; · iexact HK
    isplitl [HSK20]; · iexact HSK20
    isplitl [HLD20]; · iexact HLD20
    isplitl [Hs]; · iexact Hs
    iexact HO
  iintro ⟨HSW20, HO⟩
  iapply (recv_w m K 17 c (allK.drop 21) (by decide) rfl rfl) $$ [HRK17 HO]
  · isplitr; · iexact HK
    isplitr; · iexact HL
    isplitl [HRK17]; · iexact HRK17
    iexact HO
  iintro ⟨Hp, HZR17, HO⟩
  ihave Hsv := (Entails.of_eq (gotE17 m c)) $$ Hp
  iapply (wp_load_rect 𝒱₀ (c : Thread nD τ) none Set.univ (m := Memref.whole cc0_scratch22) (r := w_S640x128) (S := Finset.univ) (Finset.subset_univ _)) $$ Hsb; iintro Hsb
  iapply (wp_load_rect 𝒱₀ (c : Thread nD τ) none Set.univ (m := Memref.whole cc0_scratch23) (r := w_S640x128) (S := Finset.univ) (Finset.subset_univ _)) $$ Hsv; iintro Hsv
  iapply (wp_load_rect 𝒱₀ (c : Thread nD τ) none Set.univ (m := Memref.whole cc0_stg4_0) (r := w_S640x128) (S := Finset.univ) (Finset.subset_univ _)) $$ Hosm; iintro Hosm
  iapply (wp_store 𝒱₀ (c : Thread nD τ) none Set.univ (m := Memref.whole cc0_stg4_0) (r := w_S640x128) (Mk := Finset.univ) (S := Finset.univ) (Finset.subset_univ _)) $$ Hosm; iintro Hosm
  ihave Hosm := (st cc0_stg4_0 Finset.univ full_S640x128 (osmv m c) rfl c _) $$ Hosm
  simp only [wp_ret]
  imodintro
  iapply Hk
  isplitl [Hsv]; · iexact Hsv
  isplitl [Hsb]; · iexact Hsb
  isplitl [Hosm]; · iexact Hosm
  isplitl [HSW20]; · iexact HSW20
  isplitl [HZR17]; · iexact HZR17
  iexact HO

theorem part28 (c : Dev nD) (v2 v5 v8 v9 v784 : BitVec 32) (Kt : (PUnit) → sProp 𝕄) :
    iprop(recs m K ∗ levAts L lv ∗ RK 18 c ∗ RK 19 c ∗ OW c (allK.drop 21)
      ∗ (∀ r, (hold cc0_stg1_0 (o29 (sib c)).set fullShare (om0 m (sib c)) c ∗ hold cc0_stg2_0 (o34 (sib c)).set fullShare (om1 m (sib c)) c ∗ ZR 18 c ∗ ZR 19 c ∗ OW c (allK.drop 21)) -∗ Kt r))
     ⊢ wp frame (wpE (defs₀ (F := F)) 𝒱₀ (c : Thread nD τ) none) Set.univ
      (onRefs (k0_part28 (F := F)) c v2 v5 v8 v9 v784) Kt := by
  unfold onRefs; rw [k0_part28_eq_skeleton]; unfold k0_part28_skel
  simp only [Prog.lift, Prog.bind_op, Prog.bind_ret, Prog.pure_eq_ret]
  iintro ⟨#HK, #HL, HRK18, HRK19, HO, Hk⟩
  iapply (recv_w m K 18 c (allK.drop 21) (by decide) rfl rfl) $$ [HRK18 HO]
  · isplitr; · iexact HK
    isplitr; · iexact HL
    isplitl [HRK18]; · iexact HRK18
    iexact HO
  iintro ⟨Hp, HZR18, HO⟩
  ihave Hth0 := (Entails.of_eq (gotE18 m c)) $$ Hp
  iapply (recv_w m K 19 c (allK.drop 21) (by decide) rfl rfl) $$ [HRK19 HO]
  · isplitr; · iexact HK
    isplitr; · iexact HL
    isplitl [HRK19]; · iexact HRK19
    iexact HO
  iintro ⟨Hp, HZR19, HO⟩
  ihave Hth1 := (Entails.of_eq (gotE19 m c)) $$ Hp
  simp only [wp_ret]
  imodintro
  iapply Hk
  isplitl [Hth0]; · iexact Hth0
  isplitl [Hth1]; · iexact Hth1
  isplitl [HZR18]; · iexact HZR18
  isplitl [HZR19]; · iexact HZR19
  iexact HO

theorem part29 (c : Dev nD) (Kt : (PUnit) → sProp 𝕄) :
    iprop(recs m K ∗ levAts L lv ∗ RK 20 c ∗ SW 0 c ∗ SW 1 c ∗ SW 2 c ∗ SW 3 c ∗ OW c (allK.drop 21)
      ∗ (∀ r, (hold cc0_stg3_0 (o39 (sib c)).set fullShare (om2 m (sib c)) c ∗ hold main_arg0 (o1 c).set fullShare (gv0 m c) c ∗ hold main_arg1 (o3 c).set fullShare (gv1 m c) c ∗ hold main_arg2 (o5 c).set fullShare (gv2 m c) c ∗ hold cc0_stg0_0 Finset.univ fullShare.left (smv m c) c ∗ ZR 20 c ∗ ZS 0 c ∗ ZS 1 c ∗ ZS 2 c ∗ ZS 3 c ∗ OW c (allK.drop 21)) -∗ Kt r))
     ⊢ wp frame (wpE (defs₀ (F := F)) 𝒱₀ (c : Thread nD τ) none) Set.univ
      (onRefs (k0_part29 (F := F)) c) Kt := by
  unfold onRefs; rw [k0_part29_eq_skeleton]; unfold k0_part29_skel
  simp only [Prog.lift, Prog.bind_op, Prog.bind_ret, Prog.pure_eq_ret]
  iintro ⟨#HK, #HL, HRK20, HSW0, HSW1, HSW2, HSW3, HO, Hk⟩
  iapply (recv_w m K 20 c (allK.drop 21) (by decide) rfl rfl) $$ [HRK20 HO]
  · isplitr; · iexact HK
    isplitr; · iexact HL
    isplitl [HRK20]; · iexact HRK20
    iexact HO
  iintro ⟨Hp, HZR20, HO⟩
  ihave Hth2 := (Entails.of_eq (gotE20 m c)) $$ Hp
  iapply (swait_w m K 0 c rfl rfl) $$ [HSW0 HO]
  · isplitr; · iexact HK
    isplitr; · iexact HL
    isplitl [HSW0]; · iexact HSW0
    iexact HO
  iintro ⟨Hp, HZS0, HO⟩
  ihave HGs0 := (Entails.of_eq (srcE0 m c)) $$ Hp
  iapply (swait_w m K 1 c rfl rfl) $$ [HSW1 HO]
  · isplitr; · iexact HK
    isplitr; · iexact HL
    isplitl [HSW1]; · iexact HSW1
    iexact HO
  iintro ⟨Hp, HZS1, HO⟩
  ihave HGs1 := (Entails.of_eq (srcE1 m c)) $$ Hp
  iapply (swait_w m K 2 c rfl rfl) $$ [HSW2 HO]
  · isplitr; · iexact HK
    isplitr; · iexact HL
    isplitl [HSW2]; · iexact HSW2
    iexact HO
  iintro ⟨Hp, HZS2, HO⟩
  ihave HGs2 := (Entails.of_eq (srcE2 m c)) $$ Hp
  iapply (swait_w m K 3 c rfl rfl) $$ [HSW3 HO]
  · isplitr; · iexact HK
    isplitr; · iexact HL
    isplitl [HSW3]; · iexact HSW3
    iexact HO
  iintro ⟨Hp, HZS3, HO⟩
  ihave HsmL := (Entails.of_eq (srcE3 m c)) $$ Hp
  simp only [wp_ret]
  imodintro
  iapply Hk
  isplitl [Hth2]; · iexact Hth2
  isplitl [HGs0]; · iexact HGs0
  isplitl [HGs1]; · iexact HGs1
  isplitl [HGs2]; · iexact HGs2
  isplitl [HsmL]; · iexact HsmL
  isplitl [HZR20]; · iexact HZR20
  isplitl [HZS0]; · iexact HZS0
  isplitl [HZS1]; · iexact HZS1
  isplitl [HZS2]; · iexact HZS2
  isplitl [HZS3]; · iexact HZS3
  iexact HO

theorem part30 (c : Dev nD) (Kt : (PUnit) → sProp 𝕄) :
    iprop(recs m K ∗ levAts L lv ∗ SW 4 c ∗ SW 5 c ∗ SW 6 c ∗ SW 7 c ∗ OW c (allK.drop 21)
      ∗ (∀ r, (hold cc0_scratch6 z0_S2x2x416x512.set fullShare (b00 m c) c ∗ hold cc0_scratch6 z1_S2x2x416x512.set fullShare (b01 m c) c ∗ hold cc0_scratch7 z0_S2x2x128x256.set fullShare (b10 m c) c ∗ hold cc0_scratch7 z1_S2x2x128x256.set fullShare (b11 m c) c ∗ ZS 4 c ∗ ZS 5 c ∗ ZS 6 c ∗ ZS 7 c ∗ OW c (allK.drop 21)) -∗ Kt r))
     ⊢ wp frame (wpE (defs₀ (F := F)) 𝒱₀ (c : Thread nD τ) none) Set.univ
      (onRefs (k0_part30 (F := F))) Kt := by
  unfold onRefs; rw [k0_part30_eq_skeleton]; unfold k0_part30_skel
  simp only [Prog.lift, Prog.bind_op, Prog.bind_ret, Prog.pure_eq_ret]
  iintro ⟨#HK, #HL, HSW4, HSW5, HSW6, HSW7, HO, Hk⟩
  iapply (swait_w m K 4 c rfl rfl) $$ [HSW4 HO]
  · isplitr; · iexact HK
    isplitr; · iexact HL
    isplitl [HSW4]; · iexact HSW4
    iexact HO
  iintro ⟨Hp, HZS4, HO⟩
  ihave Hb00 := (Entails.of_eq (srcE4 m c)) $$ Hp
  iapply (swait_w m K 5 c rfl rfl) $$ [HSW5 HO]
  · isplitr; · iexact HK
    isplitr; · iexact HL
    isplitl [HSW5]; · iexact HSW5
    iexact HO
  iintro ⟨Hp, HZS5, HO⟩
  ihave Hb01 := (Entails.of_eq (srcE5 m c)) $$ Hp
  iapply (swait_w m K 6 c rfl rfl) $$ [HSW6 HO]
  · isplitr; · iexact HK
    isplitr; · iexact HL
    isplitl [HSW6]; · iexact HSW6
    iexact HO
  iintro ⟨Hp, HZS6, HO⟩
  ihave Hb10 := (Entails.of_eq (srcE6 m c)) $$ Hp
  iapply (swait_w m K 7 c rfl rfl) $$ [HSW7 HO]
  · isplitr; · iexact HK
    isplitr; · iexact HL
    isplitl [HSW7]; · iexact HSW7
    iexact HO
  iintro ⟨Hp, HZS7, HO⟩
  ihave Hb11 := (Entails.of_eq (srcE7 m c)) $$ Hp
  simp only [wp_ret]
  imodintro
  iapply Hk
  isplitl [Hb00]; · iexact Hb00
  isplitl [Hb01]; · iexact Hb01
  isplitl [Hb10]; · iexact Hb10
  isplitl [Hb11]; · iexact Hb11
  isplitl [HZS4]; · iexact HZS4
  isplitl [HZS5]; · iexact HZS5
  isplitl [HZS6]; · iexact HZS6
  isplitl [HZS7]; · iexact HZS7
  iexact HO

theorem part31 (c : Dev nD) (Kt : (PUnit) → sProp 𝕄) :
    iprop(recs m K ∗ levAts L lv ∗ SW 8 c ∗ SW 9 c ∗ SW 10 c ∗ SW 11 c ∗ OW c (allK.drop 21)
      ∗ (∀ r, (hold cc0_scratch8 z0_S2x2x128x512.set fullShare (b20 m c) c ∗ hold cc0_scratch8 z1_S2x2x128x512.set fullShare (b21 m c) c ∗ hold cc0_scratch24 Finset.univ fullShare.left (acs m c) c ∗ hold cc0_scratch15 z0_S2x416x512.set fullShare (sc00 m c) c ∗ ZS 8 c ∗ ZS 9 c ∗ ZS 10 c ∗ ZS 11 c ∗ OW c (allK.drop 21)) -∗ Kt r))
     ⊢ wp frame (wpE (defs₀ (F := F)) 𝒱₀ (c : Thread nD τ) none) Set.univ
      (onRefs (k0_part31 (F := F))) Kt := by
  unfold onRefs; rw [k0_part31_eq_skeleton]; unfold k0_part31_skel
  simp only [Prog.lift, Prog.bind_op, Prog.bind_ret, Prog.pure_eq_ret]
  iintro ⟨#HK, #HL, HSW8, HSW9, HSW10, HSW11, HO, Hk⟩
  iapply (swait_w m K 8 c rfl rfl) $$ [HSW8 HO]
  · isplitr; · iexact HK
    isplitr; · iexact HL
    isplitl [HSW8]; · iexact HSW8
    iexact HO
  iintro ⟨Hp, HZS8, HO⟩
  ihave Hb20 := (Entails.of_eq (srcE8 m c)) $$ Hp
  iapply (swait_w m K 9 c rfl rfl) $$ [HSW9 HO]
  · isplitr; · iexact HK
    isplitr; · iexact HL
    isplitl [HSW9]; · iexact HSW9
    iexact HO
  iintro ⟨Hp, HZS9, HO⟩
  ihave Hb21 := (Entails.of_eq (srcE9 m c)) $$ Hp
  iapply (swait_w m K 10 c rfl rfl) $$ [HSW10 HO]
  · isplitr; · iexact HK
    isplitr; · iexact HL
    isplitl [HSW10]; · iexact HSW10
    iexact HO
  iintro ⟨Hp, HZS10, HO⟩
  ihave HacsL := (Entails.of_eq (srcE10 m c)) $$ Hp
  iapply (swait_w m K 11 c rfl rfl) $$ [HSW11 HO]
  · isplitr; · iexact HK
    isplitr; · iexact HL
    isplitl [HSW11]; · iexact HSW11
    iexact HO
  iintro ⟨Hp, HZS11, HO⟩
  ihave Hsc00 := (Entails.of_eq (srcE11 m c)) $$ Hp
  simp only [wp_ret]
  imodintro
  iapply Hk
  isplitl [Hb20]; · iexact Hb20
  isplitl [Hb21]; · iexact Hb21
  isplitl [HacsL]; · iexact HacsL
  isplitl [Hsc00]; · iexact Hsc00
  isplitl [HZS8]; · iexact HZS8
  isplitl [HZS9]; · iexact HZS9
  isplitl [HZS10]; · iexact HZS10
  isplitl [HZS11]; · iexact HZS11
  iexact HO

theorem part32 (c : Dev nD) (Kt : (PUnit) → sProp 𝕄) :
    iprop(recs m K ∗ levAts L lv ∗ SW 12 c ∗ SW 13 c ∗ SW 14 c ∗ SW 15 c ∗ OW c (allK.drop 21)
      ∗ (∀ r, (hold cc0_scratch15 z1_S2x416x512.set fullShare (sc01 m c) c ∗ hold cc0_scratch16 z0_S2x128x256.set fullShare (sc10 m c) c ∗ hold cc0_scratch16 z1_S2x128x256.set fullShare (sc11 m c) c ∗ hold cc0_scratch17 z0_S2x128x512.set fullShare (sc20 m c) c ∗ ZS 12 c ∗ ZS 13 c ∗ ZS 14 c ∗ ZS 15 c ∗ OW c (allK.drop 21)) -∗ Kt r))
     ⊢ wp frame (wpE (defs₀ (F := F)) 𝒱₀ (c : Thread nD τ) none) Set.univ
      (onRefs (k0_part32 (F := F))) Kt := by
  unfold onRefs; rw [k0_part32_eq_skeleton]; unfold k0_part32_skel
  simp only [Prog.lift, Prog.bind_op, Prog.bind_ret, Prog.pure_eq_ret]
  iintro ⟨#HK, #HL, HSW12, HSW13, HSW14, HSW15, HO, Hk⟩
  iapply (swait_w m K 12 c rfl rfl) $$ [HSW12 HO]
  · isplitr; · iexact HK
    isplitr; · iexact HL
    isplitl [HSW12]; · iexact HSW12
    iexact HO
  iintro ⟨Hp, HZS12, HO⟩
  ihave Hsc01 := (Entails.of_eq (srcE12 m c)) $$ Hp
  iapply (swait_w m K 13 c rfl rfl) $$ [HSW13 HO]
  · isplitr; · iexact HK
    isplitr; · iexact HL
    isplitl [HSW13]; · iexact HSW13
    iexact HO
  iintro ⟨Hp, HZS13, HO⟩
  ihave Hsc10 := (Entails.of_eq (srcE13 m c)) $$ Hp
  iapply (swait_w m K 14 c rfl rfl) $$ [HSW14 HO]
  · isplitr; · iexact HK
    isplitr; · iexact HL
    isplitl [HSW14]; · iexact HSW14
    iexact HO
  iintro ⟨Hp, HZS14, HO⟩
  ihave Hsc11 := (Entails.of_eq (srcE14 m c)) $$ Hp
  iapply (swait_w m K 15 c rfl rfl) $$ [HSW15 HO]
  · isplitr; · iexact HK
    isplitr; · iexact HL
    isplitl [HSW15]; · iexact HSW15
    iexact HO
  iintro ⟨Hp, HZS15, HO⟩
  ihave Hsc20 := (Entails.of_eq (srcE15 m c)) $$ Hp
  simp only [wp_ret]
  imodintro
  iapply Hk
  isplitl [Hsc01]; · iexact Hsc01
  isplitl [Hsc10]; · iexact Hsc10
  isplitl [Hsc11]; · iexact Hsc11
  isplitl [Hsc20]; · iexact Hsc20
  isplitl [HZS12]; · iexact HZS12
  isplitl [HZS13]; · iexact HZS13
  isplitl [HZS14]; · iexact HZS14
  isplitl [HZS15]; · iexact HZS15
  iexact HO

end Cert.ReduceProof

end
-- ==== Proof.Reduce.Body.lean ====
/-
The whole body of the reduce-scatter, step after step.
-/
module

public import proofs.«01_k».proof.Proof.Reduce.Head
public import proofs.«01_k».proof.Proof.Reduce.PartsA
public import proofs.«01_k».proof.Proof.Reduce.PartsB
public import proofs.«01_k».proof.Proof.Reduce.PartsC

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-- What the body starts with: the gradients, cut into the rows for each core; the scratch; the results' buffers, cut as they are stored. -/
def gradsP (c : Dev nD) : sProp 𝕄 :=
  iprop((hold main_arg0 (o1 c).set fullShare (gv0 m c) c ∗ hold main_arg0 (o2 c).set fullShare (gv0 m c) c) ∗ (hold main_arg1 (o3 c).set fullShare (gv1 m c) c ∗ hold main_arg1 (o4 c).set fullShare (gv1 m c) c) ∗ (hold main_arg2 (o5 c).set fullShare (gv2 m c) c ∗ hold main_arg2 (o6 c).set fullShare (gv2 m c) c))
def scratchP (c : Dev nD) : sProp 𝕄 :=
  iprop(hole (F := F) cc0_scratch0 Finset.univ c ∗ hole (F := F) cc0_scratch1 Finset.univ c ∗ hole (F := F) cc0_scratch2 Finset.univ c ∗ hole (F := F) cc0_scratch6 z0_S2x2x416x512.set c ∗ hole (F := F) cc0_scratch6 z1_S2x2x416x512.set c ∗ hole (F := F) cc0_scratch7 z0_S2x2x128x256.set c ∗ hole (F := F) cc0_scratch7 z1_S2x2x128x256.set c ∗ hole (F := F) cc0_scratch8 z0_S2x2x128x512.set c ∗ hole (F := F) cc0_scratch8 z1_S2x2x128x512.set c ∗ hole (F := F) cc0_scratch12 z0_S2x2x416x512.set c ∗ hole (F := F) cc0_scratch12 z1_S2x2x416x512.set c ∗ hole (F := F) cc0_scratch13 z0_S2x2x128x256.set c ∗ hole (F := F) cc0_scratch13 z1_S2x2x128x256.set c ∗ hole (F := F) cc0_scratch14 z0_S2x2x128x512.set c ∗ hole (F := F) cc0_scratch14 z1_S2x2x128x512.set c ∗ hole (F := F) cc0_scratch15 z0_S2x416x512.set c ∗ hole (F := F) cc0_scratch15 z1_S2x416x512.set c ∗ hole (F := F) cc0_scratch16 z0_S2x128x256.set c ∗ hole (F := F) cc0_scratch16 z1_S2x128x256.set c ∗ hole (F := F) cc0_scratch17 z0_S2x128x512.set c ∗ hole (F := F) cc0_scratch17 z1_S2x128x512.set c ∗ hole (F := F) cc0_scratch24 Finset.univ c)
def outsP (c : Dev nD) : sProp 𝕄 :=
  iprop(hole (F := F) cc0_stg1_0 (o26 c).set c ∗ hole (F := F) cc0_stg1_0 (o28 c).set c ∗ hole (F := F) cc0_stg2_0 (o31 c).set c ∗ hole (F := F) cc0_stg2_0 (o33 c).set c ∗ hole (F := F) cc0_stg3_0 (o36 c).set c ∗ hole (F := F) cc0_stg3_0 (o38 c).set c ∗ hole (F := F) cc0_stg4_0 Finset.univ c)
def dutiesP (c : Dev nD) : sProp 𝕄 := iprop(SK (F := F) 0 c ∗ SK (F := F) 1 c ∗ SK (F := F) 2 c ∗ SK (F := F) 3 c ∗ SK (F := F) 4 c ∗ SK (F := F) 5 c ∗ SK (F := F) 6 c ∗ SK (F := F) 7 c ∗ SK (F := F) 8 c ∗ SK (F := F) 9 c ∗ SK (F := F) 10 c ∗ SK (F := F) 11 c ∗ SK (F := F) 12 c ∗ SK (F := F) 13 c ∗ SK (F := F) 14 c ∗ SK (F := F) 15 c ∗ SK (F := F) 16 c ∗ SK (F := F) 17 c ∗ SK (F := F) 18 c ∗ SK (F := F) 19 c ∗ SK (F := F) 20 c)
def waitsP (c : Dev nD) : sProp 𝕄 := iprop(RK (F := F) 0 c ∗ RK (F := F) 1 c ∗ RK (F := F) 2 c ∗ RK (F := F) 3 c ∗ RK (F := F) 4 c ∗ RK (F := F) 5 c ∗ RK (F := F) 6 c ∗ RK (F := F) 7 c ∗ RK (F := F) 8 c ∗ RK (F := F) 9 c ∗ RK (F := F) 10 c ∗ RK (F := F) 11 c ∗ RK (F := F) 12 c ∗ RK (F := F) 13 c ∗ RK (F := F) 14 c ∗ RK (F := F) 15 c ∗ RK (F := F) 16 c ∗ RK (F := F) 17 c ∗ RK (F := F) 18 c ∗ RK (F := F) 19 c ∗ RK (F := F) 20 c)
def locsP (c : Dev nD) : sProp 𝕄 := iprop(LK (F := F) 0 c ∗ LK (F := F) 1 c ∗ LK (F := F) 2 c)
def closedP (c : Dev nD) : sProp 𝕄 := iprop((ZS (F := F) 0 c ∗ ZS (F := F) 1 c ∗ ZS (F := F) 2 c ∗ ZS (F := F) 3 c ∗ ZS (F := F) 4 c ∗ ZS (F := F) 5 c ∗ ZS (F := F) 6 c ∗ ZS (F := F) 7 c ∗ ZS (F := F) 8 c ∗ ZS (F := F) 9 c ∗ ZS (F := F) 10 c ∗ ZS (F := F) 11 c ∗ ZS (F := F) 12 c ∗ ZS (F := F) 13 c ∗ ZS (F := F) 14 c ∗ ZS (F := F) 15 c ∗ ZS (F := F) 16 c ∗ ZS (F := F) 17 c ∗ ZS (F := F) 18 c ∗ ZS (F := F) 19 c ∗ ZS (F := F) 20 c) ∗ (ZR (F := F) 0 c ∗ ZR (F := F) 1 c ∗ ZR (F := F) 2 c ∗ ZR (F := F) 3 c ∗ ZR (F := F) 4 c ∗ ZR (F := F) 5 c ∗ ZR (F := F) 6 c ∗ ZR (F := F) 7 c ∗ ZR (F := F) 8 c ∗ ZR (F := F) 9 c ∗ ZR (F := F) 10 c ∗ ZR (F := F) 11 c ∗ ZR (F := F) 12 c ∗ ZR (F := F) 13 c ∗ ZR (F := F) 14 c ∗ ZR (F := F) 15 c ∗ ZR (F := F) 16 c ∗ ZR (F := F) 17 c ∗ ZR (F := F) 18 c ∗ ZR (F := F) 19 c ∗ ZR (F := F) 20 c) ∗ (ZL (F := F) 0 c ∗ ZL (F := F) 1 c ∗ ZL (F := F) 2 c))

/-- What the body ends with in the scratch, and in the results' buffers. -/
def scratchQ (c : Dev nD) : sProp 𝕄 :=
  iprop(hold cc0_scratch24 Finset.univ fullShare.right (acs m c) c ∗ hold cc0_scratch12 z0_S2x2x416x512.set fullShare (ac00 m c) c ∗ hold cc0_scratch12 z1_S2x2x416x512.set fullShare (ac01 m c) c ∗ hold cc0_scratch13 z0_S2x2x128x256.set fullShare (ac10 m c) c ∗ hold cc0_scratch13 z1_S2x2x128x256.set fullShare (ac11 m c) c ∗ hold cc0_scratch14 z0_S2x2x128x512.set fullShare (ac20 m c) c ∗ hold cc0_scratch14 z1_S2x2x128x512.set fullShare (ac21 m c) c ∗ hold cc0_scratch0 Finset.univ fullShare (la0 m c) c ∗ hold cc0_scratch3 Finset.univ fullShare (rs0 m c) c ∗ hold cc0_scratch1 Finset.univ fullShare (la1 m c) c ∗ hold cc0_scratch4 Finset.univ fullShare (rs1 m c) c ∗ hold cc0_scratch2 Finset.univ fullShare (la2 m c) c ∗ hold cc0_scratch5 Finset.univ fullShare (rs2 m c) c ∗ hold cc0_scratch21 Finset.univ fullShare (smv m (sib c)) c ∗ hold cc0_scratch9 z0_S2x2x416x512.set fullShare (b00 m (xn c)) c ∗ hold cc0_scratch9 z1_S2x2x416x512.set fullShare (b01 m (yn c)) c ∗ hold cc0_scratch10 z0_S2x2x128x256.set fullShare (b10 m (xn c)) c ∗ hold cc0_scratch10 z1_S2x2x128x256.set fullShare (b11 m (yn c)) c ∗ hold cc0_scratch11 z0_S2x2x128x512.set fullShare (b20 m (xn c)) c ∗ hold cc0_scratch11 z1_S2x2x128x512.set fullShare (b21 m (yn c)) c ∗ hold cc0_scratch22 Finset.univ fullShare.right (sbt m c) c ∗ hold cc0_scratch18 z0_S2x416x512.set fullShare (sc00 m (yn c)) c ∗ hold cc0_scratch18 z1_S2x416x512.set fullShare (sc01 m (xn c)) c ∗ hold cc0_scratch19 z0_S2x128x256.set fullShare (sc10 m (yn c)) c ∗ hold cc0_scratch19 z1_S2x128x256.set fullShare (sc11 m (xn c)) c ∗ hold cc0_scratch20 z0_S2x128x512.set fullShare (sc20 m (yn c)) c ∗ hold cc0_scratch20 z1_S2x128x512.set fullShare (sc21 m (xn c)) c ∗ hold cc0_scratch23 Finset.univ fullShare (sbt m (yn c)) c ∗ hold cc0_scratch6 z0_S2x2x416x512.set fullShare (b00 m c) c ∗ hold cc0_scratch6 z1_S2x2x416x512.set fullShare (b01 m c) c ∗ hold cc0_scratch7 z0_S2x2x128x256.set fullShare (b10 m c) c ∗ hold cc0_scratch7 z1_S2x2x128x256.set fullShare (b11 m c) c ∗ hold cc0_scratch8 z0_S2x2x128x512.set fullShare (b20 m c) c ∗ hold cc0_scratch8 z1_S2x2x128x512.set fullShare (b21 m c) c ∗ hold cc0_scratch24 Finset.univ fullShare.left (acs m c) c ∗ hold cc0_scratch15 z0_S2x416x512.set fullShare (sc00 m c) c ∗ hold cc0_scratch15 z1_S2x416x512.set fullShare (sc01 m c) c ∗ hold cc0_scratch16 z0_S2x128x256.set fullShare (sc10 m c) c ∗ hold cc0_scratch16 z1_S2x128x256.set fullShare (sc11 m c) c ∗ hold cc0_scratch17 z0_S2x128x512.set fullShare (sc20 m c) c ∗ hold cc0_scratch17 z1_S2x128x512.set fullShare (sc21 m c) c ∗ hold cc0_scratch22 Finset.univ fullShare.left (sbt m c) c)
def outsQ (c : Dev nD) : sProp 𝕄 :=
  iprop(hold cc0_stg1_0 (o29 c).set fullShare (om0 m c) c ∗ hold cc0_stg1_0 (o29 (sib c)).set fullShare (om0 m (sib c)) c ∗ hold cc0_stg2_0 (o34 c).set fullShare (om1 m c) c ∗ hold cc0_stg2_0 (o34 (sib c)).set fullShare (om1 m (sib c)) c ∗ hold cc0_stg3_0 (o39 c).set fullShare (om2 m c) c ∗ hold cc0_stg3_0 (o39 (sib c)).set fullShare (om2 m (sib c)) c ∗ hold cc0_stg4_0 Finset.univ fullShare (osmv m c) c)

set_option maxHeartbeats 16000000 in
theorem body (c : Dev nD) (W : Waits sig Unit) (Kt : PUnit → sProp 𝕄) :
    iprop(recs m K ∗ levAts L lv ∗ owes (c : Thread nD τ) (O₀ c) W
      ∗ (dutyTok ER (barCell (sib c)) 0 0 ∗ dutyTok ER (barCell (xn c)) 0 1 ∗ dutyTok ER (barCell (yn c)) 0 2)
      ∗ (sibIn (F := F) c ∗ xnIn (F := F) c ∗ ynIn (F := F) c)
      ∗ (cred (tallyAt (barCell c) () 3) ∗ atPos ER (barCell c) 0 ∅ 0)
      ∗ gradsP m c ∗ hold cc0_stg0_0 Finset.univ fullShare (smv m c) c ∗ scratchP (F := F) c ∗ outsP (F := F) c
      ∗ dutiesP (F := F) c ∗ waitsP (F := F) c ∗ locsP (F := F) c
      ∗ ((gradsP m c ∗ hold cc0_stg0_0 Finset.univ fullShare (smv m c) c ∗ scratchQ m c ∗ outsQ m c
        ∗ semVal (barCell c) 0 ∗ closedP (F := F) c ∗ OW c []) -∗ Kt ⟨⟩))
     ⊢ wp frame (wpE (defs₀ (F := F)) 𝒱₀ (c : Thread nD τ) none) Set.univ
      (cc0_reduce_grads (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27) Kt := by
  rw [cc0_reduce_grads_eq_skeleton]; unfold cc0_reduce_grads_skel
  rw [wp_bind, k0_part33_eq_skeleton]; unfold k0_part33_skel
  unfold gradsP scratchP outsP dutiesP waitsP locsP
  iintro ⟨#HK, #HL, HO, Ht, Hi, ⟨Hbc, Hba⟩, ⟨⟨HGs0, HGl0⟩, ⟨HGs1, HGl1⟩, ⟨HGs2, HGl2⟩⟩, Hsm, ⟨Hloc0, Hloc1, Hloc2, Hb00, Hb01, Hb10, Hb11, Hb20, Hb21, Hac00, Hac01, Hac10, Hac11, Hac20, Hac21, Hsc00, Hsc01, Hsc10, Hsc11, Hsc20, Hsc21, Hacs⟩, ⟨Hot00, Hot01, Hot10, Hot11, Hot20, Hot21, Hosm⟩, ⟨HSK0, HSK1, HSK2, HSK3, HSK4, HSK5, HSK6, HSK7, HSK8, HSK9, HSK10, HSK11, HSK12, HSK13, HSK14, HSK15, HSK16, HSK17, HSK18, HSK19, HSK20⟩, ⟨HRK0, HRK1, HRK2, HRK3, HRK4, HRK5, HRK6, HRK7, HRK8, HRK9, HRK10, HRK11, HRK12, HRK13, HRK14, HRK15, HRK16, HRK17, HRK18, HRK19, HRK20⟩, ⟨HLK0, HLK1, HLK2⟩, Hk⟩
  rw [wp_bind]
  iapply (part1 m K c W _)
  isplitr; · iexact HK
  isplitl [HO]; · iexact HO
  isplitl [Ht]; · iexact Ht
  isplitl [Hi]; · iexact Hi
  iintro %v2 %v5 %v8 %v9 %v10 %v11 HO
  rw [wp_bind]
  iapply (part2 m K c W _ _ _ _ _)
  isplitr; · iexact HK
  isplitr; · iexact HL
  isplitl [HO]; · iexact HO
  isplitl [Hbc]; · iexact Hbc
  isplitl [Hba]; · iexact Hba
  isplitl [HSK0]; · iexact HSK0
  isplitl [HGs0]; · iexact HGs0
  isplitl [HLK0]; · iexact HLK0
  isplitl [HGl0]; · iexact HGl0
  isplitl [Hloc0]; · iexact Hloc0
  iintro %r2 ⟨Hland, Hz, HSW0, HLW0, HO⟩
  unfold landsRest xnPay ynPay
  icases Hland with ⟨⟨HLD1, HLD2, HLD3, HLD18, HLD19, HLD20⟩, ⟨HLD4, HLD6, HLD8, HLD10, HLD12, HLD14, HLD16⟩, ⟨HLD5, HLD7, HLD9, HLD11, HLD13, HLD15, HLD17⟩⟩
  rw [wp_bind]
  iapply (part3 m K c _ _ _ _ _)
  isplitr; · iexact HK
  isplitr; · iexact HL
  isplitl [HSK1]; · iexact HSK1
  isplitl [HLD1]; · iexact HLD1
  isplitl [HGs1]; · iexact HGs1
  isplitl [HLK1]; · iexact HLK1
  isplitl [HGl1]; · iexact HGl1
  isplitl [Hloc1]; · iexact Hloc1
  isplitl [HSK2]; · iexact HSK2
  isplitl [HLD2]; · iexact HLD2
  isplitl [HGs2]; · iexact HGs2
  isplitl [HLK2]; · iexact HLK2
  isplitl [HGl2]; · iexact HGl2
  isplitl [Hloc2]; · iexact Hloc2
  isplitl [HO]; · iexact HO
  iintro %r3 ⟨HSW1, HLW1, HSW2, HLW2, HO⟩
  rw [wp_bind]
  iapply (part4 m K c _ _ _ _ _)
  isplitr; · iexact HK
  isplitr; · iexact HL
  isplitl [HSK3]; · iexact HSK3
  isplitl [HLD3]; · iexact HLD3
  isplitl [Hsm]; · iexact Hsm
  isplitl [HLW0]; · iexact HLW0
  isplitl [HRK0]; · iexact HRK0
  isplitl [HO]; · iexact HO
  iintro %r4 ⟨Hsm, Hloc0, HGl0, Hra0, HSW3, HZL0, HZR0, HO⟩
  rw [wp_bind]
  iapply (part5 m K c _ _ _ _)
  isplitr; · iexact HK
  isplitr; · iexact HL
  isplitl [Hra0]; · iexact Hra0
  isplitl [Hb00]; · iexact Hb00
  isplitl [Hb01]; · iexact Hb01
  isplitl [HSK4]; · iexact HSK4
  isplitl [HLD4]; · iexact HLD4
  isplitl [HO]; · iexact HO
  iintro %r5 ⟨Hra0, Hb01, HSW4, HO⟩
  rw [wp_bind]
  iapply (part6 m K c _ _ _ _ _ _)
  isplitr; · iexact HK
  isplitr; · iexact HL
  isplitl [HSK5]; · iexact HSK5
  isplitl [HLD5]; · iexact HLD5
  isplitl [Hb01]; · iexact Hb01
  isplitl [HLW1]; · iexact HLW1
  isplitl [HO]; · iexact HO
  iintro %r6 ⟨Hloc1, HGl1, HSW5, HZL1, HO⟩
  rw [wp_bind]
  iapply (part7 m K c _ _ _ _)
  isplitr; · iexact HK
  isplitr; · iexact HL
  isplitl [HRK1]; · iexact HRK1
  isplitl [Hloc1]; · iexact Hloc1
  isplitl [Hb10]; · iexact Hb10
  isplitl [Hb11]; · iexact Hb11
  isplitl [HO]; · iexact HO
  iintro %r7 ⟨Hra1, Hloc1, Hb10, Hb11, HZR1, HO⟩
  rw [wp_bind]
  iapply (part8 m K c _ _ _ _ _ _)
  isplitr; · iexact HK
  isplitr; · iexact HL
  isplitl [HSK6]; · iexact HSK6
  isplitl [HLD6]; · iexact HLD6
  isplitl [Hb10]; · iexact Hb10
  isplitl [HSK7]; · iexact HSK7
  isplitl [HLD7]; · iexact HLD7
  isplitl [Hb11]; · iexact Hb11
  isplitl [HO]; · iexact HO
  iintro %r8 ⟨HSW6, HSW7, HO⟩
  rw [wp_bind]
  iapply (part9 m K c _ _ _ _ _)
  isplitr; · iexact HK
  isplitr; · iexact HL
  isplitl [HLW2]; · iexact HLW2
  isplitl [HRK2]; · iexact HRK2
  isplitl [Hb20]; · iexact Hb20
  isplitl [HO]; · iexact HO
  iintro ⟨Hloc2, HGl2, Hra2, Hb20, HZL2, HZR2, HO⟩
  try dsimp only
  rw [wp_bind]
  iapply (part10 m K c _ _ _ _ _ _)
  isplitr; · iexact HK
  isplitr; · iexact HL
  isplitl [Hb20]; · iexact Hb20
  isplitl [Hra2]; · iexact Hra2
  isplitl [Hb21]; · iexact Hb21
  isplitl [HSK8]; · iexact HSK8
  isplitl [HLD8]; · iexact HLD8
  isplitl [HO]; · iexact HO
  iintro %r10 ⟨Hra2, Hb21, HSW8, HO⟩
  rcases r10 with ⟨w10, u10⟩
  dsimp only
  rw [wp_bind]
  iapply (part11 m K c _ _ _ _ _ _ _ _)
  isplitr; · iexact HK
  isplitr; · iexact HL
  isplitl [HSK9]; · iexact HSK9
  isplitl [HLD9]; · iexact HLD9
  isplitl [Hb21]; · iexact Hb21
  isplitl [HRK3]; · iexact HRK3
  isplitl [Hsm]; · iexact Hsm
  isplitl [Hacs]; · iexact Hacs
  isplitl [HO]; · iexact HO
  iintro %r11 ⟨Hsa, Hsm, Hacs, HSW9, HZR3, HO⟩
  rw [wp_bind]
  iapply (part12 m K c _ _ _ _ _ _)
  isplitr; · iexact HK
  isplitr; · iexact HL
  isplitl [HSK10]; · iexact HSK10
  isplitl [HLD10]; · iexact HLD10
  isplitl [Hacs]; · iexact Hacs
  isplitl [HRK4]; · iexact HRK4
  isplitl [HRK5]; · iexact HRK5
  isplitl [HO]; · iexact HO
  iintro %r12 ⟨Hacs, Hrb00, Hrb01, HSW10, HZR4, HZR5, HO⟩
  rw [wp_bind]
  iapply (part13 m K c _ _ _)
  isplitr; · iexact HK
  isplitr; · iexact HL
  isplitl [Hra0]; · iexact Hra0
  isplitl [Hrb00]; · iexact Hrb00
  isplitl [Hac00]; · iexact Hac00
  isplitl [Hrb01]; · iexact Hrb01
  isplitl [Hac01]; · iexact Hac01
  isplitl [Hsc00]; · iexact Hsc00
  isplitl [HO]; · iexact HO
  iintro %r13 ⟨Hra0, Hrb00, Hac00, Hrb01, Hac01, Hsc00, HO⟩
  rw [wp_bind]
  iapply (part14 m K c _ _ _ _ _ _)
  isplitr; · iexact HK
  isplitr; · iexact HL
  isplitl [Hac01]; · iexact Hac01
  isplitl [Hsc01]; · iexact Hsc01
  isplitl [HSK11]; · iexact HSK11
  isplitl [HLD11]; · iexact HLD11
  isplitl [Hsc00]; · iexact Hsc00
  isplitl [HO]; · iexact HO
  iintro %r14 ⟨Hac01, Hsc01, HSW11, HO⟩
  rw [wp_bind]
  iapply (part15 m K c _ _ _ _ _ _)
  isplitr; · iexact HK
  isplitr; · iexact HL
  isplitl [HSK12]; · iexact HSK12
  isplitl [HLD12]; · iexact HLD12
  isplitl [Hsc01]; · iexact Hsc01
  isplitl [HRK6]; · iexact HRK6
  isplitl [HRK7]; · iexact HRK7
  isplitl [HO]; · iexact HO
  iintro %r15 ⟨Hrb10, Hrb11, HSW12, HZR6, HZR7, HO⟩
  rw [wp_bind]
  iapply (part16 m K c _ _ _)
  isplitr; · iexact HK
  isplitr; · iexact HL
  isplitl [Hra1]; · iexact Hra1
  isplitl [Hrb10]; · iexact Hrb10
  isplitl [Hac10]; · iexact Hac10
  isplitl [Hrb11]; · iexact Hrb11
  isplitl [Hac11]; · iexact Hac11
  isplitl [Hsc10]; · iexact Hsc10
  isplitl [HO]; · iexact HO
  iintro %r16 ⟨Hra1, Hrb10, Hac10, Hrb11, Hac11, Hsc10, HO⟩
  rw [wp_bind]
  iapply (part17 m K c _ _ _ _ _ _)
  isplitr; · iexact HK
  isplitr; · iexact HL
  isplitl [Hac11]; · iexact Hac11
  isplitl [Hsc11]; · iexact Hsc11
  isplitl [HSK13]; · iexact HSK13
  isplitl [HLD13]; · iexact HLD13
  isplitl [Hsc10]; · iexact Hsc10
  isplitl [HO]; · iexact HO
  iintro %r17 ⟨Hac11, Hsc11, HSW13, HO⟩
  rw [wp_bind]
  iapply (part18 m K c _ _ _ _ _ _)
  isplitr; · iexact HK
  isplitr; · iexact HL
  isplitl [HSK14]; · iexact HSK14
  isplitl [HLD14]; · iexact HLD14
  isplitl [Hsc11]; · iexact Hsc11
  isplitl [HRK8]; · iexact HRK8
  isplitl [HO]; · iexact HO
  iintro %r18 ⟨Hrb20, HSW14, HZR8, HO⟩
  rw [wp_bind]
  iapply (part19 m K c _ _ _)
  isplitr; · iexact HK
  isplitr; · iexact HL
  isplitl [HRK9]; · iexact HRK9
  isplitl [Hra2]; · iexact Hra2
  isplitl [Hrb20]; · iexact Hrb20
  isplitl [Hac20]; · iexact Hac20
  isplitl [Hac21]; · iexact Hac21
  isplitl [HO]; · iexact HO
  iintro ⟨Hrb21, Hra2, Hrb20, Hac20, Hac21, HZR9, HO⟩
  try dsimp only
  rw [wp_bind]
  iapply (part20 m K c _ _ _ _ _ _)
  isplitr; · iexact HK
  isplitr; · iexact HL
  isplitl [Hsc20]; · iexact Hsc20
  isplitl [Hac21]; · iexact Hac21
  isplitl [Hsc21]; · iexact Hsc21
  isplitl [HSK15]; · iexact HSK15
  isplitl [HLD15]; · iexact HLD15
  isplitl [HO]; · iexact HO
  iintro %r20 ⟨Hac21, Hsc21, HSW15, HO⟩
  rcases r20 with ⟨w20, u20⟩
  dsimp only
  rw [wp_bind]
  iapply (part21 m K c _ _ _ _ _ _ _ _)
  isplitr; · iexact HK
  isplitr; · iexact HL
  isplitl [HSK16]; · iexact HSK16
  isplitl [HLD16]; · iexact HLD16
  isplitl [Hsc21]; · iexact Hsc21
  isplitl [HRK10]; · iexact HRK10
  isplitl [Hacs]; · iexact Hacs
  isplitl [HSK17]; · iexact HSK17
  isplitl [HLD17]; · iexact HLD17
  isplitl [HO]; · iexact HO
  iintro %r21 ⟨Hsb, Hacs, HSW16, HZR10, HSW17, HO⟩
  rw [wp_bind]
  iapply (part22 m K c _ _ _ _ _ _)
  isplitr; · iexact HK
  isplitr; · iexact HL
  isplitl [HRK11]; · iexact HRK11
  isplitl [HRK12]; · iexact HRK12
  isplitl [Hac00]; · iexact Hac00
  isplitl [HO]; · iexact HO
  iintro %r22 ⟨Hrc00, Hrc01, Hac00, HZR11, HZR12, HO⟩
  try dsimp only
  rw [wp_bind]
  iapply (part23 m K c _ _ _ _ _ _ _)
  isplitr; · iexact HK
  isplitr; · iexact HL
  isplitl [Hrc00]; · iexact Hrc00
  isplitl [Hot00]; · iexact Hot00
  isplitl [Hac01]; · iexact Hac01
  isplitl [Hrc01]; · iexact Hrc01
  isplitl [Hot01]; · iexact Hot01
  isplitl [HSK18]; · iexact HSK18
  isplitl [HLD18]; · iexact HLD18
  isplitl [HO]; · iexact HO
  iintro %r23 ⟨Hrc00, Hac01, Hrc01, HSW18, HO⟩
  rcases r23 with ⟨w23, u23⟩
  dsimp only
  rw [wp_bind]
  iapply (part24 m K c _ _ _ _ _ _ _)
  isplitr; · iexact HK
  isplitr; · iexact HL
  isplitl [HRK13]; · iexact HRK13
  isplitl [HRK14]; · iexact HRK14
  isplitl [Hac10]; · iexact Hac10
  isplitl [Hot10]; · iexact Hot10
  isplitl [HO]; · iexact HO
  iintro %r24 ⟨Hrc10, Hrc11, Hac10, Hot10, HZR13, HZR14, HO⟩
  rw [wp_bind]
  iapply (part25 m K c _ _ _ _ _ _ _)
  isplitr; · iexact HK
  isplitr; · iexact HL
  isplitl [Hac11]; · iexact Hac11
  isplitl [Hrc11]; · iexact Hrc11
  isplitl [Hot11]; · iexact Hot11
  isplitl [HSK19]; · iexact HSK19
  isplitl [HLD19]; · iexact HLD19
  isplitl [Hot10]; · iexact Hot10
  isplitl [HRK15]; · iexact HRK15
  isplitl [HO]; · iexact HO
  iintro %r25 ⟨Hac11, Hrc11, Hrc20, HSW19, HZR15, HO⟩
  rw [wp_bind]
  iapply (part26 m K c _ _ _ _ _)
  isplitr; · iexact HK
  isplitr; · iexact HL
  isplitl [HRK16]; · iexact HRK16
  isplitl [Hac20]; · iexact Hac20
  isplitl [Hrc20]; · iexact Hrc20
  isplitl [Hot20]; · iexact Hot20
  isplitl [Hac21]; · iexact Hac21
  isplitl [HO]; · iexact HO
  iintro ⟨Hrc21, Hac20, Hrc20, Hot20, Hac21, HZR16, HO⟩
  try dsimp only
  rw [wp_bind]
  iapply (part27 m K c _ _ _ _ _ _)
  isplitr; · iexact HK
  isplitr; · iexact HL
  isplitl [Hot21]; · iexact Hot21
  isplitl [HSK20]; · iexact HSK20
  isplitl [HLD20]; · iexact HLD20
  isplitl [Hot20]; · iexact Hot20
  isplitl [HRK17]; · iexact HRK17
  isplitl [Hsb]; · iexact Hsb
  isplitl [Hosm]; · iexact Hosm
  isplitl [HO]; · iexact HO
  iintro %r27 ⟨Hsv, Hsb, Hosm, HSW20, HZR17, HO⟩
  rw [wp_bind]
  iapply (part28 m K c _ _ _ _ _ _)
  isplitr; · iexact HK
  isplitr; · iexact HL
  isplitl [HRK18]; · iexact HRK18
  isplitl [HRK19]; · iexact HRK19
  isplitl [HO]; · iexact HO
  iintro %r28 ⟨Hth0, Hth1, HZR18, HZR19, HO⟩
  rw [wp_bind]
  iapply (part29 m K c _)
  isplitr; · iexact HK
  isplitr; · iexact HL
  isplitl [HRK20]; · iexact HRK20
  isplitl [HSW0]; · iexact HSW0
  isplitl [HSW1]; · iexact HSW1
  isplitl [HSW2]; · iexact HSW2
  isplitl [HSW3]; · iexact HSW3
  isplitl [HO]; · iexact HO
  iintro %r29 ⟨Hth2, HGs0, HGs1, HGs2, HsmL, HZR20, HZS0, HZS1, HZS2, HZS3, HO⟩
  rw [wp_bind]
  iapply (part30 m K c _)
  isplitr; · iexact HK
  isplitr; · iexact HL
  isplitl [HSW4]; · iexact HSW4
  isplitl [HSW5]; · iexact HSW5
  isplitl [HSW6]; · iexact HSW6
  isplitl [HSW7]; · iexact HSW7
  isplitl [HO]; · iexact HO
  iintro %r30 ⟨Hb00, Hb01, Hb10, Hb11, HZS4, HZS5, HZS6, HZS7, HO⟩
  rw [wp_bind]
  iapply (part31 m K c _)
  isplitr; · iexact HK
  isplitr; · iexact HL
  isplitl [HSW8]; · iexact HSW8
  isplitl [HSW9]; · iexact HSW9
  isplitl [HSW10]; · iexact HSW10
  isplitl [HSW11]; · iexact HSW11
  isplitl [HO]; · iexact HO
  iintro %r31 ⟨Hb20, Hb21, HacsL, Hsc00, HZS8, HZS9, HZS10, HZS11, HO⟩
  rw [wp_bind]
  iapply (part32 m K c _)
  isplitr; · iexact HK
  isplitr; · iexact HL
  isplitl [HSW12]; · iexact HSW12
  isplitl [HSW13]; · iexact HSW13
  isplitl [HSW14]; · iexact HSW14
  isplitl [HSW15]; · iexact HSW15
  isplitl [HO]; · iexact HO
  iintro %r32 ⟨Hsc01, Hsc10, Hsc11, Hsc20, HZS12, HZS13, HZS14, HZS15, HO⟩
  simp only [Prog.lift, Prog.bind_op, Prog.bind_ret, Prog.pure_eq_ret]
  iapply (swait_w m K 16 c rfl rfl) $$ [HSW16 HO]
  · isplitr; · iexact HK
    isplitr; · iexact HL
    isplitl [HSW16]; · iexact HSW16
    iexact HO
  iintro ⟨Hp, HZS16, HO⟩
  ihave Hsc21 := (Entails.of_eq (srcE16 m c)) $$ Hp
  iapply (swait_w m K 17 c rfl rfl) $$ [HSW17 HO]
  · isplitr; · iexact HK
    isplitr; · iexact HL
    isplitl [HSW17]; · iexact HSW17
    iexact HO
  iintro ⟨Hp, HZS17, HO⟩
  ihave HsbL := (Entails.of_eq (srcE17 m c)) $$ Hp
  simp only [wp_ret]
  imodintro
  try dsimp only
  try simp only [Prog.lift, Prog.bind_op, Prog.bind_ret, Prog.pure_eq_ret]
  iapply (swait_w m K 18 c rfl rfl) $$ [HSW18 HO]
  · isplitr; · iexact HK
    isplitr; · iexact HL
    isplitl [HSW18]; · iexact HSW18
    iexact HO
  iintro ⟨Hp, HZS18, HO⟩
  ihave Hom0 := (Entails.of_eq (srcE18 m c)) $$ Hp
  iapply (swait_w m K 19 c rfl rfl) $$ [HSW19 HO]
  · isplitr; · iexact HK
    isplitr; · iexact HL
    isplitl [HSW19]; · iexact HSW19
    iexact HO
  iintro ⟨Hp, HZS19, HO⟩
  ihave Hom1 := (Entails.of_eq (srcE19 m c)) $$ Hp
  iapply (swait_w m K 20 c rfl rfl) $$ [HSW20 HO]
  · isplitr; · iexact HK
    isplitr; · iexact HL
    isplitl [HSW20]; · iexact HSW20
    iexact HO
  iintro ⟨Hp, HZS20, HO⟩
  ihave Hom2 := (Entails.of_eq (srcE20 m c)) $$ Hp
  ihave Hsm := (halves _ c).2 $$ [HsmL Hsm]
  · isplitl [HsmL]; · iexact HsmL
    iexact Hsm
  simp only [wp_ret]
  imodintro
  iapply Hk
  unfold scratchQ outsQ closedP
  isplitl [HGs0 HGl0 HGs1 HGl1 HGs2 HGl2]
  · isplitl [HGs0 HGl0]
    · isplitl [HGs0]; · iexact HGs0
      iexact HGl0
    isplitl [HGs1 HGl1]
    · isplitl [HGs1]; · iexact HGs1
      iexact HGl1
    isplitl [HGs2]; · iexact HGs2
    iexact HGl2
  isplitl [Hsm]; · iexact Hsm
  isplitl [Hacs Hac00 Hac01 Hac10 Hac11 Hac20 Hac21 Hloc0 Hra0 Hloc1 Hra1 Hloc2 Hra2 Hsa Hrb00 Hrb01 Hrb10 Hrb11 Hrb20 Hrb21 Hsb Hrc00 Hrc01 Hrc10 Hrc11 Hrc20 Hrc21 Hsv Hb00 Hb01 Hb10 Hb11 Hb20 Hb21 HacsL Hsc00 Hsc01 Hsc10 Hsc11 Hsc20 Hsc21 HsbL]
  · isplitl [Hacs]; · iexact Hacs
    isplitl [Hac00]; · iexact Hac00
    isplitl [Hac01]; · iexact Hac01
    isplitl [Hac10]; · iexact Hac10
    isplitl [Hac11]; · iexact Hac11
    isplitl [Hac20]; · iexact Hac20
    isplitl [Hac21]; · iexact Hac21
    isplitl [Hloc0]; · iexact Hloc0
    isplitl [Hra0]; · iexact Hra0
    isplitl [Hloc1]; · iexact Hloc1
    isplitl [Hra1]; · iexact Hra1
    isplitl [Hloc2]; · iexact Hloc2
    isplitl [Hra2]; · iexact Hra2
    isplitl [Hsa]; · iexact Hsa
    isplitl [Hrb00]; · iexact Hrb00
    isplitl [Hrb01]; · iexact Hrb01
    isplitl [Hrb10]; · iexact Hrb10
    isplitl [Hrb11]; · iexact Hrb11
    isplitl [Hrb20]; · iexact Hrb20
    isplitl [Hrb21]; · iexact Hrb21
    isplitl [Hsb]; · iexact Hsb
    isplitl [Hrc00]; · iexact Hrc00
    isplitl [Hrc01]; · iexact Hrc01
    isplitl [Hrc10]; · iexact Hrc10
    isplitl [Hrc11]; · iexact Hrc11
    isplitl [Hrc20]; · iexact Hrc20
    isplitl [Hrc21]; · iexact Hrc21
    isplitl [Hsv]; · iexact Hsv
    isplitl [Hb00]; · iexact Hb00
    isplitl [Hb01]; · iexact Hb01
    isplitl [Hb10]; · iexact Hb10
    isplitl [Hb11]; · iexact Hb11
    isplitl [Hb20]; · iexact Hb20
    isplitl [Hb21]; · iexact Hb21
    isplitl [HacsL]; · iexact HacsL
    isplitl [Hsc00]; · iexact Hsc00
    isplitl [Hsc01]; · iexact Hsc01
    isplitl [Hsc10]; · iexact Hsc10
    isplitl [Hsc11]; · iexact Hsc11
    isplitl [Hsc20]; · iexact Hsc20
    isplitl [Hsc21]; · iexact Hsc21
    iexact HsbL
  isplitl [Hom0 Hth0 Hom1 Hth1 Hom2 Hth2 Hosm]
  · isplitl [Hom0]; · iexact Hom0
    isplitl [Hth0]; · iexact Hth0
    isplitl [Hom1]; · iexact Hom1
    isplitl [Hth1]; · iexact Hth1
    isplitl [Hom2]; · iexact Hom2
    isplitl [Hth2]; · iexact Hth2
    iexact Hosm
  isplitl [Hz]; · iexact Hz
  isplitl [HZS0 HZS1 HZS2 HZS3 HZS4 HZS5 HZS6 HZS7 HZS8 HZS9 HZS10 HZS11 HZS12 HZS13 HZS14 HZS15 HZS16 HZS17 HZS18 HZS19 HZS20 HZR0 HZR1 HZR2 HZR3 HZR4 HZR5 HZR6 HZR7 HZR8 HZR9 HZR10 HZR11 HZR12 HZR13 HZR14 HZR15 HZR16 HZR17 HZR18 HZR19 HZR20 HZL0 HZL1 HZL2]
  · isplitl [HZS0 HZS1 HZS2 HZS3 HZS4 HZS5 HZS6 HZS7 HZS8 HZS9 HZS10 HZS11 HZS12 HZS13 HZS14 HZS15 HZS16 HZS17 HZS18 HZS19 HZS20]
    · isplitl [HZS0]; · iexact HZS0
      isplitl [HZS1]; · iexact HZS1
      isplitl [HZS2]; · iexact HZS2
      isplitl [HZS3]; · iexact HZS3
      isplitl [HZS4]; · iexact HZS4
      isplitl [HZS5]; · iexact HZS5
      isplitl [HZS6]; · iexact HZS6
      isplitl [HZS7]; · iexact HZS7
      isplitl [HZS8]; · iexact HZS8
      isplitl [HZS9]; · iexact HZS9
      isplitl [HZS10]; · iexact HZS10
      isplitl [HZS11]; · iexact HZS11
      isplitl [HZS12]; · iexact HZS12
      isplitl [HZS13]; · iexact HZS13
      isplitl [HZS14]; · iexact HZS14
      isplitl [HZS15]; · iexact HZS15
      isplitl [HZS16]; · iexact HZS16
      isplitl [HZS17]; · iexact HZS17
      isplitl [HZS18]; · iexact HZS18
      isplitl [HZS19]; · iexact HZS19
      iexact HZS20
    isplitl [HZR0 HZR1 HZR2 HZR3 HZR4 HZR5 HZR6 HZR7 HZR8 HZR9 HZR10 HZR11 HZR12 HZR13 HZR14 HZR15 HZR16 HZR17 HZR18 HZR19 HZR20]
    · isplitl [HZR0]; · iexact HZR0
      isplitl [HZR1]; · iexact HZR1
      isplitl [HZR2]; · iexact HZR2
      isplitl [HZR3]; · iexact HZR3
      isplitl [HZR4]; · iexact HZR4
      isplitl [HZR5]; · iexact HZR5
      isplitl [HZR6]; · iexact HZR6
      isplitl [HZR7]; · iexact HZR7
      isplitl [HZR8]; · iexact HZR8
      isplitl [HZR9]; · iexact HZR9
      isplitl [HZR10]; · iexact HZR10
      isplitl [HZR11]; · iexact HZR11
      isplitl [HZR12]; · iexact HZR12
      isplitl [HZR13]; · iexact HZR13
      isplitl [HZR14]; · iexact HZR14
      isplitl [HZR15]; · iexact HZR15
      isplitl [HZR16]; · iexact HZR16
      isplitl [HZR17]; · iexact HZR17
      isplitl [HZR18]; · iexact HZR18
      isplitl [HZR19]; · iexact HZR19
      iexact HZR20
    isplitl [HZL0]; · iexact HZL0
    isplitl [HZL1]; · iexact HZL1
    iexact HZL2
  iexact HO

end Cert.ReduceProof

end
-- ==== Proof.Reduce.Ends.lean ====
/-
The body's two ends: the buffers cut into the pieces it starts with, and the pieces it ends with joined.
-/
module

public import proofs.«01_k».proof.Proof.Reduce.Body

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where the copies land -/

omit [FloatOps F] in
theorem inlE0 (c : Dev nD) : inl (F := F) 0 c = hole cc0_scratch3 Finset.univ c := rfl
omit [FloatOps F] in
theorem inlE1 (c : Dev nD) : inl (F := F) 1 c = hole cc0_scratch4 Finset.univ c := rfl
omit [FloatOps F] in
theorem inlE2 (c : Dev nD) : inl (F := F) 2 c = hole cc0_scratch5 Finset.univ c := rfl
omit [FloatOps F] in
theorem inlE3 (c : Dev nD) : inl (F := F) 3 c = hole cc0_scratch21 Finset.univ c := rfl
omit [FloatOps F] in
theorem inlE4 (c : Dev nD) : inl (F := F) 4 c = hole cc0_scratch9 z0_S2x2x416x512.set c := rfl
omit [FloatOps F] in
theorem inlE5 (c : Dev nD) : inl (F := F) 5 c = hole cc0_scratch9 z1_S2x2x416x512.set c := rfl
omit [FloatOps F] in
theorem inlE6 (c : Dev nD) : inl (F := F) 6 c = hole cc0_scratch10 z0_S2x2x128x256.set c := rfl
omit [FloatOps F] in
theorem inlE7 (c : Dev nD) : inl (F := F) 7 c = hole cc0_scratch10 z1_S2x2x128x256.set c := rfl
omit [FloatOps F] in
theorem inlE8 (c : Dev nD) : inl (F := F) 8 c = hole cc0_scratch11 z0_S2x2x128x512.set c := rfl
omit [FloatOps F] in
theorem inlE9 (c : Dev nD) : inl (F := F) 9 c = hole cc0_scratch11 z1_S2x2x128x512.set c := rfl
omit [FloatOps F] in
theorem inlE10 (c : Dev nD) : inl (F := F) 10 c = hole cc0_scratch22 Finset.univ c := rfl
omit [FloatOps F] in
theorem inlE11 (c : Dev nD) : inl (F := F) 11 c = hole cc0_scratch18 z0_S2x416x512.set c := rfl
omit [FloatOps F] in
theorem inlE12 (c : Dev nD) : inl (F := F) 12 c = hole cc0_scratch18 z1_S2x416x512.set c := rfl
omit [FloatOps F] in
theorem inlE13 (c : Dev nD) : inl (F := F) 13 c = hole cc0_scratch19 z0_S2x128x256.set c := rfl
omit [FloatOps F] in
theorem inlE14 (c : Dev nD) : inl (F := F) 14 c = hole cc0_scratch19 z1_S2x128x256.set c := rfl
omit [FloatOps F] in
theorem inlE15 (c : Dev nD) : inl (F := F) 15 c = hole cc0_scratch20 z0_S2x128x512.set c := rfl
omit [FloatOps F] in
theorem inlE16 (c : Dev nD) : inl (F := F) 16 c = hole cc0_scratch20 z1_S2x128x512.set c := rfl
omit [FloatOps F] in
theorem inlE17 (c : Dev nD) : inl (F := F) 17 c = hole cc0_scratch23 Finset.univ c := rfl
omit [FloatOps F] in
theorem inlE18 (c : Dev nD) : inl (F := F) 18 c = hole cc0_stg1_0 (o29 (sib c)).set c := rfl
omit [FloatOps F] in
theorem inlE19 (c : Dev nD) : inl (F := F) 19 c = hole cc0_stg2_0 (o34 (sib c)).set c := rfl
omit [FloatOps F] in
theorem inlE20 (c : Dev nD) : inl (F := F) 20 c = hole cc0_stg3_0 (o39 (sib c)).set c := rfl

/-! ## Before the body -/

theorem open_6 (c : Dev nD) : (hole cc0_scratch6 Finset.univ c : sProp 𝕄) ⊢ iprop(hole cc0_scratch6 z0_S2x2x416x512.set c ∗ hole cc0_scratch6 z1_S2x2x416x512.set c) :=
  hole_cut (B := cc0_scratch6) cut_S2x2x416x512 dj_S2x2x416x512 c
theorem open_7 (c : Dev nD) : (hole cc0_scratch7 Finset.univ c : sProp 𝕄) ⊢ iprop(hole cc0_scratch7 z0_S2x2x128x256.set c ∗ hole cc0_scratch7 z1_S2x2x128x256.set c) :=
  hole_cut (B := cc0_scratch7) cut_S2x2x128x256 dj_S2x2x128x256 c
theorem open_8 (c : Dev nD) : (hole cc0_scratch8 Finset.univ c : sProp 𝕄) ⊢ iprop(hole cc0_scratch8 z0_S2x2x128x512.set c ∗ hole cc0_scratch8 z1_S2x2x128x512.set c) :=
  hole_cut (B := cc0_scratch8) cut_S2x2x128x512 dj_S2x2x128x512 c
theorem open_9 (c : Dev nD) : (hole cc0_scratch9 Finset.univ c : sProp 𝕄) ⊢ iprop(hole cc0_scratch9 z0_S2x2x416x512.set c ∗ hole cc0_scratch9 z1_S2x2x416x512.set c) :=
  hole_cut (B := cc0_scratch9) cut_S2x2x416x512 dj_S2x2x416x512 c
theorem open_10 (c : Dev nD) : (hole cc0_scratch10 Finset.univ c : sProp 𝕄) ⊢ iprop(hole cc0_scratch10 z0_S2x2x128x256.set c ∗ hole cc0_scratch10 z1_S2x2x128x256.set c) :=
  hole_cut (B := cc0_scratch10) cut_S2x2x128x256 dj_S2x2x128x256 c
theorem open_11 (c : Dev nD) : (hole cc0_scratch11 Finset.univ c : sProp 𝕄) ⊢ iprop(hole cc0_scratch11 z0_S2x2x128x512.set c ∗ hole cc0_scratch11 z1_S2x2x128x512.set c) :=
  hole_cut (B := cc0_scratch11) cut_S2x2x128x512 dj_S2x2x128x512 c
theorem open_12 (c : Dev nD) : (hole cc0_scratch12 Finset.univ c : sProp 𝕄) ⊢ iprop(hole cc0_scratch12 z0_S2x2x416x512.set c ∗ hole cc0_scratch12 z1_S2x2x416x512.set c) :=
  hole_cut (B := cc0_scratch12) cut_S2x2x416x512 dj_S2x2x416x512 c
theorem open_13 (c : Dev nD) : (hole cc0_scratch13 Finset.univ c : sProp 𝕄) ⊢ iprop(hole cc0_scratch13 z0_S2x2x128x256.set c ∗ hole cc0_scratch13 z1_S2x2x128x256.set c) :=
  hole_cut (B := cc0_scratch13) cut_S2x2x128x256 dj_S2x2x128x256 c
theorem open_14 (c : Dev nD) : (hole cc0_scratch14 Finset.univ c : sProp 𝕄) ⊢ iprop(hole cc0_scratch14 z0_S2x2x128x512.set c ∗ hole cc0_scratch14 z1_S2x2x128x512.set c) :=
  hole_cut (B := cc0_scratch14) cut_S2x2x128x512 dj_S2x2x128x512 c
theorem open_15 (c : Dev nD) : (hole cc0_scratch15 Finset.univ c : sProp 𝕄) ⊢ iprop(hole cc0_scratch15 z0_S2x416x512.set c ∗ hole cc0_scratch15 z1_S2x416x512.set c) :=
  hole_cut (B := cc0_scratch15) cut_S2x416x512 dj_S2x416x512 c
theorem open_16 (c : Dev nD) : (hole cc0_scratch16 Finset.univ c : sProp 𝕄) ⊢ iprop(hole cc0_scratch16 z0_S2x128x256.set c ∗ hole cc0_scratch16 z1_S2x128x256.set c) :=
  hole_cut (B := cc0_scratch16) cut_S2x128x256 dj_S2x128x256 c
theorem open_17 (c : Dev nD) : (hole cc0_scratch17 Finset.univ c : sProp 𝕄) ⊢ iprop(hole cc0_scratch17 z0_S2x128x512.set c ∗ hole cc0_scratch17 z1_S2x128x512.set c) :=
  hole_cut (B := cc0_scratch17) cut_S2x128x512 dj_S2x128x512 c
theorem open_18 (c : Dev nD) : (hole cc0_scratch18 Finset.univ c : sProp 𝕄) ⊢ iprop(hole cc0_scratch18 z0_S2x416x512.set c ∗ hole cc0_scratch18 z1_S2x416x512.set c) :=
  hole_cut (B := cc0_scratch18) cut_S2x416x512 dj_S2x416x512 c
theorem open_19 (c : Dev nD) : (hole cc0_scratch19 Finset.univ c : sProp 𝕄) ⊢ iprop(hole cc0_scratch19 z0_S2x128x256.set c ∗ hole cc0_scratch19 z1_S2x128x256.set c) :=
  hole_cut (B := cc0_scratch19) cut_S2x128x256 dj_S2x128x256 c
theorem open_20 (c : Dev nD) : (hole cc0_scratch20 Finset.univ c : sProp 𝕄) ⊢ iprop(hole cc0_scratch20 z0_S2x128x512.set c ∗ hole cc0_scratch20 z1_S2x128x512.set c) :=
  hole_cut (B := cc0_scratch20) cut_S2x128x512 dj_S2x128x512 c
theorem open_out0 (c : Dev nD) : (hole cc0_stg1_0 Finset.univ c : sProp 𝕄)
    ⊢ iprop((hole cc0_stg1_0 (o26 c).set c ∗ hole cc0_stg1_0 (o28 c).set c) ∗ hole cc0_stg1_0 (o29 (sib c)).set c) :=
  (hole_cut (B := cc0_stg1_0) (cut_O0 c) (dj_O0 c) c).trans (sep_mono_left (hole_cut (B := cc0_stg1_0) (cut_om0 c) (dj_om0 c) c))
theorem open_out1 (c : Dev nD) : (hole cc0_stg2_0 Finset.univ c : sProp 𝕄)
    ⊢ iprop((hole cc0_stg2_0 (o31 c).set c ∗ hole cc0_stg2_0 (o33 c).set c) ∗ hole cc0_stg2_0 (o34 (sib c)).set c) :=
  (hole_cut (B := cc0_stg2_0) (cut_O1 c) (dj_O1 c) c).trans (sep_mono_left (hole_cut (B := cc0_stg2_0) (cut_om1 c) (dj_om1 c) c))
theorem open_out2 (c : Dev nD) : (hole cc0_stg3_0 Finset.univ c : sProp 𝕄)
    ⊢ iprop((hole cc0_stg3_0 (o36 c).set c ∗ hole cc0_stg3_0 (o38 c).set c) ∗ hole cc0_stg3_0 (o39 (sib c)).set c) :=
  (hole_cut (B := cc0_stg3_0) (cut_O2 c) (dj_O2 c) c).trans (sep_mono_left (hole_cut (B := cc0_stg3_0) (cut_om2 c) (dj_om2 c) c))

/-- The scratch and the results' buffers, whatever they hold, cut for the body. -/
theorem open_all (c : Dev nD) :
    iprop(Pipeline.scopedRest cfg0.spec c ∗ hole (F := F) cc0_stg1_0 Finset.univ c ∗ hole (F := F) cc0_stg2_0 Finset.univ c
      ∗ hole (F := F) cc0_stg3_0 Finset.univ c ∗ hole (F := F) cc0_stg4_0 Finset.univ c)
      ⊢ (iprop(scratchP (F := F) c ∗ outsP (F := F) c ∗ sibIn (F := F) c ∗ xnIn (F := F) c ∗ ynIn (F := F) c) : sProp 𝕄) := by
  rw [scopedRest0_eq]
  show iprop((hole (F := F) cc0_scratch0 Finset.univ c ∗ hole (F := F) cc0_scratch1 Finset.univ c ∗ hole (F := F) cc0_scratch2 Finset.univ c ∗ hole (F := F) cc0_scratch3 Finset.univ c ∗ hole (F := F) cc0_scratch4 Finset.univ c ∗ hole (F := F) cc0_scratch5 Finset.univ c ∗ hole (F := F) cc0_scratch6 Finset.univ c ∗ hole (F := F) cc0_scratch7 Finset.univ c ∗ hole (F := F) cc0_scratch8 Finset.univ c ∗ hole (F := F) cc0_scratch9 Finset.univ c ∗ hole (F := F) cc0_scratch10 Finset.univ c ∗ hole (F := F) cc0_scratch11 Finset.univ c ∗ hole (F := F) cc0_scratch12 Finset.univ c ∗ hole (F := F) cc0_scratch13 Finset.univ c ∗ hole (F := F) cc0_scratch14 Finset.univ c ∗ hole (F := F) cc0_scratch15 Finset.univ c ∗ hole (F := F) cc0_scratch16 Finset.univ c ∗ hole (F := F) cc0_scratch17 Finset.univ c ∗ hole (F := F) cc0_scratch18 Finset.univ c ∗ hole (F := F) cc0_scratch19 Finset.univ c ∗ hole (F := F) cc0_scratch20 Finset.univ c ∗ hole (F := F) cc0_scratch21 Finset.univ c ∗ hole (F := F) cc0_scratch22 Finset.univ c ∗ hole (F := F) cc0_scratch23 Finset.univ c ∗ hole (F := F) cc0_scratch24 Finset.univ c) ∗ _) ⊢ _
  iintro ⟨⟨S0, S1, S2, S3, S4, S5, S6, S7, S8, S9, S10, S11, S12, S13, S14, S15, S16, S17, S18, S19, S20, S21, S22, S23, S24⟩, T0, T1, T2, HOsm⟩
  ihave S6 := (open_6 (F := F) c) $$ S6
  icases S6 with ⟨S6x, S6y⟩
  ihave S7 := (open_7 (F := F) c) $$ S7
  icases S7 with ⟨S7x, S7y⟩
  ihave S8 := (open_8 (F := F) c) $$ S8
  icases S8 with ⟨S8x, S8y⟩
  ihave S9 := (open_9 (F := F) c) $$ S9
  icases S9 with ⟨S9x, S9y⟩
  ihave S10 := (open_10 (F := F) c) $$ S10
  icases S10 with ⟨S10x, S10y⟩
  ihave S11 := (open_11 (F := F) c) $$ S11
  icases S11 with ⟨S11x, S11y⟩
  ihave S12 := (open_12 (F := F) c) $$ S12
  icases S12 with ⟨S12x, S12y⟩
  ihave S13 := (open_13 (F := F) c) $$ S13
  icases S13 with ⟨S13x, S13y⟩
  ihave S14 := (open_14 (F := F) c) $$ S14
  icases S14 with ⟨S14x, S14y⟩
  ihave S15 := (open_15 (F := F) c) $$ S15
  icases S15 with ⟨S15x, S15y⟩
  ihave S16 := (open_16 (F := F) c) $$ S16
  icases S16 with ⟨S16x, S16y⟩
  ihave S17 := (open_17 (F := F) c) $$ S17
  icases S17 with ⟨S17x, S17y⟩
  ihave S18 := (open_18 (F := F) c) $$ S18
  icases S18 with ⟨S18x, S18y⟩
  ihave S19 := (open_19 (F := F) c) $$ S19
  icases S19 with ⟨S19x, S19y⟩
  ihave S20 := (open_20 (F := F) c) $$ S20
  icases S20 with ⟨S20x, S20y⟩
  ihave T0 := (open_out0 (F := F) c) $$ T0
  icases T0 with ⟨⟨T0x, T0y⟩, T0z⟩
  ihave T1 := (open_out1 (F := F) c) $$ T1
  icases T1 with ⟨⟨T1x, T1y⟩, T1z⟩
  ihave T2 := (open_out2 (F := F) c) $$ T2
  icases T2 with ⟨⟨T2x, T2y⟩, T2z⟩
  unfold scratchP outsP sibIn xnIn ynIn
  simp only [inlE0, inlE1, inlE2, inlE3, inlE4, inlE5, inlE6, inlE7, inlE8, inlE9, inlE10, inlE11, inlE12, inlE13, inlE14, inlE15, inlE16, inlE17, inlE18, inlE19, inlE20]
  isplitl [S0 S1 S2 S6x S6y S7x S7y S8x S8y S12x S12y S13x S13y S14x S14y S15x S15y S16x S16y S17x S17y S24]
  · isplitl [S0]; · iexact S0
    isplitl [S1]; · iexact S1
    isplitl [S2]; · iexact S2
    isplitl [S6x]; · iexact S6x
    isplitl [S6y]; · iexact S6y
    isplitl [S7x]; · iexact S7x
    isplitl [S7y]; · iexact S7y
    isplitl [S8x]; · iexact S8x
    isplitl [S8y]; · iexact S8y
    isplitl [S12x]; · iexact S12x
    isplitl [S12y]; · iexact S12y
    isplitl [S13x]; · iexact S13x
    isplitl [S13y]; · iexact S13y
    isplitl [S14x]; · iexact S14x
    isplitl [S14y]; · iexact S14y
    isplitl [S15x]; · iexact S15x
    isplitl [S15y]; · iexact S15y
    isplitl [S16x]; · iexact S16x
    isplitl [S16y]; · iexact S16y
    isplitl [S17x]; · iexact S17x
    isplitl [S17y]; · iexact S17y
    iexact S24
  isplitl [T0x T0y T1x T1y T2x T2y HOsm]
  · isplitl [T0x]; · iexact T0x
    isplitl [T0y]; · iexact T0y
    isplitl [T1x]; · iexact T1x
    isplitl [T1y]; · iexact T1y
    isplitl [T2x]; · iexact T2x
    isplitl [T2y]; · iexact T2y
    iexact HOsm
  isplitl [S3 S4 S5 S21 T0z T1z T2z]
  · isplitl [S3]; · iexact S3
    isplitl [S4]; · iexact S4
    isplitl [S5]; · iexact S5
    isplitl [S21]; · iexact S21
    isplitl [T0z]; · iexact T0z
    isplitl [T1z]; · iexact T1z
    iexact T2z
  isplitl [S9x S10x S11x S22 S18y S19y S20y]
  · isplitl [S9x]; · iexact S9x
    isplitl [S10x]; · iexact S10x
    isplitl [S11x]; · iexact S11x
    isplitl [S22]; · iexact S22
    isplitl [S18y]; · iexact S18y
    isplitl [S19y]; · iexact S19y
    iexact S20y
  isplitl [S9y]; · iexact S9y
  isplitl [S10y]; · iexact S10y
  isplitl [S11y]; · iexact S11y
  isplitl [S18x]; · iexact S18x
  isplitl [S19x]; · iexact S19x
  isplitl [S20x]; · iexact S20x
  iexact S23

/-! ## After the body -/

theorem close_6 (c : Dev nD) (V₁ V₂) : iprop(hold cc0_scratch6 z0_S2x2x416x512.set fullShare V₁ c ∗ hold cc0_scratch6 z1_S2x2x416x512.set fullShare V₂ c) ⊢ (hole (F := F) cc0_scratch6 Finset.univ c : sProp 𝕄) :=
  hole_join (B := cc0_scratch6) cut_S2x2x416x512 dj_S2x2x416x512 V₁ V₂ c
theorem close_7 (c : Dev nD) (V₁ V₂) : iprop(hold cc0_scratch7 z0_S2x2x128x256.set fullShare V₁ c ∗ hold cc0_scratch7 z1_S2x2x128x256.set fullShare V₂ c) ⊢ (hole (F := F) cc0_scratch7 Finset.univ c : sProp 𝕄) :=
  hole_join (B := cc0_scratch7) cut_S2x2x128x256 dj_S2x2x128x256 V₁ V₂ c
theorem close_8 (c : Dev nD) (V₁ V₂) : iprop(hold cc0_scratch8 z0_S2x2x128x512.set fullShare V₁ c ∗ hold cc0_scratch8 z1_S2x2x128x512.set fullShare V₂ c) ⊢ (hole (F := F) cc0_scratch8 Finset.univ c : sProp 𝕄) :=
  hole_join (B := cc0_scratch8) cut_S2x2x128x512 dj_S2x2x128x512 V₁ V₂ c
theorem close_9 (c : Dev nD) (V₁ V₂) : iprop(hold cc0_scratch9 z0_S2x2x416x512.set fullShare V₁ c ∗ hold cc0_scratch9 z1_S2x2x416x512.set fullShare V₂ c) ⊢ (hole (F := F) cc0_scratch9 Finset.univ c : sProp 𝕄) :=
  hole_join (B := cc0_scratch9) cut_S2x2x416x512 dj_S2x2x416x512 V₁ V₂ c
theorem close_10 (c : Dev nD) (V₁ V₂) : iprop(hold cc0_scratch10 z0_S2x2x128x256.set fullShare V₁ c ∗ hold cc0_scratch10 z1_S2x2x128x256.set fullShare V₂ c) ⊢ (hole (F := F) cc0_scratch10 Finset.univ c : sProp 𝕄) :=
  hole_join (B := cc0_scratch10) cut_S2x2x128x256 dj_S2x2x128x256 V₁ V₂ c
theorem close_11 (c : Dev nD) (V₁ V₂) : iprop(hold cc0_scratch11 z0_S2x2x128x512.set fullShare V₁ c ∗ hold cc0_scratch11 z1_S2x2x128x512.set fullShare V₂ c) ⊢ (hole (F := F) cc0_scratch11 Finset.univ c : sProp 𝕄) :=
  hole_join (B := cc0_scratch11) cut_S2x2x128x512 dj_S2x2x128x512 V₁ V₂ c
theorem close_12 (c : Dev nD) (V₁ V₂) : iprop(hold cc0_scratch12 z0_S2x2x416x512.set fullShare V₁ c ∗ hold cc0_scratch12 z1_S2x2x416x512.set fullShare V₂ c) ⊢ (hole (F := F) cc0_scratch12 Finset.univ c : sProp 𝕄) :=
  hole_join (B := cc0_scratch12) cut_S2x2x416x512 dj_S2x2x416x512 V₁ V₂ c
theorem close_13 (c : Dev nD) (V₁ V₂) : iprop(hold cc0_scratch13 z0_S2x2x128x256.set fullShare V₁ c ∗ hold cc0_scratch13 z1_S2x2x128x256.set fullShare V₂ c) ⊢ (hole (F := F) cc0_scratch13 Finset.univ c : sProp 𝕄) :=
  hole_join (B := cc0_scratch13) cut_S2x2x128x256 dj_S2x2x128x256 V₁ V₂ c
theorem close_14 (c : Dev nD) (V₁ V₂) : iprop(hold cc0_scratch14 z0_S2x2x128x512.set fullShare V₁ c ∗ hold cc0_scratch14 z1_S2x2x128x512.set fullShare V₂ c) ⊢ (hole (F := F) cc0_scratch14 Finset.univ c : sProp 𝕄) :=
  hole_join (B := cc0_scratch14) cut_S2x2x128x512 dj_S2x2x128x512 V₁ V₂ c
theorem close_15 (c : Dev nD) (V₁ V₂) : iprop(hold cc0_scratch15 z0_S2x416x512.set fullShare V₁ c ∗ hold cc0_scratch15 z1_S2x416x512.set fullShare V₂ c) ⊢ (hole (F := F) cc0_scratch15 Finset.univ c : sProp 𝕄) :=
  hole_join (B := cc0_scratch15) cut_S2x416x512 dj_S2x416x512 V₁ V₂ c
theorem close_16 (c : Dev nD) (V₁ V₂) : iprop(hold cc0_scratch16 z0_S2x128x256.set fullShare V₁ c ∗ hold cc0_scratch16 z1_S2x128x256.set fullShare V₂ c) ⊢ (hole (F := F) cc0_scratch16 Finset.univ c : sProp 𝕄) :=
  hole_join (B := cc0_scratch16) cut_S2x128x256 dj_S2x128x256 V₁ V₂ c
theorem close_17 (c : Dev nD) (V₁ V₂) : iprop(hold cc0_scratch17 z0_S2x128x512.set fullShare V₁ c ∗ hold cc0_scratch17 z1_S2x128x512.set fullShare V₂ c) ⊢ (hole (F := F) cc0_scratch17 Finset.univ c : sProp 𝕄) :=
  hole_join (B := cc0_scratch17) cut_S2x128x512 dj_S2x128x512 V₁ V₂ c
theorem close_18 (c : Dev nD) (V₁ V₂) : iprop(hold cc0_scratch18 z0_S2x416x512.set fullShare V₁ c ∗ hold cc0_scratch18 z1_S2x416x512.set fullShare V₂ c) ⊢ (hole (F := F) cc0_scratch18 Finset.univ c : sProp 𝕄) :=
  hole_join (B := cc0_scratch18) cut_S2x416x512 dj_S2x416x512 V₁ V₂ c
theorem close_19 (c : Dev nD) (V₁ V₂) : iprop(hold cc0_scratch19 z0_S2x128x256.set fullShare V₁ c ∗ hold cc0_scratch19 z1_S2x128x256.set fullShare V₂ c) ⊢ (hole (F := F) cc0_scratch19 Finset.univ c : sProp 𝕄) :=
  hole_join (B := cc0_scratch19) cut_S2x128x256 dj_S2x128x256 V₁ V₂ c
theorem close_20 (c : Dev nD) (V₁ V₂) : iprop(hold cc0_scratch20 z0_S2x128x512.set fullShare V₁ c ∗ hold cc0_scratch20 z1_S2x128x512.set fullShare V₂ c) ⊢ (hole (F := F) cc0_scratch20 Finset.univ c : sProp 𝕄) :=
  hole_join (B := cc0_scratch20) cut_S2x128x512 dj_S2x128x512 V₁ V₂ c
/-- A device's own rows of a result and the other core's, joined. -/
theorem close_out0 (c : Dev nD) : iprop(hold cc0_stg1_0 (o29 c).set fullShare (om0 m c) c ∗ hold cc0_stg1_0 (o29 (sib c)).set fullShare (om0 m (sib c)) c)
    ⊢ (hold cc0_stg1_0 Finset.univ fullShare (ov0 m c) c : sProp 𝕄) :=
  hold_join (B := cc0_stg1_0) (cut_O0 c) (dj_O0 c)
    (fun i hi => by
      have h := (Rect.mem_set_unit.mp hi) 0
      have e := (show ∀ c : Dev nD, k0_off29 c 0 = c.val % 2 * 416 ∧ S416x1024.size 0 = 416 by decide) c
      unfold ov0; rw [if_pos (show ((i : S832x1024.Idx) 0).val / 416 = c.val % 2 by omega)])
    (fun i hi => by
      have h := (Rect.mem_set_unit.mp hi) 0
      have e := (show ∀ c : Dev nD, k0_off29 (sib c) 0 = (1 - c.val % 2) * 416 ∧ S416x1024.size 0 = 416 by decide) c
      unfold ov0; rw [if_neg (show ¬ ((i : S832x1024.Idx) 0).val / 416 = c.val % 2 by omega)]) c
/-- A device's own rows of a result and the other core's, joined. -/
theorem close_out1 (c : Dev nD) : iprop(hold cc0_stg2_0 (o34 c).set fullShare (om1 m c) c ∗ hold cc0_stg2_0 (o34 (sib c)).set fullShare (om1 m (sib c)) c)
    ⊢ (hold cc0_stg2_0 Finset.univ fullShare (ov1 m c) c : sProp 𝕄) :=
  hold_join (B := cc0_stg2_0) (cut_O1 c) (dj_O1 c)
    (fun i hi => by
      have h := (Rect.mem_set_unit.mp hi) 0
      have e := (show ∀ c : Dev nD, k0_off34 c 0 = c.val % 2 * 128 ∧ S128x512.size 0 = 128 by decide) c
      unfold ov1; rw [if_pos (show ((i : S256x512.Idx) 0).val / 128 = c.val % 2 by omega)])
    (fun i hi => by
      have h := (Rect.mem_set_unit.mp hi) 0
      have e := (show ∀ c : Dev nD, k0_off34 (sib c) 0 = (1 - c.val % 2) * 128 ∧ S128x512.size 0 = 128 by decide) c
      unfold ov1; rw [if_neg (show ¬ ((i : S256x512.Idx) 0).val / 128 = c.val % 2 by omega)]) c
/-- A device's own rows of a result and the other core's, joined. -/
theorem close_out2 (c : Dev nD) : iprop(hold cc0_stg3_0 (o39 c).set fullShare (om2 m c) c ∗ hold cc0_stg3_0 (o39 (sib c)).set fullShare (om2 m (sib c)) c)
    ⊢ (hold cc0_stg3_0 Finset.univ fullShare (ov2 m c) c : sProp 𝕄) :=
  hold_join (B := cc0_stg3_0) (cut_O2 c) (dj_O2 c)
    (fun i hi => by
      have h := (Rect.mem_set_unit.mp hi) 0
      have e := (show ∀ c : Dev nD, k0_off39 c 0 = c.val % 2 * 128 ∧ S128x1024.size 0 = 128 by decide) c
      unfold ov2; rw [if_pos (show ((i : S256x1024.Idx) 0).val / 128 = c.val % 2 by omega)])
    (fun i hi => by
      have h := (Rect.mem_set_unit.mp hi) 0
      have e := (show ∀ c : Dev nD, k0_off39 (sib c) 0 = (1 - c.val % 2) * 128 ∧ S128x1024.size 0 = 128 by decide) c
      unfold ov2; rw [if_neg (show ¬ ((i : S256x1024.Idx) 0).val / 128 = c.val % 2 by omega)]) c

theorem close_outs (c : Dev nD) : outsQ m c
    ⊢ (iprop(hold cc0_stg1_0 Finset.univ fullShare (ov0 m c) c ∗ hold cc0_stg2_0 Finset.univ fullShare (ov1 m c) c
      ∗ hold cc0_stg3_0 Finset.univ fullShare (ov2 m c) c ∗ hold cc0_stg4_0 Finset.univ fullShare (osmv m c) c) : sProp 𝕄) := by
  unfold outsQ
  iintro ⟨A0, B0, A1, B1, A2, B2, HO⟩
  isplitl [A0 B0]
  · iapply (close_out0 m c); isplitl [A0]; · iexact A0
    iexact B0
  isplitl [A1 B1]
  · iapply (close_out1 m c); isplitl [A1]; · iexact A1
    iexact B1
  isplitl [A2 B2]
  · iapply (close_out2 m c); isplitl [A2]; · iexact A2
    iexact B2
  iexact HO

theorem close_scratch (c : Dev nD) : scratchQ m c ⊢ (Pipeline.scopedRest cfg0.spec c : sProp 𝕄) := by
  rw [scopedRest0_eq]
  show _ ⊢ iprop(hole (F := F) cc0_scratch0 Finset.univ c ∗ hole (F := F) cc0_scratch1 Finset.univ c ∗ hole (F := F) cc0_scratch2 Finset.univ c ∗ hole (F := F) cc0_scratch3 Finset.univ c ∗ hole (F := F) cc0_scratch4 Finset.univ c ∗ hole (F := F) cc0_scratch5 Finset.univ c ∗ hole (F := F) cc0_scratch6 Finset.univ c ∗ hole (F := F) cc0_scratch7 Finset.univ c ∗ hole (F := F) cc0_scratch8 Finset.univ c ∗ hole (F := F) cc0_scratch9 Finset.univ c ∗ hole (F := F) cc0_scratch10 Finset.univ c ∗ hole (F := F) cc0_scratch11 Finset.univ c ∗ hole (F := F) cc0_scratch12 Finset.univ c ∗ hole (F := F) cc0_scratch13 Finset.univ c ∗ hole (F := F) cc0_scratch14 Finset.univ c ∗ hole (F := F) cc0_scratch15 Finset.univ c ∗ hole (F := F) cc0_scratch16 Finset.univ c ∗ hole (F := F) cc0_scratch17 Finset.univ c ∗ hole (F := F) cc0_scratch18 Finset.univ c ∗ hole (F := F) cc0_scratch19 Finset.univ c ∗ hole (F := F) cc0_scratch20 Finset.univ c ∗ hole (F := F) cc0_scratch21 Finset.univ c ∗ hole (F := F) cc0_scratch22 Finset.univ c ∗ hole (F := F) cc0_scratch23 Finset.univ c ∗ hole (F := F) cc0_scratch24 Finset.univ c)
  unfold scratchQ
  iintro ⟨Hacs, Hac00, Hac01, Hac10, Hac11, Hac20, Hac21, Hloc0, Hra0, Hloc1, Hra1, Hloc2, Hra2, Hsa, Hrb00, Hrb01, Hrb10, Hrb11, Hrb20, Hrb21, Hsb, Hrc00, Hrc01, Hrc10, Hrc11, Hrc20, Hrc21, Hsv, Hb00, Hb01, Hb10, Hb11, Hb20, Hb21, HacsL, Hsc00, Hsc01, Hsc10, Hsc11, Hsc20, Hsc21, HsbL⟩
  ihave H24 := (halves _ c).2 $$ [HacsL Hacs]
  · isplitl [HacsL]; · iexact HacsL
    iexact Hacs
  ihave H22 := (halves _ c).2 $$ [HsbL Hsb]
  · isplitl [HsbL]; · iexact HsbL
    iexact Hsb
  isplitl [Hloc0]; · (iapply (hole_of (F := F) (B := cc0_scratch0) _ c); iexact Hloc0)
  isplitl [Hloc1]; · (iapply (hole_of (F := F) (B := cc0_scratch1) _ c); iexact Hloc1)
  isplitl [Hloc2]; · (iapply (hole_of (F := F) (B := cc0_scratch2) _ c); iexact Hloc2)
  isplitl [Hra0]; · (iapply (hole_of (F := F) (B := cc0_scratch3) _ c); iexact Hra0)
  isplitl [Hra1]; · (iapply (hole_of (F := F) (B := cc0_scratch4) _ c); iexact Hra1)
  isplitl [Hra2]; · (iapply (hole_of (F := F) (B := cc0_scratch5) _ c); iexact Hra2)
  isplitl [Hb00 Hb01]
  · iapply (close_6 (F := F) c _ _)
    isplitl [Hb00]; · iexact Hb00
    iexact Hb01
  isplitl [Hb10 Hb11]
  · iapply (close_7 (F := F) c _ _)
    isplitl [Hb10]; · iexact Hb10
    iexact Hb11
  isplitl [Hb20 Hb21]
  · iapply (close_8 (F := F) c _ _)
    isplitl [Hb20]; · iexact Hb20
    iexact Hb21
  isplitl [Hrb00 Hrb01]
  · iapply (close_9 (F := F) c _ _)
    isplitl [Hrb00]; · iexact Hrb00
    iexact Hrb01
  isplitl [Hrb10 Hrb11]
  · iapply (close_10 (F := F) c _ _)
    isplitl [Hrb10]; · iexact Hrb10
    iexact Hrb11
  isplitl [Hrb20 Hrb21]
  · iapply (close_11 (F := F) c _ _)
    isplitl [Hrb20]; · iexact Hrb20
    iexact Hrb21
  isplitl [Hac00 Hac01]
  · iapply (close_12 (F := F) c _ _)
    isplitl [Hac00]; · iexact Hac00
    iexact Hac01
  isplitl [Hac10 Hac11]
  · iapply (close_13 (F := F) c _ _)
    isplitl [Hac10]; · iexact Hac10
    iexact Hac11
  isplitl [Hac20 Hac21]
  · iapply (close_14 (F := F) c _ _)
    isplitl [Hac20]; · iexact Hac20
    iexact Hac21
  isplitl [Hsc00 Hsc01]
  · iapply (close_15 (F := F) c _ _)
    isplitl [Hsc00]; · iexact Hsc00
    iexact Hsc01
  isplitl [Hsc10 Hsc11]
  · iapply (close_16 (F := F) c _ _)
    isplitl [Hsc10]; · iexact Hsc10
    iexact Hsc11
  isplitl [Hsc20 Hsc21]
  · iapply (close_17 (F := F) c _ _)
    isplitl [Hsc20]; · iexact Hsc20
    iexact Hsc21
  isplitl [Hrc00 Hrc01]
  · iapply (close_18 (F := F) c _ _)
    isplitl [Hrc00]; · iexact Hrc00
    iexact Hrc01
  isplitl [Hrc10 Hrc11]
  · iapply (close_19 (F := F) c _ _)
    isplitl [Hrc10]; · iexact Hrc10
    iexact Hrc11
  isplitl [Hrc20 Hrc21]
  · iapply (close_20 (F := F) c _ _)
    isplitl [Hrc20]; · iexact Hrc20
    iexact Hrc21
  isplitl [Hsa]; · (iapply (hole_of (F := F) (B := cc0_scratch21) _ c); iexact Hsa)
  isplitl [H22]; · (iapply (hole_of (F := F) (B := cc0_scratch22) _ c); iexact H22)
  isplitl [Hsv]; · (iapply (hole_of (F := F) (B := cc0_scratch23) _ c); iexact Hsv)
  iapply (hole_of (F := F) (B := cc0_scratch24) _ c); iexact H24

/-! ## The gradients in main memory -/

def gradsW (c : Dev nD) : sProp 𝕄 :=
  iprop(hold main_arg0 Finset.univ fullShare (gv0 m c) c ∗ hold main_arg1 Finset.univ fullShare (gv1 m c) c ∗ hold main_arg2 Finset.univ fullShare (gv2 m c) c)

theorem grads_cut (c : Dev nD) : (gradsW m c : sProp 𝕄) ⊣⊢ gradsP m c := by
  unfold gradsW gradsP
  exact sep_congr (hold_cut (B := main_arg0) (cut_G0 c) (dj_G0 c) _ _ c)
    (sep_congr (hold_cut (B := main_arg1) (cut_G1 c) (dj_G1 c) _ _ c) (hold_cut (B := main_arg2) (cut_G2 c) (dj_G2 c) _ _ c))

end Cert.ReduceProof

end
-- ==== Proof.Reduce.Launch.lean ====
/-
The launch of the reduce-scatter: the cells and tokens dealt to the devices, and the run of the whole program.
-/
module

public import proofs.«01_k».proof.Proof.Reduce.Ends
public import Idealize.ShloMosaic.Lib.Pipeline.CollectiveSegs
public import Idealize.ShloMosaic.Lib.Pipeline.Kit

@[expose] public section

noncomputable section

namespace Cert.ReduceProof

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-! ## Sums over the cells -/

variable (ρ : Dev nD → PrngReg)

/-- The launch's state. -/
abbrev s₀ : MemSt nD τ sig (Elt F) := ⟨m, fun _ => 0, ρ⟩

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
omit [FloatOps F] in
/-- The kernel's own semaphores: the send cells, the receive cells, the local copies'. -/
theorem bigSep_own (Φ : OIx → sProp 𝕄) : bigSep Finset.univ Φ
    = iprop((bigSep Finset.univ fun k => Φ (.inl k)) ∗ (bigSep Finset.univ fun k => Φ (.inr (.inl k))) ∗ bigSep Finset.univ fun a => Φ (.inr (.inr a))) := by
  rw [bigSep_univ_sum, bigSep_univ_sum]
  rfl
omit [FloatOps F] in
/-- The handshake's cell, then the kernel's own. -/
theorem bigSep_cix (Φ : CIx → sProp 𝕄) : bigSep Finset.univ Φ = iprop(Φ none ∗ bigSep Finset.univ fun k => Φ (some k)) := by
  rw [bigSep_univ_at Φ none, show (Finset.univ : Finset CIx).erase none = Finset.univ.map Function.Embedding.some from by
    ext x; cases x <;> simp, bigSep_map]
  rfl

omit [FloatOps F] in
theorem bigSep_comm {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` holds of the protocol before its body. -/
def ghost (K : Dev nD × CIx → ℕ) (c : Dev nD) : sProp 𝕄 :=
  iprop(recs m K ∗ (dutyTok ER (barCell (sib c)) 0 0 ∗ dutyTok ER (barCell (xn c)) 0 1 ∗ dutyTok ER (barCell (yn c)) 0 2)
    ∗ atPos ER (barCell c) 0 ∅ 0 ∗ (bigSep Finset.univ fun k : Fin 21 => SK k c) ∗ (bigSep Finset.univ fun k : Fin 21 => atPos ER (recvCell c k) 0 ∅ 0)
    ∗ bigSep Finset.univ fun a : Fin 3 => LK a c)

def start (c : Dev nD) : sProp 𝕄 :=
  iprop((∃ K, ghost m K c) ∗ cred (tallyAt (barCell c) () 3) ∗ (bigSep Finset.univ fun k : Fin 21 => cred (tallyAt (recvCell c k) () (amt k))) ∗ levAts L lv ∗ gradsW m c)

/-- After the body every cell is closed, the scratch is given back and the gradients in main memory are as they were. -/
def Φ₁ (c : Dev nD) : sProp 𝕄 :=
  iprop(semVal (barCell c) 0 ∗ closedP (F := F) c ∗ gradsW m c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => smv m c
    | ⟨1, _⟩ => ov0 m c
    | ⟨2, _⟩ => ov1 m c
    | ⟨3, _⟩ => ov2 m c
    | ⟨4, _⟩ => osmv m c
  Φ t := match t with
    | ⟨0, _⟩ => iprop(start m c ∗ Pipeline.scopedRest cfg0.spec c)
    | ⟨_ + 1, _⟩ => Φ₁ (F := F) m c
  q _ := fullShare
  owed t := match t with
    | ⟨0, _⟩ => O₀ c
    | ⟨_ + 1, _⟩ => 0

omit [FloatOps F] in
theorem bigSep_W (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

theorem before_0 (c : Dev nD) (d) : (dats m ρ 0 c).before (0 : Fin 5) t₀ d = smv m c := by
  unfold Dat.before; rw [if_pos (show (cfg0.win (0 : Fin 5)).fetch t₀ = true from rfl)]; rfl

def bodyPre (c : Dev nD) : sProp 𝕄 :=
  iprop((start m c ∗ Pipeline.scopedRest cfg0.spec c) ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) m c ∗ (dats m ρ 0 c).owesAt () t₀.succ ∗ stg c cc0_stg0_0 (smv m c)
    ∗ stg c cc0_stg1_0 (ov0 m c) ∗ stg c cc0_stg2_0 (ov1 m c) ∗ stg c cc0_stg3_0 (ov2 m c) ∗ stg c cc0_stg4_0 (osmv m c))

omit [FloatOps F] in
theorem waits_eq (c : Dev nD) :
    iprop((bigSep Finset.univ fun k : Fin 21 => atPos ER (recvCell c k) 0 ∅ 0) ∗ (bigSep Finset.univ fun k : Fin 21 => cred (tallyAt (recvCell c k) () (amt k))))
      = waitsP (F := F) c := by
  rw [← bigSep_sep', bigSep_fin21]; rfl
omit [FloatOps F] in
theorem duties_eq (c : Dev nD) : (bigSep Finset.univ fun k : Fin 21 => SK (F := F) k c) = dutiesP (F := F) c := bigSep_fin21 _
omit [FloatOps F] in
theorem locs_eq (c : Dev nD) : (bigSep Finset.univ fun a : Fin 3 => LK (F := F) a c) = locsP (F := F) c := bigSep_fin3 _
omit [FloatOps F] in
theorem closed_eq (c : Dev nD) : closedP (F := F) c
      = iprop((bigSep Finset.univ fun k : Fin 21 => ZS (F := F) k c) ∗ (bigSep Finset.univ fun k : Fin 21 => ZR (F := F) k c) ∗ bigSep Finset.univ fun a : Fin 3 => ZL (F := F) a c) := by
  rw [bigSep_fin21, bigSep_fin21, bigSep_fin3]; rfl

theorem body_obligation' (c : Dev nD) :
    bodyPre m ρ c ⊢ wp frame (wpE (defs₀ (F := F)) 𝒱₀ (c : Thread nD τ) none) Set.univ
      (cc0_reduce_grads (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27) (fun _ => bodyPost m ρ c) := by
  unfold bodyPre start ghost
  iintro ⟨⟨⟨⟨%K, #HK, Ht, Hba, HS, HR, HLoc⟩, Hbc, HC, #HL, HG⟩, Hsr⟩, Ho, ⟨%d0, %g0, %hg0, Hx0⟩, ⟨%d1, %g1, %hg1, H1⟩, ⟨%d2, %g2, %hg2, H2⟩, ⟨%d3, %g3, %hg3, H3⟩, ⟨%d4, %g4, %hg4, H4⟩⟩
  rw [before_0] at hg0; subst hg0
  unfold Dat.owesAt Pipeline.owesWithin
  icases Ho with ⟨%W, %hW, HO⟩
  rw [show (dats m ρ 0 c).owed t₀.castSucc = O₀ c from rfl]
  ihave Hall := (open_all (F := F) c) $$ [Hsr H1 H2 H3 H4]
  · isplitl [Hsr]; · iexact Hsr
    isplitl [H1]; · (iapply (hole_of (F := F) (B := cc0_stg1_0) g1 c); iexact H1)
    isplitl [H2]; · (iapply (hole_of (F := F) (B := cc0_stg2_0) g2 c); iexact H2)
    isplitl [H3]; · (iapply (hole_of (F := F) (B := cc0_stg3_0) g3 c); iexact H3)
    iapply (hole_of (F := F) (B := cc0_stg4_0) g4 c); iexact H4
  icases Hall with ⟨Hsc, Hou, Hin⟩
  ihave HS := (Entails.of_eq (duties_eq (F := F) c)) $$ HS
  ihave HLoc := (Entails.of_eq (locs_eq (F := F) c)) $$ HLoc
  ihave HW := (Entails.of_eq (waits_eq (F := F) c)) $$ [HR HC]
  · isplitl [HR]; · iexact HR
    iexact HC
  ihave HG := (grads_cut m c).1 $$ HG
  iapply (body m K c W _)
  isplitr; · iexact HK
  isplitr; · iexact HL
  isplitl [HO]; · iexact HO
  isplitl [Ht]; · iexact Ht
  isplitl [Hin]; · iexact Hin
  isplitl [Hbc Hba]
  · isplitl [Hbc]; · iexact Hbc
    iexact Hba
  isplitl [HG]; · iexact HG
  isplitl [Hx0]; · iexact Hx0
  isplitl [Hsc]; · iexact Hsc
  isplitl [Hou]; · iexact Hou
  isplitl [HS]; · iexact HS
  isplitl [HW]; · iexact HW
  isplitl [HLoc]; · iexact HLoc
  iintro ⟨HG, Hx0, Hsc, Hou, Hz, Hcl, HO⟩
  ihave Hou := (close_outs m c) $$ Hou
  icases Hou with ⟨H1, H2, H3, H4⟩
  unfold bodyPost Φ₁ Dat.owesAt Pipeline.owesWithin OW
  rw [show (dats m ρ 0 c).owed t₀.succ = 0 from rfl]
  isplitl [Hz Hcl HG Hsc]
  · isplitl [Hz]; · iexact Hz
    isplitl [Hcl]; · iexact Hcl
    isplitl [HG]; · (iapply (grads_cut m c).2; iexact HG)
    iapply (close_scratch m c); iexact Hsc
  isplitl [HO]
  · icases HO with ⟨%W', HO⟩
    iexists W'
    isplitr; · ipureintro; exact fun _ _ => Or.inl trivial
    iexact HO
  isplitl [Hx0]
  · iexists _; isplitr; · (ipureintro; rfl)
    iexact Hx0
  isplitl [H1]
  · iexists (ov0 m c); isplitr; · (ipureintro; rfl)
    iexact H1
  isplitl [H2]
  · iexists (ov1 m c); isplitr; · (ipureintro; rfl)
    iexact H2
  isplitl [H3]
  · iexists (ov2 m c); isplitr; · (ipureintro; rfl)
    iexact H3
  iexists (osmv m c); isplitr; · (ipureintro; rfl)
  iexact H4

set_option maxRecDepth 65536 in
set_option maxHeartbeats 1000000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_obligation' m ρ c

/-! ## The launch -/

theorem osem_eq (x : OIx) : ∃ q : DmaSem sig, osem x = .dma q ∧ sideOf q = some x := by
  rcases x with k | k | a
  · exact ⟨_, rfl, sideOf_send k⟩
  · exact ⟨_, rfl, sideOf_recv k⟩
  · exact ⟨_, rfl, sideOf_loc a⟩
theorem stage_side (w : Fin cfg0.W) (s : Fin (cfg0.spec w).nbuf) : sideOf ((cfg0.spec w).sem s) = none := by
  fin_cases w <;> fin_cases s <;> decide
theorem ownSemFacts : Pipeline.OwnSemFacts cfg0.spec osem where
  isScoped := by rintro (k | k | k) <;> revert k <;> decide
  inj := fun x y h => by
    obtain ⟨q, hq, hx⟩ := osem_eq x
    obtain ⟨q', hq', hy⟩ := osem_eq y
    have e : q = q' := SemLoc.dma.inj (hq.symm.trans (h.trans hq'))
    exact Option.some.inj (hx.symm.trans ((congrArg sideOf e).trans hy))
  disj := fun x w s h => by
    obtain ⟨q, hq, hx⟩ := osem_eq x
    have e : q = (cfg0.spec w).sem s := SemLoc.dma.inj (hq.symm.trans h)
    rw [e, stage_side w s] at hx
    cases hx

theorem share_eq (c : Dev nD) (w : Fin cfg0.W) : (dats m ρ 0 c).share w = fullShare := by unfold Dat.share; split <;> rfl

theorem csem_injective : Function.Injective csem := by
  rintro (_ | x) (_ | y) h
  · rfl
  · rcases y with k | k | k <;> cases h
  · rcases x with k | k | k <;> cases h
  · exact congrArg some (ownSemFacts.inj h)
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl
def allCells : Finset (GSem nD τ sig) := Finset.univ.map ⟨kcell, kcell_injective⟩

/-- Every duty's token, of every cell (more than the protocol uses). -/
abbrev tokOf (x : Dev nD × CIx × Fin 3) : GSem nD τ sig × ℕ × Fin 3 := (kcell (x.1, x.2.1), 0, x.2.2)
theorem tokOf_injective : Function.Injective (tokOf : Dev nD × CIx × Fin 3 → GSem nD τ sig × ℕ × Fin 3) := by
  rintro ⟨c, k, d⟩ ⟨c', k', d'⟩ h
  have h1 : (c, k) = (c', k') := kcell_injective (congrArg Prod.fst h)
  have h2 : d = d' := congrArg (fun x : GSem nD τ sig × ℕ × Fin 3 => x.2.2) h
  cases h1; subst h2; rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun k : CIx => bigSep Finset.univ fun d : Fin 3 => dutyTok ER (kcell (c, k)) 0 d

def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks (F := F) c)
def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 21 => ZS (F := F) k c) ∗ (bigSep Finset.univ fun k : Fin 21 => ZR (F := F) k c) ∗ bigSep Finset.univ fun a : Fin 3 => ZL (F := F) a c) := by
  unfold Pipeline.ownSems0; rw [bigSep_own]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_cix]; unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of a device's cells that the protocol uses. -/
def used (c : Dev nD) : sProp 𝕄 :=
  iprop((dutyTok ER (barCell c) 0 0 ∗ dutyTok ER (barCell c) 0 1 ∗ dutyTok ER (barCell c) 0 2)
    ∗ (bigSep Finset.univ fun k : Fin 21 => dutyTok ER (sendCell c k) 0 0) ∗ (bigSep Finset.univ fun k : Fin 21 => dutyTok ER (recvCell c k) 0 0)
    ∗ bigSep Finset.univ fun a : Fin 3 => dutyTok ER (locCell c a) 0 0)
/-- The tokens of the duties a device pays. -/
def payToks (c : Dev nD) : sProp 𝕄 :=
  iprop((dutyTok ER (barCell (sib c)) 0 0 ∗ dutyTok ER (barCell (xn c)) 0 1 ∗ dutyTok ER (barCell (yn c)) 0 2)
    ∗ (bigSep Finset.univ fun k : Fin 21 => dutyTok ER (sendCell c k) 0 0) ∗ (bigSep Finset.univ fun k : Fin 21 => dutyTok ER (recvCell (peer k c) k) 0 0)
    ∗ bigSep Finset.univ fun a : Fin 3 => dutyTok ER (locCell c a) 0 0)

omit [FloatOps F] in
theorem toks_used (c : Dev nD) : toks (F := F) c ⊢ used c := by
  unfold toks used
  rw [bigSep_cix, bigSep_own, bigSep_fin3]
  refine BI.sep_mono (BI.Entails.refl _) (BI.sep_mono ?_ (BI.sep_mono ?_ ?_))
  · exact bigSep_mono fun k _ => bigSep_elim (Finset.mem_univ (0 : Fin 3))
  · exact bigSep_mono fun k _ => bigSep_elim (Finset.mem_univ (0 : Fin 3))
  · exact bigSep_mono fun k _ => bigSep_elim (Finset.mem_univ (0 : Fin 3))

/-- A neighbour's relation as a permutation of the devices. -/
def invol (f : Dev nD → Dev nD) (h : ∀ c, f (f c) = c) : Dev nD ≃ Dev nD := ⟨f, f, h, h⟩

omit [FloatOps F] in
theorem toks_around : (bigSep Finset.univ fun c : Dev nD => (used c : sProp 𝕄)) ⊢ bigSep Finset.univ fun c : Dev nD => payToks c := by
  have hR : (bigSep Finset.univ fun c : Dev nD => bigSep Finset.univ fun k : Fin 21 => (dutyTok ER (recvCell c k) 0 0 : sProp 𝕄))
      = bigSep Finset.univ fun c : Dev nD => bigSep Finset.univ fun k : Fin 21 => (dutyTok ER (recvCell (peer k c) k) 0 0 : sProp 𝕄) := by
    rw [bigSep_comm, bigSep_comm (fun (c : Dev nD) (k : Fin 21) => (dutyTok ER (recvCell (peer k c) k) 0 0 : sProp 𝕄))]
    exact bigSep_congr fun k _ => bigSep_univ_equiv (invol (peer k) (peer_peer k)) (fun c : Dev nD => (dutyTok ER (recvCell c k) 0 0 : sProp 𝕄))
  unfold used payToks
  simp only [bigSep_sep']
  rw [hR, bigSep_univ_equiv (invol sib sib_sib) (fun c : Dev nD => (dutyTok ER (barCell c) 0 0 : sProp 𝕄)),
    bigSep_univ_equiv (invol xn xn_xn) (fun c : Dev nD => (dutyTok ER (barCell c) 0 1 : sProp 𝕄)),
    bigSep_univ_equiv (invol yn yn_yn) (fun c : Dev nD => (dutyTok ER (barCell c) 0 2 : sProp 𝕄))]
  exact BI.Entails.refl _

def linear (c : Dev nD) : sProp 𝕄 := iprop((bigSep Finset.univ fun k : CIx => atPos ER (kcell (c, k)) 0 ∅ 0) ∗ payToks (F := F) c)

theorem ghost_intro (K : Dev nD × CIx → ℕ) (c : Dev nD) : iprop(recs m K ∗ linear (F := F) c) ⊢ G' m c := by
  unfold linear payToks G' ghost SK LK
  rw [bigSep_cix, bigSep_own]
  simp only [bigSep_sep']
  iintro ⟨#HR, ⟨HaB, HaS, HaV, HaL⟩, HtB, HtS, HtV, HtL⟩
  iexists K
  isplitr; · iexact HR
  isplitl [HtB]; · iexact HtB
  isplitl [HaB]; · iexact HaB
  isplitl [HtS HtV HaS]
  · isplitl [HtS]; · iexact HtS
    isplitl [HtV]; · iexact HtV
    iexact HaS
  isplitl [HaV]; · iexact HaV
  isplitl [HtL]; · iexact HtL
  iexact HaL

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (show (bigSep Finset.univ fun c : Dev nD => (toks c : sProp 𝕄)) ⊢ bigSep Finset.univ fun c : Dev nD => payToks c from
    (bigSep_mono fun c _ => toks_used (F := F) c).trans (toks_around (F := F))) $$ Htok
  iapply (bigSep_with_persistent (R := recs m K) fun c _ => ghost_intro m K c)
  isplitr
  · unfold recs
    rw [bigSep_sep']
    isplitl; · iexact HI
    iexact HR
  · iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

theorem glob_step : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- A unit owed to every device's cell by one device each is that cell's credit at the launch. -/
theorem launch_one (f : Dev nD → Dev nD) (h : ∀ c, f (f c) = c) (sm : SemLoc sig) (n : ℕ) (c : Dev nD) :
    (Pipeline.launchCred (fun d => tallyAt ((f d : Thread nD τ), sm) () n) c : sProp 𝕄) ⊢ cred (tallyAt ((c : Thread nD τ), sm) () n) := by
  refine (Pipeline.launchCred_elim _ c sm).trans (Entails.of_eq (congrArg cred ?_))
  unfold tallyAt; refine congrArg _ (Finsupp.ext fun u => ?_); cases u
  rw [Pipeline.launchCredit_owing, Finsupp.single_eq_same, Finset.sum_eq_single (f c)]
  · show tallyAt ((f (f c) : Thread nD τ), sm) () n ((c : Thread nD τ), sm) () = n
    rw [h, tallyAt_apply, if_pos ⟨rfl, rfl⟩]
  · intro d _ hd
    show tallyAt ((f d : Thread nD τ), sm) () n ((c : Thread nD τ), sm) () = 0
    rw [tallyAt_apply, if_neg]
    rintro ⟨e, -⟩
    have e' : c = f d := congrArg (fun g : GSem nD τ sig => g.1.1) e
    exact hd (by rw [e', h])
  · intro hn; exact absurd (Finset.mem_univ _) hn

omit [FloatOps F] in
theorem launch_owe (c : Dev nD) : ∀ l : List (Fin 21), l.Nodup →
    ((Pipeline.launchCred (fun d => owe d l) c : sProp 𝕄) ⊢ bigSep l.toFinset fun k : Fin 21 => cred (tallyAt (recvCell c k) () (amt k)))
  | [], _ => by rw [List.toFinset_nil, bigSep_empty]; iintro -; iempintro
  | k :: l, hl => by
    rw [List.toFinset_cons, show (bigSep (insert k l.toFinset) fun k : Fin 21 => (cred (tallyAt (recvCell c k) () (amt k)) : sProp 𝕄))
        = iprop(cred (tallyAt (recvCell c k) () (amt k)) ∗ bigSep l.toFinset fun k : Fin 21 => cred (tallyAt (recvCell c k) () (amt k)))
      from bigSep_insert (by rw [List.mem_toFinset]; exact (List.nodup_cons.mp hl).1)]
    show (Pipeline.launchCred (fun d => owe d l + tallyAt (recvCell (peer k d) k) () (amt k)) c : sProp 𝕄) ⊢ _
    rw [Pipeline.launchCred_add (fun d => owe d l)]
    iintro ⟨H1, H2⟩
    isplitl [H2]
    · iapply (launch_one (F := F) (peer k) (peer_peer k) (.dma (recvS k)) (amt k) c); iexact H2
    · iapply (launch_owe c l (List.nodup_cons.mp hl).2); iexact H1

omit [FloatOps F] in
theorem creds (c : Dev nD) :
    (Pipeline.launchCred O₀ c : sProp 𝕄)
      ⊢ iprop(cred (tallyAt (barCell c) () 3) ∗ bigSep Finset.univ fun k : Fin 21 => cred (tallyAt (recvCell c k) () (amt k))) := by
  show (Pipeline.launchCred (fun d => O₁ d + tallyAt (barCell (sib d)) () 1) c : sProp 𝕄) ⊢ _
  rw [Pipeline.launchCred_add O₁]
  show iprop(Pipeline.launchCred (fun d => O₂ d + tallyAt (barCell (xn d)) () 1) c ∗ _) ⊢ _
  rw [Pipeline.launchCred_add O₂]
  show iprop((Pipeline.launchCred (fun d => owe d allK + tallyAt (barCell (yn d)) () 1) c ∗ _) ∗ _) ⊢ _
  rw [Pipeline.launchCred_add (fun d => owe d allK)]
  iintro ⟨⟨⟨HK, Hy⟩, Hx⟩, Hs⟩
  ihave Hy := (launch_one (F := F) yn yn_yn (.reg barS) 1 c) $$ Hy
  ihave Hx := (launch_one (F := F) xn xn_xn (.reg barS) 1 c) $$ Hx
  ihave Hs := (launch_one (F := F) sib sib_sib (.reg barS) 1 c) $$ Hs
  ihave HK := (launch_owe (F := F) c allK (by decide)) $$ HK
  isplitl [Hy Hx Hs]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [Hy]; · iexact Hy
    iapply (cred_add _ _).2
    isplitl [Hx]; · iexact Hx
    iexact Hs
  · rw [show (Finset.univ : Finset (Fin 21)) = allK.toFinset by decide]
    iexact HK

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  icases Hc with ⟨H1, HN⟩
  imodintro
  unfold start G' gradsW
  isplitl
  · isplitl [HG]; · iexact HG
    isplitl [H1]; · iexact H1
    isplitl [HN]; · iexact HN
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Pipeline.scopedRest cfg0.spec c) from rfl]
  iintro ⟨Hs, -, Hr⟩
  isplitl [Hs]; · iexact Hs
  iexact Hr

theorem phi1_exit (c : Dev nD) :
    (dats m ρ 0 c).Φ (Fin.last cfg0.N) ⊢ iprop((unscopedSems0 c ∗ gradsW m c) ∗ Pipeline.ownSems0 osem c ∗ Pipeline.scopedRest cfg0.spec c) := by
  rw [show (dats m ρ 0 c).Φ (Fin.last cfg0.N) = Φ₁ (F := F) m c from rfl, ownSems0_eq, unscopedSems0_eq]
  unfold Φ₁; rw [closed_eq]
  iintro ⟨HzB, Hz, HG, Hr⟩
  isplitl [HzB HG]
  · isplitl [HzB]; · iexact HzB
    iexact HG
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

/-- The gradients in main memory are as they were. -/
def kept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem grads_read (c : Dev nD) (s' : Phys nD τ sig (Elt F)) : iprop(gradsW m c ∗ SI s') ⊢ (iprop(⌜kept m s'.mem c⌝ ∗ SI s') : sProp 𝕄) := by
  unfold gradsW gv0 gv1 gv2
  iintro ⟨⟨H0, H1, H2⟩, HSI⟩
  icombine HSI H0 gives %h0
  icombine HSI H1 gives %h1
  icombine HSI H2 gives %h2
  isplitr; · ipureintro; exact ⟨Buf.eq_of_forall_mem_univ h0, Buf.eq_of_forall_mem_univ h1, Buf.eq_of_forall_mem_univ h2⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ kept m r.2 c

set_option maxRecDepth 8000 in
/-- For any float values, from any memory: every weakly fair execution ends, with every device's arrays at the computed
    contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob_step m)
    (hA := fun _ _ => rfl) (hpf := fun _ k => k.elim0)
    (X := start m) (Y := fun c => iprop(unscopedSems0 c ∗ gradsW m c)) (Z := fun _ => iprop(emp))
    (hX := start_intro m ρ) (hin := phi0_intro m ρ) (hout := phi1_exit m ρ)
    (QY := fun c s => kept m s c ∧ ∀ sm : SemLoc sig, sm.isScoped .tc = false → s.sem ((c.tc : Thread nD τ), sm) = 0)
    (hY := fun c s' => by
      iintro ⟨⟨Hu, HG⟩, -, HSI⟩
      ihave HSI := (grads_read m c s') $$ [HG HSI]
      · isplitl [HG] <;> iassumption
      icases HSI with ⟨%hk, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hk, hz⟩
      iexact HSI)
    (hQ := fun _ h hs => ⟨fun c => ⟨fun w => (h c).1 w, (h c).2.2.1⟩, sem_eq_zero hs fun c => (h c).2.2.2⟩)

end Cert.ReduceProof

end
-- ==== Proof.Reduce.Sums.lean ====
/-
  The reduce-scatter over the reals, element by element: each stage's contents from the stage before, and at the end the
  sum of the eight devices' gradients. Row (x, y, k, R) of a gradient is row R of core k's half of chip (x, y)'s rows.
-/
module

public import proofs.«01_k».proof.Proof.Reduce.Vals
public import Idealize.ShloMosaic.Lib.Pointwise
public import Idealize.ShloMosaic.PureOps.Ideal

@[expose] public section

noncomputable section

namespace Cert.ReduceProof

open Cert.ReduceIdeal Cert.ReduceIdeal.Gen
open Idealize.ShloMosaic
open Idealize.ShloMosaic.TcCoe

/-! ## Places -/

/-- A device's coordinates in the mesh, and the other value of a coordinate. -/
def xc (c : Dev nD) : Fin 2 := ⟨c.val / 4, by have h : c.val < 8 := c.isLt; omega⟩
def yc (c : Dev nD) : Fin 2 := ⟨c.val / 2 % 2, Nat.mod_lt _ (by decide)⟩
def kc (c : Dev nD) : Fin 2 := ⟨c.val % 2, Nat.mod_lt _ (by decide)⟩
def flip (a : Fin 2) : Fin 2 := ⟨1 - a.val, by omega⟩

theorem flip_xn : ∀ c, flip (xc (xn c)) = xc c := by decide
theorem flip_yn : ∀ c, flip (yc (yn c)) = yc c := by decide
theorem x_yn : ∀ c, xc (yn c) = xc c := by decide
theorem y_xn : ∀ c, yc (xn c) = yc c := by decide
theorem k_xn : ∀ c, kc (xn c) = kc c := by decide
theorem k_yn : ∀ c, kc (yn c) = kc c := by decide
theorem flip_k_sib : ∀ c, flip (kc (sib c)) = kc c := by decide
theorem x_sib : ∀ c, xc (sib c) = xc c := by decide
theorem y_sib : ∀ c, yc (sib c) = yc c := by decide
theorem k_sib : ∀ c, kc (sib c) = flip (kc c) := by decide
theorem yn_xn : ∀ c, yn (xn c) = xn (yn c) := by decide

/-- A column of the left half and of the right half, and a row of core `k`'s half. -/
def lo {h w : ℕ} (e : w = h + h) (C : Fin h) : Fin w := ⟨C.val, by omega⟩
def hi {h w : ℕ} (e : w = h + h) (C : Fin h) : Fin w := ⟨h + C.val, by omega⟩
def row {r n : ℕ} (e : n = r + r) (k : Fin 2) (R : Fin r) : Fin n :=
  ⟨k.val * r + R.val, by have := k.isLt; have h : k.val * r ≤ 1 * r := Nat.mul_le_mul_right r (by omega); omega⟩

theorem put_at {s : Shape} {α : Type} (R : Rect s) (hp : ∀ a, 0 < R.size a) (w : R.shape.Idx → α)
    (i : s.Idx) (k : R.shape.Idx) (h : ∀ a, (i a).val = R.off a + (k a).val) : put R hp w i = w k := by
  unfold put
  congr 1; funext a; apply Fin.ext
  show ((i a).val - R.off a) % R.size a = (k a).val
  rw [h a, Nat.add_sub_cancel_left]
  exact Nat.mod_eq_of_lt (k a).isLt

theorem rd_at {F : FTy → Type} (B : Ref sig .tc) (R : Rect B.ty.shape) (h1 : ∀ a, R.stride a = 1)
    (V : B.ty.Contents (Elt F)) (k : R.shape.Idx) (j : B.ty.shape.Idx)
    (h : ∀ a, (j a).val = R.off a + (k a).val) : rd B R V k = V j := by
  show V (R.emb k) = V j
  congr 1; funext a; apply Fin.ext
  show R.off a + R.stride a * (k a).val = (j a).val
  rw [h a, h1 a, Nat.one_mul]

/-- A buffer's element, as a real. -/
abbrev at_ (s : Shape) (V : s.Idx → EReal) (i : s.Idx) : EReal := V i

theorem drop2 {r w : ℕ} {α : Type} (v : (⟨5, ![2, 2, 1, r, w]⟩ : Shape).Idx → α)
    (h : (⟨5, ![2, 2, 1, r, w]⟩ : Shape).ShapeCasts ⟨4, ![2, 2, r, w]⟩) (X Y : Fin 2) (R : Fin r) (C : Fin w) :
    shapeCast ⟨4, ![2, 2, r, w]⟩ v h (ix4 X Y R C) = v (ix5 X Y 0 R C) := by
  refine Idealize.ShloMosaic.shapeCast_apply _ _ _ _ ?_
  rw [Shape.rowMajor_val_five, Shape.rowMajor_val_four]
  show ((((X.val * 2 + Y.val) * 1 + 0) * r + R.val) * w + C.val) = (((X.val * 2 + Y.val) * r + R.val) * w + C.val)
  rw [Nat.mul_one, Nat.add_zero]

/-- The order the eight devices' gradients are added in, from any device, is of no consequence. -/
theorem sum_eight {M : Type} [AddCommMonoid M] (f : Dev nD → M) (c : Dev nD) :
    ((f c + f (sib c)) + (f (xn c) + f (sib (xn c)))) + ((f (yn c) + f (sib (yn c))) + (f (xn (yn c)) + f (sib (xn (yn c)))))
      = ∑ d : Fin 8, f d := by
  rw [Fin.sum_univ_eight]
  fin_cases c
  · show ((f 0 + f 1) + (f 4 + f 5)) + ((f 2 + f 3) + (f 6 + f 7)) = _
    simp only [add_comm, add_left_comm, add_assoc]
  · show ((f 1 + f 0) + (f 5 + f 4)) + ((f 3 + f 2) + (f 7 + f 6)) = _
    simp only [add_comm, add_left_comm, add_assoc]
  · show ((f 2 + f 3) + (f 6 + f 7)) + ((f 0 + f 1) + (f 4 + f 5)) = _
    simp only [add_comm, add_left_comm, add_assoc]
  · show ((f 3 + f 2) + (f 7 + f 6)) + ((f 1 + f 0) + (f 5 + f 4)) = _
    simp only [add_comm, add_left_comm, add_assoc]
  · show ((f 4 + f 5) + (f 0 + f 1)) + ((f 6 + f 7) + (f 2 + f 3)) = _
    simp only [add_comm, add_left_comm, add_assoc]
  · show ((f 5 + f 4) + (f 1 + f 0)) + ((f 7 + f 6) + (f 3 + f 2)) = _
    simp only [add_comm, add_left_comm, add_assoc]
  · show ((f 6 + f 7) + (f 2 + f 3)) + ((f 4 + f 5) + (f 0 + f 1)) = _
    simp only [add_comm, add_left_comm, add_assoc]
  · show ((f 7 + f 6) + (f 3 + f 2)) + ((f 5 + f 4) + (f 1 + f 0)) = _
    simp only [add_comm, add_left_comm, add_assoc]

theorem sum_eight' {M : Type} [AddCommMonoid M] (f : Dev nD → M) (c : Dev nD) :
    ((f c + f (sib c)) + (f (yn c) + f (sib (yn c)))) + ((f (xn c) + f (sib (xn c))) + (f (xn (yn c)) + f (sib (xn (yn c)))))
      = ∑ d : Fin 8, f d := by
  rw [← sum_eight f c]
  simp only [add_comm, add_left_comm, add_assoc]

variable (m : (ℓ : Loc nD τ sig) → Buf (Elt Ideal) ℓ)

/-! ## Gradient 0 -/

theorem off_la0 : ∀ c : Dev nD, k0_off2 c = ![0, 0, (kc c).val, 0, 0] := by decide
theorem off_cp0 : ∀ c : Dev nD, k0_off1 c = ![0, 0, (flip (kc c)).val, 0, 0] := by decide
theorem off_b00 : ∀ c : Dev nD, k0_off7 c = ![(flip (xc c)).val, 0, 0, 0] := by decide
theorem off_b01 : ∀ c : Dev nD, k0_off8 c = ![0, (flip (yc c)).val, 0, 512] := by decide
theorem off_ac00 : ∀ c : Dev nD, k0_off13 c = ![(xc c).val, 0, 0, 0] := by decide
theorem off_ac01 : ∀ c : Dev nD, k0_off14 c = ![0, (yc c).val, 0, 512] := by decide
theorem off_sc00 : ∀ c : Dev nD, k0_off15 c = ![0, (flip (yc c)).val, 0, 0] := by decide
theorem off_sc01 : ∀ c : Dev nD, k0_off16 c = ![1, (flip (xc c)).val, 0, 0] := by decide
theorem off_or00 : ∀ c : Dev nD, k0_off25 c = ![0, (yc c).val, 0, 0] := by decide
theorem off_ow00 : ∀ c : Dev nD, k0_off26 c = ![(kc c).val * 416, 0] := by decide
theorem off_or01 : ∀ c : Dev nD, k0_off27 c = ![1, (xc c).val, 0, 0] := by decide
theorem off_ow01 : ∀ c : Dev nD, k0_off28 c = ![(kc c).val * 416, 512] := by decide

theorem at_rs0 (v u : Vec Ideal S2x2x416x1024 .f32) (X Y : Fin 2) (R : Fin 416) (C : Fin 1024) : k0_pay1 v u (ix4 X Y R C) = (v (ix4 X Y R C) + u (ix4 X Y R C) : EReal) := by
  pointwise [k0_pay1]
theorem at_b00 (v : Vec Ideal S1x2x416x512 .f32) (Y : Fin 2) (R : Fin 416) (C : Fin 512) : k0_pay2 v (ix4 0 Y R C) = (v (ix4 0 Y R C) : EReal) := by
  pointwise [k0_pay2]
theorem at_b01 (v : Vec Ideal S2x1x416x512 .f32) (X : Fin 2) (R : Fin 416) (C : Fin 512) : k0_pay3 v (ix4 0 X R C) = (v (ix4 X 0 R C) : EReal) := by
  pointwise [k0_pay3]
theorem at_ac00 (v : Vec Ideal S1x2x416x512 .f32) (u : Vec Ideal S1x2x416x512 .bf16) (Y : Fin 2) (R : Fin 416) (C : Fin 512) : k0_pay11 v u (ix4 0 Y R C) = (v (ix4 0 Y R C) + u (ix4 0 Y R C) : EReal) := by
  pointwise [k0_pay11]
theorem at_ac01 (v : Vec Ideal S2x1x416x512 .f32) (u : Vec Ideal S1x2x416x512 .bf16) (X : Fin 2) (R : Fin 416) (C : Fin 512) : k0_pay12 v u (ix4 0 X R C) = (v (ix4 X 0 R C) + u (ix4 0 X R C) : EReal) := by
  pointwise [k0_pay12]
theorem at_sc00 (v : Vec Ideal S1x1x416x512 .f32) (R : Fin 416) (C : Fin 512) : k0_pay13 v (ix3 0 R C) = (v (ix4 0 0 R C) : EReal) := by
  pointwise [k0_pay13]
theorem at_sc01 (v : Vec Ideal S1x1x416x512 .f32) (R : Fin 416) (C : Fin 512) : k0_pay14 v (ix3 0 R C) = (v (ix4 0 0 R C) : EReal) := by
  pointwise [k0_pay14]
theorem at_ot00 (v : Vec Ideal S1x1x416x512 .f32) (u : Vec Ideal S1x416x512 .bf16) (R : Fin 416) (C : Fin 512) : k0_pay26 (k0_pay25 v) u (ix2 R C) = (v (ix4 0 0 R C) + u (ix3 0 R C) : EReal) := by
  pointwise [k0_pay26, k0_pay25]
theorem at_ot01 (v : Vec Ideal S1x1x416x512 .f32) (u : Vec Ideal S1x416x512 .bf16) (R : Fin 416) (C : Fin 512) : k0_pay27 v u (ix2 R C) = (v (ix4 0 0 R C) + u (ix3 0 R C) : EReal) := by
  pointwise [k0_pay27]

theorem la0_at (c : Dev nD) (X Y : Fin 2) (R : Fin 416) (C : Fin 1024) :
    at_ S2x2x416x1024 (la0 m c) (ix4 X Y R C) = at_ S2x2x2x416x1024 (gv0 m c) (ix5 X Y (kc c) R C) := by
  refine Eq.trans (drop2 (r := 416) (w := 1024) (rd main_arg0 (o2 c) (gv0 m c)) (by decide) X Y R C) ?_
  exact (rd_at main_arg0 (o2 c) (fun _ => rfl) _ (ix5 X Y 0 R C) _ (by
      intro a; rw [show (o2 c).off = _ from off_la0 c]; match a with
      | ⟨0, _⟩ => show X.val = 0 + X.val; omega
      | ⟨1, _⟩ => show Y.val = 0 + Y.val; omega
      | ⟨2, _⟩ => show (kc c).val = (kc c).val + 0; omega
      | ⟨3, _⟩ => show R.val = 0 + R.val; omega
      | ⟨4, _⟩ => show C.val = 0 + C.val; omega))
theorem cp0_at (c : Dev nD) (X Y : Fin 2) (R : Fin 416) (C : Fin 1024) :
    at_ S2x2x416x1024 (cp0 m c) (ix4 X Y R C) = at_ S2x2x2x416x1024 (gv0 m c) (ix5 X Y (flip (kc c)) R C) := by
  refine Eq.trans (drop2 (r := 416) (w := 1024) (rd main_arg0 (o1 c) (gv0 m c)) (by decide) X Y R C) ?_
  exact (rd_at main_arg0 (o1 c) (fun _ => rfl) _ (ix5 X Y 0 R C) _ (by
      intro a; rw [show (o1 c).off = _ from off_cp0 c]; match a with
      | ⟨0, _⟩ => show X.val = 0 + X.val; omega
      | ⟨1, _⟩ => show Y.val = 0 + Y.val; omega
      | ⟨2, _⟩ => show (flip (kc c)).val = (flip (kc c)).val + 0; omega
      | ⟨3, _⟩ => show R.val = 0 + R.val; omega
      | ⟨4, _⟩ => show C.val = 0 + C.val; omega))

/-- The chip's sums of its two cores. -/
theorem rs0_at (c : Dev nD) (X Y : Fin 2) (R : Fin 416) (C : Fin 1024) :
    at_ S2x2x416x1024 (rs0 m c) (ix4 X Y R C) = at_ S2x2x2x416x1024 (gv0 m c) (ix5 X Y (kc c) R C) + at_ S2x2x2x416x1024 (gv0 m (sib c)) (ix5 X Y (kc c) R C) := by
  refine Eq.trans (put_at (w_S2x2x416x1024) pos_S2x2x416x1024 _ _ (ix4 X Y R C) ?_) ?_
  · intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega
  refine Eq.trans (at_rs0 _ _ X Y R C) ?_
  have h1 := cp0_at m (sib c) X Y R C
  rw [flip_k_sib c] at h1
  rw [← h1, ← la0_at m c X Y R C]
  exact congrArg₂ (fun a b : EReal => a + b) (rd_at cc0_scratch0 (w_S2x2x416x1024) (fun _ => rfl) _ (ix4 X Y R C) _ (by
      intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega)) (rd_at cc0_scratch3 (w_S2x2x416x1024) (fun _ => rfl) _ (ix4 X Y R C) _ (by
      intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega))

/-- The halves that travel. -/
theorem b00_at (c : Dev nD) (Y : Fin 2) (R : Fin 416) (C : Fin 512) :
    at_ S2x2x416x512 (b00 m c) (ix4 0 Y R C) = at_ S2x2x416x1024 (rs0 m c) (ix4 (flip (xc c)) Y R (lo (show 1024 = 512 + 512 from rfl) C)) := by
  refine Eq.trans (put_at (z0_S2x2x416x512) pos_S1x2x416x512 _ _ (ix4 0 Y R C) ?_) ?_
  · intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega
  refine Eq.trans (at_b00 _ Y R C) ?_
  exact (rd_at cc0_scratch3 (o7 c) (fun _ => rfl) _ (ix4 0 Y R C) _ (by
      intro a; rw [show (o7 c).off = _ from off_b00 c]; match a with
      | ⟨0, _⟩ => show (flip (xc c)).val = (flip (xc c)).val + 0; omega
      | ⟨1, _⟩ => show Y.val = 0 + Y.val; omega
      | ⟨2, _⟩ => show R.val = 0 + R.val; omega
      | ⟨3, _⟩ => show C.val = 0 + C.val; omega))
theorem b01_at (c : Dev nD) (X : Fin 2) (R : Fin 416) (C : Fin 512) :
    at_ S2x2x416x512 (b01 m c) (ix4 1 X R C) = at_ S2x2x416x1024 (rs0 m c) (ix4 X (flip (yc c)) R (hi (show 1024 = 512 + 512 from rfl) C)) := by
  refine Eq.trans (put_at (z1_S2x2x416x512) pos_S1x2x416x512 _ _ (ix4 0 X R C) ?_) ?_
  · intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega
  refine Eq.trans (at_b01 _ X R C) ?_
  exact (rd_at cc0_scratch3 (o8 c) (fun _ => rfl) _ (ix4 X 0 R C) _ (by
      intro a; rw [show (o8 c).off = _ from off_b01 c]; match a with
      | ⟨0, _⟩ => show X.val = 0 + X.val; omega
      | ⟨1, _⟩ => show (flip (yc c)).val = (flip (yc c)).val + 0; omega
      | ⟨2, _⟩ => show R.val = 0 + R.val; omega
      | ⟨3, _⟩ => show 512 + C.val = 512 + C.val; omega))

/-- The sums over a pair of chips. -/
theorem ac00_at (c : Dev nD) (Y : Fin 2) (R : Fin 416) (C : Fin 512) :
    at_ S2x2x416x512 (ac00 m c) (ix4 0 Y R C) = at_ S2x2x416x1024 (rs0 m c) (ix4 (xc c) Y R (lo (show 1024 = 512 + 512 from rfl) C)) + at_ S2x2x416x1024 (rs0 m (xn c)) (ix4 (xc c) Y R (lo (show 1024 = 512 + 512 from rfl) C)) := by
  refine Eq.trans (put_at (z0_S2x2x416x512) pos_S1x2x416x512 _ _ (ix4 0 Y R C) ?_) ?_
  · intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega
  refine Eq.trans (at_ac00 _ _ Y R C) ?_
  have h1 := b00_at m (xn c) Y R C
  rw [flip_xn c] at h1
  rw [← h1]
  exact congrArg₂ (fun a b : EReal => a + b) (rd_at cc0_scratch3 (o13 c) (fun _ => rfl) _ (ix4 0 Y R C) _ (by
      intro a; rw [show (o13 c).off = _ from off_ac00 c]; match a with
      | ⟨0, _⟩ => show (xc c).val = (xc c).val + 0; omega
      | ⟨1, _⟩ => show Y.val = 0 + Y.val; omega
      | ⟨2, _⟩ => show R.val = 0 + R.val; omega
      | ⟨3, _⟩ => show C.val = 0 + C.val; omega)) (rd_at cc0_scratch9 (z0_S2x2x416x512) (fun _ => rfl) _ (ix4 0 Y R C) _ (by
      intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega))
theorem ac01_at (c : Dev nD) (X : Fin 2) (R : Fin 416) (C : Fin 512) :
    at_ S2x2x416x512 (ac01 m c) (ix4 1 X R C) = at_ S2x2x416x1024 (rs0 m c) (ix4 X (yc c) R (hi (show 1024 = 512 + 512 from rfl) C)) + at_ S2x2x416x1024 (rs0 m (yn c)) (ix4 X (yc c) R (hi (show 1024 = 512 + 512 from rfl) C)) := by
  refine Eq.trans (put_at (z1_S2x2x416x512) pos_S1x2x416x512 _ _ (ix4 0 X R C) ?_) ?_
  · intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega
  refine Eq.trans (at_ac01 _ _ X R C) ?_
  have h1 := b01_at m (yn c) X R C
  rw [flip_yn c] at h1
  rw [← h1]
  exact congrArg₂ (fun a b : EReal => a + b) (rd_at cc0_scratch3 (o14 c) (fun _ => rfl) _ (ix4 X 0 R C) _ (by
      intro a; rw [show (o14 c).off = _ from off_ac01 c]; match a with
      | ⟨0, _⟩ => show X.val = 0 + X.val; omega
      | ⟨1, _⟩ => show (yc c).val = (yc c).val + 0; omega
      | ⟨2, _⟩ => show R.val = 0 + R.val; omega
      | ⟨3, _⟩ => show 512 + C.val = 512 + C.val; omega)) (rd_at cc0_scratch9 (z1_S2x2x416x512) (fun _ => rfl) _ (ix4 0 X R C) _ (by
      intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega))

/-- Their halves that travel. -/
theorem sc00_at (c : Dev nD) (R : Fin 416) (C : Fin 512) :
    at_ S2x416x512 (sc00 m c) (ix3 0 R C) = at_ S2x2x416x512 (ac00 m c) (ix4 0 (flip (yc c)) R C) := by
  refine Eq.trans (put_at (z0_S2x416x512) pos_S1x416x512 _ _ (ix3 0 R C) ?_) ?_
  · intro a; match a with
      | ⟨0, _⟩ => show 0 = 0 + 0; omega
      | ⟨1, _⟩ => show R.val = 0 + R.val; omega
      | ⟨2, _⟩ => show C.val = 0 + C.val; omega
  refine Eq.trans (at_sc00 _ R C) ?_
  exact (rd_at cc0_scratch12 (o15 c) (fun _ => rfl) _ (ix4 0 0 R C) _ (by
      intro a; rw [show (o15 c).off = _ from off_sc00 c]; match a with
      | ⟨0, _⟩ => show 0 = 0 + 0; omega
      | ⟨1, _⟩ => show (flip (yc c)).val = (flip (yc c)).val + 0; omega
      | ⟨2, _⟩ => show R.val = 0 + R.val; omega
      | ⟨3, _⟩ => show C.val = 0 + C.val; omega))
theorem sc01_at (c : Dev nD) (R : Fin 416) (C : Fin 512) :
    at_ S2x416x512 (sc01 m c) (ix3 1 R C) = at_ S2x2x416x512 (ac01 m c) (ix4 1 (flip (xc c)) R C) := by
  refine Eq.trans (put_at (z1_S2x416x512) pos_S1x416x512 _ _ (ix3 0 R C) ?_) ?_
  · intro a; match a with
      | ⟨0, _⟩ => show 1 = 1 + 0; omega
      | ⟨1, _⟩ => show R.val = 0 + R.val; omega
      | ⟨2, _⟩ => show C.val = 0 + C.val; omega
  refine Eq.trans (at_sc01 _ R C) ?_
  exact (rd_at cc0_scratch12 (o16 c) (fun _ => rfl) _ (ix4 0 0 R C) _ (by
      intro a; rw [show (o16 c).off = _ from off_sc01 c]; match a with
      | ⟨0, _⟩ => show 1 = 1 + 0; omega
      | ⟨1, _⟩ => show (flip (xc c)).val = (flip (xc c)).val + 0; omega
      | ⟨2, _⟩ => show R.val = 0 + R.val; omega
      | ⟨3, _⟩ => show C.val = 0 + C.val; omega))

/-- The sums over all chips, of the left half of the columns and of the right half. -/
theorem ot00_at (c : Dev nD) (R : Fin 416) (C : Fin 512) :
    at_ S832x1024 (ot00 m c) (ix2 (row (show 832 = 416 + 416 from rfl) (kc c) R) (lo (show 1024 = 512 + 512 from rfl) C)) = ∑ d : Fin 8, at_ S2x2x2x416x1024 (gv0 m d) (ix5 (xc c) (yc c) (kc c) R (lo (show 1024 = 512 + 512 from rfl) C)) := by
  refine Eq.trans (put_at (o26 c) pos_S416x512 _ _ (ix2 R C) ?_) ?_
  · intro a; rw [show (o26 c).off = _ from off_ow00 c]; match a with
      | ⟨0, _⟩ => show (kc c).val * 416 + R.val = (kc c).val * 416 + R.val; omega
      | ⟨1, _⟩ => show C.val = 0 + C.val; omega
  refine Eq.trans (at_ot00 _ _ R C) ?_
  refine Eq.trans (b := at_ S2x2x416x512 (ac00 m c) (ix4 0 (yc c) R C) + at_ S2x416x512 (sc00 m (yn c)) (ix3 0 R C)) ?_ ?_
  · exact congrArg₂ (fun a b : EReal => a + b) (rd_at cc0_scratch12 (o25 c) (fun _ => rfl) _ (ix4 0 0 R C) _ (by
      intro a; rw [show (o25 c).off = _ from off_or00 c]; match a with
      | ⟨0, _⟩ => show 0 = 0 + 0; omega
      | ⟨1, _⟩ => show (yc c).val = (yc c).val + 0; omega
      | ⟨2, _⟩ => show R.val = 0 + R.val; omega
      | ⟨3, _⟩ => show C.val = 0 + C.val; omega)) (rd_at cc0_scratch18 (z0_S2x416x512) (fun _ => rfl) _ (ix3 0 R C) _ (by
      intro a; match a with
      | ⟨0, _⟩ => show 0 = 0 + 0; omega
      | ⟨1, _⟩ => show R.val = 0 + R.val; omega
      | ⟨2, _⟩ => show C.val = 0 + C.val; omega))
  · rw [sc00_at, ac00_at, ac00_at]
    rw [flip_yn, x_yn]
    simp only [rs0_at, k_xn, k_yn]
    exact sum_eight (fun d => at_ S2x2x2x416x1024 (gv0 m d) (ix5 (xc c) (yc c) (kc c) R (lo (show 1024 = 512 + 512 from rfl) C))) c
theorem ot01_at (c : Dev nD) (R : Fin 416) (C : Fin 512) :
    at_ S832x1024 (ot01 m c) (ix2 (row (show 832 = 416 + 416 from rfl) (kc c) R) (hi (show 1024 = 512 + 512 from rfl) C)) = ∑ d : Fin 8, at_ S2x2x2x416x1024 (gv0 m d) (ix5 (xc c) (yc c) (kc c) R (hi (show 1024 = 512 + 512 from rfl) C)) := by
  refine Eq.trans (put_at (o28 c) pos_S416x512 _ _ (ix2 R C) ?_) ?_
  · intro a; rw [show (o28 c).off = _ from off_ow01 c]; match a with
      | ⟨0, _⟩ => show (kc c).val * 416 + R.val = (kc c).val * 416 + R.val; omega
      | ⟨1, _⟩ => show 512 + C.val = 512 + C.val; omega
  refine Eq.trans (at_ot01 _ _ R C) ?_
  refine Eq.trans (b := at_ S2x2x416x512 (ac01 m c) (ix4 1 (xc c) R C) + at_ S2x416x512 (sc01 m (xn c)) (ix3 1 R C)) ?_ ?_
  · exact congrArg₂ (fun a b : EReal => a + b) (rd_at cc0_scratch12 (o27 c) (fun _ => rfl) _ (ix4 0 0 R C) _ (by
      intro a; rw [show (o27 c).off = _ from off_or01 c]; match a with
      | ⟨0, _⟩ => show 1 = 1 + 0; omega
      | ⟨1, _⟩ => show (xc c).val = (xc c).val + 0; omega
      | ⟨2, _⟩ => show R.val = 0 + R.val; omega
      | ⟨3, _⟩ => show C.val = 0 + C.val; omega)) (rd_at cc0_scratch18 (z1_S2x416x512) (fun _ => rfl) _ (ix3 0 R C) _ (by
      intro a; match a with
      | ⟨0, _⟩ => show 1 = 1 + 0; omega
      | ⟨1, _⟩ => show R.val = 0 + R.val; omega
      | ⟨2, _⟩ => show C.val = 0 + C.val; omega))
  · rw [sc01_at, ac01_at, ac01_at]
    rw [flip_xn, y_xn, yn_xn]
    simp only [rs0_at, k_xn, k_yn]
    exact sum_eight' (fun d => at_ S2x2x2x416x1024 (gv0 m d) (ix5 (xc c) (yc c) (kc c) R (hi (show 1024 = 512 + 512 from rfl) C))) c

/-- What a device has of its own core's rows, and both cores' rows. -/
theorem om0_at (c : Dev nD) (R : Fin 416) (C : Fin 1024) :
    at_ S832x1024 (om0 m c) (ix2 (row (show 832 = 416 + 416 from rfl) (kc c) R) C) = ∑ d : Fin 8, at_ S2x2x2x416x1024 (gv0 m d) (ix5 (xc c) (yc c) (kc c) R C) := by
  show (if C.val < 512 then _ else _) = _
  split
  · rename_i hC
    exact ot00_at m c R ⟨C.val, hC⟩
  · rename_i hC
    have e' : C = hi (show 1024 = 512 + 512 from rfl) ⟨C.val - 512, by omega⟩ := Fin.ext (show C.val = 512 + (C.val - 512) by omega)
    rw [e']
    exact ot01_at m c R _
theorem ov0_at (c : Dev nD) (k : Fin 2) (R : Fin 416) (C : Fin 1024) :
    at_ S832x1024 (ov0 m c) (ix2 (row (show 832 = 416 + 416 from rfl) k R) C) = ∑ d : Fin 8, at_ S2x2x2x416x1024 (gv0 m d) (ix5 (xc c) (yc c) (k) R C) := by
  have hq : (k.val * 416 + R.val) / 416 = k.val := by have := R.isLt; omega
  show (if (k.val * 416 + R.val) / 416 = c.val % 2 then _ else _) = _
  rw [hq]
  split
  · rename_i hk
    obtain rfl : k = kc c := Fin.ext hk
    exact om0_at m c R C
  · rename_i hk
    obtain rfl : k = kc (sib c) := by
      rw [k_sib]; apply Fin.ext; show k.val = 1 - c.val % 2; have := k.isLt; omega
    refine Eq.trans (om0_at m (sib c) R C) ?_
    rw [x_sib, y_sib]

/-! ## Gradient 1 -/

theorem off_la1 : ∀ c : Dev nD, k0_off4 c = ![0, 0, (kc c).val, 0, 0] := by decide
theorem off_cp1 : ∀ c : Dev nD, k0_off3 c = ![0, 0, (flip (kc c)).val, 0, 0] := by decide
theorem off_b10 : ∀ c : Dev nD, k0_off9 c = ![(flip (xc c)).val, 0, 0, 0] := by decide
theorem off_b11 : ∀ c : Dev nD, k0_off10 c = ![0, (flip (yc c)).val, 0, 256] := by decide
theorem off_ac10 : ∀ c : Dev nD, k0_off17 c = ![(xc c).val, 0, 0, 0] := by decide
theorem off_ac11 : ∀ c : Dev nD, k0_off18 c = ![0, (yc c).val, 0, 256] := by decide
theorem off_sc10 : ∀ c : Dev nD, k0_off19 c = ![0, (flip (yc c)).val, 0, 0] := by decide
theorem off_sc11 : ∀ c : Dev nD, k0_off20 c = ![1, (flip (xc c)).val, 0, 0] := by decide
theorem off_or10 : ∀ c : Dev nD, k0_off30 c = ![0, (yc c).val, 0, 0] := by decide
theorem off_ow10 : ∀ c : Dev nD, k0_off31 c = ![(kc c).val * 128, 0] := by decide
theorem off_or11 : ∀ c : Dev nD, k0_off32 c = ![1, (xc c).val, 0, 0] := by decide
theorem off_ow11 : ∀ c : Dev nD, k0_off33 c = ![(kc c).val * 128, 256] := by decide

theorem at_rs1 (v u : Vec Ideal S2x2x128x512 .f32) (X Y : Fin 2) (R : Fin 128) (C : Fin 512) : k0_pay4 v u (ix4 X Y R C) = (v (ix4 X Y R C) + u (ix4 X Y R C) : EReal) := by
  pointwise [k0_pay4]
theorem at_b10 (v : Vec Ideal S1x2x128x256 .f32) (Y : Fin 2) (R : Fin 128) (C : Fin 256) : k0_pay5 v (ix4 0 Y R C) = (v (ix4 0 Y R C) : EReal) := by
  pointwise [k0_pay5]
theorem at_b11 (v : Vec Ideal S2x1x128x256 .f32) (X : Fin 2) (R : Fin 128) (C : Fin 256) : k0_pay6 v (ix4 0 X R C) = (v (ix4 X 0 R C) : EReal) := by
  pointwise [k0_pay6]
theorem at_ac10 (v : Vec Ideal S1x2x128x256 .f32) (u : Vec Ideal S1x2x128x256 .bf16) (Y : Fin 2) (R : Fin 128) (C : Fin 256) : k0_pay15 v u (ix4 0 Y R C) = (v (ix4 0 Y R C) + u (ix4 0 Y R C) : EReal) := by
  pointwise [k0_pay15]
theorem at_ac11 (v : Vec Ideal S2x1x128x256 .f32) (u : Vec Ideal S1x2x128x256 .bf16) (X : Fin 2) (R : Fin 128) (C : Fin 256) : k0_pay16 v u (ix4 0 X R C) = (v (ix4 X 0 R C) + u (ix4 0 X R C) : EReal) := by
  pointwise [k0_pay16]
theorem at_sc10 (v : Vec Ideal S1x1x128x256 .f32) (R : Fin 128) (C : Fin 256) : k0_pay17 v (ix3 0 R C) = (v (ix4 0 0 R C) : EReal) := by
  pointwise [k0_pay17]
theorem at_sc11 (v : Vec Ideal S1x1x128x256 .f32) (R : Fin 128) (C : Fin 256) : k0_pay18 v (ix3 0 R C) = (v (ix4 0 0 R C) : EReal) := by
  pointwise [k0_pay18]
theorem at_ot10 (v : Vec Ideal S1x1x128x256 .f32) (u : Vec Ideal S1x128x256 .bf16) (R : Fin 128) (C : Fin 256) : k0_pay28 v u (ix2 R C) = (v (ix4 0 0 R C) + u (ix3 0 R C) : EReal) := by
  pointwise [k0_pay28]
theorem at_ot11 (v : Vec Ideal S1x1x128x256 .f32) (u : Vec Ideal S1x128x256 .bf16) (R : Fin 128) (C : Fin 256) : k0_pay29 v u (ix2 R C) = (v (ix4 0 0 R C) + u (ix3 0 R C) : EReal) := by
  pointwise [k0_pay29]

theorem la1_at (c : Dev nD) (X Y : Fin 2) (R : Fin 128) (C : Fin 512) :
    at_ S2x2x128x512 (la1 m c) (ix4 X Y R C) = at_ S2x2x2x128x512 (gv1 m c) (ix5 X Y (kc c) R C) := by
  refine Eq.trans (drop2 (r := 128) (w := 512) (rd main_arg1 (o4 c) (gv1 m c)) (by decide) X Y R C) ?_
  exact (rd_at main_arg1 (o4 c) (fun _ => rfl) _ (ix5 X Y 0 R C) _ (by
      intro a; rw [show (o4 c).off = _ from off_la1 c]; match a with
      | ⟨0, _⟩ => show X.val = 0 + X.val; omega
      | ⟨1, _⟩ => show Y.val = 0 + Y.val; omega
      | ⟨2, _⟩ => show (kc c).val = (kc c).val + 0; omega
      | ⟨3, _⟩ => show R.val = 0 + R.val; omega
      | ⟨4, _⟩ => show C.val = 0 + C.val; omega))
theorem cp1_at (c : Dev nD) (X Y : Fin 2) (R : Fin 128) (C : Fin 512) :
    at_ S2x2x128x512 (cp1 m c) (ix4 X Y R C) = at_ S2x2x2x128x512 (gv1 m c) (ix5 X Y (flip (kc c)) R C) := by
  refine Eq.trans (drop2 (r := 128) (w := 512) (rd main_arg1 (o3 c) (gv1 m c)) (by decide) X Y R C) ?_
  exact (rd_at main_arg1 (o3 c) (fun _ => rfl) _ (ix5 X Y 0 R C) _ (by
      intro a; rw [show (o3 c).off = _ from off_cp1 c]; match a with
      | ⟨0, _⟩ => show X.val = 0 + X.val; omega
      | ⟨1, _⟩ => show Y.val = 0 + Y.val; omega
      | ⟨2, _⟩ => show (flip (kc c)).val = (flip (kc c)).val + 0; omega
      | ⟨3, _⟩ => show R.val = 0 + R.val; omega
      | ⟨4, _⟩ => show C.val = 0 + C.val; omega))

/-- The chip's sums of its two cores. -/
theorem rs1_at (c : Dev nD) (X Y : Fin 2) (R : Fin 128) (C : Fin 512) :
    at_ S2x2x128x512 (rs1 m c) (ix4 X Y R C) = at_ S2x2x2x128x512 (gv1 m c) (ix5 X Y (kc c) R C) + at_ S2x2x2x128x512 (gv1 m (sib c)) (ix5 X Y (kc c) R C) := by
  refine Eq.trans (put_at (w_S2x2x128x512) pos_S2x2x128x512 _ _ (ix4 X Y R C) ?_) ?_
  · intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega
  refine Eq.trans (at_rs1 _ _ X Y R C) ?_
  have h1 := cp1_at m (sib c) X Y R C
  rw [flip_k_sib c] at h1
  rw [← h1, ← la1_at m c X Y R C]
  exact congrArg₂ (fun a b : EReal => a + b) (rd_at cc0_scratch1 (w_S2x2x128x512) (fun _ => rfl) _ (ix4 X Y R C) _ (by
      intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega)) (rd_at cc0_scratch4 (w_S2x2x128x512) (fun _ => rfl) _ (ix4 X Y R C) _ (by
      intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega))

/-- The halves that travel. -/
theorem b10_at (c : Dev nD) (Y : Fin 2) (R : Fin 128) (C : Fin 256) :
    at_ S2x2x128x256 (b10 m c) (ix4 0 Y R C) = at_ S2x2x128x512 (rs1 m c) (ix4 (flip (xc c)) Y R (lo (show 512 = 256 + 256 from rfl) C)) := by
  refine Eq.trans (put_at (z0_S2x2x128x256) pos_S1x2x128x256 _ _ (ix4 0 Y R C) ?_) ?_
  · intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega
  refine Eq.trans (at_b10 _ Y R C) ?_
  exact (rd_at cc0_scratch4 (o9 c) (fun _ => rfl) _ (ix4 0 Y R C) _ (by
      intro a; rw [show (o9 c).off = _ from off_b10 c]; match a with
      | ⟨0, _⟩ => show (flip (xc c)).val = (flip (xc c)).val + 0; omega
      | ⟨1, _⟩ => show Y.val = 0 + Y.val; omega
      | ⟨2, _⟩ => show R.val = 0 + R.val; omega
      | ⟨3, _⟩ => show C.val = 0 + C.val; omega))
theorem b11_at (c : Dev nD) (X : Fin 2) (R : Fin 128) (C : Fin 256) :
    at_ S2x2x128x256 (b11 m c) (ix4 1 X R C) = at_ S2x2x128x512 (rs1 m c) (ix4 X (flip (yc c)) R (hi (show 512 = 256 + 256 from rfl) C)) := by
  refine Eq.trans (put_at (z1_S2x2x128x256) pos_S1x2x128x256 _ _ (ix4 0 X R C) ?_) ?_
  · intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega
  refine Eq.trans (at_b11 _ X R C) ?_
  exact (rd_at cc0_scratch4 (o10 c) (fun _ => rfl) _ (ix4 X 0 R C) _ (by
      intro a; rw [show (o10 c).off = _ from off_b11 c]; match a with
      | ⟨0, _⟩ => show X.val = 0 + X.val; omega
      | ⟨1, _⟩ => show (flip (yc c)).val = (flip (yc c)).val + 0; omega
      | ⟨2, _⟩ => show R.val = 0 + R.val; omega
      | ⟨3, _⟩ => show 256 + C.val = 256 + C.val; omega))

/-- The sums over a pair of chips. -/
theorem ac10_at (c : Dev nD) (Y : Fin 2) (R : Fin 128) (C : Fin 256) :
    at_ S2x2x128x256 (ac10 m c) (ix4 0 Y R C) = at_ S2x2x128x512 (rs1 m c) (ix4 (xc c) Y R (lo (show 512 = 256 + 256 from rfl) C)) + at_ S2x2x128x512 (rs1 m (xn c)) (ix4 (xc c) Y R (lo (show 512 = 256 + 256 from rfl) C)) := by
  refine Eq.trans (put_at (z0_S2x2x128x256) pos_S1x2x128x256 _ _ (ix4 0 Y R C) ?_) ?_
  · intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega
  refine Eq.trans (at_ac10 _ _ Y R C) ?_
  have h1 := b10_at m (xn c) Y R C
  rw [flip_xn c] at h1
  rw [← h1]
  exact congrArg₂ (fun a b : EReal => a + b) (rd_at cc0_scratch4 (o17 c) (fun _ => rfl) _ (ix4 0 Y R C) _ (by
      intro a; rw [show (o17 c).off = _ from off_ac10 c]; match a with
      | ⟨0, _⟩ => show (xc c).val = (xc c).val + 0; omega
      | ⟨1, _⟩ => show Y.val = 0 + Y.val; omega
      | ⟨2, _⟩ => show R.val = 0 + R.val; omega
      | ⟨3, _⟩ => show C.val = 0 + C.val; omega)) (rd_at cc0_scratch10 (z0_S2x2x128x256) (fun _ => rfl) _ (ix4 0 Y R C) _ (by
      intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega))
theorem ac11_at (c : Dev nD) (X : Fin 2) (R : Fin 128) (C : Fin 256) :
    at_ S2x2x128x256 (ac11 m c) (ix4 1 X R C) = at_ S2x2x128x512 (rs1 m c) (ix4 X (yc c) R (hi (show 512 = 256 + 256 from rfl) C)) + at_ S2x2x128x512 (rs1 m (yn c)) (ix4 X (yc c) R (hi (show 512 = 256 + 256 from rfl) C)) := by
  refine Eq.trans (put_at (z1_S2x2x128x256) pos_S1x2x128x256 _ _ (ix4 0 X R C) ?_) ?_
  · intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega
  refine Eq.trans (at_ac11 _ _ X R C) ?_
  have h1 := b11_at m (yn c) X R C
  rw [flip_yn c] at h1
  rw [← h1]
  exact congrArg₂ (fun a b : EReal => a + b) (rd_at cc0_scratch4 (o18 c) (fun _ => rfl) _ (ix4 X 0 R C) _ (by
      intro a; rw [show (o18 c).off = _ from off_ac11 c]; match a with
      | ⟨0, _⟩ => show X.val = 0 + X.val; omega
      | ⟨1, _⟩ => show (yc c).val = (yc c).val + 0; omega
      | ⟨2, _⟩ => show R.val = 0 + R.val; omega
      | ⟨3, _⟩ => show 256 + C.val = 256 + C.val; omega)) (rd_at cc0_scratch10 (z1_S2x2x128x256) (fun _ => rfl) _ (ix4 0 X R C) _ (by
      intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega))

/-- Their halves that travel. -/
theorem sc10_at (c : Dev nD) (R : Fin 128) (C : Fin 256) :
    at_ S2x128x256 (sc10 m c) (ix3 0 R C) = at_ S2x2x128x256 (ac10 m c) (ix4 0 (flip (yc c)) R C) := by
  refine Eq.trans (put_at (z0_S2x128x256) pos_S1x128x256 _ _ (ix3 0 R C) ?_) ?_
  · intro a; match a with
      | ⟨0, _⟩ => show 0 = 0 + 0; omega
      | ⟨1, _⟩ => show R.val = 0 + R.val; omega
      | ⟨2, _⟩ => show C.val = 0 + C.val; omega
  refine Eq.trans (at_sc10 _ R C) ?_
  exact (rd_at cc0_scratch13 (o19 c) (fun _ => rfl) _ (ix4 0 0 R C) _ (by
      intro a; rw [show (o19 c).off = _ from off_sc10 c]; match a with
      | ⟨0, _⟩ => show 0 = 0 + 0; omega
      | ⟨1, _⟩ => show (flip (yc c)).val = (flip (yc c)).val + 0; omega
      | ⟨2, _⟩ => show R.val = 0 + R.val; omega
      | ⟨3, _⟩ => show C.val = 0 + C.val; omega))
theorem sc11_at (c : Dev nD) (R : Fin 128) (C : Fin 256) :
    at_ S2x128x256 (sc11 m c) (ix3 1 R C) = at_ S2x2x128x256 (ac11 m c) (ix4 1 (flip (xc c)) R C) := by
  refine Eq.trans (put_at (z1_S2x128x256) pos_S1x128x256 _ _ (ix3 0 R C) ?_) ?_
  · intro a; match a with
      | ⟨0, _⟩ => show 1 = 1 + 0; omega
      | ⟨1, _⟩ => show R.val = 0 + R.val; omega
      | ⟨2, _⟩ => show C.val = 0 + C.val; omega
  refine Eq.trans (at_sc11 _ R C) ?_
  exact (rd_at cc0_scratch13 (o20 c) (fun _ => rfl) _ (ix4 0 0 R C) _ (by
      intro a; rw [show (o20 c).off = _ from off_sc11 c]; match a with
      | ⟨0, _⟩ => show 1 = 1 + 0; omega
      | ⟨1, _⟩ => show (flip (xc c)).val = (flip (xc c)).val + 0; omega
      | ⟨2, _⟩ => show R.val = 0 + R.val; omega
      | ⟨3, _⟩ => show C.val = 0 + C.val; omega))

/-- The sums over all chips, of the left half of the columns and of the right half. -/
theorem ot10_at (c : Dev nD) (R : Fin 128) (C : Fin 256) :
    at_ S256x512 (ot10 m c) (ix2 (row (show 256 = 128 + 128 from rfl) (kc c) R) (lo (show 512 = 256 + 256 from rfl) C)) = ∑ d : Fin 8, at_ S2x2x2x128x512 (gv1 m d) (ix5 (xc c) (yc c) (kc c) R (lo (show 512 = 256 + 256 from rfl) C)) := by
  refine Eq.trans (put_at (o31 c) pos_S128x256 _ _ (ix2 R C) ?_) ?_
  · intro a; rw [show (o31 c).off = _ from off_ow10 c]; match a with
      | ⟨0, _⟩ => show (kc c).val * 128 + R.val = (kc c).val * 128 + R.val; omega
      | ⟨1, _⟩ => show C.val = 0 + C.val; omega
  refine Eq.trans (at_ot10 _ _ R C) ?_
  refine Eq.trans (b := at_ S2x2x128x256 (ac10 m c) (ix4 0 (yc c) R C) + at_ S2x128x256 (sc10 m (yn c)) (ix3 0 R C)) ?_ ?_
  · exact congrArg₂ (fun a b : EReal => a + b) (rd_at cc0_scratch13 (o30 c) (fun _ => rfl) _ (ix4 0 0 R C) _ (by
      intro a; rw [show (o30 c).off = _ from off_or10 c]; match a with
      | ⟨0, _⟩ => show 0 = 0 + 0; omega
      | ⟨1, _⟩ => show (yc c).val = (yc c).val + 0; omega
      | ⟨2, _⟩ => show R.val = 0 + R.val; omega
      | ⟨3, _⟩ => show C.val = 0 + C.val; omega)) (rd_at cc0_scratch19 (z0_S2x128x256) (fun _ => rfl) _ (ix3 0 R C) _ (by
      intro a; match a with
      | ⟨0, _⟩ => show 0 = 0 + 0; omega
      | ⟨1, _⟩ => show R.val = 0 + R.val; omega
      | ⟨2, _⟩ => show C.val = 0 + C.val; omega))
  · rw [sc10_at, ac10_at, ac10_at]
    rw [flip_yn, x_yn]
    simp only [rs1_at, k_xn, k_yn]
    exact sum_eight (fun d => at_ S2x2x2x128x512 (gv1 m d) (ix5 (xc c) (yc c) (kc c) R (lo (show 512 = 256 + 256 from rfl) C))) c
theorem ot11_at (c : Dev nD) (R : Fin 128) (C : Fin 256) :
    at_ S256x512 (ot11 m c) (ix2 (row (show 256 = 128 + 128 from rfl) (kc c) R) (hi (show 512 = 256 + 256 from rfl) C)) = ∑ d : Fin 8, at_ S2x2x2x128x512 (gv1 m d) (ix5 (xc c) (yc c) (kc c) R (hi (show 512 = 256 + 256 from rfl) C)) := by
  refine Eq.trans (put_at (o33 c) pos_S128x256 _ _ (ix2 R C) ?_) ?_
  · intro a; rw [show (o33 c).off = _ from off_ow11 c]; match a with
      | ⟨0, _⟩ => show (kc c).val * 128 + R.val = (kc c).val * 128 + R.val; omega
      | ⟨1, _⟩ => show 256 + C.val = 256 + C.val; omega
  refine Eq.trans (at_ot11 _ _ R C) ?_
  refine Eq.trans (b := at_ S2x2x128x256 (ac11 m c) (ix4 1 (xc c) R C) + at_ S2x128x256 (sc11 m (xn c)) (ix3 1 R C)) ?_ ?_
  · exact congrArg₂ (fun a b : EReal => a + b) (rd_at cc0_scratch13 (o32 c) (fun _ => rfl) _ (ix4 0 0 R C) _ (by
      intro a; rw [show (o32 c).off = _ from off_or11 c]; match a with
      | ⟨0, _⟩ => show 1 = 1 + 0; omega
      | ⟨1, _⟩ => show (xc c).val = (xc c).val + 0; omega
      | ⟨2, _⟩ => show R.val = 0 + R.val; omega
      | ⟨3, _⟩ => show C.val = 0 + C.val; omega)) (rd_at cc0_scratch19 (z1_S2x128x256) (fun _ => rfl) _ (ix3 0 R C) _ (by
      intro a; match a with
      | ⟨0, _⟩ => show 1 = 1 + 0; omega
      | ⟨1, _⟩ => show R.val = 0 + R.val; omega
      | ⟨2, _⟩ => show C.val = 0 + C.val; omega))
  · rw [sc11_at, ac11_at, ac11_at]
    rw [flip_xn, y_xn, yn_xn]
    simp only [rs1_at, k_xn, k_yn]
    exact sum_eight' (fun d => at_ S2x2x2x128x512 (gv1 m d) (ix5 (xc c) (yc c) (kc c) R (hi (show 512 = 256 + 256 from rfl) C))) c

/-- What a device has of its own core's rows, and both cores' rows. -/
theorem om1_at (c : Dev nD) (R : Fin 128) (C : Fin 512) :
    at_ S256x512 (om1 m c) (ix2 (row (show 256 = 128 + 128 from rfl) (kc c) R) C) = ∑ d : Fin 8, at_ S2x2x2x128x512 (gv1 m d) (ix5 (xc c) (yc c) (kc c) R C) := by
  show (if C.val < 256 then _ else _) = _
  split
  · rename_i hC
    exact ot10_at m c R ⟨C.val, hC⟩
  · rename_i hC
    have e' : C = hi (show 512 = 256 + 256 from rfl) ⟨C.val - 256, by omega⟩ := Fin.ext (show C.val = 256 + (C.val - 256) by omega)
    rw [e']
    exact ot11_at m c R _
theorem ov1_at (c : Dev nD) (k : Fin 2) (R : Fin 128) (C : Fin 512) :
    at_ S256x512 (ov1 m c) (ix2 (row (show 256 = 128 + 128 from rfl) k R) C) = ∑ d : Fin 8, at_ S2x2x2x128x512 (gv1 m d) (ix5 (xc c) (yc c) (k) R C) := by
  have hq : (k.val * 128 + R.val) / 128 = k.val := by have := R.isLt; omega
  show (if (k.val * 128 + R.val) / 128 = c.val % 2 then _ else _) = _
  rw [hq]
  split
  · rename_i hk
    obtain rfl : k = kc c := Fin.ext hk
    exact om1_at m c R C
  · rename_i hk
    obtain rfl : k = kc (sib c) := by
      rw [k_sib]; apply Fin.ext; show k.val = 1 - c.val % 2; have := k.isLt; omega
    refine Eq.trans (om1_at m (sib c) R C) ?_
    rw [x_sib, y_sib]

/-! ## Gradient 2 -/

theorem off_la2 : ∀ c : Dev nD, k0_off6 c = ![0, 0, (kc c).val, 0, 0] := by decide
theorem off_cp2 : ∀ c : Dev nD, k0_off5 c = ![0, 0, (flip (kc c)).val, 0, 0] := by decide
theorem off_b20 : ∀ c : Dev nD, k0_off11 c = ![(flip (xc c)).val, 0, 0, 0] := by decide
theorem off_b21 : ∀ c : Dev nD, k0_off12 c = ![0, (flip (yc c)).val, 0, 512] := by decide
theorem off_ac20 : ∀ c : Dev nD, k0_off21 c = ![(xc c).val, 0, 0, 0] := by decide
theorem off_ac21 : ∀ c : Dev nD, k0_off22 c = ![0, (yc c).val, 0, 512] := by decide
theorem off_sc20 : ∀ c : Dev nD, k0_off23 c = ![0, (flip (yc c)).val, 0, 0] := by decide
theorem off_sc21 : ∀ c : Dev nD, k0_off24 c = ![1, (flip (xc c)).val, 0, 0] := by decide
theorem off_or20 : ∀ c : Dev nD, k0_off35 c = ![0, (yc c).val, 0, 0] := by decide
theorem off_ow20 : ∀ c : Dev nD, k0_off36 c = ![(kc c).val * 128, 0] := by decide
theorem off_or21 : ∀ c : Dev nD, k0_off37 c = ![1, (xc c).val, 0, 0] := by decide
theorem off_ow21 : ∀ c : Dev nD, k0_off38 c = ![(kc c).val * 128, 512] := by decide

theorem at_rs2 (v u : Vec Ideal S2x2x128x1024 .f32) (X Y : Fin 2) (R : Fin 128) (C : Fin 1024) : k0_pay7 v u (ix4 X Y R C) = (v (ix4 X Y R C) + u (ix4 X Y R C) : EReal) := by
  pointwise [k0_pay7]
theorem at_b20 (v : Vec Ideal S1x2x128x512 .f32) (Y : Fin 2) (R : Fin 128) (C : Fin 512) : k0_pay8 v (ix4 0 Y R C) = (v (ix4 0 Y R C) : EReal) := by
  pointwise [k0_pay8]
theorem at_b21 (v : Vec Ideal S2x1x128x512 .f32) (X : Fin 2) (R : Fin 128) (C : Fin 512) : k0_pay9 v (ix4 0 X R C) = (v (ix4 X 0 R C) : EReal) := by
  pointwise [k0_pay9]
theorem at_ac20 (v : Vec Ideal S1x2x128x512 .f32) (u : Vec Ideal S1x2x128x512 .bf16) (Y : Fin 2) (R : Fin 128) (C : Fin 512) : k0_pay19 v u (ix4 0 Y R C) = (v (ix4 0 Y R C) + u (ix4 0 Y R C) : EReal) := by
  pointwise [k0_pay19]
theorem at_ac21 (v : Vec Ideal S2x1x128x512 .f32) (u : Vec Ideal S1x2x128x512 .bf16) (X : Fin 2) (R : Fin 128) (C : Fin 512) : k0_pay20 v u (ix4 0 X R C) = (v (ix4 X 0 R C) + u (ix4 0 X R C) : EReal) := by
  pointwise [k0_pay20]
theorem at_sc20 (v : Vec Ideal S1x1x128x512 .f32) (R : Fin 128) (C : Fin 512) : k0_pay22 (k0_pay21 v) (ix3 0 R C) = (v (ix4 0 0 R C) : EReal) := by
  pointwise [k0_pay22, k0_pay21]
theorem at_sc21 (v : Vec Ideal S1x1x128x512 .f32) (R : Fin 128) (C : Fin 512) : k0_pay23 v (ix3 0 R C) = (v (ix4 0 0 R C) : EReal) := by
  pointwise [k0_pay23]
theorem at_ot20 (v : Vec Ideal S1x1x128x512 .f32) (u : Vec Ideal S1x128x512 .bf16) (R : Fin 128) (C : Fin 512) : k0_pay30 v u (ix2 R C) = (v (ix4 0 0 R C) + u (ix3 0 R C) : EReal) := by
  pointwise [k0_pay30]
theorem at_ot21 (v : Vec Ideal S1x1x128x512 .f32) (u : Vec Ideal S1x128x512 .bf16) (R : Fin 128) (C : Fin 512) : k0_pay31 v u (ix2 R C) = (v (ix4 0 0 R C) + u (ix3 0 R C) : EReal) := by
  pointwise [k0_pay31]

theorem la2_at (c : Dev nD) (X Y : Fin 2) (R : Fin 128) (C : Fin 1024) :
    at_ S2x2x128x1024 (la2 m c) (ix4 X Y R C) = at_ S2x2x2x128x1024 (gv2 m c) (ix5 X Y (kc c) R C) := by
  refine Eq.trans (drop2 (r := 128) (w := 1024) (rd main_arg2 (o6 c) (gv2 m c)) (by decide) X Y R C) ?_
  exact (rd_at main_arg2 (o6 c) (fun _ => rfl) _ (ix5 X Y 0 R C) _ (by
      intro a; rw [show (o6 c).off = _ from off_la2 c]; match a with
      | ⟨0, _⟩ => show X.val = 0 + X.val; omega
      | ⟨1, _⟩ => show Y.val = 0 + Y.val; omega
      | ⟨2, _⟩ => show (kc c).val = (kc c).val + 0; omega
      | ⟨3, _⟩ => show R.val = 0 + R.val; omega
      | ⟨4, _⟩ => show C.val = 0 + C.val; omega))
theorem cp2_at (c : Dev nD) (X Y : Fin 2) (R : Fin 128) (C : Fin 1024) :
    at_ S2x2x128x1024 (cp2 m c) (ix4 X Y R C) = at_ S2x2x2x128x1024 (gv2 m c) (ix5 X Y (flip (kc c)) R C) := by
  refine Eq.trans (drop2 (r := 128) (w := 1024) (rd main_arg2 (o5 c) (gv2 m c)) (by decide) X Y R C) ?_
  exact (rd_at main_arg2 (o5 c) (fun _ => rfl) _ (ix5 X Y 0 R C) _ (by
      intro a; rw [show (o5 c).off = _ from off_cp2 c]; match a with
      | ⟨0, _⟩ => show X.val = 0 + X.val; omega
      | ⟨1, _⟩ => show Y.val = 0 + Y.val; omega
      | ⟨2, _⟩ => show (flip (kc c)).val = (flip (kc c)).val + 0; omega
      | ⟨3, _⟩ => show R.val = 0 + R.val; omega
      | ⟨4, _⟩ => show C.val = 0 + C.val; omega))

/-- The chip's sums of its two cores. -/
theorem rs2_at (c : Dev nD) (X Y : Fin 2) (R : Fin 128) (C : Fin 1024) :
    at_ S2x2x128x1024 (rs2 m c) (ix4 X Y R C) = at_ S2x2x2x128x1024 (gv2 m c) (ix5 X Y (kc c) R C) + at_ S2x2x2x128x1024 (gv2 m (sib c)) (ix5 X Y (kc c) R C) := by
  refine Eq.trans (put_at (w_S2x2x128x1024) pos_S2x2x128x1024 _ _ (ix4 X Y R C) ?_) ?_
  · intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega
  refine Eq.trans (at_rs2 _ _ X Y R C) ?_
  have h1 := cp2_at m (sib c) X Y R C
  rw [flip_k_sib c] at h1
  rw [← h1, ← la2_at m c X Y R C]
  exact congrArg₂ (fun a b : EReal => a + b) (rd_at cc0_scratch2 (w_S2x2x128x1024) (fun _ => rfl) _ (ix4 X Y R C) _ (by
      intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega)) (rd_at cc0_scratch5 (w_S2x2x128x1024) (fun _ => rfl) _ (ix4 X Y R C) _ (by
      intro a; match a with
      | ⟨0, _⟩ => show X.val = 0 + X.val; omega
      | ⟨1, _⟩ => show Y.val = 0 + Y.val; omega
      | ⟨2, _⟩ => show R.val = 0 + R.val; omega
      | ⟨3, _⟩ => show C.val = 0 + C.val; omega))

/-- The halves that travel. -/
theorem b20_at (c : Dev nD) (Y : Fin 2) (R : Fin 128) (C : Fin 512) :
    at_ S2x2x128x512 (b20 m c) (ix4 0 Y R C) = at_ S2x2x128x1024 (rs2 m c) (ix4 (flip (xc c)) Y R (lo (show 1024 = 512 + 512 from rfl) C)) := by
  refine Eq.trans (put_at (z0_S2x2x128x512) pos_S1x2x128x512 _ _ (ix4 0 Y R C) ?_) ?_
  · intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega
  refine Eq.trans (at_b20 _ Y R C) ?_
  exact (rd_at cc0_scratch5 (o11 c) (fun _ => rfl) _ (ix4 0 Y R C) _ (by
      intro a; rw [show (o11 c).off = _ from off_b20 c]; match a with
      | ⟨0, _⟩ => show (flip (xc c)).val = (flip (xc c)).val + 0; omega
      | ⟨1, _⟩ => show Y.val = 0 + Y.val; omega
      | ⟨2, _⟩ => show R.val = 0 + R.val; omega
      | ⟨3, _⟩ => show C.val = 0 + C.val; omega))
theorem b21_at (c : Dev nD) (X : Fin 2) (R : Fin 128) (C : Fin 512) :
    at_ S2x2x128x512 (b21 m c) (ix4 1 X R C) = at_ S2x2x128x1024 (rs2 m c) (ix4 X (flip (yc c)) R (hi (show 1024 = 512 + 512 from rfl) C)) := by
  refine Eq.trans (put_at (z1_S2x2x128x512) pos_S1x2x128x512 _ _ (ix4 0 X R C) ?_) ?_
  · intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega
  refine Eq.trans (at_b21 _ X R C) ?_
  exact (rd_at cc0_scratch5 (o12 c) (fun _ => rfl) _ (ix4 X 0 R C) _ (by
      intro a; rw [show (o12 c).off = _ from off_b21 c]; match a with
      | ⟨0, _⟩ => show X.val = 0 + X.val; omega
      | ⟨1, _⟩ => show (flip (yc c)).val = (flip (yc c)).val + 0; omega
      | ⟨2, _⟩ => show R.val = 0 + R.val; omega
      | ⟨3, _⟩ => show 512 + C.val = 512 + C.val; omega))

/-- The sums over a pair of chips. -/
theorem ac20_at (c : Dev nD) (Y : Fin 2) (R : Fin 128) (C : Fin 512) :
    at_ S2x2x128x512 (ac20 m c) (ix4 0 Y R C) = at_ S2x2x128x1024 (rs2 m c) (ix4 (xc c) Y R (lo (show 1024 = 512 + 512 from rfl) C)) + at_ S2x2x128x1024 (rs2 m (xn c)) (ix4 (xc c) Y R (lo (show 1024 = 512 + 512 from rfl) C)) := by
  refine Eq.trans (put_at (z0_S2x2x128x512) pos_S1x2x128x512 _ _ (ix4 0 Y R C) ?_) ?_
  · intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega
  refine Eq.trans (at_ac20 _ _ Y R C) ?_
  have h1 := b20_at m (xn c) Y R C
  rw [flip_xn c] at h1
  rw [← h1]
  exact congrArg₂ (fun a b : EReal => a + b) (rd_at cc0_scratch5 (o21 c) (fun _ => rfl) _ (ix4 0 Y R C) _ (by
      intro a; rw [show (o21 c).off = _ from off_ac20 c]; match a with
      | ⟨0, _⟩ => show (xc c).val = (xc c).val + 0; omega
      | ⟨1, _⟩ => show Y.val = 0 + Y.val; omega
      | ⟨2, _⟩ => show R.val = 0 + R.val; omega
      | ⟨3, _⟩ => show C.val = 0 + C.val; omega)) (rd_at cc0_scratch11 (z0_S2x2x128x512) (fun _ => rfl) _ (ix4 0 Y R C) _ (by
      intro a; match a with
      | ⟨0, _⟩ => show 0 = 0 + 0; omega
      | ⟨1, _⟩ => show Y.val = 0 + Y.val; omega
      | ⟨2, _⟩ => show R.val = 0 + R.val; omega
      | ⟨3, _⟩ => show C.val = 0 + C.val; omega))
theorem ac21_at (c : Dev nD) (X : Fin 2) (R : Fin 128) (C : Fin 512) :
    at_ S2x2x128x512 (ac21 m c) (ix4 1 X R C) = at_ S2x2x128x1024 (rs2 m c) (ix4 X (yc c) R (hi (show 1024 = 512 + 512 from rfl) C)) + at_ S2x2x128x1024 (rs2 m (yn c)) (ix4 X (yc c) R (hi (show 1024 = 512 + 512 from rfl) C)) := by
  refine Eq.trans (put_at (z1_S2x2x128x512) pos_S1x2x128x512 _ _ (ix4 0 X R C) ?_) ?_
  · intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega
  refine Eq.trans (at_ac21 _ _ X R C) ?_
  have h1 := b21_at m (yn c) X R C
  rw [flip_yn c] at h1
  rw [← h1]
  exact congrArg₂ (fun a b : EReal => a + b) (rd_at cc0_scratch5 (o22 c) (fun _ => rfl) _ (ix4 X 0 R C) _ (by
      intro a; rw [show (o22 c).off = _ from off_ac21 c]; match a with
      | ⟨0, _⟩ => show X.val = 0 + X.val; omega
      | ⟨1, _⟩ => show (yc c).val = (yc c).val + 0; omega
      | ⟨2, _⟩ => show R.val = 0 + R.val; omega
      | ⟨3, _⟩ => show 512 + C.val = 512 + C.val; omega)) (rd_at cc0_scratch11 (z1_S2x2x128x512) (fun _ => rfl) _ (ix4 0 X R C) _ (by
      intro a; match a with
      | ⟨0, _⟩ => show 1 = 1 + 0; omega
      | ⟨1, _⟩ => show X.val = 0 + X.val; omega
      | ⟨2, _⟩ => show R.val = 0 + R.val; omega
      | ⟨3, _⟩ => show C.val = 0 + C.val; omega))

/-- Their halves that travel. -/
theorem sc20_at (c : Dev nD) (R : Fin 128) (C : Fin 512) :
    at_ S2x128x512 (sc20 m c) (ix3 0 R C) = at_ S2x2x128x512 (ac20 m c) (ix4 0 (flip (yc c)) R C) := by
  refine Eq.trans (put_at (z0_S2x128x512) pos_S1x128x512 _ _ (ix3 0 R C) ?_) ?_
  · intro a; match a with
      | ⟨0, _⟩ => show 0 = 0 + 0; omega
      | ⟨1, _⟩ => show R.val = 0 + R.val; omega
      | ⟨2, _⟩ => show C.val = 0 + C.val; omega
  refine Eq.trans (at_sc20 _ R C) ?_
  exact (rd_at cc0_scratch14 (o23 c) (fun _ => rfl) _ (ix4 0 0 R C) _ (by
      intro a; rw [show (o23 c).off = _ from off_sc20 c]; match a with
      | ⟨0, _⟩ => show 0 = 0 + 0; omega
      | ⟨1, _⟩ => show (flip (yc c)).val = (flip (yc c)).val + 0; omega
      | ⟨2, _⟩ => show R.val = 0 + R.val; omega
      | ⟨3, _⟩ => show C.val = 0 + C.val; omega))
theorem sc21_at (c : Dev nD) (R : Fin 128) (C : Fin 512) :
    at_ S2x128x512 (sc21 m c) (ix3 1 R C) = at_ S2x2x128x512 (ac21 m c) (ix4 1 (flip (xc c)) R C) := by
  refine Eq.trans (put_at (z1_S2x128x512) pos_S1x128x512 _ _ (ix3 0 R C) ?_) ?_
  · intro a; match a with
      | ⟨0, _⟩ => show 1 = 1 + 0; omega
      | ⟨1, _⟩ => show R.val = 0 + R.val; omega
      | ⟨2, _⟩ => show C.val = 0 + C.val; omega
  refine Eq.trans (at_sc21 _ R C) ?_
  exact (rd_at cc0_scratch14 (o24 c) (fun _ => rfl) _ (ix4 0 0 R C) _ (by
      intro a; rw [show (o24 c).off = _ from off_sc21 c]; match a with
      | ⟨0, _⟩ => show 1 = 1 + 0; omega
      | ⟨1, _⟩ => show (flip (xc c)).val = (flip (xc c)).val + 0; omega
      | ⟨2, _⟩ => show R.val = 0 + R.val; omega
      | ⟨3, _⟩ => show C.val = 0 + C.val; omega))

/-- The sums over all chips, of the left half of the columns and of the right half. -/
theorem ot20_at (c : Dev nD) (R : Fin 128) (C : Fin 512) :
    at_ S256x1024 (ot20 m c) (ix2 (row (show 256 = 128 + 128 from rfl) (kc c) R) (lo (show 1024 = 512 + 512 from rfl) C)) = ∑ d : Fin 8, at_ S2x2x2x128x1024 (gv2 m d) (ix5 (xc c) (yc c) (kc c) R (lo (show 1024 = 512 + 512 from rfl) C)) := by
  refine Eq.trans (put_at (o36 c) pos_S128x512 _ _ (ix2 R C) ?_) ?_
  · intro a; rw [show (o36 c).off = _ from off_ow20 c]; match a with
      | ⟨0, _⟩ => show (kc c).val * 128 + R.val = (kc c).val * 128 + R.val; omega
      | ⟨1, _⟩ => show C.val = 0 + C.val; omega
  refine Eq.trans (at_ot20 _ _ R C) ?_
  refine Eq.trans (b := at_ S2x2x128x512 (ac20 m c) (ix4 0 (yc c) R C) + at_ S2x128x512 (sc20 m (yn c)) (ix3 0 R C)) ?_ ?_
  · exact congrArg₂ (fun a b : EReal => a + b) (rd_at cc0_scratch14 (o35 c) (fun _ => rfl) _ (ix4 0 0 R C) _ (by
      intro a; rw [show (o35 c).off = _ from off_or20 c]; match a with
      | ⟨0, _⟩ => show 0 = 0 + 0; omega
      | ⟨1, _⟩ => show (yc c).val = (yc c).val + 0; omega
      | ⟨2, _⟩ => show R.val = 0 + R.val; omega
      | ⟨3, _⟩ => show C.val = 0 + C.val; omega)) (rd_at cc0_scratch20 (z0_S2x128x512) (fun _ => rfl) _ (ix3 0 R C) _ (by
      intro a; match a with
      | ⟨0, _⟩ => show 0 = 0 + 0; omega
      | ⟨1, _⟩ => show R.val = 0 + R.val; omega
      | ⟨2, _⟩ => show C.val = 0 + C.val; omega))
  · rw [sc20_at, ac20_at, ac20_at]
    rw [flip_yn, x_yn]
    simp only [rs2_at, k_xn, k_yn]
    exact sum_eight (fun d => at_ S2x2x2x128x1024 (gv2 m d) (ix5 (xc c) (yc c) (kc c) R (lo (show 1024 = 512 + 512 from rfl) C))) c
theorem ot21_at (c : Dev nD) (R : Fin 128) (C : Fin 512) :
    at_ S256x1024 (ot21 m c) (ix2 (row (show 256 = 128 + 128 from rfl) (kc c) R) (hi (show 1024 = 512 + 512 from rfl) C)) = ∑ d : Fin 8, at_ S2x2x2x128x1024 (gv2 m d) (ix5 (xc c) (yc c) (kc c) R (hi (show 1024 = 512 + 512 from rfl) C)) := by
  refine Eq.trans (put_at (o38 c) pos_S128x512 _ _ (ix2 R C) ?_) ?_
  · intro a; rw [show (o38 c).off = _ from off_ow21 c]; match a with
      | ⟨0, _⟩ => show (kc c).val * 128 + R.val = (kc c).val * 128 + R.val; omega
      | ⟨1, _⟩ => show 512 + C.val = 512 + C.val; omega
  refine Eq.trans (at_ot21 _ _ R C) ?_
  refine Eq.trans (b := at_ S2x2x128x512 (ac21 m c) (ix4 1 (xc c) R C) + at_ S2x128x512 (sc21 m (xn c)) (ix3 1 R C)) ?_ ?_
  · exact congrArg₂ (fun a b : EReal => a + b) (rd_at cc0_scratch14 (o37 c) (fun _ => rfl) _ (ix4 0 0 R C) _ (by
      intro a; rw [show (o37 c).off = _ from off_or21 c]; match a with
      | ⟨0, _⟩ => show 1 = 1 + 0; omega
      | ⟨1, _⟩ => show (xc c).val = (xc c).val + 0; omega
      | ⟨2, _⟩ => show R.val = 0 + R.val; omega
      | ⟨3, _⟩ => show C.val = 0 + C.val; omega)) (rd_at cc0_scratch20 (z1_S2x128x512) (fun _ => rfl) _ (ix3 0 R C) _ (by
      intro a; match a with
      | ⟨0, _⟩ => show 1 = 1 + 0; omega
      | ⟨1, _⟩ => show R.val = 0 + R.val; omega
      | ⟨2, _⟩ => show C.val = 0 + C.val; omega))
  · rw [sc21_at, ac21_at, ac21_at]
    rw [flip_xn, y_xn, yn_xn]
    simp only [rs2_at, k_xn, k_yn]
    exact sum_eight' (fun d => at_ S2x2x2x128x1024 (gv2 m d) (ix5 (xc c) (yc c) (kc c) R (hi (show 1024 = 512 + 512 from rfl) C))) c

/-- What a device has of its own core's rows, and both cores' rows. -/
theorem om2_at (c : Dev nD) (R : Fin 128) (C : Fin 1024) :
    at_ S256x1024 (om2 m c) (ix2 (row (show 256 = 128 + 128 from rfl) (kc c) R) C) = ∑ d : Fin 8, at_ S2x2x2x128x1024 (gv2 m d) (ix5 (xc c) (yc c) (kc c) R C) := by
  show (if C.val < 512 then _ else _) = _
  split
  · rename_i hC
    exact ot20_at m c R ⟨C.val, hC⟩
  · rename_i hC
    have e' : C = hi (show 1024 = 512 + 512 from rfl) ⟨C.val - 512, by omega⟩ := Fin.ext (show C.val = 512 + (C.val - 512) by omega)
    rw [e']
    exact ot21_at m c R _
theorem ov2_at (c : Dev nD) (k : Fin 2) (R : Fin 128) (C : Fin 1024) :
    at_ S256x1024 (ov2 m c) (ix2 (row (show 256 = 128 + 128 from rfl) k R) C) = ∑ d : Fin 8, at_ S2x2x2x128x1024 (gv2 m d) (ix5 (xc c) (yc c) (k) R C) := by
  have hq : (k.val * 128 + R.val) / 128 = k.val := by have := R.isLt; omega
  show (if (k.val * 128 + R.val) / 128 = c.val % 2 then _ else _) = _
  rw [hq]
  split
  · rename_i hk
    obtain rfl : k = kc c := Fin.ext hk
    exact om2_at m c R C
  · rename_i hk
    obtain rfl : k = kc (sib c) := by
      rw [k_sib]; apply Fin.ext; show k.val = 1 - c.val % 2; have := k.isLt; omega
    refine Eq.trans (om2_at m (sib c) R C) ?_
    rw [x_sib, y_sib]

/-! ## The small gradients -/

theorem at_s10 (v u : Vec Ideal S640x128 .f32) (i : S640x128.Idx) : k0_pay10 v u i = (v i + u i : EReal) := by
  unfold k0_pay10; simp only [shapeCast_self]; rfl
theorem at_s24 (v u : Vec Ideal S640x128 .f32) (i : S640x128.Idx) : k0_pay24 v u i = (v i + u i : EReal) := by
  unfold k0_pay24; simp only [shapeCast_self]; rfl
theorem at_s32 (v u : Vec Ideal S640x128 .f32) (i : S640x128.Idx) : k0_pay32 v u i = (v i + u i : EReal) := rfl

theorem at_start (i : S640x128.Idx) (a : Fin 2) : (i a).val = w_S640x128.off a + (i a).val := by
  match a with
  | ⟨0, _⟩ => exact (Nat.zero_add _).symm
  | ⟨1, _⟩ => exact (Nat.zero_add _).symm
theorem acs_at (c : Dev nD) (i : S640x128.Idx) :
    at_ S640x128 (acs m c) i = at_ S640x128 (smv m c) i + at_ S640x128 (smv m (sib c)) i := by
  refine Eq.trans (put_at w_S640x128 pos_S640x128 _ _ i (at_start i)) ?_
  refine Eq.trans (at_s10 _ _ i) ?_
  exact congrArg₂ (fun a b : EReal => a + b) (rd_at cc0_stg0_0 w_S640x128 (fun _ => rfl) _ i i (at_start i)) (rd_at cc0_scratch21 w_S640x128 (fun _ => rfl) _ i i (at_start i))
theorem sbt_at (c : Dev nD) (i : S640x128.Idx) :
    at_ S640x128 (sbt m c) i = at_ S640x128 (acs m c) i + at_ S640x128 (acs m (xn c)) i := by
  refine Eq.trans (put_at w_S640x128 pos_S640x128 _ _ i (at_start i)) ?_
  refine Eq.trans (at_s24 _ _ i) ?_
  exact congrArg₂ (fun a b : EReal => a + b) (rd_at cc0_scratch24 w_S640x128 (fun _ => rfl) _ i i (at_start i)) (rd_at cc0_scratch22 w_S640x128 (fun _ => rfl) _ i i (at_start i))
theorem osmv_at (c : Dev nD) (i : S640x128.Idx) :
    at_ S640x128 (osmv m c) i = at_ S640x128 (sbt m c) i + at_ S640x128 (sbt m (yn c)) i := by
  refine Eq.trans (put_at w_S640x128 pos_S640x128 _ _ i (at_start i)) ?_
  refine Eq.trans (at_s32 _ _ i) ?_
  exact congrArg₂ (fun a b : EReal => a + b) (rd_at cc0_scratch22 w_S640x128 (fun _ => rfl) _ i i (at_start i)) (rd_at cc0_scratch23 w_S640x128 (fun _ => rfl) _ i i (at_start i))

/-- The small gradients' sum over the eight devices. -/
theorem osmv_sum (c : Dev nD) (i : S640x128.Idx) : at_ S640x128 (osmv m c) i = ∑ d : Fin 8, at_ S640x128 (smv m d) i := by
  rw [osmv_at, sbt_at, sbt_at]
  simp only [acs_at]
  exact sum_eight (fun d => at_ S640x128 (smv m d) i) c

end Cert.ReduceProof

end
-- ==== Proof.Reduce.Value.lean ====
/-
  What the reduce-scatter leaves: on every device its chip's rows of the gradients' sums, and the whole sum of the small ones.
-/
module

public import proofs.«01_k».proof.Proof.Reduce.Launch
public import proofs.«01_k».proof.Proof.Reduce.Sums
public import proofs.«01_k».proof.Proof.Gen.ReduceIdeal.Points
public import proofs.«01_k».proof.Proof.Gen.ReduceRefIdeal
public import Idealize.ShloMosaic.Lib.Layout
public import Idealize.ShloMosaic.Lib.Pointwise

@[expose] public section

noncomputable section

namespace Cert.ReduceProof

open Cert.ReduceIdeal Cert.ReduceIdeal.Gen
open Idealize.ShloMosaic
open Idealize.ShloMosaic.TcCoe
open Idealize.SL.Sem

section AnyFloats
variable {F : FTy → Type} [FloatOps F]
variable (m : (ℓ : Loc nD τ sig) → Buf (Elt F) ℓ) (ρ : Dev nD → PrngReg)

/-! ## The arrays after the run -/

theorem final_0 (c : Dev nD) : finalA m ρ c (0 : Fin 5) = m ((c : Thread nD τ).loc main_arg3) := (dats m ρ 0 c).arrAt_in (0 : Fin 5) rfl _

omit [FloatOps F] in
theorem idx_facts : ∀ t : Fin cfg0.N,
    win0_0.index t (0 : Fin 2) = 0 ∧ win0_0.index t (1 : Fin 2) = 0 ∧ win0_1.index t (0 : Fin 2) = 0
    ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0
    ∧ win0_4.index t (1 : Fin 2) = 0 :=
  (by decide +kernel : ∀ t : Fin grid0.N, _)

/-- The one block of the small gradients is the whole of them. -/
theorem smv_eq (d : Dev nD) : smv m d = m ((d : Thread nD τ).loc main_arg3) := by
  obtain ⟨e0, e1, -⟩ := idx_facts (0 : Fin 1)
  funext i
  show m ((d : Thread nD τ).loc main_arg3) ((win0_0.blk (0 : Fin 1)).view.emb i) = _
  congr 1; funext a; apply Fin.ext
  match a with
  | ⟨0, _⟩ => show win0_0.index (0 : Fin 1) (0 : Fin 2) * 640 + 1 * ((i : S640x128.Idx) 0).val = ((i : S640x128.Idx) 0).val; omega
  | ⟨1, _⟩ => show win0_0.index (0 : Fin 1) (1 : Fin 2) * 128 + 1 * ((i : S640x128.Idx) 1).val = ((i : S640x128.Idx) 1).val; omega

/-! The one block of each result is the whole of it, so the array ends with what the body left in its buffer. -/

theorem final_1 (c : Dev nD) : finalA m ρ c (1 : Fin 5) = ov0 m c := by
  refine (dats m ρ 0 c).arrAt_eq_of_cover (1 : Fin 5) (ov0 m c) (fun t _ => ?_) fun i => ⟨(0 : Fin 1), flush0_1 _, ?_⟩
  · obtain ⟨-, -, e0, e1, -⟩ := idx_facts t
    funext i
    show ov0 m c i = ov0 m c ((win0_1.blk t).view.emb i)
    congr 1; funext a; apply Fin.ext
    match a with
    | ⟨0, _⟩ => show ((i : S832x1024.Idx) 0).val = win0_1.index t (0 : Fin 2) * 832 + 1 * ((i : S832x1024.Idx) 0).val; omega
    | ⟨1, _⟩ => show ((i : S832x1024.Idx) 1).val = win0_1.index t (1 : Fin 2) * 1024 + 1 * ((i : S832x1024.Idx) 1).val; omega
  · obtain ⟨-, -, e0, e1, -⟩ := idx_facts (0 : Fin 1)
    show i ∈ ((View.whole main_v1_0).slice (win0_1.rect (0 : Fin 1))).set
    rw [View.set_slice_whole, Rect.mem_set_unit]
    have h0 : ((i : S832x1024.Idx) 0).val < 832 := ((i : S832x1024.Idx) 0).isLt
    have h1 : ((i : S832x1024.Idx) 1).val < 1024 := ((i : S832x1024.Idx) 1).isLt
    intro a
    match a with
    | ⟨0, _⟩ => show win0_1.index (0 : Fin 1) (0 : Fin 2) * 832 ≤ ((i : S832x1024.Idx) 0).val ∧ ((i : S832x1024.Idx) 0).val < win0_1.index (0 : Fin 1) (0 : Fin 2) * 832 + 832; omega
    | ⟨1, _⟩ => show win0_1.index (0 : Fin 1) (1 : Fin 2) * 1024 ≤ ((i : S832x1024.Idx) 1).val ∧ ((i : S832x1024.Idx) 1).val < win0_1.index (0 : Fin 1) (1 : Fin 2) * 1024 + 1024; omega

theorem final_2 (c : Dev nD) : finalA m ρ c (2 : Fin 5) = ov1 m c := by
  refine (dats m ρ 0 c).arrAt_eq_of_cover (2 : Fin 5) (ov1 m c) (fun t _ => ?_) fun i => ⟨(0 : Fin 1), flush0_2 _, ?_⟩
  · obtain ⟨-, -, -, -, e0, e1, -⟩ := idx_facts t
    funext i
    show ov1 m c i = ov1 m c ((win0_2.blk t).view.emb i)
    congr 1; funext a; apply Fin.ext
    match a with
    | ⟨0, _⟩ => show ((i : S256x512.Idx) 0).val = win0_2.index t (0 : Fin 2) * 256 + 1 * ((i : S256x512.Idx) 0).val; omega
    | ⟨1, _⟩ => show ((i : S256x512.Idx) 1).val = win0_2.index t (1 : Fin 2) * 512 + 1 * ((i : S256x512.Idx) 1).val; omega
  · obtain ⟨-, -, -, -, e0, e1, -⟩ := idx_facts (0 : Fin 1)
    show i ∈ ((View.whole main_v1_1).slice (win0_2.rect (0 : Fin 1))).set
    rw [View.set_slice_whole, Rect.mem_set_unit]
    have h0 : ((i : S256x512.Idx) 0).val < 256 := ((i : S256x512.Idx) 0).isLt
    have h1 : ((i : S256x512.Idx) 1).val < 512 := ((i : S256x512.Idx) 1).isLt
    intro a
    match a with
    | ⟨0, _⟩ => show win0_2.index (0 : Fin 1) (0 : Fin 2) * 256 ≤ ((i : S256x512.Idx) 0).val ∧ ((i : S256x512.Idx) 0).val < win0_2.index (0 : Fin 1) (0 : Fin 2) * 256 + 256; omega
    | ⟨1, _⟩ => show win0_2.index (0 : Fin 1) (1 : Fin 2) * 512 ≤ ((i : S256x512.Idx) 1).val ∧ ((i : S256x512.Idx) 1).val < win0_2.index (0 : Fin 1) (1 : Fin 2) * 512 + 512; omega

theorem final_3 (c : Dev nD) : finalA m ρ c (3 : Fin 5) = ov2 m c := by
  refine (dats m ρ 0 c).arrAt_eq_of_cover (3 : Fin 5) (ov2 m c) (fun t _ => ?_) fun i => ⟨(0 : Fin 1), flush0_3 _, ?_⟩
  · obtain ⟨-, -, -, -, -, -, e0, e1, -⟩ := idx_facts t
    funext i
    show ov2 m c i = ov2 m c ((win0_3.blk t).view.emb i)
    congr 1; funext a; apply Fin.ext
    match a with
    | ⟨0, _⟩ => show ((i : S256x1024.Idx) 0).val = win0_3.index t (0 : Fin 2) * 256 + 1 * ((i : S256x1024.Idx) 0).val; omega
    | ⟨1, _⟩ => show ((i : S256x1024.Idx) 1).val = win0_3.index t (1 : Fin 2) * 1024 + 1 * ((i : S256x1024.Idx) 1).val; omega
  · obtain ⟨-, -, -, -, -, -, e0, e1, -⟩ := idx_facts (0 : Fin 1)
    show i ∈ ((View.whole main_v1_2).slice (win0_3.rect (0 : Fin 1))).set
    rw [View.set_slice_whole, Rect.mem_set_unit]
    have h0 : ((i : S256x1024.Idx) 0).val < 256 := ((i : S256x1024.Idx) 0).isLt
    have h1 : ((i : S256x1024.Idx) 1).val < 1024 := ((i : S256x1024.Idx) 1).isLt
    intro a
    match a with
    | ⟨0, _⟩ => show win0_3.index (0 : Fin 1) (0 : Fin 2) * 256 ≤ ((i : S256x1024.Idx) 0).val ∧ ((i : S256x1024.Idx) 0).val < win0_3.index (0 : Fin 1) (0 : Fin 2) * 256 + 256; omega
    | ⟨1, _⟩ => show win0_3.index (0 : Fin 1) (1 : Fin 2) * 1024 ≤ ((i : S256x1024.Idx) 1).val ∧ ((i : S256x1024.Idx) 1).val < win0_3.index (0 : Fin 1) (1 : Fin 2) * 1024 + 1024; omega

theorem final_4 (c : Dev nD) : finalA m ρ c (4 : Fin 5) = osmv m c := by
  refine (dats m ρ 0 c).arrAt_eq_of_cover (4 : Fin 5) (osmv m c) (fun t _ => ?_) fun i => ⟨(0 : Fin 1), flush0_4 _, ?_⟩
  · obtain ⟨-, -, -, -, -, -, -, -, e0, e1⟩ := idx_facts t
    funext i
    show osmv m c i = osmv m c ((win0_4.blk t).view.emb i)
    congr 1; funext a; apply Fin.ext
    match a with
    | ⟨0, _⟩ => show ((i : S640x128.Idx) 0).val = win0_4.index t (0 : Fin 2) * 640 + 1 * ((i : S640x128.Idx) 0).val; omega
    | ⟨1, _⟩ => show ((i : S640x128.Idx) 1).val = win0_4.index t (1 : Fin 2) * 128 + 1 * ((i : S640x128.Idx) 1).val; omega
  · obtain ⟨-, -, -, -, -, -, -, -, e0, e1⟩ := idx_facts (0 : Fin 1)
    show i ∈ ((View.whole main_v1_3).slice (win0_4.rect (0 : Fin 1))).set
    rw [View.set_slice_whole, Rect.mem_set_unit]
    have h0 : ((i : S640x128.Idx) 0).val < 640 := ((i : S640x128.Idx) 0).isLt
    have h1 : ((i : S640x128.Idx) 1).val < 128 := ((i : S640x128.Idx) 1).isLt
    intro a
    match a with
    | ⟨0, _⟩ => show win0_4.index (0 : Fin 1) (0 : Fin 2) * 640 ≤ ((i : S640x128.Idx) 0).val ∧ ((i : S640x128.Idx) 0).val < win0_4.index (0 : Fin 1) (0 : Fin 2) * 640 + 640; omega
    | ⟨1, _⟩ => show win0_4.index (0 : Fin 1) (1 : Fin 2) * 128 ≤ ((i : S640x128.Idx) 1).val ∧ ((i : S640x128.Idx) 1).val < win0_4.index (0 : Fin 1) (1 : Fin 2) * 128 + 128; omega

/-- The run, its result arrays at what the devices end with and its arguments unchanged. -/
theorem run_out (m : (ℓ : Loc nD τ sig) → Buf (Elt F) ℓ) (ρ : Dev nD → PrngReg) :
    θ_run defs (onTc (τ := τ) (main (F := F))) ⟨m, fun _ => 0, ρ⟩ (fun r => (∀ c : Dev nD,
      (r.2.mem ((c.tc : Thread nD τ).loc main_v1_0) = ov0 m c ∧ r.2.mem ((c.tc : Thread nD τ).loc main_v1_1) = ov1 m c
      ∧ r.2.mem ((c.tc : Thread nD τ).loc main_v1_2) = ov2 m c ∧ r.2.mem ((c.tc : Thread nD τ).loc main_v1_3) = osmv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨⟨((h.1 c).1 (1 : Fin 5)).trans (final_1 m ρ c), ((h.1 c).1 (2 : Fin 5)).trans (final_2 m ρ c),
    ((h.1 c).1 (3 : Fin 5)).trans (final_3 m ρ c), ((h.1 c).1 (4 : Fin 5)).trans (final_4 m ρ c)⟩,
    (h.1 c).2.1, (h.1 c).2.2.1, (h.1 c).2.2.2, ((h.1 c).1 (0 : Fin 5)).trans (final_0 m ρ c)⟩, h.2⟩)
    (run_main m ρ)

end AnyFloats

/-! ## Over the reals: the devices' sums are the reference's -/

variable (m : (ℓ : Loc nD τ sig) → Buf (Elt Ideal) ℓ)

/-- The host's sum of eight blocks along a leading axis, at an element. -/
theorem host_sum {a b : ℕ} (v : FVec Ideal ⟨3, ![8, a, b]⟩ .f32) (h : (⟨3, ![8, a, b]⟩ : Shape).ReducesTo [0] ⟨2, ![a, b]⟩)
    (hu : 0 < (⟨0, ![]⟩ : Shape).numel) (i : Fin a) (j : Fin b) :
    Host.reduceAdd v (constant (F := Ideal) ⟨0, ![]⟩ .f32 0x00000000#32) h hu (ix2 i j) = (∑ d : Fin 8, v (ix3 d i j) : EReal) := by
  pointwise

/-- The sum that the reference takes of gradient 0. -/
def tot0 (W : (⟨5, ![16, 2, 2, 416, 1024]⟩ : Shape).Idx → EReal) : (⟨2, ![3328, 1024]⟩ : Shape).Idx → EReal :=
  Host.reduceAdd (F := Ideal) (φ := .f32) (shapeCast ⟨3, ![8, 3328, 1024]⟩ W (by decide))
    (constant (F := Ideal) ⟨0, ![]⟩ .f32 0x00000000#32) (axes := [0]) (by decide) (by decide)

/-- Device `d`'s gradient 0, at its place in the eight devices' gradients. -/
theorem gv0_at (W : (⟨5, ![16, 2, 2, 416, 1024]⟩ : Shape).Idx → EReal) (d : Dev nD)
    (h : m ((d : Thread nD τ).loc main_arg0) = Layout.block ⟨5, ![2, 2, 2, 416, 1024]⟩ ⟨5, ![16, 2, 2, 416, 1024]⟩ 0 8 d W)
    (c : Dev nD) (k : Fin 2) (R : Fin 416) (C : Fin 1024) (i : Fin 3328) (hi : i.val = c.val / 2 * 832 + (k.val * 416 + R.val)) :
    at_ S2x2x2x416x1024 (gv0 m d) (ix5 (xc c) (yc c) k R C) = shapeCast ⟨3, ![8, 3328, 1024]⟩ W (by decide) (ix3 d i C) := by
  unfold gv0
  rw [h]
  symm
  refine Idealize.ShloMosaic.shapeCast_apply _ _ _ _ ?_
  rw [Shape.rowMajor_val_five, Shape.rowMajor_val_three]
  show ((((d.val * 2 + c.val / 4) * 2 + c.val / 2 % 2) * 2 + k.val) * 416 + R.val) * 1024 + C.val = (d.val * 3328 + i.val) * 1024 + C.val
  rw [hi]; omega

/-- Device `c` ends with its chip's rows of the sum. -/
theorem out0 (W : (⟨5, ![16, 2, 2, 416, 1024]⟩ : Shape).Idx → EReal)
    (h : ∀ d : Dev nD, m ((d : Thread nD τ).loc main_arg0) = Layout.block ⟨5, ![2, 2, 2, 416, 1024]⟩ ⟨5, ![16, 2, 2, 416, 1024]⟩ 0 8 d W)
    (c : Dev nD) : ov0 m c = Layout.blockN ⟨2, ![832, 1024]⟩ ⟨2, ![3328, 1024]⟩ (Layout.meshBlock [2, 2, 2] ![[0, 1], []] c) (tot0 W) := by
  funext i
  have h0 : ((i : S832x1024.Idx) 0).val < 832 := ((i : S832x1024.Idx) 0).isLt
  have h1 : ((i : S832x1024.Idx) 1).val < 1024 := ((i : S832x1024.Idx) 1).isLt
  have hc : c.val < 8 := c.isLt
  obtain ⟨k, R, C, rfl⟩ : ∃ (k : Fin 2) (R : Fin 416) (C : Fin 1024), i = ix2 (row (show 832 = 416 + 416 from rfl) k R) C := by
    refine ⟨⟨((i : S832x1024.Idx) 0).val / 416, by omega⟩, ⟨((i : S832x1024.Idx) 0).val % 416, by omega⟩, ⟨((i : S832x1024.Idx) 1).val, h1⟩, ?_⟩
    funext b; apply Fin.ext
    match b with
    | ⟨0, _⟩ => show ((i : S832x1024.Idx) 0).val = ((i : S832x1024.Idx) 0).val / 416 * 416 + ((i : S832x1024.Idx) 0).val % 416; omega
    | ⟨1, _⟩ => rfl
  have hk := k.isLt
  have hR := R.isLt
  refine Eq.trans (ov0_at m c k R C) ?_
  let j : Fin 3328 := ⟨c.val / 2 * 832 + (k.val * 416 + R.val), by omega⟩
  refine Eq.trans (b := tot0 W (ix2 j C)) ?_ ?_
  · refine Eq.trans ?_ (host_sum _ _ _ j C).symm
    exact Finset.sum_congr rfl fun d _ => gv0_at m W d (h d) c k R C j rfl
  · show tot0 W _ = tot0 W (Layout.TilesN.idx (S := ⟨2, ![832, 1024]⟩) (T := ⟨2, ![3328, 1024]⟩) (by decide) (Layout.meshBlock [2, 2, 2] ![[0, 1], []] c) _)
    congr 1
    funext b; apply Fin.ext
    rw [Layout.TilesN.idx_val]
    match b with
    | ⟨0, _⟩ =>
      show c.val / 2 * 832 + (k.val * 416 + R.val) = Layout.meshLin [2, 2, 2] c.val [0, 1] * 832 + (k.val * 416 + R.val)
      have e : Layout.meshLin [2, 2, 2] c.val [0, 1] = c.val / 2 := by
        show (c.val / 4) % 2 * 2 + ((c.val / 2) % 2 * 1 + 0) = c.val / 2
        omega
      rw [e]
    | ⟨1, _⟩ => show C.val = 0 * 1024 + C.val; omega

/-- The sum that the reference takes of gradient 1. -/
def tot1 (W : (⟨5, ![16, 2, 2, 128, 512]⟩ : Shape).Idx → EReal) : (⟨2, ![1024, 512]⟩ : Shape).Idx → EReal :=
  Host.reduceAdd (F := Ideal) (φ := .f32) (shapeCast ⟨3, ![8, 1024, 512]⟩ W (by decide))
    (constant (F := Ideal) ⟨0, ![]⟩ .f32 0x00000000#32) (axes := [0]) (by decide) (by decide)

/-- Device `d`'s gradient 1, at its place in the eight devices' gradients. -/
theorem gv1_at (W : (⟨5, ![16, 2, 2, 128, 512]⟩ : Shape).Idx → EReal) (d : Dev nD)
    (h : m ((d : Thread nD τ).loc main_arg1) = Layout.block ⟨5, ![2, 2, 2, 128, 512]⟩ ⟨5, ![16, 2, 2, 128, 512]⟩ 0 8 d W)
    (c : Dev nD) (k : Fin 2) (R : Fin 128) (C : Fin 512) (i : Fin 1024) (hi : i.val = c.val / 2 * 256 + (k.val * 128 + R.val)) :
    at_ S2x2x2x128x512 (gv1 m d) (ix5 (xc c) (yc c) k R C) = shapeCast ⟨3, ![8, 1024, 512]⟩ W (by decide) (ix3 d i C) := by
  unfold gv1
  rw [h]
  symm
  refine Idealize.ShloMosaic.shapeCast_apply _ _ _ _ ?_
  rw [Shape.rowMajor_val_five, Shape.rowMajor_val_three]
  show ((((d.val * 2 + c.val / 4) * 2 + c.val / 2 % 2) * 2 + k.val) * 128 + R.val) * 512 + C.val = (d.val * 1024 + i.val) * 512 + C.val
  rw [hi]; omega

/-- Device `c` ends with its chip's rows of the sum. -/
theorem out1 (W : (⟨5, ![16, 2, 2, 128, 512]⟩ : Shape).Idx → EReal)
    (h : ∀ d : Dev nD, m ((d : Thread nD τ).loc main_arg1) = Layout.block ⟨5, ![2, 2, 2, 128, 512]⟩ ⟨5, ![16, 2, 2, 128, 512]⟩ 0 8 d W)
    (c : Dev nD) : ov1 m c = Layout.blockN ⟨2, ![256, 512]⟩ ⟨2, ![1024, 512]⟩ (Layout.meshBlock [2, 2, 2] ![[0, 1], []] c) (tot1 W) := by
  funext i
  have h0 : ((i : S256x512.Idx) 0).val < 256 := ((i : S256x512.Idx) 0).isLt
  have h1 : ((i : S256x512.Idx) 1).val < 512 := ((i : S256x512.Idx) 1).isLt
  have hc : c.val < 8 := c.isLt
  obtain ⟨k, R, C, rfl⟩ : ∃ (k : Fin 2) (R : Fin 128) (C : Fin 512), i = ix2 (row (show 256 = 128 + 128 from rfl) k R) C := by
    refine ⟨⟨((i : S256x512.Idx) 0).val / 128, by omega⟩, ⟨((i : S256x512.Idx) 0).val % 128, by omega⟩, ⟨((i : S256x512.Idx) 1).val, h1⟩, ?_⟩
    funext b; apply Fin.ext
    match b with
    | ⟨0, _⟩ => show ((i : S256x512.Idx) 0).val = ((i : S256x512.Idx) 0).val / 128 * 128 + ((i : S256x512.Idx) 0).val % 128; omega
    | ⟨1, _⟩ => rfl
  have hk := k.isLt
  have hR := R.isLt
  refine Eq.trans (ov1_at m c k R C) ?_
  let j : Fin 1024 := ⟨c.val / 2 * 256 + (k.val * 128 + R.val), by omega⟩
  refine Eq.trans (b := tot1 W (ix2 j C)) ?_ ?_
  · refine Eq.trans ?_ (host_sum _ _ _ j C).symm
    exact Finset.sum_congr rfl fun d _ => gv1_at m W d (h d) c k R C j rfl
  · show tot1 W _ = tot1 W (Layout.TilesN.idx (S := ⟨2, ![256, 512]⟩) (T := ⟨2, ![1024, 512]⟩) (by decide) (Layout.meshBlock [2, 2, 2] ![[0, 1], []] c) _)
    congr 1
    funext b; apply Fin.ext
    rw [Layout.TilesN.idx_val]
    match b with
    | ⟨0, _⟩ =>
      show c.val / 2 * 256 + (k.val * 128 + R.val) = Layout.meshLin [2, 2, 2] c.val [0, 1] * 256 + (k.val * 128 + R.val)
      have e : Layout.meshLin [2, 2, 2] c.val [0, 1] = c.val / 2 := by
        show (c.val / 4) % 2 * 2 + ((c.val / 2) % 2 * 1 + 0) = c.val / 2
        omega
      rw [e]
    | ⟨1, _⟩ => show C.val = 0 * 512 + C.val; omega

/-- The sum that the reference takes of gradient 2. -/
def tot2 (W : (⟨5, ![16, 2, 2, 128, 1024]⟩ : Shape).Idx → EReal) : (⟨2, ![1024, 1024]⟩ : Shape).Idx → EReal :=
  Host.reduceAdd (F := Ideal) (φ := .f32) (shapeCast ⟨3, ![8, 1024, 1024]⟩ W (by decide))
    (constant (F := Ideal) ⟨0, ![]⟩ .f32 0x00000000#32) (axes := [0]) (by decide) (by decide)

/-- Device `d`'s gradient 2, at its place in the eight devices' gradients. -/
theorem gv2_at (W : (⟨5, ![16, 2, 2, 128, 1024]⟩ : Shape).Idx → EReal) (d : Dev nD)
    (h : m ((d : Thread nD τ).loc main_arg2) = Layout.block ⟨5, ![2, 2, 2, 128, 1024]⟩ ⟨5, ![16, 2, 2, 128, 1024]⟩ 0 8 d W)
    (c : Dev nD) (k : Fin 2) (R : Fin 128) (C : Fin 1024) (i : Fin 1024) (hi : i.val = c.val / 2 * 256 + (k.val * 128 + R.val)) :
    at_ S2x2x2x128x1024 (gv2 m d) (ix5 (xc c) (yc c) k R C) = shapeCast ⟨3, ![8, 1024, 1024]⟩ W (by decide) (ix3 d i C) := by
  unfold gv2
  rw [h]
  symm
  refine Idealize.ShloMosaic.shapeCast_apply _ _ _ _ ?_
  rw [Shape.rowMajor_val_five, Shape.rowMajor_val_three]
  show ((((d.val * 2 + c.val / 4) * 2 + c.val / 2 % 2) * 2 + k.val) * 128 + R.val) * 1024 + C.val = (d.val * 1024 + i.val) * 1024 + C.val
  rw [hi]; omega

/-- Device `c` ends with its chip's rows of the sum. -/
theorem out2 (W : (⟨5, ![16, 2, 2, 128, 1024]⟩ : Shape).Idx → EReal)
    (h : ∀ d : Dev nD, m ((d : Thread nD τ).loc main_arg2) = Layout.block ⟨5, ![2, 2, 2, 128, 1024]⟩ ⟨5, ![16, 2, 2, 128, 1024]⟩ 0 8 d W)
    (c : Dev nD) : ov2 m c = Layout.blockN ⟨2, ![256, 1024]⟩ ⟨2, ![1024, 1024]⟩ (Layout.meshBlock [2, 2, 2] ![[0, 1], []] c) (tot2 W) := by
  funext i
  have h0 : ((i : S256x1024.Idx) 0).val < 256 := ((i : S256x1024.Idx) 0).isLt
  have h1 : ((i : S256x1024.Idx) 1).val < 1024 := ((i : S256x1024.Idx) 1).isLt
  have hc : c.val < 8 := c.isLt
  obtain ⟨k, R, C, rfl⟩ : ∃ (k : Fin 2) (R : Fin 128) (C : Fin 1024), i = ix2 (row (show 256 = 128 + 128 from rfl) k R) C := by
    refine ⟨⟨((i : S256x1024.Idx) 0).val / 128, by omega⟩, ⟨((i : S256x1024.Idx) 0).val % 128, by omega⟩, ⟨((i : S256x1024.Idx) 1).val, h1⟩, ?_⟩
    funext b; apply Fin.ext
    match b with
    | ⟨0, _⟩ => show ((i : S256x1024.Idx) 0).val = ((i : S256x1024.Idx) 0).val / 128 * 128 + ((i : S256x1024.Idx) 0).val % 128; omega
    | ⟨1, _⟩ => rfl
  have hk := k.isLt
  have hR := R.isLt
  refine Eq.trans (ov2_at m c k R C) ?_
  let j : Fin 1024 := ⟨c.val / 2 * 256 + (k.val * 128 + R.val), by omega⟩
  refine Eq.trans (b := tot2 W (ix2 j C)) ?_ ?_
  · refine Eq.trans ?_ (host_sum _ _ _ j C).symm
    exact Finset.sum_congr rfl fun d _ => gv2_at m W d (h d) c k R C j rfl
  · show tot2 W _ = tot2 W (Layout.TilesN.idx (S := ⟨2, ![256, 1024]⟩) (T := ⟨2, ![1024, 1024]⟩) (by decide) (Layout.meshBlock [2, 2, 2] ![[0, 1], []] c) _)
    congr 1
    funext b; apply Fin.ext
    rw [Layout.TilesN.idx_val]
    match b with
    | ⟨0, _⟩ =>
      show c.val / 2 * 256 + (k.val * 128 + R.val) = Layout.meshLin [2, 2, 2] c.val [0, 1] * 256 + (k.val * 128 + R.val)
      have e : Layout.meshLin [2, 2, 2] c.val [0, 1] = c.val / 2 := by
        show (c.val / 4) % 2 * 2 + ((c.val / 2) % 2 * 1 + 0) = c.val / 2
        omega
      rw [e]
    | ⟨1, _⟩ => show C.val = 0 * 1024 + C.val; omega

/-- The sum that the reference takes of the small gradients. -/
def tot3 (W : (⟨2, ![5120, 128]⟩ : Shape).Idx → EReal) : (⟨2, ![640, 128]⟩ : Shape).Idx → EReal :=
  Host.reduceAdd (F := Ideal) (φ := .f32) (shapeCast ⟨3, ![8, 640, 128]⟩ W (by decide))
    (constant (F := Ideal) ⟨0, ![]⟩ .f32 0x00000000#32) (axes := [0]) (by decide) (by decide)

/-- Every device ends with the sum of the small gradients. -/
theorem out3 (W : (⟨2, ![5120, 128]⟩ : Shape).Idx → EReal)
    (h : ∀ d : Dev nD, m ((d : Thread nD τ).loc main_arg3) = Layout.block ⟨2, ![640, 128]⟩ ⟨2, ![5120, 128]⟩ 0 8 d W)
    (c : Dev nD) : osmv m c = tot3 W := by
  funext i
  obtain ⟨R, C, rfl⟩ : ∃ (R : Fin 640) (C : Fin 128), i = ix2 R C := ⟨i 0, i 1, eq_ix2 i⟩
  have e : ∀ d : Dev nD, at_ S640x128 (smv m d) (ix2 R C) = shapeCast ⟨3, ![8, 640, 128]⟩ W (by decide) (ix3 d R C) := by
    intro d
    rw [smv_eq, h d]
    symm
    refine Idealize.ShloMosaic.shapeCast_apply _ _ _ _ ?_
    rw [Shape.rowMajor_val_two, Shape.rowMajor_val_three]
    rfl
  have e' : at_ S640x128 (osmv m c) (ix2 R C) = tot3 W (ix2 R C) := by
    rw [osmv_sum]
    exact (Finset.sum_congr rfl fun d _ => e d).trans (host_sum _ _ _ R C).symm
  exact e'

end Cert.ReduceProof

end
-- ==== Proof.Reduce.Claims.lean ====
/-
  What is claimed of the reduce-scatter: its frames, and that every device is left with its chip's rows of the sums that
  the reference takes, over the reals.
-/
module

public import proofs.«01_k».proof.Defs
public import proofs.«01_k».proof.Proof.Reduce.Value
public import proofs.«01_k».proof.Proof.Gen.Reduce
public import proofs.«01_k».proof.Proof.Gen.ReduceRefIdeal.Run
public import Idealize.ShloMosaic.Lib.Quiescent

@[expose] public section

noncomputable section

namespace Cert.Proof

open Idealize.ShloMosaic Idealize.SL.Sem

set_option maxRecDepth 100000 in
/-- The two printings of the kernel's body are one program. -/
theorem reduce_body_eq {F : FTy → Type} [FloatOps F] : Cert.Reduce.defs₀ (F := F) = Cert.ReduceIdeal.defs₀ (F := F) := by
  unfold Cert.Reduce.defs₀ Cert.ReduceIdeal.defs₀
  refine congrArg Defs.onTc ?_
  funext l x
  match l, x with
  | ⟨0, _⟩, (t, s) => rfl
  | ⟨_ + 1, h⟩, _ => exact absurd h (Nat.not_lt.2 (Nat.le_add_left _ _))

set_option maxRecDepth 100000 in
theorem reduce_defs_eq {F : FTy → Type} [FloatOps F] : Cert.Reduce.defs (F := F) = Cert.ReduceIdeal.defs (F := F) := by
  unfold Cert.Reduce.defs Cert.ReduceIdeal.defs
  rw [reduce_body_eq]; rfl

theorem frame_reduce : Cert.quiescent_Reduce := fun m ρ _ => by
  rw [show Cert.Reduce.defs (F := Bits) = Cert.ReduceIdeal.defs (F := Bits) from reduce_defs_eq]
  exact (θ_run Cert.ReduceIdeal.defs _ _).mono (fun _ h => ⟨fun c => (h.1 c).2, h.2⟩) (Cert.ReduceProof.run_out (F := Bits) m ρ)

theorem frame_reduceIdeal : Cert.quiescent_ReduceIdeal := fun m ρ _ =>
  (θ_run Cert.ReduceIdeal.defs _ _).mono (fun _ h => ⟨fun c => (h.1 c).2, h.2⟩) (Cert.ReduceProof.run_out (F := Ideal) m ρ)

/-- The reference of `Reduce` is host code and has no semaphores. -/
theorem frame_reduceRefIdeal : Cert.quiescent_ReduceRefIdeal := fun m ρ _ =>
  (θ_run _ _ _).mono (fun r h => ⟨fun c => (h c).2.2.2.2, sem_eq_zero_of_no_sems rfl r.2⟩) (Cert.ReduceRefIdeal.Value.run m ρ)

theorem algebraic_reduce : Cert.algebraic_ReduceIdeal_ReduceRefIdeal := by
  intro m g m' g' _ hm
  refine ⟨_, _, _, _, ?_, (θ_run _ _ _).mono (fun _ h => h 0) (Cert.ReduceRefIdeal.Value.run m' g')⟩
  exact (θ_run _ _ _).mono (fun _ h c =>
    ⟨(h.1 c).1.1.trans (Cert.ReduceProof.out0 m _ (fun d => (hm d).1) c),
     (h.1 c).1.2.1.trans (Cert.ReduceProof.out1 m _ (fun d => (hm d).2.1) c),
     (h.1 c).1.2.2.1.trans (Cert.ReduceProof.out2 m _ (fun d => (hm d).2.2.1) c),
     (h.1 c).1.2.2.2.trans (Cert.ReduceProof.out3 m _ (fun d => (hm d).2.2.2) c), (h.1 c).2⟩) (Cert.ReduceProof.run_out (F := Ideal) m g)

end Cert.Proof

end
-- ==== Proof.lean ====
/-
  The certificate: every program runs to a quiet end with its arguments unchanged, and the reduce-scatter of the
  gradients leaves what its plain reference leaves.
-/
module

public import proofs.«01_k».proof.Defs
public import proofs.«01_k».proof.Proof.Gen.Reduce
public import proofs.«01_k».proof.Proof.Gen.Reduce.Skeleton
public import proofs.«01_k».proof.Proof.Gen.Reduce.Launch
public import proofs.«01_k».proof.Proof.Gen.Reduce.Points
public import proofs.«01_k».proof.Proof.Gen.Reduce.Frame
public import proofs.«01_k».proof.Proof.Gen.ReduceIdeal
public import proofs.«01_k».proof.Proof.Gen.ReduceIdeal.Skeleton
public import proofs.«01_k».proof.Proof.Gen.ReduceIdeal.Launch
public import proofs.«01_k».proof.Proof.Gen.ReduceIdeal.Points
public import proofs.«01_k».proof.Proof.Gen.ReduceIdeal.Frame
public import proofs.«01_k».proof.Proof.Gen.ReduceRefIdeal
public import proofs.«01_k».proof.Proof.Gen.ReduceRefIdeal.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRef
public import proofs.«01_k».proof.Proof.Gen.GatherRef.Run
public import proofs.«01_k».proof.Proof.Gen.GatherRefIdeal
public import proofs.«01_k».proof.Proof.Gen.GatherRefIdeal.Run
public import proofs.«01_k».proof.Proof.Gen.FwdProj.Frame
public import proofs.«01_k».proof.Proof.Gen.FwdProjIdeal.Value
public import proofs.«01_k».proof.Proof.Gen.FwdProjRefIdeal.Run
public import proofs.«01_k».proof.Proof.Gen.MemKv.Frame
public import proofs.«01_k».proof.Proof.Gen.MemKvIdeal.Value
public import proofs.«01_k».proof.Proof.Gen.MemKvRefIdeal.Run
public import proofs.«01_k».proof.Proof.Gen.ProjBwd.Frame
public import proofs.«01_k».proof.Proof.Gen.ProjBwdIdeal.Value
public import proofs.«01_k».proof.Proof.Gen.ProjBwdRefIdeal.Run
public import proofs.«01_k».proof.Proof.Gen.AdamwIn.Frame
public import proofs.«01_k».proof.Proof.Gen.AdamwInIdeal.Value
public import proofs.«01_k».proof.Proof.Gen.AdamwInRefIdeal.Run
public import proofs.«01_k».proof.Proof.Gen.AdamwKv.Frame
public import proofs.«01_k».proof.Proof.Gen.AdamwKvIdeal.Value
public import proofs.«01_k».proof.Proof.Gen.AdamwKvRefIdeal.Run
public import proofs.«01_k».proof.Proof.Gen.AdamwOut.Frame
public import proofs.«01_k».proof.Proof.Gen.AdamwOutIdeal.Value
public import proofs.«01_k».proof.Proof.Gen.AdamwOutRefIdeal.Run
public import proofs.«01_k».proof.Proof.Gen.AdamwSmall.Frame
public import proofs.«01_k».proof.Proof.Gen.AdamwSmallIdeal.Value
public import proofs.«01_k».proof.Proof.Gen.AdamwSmallRefIdeal.Run
public import proofs.«01_k».proof.Proof.FwdProj
public import proofs.«01_k».proof.Proof.MemKv
public import proofs.«01_k».proof.Proof.ProjBwd
public import proofs.«01_k».proof.Proof.Adamw
public import proofs.«01_k».proof.Proof.Gather.Claims
public import proofs.«01_k».proof.Proof.Reduce.Claims
public import Idealize.ShloMosaic.Lib.Quiescent

@[expose] public section

noncomputable section

namespace Cert.Proof

open Idealize.ShloMosaic Idealize.SL.Sem

/-- The reference of `FwdProj` is host code and has no semaphores. -/
theorem frame_fwdProjRef : Cert.quiescent_FwdProjRefIdeal := fun m ρ _ =>
  (θ_run _ _ _).mono (fun r h => ⟨fun c => (h c).2, sem_eq_zero_of_no_sems rfl r.2⟩) (Cert.FwdProjRefIdeal.Value.run m ρ)

/-- The reference of `MemKv` is host code and has no semaphores. -/
theorem frame_memKvRef : Cert.quiescent_MemKvRefIdeal := fun m ρ _ =>
  (θ_run _ _ _).mono (fun r h => ⟨fun c => (h c).2.2, sem_eq_zero_of_no_sems rfl r.2⟩) (Cert.MemKvRefIdeal.Value.run m ρ)

/-- The reference of `ProjBwd` is host code and has no semaphores. -/
theorem frame_projBwdRef : Cert.quiescent_ProjBwdRefIdeal := fun m ρ _ =>
  (θ_run _ _ _).mono (fun r h => ⟨fun c => (h c).2.2.2, sem_eq_zero_of_no_sems rfl r.2⟩) (Cert.ProjBwdRefIdeal.Value.run m ρ)

/-- The reference of `AdamwIn` is host code and has no semaphores. -/
theorem frame_adamwInRef : Cert.quiescent_AdamwInRefIdeal := fun m ρ _ =>
  (θ_run _ _ _).mono (fun r h => ⟨fun c => (h c).2.2.2, sem_eq_zero_of_no_sems rfl r.2⟩) (Cert.AdamwInRefIdeal.Value.run m ρ)

/-- The reference of `AdamwKv` is host code and has no semaphores. -/
theorem frame_adamwKvRef : Cert.quiescent_AdamwKvRefIdeal := fun m ρ _ =>
  (θ_run _ _ _).mono (fun r h => ⟨fun c => (h c).2.2.2, sem_eq_zero_of_no_sems rfl r.2⟩) (Cert.AdamwKvRefIdeal.Value.run m ρ)

/-- The reference of `AdamwOut` is host code and has no semaphores. -/
theorem frame_adamwOutRef : Cert.quiescent_AdamwOutRefIdeal := fun m ρ _ =>
  (θ_run _ _ _).mono (fun r h => ⟨fun c => (h c).2.2.2, sem_eq_zero_of_no_sems rfl r.2⟩) (Cert.AdamwOutRefIdeal.Value.run m ρ)

/-- The reference of `AdamwSmall` is host code and has no semaphores. -/
theorem frame_adamwSmallRef : Cert.quiescent_AdamwSmallRefIdeal := fun m ρ _ =>
  (θ_run _ _ _).mono (fun r h => ⟨fun c => (h c).2.2.2, sem_eq_zero_of_no_sems rfl r.2⟩) (Cert.AdamwSmallRefIdeal.Value.run m ρ)

theorem claim : Cert.Claim := ⟨Cert.Reduce.Gen.facts, Cert.ReduceIdeal.Gen.facts, Cert.ReduceRefIdeal.Gen.facts, Cert.Gather.Gen.facts, Cert.GatherIdeal.Gen.facts, Cert.GatherRefIdeal.Gen.facts, Cert.GatherRef.Gen.facts, Cert.FwdProj.Gen.facts, Cert.FwdProjIdeal.Gen.facts, Cert.FwdProjRefIdeal.Gen.facts, Cert.MemKv.Gen.facts, Cert.MemKvIdeal.Gen.facts, Cert.MemKvRefIdeal.Gen.facts, Cert.ProjBwd.Gen.facts, Cert.ProjBwdIdeal.Gen.facts, Cert.ProjBwdRefIdeal.Gen.facts, Cert.AdamwIn.Gen.facts, Cert.AdamwInIdeal.Gen.facts, Cert.AdamwInRefIdeal.Gen.facts, Cert.AdamwKv.Gen.facts, Cert.AdamwKvIdeal.Gen.facts, Cert.AdamwKvRefIdeal.Gen.facts, Cert.AdamwOut.Gen.facts, Cert.AdamwOutIdeal.Gen.facts, Cert.AdamwOutRefIdeal.Gen.facts, Cert.AdamwSmall.Gen.facts, Cert.AdamwSmallIdeal.Gen.facts, Cert.AdamwSmallRefIdeal.Gen.facts,
  frame_reduce, frame_reduceIdeal, frame_reduceRefIdeal,
  frame_gather, frame_gatherIdeal, frame_gatherRefIdeal, frame_gatherRef,
  fun m ρ _ => Cert.FwdProj.Gen.frame m ρ, fun m ρ _ => Cert.FwdProjIdeal.Gen.frame m ρ, frame_fwdProjRef,
  fun m ρ _ => Cert.MemKv.Gen.frame m ρ, fun m ρ _ => Cert.MemKvIdeal.Gen.frame m ρ, frame_memKvRef,
  fun m ρ _ => Cert.ProjBwd.Gen.frame m ρ, fun m ρ _ => Cert.ProjBwdIdeal.Gen.frame m ρ, frame_projBwdRef,
  fun m ρ _ => Cert.AdamwIn.Gen.frame m ρ, fun m ρ _ => Cert.AdamwInIdeal.Gen.frame m ρ, frame_adamwInRef,
  fun m ρ _ => Cert.AdamwKv.Gen.frame m ρ, fun m ρ _ => Cert.AdamwKvIdeal.Gen.frame m ρ, frame_adamwKvRef,
  fun m ρ _ => Cert.AdamwOut.Gen.frame m ρ, fun m ρ _ => Cert.AdamwOutIdeal.Gen.frame m ρ, frame_adamwOutRef,
  fun m ρ _ => Cert.AdamwSmall.Gen.frame m ρ, fun m ρ _ => Cert.AdamwSmallIdeal.Gen.frame m ρ, frame_adamwSmallRef,
  trivial, algebraic_reduce,
  trivial, algebraic_gather, bitexact_gather,
  trivial, algebraic_fwdProj,
  trivial, algebraic_memKv,
  trivial, algebraic_projBwd,
  trivial, algebraic_adamwIn,
  trivial, algebraic_adamwKv,
  trivial, algebraic_adamwOut,
  trivial, algebraic_adamwSmall⟩

end Cert.Proof
end
